-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_OdInDx (m : (ℓ : Loc Cert.OdInDx.nD Cert.OdInDx.τ Cert.OdInDx.sig) → Buf (Elt Bits) ℓ) : Prop :=
  True

def Pre_OdInDxIdeal (m : (ℓ : Loc Cert.OdInDxIdeal.nD Cert.OdInDxIdeal.τ Cert.OdInDxIdeal.sig) → Buf (Elt Ideal) ℓ) : Prop :=
  True

def Pre_OdInDxRefIdeal (m : (ℓ : Loc Cert.OdInDxRefIdeal.nD Cert.OdInDxRefIdeal.τ Cert.OdInDxRefIdeal.sig) → Buf (Elt Ideal) ℓ) : Prop :=
  True

def Pre_OdInDw (m : (ℓ : Loc Cert.OdInDw.nD Cert.OdInDw.τ Cert.OdInDw.sig) → Buf (Elt Bits) ℓ) : Prop :=
  True

def Pre_OdInDwIdeal (m : (ℓ : Loc Cert.OdInDwIdeal.nD Cert.OdInDwIdeal.τ Cert.OdInDwIdeal.sig) → Buf (Elt Ideal) ℓ) : Prop :=
  True

def Pre_OdInDwRefIdeal (m : (ℓ : Loc Cert.OdInDwRefIdeal.nD Cert.OdInDwRefIdeal.τ Cert.OdInDwRefIdeal.sig) → Buf (Elt Ideal) ℓ) : Prop :=
  True

def Pre_EvInDx (m : (ℓ : Loc Cert.EvInDx.nD Cert.EvInDx.τ Cert.EvInDx.sig) → Buf (Elt Bits) ℓ) : Prop :=
  True

def Pre_EvInDxIdeal (m : (ℓ : Loc Cert.EvInDxIdeal.nD Cert.EvInDxIdeal.τ Cert.EvInDxIdeal.sig) → Buf (Elt Ideal) ℓ) : Prop :=
  True

def Pre_EvInDxRefIdeal (m : (ℓ : Loc Cert.EvInDxRefIdeal.nD Cert.EvInDxRefIdeal.τ Cert.EvInDxRefIdeal.sig) → Buf (Elt Ideal) ℓ) : Prop :=
  True

def Pre_EvInDw (m : (ℓ : Loc Cert.EvInDw.nD Cert.EvInDw.τ Cert.EvInDw.sig) → Buf (Elt Bits) ℓ) : Prop :=
  True

def Pre_EvInDwIdeal (m : (ℓ : Loc Cert.EvInDwIdeal.nD Cert.EvInDwIdeal.τ Cert.EvInDwIdeal.sig) → Buf (Elt Ideal) ℓ) : Prop :=
  True

def Pre_EvInDwRefIdeal (m : (ℓ : Loc Cert.EvInDwRefIdeal.nD Cert.EvInDwRefIdeal.τ Cert.EvInDwRefIdeal.sig) → Buf (Elt Ideal) ℓ) : Prop :=
  True

def Pre_EvOutDx (m : (ℓ : Loc Cert.EvOutDx.nD Cert.EvOutDx.τ Cert.EvOutDx.sig) → Buf (Elt Bits) ℓ) : Prop :=
  True

def Pre_EvOutDxIdeal (m : (ℓ : Loc Cert.EvOutDxIdeal.nD Cert.EvOutDxIdeal.τ Cert.EvOutDxIdeal.sig) → Buf (Elt Ideal) ℓ) : Prop :=
  True

def Pre_EvOutDxRefIdeal (m : (ℓ : Loc Cert.EvOutDxRefIdeal.nD Cert.EvOutDxRefIdeal.τ Cert.EvOutDxRefIdeal.sig) → Buf (Elt Ideal) ℓ) : Prop :=
  True

def Pre_EvOutDw (m : (ℓ : Loc Cert.EvOutDw.nD Cert.EvOutDw.τ Cert.EvOutDw.sig) → Buf (Elt Bits) ℓ) : Prop :=
  True

def Pre_EvOutDwIdeal (m : (ℓ : Loc Cert.EvOutDwIdeal.nD Cert.EvOutDwIdeal.τ Cert.EvOutDwIdeal.sig) → Buf (Elt Ideal) ℓ) : Prop :=
  True

def Pre_EvOutDwRefIdeal (m : (ℓ : Loc Cert.EvOutDwRefIdeal.nD Cert.EvOutDwRefIdeal.τ Cert.EvOutDwRefIdeal.sig) → Buf (Elt Ideal) ℓ) : Prop :=
  True

def Pre_OdOutDx (m : (ℓ : Loc Cert.OdOutDx.nD Cert.OdOutDx.τ Cert.OdOutDx.sig) → Buf (Elt Bits) ℓ) : Prop :=
  True

def Pre_OdOutDxIdeal (m : (ℓ : Loc Cert.OdOutDxIdeal.nD Cert.OdOutDxIdeal.τ Cert.OdOutDxIdeal.sig) → Buf (Elt Ideal) ℓ) : Prop :=
  True

def Pre_OdOutDxRefIdeal (m : (ℓ : Loc Cert.OdOutDxRefIdeal.nD Cert.OdOutDxRefIdeal.τ Cert.OdOutDxRefIdeal.sig) → Buf (Elt Ideal) ℓ) : Prop :=
  True

def Pre_OdOutDw (m : (ℓ : Loc Cert.OdOutDw.nD Cert.OdOutDw.τ Cert.OdOutDw.sig) → Buf (Elt Bits) ℓ) : Prop :=
  True

def Pre_OdOutDwIdeal (m : (ℓ : Loc Cert.OdOutDwIdeal.nD Cert.OdOutDwIdeal.τ Cert.OdOutDwIdeal.sig) → Buf (Elt Ideal) ℓ) : Prop :=
  True

def Pre_OdOutDwRefIdeal (m : (ℓ : Loc Cert.OdOutDwRefIdeal.nD Cert.OdOutDwRefIdeal.τ Cert.OdOutDwRefIdeal.sig) → Buf (Elt Ideal) ℓ) : Prop :=
  True

def Pre_OdIn (m : (ℓ : Loc Cert.OdIn.nD Cert.OdIn.τ Cert.OdIn.sig) → Buf (Elt Bits) ℓ) : Prop :=
  True

def Pre_OdInIdeal (m : (ℓ : Loc Cert.OdInIdeal.nD Cert.OdInIdeal.τ Cert.OdInIdeal.sig) → Buf (Elt Ideal) ℓ) : Prop :=
  True

def Pre_OdInRefIdeal (m : (ℓ : Loc Cert.OdInRefIdeal.nD Cert.OdInRefIdeal.τ Cert.OdInRefIdeal.sig) → Buf (Elt Ideal) ℓ) : Prop :=
  True

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_EvInRefIdeal (m : (ℓ : Loc Cert.EvInRefIdeal.nD Cert.EvInRefIdeal.τ Cert.EvInRefIdeal.sig) → Buf (Elt Ideal) ℓ) : Prop :=
  True

def Pre_EvOut (m : (ℓ : Loc Cert.EvOut.nD Cert.EvOut.τ Cert.EvOut.sig) → Buf (Elt Bits) ℓ) : Prop :=
  True

def Pre_EvOutIdeal (m : (ℓ : Loc Cert.EvOutIdeal.nD Cert.EvOutIdeal.τ Cert.EvOutIdeal.sig) → Buf (Elt Ideal) ℓ) : Prop :=
  True

def Pre_EvOutRefIdeal (m : (ℓ : Loc Cert.EvOutRefIdeal.nD Cert.EvOutRefIdeal.τ Cert.EvOutRefIdeal.sig) → Buf (Elt Ideal) ℓ) : Prop :=
  True

def Pre_OdOut (m : (ℓ : Loc Cert.OdOut.nD Cert.OdOut.τ Cert.OdOut.sig) → Buf (Elt Bits) ℓ) : Prop :=
  True

def Pre_OdOutIdeal (m : (ℓ : Loc Cert.OdOutIdeal.nD Cert.OdOutIdeal.τ Cert.OdOutIdeal.sig) → Buf (Elt Ideal) ℓ) : Prop :=
  True

def Pre_OdOutRefIdeal (m : (ℓ : Loc Cert.OdOutRefIdeal.nD Cert.OdOutRefIdeal.τ Cert.OdOutRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInRefIdeal (m : (ℓ : Loc Cert.StepInRefIdeal.nD Cert.StepInRefIdeal.τ Cert.StepInRefIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutRefIdeal (m : (ℓ : Loc Cert.StepOutRefIdeal.nD Cert.StepOutRefIdeal.τ Cert.StepOutRefIdeal.sig) → Buf (Elt Ideal) ℓ) : Prop :=
  True

def Pre_StepOdIn (m : (ℓ : Loc Cert.StepOdIn.nD Cert.StepOdIn.τ Cert.StepOdIn.sig) → Buf (Elt Bits) ℓ) : Prop :=
  True

def Pre_StepOdInIdeal (m : (ℓ : Loc Cert.StepOdInIdeal.nD Cert.StepOdInIdeal.τ Cert.StepOdInIdeal.sig) → Buf (Elt Ideal) ℓ) : Prop :=
  True

def Pre_StepOdInRefIdeal (m : (ℓ : Loc Cert.StepOdInRefIdeal.nD Cert.StepOdInRefIdeal.τ Cert.StepOdInRefIdeal.sig) → Buf (Elt Ideal) ℓ) : Prop :=
  True

def Pre_StepPool (m : (ℓ : Loc Cert.StepPool.nD Cert.StepPool.τ Cert.StepPool.sig) → Buf (Elt Bits) ℓ) : Prop :=
  True

def Pre_StepPoolIdeal (m : (ℓ : Loc Cert.StepPoolIdeal.nD Cert.StepPoolIdeal.τ Cert.StepPoolIdeal.sig) → Buf (Elt Ideal) ℓ) : Prop :=
  True

def Pre_StepPoolRefIdeal (m : (ℓ : Loc Cert.StepPoolRefIdeal.nD Cert.StepPoolRefIdeal.τ Cert.StepPoolRefIdeal.sig) → Buf (Elt Ideal) ℓ) : Prop :=
  True

def Pre_StepAdaB (m : (ℓ : Loc Cert.StepAdaB.nD Cert.StepAdaB.τ Cert.StepAdaB.sig) → Buf (Elt Bits) ℓ) : Prop :=
  True

def Pre_StepAdaBIdeal (m : (ℓ : Loc Cert.StepAdaBIdeal.nD Cert.StepAdaBIdeal.τ Cert.StepAdaBIdeal.sig) → Buf (Elt Ideal) ℓ) : Prop :=
  True

def Pre_StepAdaBRefIdeal (m : (ℓ : Loc Cert.StepAdaBRefIdeal.nD Cert.StepAdaBRefIdeal.τ Cert.StepAdaBRefIdeal.sig) → Buf (Elt Ideal) ℓ) : Prop :=
  True

def Pre_StepGain (m : (ℓ : Loc Cert.StepGain.nD Cert.StepGain.τ Cert.StepGain.sig) → Buf (Elt Bits) ℓ) : Prop :=
  True

def Pre_StepGainIdeal (m : (ℓ : Loc Cert.StepGainIdeal.nD Cert.StepGainIdeal.τ Cert.StepGainIdeal.sig) → Buf (Elt Ideal) ℓ) : Prop :=
  True

def Pre_StepGainRefIdeal (m : (ℓ : Loc Cert.StepGainRefIdeal.nD Cert.StepGainRefIdeal.τ Cert.StepGainRefIdeal.sig) → Buf (Elt Ideal) ℓ) : Prop :=
  True

def Pre_StepHalf (m : (ℓ : Loc Cert.StepHalf.nD Cert.StepHalf.τ Cert.StepHalf.sig) → Buf (Elt Bits) ℓ) : Prop :=
  True

def Pre_StepHalfIdeal (m : (ℓ : Loc Cert.StepHalfIdeal.nD Cert.StepHalfIdeal.τ Cert.StepHalfIdeal.sig) → Buf (Elt Ideal) ℓ) : Prop :=
  True

def Pre_StepHalfRefIdeal (m : (ℓ : Loc Cert.StepHalfRefIdeal.nD Cert.StepHalfRefIdeal.τ Cert.StepHalfRefIdeal.sig) → Buf (Elt Ideal) ℓ) : Prop :=
  True

def Pre_StepConv (m : (ℓ : Loc Cert.StepConv.nD Cert.StepConv.τ Cert.StepConv.sig) → Buf (Elt Bits) ℓ) : Prop :=
  True

def Pre_StepConvIdeal (m : (ℓ : Loc Cert.StepConvIdeal.nD Cert.StepConvIdeal.τ Cert.StepConvIdeal.sig) → Buf (Elt Ideal) ℓ) : Prop :=
  True

def Pre_StepConvRefIdeal (m : (ℓ : Loc Cert.StepConvRefIdeal.nD Cert.StepConvRefIdeal.τ Cert.StepConvRefIdeal.sig) → Buf (Elt Ideal) ℓ) : Prop :=
  True

def Pre_StepOnorm (m : (ℓ : Loc Cert.StepOnorm.nD Cert.StepOnorm.τ Cert.StepOnorm.sig) → Buf (Elt Bits) ℓ) : Prop :=
  True

def Pre_StepOnormIdeal (m : (ℓ : Loc Cert.StepOnormIdeal.nD Cert.StepOnormIdeal.τ Cert.StepOnormIdeal.sig) → Buf (Elt Ideal) ℓ) : Prop :=
  True

def Pre_StepOnormRefIdeal (m : (ℓ : Loc Cert.StepOnormRefIdeal.nD Cert.StepOnormRefIdeal.τ Cert.StepOnormRefIdeal.sig) → Buf (Elt Ideal) ℓ) : Prop :=
  True

def Pre_StepLb (m : (ℓ : Loc Cert.StepLb.nD Cert.StepLb.τ Cert.StepLb.sig) → Buf (Elt Bits) ℓ) : Prop :=
  True

def Pre_StepLbIdeal (m : (ℓ : Loc Cert.StepLbIdeal.nD Cert.StepLbIdeal.τ Cert.StepLbIdeal.sig) → Buf (Elt Ideal) ℓ) : Prop :=
  True

def Pre_StepLbRefIdeal (m : (ℓ : Loc Cert.StepLbRefIdeal.nD Cert.StepLbRefIdeal.τ Cert.StepLbRefIdeal.sig) → Buf (Elt Ideal) ℓ) : Prop :=
  True

def Pre_StepCtx (m : (ℓ : Loc Cert.StepCtx.nD Cert.StepCtx.τ Cert.StepCtx.sig) → Buf (Elt Bits) ℓ) : Prop :=
  True

def Pre_StepCtxIdeal (m : (ℓ : Loc Cert.StepCtxIdeal.nD Cert.StepCtxIdeal.τ Cert.StepCtxIdeal.sig) → Buf (Elt Ideal) ℓ) : Prop :=
  True

def Pre_StepCtxRefIdeal (m : (ℓ : Loc Cert.StepCtxRefIdeal.nD Cert.StepCtxRefIdeal.τ Cert.StepCtxRefIdeal.sig) → Buf (Elt Ideal) ℓ) : Prop :=
  True

def Pre_CCtx (m : (ℓ : Loc Cert.CCtx.nD Cert.CCtx.τ Cert.CCtx.sig) → Buf (Elt Bits) ℓ) : Prop :=
  True

def Pre_CCtxIdeal (m : (ℓ : Loc Cert.CCtxIdeal.nD Cert.CCtxIdeal.τ Cert.CCtxIdeal.sig) → Buf (Elt Ideal) ℓ) : Prop :=
  True

def Pre_CCtxIdeal_finite_ctx [hPre_finite_ctx : Cert.Pre_finite_ctx.Facts] (m : (ℓ : Loc Cert.CCtxIdeal.nD Cert.CCtxIdeal.τ Cert.CCtxIdeal.sig) → Buf (Elt Ideal) ℓ) : Prop :=
  ∀ c : Dev Cert.CCtxIdeal.nD,
    (Cert.Pre_finite_ctx.fn (F := Ideal) (m ((c.tc : Thread Cert.CCtxIdeal.nD Cert.CCtxIdeal.τ).loc Cert.CCtxIdeal.main_arg0)) (m ((c.tc : Thread Cert.CCtxIdeal.nD Cert.CCtxIdeal.τ).loc Cert.CCtxIdeal.main_arg1))) = (fun _ => 1#1)

def Pre_CCtxRefIdeal (m : (ℓ : Loc Cert.CCtxRefIdeal.nD Cert.CCtxRefIdeal.τ Cert.CCtxRefIdeal.sig) → Buf (Elt Ideal) ℓ) : Prop :=
  True

def Pre_CCtxRefIdeal_finite_ctx [hPre_finite_ctx : Cert.Pre_finite_ctx.Facts] (m : (ℓ : Loc Cert.CCtxRefIdeal.nD Cert.CCtxRefIdeal.τ Cert.CCtxRefIdeal.sig) → Buf (Elt Ideal) ℓ) : Prop :=
  ∀ c : Dev Cert.CCtxRefIdeal.nD,
    (Cert.Pre_finite_ctx.fn (F := Ideal) (m ((c.tc : Thread Cert.CCtxRefIdeal.nD Cert.CCtxRefIdeal.τ).loc Cert.CCtxRefIdeal.main_arg0)) (m ((c.tc : Thread Cert.CCtxRefIdeal.nD Cert.CCtxRefIdeal.τ).loc Cert.CCtxRefIdeal.main_arg1))) = (fun _ => 1#1)

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_NormP (m : (ℓ : Loc Cert.NormP.nD Cert.NormP.τ Cert.NormP.sig) → Buf (Elt Bits) ℓ) : Prop :=
  True

def Pre_NormPIdeal (m : (ℓ : Loc Cert.NormPIdeal.nD Cert.NormPIdeal.τ Cert.NormPIdeal.sig) → Buf (Elt Ideal) ℓ) : Prop :=
  True

def Pre_NormPRefIdeal (m : (ℓ : Loc Cert.NormPRefIdeal.nD Cert.NormPRefIdeal.τ Cert.NormPRefIdeal.sig) → Buf (Elt Ideal) ℓ) : Prop :=
  True

def Pre_LbG (m : (ℓ : Loc Cert.LbG.nD Cert.LbG.τ Cert.LbG.sig) → Buf (Elt Bits) ℓ) : Prop :=
  True

def Pre_LbGIdeal (m : (ℓ : Loc Cert.LbGIdeal.nD Cert.LbGIdeal.τ Cert.LbGIdeal.sig) → Buf (Elt Ideal) ℓ) : Prop :=
  True

def Pre_LbGIdeal_finite_lb [hPre_finite_lb : Cert.Pre_finite_lb.Facts] (m : (ℓ : Loc Cert.LbGIdeal.nD Cert.LbGIdeal.τ Cert.LbGIdeal.sig) → Buf (Elt Ideal) ℓ) : Prop :=
  ∀ c : Dev Cert.LbGIdeal.nD,
    (Cert.Pre_finite_lb.fn (F := Ideal) (m ((c.tc : Thread Cert.LbGIdeal.nD Cert.LbGIdeal.τ).loc Cert.LbGIdeal.main_arg0)) (m ((c.tc : Thread Cert.LbGIdeal.nD Cert.LbGIdeal.τ).loc Cert.LbGIdeal.main_arg1))) = (fun _ => 1#1)

def Pre_LbGRefIdeal (m : (ℓ : Loc Cert.LbGRefIdeal.nD Cert.LbGRefIdeal.τ Cert.LbGRefIdeal.sig) → Buf (Elt Ideal) ℓ) : Prop :=
  True

def Pre_LbGRefIdeal_finite_lb [hPre_finite_lb : Cert.Pre_finite_lb.Facts] (m : (ℓ : Loc Cert.LbGRefIdeal.nD Cert.LbGRefIdeal.τ Cert.LbGRefIdeal.sig) → Buf (Elt Ideal) ℓ) : Prop :=
  ∀ c : Dev Cert.LbGRefIdeal.nD,
    (Cert.Pre_finite_lb.fn (F := Ideal) (m ((c.tc : Thread Cert.LbGRefIdeal.nD Cert.LbGRefIdeal.τ).loc Cert.LbGRefIdeal.main_arg0)) (m ((c.tc : Thread Cert.LbGRefIdeal.nD Cert.LbGRefIdeal.τ).loc Cert.LbGRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OdInDx [hOdInDx : Cert.OdInDx.Facts] : Prop :=
  ∀ (m : (ℓ : Loc Cert.OdInDx.nD Cert.OdInDx.τ Cert.OdInDx.sig) → Buf (Elt Bits) ℓ) (g : Dev Cert.OdInDx.nD → PrngReg), Pre_OdInDx m →
    θ_run (Cert.OdInDx.defs (F := Bits)) (onTc (τ := Cert.OdInDx.τ) (Cert.OdInDx.main (F := Bits))) ⟨m, fun _ => 0, g⟩ (fun r => (∀ c : Dev Cert.OdInDx.nD,
      r.2.mem ((c.tc : Thread Cert.OdInDx.nD Cert.OdInDx.τ).loc Cert.OdInDx.main_arg0) = m ((c.tc : Thread Cert.OdInDx.nD Cert.OdInDx.τ).loc Cert.OdInDx.main_arg0)
      ∧ r.2.mem ((c.tc : Thread Cert.OdInDx.nD Cert.OdInDx.τ).loc Cert.OdInDx.main_arg1) = m ((c.tc : Thread Cert.OdInDx.nD Cert.OdInDx.τ).loc Cert.OdInDx.main_arg1))
      ∧ r.2.sem = fun _ => 0)

def quiescent_OdInDxIdeal [hOdInDxIdeal : Cert.OdInDxIdeal.Facts] : Prop :=
  ∀ (m : (ℓ : Loc Cert.OdInDxIdeal.nD Cert.OdInDxIdeal.τ Cert.OdInDxIdeal.sig) → Buf (Elt Ideal) ℓ) (g : Dev Cert.OdInDxIdeal.nD → PrngReg), Pre_OdInDxIdeal m →
    θ_run (Cert.OdInDxIdeal.defs (F := Ideal)) (onTc (τ := Cert.OdInDxIdeal.τ) (Cert.OdInDxIdeal.main (F := Ideal))) ⟨m, fun _ => 0, g⟩ (fun r => (∀ c : Dev Cert.OdInDxIdeal.nD,
      r.2.mem ((c.tc : Thread Cert.OdInDxIdeal.nD Cert.OdInDxIdeal.τ).loc Cert.OdInDxIdeal.main_arg0) = m ((c.tc : Thread Cert.OdInDxIdeal.nD Cert.OdInDxIdeal.τ).loc Cert.OdInDxIdeal.main_arg0)
      ∧ r.2.mem ((c.tc : Thread Cert.OdInDxIdeal.nD Cert.OdInDxIdeal.τ).loc Cert.OdInDxIdeal.main_arg1) = m ((c.tc : Thread Cert.OdInDxIdeal.nD Cert.OdInDxIdeal.τ).loc Cert.OdInDxIdeal.main_arg1))
      ∧ r.2.sem = fun _ => 0)

def quiescent_OdInDxRefIdeal [hOdInDxRefIdeal : Cert.OdInDxRefIdeal.Facts] : Prop :=
  ∀ (m : (ℓ : Loc Cert.OdInDxRefIdeal.nD Cert.OdInDxRefIdeal.τ Cert.OdInDxRefIdeal.sig) → Buf (Elt Ideal) ℓ) (g : Dev Cert.OdInDxRefIdeal.nD → PrngReg), Pre_OdInDxRefIdeal m →
    θ_run (Cert.OdInDxRefIdeal.defs (F := Ideal)) (onTc (τ := Cert.OdInDxRefIdeal.τ) (Cert.OdInDxRefIdeal.main (F := Ideal))) ⟨m, fun _ => 0, g⟩ (fun r => (∀ c : Dev Cert.OdInDxRefIdeal.nD,
      r.2.mem ((c.tc : Thread Cert.OdInDxRefIdeal.nD Cert.OdInDxRefIdeal.τ).loc Cert.OdInDxRefIdeal.main_arg0) = m ((c.tc : Thread Cert.OdInDxRefIdeal.nD Cert.OdInDxRefIdeal.τ).loc Cert.OdInDxRefIdeal.main_arg0)
      ∧ r.2.mem ((c.tc : Thread Cert.OdInDxRefIdeal.nD Cert.OdInDxRefIdeal.τ).loc Cert.OdInDxRefIdeal.main_arg1) = m ((c.tc : Thread Cert.OdInDxRefIdeal.nD Cert.OdInDxRefIdeal.τ).loc Cert.OdInDxRefIdeal.main_arg1))
      ∧ r.2.sem = fun _ => 0)

def quiescent_OdInDw [hOdInDw : Cert.OdInDw.Facts] : Prop :=
  ∀ (m : (ℓ : Loc Cert.OdInDw.nD Cert.OdInDw.τ Cert.OdInDw.sig) → Buf (Elt Bits) ℓ) (g : Dev Cert.OdInDw.nD → PrngReg), Pre_OdInDw m →
    θ_run (Cert.OdInDw.defs (F := Bits)) (onTc (τ := Cert.OdInDw.τ) (Cert.OdInDw.main (F := Bits))) ⟨m, fun _ => 0, g⟩ (fun r => (∀ c : Dev Cert.OdInDw.nD,
      r.2.mem ((c.tc : Thread Cert.OdInDw.nD Cert.OdInDw.τ).loc Cert.OdInDw.main_arg0) = m ((c.tc : Thread Cert.OdInDw.nD Cert.OdInDw.τ).loc Cert.OdInDw.main_arg0)
      ∧ r.2.mem ((c.tc : Thread Cert.OdInDw.nD Cert.OdInDw.τ).loc Cert.OdInDw.main_arg1) = m ((c.tc : Thread Cert.OdInDw.nD Cert.OdInDw.τ).loc Cert.OdInDw.main_arg1))
      ∧ r.2.sem = fun _ => 0)

def quiescent_OdInDwIdeal [hOdInDwIdeal : Cert.OdInDwIdeal.Facts] : Prop :=
  ∀ (m : (ℓ : Loc Cert.OdInDwIdeal.nD Cert.OdInDwIdeal.τ Cert.OdInDwIdeal.sig) → Buf (Elt Ideal) ℓ) (g : Dev Cert.OdInDwIdeal.nD → PrngReg), Pre_OdInDwIdeal m →
    θ_run (Cert.OdInDwIdeal.defs (F := Ideal)) (onTc (τ := Cert.OdInDwIdeal.τ) (Cert.OdInDwIdeal.main (F := Ideal))) ⟨m, fun _ => 0, g⟩ (fun r => (∀ c : Dev Cert.OdInDwIdeal.nD,
      r.2.mem ((c.tc : Thread Cert.OdInDwIdeal.nD Cert.OdInDwIdeal.τ).loc Cert.OdInDwIdeal.main_arg0) = m ((c.tc : Thread Cert.OdInDwIdeal.nD Cert.OdInDwIdeal.τ).loc Cert.OdInDwIdeal.main_arg0)
      ∧ r.2.mem ((c.tc : Thread Cert.OdInDwIdeal.nD Cert.OdInDwIdeal.τ).loc Cert.OdInDwIdeal.main_arg1) = m ((c.tc : Thread Cert.OdInDwIdeal.nD Cert.OdInDwIdeal.τ).loc Cert.OdInDwIdeal.main_arg1))
      ∧ r.2.sem = fun _ => 0)

def quiescent_OdInDwRefIdeal [hOdInDwRefIdeal : Cert.OdInDwRefIdeal.Facts] : Prop :=
  ∀ (m : (ℓ : Loc Cert.OdInDwRefIdeal.nD Cert.OdInDwRefIdeal.τ Cert.OdInDwRefIdeal.sig) → Buf (Elt Ideal) ℓ) (g : Dev Cert.OdInDwRefIdeal.nD → PrngReg), Pre_OdInDwRefIdeal m →
    θ_run (Cert.OdInDwRefIdeal.defs (F := Ideal)) (onTc (τ := Cert.OdInDwRefIdeal.τ) (Cert.OdInDwRefIdeal.main (F := Ideal))) ⟨m, fun _ => 0, g⟩ (fun r => (∀ c : Dev Cert.OdInDwRefIdeal.nD,
      r.2.mem ((c.tc : Thread Cert.OdInDwRefIdeal.nD Cert.OdInDwRefIdeal.τ).loc Cert.OdInDwRefIdeal.main_arg0) = m ((c.tc : Thread Cert.OdInDwRefIdeal.nD Cert.OdInDwRefIdeal.τ).loc Cert.OdInDwRefIdeal.main_arg0)
      ∧ r.2.mem ((c.tc : Thread Cert.OdInDwRefIdeal.nD Cert.OdInDwRefIdeal.τ).loc Cert.OdInDwRefIdeal.main_arg1) = m ((c.tc : Thread Cert.OdInDwRefIdeal.nD Cert.OdInDwRefIdeal.τ).loc Cert.OdInDwRefIdeal.main_arg1))
      ∧ r.2.sem = fun _ => 0)

def quiescent_EvInDx [hEvInDx : Cert.EvInDx.Facts] : Prop :=
  ∀ (m : (ℓ : Loc Cert.EvInDx.nD Cert.EvInDx.τ Cert.EvInDx.sig) → Buf (Elt Bits) ℓ) (g : Dev Cert.EvInDx.nD → PrngReg), Pre_EvInDx m →
    θ_run (Cert.EvInDx.defs (F := Bits)) (onTc (τ := Cert.EvInDx.τ) (Cert.EvInDx.main (F := Bits))) ⟨m, fun _ => 0, g⟩ (fun r => (∀ c : Dev Cert.EvInDx.nD,
      r.2.mem ((c.tc : Thread Cert.EvInDx.nD Cert.EvInDx.τ).loc Cert.EvInDx.main_arg0) = m ((c.tc : Thread Cert.EvInDx.nD Cert.EvInDx.τ).loc Cert.EvInDx.main_arg0)
      ∧ r.2.mem ((c.tc : Thread Cert.EvInDx.nD Cert.EvInDx.τ).loc Cert.EvInDx.main_arg1) = m ((c.tc : Thread Cert.EvInDx.nD Cert.EvInDx.τ).loc Cert.EvInDx.main_arg1)
      ∧ r.2.mem ((c.tc : Thread Cert.EvInDx.nD Cert.EvInDx.τ).loc Cert.EvInDx.main_arg2) = m ((c.tc : Thread Cert.EvInDx.nD Cert.EvInDx.τ).loc Cert.EvInDx.main_arg2))
      ∧ r.2.sem = fun _ => 0)

def quiescent_EvInDxIdeal [hEvInDxIdeal : Cert.EvInDxIdeal.Facts] : Prop :=
  ∀ (m : (ℓ : Loc Cert.EvInDxIdeal.nD Cert.EvInDxIdeal.τ Cert.EvInDxIdeal.sig) → Buf (Elt Ideal) ℓ) (g : Dev Cert.EvInDxIdeal.nD → PrngReg), Pre_EvInDxIdeal m →
    θ_run (Cert.EvInDxIdeal.defs (F := Ideal)) (onTc (τ := Cert.EvInDxIdeal.τ) (Cert.EvInDxIdeal.main (F := Ideal))) ⟨m, fun _ => 0, g⟩ (fun r => (∀ c : Dev Cert.EvInDxIdeal.nD,
      r.2.mem ((c.tc : Thread Cert.EvInDxIdeal.nD Cert.EvInDxIdeal.τ).loc Cert.EvInDxIdeal.main_arg0) = m ((c.tc : Thread Cert.EvInDxIdeal.nD Cert.EvInDxIdeal.τ).loc Cert.EvInDxIdeal.main_arg0)
      ∧ r.2.mem ((c.tc : Thread Cert.EvInDxIdeal.nD Cert.EvInDxIdeal.τ).loc Cert.EvInDxIdeal.main_arg1) = m ((c.tc : Thread Cert.EvInDxIdeal.nD Cert.EvInDxIdeal.τ).loc Cert.EvInDxIdeal.main_arg1)
      ∧ r.2.mem ((c.tc : Thread Cert.EvInDxIdeal.nD Cert.EvInDxIdeal.τ).loc Cert.EvInDxIdeal.main_arg2) = m ((c.tc : Thread Cert.EvInDxIdeal.nD Cert.EvInDxIdeal.τ).loc Cert.EvInDxIdeal.main_arg2))
      ∧ r.2.sem = fun _ => 0)

def quiescent_EvInDxRefIdeal [hEvInDxRefIdeal : Cert.EvInDxRefIdeal.Facts] : Prop :=
  ∀ (m : (ℓ : Loc Cert.EvInDxRefIdeal.nD Cert.EvInDxRefIdeal.τ Cert.EvInDxRefIdeal.sig) → Buf (Elt Ideal) ℓ) (g : Dev Cert.EvInDxRefIdeal.nD → PrngReg), Pre_EvInDxRefIdeal m →
    θ_run (Cert.EvInDxRefIdeal.defs (F := Ideal)) (onTc (τ := Cert.EvInDxRefIdeal.τ) (Cert.EvInDxRefIdeal.main (F := Ideal))) ⟨m, fun _ => 0, g⟩ (fun r => (∀ c : Dev Cert.EvInDxRefIdeal.nD,
      r.2.mem ((c.tc : Thread Cert.EvInDxRefIdeal.nD Cert.EvInDxRefIdeal.τ).loc Cert.EvInDxRefIdeal.main_arg0) = m ((c.tc : Thread Cert.EvInDxRefIdeal.nD Cert.EvInDxRefIdeal.τ).loc Cert.EvInDxRefIdeal.main_arg0)
      ∧ r.2.mem ((c.tc : Thread Cert.EvInDxRefIdeal.nD Cert.EvInDxRefIdeal.τ).loc Cert.EvInDxRefIdeal.main_arg1) = m ((c.tc : Thread Cert.EvInDxRefIdeal.nD Cert.EvInDxRefIdeal.τ).loc Cert.EvInDxRefIdeal.main_arg1)
      ∧ r.2.mem ((c.tc : Thread Cert.EvInDxRefIdeal.nD Cert.EvInDxRefIdeal.τ).loc Cert.EvInDxRefIdeal.main_arg2) = m ((c.tc : Thread Cert.EvInDxRefIdeal.nD Cert.EvInDxRefIdeal.τ).loc Cert.EvInDxRefIdeal.main_arg2))
      ∧ r.2.sem = fun _ => 0)

def quiescent_EvInDw [hEvInDw : Cert.EvInDw.Facts] : Prop :=
  ∀ (m : (ℓ : Loc Cert.EvInDw.nD Cert.EvInDw.τ Cert.EvInDw.sig) → Buf (Elt Bits) ℓ) (g : Dev Cert.EvInDw.nD → PrngReg), Pre_EvInDw m →
    θ_run (Cert.EvInDw.defs (F := Bits)) (onTc (τ := Cert.EvInDw.τ) (Cert.EvInDw.main (F := Bits))) ⟨m, fun _ => 0, g⟩ (fun r => (∀ c : Dev Cert.EvInDw.nD,
      r.2.mem ((c.tc : Thread Cert.EvInDw.nD Cert.EvInDw.τ).loc Cert.EvInDw.main_arg0) = m ((c.tc : Thread Cert.EvInDw.nD Cert.EvInDw.τ).loc Cert.EvInDw.main_arg0)
      ∧ r.2.mem ((c.tc : Thread Cert.EvInDw.nD Cert.EvInDw.τ).loc Cert.EvInDw.main_arg1) = m ((c.tc : Thread Cert.EvInDw.nD Cert.EvInDw.τ).loc Cert.EvInDw.main_arg1)
      ∧ r.2.mem ((c.tc : Thread Cert.EvInDw.nD Cert.EvInDw.τ).loc Cert.EvInDw.main_arg2) = m ((c.tc : Thread Cert.EvInDw.nD Cert.EvInDw.τ).loc Cert.EvInDw.main_arg2))
      ∧ r.2.sem = fun _ => 0)

def quiescent_EvInDwIdeal [hEvInDwIdeal : Cert.EvInDwIdeal.Facts] : Prop :=
  ∀ (m : (ℓ : Loc Cert.EvInDwIdeal.nD Cert.EvInDwIdeal.τ Cert.EvInDwIdeal.sig) → Buf (Elt Ideal) ℓ) (g : Dev Cert.EvInDwIdeal.nD → PrngReg), Pre_EvInDwIdeal m →
    θ_run (Cert.EvInDwIdeal.defs (F := Ideal)) (onTc (τ := Cert.EvInDwIdeal.τ) (Cert.EvInDwIdeal.main (F := Ideal))) ⟨m, fun _ => 0, g⟩ (fun r => (∀ c : Dev Cert.EvInDwIdeal.nD,
      r.2.mem ((c.tc : Thread Cert.EvInDwIdeal.nD Cert.EvInDwIdeal.τ).loc Cert.EvInDwIdeal.main_arg0) = m ((c.tc : Thread Cert.EvInDwIdeal.nD Cert.EvInDwIdeal.τ).loc Cert.EvInDwIdeal.main_arg0)
      ∧ r.2.mem ((c.tc : Thread Cert.EvInDwIdeal.nD Cert.EvInDwIdeal.τ).loc Cert.EvInDwIdeal.main_arg1) = m ((c.tc : Thread Cert.EvInDwIdeal.nD Cert.EvInDwIdeal.τ).loc Cert.EvInDwIdeal.main_arg1)
      ∧ r.2.mem ((c.tc : Thread Cert.EvInDwIdeal.nD Cert.EvInDwIdeal.τ).loc Cert.EvInDwIdeal.main_arg2) = m ((c.tc : Thread Cert.EvInDwIdeal.nD Cert.EvInDwIdeal.τ).loc Cert.EvInDwIdeal.main_arg2))
      ∧ r.2.sem = fun _ => 0)

def quiescent_EvInDwRefIdeal [hEvInDwRefIdeal : Cert.EvInDwRefIdeal.Facts] : Prop :=
  ∀ (m : (ℓ : Loc Cert.EvInDwRefIdeal.nD Cert.EvInDwRefIdeal.τ Cert.EvInDwRefIdeal.sig) → Buf (Elt Ideal) ℓ) (g : Dev Cert.EvInDwRefIdeal.nD → PrngReg), Pre_EvInDwRefIdeal m →
    θ_run (Cert.EvInDwRefIdeal.defs (F := Ideal)) (onTc (τ := Cert.EvInDwRefIdeal.τ) (Cert.EvInDwRefIdeal.main (F := Ideal))) ⟨m, fun _ => 0, g⟩ (fun r => (∀ c : Dev Cert.EvInDwRefIdeal.nD,
      r.2.mem ((c.tc : Thread Cert.EvInDwRefIdeal.nD Cert.EvInDwRefIdeal.τ).loc Cert.EvInDwRefIdeal.main_arg0) = m ((c.tc : Thread Cert.EvInDwRefIdeal.nD Cert.EvInDwRefIdeal.τ).loc Cert.EvInDwRefIdeal.main_arg0)
      ∧ r.2.mem ((c.tc : Thread Cert.EvInDwRefIdeal.nD Cert.EvInDwRefIdeal.τ).loc Cert.EvInDwRefIdeal.main_arg1) = m ((c.tc : Thread Cert.EvInDwRefIdeal.nD Cert.EvInDwRefIdeal.τ).loc Cert.EvInDwRefIdeal.main_arg1)
      ∧ r.2.mem ((c.tc : Thread Cert.EvInDwRefIdeal.nD Cert.EvInDwRefIdeal.τ).loc Cert.EvInDwRefIdeal.main_arg2) = m ((c.tc : Thread Cert.EvInDwRefIdeal.nD Cert.EvInDwRefIdeal.τ).loc Cert.EvInDwRefIdeal.main_arg2))
      ∧ r.2.sem = fun _ => 0)

def quiescent_EvOutDx [hEvOutDx : Cert.EvOutDx.Facts] : Prop :=
  ∀ (m : (ℓ : Loc Cert.EvOutDx.nD Cert.EvOutDx.τ Cert.EvOutDx.sig) → Buf (Elt Bits) ℓ) (g : Dev Cert.EvOutDx.nD → PrngReg), Pre_EvOutDx m →
    θ_run (Cert.EvOutDx.defs (F := Bits)) (onTc (τ := Cert.EvOutDx.τ) (Cert.EvOutDx.main (F := Bits))) ⟨m, fun _ => 0, g⟩ (fun r => (∀ c : Dev Cert.EvOutDx.nD,
      r.2.mem ((c.tc : Thread Cert.EvOutDx.nD Cert.EvOutDx.τ).loc Cert.EvOutDx.main_arg0) = m ((c.tc : Thread Cert.EvOutDx.nD Cert.EvOutDx.τ).loc Cert.EvOutDx.main_arg0)
      ∧ r.2.mem ((c.tc : Thread Cert.EvOutDx.nD Cert.EvOutDx.τ).loc Cert.EvOutDx.main_arg1) = m ((c.tc : Thread Cert.EvOutDx.nD Cert.EvOutDx.τ).loc Cert.EvOutDx.main_arg1))
      ∧ r.2.sem = fun _ => 0)

def quiescent_EvOutDxIdeal [hEvOutDxIdeal : Cert.EvOutDxIdeal.Facts] : Prop :=
  ∀ (m : (ℓ : Loc Cert.EvOutDxIdeal.nD Cert.EvOutDxIdeal.τ Cert.EvOutDxIdeal.sig) → Buf (Elt Ideal) ℓ) (g : Dev Cert.EvOutDxIdeal.nD → PrngReg), Pre_EvOutDxIdeal m →
    θ_run (Cert.EvOutDxIdeal.defs (F := Ideal)) (onTc (τ := Cert.EvOutDxIdeal.τ) (Cert.EvOutDxIdeal.main (F := Ideal))) ⟨m, fun _ => 0, g⟩ (fun r => (∀ c : Dev Cert.EvOutDxIdeal.nD,
      r.2.mem ((c.tc : Thread Cert.EvOutDxIdeal.nD Cert.EvOutDxIdeal.τ).loc Cert.EvOutDxIdeal.main_arg0) = m ((c.tc : Thread Cert.EvOutDxIdeal.nD Cert.EvOutDxIdeal.τ).loc Cert.EvOutDxIdeal.main_arg0)
      ∧ r.2.mem ((c.tc : Thread Cert.EvOutDxIdeal.nD Cert.EvOutDxIdeal.τ).loc Cert.EvOutDxIdeal.main_arg1) = m ((c.tc : Thread Cert.EvOutDxIdeal.nD Cert.EvOutDxIdeal.τ).loc Cert.EvOutDxIdeal.main_arg1))
      ∧ r.2.sem = fun _ => 0)

def quiescent_EvOutDxRefIdeal [hEvOutDxRefIdeal : Cert.EvOutDxRefIdeal.Facts] : Prop :=
  ∀ (m : (ℓ : Loc Cert.EvOutDxRefIdeal.nD Cert.EvOutDxRefIdeal.τ Cert.EvOutDxRefIdeal.sig) → Buf (Elt Ideal) ℓ) (g : Dev Cert.EvOutDxRefIdeal.nD → PrngReg), Pre_EvOutDxRefIdeal m →
    θ_run (Cert.EvOutDxRefIdeal.defs (F := Ideal)) (onTc (τ := Cert.EvOutDxRefIdeal.τ) (Cert.EvOutDxRefIdeal.main (F := Ideal))) ⟨m, fun _ => 0, g⟩ (fun r => (∀ c : Dev Cert.EvOutDxRefIdeal.nD,
      r.2.mem ((c.tc : Thread Cert.EvOutDxRefIdeal.nD Cert.EvOutDxRefIdeal.τ).loc Cert.EvOutDxRefIdeal.main_arg0) = m ((c.tc : Thread Cert.EvOutDxRefIdeal.nD Cert.EvOutDxRefIdeal.τ).loc Cert.EvOutDxRefIdeal.main_arg0)
      ∧ r.2.mem ((c.tc : Thread Cert.EvOutDxRefIdeal.nD Cert.EvOutDxRefIdeal.τ).loc Cert.EvOutDxRefIdeal.main_arg1) = m ((c.tc : Thread Cert.EvOutDxRefIdeal.nD Cert.EvOutDxRefIdeal.τ).loc Cert.EvOutDxRefIdeal.main_arg1))
      ∧ r.2.sem = fun _ => 0)

def quiescent_EvOutDw [hEvOutDw : Cert.EvOutDw.Facts] : Prop :=
  ∀ (m : (ℓ : Loc Cert.EvOutDw.nD Cert.EvOutDw.τ Cert.EvOutDw.sig) → Buf (Elt Bits) ℓ) (g : Dev Cert.EvOutDw.nD → PrngReg), Pre_EvOutDw m →
    θ_run (Cert.EvOutDw.defs (F := Bits)) (onTc (τ := Cert.EvOutDw.τ) (Cert.EvOutDw.main (F := Bits))) ⟨m, fun _ => 0, g⟩ (fun r => (∀ c : Dev Cert.EvOutDw.nD,
      r.2.mem ((c.tc : Thread Cert.EvOutDw.nD Cert.EvOutDw.τ).loc Cert.EvOutDw.main_arg0) = m ((c.tc : Thread Cert.EvOutDw.nD Cert.EvOutDw.τ).loc Cert.EvOutDw.main_arg0)
      ∧ r.2.mem ((c.tc : Thread Cert.EvOutDw.nD Cert.EvOutDw.τ).loc Cert.EvOutDw.main_arg1) = m ((c.tc : Thread Cert.EvOutDw.nD Cert.EvOutDw.τ).loc Cert.EvOutDw.main_arg1))
      ∧ r.2.sem = fun _ => 0)

def quiescent_EvOutDwIdeal [hEvOutDwIdeal : Cert.EvOutDwIdeal.Facts] : Prop :=
  ∀ (m : (ℓ : Loc Cert.EvOutDwIdeal.nD Cert.EvOutDwIdeal.τ Cert.EvOutDwIdeal.sig) → Buf (Elt Ideal) ℓ) (g : Dev Cert.EvOutDwIdeal.nD → PrngReg), Pre_EvOutDwIdeal m →
    θ_run (Cert.EvOutDwIdeal.defs (F := Ideal)) (onTc (τ := Cert.EvOutDwIdeal.τ) (Cert.EvOutDwIdeal.main (F := Ideal))) ⟨m, fun _ => 0, g⟩ (fun r => (∀ c : Dev Cert.EvOutDwIdeal.nD,
      r.2.mem ((c.tc : Thread Cert.EvOutDwIdeal.nD Cert.EvOutDwIdeal.τ).loc Cert.EvOutDwIdeal.main_arg0) = m ((c.tc : Thread Cert.EvOutDwIdeal.nD Cert.EvOutDwIdeal.τ).loc Cert.EvOutDwIdeal.main_arg0)
      ∧ r.2.mem ((c.tc : Thread Cert.EvOutDwIdeal.nD Cert.EvOutDwIdeal.τ).loc Cert.EvOutDwIdeal.main_arg1) = m ((c.tc : Thread Cert.EvOutDwIdeal.nD Cert.EvOutDwIdeal.τ).loc Cert.EvOutDwIdeal.main_arg1))
      ∧ r.2.sem = fun _ => 0)

def quiescent_EvOutDwRefIdeal [hEvOutDwRefIdeal : Cert.EvOutDwRefIdeal.Facts] : Prop :=
  ∀ (m : (ℓ : Loc Cert.EvOutDwRefIdeal.nD Cert.EvOutDwRefIdeal.τ Cert.EvOutDwRefIdeal.sig) → Buf (Elt Ideal) ℓ) (g : Dev Cert.EvOutDwRefIdeal.nD → PrngReg), Pre_EvOutDwRefIdeal m →
    θ_run (Cert.EvOutDwRefIdeal.defs (F := Ideal)) (onTc (τ := Cert.EvOutDwRefIdeal.τ) (Cert.EvOutDwRefIdeal.main (F := Ideal))) ⟨m, fun _ => 0, g⟩ (fun r => (∀ c : Dev Cert.EvOutDwRefIdeal.nD,
      r.2.mem ((c.tc : Thread Cert.EvOutDwRefIdeal.nD Cert.EvOutDwRefIdeal.τ).loc Cert.EvOutDwRefIdeal.main_arg0) = m ((c.tc : Thread Cert.EvOutDwRefIdeal.nD Cert.EvOutDwRefIdeal.τ).loc Cert.EvOutDwRefIdeal.main_arg0)
      ∧ r.2.mem ((c.tc : Thread Cert.EvOutDwRefIdeal.nD Cert.EvOutDwRefIdeal.τ).loc Cert.EvOutDwRefIdeal.main_arg1) = m ((c.tc : Thread Cert.EvOutDwRefIdeal.nD Cert.EvOutDwRefIdeal.τ).loc Cert.EvOutDwRefIdeal.main_arg1))
      ∧ r.2.sem = fun _ => 0)

def quiescent_OdOutDx [hOdOutDx : Cert.OdOutDx.Facts] : Prop :=
  ∀ (m : (ℓ : Loc Cert.OdOutDx.nD Cert.OdOutDx.τ Cert.OdOutDx.sig) → Buf (Elt Bits) ℓ) (g : Dev Cert.OdOutDx.nD → PrngReg), Pre_OdOutDx m →
    θ_run (Cert.OdOutDx.defs (F := Bits)) (onTc (τ := Cert.OdOutDx.τ) (Cert.OdOutDx.main (F := Bits))) ⟨m, fun _ => 0, g⟩ (fun r => (∀ c : Dev Cert.OdOutDx.nD,
      r.2.mem ((c.tc : Thread Cert.OdOutDx.nD Cert.OdOutDx.τ).loc Cert.OdOutDx.main_arg0) = m ((c.tc : Thread Cert.OdOutDx.nD Cert.OdOutDx.τ).loc Cert.OdOutDx.main_arg0)
      ∧ r.2.mem ((c.tc : Thread Cert.OdOutDx.nD Cert.OdOutDx.τ).loc Cert.OdOutDx.main_arg1) = m ((c.tc : Thread Cert.OdOutDx.nD Cert.OdOutDx.τ).loc Cert.OdOutDx.main_arg1))
      ∧ r.2.sem = fun _ => 0)

def quiescent_OdOutDxIdeal [hOdOutDxIdeal : Cert.OdOutDxIdeal.Facts] : Prop :=
  ∀ (m : (ℓ : Loc Cert.OdOutDxIdeal.nD Cert.OdOutDxIdeal.τ Cert.OdOutDxIdeal.sig) → Buf (Elt Ideal) ℓ) (g : Dev Cert.OdOutDxIdeal.nD → PrngReg), Pre_OdOutDxIdeal m →
    θ_run (Cert.OdOutDxIdeal.defs (F := Ideal)) (onTc (τ := Cert.OdOutDxIdeal.τ) (Cert.OdOutDxIdeal.main (F := Ideal))) ⟨m, fun _ => 0, g⟩ (fun r => (∀ c : Dev Cert.OdOutDxIdeal.nD,
      r.2.mem ((c.tc : Thread Cert.OdOutDxIdeal.nD Cert.OdOutDxIdeal.τ).loc Cert.OdOutDxIdeal.main_arg0) = m ((c.tc : Thread Cert.OdOutDxIdeal.nD Cert.OdOutDxIdeal.τ).loc Cert.OdOutDxIdeal.main_arg0)
      ∧ r.2.mem ((c.tc : Thread Cert.OdOutDxIdeal.nD Cert.OdOutDxIdeal.τ).loc Cert.OdOutDxIdeal.main_arg1) = m ((c.tc : Thread Cert.OdOutDxIdeal.nD Cert.OdOutDxIdeal.τ).loc Cert.OdOutDxIdeal.main_arg1))
      ∧ r.2.sem = fun _ => 0)

def quiescent_OdOutDxRefIdeal [hOdOutDxRefIdeal : Cert.OdOutDxRefIdeal.Facts] : Prop :=
  ∀ (m : (ℓ : Loc Cert.OdOutDxRefIdeal.nD Cert.OdOutDxRefIdeal.τ Cert.OdOutDxRefIdeal.sig) → Buf (Elt Ideal) ℓ) (g : Dev Cert.OdOutDxRefIdeal.nD → PrngReg), Pre_OdOutDxRefIdeal m →
    θ_run (Cert.OdOutDxRefIdeal.defs (F := Ideal)) (onTc (τ := Cert.OdOutDxRefIdeal.τ) (Cert.OdOutDxRefIdeal.main (F := Ideal))) ⟨m, fun _ => 0, g⟩ (fun r => (∀ c : Dev Cert.OdOutDxRefIdeal.nD,
      r.2.mem ((c.tc : Thread Cert.OdOutDxRefIdeal.nD Cert.OdOutDxRefIdeal.τ).loc Cert.OdOutDxRefIdeal.main_arg0) = m ((c.tc : Thread Cert.OdOutDxRefIdeal.nD Cert.OdOutDxRefIdeal.τ).loc Cert.OdOutDxRefIdeal.main_arg0)
      ∧ r.2.mem ((c.tc : Thread Cert.OdOutDxRefIdeal.nD Cert.OdOutDxRefIdeal.τ).loc Cert.OdOutDxRefIdeal.main_arg1) = m ((c.tc : Thread Cert.OdOutDxRefIdeal.nD Cert.OdOutDxRefIdeal.τ).loc Cert.OdOutDxRefIdeal.main_arg1))
      ∧ r.2.sem = fun _ => 0)

def quiescent_OdOutDw [hOdOutDw : Cert.OdOutDw.Facts] : Prop :=
  ∀ (m : (ℓ : Loc Cert.OdOutDw.nD Cert.OdOutDw.τ Cert.OdOutDw.sig) → Buf (Elt Bits) ℓ) (g : Dev Cert.OdOutDw.nD → PrngReg), Pre_OdOutDw m →
    θ_run (Cert.OdOutDw.defs (F := Bits)) (onTc (τ := Cert.OdOutDw.τ) (Cert.OdOutDw.main (F := Bits))) ⟨m, fun _ => 0, g⟩ (fun r => (∀ c : Dev Cert.OdOutDw.nD,
      r.2.mem ((c.tc : Thread Cert.OdOutDw.nD Cert.OdOutDw.τ).loc Cert.OdOutDw.main_arg0) = m ((c.tc : Thread Cert.OdOutDw.nD Cert.OdOutDw.τ).loc Cert.OdOutDw.main_arg0)
      ∧ r.2.mem ((c.tc : Thread Cert.OdOutDw.nD Cert.OdOutDw.τ).loc Cert.OdOutDw.main_arg1) = m ((c.tc : Thread Cert.OdOutDw.nD Cert.OdOutDw.τ).loc Cert.OdOutDw.main_arg1))
      ∧ r.2.sem = fun _ => 0)

def quiescent_OdOutDwIdeal [hOdOutDwIdeal : Cert.OdOutDwIdeal.Facts] : Prop :=
  ∀ (m : (ℓ : Loc Cert.OdOutDwIdeal.nD Cert.OdOutDwIdeal.τ Cert.OdOutDwIdeal.sig) → Buf (Elt Ideal) ℓ) (g : Dev Cert.OdOutDwIdeal.nD → PrngReg), Pre_OdOutDwIdeal m →
    θ_run (Cert.OdOutDwIdeal.defs (F := Ideal)) (onTc (τ := Cert.OdOutDwIdeal.τ) (Cert.OdOutDwIdeal.main (F := Ideal))) ⟨m, fun _ => 0, g⟩ (fun r => (∀ c : Dev Cert.OdOutDwIdeal.nD,
      r.2.mem ((c.tc : Thread Cert.OdOutDwIdeal.nD Cert.OdOutDwIdeal.τ).loc Cert.OdOutDwIdeal.main_arg0) = m ((c.tc : Thread Cert.OdOutDwIdeal.nD Cert.OdOutDwIdeal.τ).loc Cert.OdOutDwIdeal.main_arg0)
      ∧ r.2.mem ((c.tc : Thread Cert.OdOutDwIdeal.nD Cert.OdOutDwIdeal.τ).loc Cert.OdOutDwIdeal.main_arg1) = m ((c.tc : Thread Cert.OdOutDwIdeal.nD Cert.OdOutDwIdeal.τ).loc Cert.OdOutDwIdeal.main_arg1))
      ∧ r.2.sem = fun _ => 0)

def quiescent_OdOutDwRefIdeal [hOdOutDwRefIdeal : Cert.OdOutDwRefIdeal.Facts] : Prop :=
  ∀ (m : (ℓ : Loc Cert.OdOutDwRefIdeal.nD Cert.OdOutDwRefIdeal.τ Cert.OdOutDwRefIdeal.sig) → Buf (Elt Ideal) ℓ) (g : Dev Cert.OdOutDwRefIdeal.nD → PrngReg), Pre_OdOutDwRefIdeal m →
    θ_run (Cert.OdOutDwRefIdeal.defs (F := Ideal)) (onTc (τ := Cert.OdOutDwRefIdeal.τ) (Cert.OdOutDwRefIdeal.main (F := Ideal))) ⟨m, fun _ => 0, g⟩ (fun r => (∀ c : Dev Cert.OdOutDwRefIdeal.nD,
      r.2.mem ((c.tc : Thread Cert.OdOutDwRefIdeal.nD Cert.OdOutDwRefIdeal.τ).loc Cert.OdOutDwRefIdeal.main_arg0) = m ((c.tc : Thread Cert.OdOutDwRefIdeal.nD Cert.OdOutDwRefIdeal.τ).loc Cert.OdOutDwRefIdeal.main_arg0)
      ∧ r.2.mem ((c.tc : Thread Cert.OdOutDwRefIdeal.nD Cert.OdOutDwRefIdeal.τ).loc Cert.OdOutDwRefIdeal.main_arg1) = m ((c.tc : Thread Cert.OdOutDwRefIdeal.nD Cert.OdOutDwRefIdeal.τ).loc Cert.OdOutDwRefIdeal.main_arg1))
      ∧ r.2.sem = fun _ => 0)

def quiescent_OdIn [hOdIn : Cert.OdIn.Facts] : Prop :=
  ∀ (m : (ℓ : Loc Cert.OdIn.nD Cert.OdIn.τ Cert.OdIn.sig) → Buf (Elt Bits) ℓ) (g : Dev Cert.OdIn.nD → PrngReg), Pre_OdIn m →
    θ_run (Cert.OdIn.defs (F := Bits)) (onTc (τ := Cert.OdIn.τ) (Cert.OdIn.main (F := Bits))) ⟨m, fun _ => 0, g⟩ (fun r => (∀ c : Dev Cert.OdIn.nD,
      r.2.mem ((c.tc : Thread Cert.OdIn.nD Cert.OdIn.τ).loc Cert.OdIn.main_arg0) = m ((c.tc : Thread Cert.OdIn.nD Cert.OdIn.τ).loc Cert.OdIn.main_arg0)
      ∧ r.2.mem ((c.tc : Thread Cert.OdIn.nD Cert.OdIn.τ).loc Cert.OdIn.main_arg1) = m ((c.tc : Thread Cert.OdIn.nD Cert.OdIn.τ).loc Cert.OdIn.main_arg1))
      ∧ r.2.sem = fun _ => 0)

def quiescent_OdInIdeal [hOdInIdeal : Cert.OdInIdeal.Facts] : Prop :=
  ∀ (m : (ℓ : Loc Cert.OdInIdeal.nD Cert.OdInIdeal.τ Cert.OdInIdeal.sig) → Buf (Elt Ideal) ℓ) (g : Dev Cert.OdInIdeal.nD → PrngReg), Pre_OdInIdeal m →
    θ_run (Cert.OdInIdeal.defs (F := Ideal)) (onTc (τ := Cert.OdInIdeal.τ) (Cert.OdInIdeal.main (F := Ideal))) ⟨m, fun _ => 0, g⟩ (fun r => (∀ c : Dev Cert.OdInIdeal.nD,
      r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
      ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ r.2.sem = fun _ => 0)

def quiescent_OdInRefIdeal [hOdInRefIdeal : Cert.OdInRefIdeal.Facts] : Prop :=
  ∀ (m : (ℓ : Loc Cert.OdInRefIdeal.nD Cert.OdInRefIdeal.τ Cert.OdInRefIdeal.sig) → Buf (Elt Ideal) ℓ) (g : Dev Cert.OdInRefIdeal.nD → PrngReg), Pre_OdInRefIdeal m →
    θ_run (Cert.OdInRefIdeal.defs (F := Ideal)) (onTc (τ := Cert.OdInRefIdeal.τ) (Cert.OdInRefIdeal.main (F := Ideal))) ⟨m, fun _ => 0, g⟩ (fun r => (∀ c : Dev Cert.OdInRefIdeal.nD,
      r.2.mem ((c.tc : Thread Cert.OdInRefIdeal.nD Cert.OdInRefIdeal.τ).loc Cert.OdInRefIdeal.main_arg0) = m ((c.tc : Thread Cert.OdInRefIdeal.nD Cert.OdInRefIdeal.τ).loc Cert.OdInRefIdeal.main_arg0)
      ∧ r.2.mem ((c.tc : Thread Cert.OdInRefIdeal.nD Cert.OdInRefIdeal.τ).loc Cert.OdInRefIdeal.main_arg1) = m ((c.tc : Thread Cert.OdInRefIdeal.nD Cert.OdInRefIdeal.τ).loc Cert.OdInRefIdeal.main_arg1))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ r.2.sem = fun _ => 0)

def quiescent_EvInRefIdeal [hEvInRefIdeal : Cert.EvInRefIdeal.Facts] : Prop :=
  ∀ (m : (ℓ : Loc Cert.EvInRefIdeal.nD Cert.EvInRefIdeal.τ Cert.EvInRefIdeal.sig) → Buf (Elt Ideal) ℓ) (g : Dev Cert.EvInRefIdeal.nD → PrngReg), Pre_EvInRefIdeal m →
    θ_run (Cert.EvInRefIdeal.defs (F := Ideal)) (onTc (τ := Cert.EvInRefIdeal.τ) (Cert.EvInRefIdeal.main (F := Ideal))) ⟨m, fun _ => 0, g⟩ (fun r => (∀ c : Dev Cert.EvInRefIdeal.nD,
      r.2.mem ((c.tc : Thread Cert.EvInRefIdeal.nD Cert.EvInRefIdeal.τ).loc Cert.EvInRefIdeal.main_arg0) = m ((c.tc : Thread Cert.EvInRefIdeal.nD Cert.EvInRefIdeal.τ).loc Cert.EvInRefIdeal.main_arg0)
      ∧ r.2.mem ((c.tc : Thread Cert.EvInRefIdeal.nD Cert.EvInRefIdeal.τ).loc Cert.EvInRefIdeal.main_arg1) = m ((c.tc : Thread Cert.EvInRefIdeal.nD Cert.EvInRefIdeal.τ).loc Cert.EvInRefIdeal.main_arg1))
      ∧ r.2.sem = fun _ => 0)

def quiescent_EvOut [hEvOut : Cert.EvOut.Facts] : Prop :=
  ∀ (m : (ℓ : Loc Cert.EvOut.nD Cert.EvOut.τ Cert.EvOut.sig) → Buf (Elt Bits) ℓ) (g : Dev Cert.EvOut.nD → PrngReg), Pre_EvOut m →
    θ_run (Cert.EvOut.defs (F := Bits)) (onTc (τ := Cert.EvOut.τ) (Cert.EvOut.main (F := Bits))) ⟨m, fun _ => 0, g⟩ (fun r => (∀ c : Dev Cert.EvOut.nD,
      r.2.mem ((c.tc : Thread Cert.EvOut.nD Cert.EvOut.τ).loc Cert.EvOut.main_arg0) = m ((c.tc : Thread Cert.EvOut.nD Cert.EvOut.τ).loc Cert.EvOut.main_arg0)
      ∧ r.2.mem ((c.tc : Thread Cert.EvOut.nD Cert.EvOut.τ).loc Cert.EvOut.main_arg1) = m ((c.tc : Thread Cert.EvOut.nD Cert.EvOut.τ).loc Cert.EvOut.main_arg1))
      ∧ r.2.sem = fun _ => 0)

def quiescent_EvOutIdeal [hEvOutIdeal : Cert.EvOutIdeal.Facts] : Prop :=
  ∀ (m : (ℓ : Loc Cert.EvOutIdeal.nD Cert.EvOutIdeal.τ Cert.EvOutIdeal.sig) → Buf (Elt Ideal) ℓ) (g : Dev Cert.EvOutIdeal.nD → PrngReg), Pre_EvOutIdeal m →
    θ_run (Cert.EvOutIdeal.defs (F := Ideal)) (onTc (τ := Cert.EvOutIdeal.τ) (Cert.EvOutIdeal.main (F := Ideal))) ⟨m, fun _ => 0, g⟩ (fun r => (∀ c : Dev Cert.EvOutIdeal.nD,
      r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
      ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1))
      ∧ r.2.sem = fun _ => 0)

def quiescent_EvOutRefIdeal [hEvOutRefIdeal : Cert.EvOutRefIdeal.Facts] : Prop :=
  ∀ (m : (ℓ : Loc Cert.EvOutRefIdeal.nD Cert.EvOutRefIdeal.τ Cert.EvOutRefIdeal.sig) → Buf (Elt Ideal) ℓ) (g : Dev Cert.EvOutRefIdeal.nD → PrngReg), Pre_EvOutRefIdeal m →
    θ_run (Cert.EvOutRefIdeal.defs (F := Ideal)) (onTc (τ := Cert.EvOutRefIdeal.τ) (Cert.EvOutRefIdeal.main (F := Ideal))) ⟨m, fun _ => 0, g⟩ (fun r => (∀ c : Dev Cert.EvOutRefIdeal.nD,
      r.2.mem ((c.tc : Thread Cert.EvOutRefIdeal.nD Cert.EvOutRefIdeal.τ).loc Cert.EvOutRefIdeal.main_arg0) = m ((c.tc : Thread Cert.EvOutRefIdeal.nD Cert.EvOutRefIdeal.τ).loc Cert.EvOutRefIdeal.main_arg0)
      ∧ r.2.mem ((c.tc : Thread Cert.EvOutRefIdeal.nD Cert.EvOutRefIdeal.τ).loc Cert.EvOutRefIdeal.main_arg1) = m ((c.tc : Thread Cert.EvOutRefIdeal.nD Cert.EvOutRefIdeal.τ).loc Cert.EvOutRefIdeal.main_arg1))
      ∧ r.2.sem = fun _ => 0)

def quiescent_OdOut [hOdOut : Cert.OdOut.Facts] : Prop :=
  ∀ (m : (ℓ : Loc Cert.OdOut.nD Cert.OdOut.τ Cert.OdOut.sig) → Buf (Elt Bits) ℓ) (g : Dev Cert.OdOut.nD → PrngReg), Pre_OdOut m →
    θ_run (Cert.OdOut.defs (F := Bits)) (onTc (τ := Cert.OdOut.τ) (Cert.OdOut.main (F := Bits))) ⟨m, fun _ => 0, g⟩ (fun r => (∀ c : Dev Cert.OdOut.nD,
      r.2.mem ((c.tc : Thread Cert.OdOut.nD Cert.OdOut.τ).loc Cert.OdOut.main_arg0) = m ((c.tc : Thread Cert.OdOut.nD Cert.OdOut.τ).loc Cert.OdOut.main_arg0)
      ∧ r.2.mem ((c.tc : Thread Cert.OdOut.nD Cert.OdOut.τ).loc Cert.OdOut.main_arg1) = m ((c.tc : Thread Cert.OdOut.nD Cert.OdOut.τ).loc Cert.OdOut.main_arg1))
      ∧ r.2.sem = fun _ => 0)

def quiescent_OdOutIdeal [hOdOutIdeal : Cert.OdOutIdeal.Facts] : Prop :=
  ∀ (m : (ℓ : Loc Cert.OdOutIdeal.nD Cert.OdOutIdeal.τ Cert.OdOutIdeal.sig) → Buf (Elt Ideal) ℓ) (g : Dev Cert.OdOutIdeal.nD → PrngReg), Pre_OdOutIdeal m →
    θ_run (Cert.OdOutIdeal.defs (F := Ideal)) (onTc (τ := Cert.OdOutIdeal.τ) (Cert.OdOutIdeal.main (F := Ideal))) ⟨m, fun _ => 0, g⟩ (fun r => (∀ c : Dev Cert.OdOutIdeal.nD,
      r.2.mem ((c.tc : Thread Cert.OdOutIdeal.nD Cert.OdOutIdeal.τ).loc Cert.OdOutIdeal.main_arg0) = m ((c.tc : Thread Cert.OdOutIdeal.nD Cert.OdOutIdeal.τ).loc Cert.OdOutIdeal.main_arg0)
      ∧ r.2.mem ((c.tc : Thread Cert.OdOutIdeal.nD Cert.OdOutIdeal.τ).loc Cert.OdOutIdeal.main_arg1) = m ((c.tc : Thread Cert.OdOutIdeal.nD Cert.OdOutIdeal.τ).loc Cert.OdOutIdeal.main_arg1))
      ∧ r.2.sem = fun _ => 0)

def quiescent_OdOutRefIdeal [hOdOutRefIdeal : Cert.OdOutRefIdeal.Facts] : Prop :=
  ∀ (m : (ℓ : Loc Cert.OdOutRefIdeal.nD Cert.OdOutRefIdeal.τ Cert.OdOutRefIdeal.sig) → Buf (Elt Ideal) ℓ) (g : Dev Cert.OdOutRefIdeal.nD → PrngReg), Pre_OdOutRefIdeal m →
    θ_run (Cert.OdOutRefIdeal.defs (F := Ideal)) (onTc (τ := Cert.OdOutRefIdeal.τ) (Cert.OdOutRefIdeal.main (F := Ideal))) ⟨m, fun _ => 0, g⟩ (fun r => (∀ c : Dev Cert.OdOutRefIdeal.nD,
      r.2.mem ((c.tc : Thread Cert.OdOutRefIdeal.nD Cert.OdOutRefIdeal.τ).loc Cert.OdOutRefIdeal.main_arg0) = m ((c.tc : Thread Cert.OdOutRefIdeal.nD Cert.OdOutRefIdeal.τ).loc Cert.OdOutRefIdeal.main_arg0)
      ∧ r.2.mem ((c.tc : Thread Cert.OdOutRefIdeal.nD Cert.OdOutRefIdeal.τ).loc Cert.OdOutRefIdeal.main_arg1) = m ((c.tc : Thread Cert.OdOutRefIdeal.nD Cert.OdOutRefIdeal.τ).loc Cert.OdOutRefIdeal.main_arg1))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3)
      ∧ r.2.mem ((c.tc : Thread Cert.AdaBwd.nD Cert.AdaBwd.τ).loc Cert.AdaBwd.main_arg4) = m ((c.tc : Thread Cert.AdaBwd.nD Cert.AdaBwd.τ).loc Cert.AdaBwd.main_arg4))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
      ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2)
      ∧ r.2.mem ((c.tc : Thread Cert.AdaBwdRefIdeal.nD Cert.AdaBwdRefIdeal.τ).loc Cert.AdaBwdRefIdeal.main_arg3) = m ((c.tc : Thread Cert.AdaBwdRefIdeal.nD Cert.AdaBwdRefIdeal.τ).loc Cert.AdaBwdRefIdeal.main_arg3)
      ∧ r.2.mem ((c.tc : Thread Cert.AdaBwdRefIdeal.nD Cert.AdaBwdRefIdeal.τ).loc Cert.AdaBwdRefIdeal.main_arg4) = m ((c.tc : Thread Cert.AdaBwdRefIdeal.nD Cert.AdaBwdRefIdeal.τ).loc Cert.AdaBwdRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInRefIdeal [hStepInRefIdeal : Cert.StepInRefIdeal.Facts] : Prop :=
  ∀ (m : (ℓ : Loc Cert.StepInRefIdeal.nD Cert.StepInRefIdeal.τ Cert.StepInRefIdeal.sig) → Buf (Elt Ideal) ℓ) (g : Dev Cert.StepInRefIdeal.nD → PrngReg), Pre_StepInRefIdeal m →
    θ_run (Cert.StepInRefIdeal.defs (F := Ideal)) (onTc (τ := Cert.StepInRefIdeal.τ) (Cert.StepInRefIdeal.main (F := Ideal))) ⟨m, fun _ => 0, g⟩ (fun r => (∀ c : Dev Cert.StepInRefIdeal.nD,
      r.2.mem ((c.tc : Thread Cert.StepInRefIdeal.nD Cert.StepInRefIdeal.τ).loc Cert.StepInRefIdeal.main_arg0) = m ((c.tc : Thread Cert.StepInRefIdeal.nD Cert.StepInRefIdeal.τ).loc Cert.StepInRefIdeal.main_arg0)
      ∧ r.2.mem ((c.tc : Thread Cert.StepInRefIdeal.nD Cert.StepInRefIdeal.τ).loc Cert.StepInRefIdeal.main_arg1) = m ((c.tc : Thread Cert.StepInRefIdeal.nD Cert.StepInRefIdeal.τ).loc Cert.StepInRefIdeal.main_arg1)
      ∧ r.2.mem ((c.tc : Thread Cert.StepInRefIdeal.nD Cert.StepInRefIdeal.τ).loc Cert.StepInRefIdeal.main_arg2) = m ((c.tc : Thread Cert.StepInRefIdeal.nD Cert.StepInRefIdeal.τ).loc Cert.StepInRefIdeal.main_arg2)
      ∧ r.2.mem ((c.tc : Thread Cert.StepInRefIdeal.nD Cert.StepInRefIdeal.τ).loc Cert.StepInRefIdeal.main_arg3) = m ((c.tc : Thread Cert.StepInRefIdeal.nD Cert.StepInRefIdeal.τ).loc Cert.StepInRefIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutRefIdeal [hStepOutRefIdeal : Cert.StepOutRefIdeal.Facts] : Prop :=
  ∀ (m : (ℓ : Loc Cert.StepOutRefIdeal.nD Cert.StepOutRefIdeal.τ Cert.StepOutRefIdeal.sig) → Buf (Elt Ideal) ℓ) (g : Dev Cert.StepOutRefIdeal.nD → PrngReg), Pre_StepOutRefIdeal m →
    θ_run (Cert.StepOutRefIdeal.defs (F := Ideal)) (onTc (τ := Cert.StepOutRefIdeal.τ) (Cert.StepOutRefIdeal.main (F := Ideal))) ⟨m, fun _ => 0, g⟩ (fun r => (∀ c : Dev Cert.StepOutRefIdeal.nD,
      r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
      ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
      ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
      ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3))
      ∧ r.2.sem = fun _ => 0)

def quiescent_StepOdIn [hStepOdIn : Cert.StepOdIn.Facts] : Prop :=
  ∀ (m : (ℓ : Loc Cert.StepOdIn.nD Cert.StepOdIn.τ Cert.StepOdIn.sig) → Buf (Elt Bits) ℓ) (g : Dev Cert.StepOdIn.nD → PrngReg), Pre_StepOdIn m →
    θ_run (Cert.StepOdIn.defs (F := Bits)) (onTc (τ := Cert.StepOdIn.τ) (Cert.StepOdIn.main (F := Bits))) ⟨m, fun _ => 0, g⟩ (fun r => (∀ c : Dev Cert.StepOdIn.nD,
      r.2.mem ((c.tc : Thread Cert.StepOdIn.nD Cert.StepOdIn.τ).loc Cert.StepOdIn.main_arg0) = m ((c.tc : Thread Cert.StepOdIn.nD Cert.StepOdIn.τ).loc Cert.StepOdIn.main_arg0)
      ∧ r.2.mem ((c.tc : Thread Cert.StepOdIn.nD Cert.StepOdIn.τ).loc Cert.StepOdIn.main_arg1) = m ((c.tc : Thread Cert.StepOdIn.nD Cert.StepOdIn.τ).loc Cert.StepOdIn.main_arg1)
      ∧ r.2.mem ((c.tc : Thread Cert.StepOdIn.nD Cert.StepOdIn.τ).loc Cert.StepOdIn.main_arg2) = m ((c.tc : Thread Cert.StepOdIn.nD Cert.StepOdIn.τ).loc Cert.StepOdIn.main_arg2)
      ∧ r.2.mem ((c.tc : Thread Cert.StepOdIn.nD Cert.StepOdIn.τ).loc Cert.StepOdIn.main_arg3) = m ((c.tc : Thread Cert.StepOdIn.nD Cert.StepOdIn.τ).loc Cert.StepOdIn.main_arg3))
      ∧ r.2.sem = fun _ => 0)

def quiescent_StepOdInIdeal [hStepOdInIdeal : Cert.StepOdInIdeal.Facts] : Prop :=
  ∀ (m : (ℓ : Loc Cert.StepOdInIdeal.nD Cert.StepOdInIdeal.τ Cert.StepOdInIdeal.sig) → Buf (Elt Ideal) ℓ) (g : Dev Cert.StepOdInIdeal.nD → PrngReg), Pre_StepOdInIdeal m →
    θ_run (Cert.StepOdInIdeal.defs (F := Ideal)) (onTc (τ := Cert.StepOdInIdeal.τ) (Cert.StepOdInIdeal.main (F := Ideal))) ⟨m, fun _ => 0, g⟩ (fun r => (∀ c : Dev Cert.StepOdInIdeal.nD,
      r.2.mem ((c.tc : Thread Cert.StepOdInIdeal.nD Cert.StepOdInIdeal.τ).loc Cert.StepOdInIdeal.main_arg0) = m ((c.tc : Thread Cert.StepOdInIdeal.nD Cert.StepOdInIdeal.τ).loc Cert.StepOdInIdeal.main_arg0)
      ∧ r.2.mem ((c.tc : Thread Cert.StepOdInIdeal.nD Cert.StepOdInIdeal.τ).loc Cert.StepOdInIdeal.main_arg1) = m ((c.tc : Thread Cert.StepOdInIdeal.nD Cert.StepOdInIdeal.τ).loc Cert.StepOdInIdeal.main_arg1)
      ∧ r.2.mem ((c.tc : Thread Cert.StepOdInIdeal.nD Cert.StepOdInIdeal.τ).loc Cert.StepOdInIdeal.main_arg2) = m ((c.tc : Thread Cert.StepOdInIdeal.nD Cert.StepOdInIdeal.τ).loc Cert.StepOdInIdeal.main_arg2)
      ∧ r.2.mem ((c.tc : Thread Cert.StepOdInIdeal.nD Cert.StepOdInIdeal.τ).loc Cert.StepOdInIdeal.main_arg3) = m ((c.tc : Thread Cert.StepOdInIdeal.nD Cert.StepOdInIdeal.τ).loc Cert.StepOdInIdeal.main_arg3))
      ∧ r.2.sem = fun _ => 0)

def quiescent_StepOdInRefIdeal [hStepOdInRefIdeal : Cert.StepOdInRefIdeal.Facts] : Prop :=
  ∀ (m : (ℓ : Loc Cert.StepOdInRefIdeal.nD Cert.StepOdInRefIdeal.τ Cert.StepOdInRefIdeal.sig) → Buf (Elt Ideal) ℓ) (g : Dev Cert.StepOdInRefIdeal.nD → PrngReg), Pre_StepOdInRefIdeal m →
    θ_run (Cert.StepOdInRefIdeal.defs (F := Ideal)) (onTc (τ := Cert.StepOdInRefIdeal.τ) (Cert.StepOdInRefIdeal.main (F := Ideal))) ⟨m, fun _ => 0, g⟩ (fun r => (∀ c : Dev Cert.StepOdInRefIdeal.nD,
      r.2.mem ((c.tc : Thread Cert.StepOdInRefIdeal.nD Cert.StepOdInRefIdeal.τ).loc Cert.StepOdInRefIdeal.main_arg0) = m ((c.tc : Thread Cert.StepOdInRefIdeal.nD Cert.StepOdInRefIdeal.τ).loc Cert.StepOdInRefIdeal.main_arg0)
      ∧ r.2.mem ((c.tc : Thread Cert.StepOdInRefIdeal.nD Cert.StepOdInRefIdeal.τ).loc Cert.StepOdInRefIdeal.main_arg1) = m ((c.tc : Thread Cert.StepOdInRefIdeal.nD Cert.StepOdInRefIdeal.τ).loc Cert.StepOdInRefIdeal.main_arg1)
      ∧ r.2.mem ((c.tc : Thread Cert.StepOdInRefIdeal.nD Cert.StepOdInRefIdeal.τ).loc Cert.StepOdInRefIdeal.main_arg2) = m ((c.tc : Thread Cert.StepOdInRefIdeal.nD Cert.StepOdInRefIdeal.τ).loc Cert.StepOdInRefIdeal.main_arg2)
      ∧ r.2.mem ((c.tc : Thread Cert.StepOdInRefIdeal.nD Cert.StepOdInRefIdeal.τ).loc Cert.StepOdInRefIdeal.main_arg3) = m ((c.tc : Thread Cert.StepOdInRefIdeal.nD Cert.StepOdInRefIdeal.τ).loc Cert.StepOdInRefIdeal.main_arg3))
      ∧ r.2.sem = fun _ => 0)

def quiescent_StepPool [hStepPool : Cert.StepPool.Facts] : Prop :=
  ∀ (m : (ℓ : Loc Cert.StepPool.nD Cert.StepPool.τ Cert.StepPool.sig) → Buf (Elt Bits) ℓ) (g : Dev Cert.StepPool.nD → PrngReg), Pre_StepPool m →
    θ_run (Cert.StepPool.defs (F := Bits)) (onTc (τ := Cert.StepPool.τ) (Cert.StepPool.main (F := Bits))) ⟨m, fun _ => 0, g⟩ (fun r => (∀ c : Dev Cert.StepPool.nD,
      r.2.mem ((c.tc : Thread Cert.StepPool.nD Cert.StepPool.τ).loc Cert.StepPool.main_arg0) = m ((c.tc : Thread Cert.StepPool.nD Cert.StepPool.τ).loc Cert.StepPool.main_arg0)
      ∧ r.2.mem ((c.tc : Thread Cert.StepPool.nD Cert.StepPool.τ).loc Cert.StepPool.main_arg1) = m ((c.tc : Thread Cert.StepPool.nD Cert.StepPool.τ).loc Cert.StepPool.main_arg1)
      ∧ r.2.mem ((c.tc : Thread Cert.StepPool.nD Cert.StepPool.τ).loc Cert.StepPool.main_arg2) = m ((c.tc : Thread Cert.StepPool.nD Cert.StepPool.τ).loc Cert.StepPool.main_arg2)
      ∧ r.2.mem ((c.tc : Thread Cert.StepPool.nD Cert.StepPool.τ).loc Cert.StepPool.main_arg3) = m ((c.tc : Thread Cert.StepPool.nD Cert.StepPool.τ).loc Cert.StepPool.main_arg3))
      ∧ r.2.sem = fun _ => 0)

def quiescent_StepPoolIdeal [hStepPoolIdeal : Cert.StepPoolIdeal.Facts] : Prop :=
  ∀ (m : (ℓ : Loc Cert.StepPoolIdeal.nD Cert.StepPoolIdeal.τ Cert.StepPoolIdeal.sig) → Buf (Elt Ideal) ℓ) (g : Dev Cert.StepPoolIdeal.nD → PrngReg), Pre_StepPoolIdeal m →
    θ_run (Cert.StepPoolIdeal.defs (F := Ideal)) (onTc (τ := Cert.StepPoolIdeal.τ) (Cert.StepPoolIdeal.main (F := Ideal))) ⟨m, fun _ => 0, g⟩ (fun r => (∀ c : Dev Cert.StepPoolIdeal.nD,
      r.2.mem ((c.tc : Thread Cert.StepPoolIdeal.nD Cert.StepPoolIdeal.τ).loc Cert.StepPoolIdeal.main_arg0) = m ((c.tc : Thread Cert.StepPoolIdeal.nD Cert.StepPoolIdeal.τ).loc Cert.StepPoolIdeal.main_arg0)
      ∧ r.2.mem ((c.tc : Thread Cert.StepPoolIdeal.nD Cert.StepPoolIdeal.τ).loc Cert.StepPoolIdeal.main_arg1) = m ((c.tc : Thread Cert.StepPoolIdeal.nD Cert.StepPoolIdeal.τ).loc Cert.StepPoolIdeal.main_arg1)
      ∧ r.2.mem ((c.tc : Thread Cert.StepPoolIdeal.nD Cert.StepPoolIdeal.τ).loc Cert.StepPoolIdeal.main_arg2) = m ((c.tc : Thread Cert.StepPoolIdeal.nD Cert.StepPoolIdeal.τ).loc Cert.StepPoolIdeal.main_arg2)
      ∧ r.2.mem ((c.tc : Thread Cert.StepPoolIdeal.nD Cert.StepPoolIdeal.τ).loc Cert.StepPoolIdeal.main_arg3) = m ((c.tc : Thread Cert.StepPoolIdeal.nD Cert.StepPoolIdeal.τ).loc Cert.StepPoolIdeal.main_arg3))
      ∧ r.2.sem = fun _ => 0)

def quiescent_StepPoolRefIdeal [hStepPoolRefIdeal : Cert.StepPoolRefIdeal.Facts] : Prop :=
  ∀ (m : (ℓ : Loc Cert.StepPoolRefIdeal.nD Cert.StepPoolRefIdeal.τ Cert.StepPoolRefIdeal.sig) → Buf (Elt Ideal) ℓ) (g : Dev Cert.StepPoolRefIdeal.nD → PrngReg), Pre_StepPoolRefIdeal m →
    θ_run (Cert.StepPoolRefIdeal.defs (F := Ideal)) (onTc (τ := Cert.StepPoolRefIdeal.τ) (Cert.StepPoolRefIdeal.main (F := Ideal))) ⟨m, fun _ => 0, g⟩ (fun r => (∀ c : Dev Cert.StepPoolRefIdeal.nD,
      r.2.mem ((c.tc : Thread Cert.StepPoolRefIdeal.nD Cert.StepPoolRefIdeal.τ).loc Cert.StepPoolRefIdeal.main_arg0) = m ((c.tc : Thread Cert.StepPoolRefIdeal.nD Cert.StepPoolRefIdeal.τ).loc Cert.StepPoolRefIdeal.main_arg0)
      ∧ r.2.mem ((c.tc : Thread Cert.StepPoolRefIdeal.nD Cert.StepPoolRefIdeal.τ).loc Cert.StepPoolRefIdeal.main_arg1) = m ((c.tc : Thread Cert.StepPoolRefIdeal.nD Cert.StepPoolRefIdeal.τ).loc Cert.StepPoolRefIdeal.main_arg1)
      ∧ r.2.mem ((c.tc : Thread Cert.StepPoolRefIdeal.nD Cert.StepPoolRefIdeal.τ).loc Cert.StepPoolRefIdeal.main_arg2) = m ((c.tc : Thread Cert.StepPoolRefIdeal.nD Cert.StepPoolRefIdeal.τ).loc Cert.StepPoolRefIdeal.main_arg2)
      ∧ r.2.mem ((c.tc : Thread Cert.StepPoolRefIdeal.nD Cert.StepPoolRefIdeal.τ).loc Cert.StepPoolRefIdeal.main_arg3) = m ((c.tc : Thread Cert.StepPoolRefIdeal.nD Cert.StepPoolRefIdeal.τ).loc Cert.StepPoolRefIdeal.main_arg3))
      ∧ r.2.sem = fun _ => 0)

def quiescent_StepAdaB [hStepAdaB : Cert.StepAdaB.Facts] : Prop :=
  ∀ (m : (ℓ : Loc Cert.StepAdaB.nD Cert.StepAdaB.τ Cert.StepAdaB.sig) → Buf (Elt Bits) ℓ) (g : Dev Cert.StepAdaB.nD → PrngReg), Pre_StepAdaB m →
    θ_run (Cert.StepAdaB.defs (F := Bits)) (onTc (τ := Cert.StepAdaB.τ) (Cert.StepAdaB.main (F := Bits))) ⟨m, fun _ => 0, g⟩ (fun r => (∀ c : Dev Cert.StepAdaB.nD,
      r.2.mem ((c.tc : Thread Cert.StepAdaB.nD Cert.StepAdaB.τ).loc Cert.StepAdaB.main_arg0) = m ((c.tc : Thread Cert.StepAdaB.nD Cert.StepAdaB.τ).loc Cert.StepAdaB.main_arg0)
      ∧ r.2.mem ((c.tc : Thread Cert.StepAdaB.nD Cert.StepAdaB.τ).loc Cert.StepAdaB.main_arg1) = m ((c.tc : Thread Cert.StepAdaB.nD Cert.StepAdaB.τ).loc Cert.StepAdaB.main_arg1)
      ∧ r.2.mem ((c.tc : Thread Cert.StepAdaB.nD Cert.StepAdaB.τ).loc Cert.StepAdaB.main_arg2) = m ((c.tc : Thread Cert.StepAdaB.nD Cert.StepAdaB.τ).loc Cert.StepAdaB.main_arg2)
      ∧ r.2.mem ((c.tc : Thread Cert.StepAdaB.nD Cert.StepAdaB.τ).loc Cert.StepAdaB.main_arg3) = m ((c.tc : Thread Cert.StepAdaB.nD Cert.StepAdaB.τ).loc Cert.StepAdaB.main_arg3))
      ∧ r.2.sem = fun _ => 0)

def quiescent_StepAdaBIdeal [hStepAdaBIdeal : Cert.StepAdaBIdeal.Facts] : Prop :=
  ∀ (m : (ℓ : Loc Cert.StepAdaBIdeal.nD Cert.StepAdaBIdeal.τ Cert.StepAdaBIdeal.sig) → Buf (Elt Ideal) ℓ) (g : Dev Cert.StepAdaBIdeal.nD → PrngReg), Pre_StepAdaBIdeal m →
    θ_run (Cert.StepAdaBIdeal.defs (F := Ideal)) (onTc (τ := Cert.StepAdaBIdeal.τ) (Cert.StepAdaBIdeal.main (F := Ideal))) ⟨m, fun _ => 0, g⟩ (fun r => (∀ c : Dev Cert.StepAdaBIdeal.nD,
      r.2.mem ((c.tc : Thread Cert.StepAdaBIdeal.nD Cert.StepAdaBIdeal.τ).loc Cert.StepAdaBIdeal.main_arg0) = m ((c.tc : Thread Cert.StepAdaBIdeal.nD Cert.StepAdaBIdeal.τ).loc Cert.StepAdaBIdeal.main_arg0)
      ∧ r.2.mem ((c.tc : Thread Cert.StepAdaBIdeal.nD Cert.StepAdaBIdeal.τ).loc Cert.StepAdaBIdeal.main_arg1) = m ((c.tc : Thread Cert.StepAdaBIdeal.nD Cert.StepAdaBIdeal.τ).loc Cert.StepAdaBIdeal.main_arg1)
      ∧ r.2.mem ((c.tc : Thread Cert.StepAdaBIdeal.nD Cert.StepAdaBIdeal.τ).loc Cert.StepAdaBIdeal.main_arg2) = m ((c.tc : Thread Cert.StepAdaBIdeal.nD Cert.StepAdaBIdeal.τ).loc Cert.StepAdaBIdeal.main_arg2)
      ∧ r.2.mem ((c.tc : Thread Cert.StepAdaBIdeal.nD Cert.StepAdaBIdeal.τ).loc Cert.StepAdaBIdeal.main_arg3) = m ((c.tc : Thread Cert.StepAdaBIdeal.nD Cert.StepAdaBIdeal.τ).loc Cert.StepAdaBIdeal.main_arg3))
      ∧ r.2.sem = fun _ => 0)

def quiescent_StepAdaBRefIdeal [hStepAdaBRefIdeal : Cert.StepAdaBRefIdeal.Facts] : Prop :=
  ∀ (m : (ℓ : Loc Cert.StepAdaBRefIdeal.nD Cert.StepAdaBRefIdeal.τ Cert.StepAdaBRefIdeal.sig) → Buf (Elt Ideal) ℓ) (g : Dev Cert.StepAdaBRefIdeal.nD → PrngReg), Pre_StepAdaBRefIdeal m →
    θ_run (Cert.StepAdaBRefIdeal.defs (F := Ideal)) (onTc (τ := Cert.StepAdaBRefIdeal.τ) (Cert.StepAdaBRefIdeal.main (F := Ideal))) ⟨m, fun _ => 0, g⟩ (fun r => (∀ c : Dev Cert.StepAdaBRefIdeal.nD,
      r.2.mem ((c.tc : Thread Cert.StepAdaBRefIdeal.nD Cert.StepAdaBRefIdeal.τ).loc Cert.StepAdaBRefIdeal.main_arg0) = m ((c.tc : Thread Cert.StepAdaBRefIdeal.nD Cert.StepAdaBRefIdeal.τ).loc Cert.StepAdaBRefIdeal.main_arg0)
      ∧ r.2.mem ((c.tc : Thread Cert.StepAdaBRefIdeal.nD Cert.StepAdaBRefIdeal.τ).loc Cert.StepAdaBRefIdeal.main_arg1) = m ((c.tc : Thread Cert.StepAdaBRefIdeal.nD Cert.StepAdaBRefIdeal.τ).loc Cert.StepAdaBRefIdeal.main_arg1)
      ∧ r.2.mem ((c.tc : Thread Cert.StepAdaBRefIdeal.nD Cert.StepAdaBRefIdeal.τ).loc Cert.StepAdaBRefIdeal.main_arg2) = m ((c.tc : Thread Cert.StepAdaBRefIdeal.nD Cert.StepAdaBRefIdeal.τ).loc Cert.StepAdaBRefIdeal.main_arg2)
      ∧ r.2.mem ((c.tc : Thread Cert.StepAdaBRefIdeal.nD Cert.StepAdaBRefIdeal.τ).loc Cert.StepAdaBRefIdeal.main_arg3) = m ((c.tc : Thread Cert.StepAdaBRefIdeal.nD Cert.StepAdaBRefIdeal.τ).loc Cert.StepAdaBRefIdeal.main_arg3))
      ∧ r.2.sem = fun _ => 0)

def quiescent_StepGain [hStepGain : Cert.StepGain.Facts] : Prop :=
  ∀ (m : (ℓ : Loc Cert.StepGain.nD Cert.StepGain.τ Cert.StepGain.sig) → Buf (Elt Bits) ℓ) (g : Dev Cert.StepGain.nD → PrngReg), Pre_StepGain m →
    θ_run (Cert.StepGain.defs (F := Bits)) (onTc (τ := Cert.StepGain.τ) (Cert.StepGain.main (F := Bits))) ⟨m, fun _ => 0, g⟩ (fun r => (∀ c : Dev Cert.StepGain.nD,
      r.2.mem ((c.tc : Thread Cert.StepGain.nD Cert.StepGain.τ).loc Cert.StepGain.main_arg0) = m ((c.tc : Thread Cert.StepGain.nD Cert.StepGain.τ).loc Cert.StepGain.main_arg0)
      ∧ r.2.mem ((c.tc : Thread Cert.StepGain.nD Cert.StepGain.τ).loc Cert.StepGain.main_arg1) = m ((c.tc : Thread Cert.StepGain.nD Cert.StepGain.τ).loc Cert.StepGain.main_arg1)
      ∧ r.2.mem ((c.tc : Thread Cert.StepGain.nD Cert.StepGain.τ).loc Cert.StepGain.main_arg2) = m ((c.tc : Thread Cert.StepGain.nD Cert.StepGain.τ).loc Cert.StepGain.main_arg2)
      ∧ r.2.mem ((c.tc : Thread Cert.StepGain.nD Cert.StepGain.τ).loc Cert.StepGain.main_arg3) = m ((c.tc : Thread Cert.StepGain.nD Cert.StepGain.τ).loc Cert.StepGain.main_arg3))
      ∧ r.2.sem = fun _ => 0)

def quiescent_StepGainIdeal [hStepGainIdeal : Cert.StepGainIdeal.Facts] : Prop :=
  ∀ (m : (ℓ : Loc Cert.StepGainIdeal.nD Cert.StepGainIdeal.τ Cert.StepGainIdeal.sig) → Buf (Elt Ideal) ℓ) (g : Dev Cert.StepGainIdeal.nD → PrngReg), Pre_StepGainIdeal m →
    θ_run (Cert.StepGainIdeal.defs (F := Ideal)) (onTc (τ := Cert.StepGainIdeal.τ) (Cert.StepGainIdeal.main (F := Ideal))) ⟨m, fun _ => 0, g⟩ (fun r => (∀ c : Dev Cert.StepGainIdeal.nD,
      r.2.mem ((c.tc : Thread Cert.StepGainIdeal.nD Cert.StepGainIdeal.τ).loc Cert.StepGainIdeal.main_arg0) = m ((c.tc : Thread Cert.StepGainIdeal.nD Cert.StepGainIdeal.τ).loc Cert.StepGainIdeal.main_arg0)
      ∧ r.2.mem ((c.tc : Thread Cert.StepGainIdeal.nD Cert.StepGainIdeal.τ).loc Cert.StepGainIdeal.main_arg1) = m ((c.tc : Thread Cert.StepGainIdeal.nD Cert.StepGainIdeal.τ).loc Cert.StepGainIdeal.main_arg1)
      ∧ r.2.mem ((c.tc : Thread Cert.StepGainIdeal.nD Cert.StepGainIdeal.τ).loc Cert.StepGainIdeal.main_arg2) = m ((c.tc : Thread Cert.StepGainIdeal.nD Cert.StepGainIdeal.τ).loc Cert.StepGainIdeal.main_arg2)
      ∧ r.2.mem ((c.tc : Thread Cert.StepGainIdeal.nD Cert.StepGainIdeal.τ).loc Cert.StepGainIdeal.main_arg3) = m ((c.tc : Thread Cert.StepGainIdeal.nD Cert.StepGainIdeal.τ).loc Cert.StepGainIdeal.main_arg3))
      ∧ r.2.sem = fun _ => 0)

def quiescent_StepGainRefIdeal [hStepGainRefIdeal : Cert.StepGainRefIdeal.Facts] : Prop :=
  ∀ (m : (ℓ : Loc Cert.StepGainRefIdeal.nD Cert.StepGainRefIdeal.τ Cert.StepGainRefIdeal.sig) → Buf (Elt Ideal) ℓ) (g : Dev Cert.StepGainRefIdeal.nD → PrngReg), Pre_StepGainRefIdeal m →
    θ_run (Cert.StepGainRefIdeal.defs (F := Ideal)) (onTc (τ := Cert.StepGainRefIdeal.τ) (Cert.StepGainRefIdeal.main (F := Ideal))) ⟨m, fun _ => 0, g⟩ (fun r => (∀ c : Dev Cert.StepGainRefIdeal.nD,
      r.2.mem ((c.tc : Thread Cert.StepGainRefIdeal.nD Cert.StepGainRefIdeal.τ).loc Cert.StepGainRefIdeal.main_arg0) = m ((c.tc : Thread Cert.StepGainRefIdeal.nD Cert.StepGainRefIdeal.τ).loc Cert.StepGainRefIdeal.main_arg0)
      ∧ r.2.mem ((c.tc : Thread Cert.StepGainRefIdeal.nD Cert.StepGainRefIdeal.τ).loc Cert.StepGainRefIdeal.main_arg1) = m ((c.tc : Thread Cert.StepGainRefIdeal.nD Cert.StepGainRefIdeal.τ).loc Cert.StepGainRefIdeal.main_arg1)
      ∧ r.2.mem ((c.tc : Thread Cert.StepGainRefIdeal.nD Cert.StepGainRefIdeal.τ).loc Cert.StepGainRefIdeal.main_arg2) = m ((c.tc : Thread Cert.StepGainRefIdeal.nD Cert.StepGainRefIdeal.τ).loc Cert.StepGainRefIdeal.main_arg2)
      ∧ r.2.mem ((c.tc : Thread Cert.StepGainRefIdeal.nD Cert.StepGainRefIdeal.τ).loc Cert.StepGainRefIdeal.main_arg3) = m ((c.tc : Thread Cert.StepGainRefIdeal.nD Cert.StepGainRefIdeal.τ).loc Cert.StepGainRefIdeal.main_arg3))
      ∧ r.2.sem = fun _ => 0)

def quiescent_StepHalf [hStepHalf : Cert.StepHalf.Facts] : Prop :=
  ∀ (m : (ℓ : Loc Cert.StepHalf.nD Cert.StepHalf.τ Cert.StepHalf.sig) → Buf (Elt Bits) ℓ) (g : Dev Cert.StepHalf.nD → PrngReg), Pre_StepHalf m →
    θ_run (Cert.StepHalf.defs (F := Bits)) (onTc (τ := Cert.StepHalf.τ) (Cert.StepHalf.main (F := Bits))) ⟨m, fun _ => 0, g⟩ (fun r => (∀ c : Dev Cert.StepHalf.nD,
      r.2.mem ((c.tc : Thread Cert.StepHalf.nD Cert.StepHalf.τ).loc Cert.StepHalf.main_arg0) = m ((c.tc : Thread Cert.StepHalf.nD Cert.StepHalf.τ).loc Cert.StepHalf.main_arg0)
      ∧ r.2.mem ((c.tc : Thread Cert.StepHalf.nD Cert.StepHalf.τ).loc Cert.StepHalf.main_arg1) = m ((c.tc : Thread Cert.StepHalf.nD Cert.StepHalf.τ).loc Cert.StepHalf.main_arg1)
      ∧ r.2.mem ((c.tc : Thread Cert.StepHalf.nD Cert.StepHalf.τ).loc Cert.StepHalf.main_arg2) = m ((c.tc : Thread Cert.StepHalf.nD Cert.StepHalf.τ).loc Cert.StepHalf.main_arg2)
      ∧ r.2.mem ((c.tc : Thread Cert.StepHalf.nD Cert.StepHalf.τ).loc Cert.StepHalf.main_arg3) = m ((c.tc : Thread Cert.StepHalf.nD Cert.StepHalf.τ).loc Cert.StepHalf.main_arg3))
      ∧ r.2.sem = fun _ => 0)

def quiescent_StepHalfIdeal [hStepHalfIdeal : Cert.StepHalfIdeal.Facts] : Prop :=
  ∀ (m : (ℓ : Loc Cert.StepHalfIdeal.nD Cert.StepHalfIdeal.τ Cert.StepHalfIdeal.sig) → Buf (Elt Ideal) ℓ) (g : Dev Cert.StepHalfIdeal.nD → PrngReg), Pre_StepHalfIdeal m →
    θ_run (Cert.StepHalfIdeal.defs (F := Ideal)) (onTc (τ := Cert.StepHalfIdeal.τ) (Cert.StepHalfIdeal.main (F := Ideal))) ⟨m, fun _ => 0, g⟩ (fun r => (∀ c : Dev Cert.StepHalfIdeal.nD,
      r.2.mem ((c.tc : Thread Cert.StepHalfIdeal.nD Cert.StepHalfIdeal.τ).loc Cert.StepHalfIdeal.main_arg0) = m ((c.tc : Thread Cert.StepHalfIdeal.nD Cert.StepHalfIdeal.τ).loc Cert.StepHalfIdeal.main_arg0)
      ∧ r.2.mem ((c.tc : Thread Cert.StepHalfIdeal.nD Cert.StepHalfIdeal.τ).loc Cert.StepHalfIdeal.main_arg1) = m ((c.tc : Thread Cert.StepHalfIdeal.nD Cert.StepHalfIdeal.τ).loc Cert.StepHalfIdeal.main_arg1)
      ∧ r.2.mem ((c.tc : Thread Cert.StepHalfIdeal.nD Cert.StepHalfIdeal.τ).loc Cert.StepHalfIdeal.main_arg2) = m ((c.tc : Thread Cert.StepHalfIdeal.nD Cert.StepHalfIdeal.τ).loc Cert.StepHalfIdeal.main_arg2)
      ∧ r.2.mem ((c.tc : Thread Cert.StepHalfIdeal.nD Cert.StepHalfIdeal.τ).loc Cert.StepHalfIdeal.main_arg3) = m ((c.tc : Thread Cert.StepHalfIdeal.nD Cert.StepHalfIdeal.τ).loc Cert.StepHalfIdeal.main_arg3))
      ∧ r.2.sem = fun _ => 0)

def quiescent_StepHalfRefIdeal [hStepHalfRefIdeal : Cert.StepHalfRefIdeal.Facts] : Prop :=
  ∀ (m : (ℓ : Loc Cert.StepHalfRefIdeal.nD Cert.StepHalfRefIdeal.τ Cert.StepHalfRefIdeal.sig) → Buf (Elt Ideal) ℓ) (g : Dev Cert.StepHalfRefIdeal.nD → PrngReg), Pre_StepHalfRefIdeal m →
    θ_run (Cert.StepHalfRefIdeal.defs (F := Ideal)) (onTc (τ := Cert.StepHalfRefIdeal.τ) (Cert.StepHalfRefIdeal.main (F := Ideal))) ⟨m, fun _ => 0, g⟩ (fun r => (∀ c : Dev Cert.StepHalfRefIdeal.nD,
      r.2.mem ((c.tc : Thread Cert.StepHalfRefIdeal.nD Cert.StepHalfRefIdeal.τ).loc Cert.StepHalfRefIdeal.main_arg0) = m ((c.tc : Thread Cert.StepHalfRefIdeal.nD Cert.StepHalfRefIdeal.τ).loc Cert.StepHalfRefIdeal.main_arg0)
      ∧ r.2.mem ((c.tc : Thread Cert.StepHalfRefIdeal.nD Cert.StepHalfRefIdeal.τ).loc Cert.StepHalfRefIdeal.main_arg1) = m ((c.tc : Thread Cert.StepHalfRefIdeal.nD Cert.StepHalfRefIdeal.τ).loc Cert.StepHalfRefIdeal.main_arg1)
      ∧ r.2.mem ((c.tc : Thread Cert.StepHalfRefIdeal.nD Cert.StepHalfRefIdeal.τ).loc Cert.StepHalfRefIdeal.main_arg2) = m ((c.tc : Thread Cert.StepHalfRefIdeal.nD Cert.StepHalfRefIdeal.τ).loc Cert.StepHalfRefIdeal.main_arg2)
      ∧ r.2.mem ((c.tc : Thread Cert.StepHalfRefIdeal.nD Cert.StepHalfRefIdeal.τ).loc Cert.StepHalfRefIdeal.main_arg3) = m ((c.tc : Thread Cert.StepHalfRefIdeal.nD Cert.StepHalfRefIdeal.τ).loc Cert.StepHalfRefIdeal.main_arg3))
      ∧ r.2.sem = fun _ => 0)

def quiescent_StepConv [hStepConv : Cert.StepConv.Facts] : Prop :=
  ∀ (m : (ℓ : Loc Cert.StepConv.nD Cert.StepConv.τ Cert.StepConv.sig) → Buf (Elt Bits) ℓ) (g : Dev Cert.StepConv.nD → PrngReg), Pre_StepConv m →
    θ_run (Cert.StepConv.defs (F := Bits)) (onTc (τ := Cert.StepConv.τ) (Cert.StepConv.main (F := Bits))) ⟨m, fun _ => 0, g⟩ (fun r => (∀ c : Dev Cert.StepConv.nD,
      r.2.mem ((c.tc : Thread Cert.StepConv.nD Cert.StepConv.τ).loc Cert.StepConv.main_arg0) = m ((c.tc : Thread Cert.StepConv.nD Cert.StepConv.τ).loc Cert.StepConv.main_arg0)
      ∧ r.2.mem ((c.tc : Thread Cert.StepConv.nD Cert.StepConv.τ).loc Cert.StepConv.main_arg1) = m ((c.tc : Thread Cert.StepConv.nD Cert.StepConv.τ).loc Cert.StepConv.main_arg1)
      ∧ r.2.mem ((c.tc : Thread Cert.StepConv.nD Cert.StepConv.τ).loc Cert.StepConv.main_arg2) = m ((c.tc : Thread Cert.StepConv.nD Cert.StepConv.τ).loc Cert.StepConv.main_arg2)
      ∧ r.2.mem ((c.tc : Thread Cert.StepConv.nD Cert.StepConv.τ).loc Cert.StepConv.main_arg3) = m ((c.tc : Thread Cert.StepConv.nD Cert.StepConv.τ).loc Cert.StepConv.main_arg3))
      ∧ r.2.sem = fun _ => 0)

def quiescent_StepConvIdeal [hStepConvIdeal : Cert.StepConvIdeal.Facts] : Prop :=
  ∀ (m : (ℓ : Loc Cert.StepConvIdeal.nD Cert.StepConvIdeal.τ Cert.StepConvIdeal.sig) → Buf (Elt Ideal) ℓ) (g : Dev Cert.StepConvIdeal.nD → PrngReg), Pre_StepConvIdeal m →
    θ_run (Cert.StepConvIdeal.defs (F := Ideal)) (onTc (τ := Cert.StepConvIdeal.τ) (Cert.StepConvIdeal.main (F := Ideal))) ⟨m, fun _ => 0, g⟩ (fun r => (∀ c : Dev Cert.StepConvIdeal.nD,
      r.2.mem ((c.tc : Thread Cert.StepConvIdeal.nD Cert.StepConvIdeal.τ).loc Cert.StepConvIdeal.main_arg0) = m ((c.tc : Thread Cert.StepConvIdeal.nD Cert.StepConvIdeal.τ).loc Cert.StepConvIdeal.main_arg0)
      ∧ r.2.mem ((c.tc : Thread Cert.StepConvIdeal.nD Cert.StepConvIdeal.τ).loc Cert.StepConvIdeal.main_arg1) = m ((c.tc : Thread Cert.StepConvIdeal.nD Cert.StepConvIdeal.τ).loc Cert.StepConvIdeal.main_arg1)
      ∧ r.2.mem ((c.tc : Thread Cert.StepConvIdeal.nD Cert.StepConvIdeal.τ).loc Cert.StepConvIdeal.main_arg2) = m ((c.tc : Thread Cert.StepConvIdeal.nD Cert.StepConvIdeal.τ).loc Cert.StepConvIdeal.main_arg2)
      ∧ r.2.mem ((c.tc : Thread Cert.StepConvIdeal.nD Cert.StepConvIdeal.τ).loc Cert.StepConvIdeal.main_arg3) = m ((c.tc : Thread Cert.StepConvIdeal.nD Cert.StepConvIdeal.τ).loc Cert.StepConvIdeal.main_arg3))
      ∧ r.2.sem = fun _ => 0)

def quiescent_StepConvRefIdeal [hStepConvRefIdeal : Cert.StepConvRefIdeal.Facts] : Prop :=
  ∀ (m : (ℓ : Loc Cert.StepConvRefIdeal.nD Cert.StepConvRefIdeal.τ Cert.StepConvRefIdeal.sig) → Buf (Elt Ideal) ℓ) (g : Dev Cert.StepConvRefIdeal.nD → PrngReg), Pre_StepConvRefIdeal m →
    θ_run (Cert.StepConvRefIdeal.defs (F := Ideal)) (onTc (τ := Cert.StepConvRefIdeal.τ) (Cert.StepConvRefIdeal.main (F := Ideal))) ⟨m, fun _ => 0, g⟩ (fun r => (∀ c : Dev Cert.StepConvRefIdeal.nD,
      r.2.mem ((c.tc : Thread Cert.StepConvRefIdeal.nD Cert.StepConvRefIdeal.τ).loc Cert.StepConvRefIdeal.main_arg0) = m ((c.tc : Thread Cert.StepConvRefIdeal.nD Cert.StepConvRefIdeal.τ).loc Cert.StepConvRefIdeal.main_arg0)
      ∧ r.2.mem ((c.tc : Thread Cert.StepConvRefIdeal.nD Cert.StepConvRefIdeal.τ).loc Cert.StepConvRefIdeal.main_arg1) = m ((c.tc : Thread Cert.StepConvRefIdeal.nD Cert.StepConvRefIdeal.τ).loc Cert.StepConvRefIdeal.main_arg1)
      ∧ r.2.mem ((c.tc : Thread Cert.StepConvRefIdeal.nD Cert.StepConvRefIdeal.τ).loc Cert.StepConvRefIdeal.main_arg2) = m ((c.tc : Thread Cert.StepConvRefIdeal.nD Cert.StepConvRefIdeal.τ).loc Cert.StepConvRefIdeal.main_arg2)
      ∧ r.2.mem ((c.tc : Thread Cert.StepConvRefIdeal.nD Cert.StepConvRefIdeal.τ).loc Cert.StepConvRefIdeal.main_arg3) = m ((c.tc : Thread Cert.StepConvRefIdeal.nD Cert.StepConvRefIdeal.τ).loc Cert.StepConvRefIdeal.main_arg3))
      ∧ r.2.sem = fun _ => 0)

def quiescent_StepOnorm [hStepOnorm : Cert.StepOnorm.Facts] : Prop :=
  ∀ (m : (ℓ : Loc Cert.StepOnorm.nD Cert.StepOnorm.τ Cert.StepOnorm.sig) → Buf (Elt Bits) ℓ) (g : Dev Cert.StepOnorm.nD → PrngReg), Pre_StepOnorm m →
    θ_run (Cert.StepOnorm.defs (F := Bits)) (onTc (τ := Cert.StepOnorm.τ) (Cert.StepOnorm.main (F := Bits))) ⟨m, fun _ => 0, g⟩ (fun r => (∀ c : Dev Cert.StepOnorm.nD,
      r.2.mem ((c.tc : Thread Cert.StepOnorm.nD Cert.StepOnorm.τ).loc Cert.StepOnorm.main_arg0) = m ((c.tc : Thread Cert.StepOnorm.nD Cert.StepOnorm.τ).loc Cert.StepOnorm.main_arg0)
      ∧ r.2.mem ((c.tc : Thread Cert.StepOnorm.nD Cert.StepOnorm.τ).loc Cert.StepOnorm.main_arg1) = m ((c.tc : Thread Cert.StepOnorm.nD Cert.StepOnorm.τ).loc Cert.StepOnorm.main_arg1)
      ∧ r.2.mem ((c.tc : Thread Cert.StepOnorm.nD Cert.StepOnorm.τ).loc Cert.StepOnorm.main_arg2) = m ((c.tc : Thread Cert.StepOnorm.nD Cert.StepOnorm.τ).loc Cert.StepOnorm.main_arg2)
      ∧ r.2.mem ((c.tc : Thread Cert.StepOnorm.nD Cert.StepOnorm.τ).loc Cert.StepOnorm.main_arg3) = m ((c.tc : Thread Cert.StepOnorm.nD Cert.StepOnorm.τ).loc Cert.StepOnorm.main_arg3))
      ∧ r.2.sem = fun _ => 0)

def quiescent_StepOnormIdeal [hStepOnormIdeal : Cert.StepOnormIdeal.Facts] : Prop :=
  ∀ (m : (ℓ : Loc Cert.StepOnormIdeal.nD Cert.StepOnormIdeal.τ Cert.StepOnormIdeal.sig) → Buf (Elt Ideal) ℓ) (g : Dev Cert.StepOnormIdeal.nD → PrngReg), Pre_StepOnormIdeal m →
    θ_run (Cert.StepOnormIdeal.defs (F := Ideal)) (onTc (τ := Cert.StepOnormIdeal.τ) (Cert.StepOnormIdeal.main (F := Ideal))) ⟨m, fun _ => 0, g⟩ (fun r => (∀ c : Dev Cert.StepOnormIdeal.nD,
      r.2.mem ((c.tc : Thread Cert.StepOnormIdeal.nD Cert.StepOnormIdeal.τ).loc Cert.StepOnormIdeal.main_arg0) = m ((c.tc : Thread Cert.StepOnormIdeal.nD Cert.StepOnormIdeal.τ).loc Cert.StepOnormIdeal.main_arg0)
      ∧ r.2.mem ((c.tc : Thread Cert.StepOnormIdeal.nD Cert.StepOnormIdeal.τ).loc Cert.StepOnormIdeal.main_arg1) = m ((c.tc : Thread Cert.StepOnormIdeal.nD Cert.StepOnormIdeal.τ).loc Cert.StepOnormIdeal.main_arg1)
      ∧ r.2.mem ((c.tc : Thread Cert.StepOnormIdeal.nD Cert.StepOnormIdeal.τ).loc Cert.StepOnormIdeal.main_arg2) = m ((c.tc : Thread Cert.StepOnormIdeal.nD Cert.StepOnormIdeal.τ).loc Cert.StepOnormIdeal.main_arg2)
      ∧ r.2.mem ((c.tc : Thread Cert.StepOnormIdeal.nD Cert.StepOnormIdeal.τ).loc Cert.StepOnormIdeal.main_arg3) = m ((c.tc : Thread Cert.StepOnormIdeal.nD Cert.StepOnormIdeal.τ).loc Cert.StepOnormIdeal.main_arg3))
      ∧ r.2.sem = fun _ => 0)

def quiescent_StepOnormRefIdeal [hStepOnormRefIdeal : Cert.StepOnormRefIdeal.Facts] : Prop :=
  ∀ (m : (ℓ : Loc Cert.StepOnormRefIdeal.nD Cert.StepOnormRefIdeal.τ Cert.StepOnormRefIdeal.sig) → Buf (Elt Ideal) ℓ) (g : Dev Cert.StepOnormRefIdeal.nD → PrngReg), Pre_StepOnormRefIdeal m →
    θ_run (Cert.StepOnormRefIdeal.defs (F := Ideal)) (onTc (τ := Cert.StepOnormRefIdeal.τ) (Cert.StepOnormRefIdeal.main (F := Ideal))) ⟨m, fun _ => 0, g⟩ (fun r => (∀ c : Dev Cert.StepOnormRefIdeal.nD,
      r.2.mem ((c.tc : Thread Cert.StepOnormRefIdeal.nD Cert.StepOnormRefIdeal.τ).loc Cert.StepOnormRefIdeal.main_arg0) = m ((c.tc : Thread Cert.StepOnormRefIdeal.nD Cert.StepOnormRefIdeal.τ).loc Cert.StepOnormRefIdeal.main_arg0)
      ∧ r.2.mem ((c.tc : Thread Cert.StepOnormRefIdeal.nD Cert.StepOnormRefIdeal.τ).loc Cert.StepOnormRefIdeal.main_arg1) = m ((c.tc : Thread Cert.StepOnormRefIdeal.nD Cert.StepOnormRefIdeal.τ).loc Cert.StepOnormRefIdeal.main_arg1)
      ∧ r.2.mem ((c.tc : Thread Cert.StepOnormRefIdeal.nD Cert.StepOnormRefIdeal.τ).loc Cert.StepOnormRefIdeal.main_arg2) = m ((c.tc : Thread Cert.StepOnormRefIdeal.nD Cert.StepOnormRefIdeal.τ).loc Cert.StepOnormRefIdeal.main_arg2)
      ∧ r.2.mem ((c.tc : Thread Cert.StepOnormRefIdeal.nD Cert.StepOnormRefIdeal.τ).loc Cert.StepOnormRefIdeal.main_arg3) = m ((c.tc : Thread Cert.StepOnormRefIdeal.nD Cert.StepOnormRefIdeal.τ).loc Cert.StepOnormRefIdeal.main_arg3))
      ∧ r.2.sem = fun _ => 0)

def quiescent_StepLb [hStepLb : Cert.StepLb.Facts] : Prop :=
  ∀ (m : (ℓ : Loc Cert.StepLb.nD Cert.StepLb.τ Cert.StepLb.sig) → Buf (Elt Bits) ℓ) (g : Dev Cert.StepLb.nD → PrngReg), Pre_StepLb m →
    θ_run (Cert.StepLb.defs (F := Bits)) (onTc (τ := Cert.StepLb.τ) (Cert.StepLb.main (F := Bits))) ⟨m, fun _ => 0, g⟩ (fun r => (∀ c : Dev Cert.StepLb.nD,
      r.2.mem ((c.tc : Thread Cert.StepLb.nD Cert.StepLb.τ).loc Cert.StepLb.main_arg0) = m ((c.tc : Thread Cert.StepLb.nD Cert.StepLb.τ).loc Cert.StepLb.main_arg0)
      ∧ r.2.mem ((c.tc : Thread Cert.StepLb.nD Cert.StepLb.τ).loc Cert.StepLb.main_arg1) = m ((c.tc : Thread Cert.StepLb.nD Cert.StepLb.τ).loc Cert.StepLb.main_arg1)
      ∧ r.2.mem ((c.tc : Thread Cert.StepLb.nD Cert.StepLb.τ).loc Cert.StepLb.main_arg2) = m ((c.tc : Thread Cert.StepLb.nD Cert.StepLb.τ).loc Cert.StepLb.main_arg2)
      ∧ r.2.mem ((c.tc : Thread Cert.StepLb.nD Cert.StepLb.τ).loc Cert.StepLb.main_arg3) = m ((c.tc : Thread Cert.StepLb.nD Cert.StepLb.τ).loc Cert.StepLb.main_arg3))
      ∧ r.2.sem = fun _ => 0)

def quiescent_StepLbIdeal [hStepLbIdeal : Cert.StepLbIdeal.Facts] : Prop :=
  ∀ (m : (ℓ : Loc Cert.StepLbIdeal.nD Cert.StepLbIdeal.τ Cert.StepLbIdeal.sig) → Buf (Elt Ideal) ℓ) (g : Dev Cert.StepLbIdeal.nD → PrngReg), Pre_StepLbIdeal m →
    θ_run (Cert.StepLbIdeal.defs (F := Ideal)) (onTc (τ := Cert.StepLbIdeal.τ) (Cert.StepLbIdeal.main (F := Ideal))) ⟨m, fun _ => 0, g⟩ (fun r => (∀ c : Dev Cert.StepLbIdeal.nD,
      r.2.mem ((c.tc : Thread Cert.StepLbIdeal.nD Cert.StepLbIdeal.τ).loc Cert.StepLbIdeal.main_arg0) = m ((c.tc : Thread Cert.StepLbIdeal.nD Cert.StepLbIdeal.τ).loc Cert.StepLbIdeal.main_arg0)
      ∧ r.2.mem ((c.tc : Thread Cert.StepLbIdeal.nD Cert.StepLbIdeal.τ).loc Cert.StepLbIdeal.main_arg1) = m ((c.tc : Thread Cert.StepLbIdeal.nD Cert.StepLbIdeal.τ).loc Cert.StepLbIdeal.main_arg1)
      ∧ r.2.mem ((c.tc : Thread Cert.StepLbIdeal.nD Cert.StepLbIdeal.τ).loc Cert.StepLbIdeal.main_arg2) = m ((c.tc : Thread Cert.StepLbIdeal.nD Cert.StepLbIdeal.τ).loc Cert.StepLbIdeal.main_arg2)
      ∧ r.2.mem ((c.tc : Thread Cert.StepLbIdeal.nD Cert.StepLbIdeal.τ).loc Cert.StepLbIdeal.main_arg3) = m ((c.tc : Thread Cert.StepLbIdeal.nD Cert.StepLbIdeal.τ).loc Cert.StepLbIdeal.main_arg3))
      ∧ r.2.sem = fun _ => 0)

def quiescent_StepLbRefIdeal [hStepLbRefIdeal : Cert.StepLbRefIdeal.Facts] : Prop :=
  ∀ (m : (ℓ : Loc Cert.StepLbRefIdeal.nD Cert.StepLbRefIdeal.τ Cert.StepLbRefIdeal.sig) → Buf (Elt Ideal) ℓ) (g : Dev Cert.StepLbRefIdeal.nD → PrngReg), Pre_StepLbRefIdeal m →
    θ_run (Cert.StepLbRefIdeal.defs (F := Ideal)) (onTc (τ := Cert.StepLbRefIdeal.τ) (Cert.StepLbRefIdeal.main (F := Ideal))) ⟨m, fun _ => 0, g⟩ (fun r => (∀ c : Dev Cert.StepLbRefIdeal.nD,
      r.2.mem ((c.tc : Thread Cert.StepLbRefIdeal.nD Cert.StepLbRefIdeal.τ).loc Cert.StepLbRefIdeal.main_arg0) = m ((c.tc : Thread Cert.StepLbRefIdeal.nD Cert.StepLbRefIdeal.τ).loc Cert.StepLbRefIdeal.main_arg0)
      ∧ r.2.mem ((c.tc : Thread Cert.StepLbRefIdeal.nD Cert.StepLbRefIdeal.τ).loc Cert.StepLbRefIdeal.main_arg1) = m ((c.tc : Thread Cert.StepLbRefIdeal.nD Cert.StepLbRefIdeal.τ).loc Cert.StepLbRefIdeal.main_arg1)
      ∧ r.2.mem ((c.tc : Thread Cert.StepLbRefIdeal.nD Cert.StepLbRefIdeal.τ).loc Cert.StepLbRefIdeal.main_arg2) = m ((c.tc : Thread Cert.StepLbRefIdeal.nD Cert.StepLbRefIdeal.τ).loc Cert.StepLbRefIdeal.main_arg2)
      ∧ r.2.mem ((c.tc : Thread Cert.StepLbRefIdeal.nD Cert.StepLbRefIdeal.τ).loc Cert.StepLbRefIdeal.main_arg3) = m ((c.tc : Thread Cert.StepLbRefIdeal.nD Cert.StepLbRefIdeal.τ).loc Cert.StepLbRefIdeal.main_arg3))
      ∧ r.2.sem = fun _ => 0)

def quiescent_StepCtx [hStepCtx : Cert.StepCtx.Facts] : Prop :=
  ∀ (m : (ℓ : Loc Cert.StepCtx.nD Cert.StepCtx.τ Cert.StepCtx.sig) → Buf (Elt Bits) ℓ) (g : Dev Cert.StepCtx.nD → PrngReg), Pre_StepCtx m →
    θ_run (Cert.StepCtx.defs (F := Bits)) (onTc (τ := Cert.StepCtx.τ) (Cert.StepCtx.main (F := Bits))) ⟨m, fun _ => 0, g⟩ (fun r => (∀ c : Dev Cert.StepCtx.nD,
      r.2.mem ((c.tc : Thread Cert.StepCtx.nD Cert.StepCtx.τ).loc Cert.StepCtx.main_arg0) = m ((c.tc : Thread Cert.StepCtx.nD Cert.StepCtx.τ).loc Cert.StepCtx.main_arg0)
      ∧ r.2.mem ((c.tc : Thread Cert.StepCtx.nD Cert.StepCtx.τ).loc Cert.StepCtx.main_arg1) = m ((c.tc : Thread Cert.StepCtx.nD Cert.StepCtx.τ).loc Cert.StepCtx.main_arg1)
      ∧ r.2.mem ((c.tc : Thread Cert.StepCtx.nD Cert.StepCtx.τ).loc Cert.StepCtx.main_arg2) = m ((c.tc : Thread Cert.StepCtx.nD Cert.StepCtx.τ).loc Cert.StepCtx.main_arg2)
      ∧ r.2.mem ((c.tc : Thread Cert.StepCtx.nD Cert.StepCtx.τ).loc Cert.StepCtx.main_arg3) = m ((c.tc : Thread Cert.StepCtx.nD Cert.StepCtx.τ).loc Cert.StepCtx.main_arg3))
      ∧ r.2.sem = fun _ => 0)

def quiescent_StepCtxIdeal [hStepCtxIdeal : Cert.StepCtxIdeal.Facts] : Prop :=
  ∀ (m : (ℓ : Loc Cert.StepCtxIdeal.nD Cert.StepCtxIdeal.τ Cert.StepCtxIdeal.sig) → Buf (Elt Ideal) ℓ) (g : Dev Cert.StepCtxIdeal.nD → PrngReg), Pre_StepCtxIdeal m →
    θ_run (Cert.StepCtxIdeal.defs (F := Ideal)) (onTc (τ := Cert.StepCtxIdeal.τ) (Cert.StepCtxIdeal.main (F := Ideal))) ⟨m, fun _ => 0, g⟩ (fun r => (∀ c : Dev Cert.StepCtxIdeal.nD,
      r.2.mem ((c.tc : Thread Cert.StepCtxIdeal.nD Cert.StepCtxIdeal.τ).loc Cert.StepCtxIdeal.main_arg0) = m ((c.tc : Thread Cert.StepCtxIdeal.nD Cert.StepCtxIdeal.τ).loc Cert.StepCtxIdeal.main_arg0)
      ∧ r.2.mem ((c.tc : Thread Cert.StepCtxIdeal.nD Cert.StepCtxIdeal.τ).loc Cert.StepCtxIdeal.main_arg1) = m ((c.tc : Thread Cert.StepCtxIdeal.nD Cert.StepCtxIdeal.τ).loc Cert.StepCtxIdeal.main_arg1)
      ∧ r.2.mem ((c.tc : Thread Cert.StepCtxIdeal.nD Cert.StepCtxIdeal.τ).loc Cert.StepCtxIdeal.main_arg2) = m ((c.tc : Thread Cert.StepCtxIdeal.nD Cert.StepCtxIdeal.τ).loc Cert.StepCtxIdeal.main_arg2)
      ∧ r.2.mem ((c.tc : Thread Cert.StepCtxIdeal.nD Cert.StepCtxIdeal.τ).loc Cert.StepCtxIdeal.main_arg3) = m ((c.tc : Thread Cert.StepCtxIdeal.nD Cert.StepCtxIdeal.τ).loc Cert.StepCtxIdeal.main_arg3))
      ∧ r.2.sem = fun _ => 0)

def quiescent_StepCtxRefIdeal [hStepCtxRefIdeal : Cert.StepCtxRefIdeal.Facts] : Prop :=
  ∀ (m : (ℓ : Loc Cert.StepCtxRefIdeal.nD Cert.StepCtxRefIdeal.τ Cert.StepCtxRefIdeal.sig) → Buf (Elt Ideal) ℓ) (g : Dev Cert.StepCtxRefIdeal.nD → PrngReg), Pre_StepCtxRefIdeal m →
    θ_run (Cert.StepCtxRefIdeal.defs (F := Ideal)) (onTc (τ := Cert.StepCtxRefIdeal.τ) (Cert.StepCtxRefIdeal.main (F := Ideal))) ⟨m, fun _ => 0, g⟩ (fun r => (∀ c : Dev Cert.StepCtxRefIdeal.nD,
      r.2.mem ((c.tc : Thread Cert.StepCtxRefIdeal.nD Cert.StepCtxRefIdeal.τ).loc Cert.StepCtxRefIdeal.main_arg0) = m ((c.tc : Thread Cert.StepCtxRefIdeal.nD Cert.StepCtxRefIdeal.τ).loc Cert.StepCtxRefIdeal.main_arg0)
      ∧ r.2.mem ((c.tc : Thread Cert.StepCtxRefIdeal.nD Cert.StepCtxRefIdeal.τ).loc Cert.StepCtxRefIdeal.main_arg1) = m ((c.tc : Thread Cert.StepCtxRefIdeal.nD Cert.StepCtxRefIdeal.τ).loc Cert.StepCtxRefIdeal.main_arg1)
      ∧ r.2.mem ((c.tc : Thread Cert.StepCtxRefIdeal.nD Cert.StepCtxRefIdeal.τ).loc Cert.StepCtxRefIdeal.main_arg2) = m ((c.tc : Thread Cert.StepCtxRefIdeal.nD Cert.StepCtxRefIdeal.τ).loc Cert.StepCtxRefIdeal.main_arg2)
      ∧ r.2.mem ((c.tc : Thread Cert.StepCtxRefIdeal.nD Cert.StepCtxRefIdeal.τ).loc Cert.StepCtxRefIdeal.main_arg3) = m ((c.tc : Thread Cert.StepCtxRefIdeal.nD Cert.StepCtxRefIdeal.τ).loc Cert.StepCtxRefIdeal.main_arg3))
      ∧ r.2.sem = fun _ => 0)

def quiescent_CCtx [hCCtx : Cert.CCtx.Facts] : Prop :=
  ∀ (m : (ℓ : Loc Cert.CCtx.nD Cert.CCtx.τ Cert.CCtx.sig) → Buf (Elt Bits) ℓ) (g : Dev Cert.CCtx.nD → PrngReg), Pre_CCtx m →
    θ_run (Cert.CCtx.defs (F := Bits)) (onTc (τ := Cert.CCtx.τ) (Cert.CCtx.main (F := Bits))) ⟨m, fun _ => 0, g⟩ (fun r => (∀ c : Dev Cert.CCtx.nD,
      r.2.mem ((c.tc : Thread Cert.CCtx.nD Cert.CCtx.τ).loc Cert.CCtx.main_arg0) = m ((c.tc : Thread Cert.CCtx.nD Cert.CCtx.τ).loc Cert.CCtx.main_arg0)
      ∧ r.2.mem ((c.tc : Thread Cert.CCtx.nD Cert.CCtx.τ).loc Cert.CCtx.main_arg1) = m ((c.tc : Thread Cert.CCtx.nD Cert.CCtx.τ).loc Cert.CCtx.main_arg1))
      ∧ r.2.sem = fun _ => 0)

def quiescent_CCtxIdeal [hCCtxIdeal : Cert.CCtxIdeal.Facts] : Prop :=
  ∀ (m : (ℓ : Loc Cert.CCtxIdeal.nD Cert.CCtxIdeal.τ Cert.CCtxIdeal.sig) → Buf (Elt Ideal) ℓ) (g : Dev Cert.CCtxIdeal.nD → PrngReg), Pre_CCtxIdeal m →
    θ_run (Cert.CCtxIdeal.defs (F := Ideal)) (onTc (τ := Cert.CCtxIdeal.τ) (Cert.CCtxIdeal.main (F := Ideal))) ⟨m, fun _ => 0, g⟩ (fun r => (∀ c : Dev Cert.CCtxIdeal.nD,
      r.2.mem ((c.tc : Thread Cert.CCtxIdeal.nD Cert.CCtxIdeal.τ).loc Cert.CCtxIdeal.main_arg0) = m ((c.tc : Thread Cert.CCtxIdeal.nD Cert.CCtxIdeal.τ).loc Cert.CCtxIdeal.main_arg0)
      ∧ r.2.mem ((c.tc : Thread Cert.CCtxIdeal.nD Cert.CCtxIdeal.τ).loc Cert.CCtxIdeal.main_arg1) = m ((c.tc : Thread Cert.CCtxIdeal.nD Cert.CCtxIdeal.τ).loc Cert.CCtxIdeal.main_arg1))
      ∧ r.2.sem = fun _ => 0)

def quiescent_CCtxIdeal_pre_finite_ctx [hCCtxIdeal : Cert.CCtxIdeal.Facts] [hPre_finite_ctx : Cert.Pre_finite_ctx.Facts] : Prop :=
  ∀ (m : (ℓ : Loc Cert.CCtxIdeal.nD Cert.CCtxIdeal.τ Cert.CCtxIdeal.sig) → Buf (Elt Ideal) ℓ) (g : Dev Cert.CCtxIdeal.nD → PrngReg), Pre_CCtxIdeal_finite_ctx m →
    θ_run (Cert.CCtxIdeal.defs (F := Ideal)) (onTc (τ := Cert.CCtxIdeal.τ) (Cert.CCtxIdeal.main (F := Ideal))) ⟨m, fun _ => 0, g⟩ (fun r => (∀ c : Dev Cert.CCtxIdeal.nD,
      r.2.mem ((c.tc : Thread Cert.CCtxIdeal.nD Cert.CCtxIdeal.τ).loc Cert.CCtxIdeal.main_arg0) = m ((c.tc : Thread Cert.CCtxIdeal.nD Cert.CCtxIdeal.τ).loc Cert.CCtxIdeal.main_arg0)
      ∧ r.2.mem ((c.tc : Thread Cert.CCtxIdeal.nD Cert.CCtxIdeal.τ).loc Cert.CCtxIdeal.main_arg1) = m ((c.tc : Thread Cert.CCtxIdeal.nD Cert.CCtxIdeal.τ).loc Cert.CCtxIdeal.main_arg1))
      ∧ r.2.sem = fun _ => 0)

def quiescent_CCtxRefIdeal [hCCtxRefIdeal : Cert.CCtxRefIdeal.Facts] : Prop :=
  ∀ (m : (ℓ : Loc Cert.CCtxRefIdeal.nD Cert.CCtxRefIdeal.τ Cert.CCtxRefIdeal.sig) → Buf (Elt Ideal) ℓ) (g : Dev Cert.CCtxRefIdeal.nD → PrngReg), Pre_CCtxRefIdeal m →
    θ_run (Cert.CCtxRefIdeal.defs (F := Ideal)) (onTc (τ := Cert.CCtxRefIdeal.τ) (Cert.CCtxRefIdeal.main (F := Ideal))) ⟨m, fun _ => 0, g⟩ (fun r => (∀ c : Dev Cert.CCtxRefIdeal.nD,
      r.2.mem ((c.tc : Thread Cert.CCtxRefIdeal.nD Cert.CCtxRefIdeal.τ).loc Cert.CCtxRefIdeal.main_arg0) = m ((c.tc : Thread Cert.CCtxRefIdeal.nD Cert.CCtxRefIdeal.τ).loc Cert.CCtxRefIdeal.main_arg0)
      ∧ r.2.mem ((c.tc : Thread Cert.CCtxRefIdeal.nD Cert.CCtxRefIdeal.τ).loc Cert.CCtxRefIdeal.main_arg1) = m ((c.tc : Thread Cert.CCtxRefIdeal.nD Cert.CCtxRefIdeal.τ).loc Cert.CCtxRefIdeal.main_arg1))
      ∧ r.2.sem = fun _ => 0)

def quiescent_CCtxRefIdeal_pre_finite_ctx [hCCtxRefIdeal : Cert.CCtxRefIdeal.Facts] [hPre_finite_ctx : Cert.Pre_finite_ctx.Facts] : Prop :=
  ∀ (m : (ℓ : Loc Cert.CCtxRefIdeal.nD Cert.CCtxRefIdeal.τ Cert.CCtxRefIdeal.sig) → Buf (Elt Ideal) ℓ) (g : Dev Cert.CCtxRefIdeal.nD → PrngReg), Pre_CCtxRefIdeal_finite_ctx m →
    θ_run (Cert.CCtxRefIdeal.defs (F := Ideal)) (onTc (τ := Cert.CCtxRefIdeal.τ) (Cert.CCtxRefIdeal.main (F := Ideal))) ⟨m, fun _ => 0, g⟩ (fun r => (∀ c : Dev Cert.CCtxRefIdeal.nD,
      r.2.mem ((c.tc : Thread Cert.CCtxRefIdeal.nD Cert.CCtxRefIdeal.τ).loc Cert.CCtxRefIdeal.main_arg0) = m ((c.tc : Thread Cert.CCtxRefIdeal.nD Cert.CCtxRefIdeal.τ).loc Cert.CCtxRefIdeal.main_arg0)
      ∧ r.2.mem ((c.tc : Thread Cert.CCtxRefIdeal.nD Cert.CCtxRefIdeal.τ).loc Cert.CCtxRefIdeal.main_arg1) = m ((c.tc : Thread Cert.CCtxRefIdeal.nD Cert.CCtxRefIdeal.τ).loc Cert.CCtxRefIdeal.main_arg1))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3)
      ∧ r.2.mem ((c.tc : Thread Cert.NormB.nD Cert.NormB.τ).loc Cert.NormB.main_arg4) = m ((c.tc : Thread Cert.NormB.nD Cert.NormB.τ).loc Cert.NormB.main_arg4))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
      ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2)
      ∧ r.2.mem ((c.tc : Thread Cert.NormBRefIdeal.nD Cert.NormBRefIdeal.τ).loc Cert.NormBRefIdeal.main_arg3) = m ((c.tc : Thread Cert.NormBRefIdeal.nD Cert.NormBRefIdeal.τ).loc Cert.NormBRefIdeal.main_arg3)
      ∧ r.2.mem ((c.tc : Thread Cert.NormBRefIdeal.nD Cert.NormBRefIdeal.τ).loc Cert.NormBRefIdeal.main_arg4) = m ((c.tc : Thread Cert.NormBRefIdeal.nD Cert.NormBRefIdeal.τ).loc Cert.NormBRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2)
      ∧ r.2.mem ((c.tc : Thread Cert.ConvF.nD Cert.ConvF.τ).loc Cert.ConvF.main_arg3) = m ((c.tc : Thread Cert.ConvF.nD Cert.ConvF.τ).loc Cert.ConvF.main_arg3))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2)
      ∧ r.2.mem ((c.tc : Thread Cert.ConvFIdeal.nD Cert.ConvFIdeal.τ).loc Cert.ConvFIdeal.main_arg3) = m ((c.tc : Thread Cert.ConvFIdeal.nD Cert.ConvFIdeal.τ).loc Cert.ConvFIdeal.main_arg3))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1)
      ∧ r.2.mem ((c.tc : Thread Cert.ConvFRefIdeal.nD Cert.ConvFRefIdeal.τ).loc Cert.ConvFRefIdeal.main_arg2) = m ((c.tc : Thread Cert.ConvFRefIdeal.nD Cert.ConvFRefIdeal.τ).loc Cert.ConvFRefIdeal.main_arg2)
      ∧ r.2.mem ((c.tc : Thread Cert.ConvFRefIdeal.nD Cert.ConvFRefIdeal.τ).loc Cert.ConvFRefIdeal.main_arg3) = m ((c.tc : Thread Cert.ConvFRefIdeal.nD Cert.ConvFRefIdeal.τ).loc Cert.ConvFRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0))
      ∧ r.2.sem = fun _ => 0)

def quiescent_NormP [hNormP : Cert.NormP.Facts] : Prop :=
  ∀ (m : (ℓ : Loc Cert.NormP.nD Cert.NormP.τ Cert.NormP.sig) → Buf (Elt Bits) ℓ) (g : Dev Cert.NormP.nD → PrngReg), Pre_NormP m →
    θ_run (Cert.NormP.defs (F := Bits)) (onTc (τ := Cert.NormP.τ) (Cert.NormP.main (F := Bits))) ⟨m, fun _ => 0, g⟩ (fun r => (∀ c : Dev Cert.NormP.nD,
      r.2.mem ((c.tc : Thread Cert.NormP.nD Cert.NormP.τ).loc Cert.NormP.main_arg0) = m ((c.tc : Thread Cert.NormP.nD Cert.NormP.τ).loc Cert.NormP.main_arg0)
      ∧ r.2.mem ((c.tc : Thread Cert.NormP.nD Cert.NormP.τ).loc Cert.NormP.main_arg1) = m ((c.tc : Thread Cert.NormP.nD Cert.NormP.τ).loc Cert.NormP.main_arg1)
      ∧ r.2.mem ((c.tc : Thread Cert.NormP.nD Cert.NormP.τ).loc Cert.NormP.main_arg2) = m ((c.tc : Thread Cert.NormP.nD Cert.NormP.τ).loc Cert.NormP.main_arg2)
      ∧ r.2.mem ((c.tc : Thread Cert.NormP.nD Cert.NormP.τ).loc Cert.NormP.main_arg3) = m ((c.tc : Thread Cert.NormP.nD Cert.NormP.τ).loc Cert.NormP.main_arg3)
      ∧ r.2.mem ((c.tc : Thread Cert.NormP.nD Cert.NormP.τ).loc Cert.NormP.main_arg4) = m ((c.tc : Thread Cert.NormP.nD Cert.NormP.τ).loc Cert.NormP.main_arg4)
      ∧ r.2.mem ((c.tc : Thread Cert.NormP.nD Cert.NormP.τ).loc Cert.NormP.main_arg5) = m ((c.tc : Thread Cert.NormP.nD Cert.NormP.τ).loc Cert.NormP.main_arg5)
      ∧ r.2.mem ((c.tc : Thread Cert.NormP.nD Cert.NormP.τ).loc Cert.NormP.main_arg6) = m ((c.tc : Thread Cert.NormP.nD Cert.NormP.τ).loc Cert.NormP.main_arg6)
      ∧ r.2.mem ((c.tc : Thread Cert.NormP.nD Cert.NormP.τ).loc Cert.NormP.main_arg7) = m ((c.tc : Thread Cert.NormP.nD Cert.NormP.τ).loc Cert.NormP.main_arg7))
      ∧ r.2.sem = fun _ => 0)

def quiescent_NormPIdeal [hNormPIdeal : Cert.NormPIdeal.Facts] : Prop :=
  ∀ (m : (ℓ : Loc Cert.NormPIdeal.nD Cert.NormPIdeal.τ Cert.NormPIdeal.sig) → Buf (Elt Ideal) ℓ) (g : Dev Cert.NormPIdeal.nD → PrngReg), Pre_NormPIdeal m →
    θ_run (Cert.NormPIdeal.defs (F := Ideal)) (onTc (τ := Cert.NormPIdeal.τ) (Cert.NormPIdeal.main (F := Ideal))) ⟨m, fun _ => 0, g⟩ (fun r => (∀ c : Dev Cert.NormPIdeal.nD,
      r.2.mem ((c.tc : Thread Cert.NormPIdeal.nD Cert.NormPIdeal.τ).loc Cert.NormPIdeal.main_arg0) = m ((c.tc : Thread Cert.NormPIdeal.nD Cert.NormPIdeal.τ).loc Cert.NormPIdeal.main_arg0)
      ∧ r.2.mem ((c.tc : Thread Cert.NormPIdeal.nD Cert.NormPIdeal.τ).loc Cert.NormPIdeal.main_arg1) = m ((c.tc : Thread Cert.NormPIdeal.nD Cert.NormPIdeal.τ).loc Cert.NormPIdeal.main_arg1)
      ∧ r.2.mem ((c.tc : Thread Cert.NormPIdeal.nD Cert.NormPIdeal.τ).loc Cert.NormPIdeal.main_arg2) = m ((c.tc : Thread Cert.NormPIdeal.nD Cert.NormPIdeal.τ).loc Cert.NormPIdeal.main_arg2)
      ∧ r.2.mem ((c.tc : Thread Cert.NormPIdeal.nD Cert.NormPIdeal.τ).loc Cert.NormPIdeal.main_arg3) = m ((c.tc : Thread Cert.NormPIdeal.nD Cert.NormPIdeal.τ).loc Cert.NormPIdeal.main_arg3)
      ∧ r.2.mem ((c.tc : Thread Cert.NormPIdeal.nD Cert.NormPIdeal.τ).loc Cert.NormPIdeal.main_arg4) = m ((c.tc : Thread Cert.NormPIdeal.nD Cert.NormPIdeal.τ).loc Cert.NormPIdeal.main_arg4)
      ∧ r.2.mem ((c.tc : Thread Cert.NormPIdeal.nD Cert.NormPIdeal.τ).loc Cert.NormPIdeal.main_arg5) = m ((c.tc : Thread Cert.NormPIdeal.nD Cert.NormPIdeal.τ).loc Cert.NormPIdeal.main_arg5)
      ∧ r.2.mem ((c.tc : Thread Cert.NormPIdeal.nD Cert.NormPIdeal.τ).loc Cert.NormPIdeal.main_arg6) = m ((c.tc : Thread Cert.NormPIdeal.nD Cert.NormPIdeal.τ).loc Cert.NormPIdeal.main_arg6)
      ∧ r.2.mem ((c.tc : Thread Cert.NormPIdeal.nD Cert.NormPIdeal.τ).loc Cert.NormPIdeal.main_arg7) = m ((c.tc : Thread Cert.NormPIdeal.nD Cert.NormPIdeal.τ).loc Cert.NormPIdeal.main_arg7))
      ∧ r.2.sem = fun _ => 0)

def quiescent_NormPRefIdeal [hNormPRefIdeal : Cert.NormPRefIdeal.Facts] : Prop :=
  ∀ (m : (ℓ : Loc Cert.NormPRefIdeal.nD Cert.NormPRefIdeal.τ Cert.NormPRefIdeal.sig) → Buf (Elt Ideal) ℓ) (g : Dev Cert.NormPRefIdeal.nD → PrngReg), Pre_NormPRefIdeal m →
    θ_run (Cert.NormPRefIdeal.defs (F := Ideal)) (onTc (τ := Cert.NormPRefIdeal.τ) (Cert.NormPRefIdeal.main (F := Ideal))) ⟨m, fun _ => 0, g⟩ (fun r => (∀ c : Dev Cert.NormPRefIdeal.nD,
      r.2.mem ((c.tc : Thread Cert.NormPRefIdeal.nD Cert.NormPRefIdeal.τ).loc Cert.NormPRefIdeal.main_arg0) = m ((c.tc : Thread Cert.NormPRefIdeal.nD Cert.NormPRefIdeal.τ).loc Cert.NormPRefIdeal.main_arg0)
      ∧ r.2.mem ((c.tc : Thread Cert.NormPRefIdeal.nD Cert.NormPRefIdeal.τ).loc Cert.NormPRefIdeal.main_arg1) = m ((c.tc : Thread Cert.NormPRefIdeal.nD Cert.NormPRefIdeal.τ).loc Cert.NormPRefIdeal.main_arg1)
      ∧ r.2.mem ((c.tc : Thread Cert.NormPRefIdeal.nD Cert.NormPRefIdeal.τ).loc Cert.NormPRefIdeal.main_arg2) = m ((c.tc : Thread Cert.NormPRefIdeal.nD Cert.NormPRefIdeal.τ).loc Cert.NormPRefIdeal.main_arg2)
      ∧ r.2.mem ((c.tc : Thread Cert.NormPRefIdeal.nD Cert.NormPRefIdeal.τ).loc Cert.NormPRefIdeal.main_arg3) = m ((c.tc : Thread Cert.NormPRefIdeal.nD Cert.NormPRefIdeal.τ).loc Cert.NormPRefIdeal.main_arg3)
      ∧ r.2.mem ((c.tc : Thread Cert.NormPRefIdeal.nD Cert.NormPRefIdeal.τ).loc Cert.NormPRefIdeal.main_arg4) = m ((c.tc : Thread Cert.NormPRefIdeal.nD Cert.NormPRefIdeal.τ).loc Cert.NormPRefIdeal.main_arg4)
      ∧ r.2.mem ((c.tc : Thread Cert.NormPRefIdeal.nD Cert.NormPRefIdeal.τ).loc Cert.NormPRefIdeal.main_arg5) = m ((c.tc : Thread Cert.NormPRefIdeal.nD Cert.NormPRefIdeal.τ).loc Cert.NormPRefIdeal.main_arg5)
      ∧ r.2.mem ((c.tc : Thread Cert.NormPRefIdeal.nD Cert.NormPRefIdeal.τ).loc Cert.NormPRefIdeal.main_arg6) = m ((c.tc : Thread Cert.NormPRefIdeal.nD Cert.NormPRefIdeal.τ).loc Cert.NormPRefIdeal.main_arg6)
      ∧ r.2.mem ((c.tc : Thread Cert.NormPRefIdeal.nD Cert.NormPRefIdeal.τ).loc Cert.NormPRefIdeal.main_arg7) = m ((c.tc : Thread Cert.NormPRefIdeal.nD Cert.NormPRefIdeal.τ).loc Cert.NormPRefIdeal.main_arg7))
      ∧ r.2.sem = fun _ => 0)

def quiescent_LbG [hLbG : Cert.LbG.Facts] : Prop :=
  ∀ (m : (ℓ : Loc Cert.LbG.nD Cert.LbG.τ Cert.LbG.sig) → Buf (Elt Bits) ℓ) (g : Dev Cert.LbG.nD → PrngReg), Pre_LbG m →
    θ_run (Cert.LbG.defs (F := Bits)) (onTc (τ := Cert.LbG.τ) (Cert.LbG.main (F := Bits))) ⟨m, fun _ => 0, g⟩ (fun r => (∀ c : Dev Cert.LbG.nD,
      r.2.mem ((c.tc : Thread Cert.LbG.nD Cert.LbG.τ).loc Cert.LbG.main_arg0) = m ((c.tc : Thread Cert.LbG.nD Cert.LbG.τ).loc Cert.LbG.main_arg0)
      ∧ r.2.mem ((c.tc : Thread Cert.LbG.nD Cert.LbG.τ).loc Cert.LbG.main_arg1) = m ((c.tc : Thread Cert.LbG.nD Cert.LbG.τ).loc Cert.LbG.main_arg1))
      ∧ r.2.sem = fun _ => 0)

def quiescent_LbGIdeal [hLbGIdeal : Cert.LbGIdeal.Facts] : Prop :=
  ∀ (m : (ℓ : Loc Cert.LbGIdeal.nD Cert.LbGIdeal.τ Cert.LbGIdeal.sig) → Buf (Elt Ideal) ℓ) (g : Dev Cert.LbGIdeal.nD → PrngReg), Pre_LbGIdeal m →
    θ_run (Cert.LbGIdeal.defs (F := Ideal)) (onTc (τ := Cert.LbGIdeal.τ) (Cert.LbGIdeal.main (F := Ideal))) ⟨m, fun _ => 0, g⟩ (fun r => (∀ c : Dev Cert.LbGIdeal.nD,
      r.2.mem ((c.tc : Thread Cert.LbGIdeal.nD Cert.LbGIdeal.τ).loc Cert.LbGIdeal.main_arg0) = m ((c.tc : Thread Cert.LbGIdeal.nD Cert.LbGIdeal.τ).loc Cert.LbGIdeal.main_arg0)
      ∧ r.2.mem ((c.tc : Thread Cert.LbGIdeal.nD Cert.LbGIdeal.τ).loc Cert.LbGIdeal.main_arg1) = m ((c.tc : Thread Cert.LbGIdeal.nD Cert.LbGIdeal.τ).loc Cert.LbGIdeal.main_arg1))
      ∧ r.2.sem = fun _ => 0)

def quiescent_LbGIdeal_pre_finite_lb [hLbGIdeal : Cert.LbGIdeal.Facts] [hPre_finite_lb : Cert.Pre_finite_lb.Facts] : Prop :=
  ∀ (m : (ℓ : Loc Cert.LbGIdeal.nD Cert.LbGIdeal.τ Cert.LbGIdeal.sig) → Buf (Elt Ideal) ℓ) (g : Dev Cert.LbGIdeal.nD → PrngReg), Pre_LbGIdeal_finite_lb m →
    θ_run (Cert.LbGIdeal.defs (F := Ideal)) (onTc (τ := Cert.LbGIdeal.τ) (Cert.LbGIdeal.main (F := Ideal))) ⟨m, fun _ => 0, g⟩ (fun r => (∀ c : Dev Cert.LbGIdeal.nD,
      r.2.mem ((c.tc : Thread Cert.LbGIdeal.nD Cert.LbGIdeal.τ).loc Cert.LbGIdeal.main_arg0) = m ((c.tc : Thread Cert.LbGIdeal.nD Cert.LbGIdeal.τ).loc Cert.LbGIdeal.main_arg0)
      ∧ r.2.mem ((c.tc : Thread Cert.LbGIdeal.nD Cert.LbGIdeal.τ).loc Cert.LbGIdeal.main_arg1) = m ((c.tc : Thread Cert.LbGIdeal.nD Cert.LbGIdeal.τ).loc Cert.LbGIdeal.main_arg1))
      ∧ r.2.sem = fun _ => 0)

def quiescent_LbGRefIdeal [hLbGRefIdeal : Cert.LbGRefIdeal.Facts] : Prop :=
  ∀ (m : (ℓ : Loc Cert.LbGRefIdeal.nD Cert.LbGRefIdeal.τ Cert.LbGRefIdeal.sig) → Buf (Elt Ideal) ℓ) (g : Dev Cert.LbGRefIdeal.nD → PrngReg), Pre_LbGRefIdeal m →
    θ_run (Cert.LbGRefIdeal.defs (F := Ideal)) (onTc (τ := Cert.LbGRefIdeal.τ) (Cert.LbGRefIdeal.main (F := Ideal))) ⟨m, fun _ => 0, g⟩ (fun r => (∀ c : Dev Cert.LbGRefIdeal.nD,
      r.2.mem ((c.tc : Thread Cert.LbGRefIdeal.nD Cert.LbGRefIdeal.τ).loc Cert.LbGRefIdeal.main_arg0) = m ((c.tc : Thread Cert.LbGRefIdeal.nD Cert.LbGRefIdeal.τ).loc Cert.LbGRefIdeal.main_arg0)
      ∧ r.2.mem ((c.tc : Thread Cert.LbGRefIdeal.nD Cert.LbGRefIdeal.τ).loc Cert.LbGRefIdeal.main_arg1) = m ((c.tc : Thread Cert.LbGRefIdeal.nD Cert.LbGRefIdeal.τ).loc Cert.LbGRefIdeal.main_arg1))
      ∧ r.2.sem = fun _ => 0)

def quiescent_LbGRefIdeal_pre_finite_lb [hLbGRefIdeal : Cert.LbGRefIdeal.Facts] [hPre_finite_lb : Cert.Pre_finite_lb.Facts] : Prop :=
  ∀ (m : (ℓ : Loc Cert.LbGRefIdeal.nD Cert.LbGRefIdeal.τ Cert.LbGRefIdeal.sig) → Buf (Elt Ideal) ℓ) (g : Dev Cert.LbGRefIdeal.nD → PrngReg), Pre_LbGRefIdeal_finite_lb m →
    θ_run (Cert.LbGRefIdeal.defs (F := Ideal)) (onTc (τ := Cert.LbGRefIdeal.τ) (Cert.LbGRefIdeal.main (F := Ideal))) ⟨m, fun _ => 0, g⟩ (fun r => (∀ c : Dev Cert.LbGRefIdeal.nD,
      r.2.mem ((c.tc : Thread Cert.LbGRefIdeal.nD Cert.LbGRefIdeal.τ).loc Cert.LbGRefIdeal.main_arg0) = m ((c.tc : Thread Cert.LbGRefIdeal.nD Cert.LbGRefIdeal.τ).loc Cert.LbGRefIdeal.main_arg0)
      ∧ r.2.mem ((c.tc : Thread Cert.LbGRefIdeal.nD Cert.LbGRefIdeal.τ).loc Cert.LbGRefIdeal.main_arg1) = m ((c.tc : Thread Cert.LbGRefIdeal.nD Cert.LbGRefIdeal.τ).loc Cert.LbGRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OdInDx_OdInDxIdeal : Prop :=
  True

def algebraic_OdInDxIdeal_OdInDxRefIdeal [hOdInDxIdeal : Cert.OdInDxIdeal.Facts] [hOdInDxRefIdeal : Cert.OdInDxRefIdeal.Facts] : Prop :=
  ∀ (m : (ℓ : Loc Cert.OdInDxIdeal.nD Cert.OdInDxIdeal.τ Cert.OdInDxIdeal.sig) → Buf (Elt Ideal) ℓ) (g : Dev Cert.OdInDxIdeal.nD → PrngReg)
    (m' : (ℓ : Loc Cert.OdInDxRefIdeal.nD Cert.OdInDxRefIdeal.τ Cert.OdInDxRefIdeal.sig) → Buf (Elt Ideal) ℓ) (g' : Dev Cert.OdInDxRefIdeal.nD → PrngReg), Pre_OdInDxIdeal m →
    (∀ c : Dev Cert.OdInDxIdeal.nD,
      m' ((c.tc : Thread Cert.OdInDxRefIdeal.nD Cert.OdInDxRefIdeal.τ).loc Cert.OdInDxRefIdeal.main_arg0) = m ((c.tc : Thread Cert.OdInDxIdeal.nD Cert.OdInDxIdeal.τ).loc Cert.OdInDxIdeal.main_arg0)
      ∧ m' ((c.tc : Thread Cert.OdInDxRefIdeal.nD Cert.OdInDxRefIdeal.τ).loc Cert.OdInDxRefIdeal.main_arg1) = m ((c.tc : Thread Cert.OdInDxIdeal.nD Cert.OdInDxIdeal.τ).loc Cert.OdInDxIdeal.main_arg1)) →
    ∃ (v0 : (c : Dev Cert.OdInDxIdeal.nD) → Buf (Elt Ideal) ((c.tc : Thread Cert.OdInDxIdeal.nD Cert.OdInDxIdeal.τ).loc Cert.OdInDxIdeal.main_v0)),
      θ_run (Cert.OdInDxIdeal.defs (F := Ideal)) (onTc (τ := Cert.OdInDxIdeal.τ) (Cert.OdInDxIdeal.main (F := Ideal))) ⟨m, fun _ => 0, g⟩ (fun r => ∀ c : Dev Cert.OdInDxIdeal.nD,
          r.2.mem ((c.tc : Thread Cert.OdInDxIdeal.nD Cert.OdInDxIdeal.τ).loc Cert.OdInDxIdeal.main_v0) = v0 c
          ∧ r.2.mem ((c.tc : Thread Cert.OdInDxIdeal.nD Cert.OdInDxIdeal.τ).loc Cert.OdInDxIdeal.main_arg0) = m ((c.tc : Thread Cert.OdInDxIdeal.nD Cert.OdInDxIdeal.τ).loc Cert.OdInDxIdeal.main_arg0)
          ∧ r.2.mem ((c.tc : Thread Cert.OdInDxIdeal.nD Cert.OdInDxIdeal.τ).loc Cert.OdInDxIdeal.main_arg1) = m ((c.tc : Thread Cert.OdInDxIdeal.nD Cert.OdInDxIdeal.τ).loc Cert.OdInDxIdeal.main_arg1))
      ∧ θ_run (Cert.OdInDxRefIdeal.defs (F := Ideal)) (onTc (τ := Cert.OdInDxRefIdeal.τ) (Cert.OdInDxRefIdeal.main (F := Ideal))) ⟨m', fun _ => 0, g'⟩ (fun r => ∀ c : Dev Cert.OdInDxRefIdeal.nD,
          r.2.mem ((c.tc : Thread Cert.OdInDxRefIdeal.nD Cert.OdInDxRefIdeal.τ).loc Cert.OdInDxRefIdeal.main_v8) = v0 c
          ∧ r.2.mem ((c.tc : Thread Cert.OdInDxRefIdeal.nD Cert.OdInDxRefIdeal.τ).loc Cert.OdInDxRefIdeal.main_arg0) = m' ((c.tc : Thread Cert.OdInDxRefIdeal.nD Cert.OdInDxRefIdeal.τ).loc Cert.OdInDxRefIdeal.main_arg0)
          ∧ r.2.mem ((c.tc : Thread Cert.OdInDxRefIdeal.nD Cert.OdInDxRefIdeal.τ).loc Cert.OdInDxRefIdeal.main_arg1) = m' ((c.tc : Thread Cert.OdInDxRefIdeal.nD Cert.OdInDxRefIdeal.τ).loc Cert.OdInDxRefIdeal.main_arg1))

def preserves_OdInDw_OdInDwIdeal : Prop :=
  True

def algebraic_OdInDwIdeal_OdInDwRefIdeal [hOdInDwIdeal : Cert.OdInDwIdeal.Facts] [hOdInDwRefIdeal : Cert.OdInDwRefIdeal.Facts] : Prop :=
  ∀ (m : (ℓ : Loc Cert.OdInDwIdeal.nD Cert.OdInDwIdeal.τ Cert.OdInDwIdeal.sig) → Buf (Elt Ideal) ℓ) (g : Dev Cert.OdInDwIdeal.nD → PrngReg)
    (m' : (ℓ : Loc Cert.OdInDwRefIdeal.nD Cert.OdInDwRefIdeal.τ Cert.OdInDwRefIdeal.sig) → Buf (Elt Ideal) ℓ) (g' : Dev Cert.OdInDwRefIdeal.nD → PrngReg), Pre_OdInDwIdeal m →
    (∀ c : Dev Cert.OdInDwIdeal.nD,
      m' ((c.tc : Thread Cert.OdInDwRefIdeal.nD Cert.OdInDwRefIdeal.τ).loc Cert.OdInDwRefIdeal.main_arg0) = m ((c.tc : Thread Cert.OdInDwIdeal.nD Cert.OdInDwIdeal.τ).loc Cert.OdInDwIdeal.main_arg0)
      ∧ m' ((c.tc : Thread Cert.OdInDwRefIdeal.nD Cert.OdInDwRefIdeal.τ).loc Cert.OdInDwRefIdeal.main_arg1) = m ((c.tc : Thread Cert.OdInDwIdeal.nD Cert.OdInDwIdeal.τ).loc Cert.OdInDwIdeal.main_arg1)) →
    ∃ (v0 : (c : Dev Cert.OdInDwIdeal.nD) → Buf (Elt Ideal) ((c.tc : Thread Cert.OdInDwIdeal.nD Cert.OdInDwIdeal.τ).loc Cert.OdInDwIdeal.main_v0)),
      θ_run (Cert.OdInDwIdeal.defs (F := Ideal)) (onTc (τ := Cert.OdInDwIdeal.τ) (Cert.OdInDwIdeal.main (F := Ideal))) ⟨m, fun _ => 0, g⟩ (fun r => ∀ c : Dev Cert.OdInDwIdeal.nD,
          r.2.mem ((c.tc : Thread Cert.OdInDwIdeal.nD Cert.OdInDwIdeal.τ).loc Cert.OdInDwIdeal.main_v0) = v0 c
          ∧ r.2.mem ((c.tc : Thread Cert.OdInDwIdeal.nD Cert.OdInDwIdeal.τ).loc Cert.OdInDwIdeal.main_arg0) = m ((c.tc : Thread Cert.OdInDwIdeal.nD Cert.OdInDwIdeal.τ).loc Cert.OdInDwIdeal.main_arg0)
          ∧ r.2.mem ((c.tc : Thread Cert.OdInDwIdeal.nD Cert.OdInDwIdeal.τ).loc Cert.OdInDwIdeal.main_arg1) = m ((c.tc : Thread Cert.OdInDwIdeal.nD Cert.OdInDwIdeal.τ).loc Cert.OdInDwIdeal.main_arg1))
      ∧ θ_run (Cert.OdInDwRefIdeal.defs (F := Ideal)) (onTc (τ := Cert.OdInDwRefIdeal.τ) (Cert.OdInDwRefIdeal.main (F := Ideal))) ⟨m', fun _ => 0, g'⟩ (fun r => ∀ c : Dev Cert.OdInDwRefIdeal.nD,
          r.2.mem ((c.tc : Thread Cert.OdInDwRefIdeal.nD Cert.OdInDwRefIdeal.τ).loc Cert.OdInDwRefIdeal.main_v10) = v0 c
          ∧ r.2.mem ((c.tc : Thread Cert.OdInDwRefIdeal.nD Cert.OdInDwRefIdeal.τ).loc Cert.OdInDwRefIdeal.main_arg0) = m' ((c.tc : Thread Cert.OdInDwRefIdeal.nD Cert.OdInDwRefIdeal.τ).loc Cert.OdInDwRefIdeal.main_arg0)
          ∧ r.2.mem ((c.tc : Thread Cert.OdInDwRefIdeal.nD Cert.OdInDwRefIdeal.τ).loc Cert.OdInDwRefIdeal.main_arg1) = m' ((c.tc : Thread Cert.OdInDwRefIdeal.nD Cert.OdInDwRefIdeal.τ).loc Cert.OdInDwRefIdeal.main_arg1))

def preserves_EvInDx_EvInDxIdeal : Prop :=
  True

def algebraic_EvInDxIdeal_EvInDxRefIdeal [hEvInDxIdeal : Cert.EvInDxIdeal.Facts] [hEvInDxRefIdeal : Cert.EvInDxRefIdeal.Facts] : Prop :=
  ∀ (m : (ℓ : Loc Cert.EvInDxIdeal.nD Cert.EvInDxIdeal.τ Cert.EvInDxIdeal.sig) → Buf (Elt Ideal) ℓ) (g : Dev Cert.EvInDxIdeal.nD → PrngReg)
    (m' : (ℓ : Loc Cert.EvInDxRefIdeal.nD Cert.EvInDxRefIdeal.τ Cert.EvInDxRefIdeal.sig) → Buf (Elt Ideal) ℓ) (g' : Dev Cert.EvInDxRefIdeal.nD → PrngReg), Pre_EvInDxIdeal m →
    (∀ c : Dev Cert.EvInDxIdeal.nD,
      m' ((c.tc : Thread Cert.EvInDxRefIdeal.nD Cert.EvInDxRefIdeal.τ).loc Cert.EvInDxRefIdeal.main_arg0) = m ((c.tc : Thread Cert.EvInDxIdeal.nD Cert.EvInDxIdeal.τ).loc Cert.EvInDxIdeal.main_arg0)
      ∧ m' ((c.tc : Thread Cert.EvInDxRefIdeal.nD Cert.EvInDxRefIdeal.τ).loc Cert.EvInDxRefIdeal.main_arg1) = m ((c.tc : Thread Cert.EvInDxIdeal.nD Cert.EvInDxIdeal.τ).loc Cert.EvInDxIdeal.main_arg1)
      ∧ m' ((c.tc : Thread Cert.EvInDxRefIdeal.nD Cert.EvInDxRefIdeal.τ).loc Cert.EvInDxRefIdeal.main_arg2) = m ((c.tc : Thread Cert.EvInDxIdeal.nD Cert.EvInDxIdeal.τ).loc Cert.EvInDxIdeal.main_arg2)) →
    ∃ (v0 : (c : Dev Cert.EvInDxIdeal.nD) → Buf (Elt Ideal) ((c.tc : Thread Cert.EvInDxIdeal.nD Cert.EvInDxIdeal.τ).loc Cert.EvInDxIdeal.main_v0)),
      θ_run (Cert.EvInDxIdeal.defs (F := Ideal)) (onTc (τ := Cert.EvInDxIdeal.τ) (Cert.EvInDxIdeal.main (F := Ideal))) ⟨m, fun _ => 0, g⟩ (fun r => ∀ c : Dev Cert.EvInDxIdeal.nD,
          r.2.mem ((c.tc : Thread Cert.EvInDxIdeal.nD Cert.EvInDxIdeal.τ).loc Cert.EvInDxIdeal.main_v0) = v0 c
          ∧ r.2.mem ((c.tc : Thread Cert.EvInDxIdeal.nD Cert.EvInDxIdeal.τ).loc Cert.EvInDxIdeal.main_arg0) = m ((c.tc : Thread Cert.EvInDxIdeal.nD Cert.EvInDxIdeal.τ).loc Cert.EvInDxIdeal.main_arg0)
          ∧ r.2.mem ((c.tc : Thread Cert.EvInDxIdeal.nD Cert.EvInDxIdeal.τ).loc Cert.EvInDxIdeal.main_arg1) = m ((c.tc : Thread Cert.EvInDxIdeal.nD Cert.EvInDxIdeal.τ).loc Cert.EvInDxIdeal.main_arg1)
          ∧ r.2.mem ((c.tc : Thread Cert.EvInDxIdeal.nD Cert.EvInDxIdeal.τ).loc Cert.EvInDxIdeal.main_arg2) = m ((c.tc : Thread Cert.EvInDxIdeal.nD Cert.EvInDxIdeal.τ).loc Cert.EvInDxIdeal.main_arg2))
      ∧ θ_run (Cert.EvInDxRefIdeal.defs (F := Ideal)) (onTc (τ := Cert.EvInDxRefIdeal.τ) (Cert.EvInDxRefIdeal.main (F := Ideal))) ⟨m', fun _ => 0, g'⟩ (fun r => ∀ c : Dev Cert.EvInDxRefIdeal.nD,
          r.2.mem ((c.tc : Thread Cert.EvInDxRefIdeal.nD Cert.EvInDxRefIdeal.τ).loc Cert.EvInDxRefIdeal.main_v9) = v0 c
          ∧ r.2.mem ((c.tc : Thread Cert.EvInDxRefIdeal.nD Cert.EvInDxRefIdeal.τ).loc Cert.EvInDxRefIdeal.main_arg0) = m' ((c.tc : Thread Cert.EvInDxRefIdeal.nD Cert.EvInDxRefIdeal.τ).loc Cert.EvInDxRefIdeal.main_arg0)
          ∧ r.2.mem ((c.tc : Thread Cert.EvInDxRefIdeal.nD Cert.EvInDxRefIdeal.τ).loc Cert.EvInDxRefIdeal.main_arg1) = m' ((c.tc : Thread Cert.EvInDxRefIdeal.nD Cert.EvInDxRefIdeal.τ).loc Cert.EvInDxRefIdeal.main_arg1)
          ∧ r.2.mem ((c.tc : Thread Cert.EvInDxRefIdeal.nD Cert.EvInDxRefIdeal.τ).loc Cert.EvInDxRefIdeal.main_arg2) = m' ((c.tc : Thread Cert.EvInDxRefIdeal.nD Cert.EvInDxRefIdeal.τ).loc Cert.EvInDxRefIdeal.main_arg2))

def preserves_EvInDw_EvInDwIdeal : Prop :=
  True

def algebraic_EvInDwIdeal_EvInDwRefIdeal [hEvInDwIdeal : Cert.EvInDwIdeal.Facts] [hEvInDwRefIdeal : Cert.EvInDwRefIdeal.Facts] : Prop :=
  ∀ (m : (ℓ : Loc Cert.EvInDwIdeal.nD Cert.EvInDwIdeal.τ Cert.EvInDwIdeal.sig) → Buf (Elt Ideal) ℓ) (g : Dev Cert.EvInDwIdeal.nD → PrngReg)
    (m' : (ℓ : Loc Cert.EvInDwRefIdeal.nD Cert.EvInDwRefIdeal.τ Cert.EvInDwRefIdeal.sig) → Buf (Elt Ideal) ℓ) (g' : Dev Cert.EvInDwRefIdeal.nD → PrngReg), Pre_EvInDwIdeal m →
    (∀ c : Dev Cert.EvInDwIdeal.nD,
      m' ((c.tc : Thread Cert.EvInDwRefIdeal.nD Cert.EvInDwRefIdeal.τ).loc Cert.EvInDwRefIdeal.main_arg0) = m ((c.tc : Thread Cert.EvInDwIdeal.nD Cert.EvInDwIdeal.τ).loc Cert.EvInDwIdeal.main_arg0)
      ∧ m' ((c.tc : Thread Cert.EvInDwRefIdeal.nD Cert.EvInDwRefIdeal.τ).loc Cert.EvInDwRefIdeal.main_arg1) = m ((c.tc : Thread Cert.EvInDwIdeal.nD Cert.EvInDwIdeal.τ).loc Cert.EvInDwIdeal.main_arg1)
      ∧ m' ((c.tc : Thread Cert.EvInDwRefIdeal.nD Cert.EvInDwRefIdeal.τ).loc Cert.EvInDwRefIdeal.main_arg2) = m ((c.tc : Thread Cert.EvInDwIdeal.nD Cert.EvInDwIdeal.τ).loc Cert.EvInDwIdeal.main_arg2)) →
    ∃ (v0 : (c : Dev Cert.EvInDwIdeal.nD) → Buf (Elt Ideal) ((c.tc : Thread Cert.EvInDwIdeal.nD Cert.EvInDwIdeal.τ).loc Cert.EvInDwIdeal.main_v0)),
      θ_run (Cert.EvInDwIdeal.defs (F := Ideal)) (onTc (τ := Cert.EvInDwIdeal.τ) (Cert.EvInDwIdeal.main (F := Ideal))) ⟨m, fun _ => 0, g⟩ (fun r => ∀ c : Dev Cert.EvInDwIdeal.nD,
          r.2.mem ((c.tc : Thread Cert.EvInDwIdeal.nD Cert.EvInDwIdeal.τ).loc Cert.EvInDwIdeal.main_v0) = v0 c
          ∧ r.2.mem ((c.tc : Thread Cert.EvInDwIdeal.nD Cert.EvInDwIdeal.τ).loc Cert.EvInDwIdeal.main_arg0) = m ((c.tc : Thread Cert.EvInDwIdeal.nD Cert.EvInDwIdeal.τ).loc Cert.EvInDwIdeal.main_arg0)
          ∧ r.2.mem ((c.tc : Thread Cert.EvInDwIdeal.nD Cert.EvInDwIdeal.τ).loc Cert.EvInDwIdeal.main_arg1) = m ((c.tc : Thread Cert.EvInDwIdeal.nD Cert.EvInDwIdeal.τ).loc Cert.EvInDwIdeal.main_arg1)
          ∧ r.2.mem ((c.tc : Thread Cert.EvInDwIdeal.nD Cert.EvInDwIdeal.τ).loc Cert.EvInDwIdeal.main_arg2) = m ((c.tc : Thread Cert.EvInDwIdeal.nD Cert.EvInDwIdeal.τ).loc Cert.EvInDwIdeal.main_arg2))
      ∧ θ_run (Cert.EvInDwRefIdeal.defs (F := Ideal)) (onTc (τ := Cert.EvInDwRefIdeal.τ) (Cert.EvInDwRefIdeal.main (F := Ideal))) ⟨m', fun _ => 0, g'⟩ (fun r => ∀ c : Dev Cert.EvInDwRefIdeal.nD,
          r.2.mem ((c.tc : Thread Cert.EvInDwRefIdeal.nD Cert.EvInDwRefIdeal.τ).loc Cert.EvInDwRefIdeal.main_v11) = v0 c
          ∧ r.2.mem ((c.tc : Thread Cert.EvInDwRefIdeal.nD Cert.EvInDwRefIdeal.τ).loc Cert.EvInDwRefIdeal.main_arg0) = m' ((c.tc : Thread Cert.EvInDwRefIdeal.nD Cert.EvInDwRefIdeal.τ).loc Cert.EvInDwRefIdeal.main_arg0)
          ∧ r.2.mem ((c.tc : Thread Cert.EvInDwRefIdeal.nD Cert.EvInDwRefIdeal.τ).loc Cert.EvInDwRefIdeal.main_arg1) = m' ((c.tc : Thread Cert.EvInDwRefIdeal.nD Cert.EvInDwRefIdeal.τ).loc Cert.EvInDwRefIdeal.main_arg1)
          ∧ r.2.mem ((c.tc : Thread Cert.EvInDwRefIdeal.nD Cert.EvInDwRefIdeal.τ).loc Cert.EvInDwRefIdeal.main_arg2) = m' ((c.tc : Thread Cert.EvInDwRefIdeal.nD Cert.EvInDwRefIdeal.τ).loc Cert.EvInDwRefIdeal.main_arg2))

def preserves_EvOutDx_EvOutDxIdeal : Prop :=
  True

def algebraic_EvOutDxIdeal_EvOutDxRefIdeal [hEvOutDxIdeal : Cert.EvOutDxIdeal.Facts] [hEvOutDxRefIdeal : Cert.EvOutDxRefIdeal.Facts] : Prop :=
  ∀ (m : (ℓ : Loc Cert.EvOutDxIdeal.nD Cert.EvOutDxIdeal.τ Cert.EvOutDxIdeal.sig) → Buf (Elt Ideal) ℓ) (g : Dev Cert.EvOutDxIdeal.nD → PrngReg)
    (m' : (ℓ : Loc Cert.EvOutDxRefIdeal.nD Cert.EvOutDxRefIdeal.τ Cert.EvOutDxRefIdeal.sig) → Buf (Elt Ideal) ℓ) (g' : Dev Cert.EvOutDxRefIdeal.nD → PrngReg), Pre_EvOutDxIdeal m →
    (∀ c : Dev Cert.EvOutDxIdeal.nD,
      m' ((c.tc : Thread Cert.EvOutDxRefIdeal.nD Cert.EvOutDxRefIdeal.τ).loc Cert.EvOutDxRefIdeal.main_arg0) = m ((c.tc : Thread Cert.EvOutDxIdeal.nD Cert.EvOutDxIdeal.τ).loc Cert.EvOutDxIdeal.main_arg0)
      ∧ m' ((c.tc : Thread Cert.EvOutDxRefIdeal.nD Cert.EvOutDxRefIdeal.τ).loc Cert.EvOutDxRefIdeal.main_arg1) = m ((c.tc : Thread Cert.EvOutDxIdeal.nD Cert.EvOutDxIdeal.τ).loc Cert.EvOutDxIdeal.main_arg1)) →
    ∃ (v0 : (c : Dev Cert.EvOutDxIdeal.nD) → Buf (Elt Ideal) ((c.tc : Thread Cert.EvOutDxIdeal.nD Cert.EvOutDxIdeal.τ).loc Cert.EvOutDxIdeal.main_v0)),
      θ_run (Cert.EvOutDxIdeal.defs (F := Ideal)) (onTc (τ := Cert.EvOutDxIdeal.τ) (Cert.EvOutDxIdeal.main (F := Ideal))) ⟨m, fun _ => 0, g⟩ (fun r => ∀ c : Dev Cert.EvOutDxIdeal.nD,
          r.2.mem ((c.tc : Thread Cert.EvOutDxIdeal.nD Cert.EvOutDxIdeal.τ).loc Cert.EvOutDxIdeal.main_v0) = v0 c
          ∧ r.2.mem ((c.tc : Thread Cert.EvOutDxIdeal.nD Cert.EvOutDxIdeal.τ).loc Cert.EvOutDxIdeal.main_arg0) = m ((c.tc : Thread Cert.EvOutDxIdeal.nD Cert.EvOutDxIdeal.τ).loc Cert.EvOutDxIdeal.main_arg0)
          ∧ r.2.mem ((c.tc : Thread Cert.EvOutDxIdeal.nD Cert.EvOutDxIdeal.τ).loc Cert.EvOutDxIdeal.main_arg1) = m ((c.tc : Thread Cert.EvOutDxIdeal.nD Cert.EvOutDxIdeal.τ).loc Cert.EvOutDxIdeal.main_arg1))
      ∧ θ_run (Cert.EvOutDxRefIdeal.defs (F := Ideal)) (onTc (τ := Cert.EvOutDxRefIdeal.τ) (Cert.EvOutDxRefIdeal.main (F := Ideal))) ⟨m', fun _ => 0, g'⟩ (fun r => ∀ c : Dev Cert.EvOutDxRefIdeal.nD,
          r.2.mem ((c.tc : Thread Cert.EvOutDxRefIdeal.nD Cert.EvOutDxRefIdeal.τ).loc Cert.EvOutDxRefIdeal.main_v6) = v0 c
          ∧ r.2.mem ((c.tc : Thread Cert.EvOutDxRefIdeal.nD Cert.EvOutDxRefIdeal.τ).loc Cert.EvOutDxRefIdeal.main_arg0) = m' ((c.tc : Thread Cert.EvOutDxRefIdeal.nD Cert.EvOutDxRefIdeal.τ).loc Cert.EvOutDxRefIdeal.main_arg0)
          ∧ r.2.mem ((c.tc : Thread Cert.EvOutDxRefIdeal.nD Cert.EvOutDxRefIdeal.τ).loc Cert.EvOutDxRefIdeal.main_arg1) = m' ((c.tc : Thread Cert.EvOutDxRefIdeal.nD Cert.EvOutDxRefIdeal.τ).loc Cert.EvOutDxRefIdeal.main_arg1))

def preserves_EvOutDw_EvOutDwIdeal : Prop :=
  True

def algebraic_EvOutDwIdeal_EvOutDwRefIdeal [hEvOutDwIdeal : Cert.EvOutDwIdeal.Facts] [hEvOutDwRefIdeal : Cert.EvOutDwRefIdeal.Facts] : Prop :=
  ∀ (m : (ℓ : Loc Cert.EvOutDwIdeal.nD Cert.EvOutDwIdeal.τ Cert.EvOutDwIdeal.sig) → Buf (Elt Ideal) ℓ) (g : Dev Cert.EvOutDwIdeal.nD → PrngReg)
    (m' : (ℓ : Loc Cert.EvOutDwRefIdeal.nD Cert.EvOutDwRefIdeal.τ Cert.EvOutDwRefIdeal.sig) → Buf (Elt Ideal) ℓ) (g' : Dev Cert.EvOutDwRefIdeal.nD → PrngReg), Pre_EvOutDwIdeal m →
    (∀ c : Dev Cert.EvOutDwIdeal.nD,
      m' ((c.tc : Thread Cert.EvOutDwRefIdeal.nD Cert.EvOutDwRefIdeal.τ).loc Cert.EvOutDwRefIdeal.main_arg0) = m ((c.tc : Thread Cert.EvOutDwIdeal.nD Cert.EvOutDwIdeal.τ).loc Cert.EvOutDwIdeal.main_arg0)
      ∧ m' ((c.tc : Thread Cert.EvOutDwRefIdeal.nD Cert.EvOutDwRefIdeal.τ).loc Cert.EvOutDwRefIdeal.main_arg1) = m ((c.tc : Thread Cert.EvOutDwIdeal.nD Cert.EvOutDwIdeal.τ).loc Cert.EvOutDwIdeal.main_arg1)) →
    ∃ (v0 : (c : Dev Cert.EvOutDwIdeal.nD) → Buf (Elt Ideal) ((c.tc : Thread Cert.EvOutDwIdeal.nD Cert.EvOutDwIdeal.τ).loc Cert.EvOutDwIdeal.main_v0)),
      θ_run (Cert.EvOutDwIdeal.defs (F := Ideal)) (onTc (τ := Cert.EvOutDwIdeal.τ) (Cert.EvOutDwIdeal.main (F := Ideal))) ⟨m, fun _ => 0, g⟩ (fun r => ∀ c : Dev Cert.EvOutDwIdeal.nD,
          r.2.mem ((c.tc : Thread Cert.EvOutDwIdeal.nD Cert.EvOutDwIdeal.τ).loc Cert.EvOutDwIdeal.main_v0) = v0 c
          ∧ r.2.mem ((c.tc : Thread Cert.EvOutDwIdeal.nD Cert.EvOutDwIdeal.τ).loc Cert.EvOutDwIdeal.main_arg0) = m ((c.tc : Thread Cert.EvOutDwIdeal.nD Cert.EvOutDwIdeal.τ).loc Cert.EvOutDwIdeal.main_arg0)
          ∧ r.2.mem ((c.tc : Thread Cert.EvOutDwIdeal.nD Cert.EvOutDwIdeal.τ).loc Cert.EvOutDwIdeal.main_arg1) = m ((c.tc : Thread Cert.EvOutDwIdeal.nD Cert.EvOutDwIdeal.τ).loc Cert.EvOutDwIdeal.main_arg1))
      ∧ θ_run (Cert.EvOutDwRefIdeal.defs (F := Ideal)) (onTc (τ := Cert.EvOutDwRefIdeal.τ) (Cert.EvOutDwRefIdeal.main (F := Ideal))) ⟨m', fun _ => 0, g'⟩ (fun r => ∀ c : Dev Cert.EvOutDwRefIdeal.nD,
          r.2.mem ((c.tc : Thread Cert.EvOutDwRefIdeal.nD Cert.EvOutDwRefIdeal.τ).loc Cert.EvOutDwRefIdeal.main_v8) = v0 c
          ∧ r.2.mem ((c.tc : Thread Cert.EvOutDwRefIdeal.nD Cert.EvOutDwRefIdeal.τ).loc Cert.EvOutDwRefIdeal.main_arg0) = m' ((c.tc : Thread Cert.EvOutDwRefIdeal.nD Cert.EvOutDwRefIdeal.τ).loc Cert.EvOutDwRefIdeal.main_arg0)
          ∧ r.2.mem ((c.tc : Thread Cert.EvOutDwRefIdeal.nD Cert.EvOutDwRefIdeal.τ).loc Cert.EvOutDwRefIdeal.main_arg1) = m' ((c.tc : Thread Cert.EvOutDwRefIdeal.nD Cert.EvOutDwRefIdeal.τ).loc Cert.EvOutDwRefIdeal.main_arg1))

def preserves_OdOutDx_OdOutDxIdeal : Prop :=
  True

def algebraic_OdOutDxIdeal_OdOutDxRefIdeal [hOdOutDxIdeal : Cert.OdOutDxIdeal.Facts] [hOdOutDxRefIdeal : Cert.OdOutDxRefIdeal.Facts] : Prop :=
  ∀ (m : (ℓ : Loc Cert.OdOutDxIdeal.nD Cert.OdOutDxIdeal.τ Cert.OdOutDxIdeal.sig) → Buf (Elt Ideal) ℓ) (g : Dev Cert.OdOutDxIdeal.nD → PrngReg)
    (m' : (ℓ : Loc Cert.OdOutDxRefIdeal.nD Cert.OdOutDxRefIdeal.τ Cert.OdOutDxRefIdeal.sig) → Buf (Elt Ideal) ℓ) (g' : Dev Cert.OdOutDxRefIdeal.nD → PrngReg), Pre_OdOutDxIdeal m →
    (∀ c : Dev Cert.OdOutDxIdeal.nD,
      m' ((c.tc : Thread Cert.OdOutDxRefIdeal.nD Cert.OdOutDxRefIdeal.τ).loc Cert.OdOutDxRefIdeal.main_arg0) = m ((c.tc : Thread Cert.OdOutDxIdeal.nD Cert.OdOutDxIdeal.τ).loc Cert.OdOutDxIdeal.main_arg0)
      ∧ m' ((c.tc : Thread Cert.OdOutDxRefIdeal.nD Cert.OdOutDxRefIdeal.τ).loc Cert.OdOutDxRefIdeal.main_arg1) = m ((c.tc : Thread Cert.OdOutDxIdeal.nD Cert.OdOutDxIdeal.τ).loc Cert.OdOutDxIdeal.main_arg1)) →
    ∃ (v0 : (c : Dev Cert.OdOutDxIdeal.nD) → Buf (Elt Ideal) ((c.tc : Thread Cert.OdOutDxIdeal.nD Cert.OdOutDxIdeal.τ).loc Cert.OdOutDxIdeal.main_v0)),
      θ_run (Cert.OdOutDxIdeal.defs (F := Ideal)) (onTc (τ := Cert.OdOutDxIdeal.τ) (Cert.OdOutDxIdeal.main (F := Ideal))) ⟨m, fun _ => 0, g⟩ (fun r => ∀ c : Dev Cert.OdOutDxIdeal.nD,
          r.2.mem ((c.tc : Thread Cert.OdOutDxIdeal.nD Cert.OdOutDxIdeal.τ).loc Cert.OdOutDxIdeal.main_v0) = v0 c
          ∧ r.2.mem ((c.tc : Thread Cert.OdOutDxIdeal.nD Cert.OdOutDxIdeal.τ).loc Cert.OdOutDxIdeal.main_arg0) = m ((c.tc : Thread Cert.OdOutDxIdeal.nD Cert.OdOutDxIdeal.τ).loc Cert.OdOutDxIdeal.main_arg0)
          ∧ r.2.mem ((c.tc : Thread Cert.OdOutDxIdeal.nD Cert.OdOutDxIdeal.τ).loc Cert.OdOutDxIdeal.main_arg1) = m ((c.tc : Thread Cert.OdOutDxIdeal.nD Cert.OdOutDxIdeal.τ).loc Cert.OdOutDxIdeal.main_arg1))
      ∧ θ_run (Cert.OdOutDxRefIdeal.defs (F := Ideal)) (onTc (τ := Cert.OdOutDxRefIdeal.τ) (Cert.OdOutDxRefIdeal.main (F := Ideal))) ⟨m', fun _ => 0, g'⟩ (fun r => ∀ c : Dev Cert.OdOutDxRefIdeal.nD,
          r.2.mem ((c.tc : Thread Cert.OdOutDxRefIdeal.nD Cert.OdOutDxRefIdeal.τ).loc Cert.OdOutDxRefIdeal.main_v6) = v0 c
          ∧ r.2.mem ((c.tc : Thread Cert.OdOutDxRefIdeal.nD Cert.OdOutDxRefIdeal.τ).loc Cert.OdOutDxRefIdeal.main_arg0) = m' ((c.tc : Thread Cert.OdOutDxRefIdeal.nD Cert.OdOutDxRefIdeal.τ).loc Cert.OdOutDxRefIdeal.main_arg0)
          ∧ r.2.mem ((c.tc : Thread Cert.OdOutDxRefIdeal.nD Cert.OdOutDxRefIdeal.τ).loc Cert.OdOutDxRefIdeal.main_arg1) = m' ((c.tc : Thread Cert.OdOutDxRefIdeal.nD Cert.OdOutDxRefIdeal.τ).loc Cert.OdOutDxRefIdeal.main_arg1))

def preserves_OdOutDw_OdOutDwIdeal : Prop :=
  True

def algebraic_OdOutDwIdeal_OdOutDwRefIdeal [hOdOutDwIdeal : Cert.OdOutDwIdeal.Facts] [hOdOutDwRefIdeal : Cert.OdOutDwRefIdeal.Facts] : Prop :=
  ∀ (m : (ℓ : Loc Cert.OdOutDwIdeal.nD Cert.OdOutDwIdeal.τ Cert.OdOutDwIdeal.sig) → Buf (Elt Ideal) ℓ) (g : Dev Cert.OdOutDwIdeal.nD → PrngReg)
    (m' : (ℓ : Loc Cert.OdOutDwRefIdeal.nD Cert.OdOutDwRefIdeal.τ Cert.OdOutDwRefIdeal.sig) → Buf (Elt Ideal) ℓ) (g' : Dev Cert.OdOutDwRefIdeal.nD → PrngReg), Pre_OdOutDwIdeal m →
    (∀ c : Dev Cert.OdOutDwIdeal.nD,
      m' ((c.tc : Thread Cert.OdOutDwRefIdeal.nD Cert.OdOutDwRefIdeal.τ).loc Cert.OdOutDwRefIdeal.main_arg0) = m ((c.tc : Thread Cert.OdOutDwIdeal.nD Cert.OdOutDwIdeal.τ).loc Cert.OdOutDwIdeal.main_arg0)
      ∧ m' ((c.tc : Thread Cert.OdOutDwRefIdeal.nD Cert.OdOutDwRefIdeal.τ).loc Cert.OdOutDwRefIdeal.main_arg1) = m ((c.tc : Thread Cert.OdOutDwIdeal.nD Cert.OdOutDwIdeal.τ).loc Cert.OdOutDwIdeal.main_arg1)) →
    ∃ (v0 : (c : Dev Cert.OdOutDwIdeal.nD) → Buf (Elt Ideal) ((c.tc : Thread Cert.OdOutDwIdeal.nD Cert.OdOutDwIdeal.τ).loc Cert.OdOutDwIdeal.main_v0)),
      θ_run (Cert.OdOutDwIdeal.defs (F := Ideal)) (onTc (τ := Cert.OdOutDwIdeal.τ) (Cert.OdOutDwIdeal.main (F := Ideal))) ⟨m, fun _ => 0, g⟩ (fun r => ∀ c : Dev Cert.OdOutDwIdeal.nD,
          r.2.mem ((c.tc : Thread Cert.OdOutDwIdeal.nD Cert.OdOutDwIdeal.τ).loc Cert.OdOutDwIdeal.main_v0) = v0 c
          ∧ r.2.mem ((c.tc : Thread Cert.OdOutDwIdeal.nD Cert.OdOutDwIdeal.τ).loc Cert.OdOutDwIdeal.main_arg0) = m ((c.tc : Thread Cert.OdOutDwIdeal.nD Cert.OdOutDwIdeal.τ).loc Cert.OdOutDwIdeal.main_arg0)
          ∧ r.2.mem ((c.tc : Thread Cert.OdOutDwIdeal.nD Cert.OdOutDwIdeal.τ).loc Cert.OdOutDwIdeal.main_arg1) = m ((c.tc : Thread Cert.OdOutDwIdeal.nD Cert.OdOutDwIdeal.τ).loc Cert.OdOutDwIdeal.main_arg1))
      ∧ θ_run (Cert.OdOutDwRefIdeal.defs (F := Ideal)) (onTc (τ := Cert.OdOutDwRefIdeal.τ) (Cert.OdOutDwRefIdeal.main (F := Ideal))) ⟨m', fun _ => 0, g'⟩ (fun r => ∀ c : Dev Cert.OdOutDwRefIdeal.nD,
          r.2.mem ((c.tc : Thread Cert.OdOutDwRefIdeal.nD Cert.OdOutDwRefIdeal.τ).loc Cert.OdOutDwRefIdeal.main_v8) = v0 c
          ∧ r.2.mem ((c.tc : Thread Cert.OdOutDwRefIdeal.nD Cert.OdOutDwRefIdeal.τ).loc Cert.OdOutDwRefIdeal.main_arg0) = m' ((c.tc : Thread Cert.OdOutDwRefIdeal.nD Cert.OdOutDwRefIdeal.τ).loc Cert.OdOutDwRefIdeal.main_arg0)
          ∧ r.2.mem ((c.tc : Thread Cert.OdOutDwRefIdeal.nD Cert.OdOutDwRefIdeal.τ).loc Cert.OdOutDwRefIdeal.main_arg1) = m' ((c.tc : Thread Cert.OdOutDwRefIdeal.nD Cert.OdOutDwRefIdeal.τ).loc Cert.OdOutDwRefIdeal.main_arg1))

def preserves_OdIn_OdInIdeal : Prop :=
  True

def algebraic_OdInIdeal_OdInRefIdeal [hOdInIdeal : Cert.OdInIdeal.Facts] [hOdInRefIdeal : Cert.OdInRefIdeal.Facts] : Prop :=
  ∀ (m : (ℓ : Loc Cert.OdInIdeal.nD Cert.OdInIdeal.τ Cert.OdInIdeal.sig) → Buf (Elt Ideal) ℓ) (g : Dev Cert.OdInIdeal.nD → PrngReg)
    (m' : (ℓ : Loc Cert.OdInRefIdeal.nD Cert.OdInRefIdeal.τ Cert.OdInRefIdeal.sig) → Buf (Elt Ideal) ℓ) (g' : Dev Cert.OdInRefIdeal.nD → PrngReg), Pre_OdInIdeal m →
    (∀ c : Dev Cert.OdInIdeal.nD,
      m' ((c.tc : Thread Cert.OdInRefIdeal.nD Cert.OdInRefIdeal.τ).loc Cert.OdInRefIdeal.main_arg0) = m ((c.tc : Thread Cert.OdInIdeal.nD Cert.OdInIdeal.τ).loc Cert.OdInIdeal.main_arg0)
      ∧ m' ((c.tc : Thread Cert.OdInRefIdeal.nD Cert.OdInRefIdeal.τ).loc Cert.OdInRefIdeal.main_arg1) = m ((c.tc : Thread Cert.OdInIdeal.nD Cert.OdInIdeal.τ).loc Cert.OdInIdeal.main_arg1)) →
    ∃ (v0 : (c : Dev Cert.OdInIdeal.nD) → Buf (Elt Ideal) ((c.tc : Thread Cert.OdInIdeal.nD Cert.OdInIdeal.τ).loc Cert.OdInIdeal.main_v0)),
      θ_run (Cert.OdInIdeal.defs (F := Ideal)) (onTc (τ := Cert.OdInIdeal.τ) (Cert.OdInIdeal.main (F := Ideal))) ⟨m, fun _ => 0, g⟩ (fun r => ∀ c : Dev Cert.OdInIdeal.nD,
          r.2.mem ((c.tc : Thread Cert.OdInIdeal.nD Cert.OdInIdeal.τ).loc Cert.OdInIdeal.main_v0) = v0 c
          ∧ r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
          ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ θ_run (Cert.OdInRefIdeal.defs (F := Ideal)) (onTc (τ := Cert.OdInRefIdeal.τ) (Cert.OdInRefIdeal.main (F := Ideal))) ⟨m', fun _ => 0, g'⟩ (fun r => ∀ c : Dev Cert.OdInRefIdeal.nD,
          r.2.mem ((c.tc : Thread Cert.OdInRefIdeal.nD Cert.OdInRefIdeal.τ).loc Cert.OdInRefIdeal.main_v6) = v0 c
          ∧ r.2.mem ((c.tc : Thread Cert.OdInRefIdeal.nD Cert.OdInRefIdeal.τ).loc Cert.OdInRefIdeal.main_arg0) = m' ((c.tc : Thread Cert.OdInRefIdeal.nD Cert.OdInRefIdeal.τ).loc Cert.OdInRefIdeal.main_arg0)
          ∧ r.2.mem ((c.tc : Thread Cert.OdInRefIdeal.nD Cert.OdInRefIdeal.τ).loc Cert.OdInRefIdeal.main_arg1) = m' ((c.tc : Thread Cert.OdInRefIdeal.nD Cert.OdInRefIdeal.τ).loc Cert.OdInRefIdeal.main_arg1))

def preserves_EvIn_EvInIdeal : Prop :=
  True

def algebraic_EvInIdeal_EvInRefIdeal [hEvInIdeal : Cert.EvInIdeal.Facts] [hEvInRefIdeal : Cert.EvInRefIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.EvInRefIdeal.nD Cert.EvInRefIdeal.τ Cert.EvInRefIdeal.sig) → Buf (Elt Ideal) ℓ) (g' : Dev Cert.EvInRefIdeal.nD → PrngReg), Pre_EvInIdeal m →
    (∀ c : Dev Cert.EvInIdeal.nD,
      m' ((c.tc : Thread Cert.EvInRefIdeal.nD Cert.EvInRefIdeal.τ).loc Cert.EvInRefIdeal.main_arg0) = m ((c.tc : Thread Cert.EvInIdeal.nD Cert.EvInIdeal.τ).loc Cert.EvInIdeal.main_arg0)
      ∧ m' ((c.tc : Thread Cert.EvInRefIdeal.nD Cert.EvInRefIdeal.τ).loc Cert.EvInRefIdeal.main_arg1) = m ((c.tc : Thread Cert.EvInIdeal.nD Cert.EvInIdeal.τ).loc Cert.EvInIdeal.main_arg1)) →
    ∃ (v0 : (c : Dev Cert.EvInIdeal.nD) → Buf (Elt Ideal) ((c.tc : Thread Cert.EvInIdeal.nD Cert.EvInIdeal.τ).loc Cert.EvInIdeal.main_v0)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v0) = v0 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ θ_run (Cert.EvInRefIdeal.defs (F := Ideal)) (onTc (τ := Cert.EvInRefIdeal.τ) (Cert.EvInRefIdeal.main (F := Ideal))) ⟨m', fun _ => 0, g'⟩ (fun r => ∀ c : Dev Cert.EvInRefIdeal.nD,
          r.2.mem ((c.tc : Thread Cert.EvInRefIdeal.nD Cert.EvInRefIdeal.τ).loc Cert.EvInRefIdeal.main_v6) = v0 c
          ∧ r.2.mem ((c.tc : Thread Cert.EvInRefIdeal.nD Cert.EvInRefIdeal.τ).loc Cert.EvInRefIdeal.main_arg0) = m' ((c.tc : Thread Cert.EvInRefIdeal.nD Cert.EvInRefIdeal.τ).loc Cert.EvInRefIdeal.main_arg0)
          ∧ r.2.mem ((c.tc : Thread Cert.EvInRefIdeal.nD Cert.EvInRefIdeal.τ).loc Cert.EvInRefIdeal.main_arg1) = m' ((c.tc : Thread Cert.EvInRefIdeal.nD Cert.EvInRefIdeal.τ).loc Cert.EvInRefIdeal.main_arg1))

def preserves_EvOut_EvOutIdeal : Prop :=
  True

def algebraic_EvOutIdeal_EvOutRefIdeal [hEvOutIdeal : Cert.EvOutIdeal.Facts] [hEvOutRefIdeal : Cert.EvOutRefIdeal.Facts] : Prop :=
  ∀ (m : (ℓ : Loc Cert.EvOutIdeal.nD Cert.EvOutIdeal.τ Cert.EvOutIdeal.sig) → Buf (Elt Ideal) ℓ) (g : Dev Cert.EvOutIdeal.nD → PrngReg)
    (m' : (ℓ : Loc Cert.EvOutRefIdeal.nD Cert.EvOutRefIdeal.τ Cert.EvOutRefIdeal.sig) → Buf (Elt Ideal) ℓ) (g' : Dev Cert.EvOutRefIdeal.nD → PrngReg), Pre_EvOutIdeal m →
    (∀ c : Dev Cert.EvOutIdeal.nD,
      m' ((c.tc : Thread Cert.EvOutRefIdeal.nD Cert.EvOutRefIdeal.τ).loc Cert.EvOutRefIdeal.main_arg0) = m ((c.tc : Thread Cert.EvOutIdeal.nD Cert.EvOutIdeal.τ).loc Cert.EvOutIdeal.main_arg0)
      ∧ m' ((c.tc : Thread Cert.EvOutRefIdeal.nD Cert.EvOutRefIdeal.τ).loc Cert.EvOutRefIdeal.main_arg1) = m ((c.tc : Thread Cert.EvOutIdeal.nD Cert.EvOutIdeal.τ).loc Cert.EvOutIdeal.main_arg1)) →
    ∃ (v0 : (c : Dev Cert.EvOutIdeal.nD) → Buf (Elt Ideal) ((c.tc : Thread Cert.EvOutIdeal.nD Cert.EvOutIdeal.τ).loc Cert.EvOutIdeal.main_v0)),
      θ_run (Cert.EvOutIdeal.defs (F := Ideal)) (onTc (τ := Cert.EvOutIdeal.τ) (Cert.EvOutIdeal.main (F := Ideal))) ⟨m, fun _ => 0, g⟩ (fun r => ∀ c : Dev Cert.EvOutIdeal.nD,
          r.2.mem ((c.tc : Thread Cert.EvOutIdeal.nD Cert.EvOutIdeal.τ).loc Cert.EvOutIdeal.main_v0) = v0 c
          ∧ r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
          ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1))
      ∧ θ_run (Cert.EvOutRefIdeal.defs (F := Ideal)) (onTc (τ := Cert.EvOutRefIdeal.τ) (Cert.EvOutRefIdeal.main (F := Ideal))) ⟨m', fun _ => 0, g'⟩ (fun r => ∀ c : Dev Cert.EvOutRefIdeal.nD,
          r.2.mem ((c.tc : Thread Cert.EvOutRefIdeal.nD Cert.EvOutRefIdeal.τ).loc Cert.EvOutRefIdeal.main_v4) = v0 c
          ∧ r.2.mem ((c.tc : Thread Cert.EvOutRefIdeal.nD Cert.EvOutRefIdeal.τ).loc Cert.EvOutRefIdeal.main_arg0) = m' ((c.tc : Thread Cert.EvOutRefIdeal.nD Cert.EvOutRefIdeal.τ).loc Cert.EvOutRefIdeal.main_arg0)
          ∧ r.2.mem ((c.tc : Thread Cert.EvOutRefIdeal.nD Cert.EvOutRefIdeal.τ).loc Cert.EvOutRefIdeal.main_arg1) = m' ((c.tc : Thread Cert.EvOutRefIdeal.nD Cert.EvOutRefIdeal.τ).loc Cert.EvOutRefIdeal.main_arg1))

def preserves_OdOut_OdOutIdeal : Prop :=
  True

def algebraic_OdOutIdeal_OdOutRefIdeal [hOdOutIdeal : Cert.OdOutIdeal.Facts] [hOdOutRefIdeal : Cert.OdOutRefIdeal.Facts] : Prop :=
  ∀ (m : (ℓ : Loc Cert.OdOutIdeal.nD Cert.OdOutIdeal.τ Cert.OdOutIdeal.sig) → Buf (Elt Ideal) ℓ) (g : Dev Cert.OdOutIdeal.nD → PrngReg)
    (m' : (ℓ : Loc Cert.OdOutRefIdeal.nD Cert.OdOutRefIdeal.τ Cert.OdOutRefIdeal.sig) → Buf (Elt Ideal) ℓ) (g' : Dev Cert.OdOutRefIdeal.nD → PrngReg), Pre_OdOutIdeal m →
    (∀ c : Dev Cert.OdOutIdeal.nD,
      m' ((c.tc : Thread Cert.OdOutRefIdeal.nD Cert.OdOutRefIdeal.τ).loc Cert.OdOutRefIdeal.main_arg0) = m ((c.tc : Thread Cert.OdOutIdeal.nD Cert.OdOutIdeal.τ).loc Cert.OdOutIdeal.main_arg0)
      ∧ m' ((c.tc : Thread Cert.OdOutRefIdeal.nD Cert.OdOutRefIdeal.τ).loc Cert.OdOutRefIdeal.main_arg1) = m ((c.tc : Thread Cert.OdOutIdeal.nD Cert.OdOutIdeal.τ).loc Cert.OdOutIdeal.main_arg1)) →
    ∃ (v0 : (c : Dev Cert.OdOutIdeal.nD) → Buf (Elt Ideal) ((c.tc : Thread Cert.OdOutIdeal.nD Cert.OdOutIdeal.τ).loc Cert.OdOutIdeal.main_v0)),
      θ_run (Cert.OdOutIdeal.defs (F := Ideal)) (onTc (τ := Cert.OdOutIdeal.τ) (Cert.OdOutIdeal.main (F := Ideal))) ⟨m, fun _ => 0, g⟩ (fun r => ∀ c : Dev Cert.OdOutIdeal.nD,
          r.2.mem ((c.tc : Thread Cert.OdOutIdeal.nD Cert.OdOutIdeal.τ).loc Cert.OdOutIdeal.main_v0) = v0 c
          ∧ r.2.mem ((c.tc : Thread Cert.OdOutIdeal.nD Cert.OdOutIdeal.τ).loc Cert.OdOutIdeal.main_arg0) = m ((c.tc : Thread Cert.OdOutIdeal.nD Cert.OdOutIdeal.τ).loc Cert.OdOutIdeal.main_arg0)
          ∧ r.2.mem ((c.tc : Thread Cert.OdOutIdeal.nD Cert.OdOutIdeal.τ).loc Cert.OdOutIdeal.main_arg1) = m ((c.tc : Thread Cert.OdOutIdeal.nD Cert.OdOutIdeal.τ).loc Cert.OdOutIdeal.main_arg1))
      ∧ θ_run (Cert.OdOutRefIdeal.defs (F := Ideal)) (onTc (τ := Cert.OdOutRefIdeal.τ) (Cert.OdOutRefIdeal.main (F := Ideal))) ⟨m', fun _ => 0, g'⟩ (fun r => ∀ c : Dev Cert.OdOutRefIdeal.nD,
          r.2.mem ((c.tc : Thread Cert.OdOutRefIdeal.nD Cert.OdOutRefIdeal.τ).loc Cert.OdOutRefIdeal.main_v4) = v0 c
          ∧ r.2.mem ((c.tc : Thread Cert.OdOutRefIdeal.nD Cert.OdOutRefIdeal.τ).loc Cert.OdOutRefIdeal.main_arg0) = m' ((c.tc : Thread Cert.OdOutRefIdeal.nD Cert.OdOutRefIdeal.τ).loc Cert.OdOutRefIdeal.main_arg0)
          ∧ r.2.mem ((c.tc : Thread Cert.OdOutRefIdeal.nD Cert.OdOutRefIdeal.τ).loc Cert.OdOutRefIdeal.main_arg1) = m' ((c.tc : Thread Cert.OdOutRefIdeal.nD Cert.OdOutRefIdeal.τ).loc Cert.OdOutRefIdeal.main_arg1))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)
      ∧ m' ((c.tc : Thread Cert.AdaBwdRefIdeal.nD Cert.AdaBwdRefIdeal.τ).loc Cert.AdaBwdRefIdeal.main_arg3) = m ((c.tc : Thread Cert.AdaBwdIdeal.nD Cert.AdaBwdIdeal.τ).loc Cert.AdaBwdIdeal.main_arg3)
      ∧ m' ((c.tc : Thread Cert.AdaBwdRefIdeal.nD Cert.AdaBwdRefIdeal.τ).loc Cert.AdaBwdRefIdeal.main_arg4) = m ((c.tc : Thread Cert.AdaBwdIdeal.nD Cert.AdaBwdIdeal.τ).loc Cert.AdaBwdIdeal.main_arg4)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)) (v2 : (c : Dev Cert.AdaBwdIdeal.nD) → Buf (Elt Ideal) ((c.tc : Thread Cert.AdaBwdIdeal.nD Cert.AdaBwdIdeal.τ).loc Cert.AdaBwdIdeal.main_v0_2)) (v3 : (c : Dev Cert.AdaBwdIdeal.nD) → Buf (Elt Ideal) ((c.tc : Thread Cert.AdaBwdIdeal.nD Cert.AdaBwdIdeal.τ).loc Cert.AdaBwdIdeal.main_v0_3)) (v4 : (c : Dev Cert.AdaBwdIdeal.nD) → Buf (Elt Ideal) ((c.tc : Thread Cert.AdaBwdIdeal.nD Cert.AdaBwdIdeal.τ).loc Cert.AdaBwdIdeal.main_v0_4)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_v0_2) = v2 c
          ∧ r.2.mem ((c.tc : Thread Cert.AdaBwdIdeal.nD Cert.AdaBwdIdeal.τ).loc Cert.AdaBwdIdeal.main_v0_3) = v3 c
          ∧ r.2.mem ((c.tc : Thread Cert.AdaBwdIdeal.nD Cert.AdaBwdIdeal.τ).loc Cert.AdaBwdIdeal.main_v0_4) = v4 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
          ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v5) = v0 c
          ∧ r.2.mem ((c.tc : Thread Cert.AdaBwdRefIdeal.nD Cert.AdaBwdRefIdeal.τ).loc Cert.AdaBwdRefIdeal.main_v30) = v1 c
          ∧ r.2.mem ((c.tc : Thread Cert.AdaBwdRefIdeal.nD Cert.AdaBwdRefIdeal.τ).loc Cert.AdaBwdRefIdeal.main_v11) = v2 c
          ∧ r.2.mem ((c.tc : Thread Cert.AdaBwdRefIdeal.nD Cert.AdaBwdRefIdeal.τ).loc Cert.AdaBwdRefIdeal.main_v17) = v3 c
          ∧ r.2.mem ((c.tc : Thread Cert.AdaBwdRefIdeal.nD Cert.AdaBwdRefIdeal.τ).loc Cert.AdaBwdRefIdeal.main_v31) = v4 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2)
          ∧ r.2.mem ((c.tc : Thread Cert.AdaBwdRefIdeal.nD Cert.AdaBwdRefIdeal.τ).loc Cert.AdaBwdRefIdeal.main_arg3) = m' ((c.tc : Thread Cert.AdaBwdRefIdeal.nD Cert.AdaBwdRefIdeal.τ).loc Cert.AdaBwdRefIdeal.main_arg3)
          ∧ r.2.mem ((c.tc : Thread Cert.AdaBwdRefIdeal.nD Cert.AdaBwdRefIdeal.τ).loc Cert.AdaBwdRefIdeal.main_arg4) = m' ((c.tc : Thread Cert.AdaBwdRefIdeal.nD Cert.AdaBwdRefIdeal.τ).loc Cert.AdaBwdRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0_0)) (v1 : (c : Dev Cert.AdaIdeal.nD) → Buf (Elt Ideal) ((c.tc : Thread Cert.AdaIdeal.nD Cert.AdaIdeal.τ).loc Cert.AdaIdeal.main_v0_1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0_0) = v0 c
          ∧ r.2.mem ((c.tc : Thread Cert.AdaIdeal.nD Cert.AdaIdeal.τ).loc Cert.AdaIdeal.main_v0_1) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v0) = v0 c
          ∧ r.2.mem ((c.tc : Thread Cert.AdaRefIdeal.nD Cert.AdaRefIdeal.τ).loc Cert.AdaRefIdeal.main_v17) = v1 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_StepIn_StepInIdeal : Prop :=
  True

def algebraic_StepInIdeal_StepInRefIdeal [hStepInIdeal : Cert.StepInIdeal.Facts] [hStepInRefIdeal : Cert.StepInRefIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInRefIdeal.nD Cert.StepInRefIdeal.τ Cert.StepInRefIdeal.sig) → Buf (Elt Ideal) ℓ) (g' : Dev Cert.StepInRefIdeal.nD → PrngReg), Pre_StepInIdeal m →
    (∀ c : Dev Cert.StepInIdeal.nD,
      m' ((c.tc : Thread Cert.StepInRefIdeal.nD Cert.StepInRefIdeal.τ).loc Cert.StepInRefIdeal.main_arg0) = m ((c.tc : Thread Cert.StepInIdeal.nD Cert.StepInIdeal.τ).loc Cert.StepInIdeal.main_arg0)
      ∧ m' ((c.tc : Thread Cert.StepInRefIdeal.nD Cert.StepInRefIdeal.τ).loc Cert.StepInRefIdeal.main_arg1) = m ((c.tc : Thread Cert.StepInIdeal.nD Cert.StepInIdeal.τ).loc Cert.StepInIdeal.main_arg1)
      ∧ m' ((c.tc : Thread Cert.StepInRefIdeal.nD Cert.StepInRefIdeal.τ).loc Cert.StepInRefIdeal.main_arg2) = m ((c.tc : Thread Cert.StepInIdeal.nD Cert.StepInIdeal.τ).loc Cert.StepInIdeal.main_arg2)
      ∧ m' ((c.tc : Thread Cert.StepInRefIdeal.nD Cert.StepInRefIdeal.τ).loc Cert.StepInRefIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInRefIdeal.defs (F := Ideal)) (onTc (τ := Cert.StepInRefIdeal.τ) (Cert.StepInRefIdeal.main (F := Ideal))) ⟨m', fun _ => 0, g'⟩ (fun r => ∀ c : Dev Cert.StepInRefIdeal.nD,
          r.2.mem ((c.tc : Thread Cert.StepInRefIdeal.nD Cert.StepInRefIdeal.τ).loc Cert.StepInRefIdeal.main_v23) = v0 c
          ∧ r.2.mem ((c.tc : Thread Cert.StepInRefIdeal.nD Cert.StepInRefIdeal.τ).loc Cert.StepInRefIdeal.main_v4) = v1 c
          ∧ r.2.mem ((c.tc : Thread Cert.StepInRefIdeal.nD Cert.StepInRefIdeal.τ).loc Cert.StepInRefIdeal.main_v10) = v2 c
          ∧ r.2.mem ((c.tc : Thread Cert.StepInRefIdeal.nD Cert.StepInRefIdeal.τ).loc Cert.StepInRefIdeal.main_arg1) = v3 c
          ∧ r.2.mem ((c.tc : Thread Cert.StepInRefIdeal.nD Cert.StepInRefIdeal.τ).loc Cert.StepInRefIdeal.main_arg0) = m' ((c.tc : Thread Cert.StepInRefIdeal.nD Cert.StepInRefIdeal.τ).loc Cert.StepInRefIdeal.main_arg0)
          ∧ r.2.mem ((c.tc : Thread Cert.StepInRefIdeal.nD Cert.StepInRefIdeal.τ).loc Cert.StepInRefIdeal.main_arg1) = m' ((c.tc : Thread Cert.StepInRefIdeal.nD Cert.StepInRefIdeal.τ).loc Cert.StepInRefIdeal.main_arg1)
          ∧ r.2.mem ((c.tc : Thread Cert.StepInRefIdeal.nD Cert.StepInRefIdeal.τ).loc Cert.StepInRefIdeal.main_arg2) = m' ((c.tc : Thread Cert.StepInRefIdeal.nD Cert.StepInRefIdeal.τ).loc Cert.StepInRefIdeal.main_arg2)
          ∧ r.2.mem ((c.tc : Thread Cert.StepInRefIdeal.nD Cert.StepInRefIdeal.τ).loc Cert.StepInRefIdeal.main_arg3) = m' ((c.tc : Thread Cert.StepInRefIdeal.nD Cert.StepInRefIdeal.τ).loc Cert.StepInRefIdeal.main_arg3))

def preserves_StepOut_StepOutIdeal : Prop :=
  True

def algebraic_StepOutIdeal_StepOutRefIdeal [hStepOutIdeal : Cert.StepOutIdeal.Facts] [hStepOutRefIdeal : Cert.StepOutRefIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutRefIdeal.nD Cert.StepOutRefIdeal.τ Cert.StepOutRefIdeal.sig) → Buf (Elt Ideal) ℓ) (g' : Dev Cert.StepOutRefIdeal.nD → PrngReg), Pre_StepOutIdeal m →
    (∀ c : Dev Cert.StepOutIdeal.nD,
      m' ((c.tc : Thread Cert.StepOutRefIdeal.nD Cert.StepOutRefIdeal.τ).loc Cert.StepOutRefIdeal.main_arg0) = m ((c.tc : Thread Cert.StepOutIdeal.nD Cert.StepOutIdeal.τ).loc Cert.StepOutIdeal.main_arg0)
      ∧ m' ((c.tc : Thread Cert.StepOutRefIdeal.nD Cert.StepOutRefIdeal.τ).loc Cert.StepOutRefIdeal.main_arg1) = m ((c.tc : Thread Cert.StepOutIdeal.nD Cert.StepOutIdeal.τ).loc Cert.StepOutIdeal.main_arg1)
      ∧ m' ((c.tc : Thread Cert.StepOutRefIdeal.nD Cert.StepOutRefIdeal.τ).loc Cert.StepOutRefIdeal.main_arg2) = m ((c.tc : Thread Cert.StepOutIdeal.nD Cert.StepOutIdeal.τ).loc Cert.StepOutIdeal.main_arg2)
      ∧ m' ((c.tc : Thread Cert.StepOutRefIdeal.nD Cert.StepOutRefIdeal.τ).loc Cert.StepOutRefIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)) (v3 : (c : Dev Cert.StepOutIdeal.nD) → Buf (Elt Ideal) ((c.tc : Thread Cert.StepOutIdeal.nD Cert.StepOutIdeal.τ).loc Cert.StepOutIdeal.main_v0_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_v0_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutRefIdeal.defs (F := Ideal)) (onTc (τ := Cert.StepOutRefIdeal.τ) (Cert.StepOutRefIdeal.main (F := Ideal))) ⟨m', fun _ => 0, g'⟩ (fun r => ∀ c : Dev Cert.StepOutRefIdeal.nD,
          r.2.mem ((c.tc : Thread Cert.StepOutRefIdeal.nD Cert.StepOutRefIdeal.τ).loc Cert.StepOutRefIdeal.main_v23) = v0 c
          ∧ r.2.mem ((c.tc : Thread Cert.StepOutRefIdeal.nD Cert.StepOutRefIdeal.τ).loc Cert.StepOutRefIdeal.main_v4) = v1 c
          ∧ r.2.mem ((c.tc : Thread Cert.StepOutRefIdeal.nD Cert.StepOutRefIdeal.τ).loc Cert.StepOutRefIdeal.main_v10) = v2 c
          ∧ r.2.mem ((c.tc : Thread Cert.StepOutRefIdeal.nD Cert.StepOutRefIdeal.τ).loc Cert.StepOutRefIdeal.main_arg1) = v3 c
          ∧ r.2.mem ((c.tc : Thread Cert.StepOutRefIdeal.nD Cert.StepOutRefIdeal.τ).loc Cert.StepOutRefIdeal.main_arg0) = m' ((c.tc : Thread Cert.StepOutRefIdeal.nD Cert.StepOutRefIdeal.τ).loc Cert.StepOutRefIdeal.main_arg0)
          ∧ r.2.mem ((c.tc : Thread Cert.StepOutRefIdeal.nD Cert.StepOutRefIdeal.τ).loc Cert.StepOutRefIdeal.main_arg1) = m' ((c.tc : Thread Cert.StepOutRefIdeal.nD Cert.StepOutRefIdeal.τ).loc Cert.StepOutRefIdeal.main_arg1)
          ∧ r.2.mem ((c.tc : Thread Cert.StepOutRefIdeal.nD Cert.StepOutRefIdeal.τ).loc Cert.StepOutRefIdeal.main_arg2) = m' ((c.tc : Thread Cert.StepOutRefIdeal.nD Cert.StepOutRefIdeal.τ).loc Cert.StepOutRefIdeal.main_arg2)
          ∧ r.2.mem ((c.tc : Thread Cert.StepOutRefIdeal.nD Cert.StepOutRefIdeal.τ).loc Cert.StepOutRefIdeal.main_arg3) = m' ((c.tc : Thread Cert.StepOutRefIdeal.nD Cert.StepOutRefIdeal.τ).loc Cert.StepOutRefIdeal.main_arg3))

def preserves_StepOdIn_StepOdInIdeal : Prop :=
  True

def algebraic_StepOdInIdeal_StepOdInRefIdeal [hStepOdInIdeal : Cert.StepOdInIdeal.Facts] [hStepOdInRefIdeal : Cert.StepOdInRefIdeal.Facts] : Prop :=
  ∀ (m : (ℓ : Loc Cert.StepOdInIdeal.nD Cert.StepOdInIdeal.τ Cert.StepOdInIdeal.sig) → Buf (Elt Ideal) ℓ) (g : Dev Cert.StepOdInIdeal.nD → PrngReg)
    (m' : (ℓ : Loc Cert.StepOdInRefIdeal.nD Cert.StepOdInRefIdeal.τ Cert.StepOdInRefIdeal.sig) → Buf (Elt Ideal) ℓ) (g' : Dev Cert.StepOdInRefIdeal.nD → PrngReg), Pre_StepOdInIdeal m →
    (∀ c : Dev Cert.StepOdInIdeal.nD,
      m' ((c.tc : Thread Cert.StepOdInRefIdeal.nD Cert.StepOdInRefIdeal.τ).loc Cert.StepOdInRefIdeal.main_arg0) = m ((c.tc : Thread Cert.StepOdInIdeal.nD Cert.StepOdInIdeal.τ).loc Cert.StepOdInIdeal.main_arg0)
      ∧ m' ((c.tc : Thread Cert.StepOdInRefIdeal.nD Cert.StepOdInRefIdeal.τ).loc Cert.StepOdInRefIdeal.main_arg1) = m ((c.tc : Thread Cert.StepOdInIdeal.nD Cert.StepOdInIdeal.τ).loc Cert.StepOdInIdeal.main_arg1)
      ∧ m' ((c.tc : Thread Cert.StepOdInRefIdeal.nD Cert.StepOdInRefIdeal.τ).loc Cert.StepOdInRefIdeal.main_arg2) = m ((c.tc : Thread Cert.StepOdInIdeal.nD Cert.StepOdInIdeal.τ).loc Cert.StepOdInIdeal.main_arg2)
      ∧ m' ((c.tc : Thread Cert.StepOdInRefIdeal.nD Cert.StepOdInRefIdeal.τ).loc Cert.StepOdInRefIdeal.main_arg3) = m ((c.tc : Thread Cert.StepOdInIdeal.nD Cert.StepOdInIdeal.τ).loc Cert.StepOdInIdeal.main_arg3)) →
    ∃ (v0 : (c : Dev Cert.StepOdInIdeal.nD) → Buf (Elt Ideal) ((c.tc : Thread Cert.StepOdInIdeal.nD Cert.StepOdInIdeal.τ).loc Cert.StepOdInIdeal.main_v0_0)) (v1 : (c : Dev Cert.StepOdInIdeal.nD) → Buf (Elt Ideal) ((c.tc : Thread Cert.StepOdInIdeal.nD Cert.StepOdInIdeal.τ).loc Cert.StepOdInIdeal.main_v0_1)) (v2 : (c : Dev Cert.StepOdInIdeal.nD) → Buf (Elt Ideal) ((c.tc : Thread Cert.StepOdInIdeal.nD Cert.StepOdInIdeal.τ).loc Cert.StepOdInIdeal.main_v0_2)) (v3 : (c : Dev Cert.StepOdInIdeal.nD) → Buf (Elt Ideal) ((c.tc : Thread Cert.StepOdInIdeal.nD Cert.StepOdInIdeal.τ).loc Cert.StepOdInIdeal.main_v0_3)),
      θ_run (Cert.StepOdInIdeal.defs (F := Ideal)) (onTc (τ := Cert.StepOdInIdeal.τ) (Cert.StepOdInIdeal.main (F := Ideal))) ⟨m, fun _ => 0, g⟩ (fun r => ∀ c : Dev Cert.StepOdInIdeal.nD,
          r.2.mem ((c.tc : Thread Cert.StepOdInIdeal.nD Cert.StepOdInIdeal.τ).loc Cert.StepOdInIdeal.main_v0_0) = v0 c
          ∧ r.2.mem ((c.tc : Thread Cert.StepOdInIdeal.nD Cert.StepOdInIdeal.τ).loc Cert.StepOdInIdeal.main_v0_1) = v1 c
          ∧ r.2.mem ((c.tc : Thread Cert.StepOdInIdeal.nD Cert.StepOdInIdeal.τ).loc Cert.StepOdInIdeal.main_v0_2) = v2 c
          ∧ r.2.mem ((c.tc : Thread Cert.StepOdInIdeal.nD Cert.StepOdInIdeal.τ).loc Cert.StepOdInIdeal.main_v0_3) = v3 c
          ∧ r.2.mem ((c.tc : Thread Cert.StepOdInIdeal.nD Cert.StepOdInIdeal.τ).loc Cert.StepOdInIdeal.main_arg0) = m ((c.tc : Thread Cert.StepOdInIdeal.nD Cert.StepOdInIdeal.τ).loc Cert.StepOdInIdeal.main_arg0)
          ∧ r.2.mem ((c.tc : Thread Cert.StepOdInIdeal.nD Cert.StepOdInIdeal.τ).loc Cert.StepOdInIdeal.main_arg1) = m ((c.tc : Thread Cert.StepOdInIdeal.nD Cert.StepOdInIdeal.τ).loc Cert.StepOdInIdeal.main_arg1)
          ∧ r.2.mem ((c.tc : Thread Cert.StepOdInIdeal.nD Cert.StepOdInIdeal.τ).loc Cert.StepOdInIdeal.main_arg2) = m ((c.tc : Thread Cert.StepOdInIdeal.nD Cert.StepOdInIdeal.τ).loc Cert.StepOdInIdeal.main_arg2)
          ∧ r.2.mem ((c.tc : Thread Cert.StepOdInIdeal.nD Cert.StepOdInIdeal.τ).loc Cert.StepOdInIdeal.main_arg3) = m ((c.tc : Thread Cert.StepOdInIdeal.nD Cert.StepOdInIdeal.τ).loc Cert.StepOdInIdeal.main_arg3))
      ∧ θ_run (Cert.StepOdInRefIdeal.defs (F := Ideal)) (onTc (τ := Cert.StepOdInRefIdeal.τ) (Cert.StepOdInRefIdeal.main (F := Ideal))) ⟨m', fun _ => 0, g'⟩ (fun r => ∀ c : Dev Cert.StepOdInRefIdeal.nD,
          r.2.mem ((c.tc : Thread Cert.StepOdInRefIdeal.nD Cert.StepOdInRefIdeal.τ).loc Cert.StepOdInRefIdeal.main_v23) = v0 c
          ∧ r.2.mem ((c.tc : Thread Cert.StepOdInRefIdeal.nD Cert.StepOdInRefIdeal.τ).loc Cert.StepOdInRefIdeal.main_v4) = v1 c
          ∧ r.2.mem ((c.tc : Thread Cert.StepOdInRefIdeal.nD Cert.StepOdInRefIdeal.τ).loc Cert.StepOdInRefIdeal.main_v10) = v2 c
          ∧ r.2.mem ((c.tc : Thread Cert.StepOdInRefIdeal.nD Cert.StepOdInRefIdeal.τ).loc Cert.StepOdInRefIdeal.main_arg1) = v3 c
          ∧ r.2.mem ((c.tc : Thread Cert.StepOdInRefIdeal.nD Cert.StepOdInRefIdeal.τ).loc Cert.StepOdInRefIdeal.main_arg0) = m' ((c.tc : Thread Cert.StepOdInRefIdeal.nD Cert.StepOdInRefIdeal.τ).loc Cert.StepOdInRefIdeal.main_arg0)
          ∧ r.2.mem ((c.tc : Thread Cert.StepOdInRefIdeal.nD Cert.StepOdInRefIdeal.τ).loc Cert.StepOdInRefIdeal.main_arg1) = m' ((c.tc : Thread Cert.StepOdInRefIdeal.nD Cert.StepOdInRefIdeal.τ).loc Cert.StepOdInRefIdeal.main_arg1)
          ∧ r.2.mem ((c.tc : Thread Cert.StepOdInRefIdeal.nD Cert.StepOdInRefIdeal.τ).loc Cert.StepOdInRefIdeal.main_arg2) = m' ((c.tc : Thread Cert.StepOdInRefIdeal.nD Cert.StepOdInRefIdeal.τ).loc Cert.StepOdInRefIdeal.main_arg2)
          ∧ r.2.mem ((c.tc : Thread Cert.StepOdInRefIdeal.nD Cert.StepOdInRefIdeal.τ).loc Cert.StepOdInRefIdeal.main_arg3) = m' ((c.tc : Thread Cert.StepOdInRefIdeal.nD Cert.StepOdInRefIdeal.τ).loc Cert.StepOdInRefIdeal.main_arg3))

def preserves_StepPool_StepPoolIdeal : Prop :=
  True

def algebraic_StepPoolIdeal_StepPoolRefIdeal [hStepPoolIdeal : Cert.StepPoolIdeal.Facts] [hStepPoolRefIdeal : Cert.StepPoolRefIdeal.Facts] : Prop :=
  ∀ (m : (ℓ : Loc Cert.StepPoolIdeal.nD Cert.StepPoolIdeal.τ Cert.StepPoolIdeal.sig) → Buf (Elt Ideal) ℓ) (g : Dev Cert.StepPoolIdeal.nD → PrngReg)
    (m' : (ℓ : Loc Cert.StepPoolRefIdeal.nD Cert.StepPoolRefIdeal.τ Cert.StepPoolRefIdeal.sig) → Buf (Elt Ideal) ℓ) (g' : Dev Cert.StepPoolRefIdeal.nD → PrngReg), Pre_StepPoolIdeal m →
    (∀ c : Dev Cert.StepPoolIdeal.nD,
      m' ((c.tc : Thread Cert.StepPoolRefIdeal.nD Cert.StepPoolRefIdeal.τ).loc Cert.StepPoolRefIdeal.main_arg0) = m ((c.tc : Thread Cert.StepPoolIdeal.nD Cert.StepPoolIdeal.τ).loc Cert.StepPoolIdeal.main_arg0)
      ∧ m' ((c.tc : Thread Cert.StepPoolRefIdeal.nD Cert.StepPoolRefIdeal.τ).loc Cert.StepPoolRefIdeal.main_arg1) = m ((c.tc : Thread Cert.StepPoolIdeal.nD Cert.StepPoolIdeal.τ).loc Cert.StepPoolIdeal.main_arg1)
      ∧ m' ((c.tc : Thread Cert.StepPoolRefIdeal.nD Cert.StepPoolRefIdeal.τ).loc Cert.StepPoolRefIdeal.main_arg2) = m ((c.tc : Thread Cert.StepPoolIdeal.nD Cert.StepPoolIdeal.τ).loc Cert.StepPoolIdeal.main_arg2)
      ∧ m' ((c.tc : Thread Cert.StepPoolRefIdeal.nD Cert.StepPoolRefIdeal.τ).loc Cert.StepPoolRefIdeal.main_arg3) = m ((c.tc : Thread Cert.StepPoolIdeal.nD Cert.StepPoolIdeal.τ).loc Cert.StepPoolIdeal.main_arg3)) →
    ∃ (v0 : (c : Dev Cert.StepPoolIdeal.nD) → Buf (Elt Ideal) ((c.tc : Thread Cert.StepPoolIdeal.nD Cert.StepPoolIdeal.τ).loc Cert.StepPoolIdeal.main_v0_0)) (v1 : (c : Dev Cert.StepPoolIdeal.nD) → Buf (Elt Ideal) ((c.tc : Thread Cert.StepPoolIdeal.nD Cert.StepPoolIdeal.τ).loc Cert.StepPoolIdeal.main_v0_1)) (v2 : (c : Dev Cert.StepPoolIdeal.nD) → Buf (Elt Ideal) ((c.tc : Thread Cert.StepPoolIdeal.nD Cert.StepPoolIdeal.τ).loc Cert.StepPoolIdeal.main_v0_2)) (v3 : (c : Dev Cert.StepPoolIdeal.nD) → Buf (Elt Ideal) ((c.tc : Thread Cert.StepPoolIdeal.nD Cert.StepPoolIdeal.τ).loc Cert.StepPoolIdeal.main_v0_3)),
      θ_run (Cert.StepPoolIdeal.defs (F := Ideal)) (onTc (τ := Cert.StepPoolIdeal.τ) (Cert.StepPoolIdeal.main (F := Ideal))) ⟨m, fun _ => 0, g⟩ (fun r => ∀ c : Dev Cert.StepPoolIdeal.nD,
          r.2.mem ((c.tc : Thread Cert.StepPoolIdeal.nD Cert.StepPoolIdeal.τ).loc Cert.StepPoolIdeal.main_v0_0) = v0 c
          ∧ r.2.mem ((c.tc : Thread Cert.StepPoolIdeal.nD Cert.StepPoolIdeal.τ).loc Cert.StepPoolIdeal.main_v0_1) = v1 c
          ∧ r.2.mem ((c.tc : Thread Cert.StepPoolIdeal.nD Cert.StepPoolIdeal.τ).loc Cert.StepPoolIdeal.main_v0_2) = v2 c
          ∧ r.2.mem ((c.tc : Thread Cert.StepPoolIdeal.nD Cert.StepPoolIdeal.τ).loc Cert.StepPoolIdeal.main_v0_3) = v3 c
          ∧ r.2.mem ((c.tc : Thread Cert.StepPoolIdeal.nD Cert.StepPoolIdeal.τ).loc Cert.StepPoolIdeal.main_arg0) = m ((c.tc : Thread Cert.StepPoolIdeal.nD Cert.StepPoolIdeal.τ).loc Cert.StepPoolIdeal.main_arg0)
          ∧ r.2.mem ((c.tc : Thread Cert.StepPoolIdeal.nD Cert.StepPoolIdeal.τ).loc Cert.StepPoolIdeal.main_arg1) = m ((c.tc : Thread Cert.StepPoolIdeal.nD Cert.StepPoolIdeal.τ).loc Cert.StepPoolIdeal.main_arg1)
          ∧ r.2.mem ((c.tc : Thread Cert.StepPoolIdeal.nD Cert.StepPoolIdeal.τ).loc Cert.StepPoolIdeal.main_arg2) = m ((c.tc : Thread Cert.StepPoolIdeal.nD Cert.StepPoolIdeal.τ).loc Cert.StepPoolIdeal.main_arg2)
          ∧ r.2.mem ((c.tc : Thread Cert.StepPoolIdeal.nD Cert.StepPoolIdeal.τ).loc Cert.StepPoolIdeal.main_arg3) = m ((c.tc : Thread Cert.StepPoolIdeal.nD Cert.StepPoolIdeal.τ).loc Cert.StepPoolIdeal.main_arg3))
      ∧ θ_run (Cert.StepPoolRefIdeal.defs (F := Ideal)) (onTc (τ := Cert.StepPoolRefIdeal.τ) (Cert.StepPoolRefIdeal.main (F := Ideal))) ⟨m', fun _ => 0, g'⟩ (fun r => ∀ c : Dev Cert.StepPoolRefIdeal.nD,
          r.2.mem ((c.tc : Thread Cert.StepPoolRefIdeal.nD Cert.StepPoolRefIdeal.τ).loc Cert.StepPoolRefIdeal.main_v23) = v0 c
          ∧ r.2.mem ((c.tc : Thread Cert.StepPoolRefIdeal.nD Cert.StepPoolRefIdeal.τ).loc Cert.StepPoolRefIdeal.main_v4) = v1 c
          ∧ r.2.mem ((c.tc : Thread Cert.StepPoolRefIdeal.nD Cert.StepPoolRefIdeal.τ).loc Cert.StepPoolRefIdeal.main_v10) = v2 c
          ∧ r.2.mem ((c.tc : Thread Cert.StepPoolRefIdeal.nD Cert.StepPoolRefIdeal.τ).loc Cert.StepPoolRefIdeal.main_arg1) = v3 c
          ∧ r.2.mem ((c.tc : Thread Cert.StepPoolRefIdeal.nD Cert.StepPoolRefIdeal.τ).loc Cert.StepPoolRefIdeal.main_arg0) = m' ((c.tc : Thread Cert.StepPoolRefIdeal.nD Cert.StepPoolRefIdeal.τ).loc Cert.StepPoolRefIdeal.main_arg0)
          ∧ r.2.mem ((c.tc : Thread Cert.StepPoolRefIdeal.nD Cert.StepPoolRefIdeal.τ).loc Cert.StepPoolRefIdeal.main_arg1) = m' ((c.tc : Thread Cert.StepPoolRefIdeal.nD Cert.StepPoolRefIdeal.τ).loc Cert.StepPoolRefIdeal.main_arg1)
          ∧ r.2.mem ((c.tc : Thread Cert.StepPoolRefIdeal.nD Cert.StepPoolRefIdeal.τ).loc Cert.StepPoolRefIdeal.main_arg2) = m' ((c.tc : Thread Cert.StepPoolRefIdeal.nD Cert.StepPoolRefIdeal.τ).loc Cert.StepPoolRefIdeal.main_arg2)
          ∧ r.2.mem ((c.tc : Thread Cert.StepPoolRefIdeal.nD Cert.StepPoolRefIdeal.τ).loc Cert.StepPoolRefIdeal.main_arg3) = m' ((c.tc : Thread Cert.StepPoolRefIdeal.nD Cert.StepPoolRefIdeal.τ).loc Cert.StepPoolRefIdeal.main_arg3))

def preserves_StepAdaB_StepAdaBIdeal : Prop :=
  True

def algebraic_StepAdaBIdeal_StepAdaBRefIdeal [hStepAdaBIdeal : Cert.StepAdaBIdeal.Facts] [hStepAdaBRefIdeal : Cert.StepAdaBRefIdeal.Facts] : Prop :=
  ∀ (m : (ℓ : Loc Cert.StepAdaBIdeal.nD Cert.StepAdaBIdeal.τ Cert.StepAdaBIdeal.sig) → Buf (Elt Ideal) ℓ) (g : Dev Cert.StepAdaBIdeal.nD → PrngReg)
    (m' : (ℓ : Loc Cert.StepAdaBRefIdeal.nD Cert.StepAdaBRefIdeal.τ Cert.StepAdaBRefIdeal.sig) → Buf (Elt Ideal) ℓ) (g' : Dev Cert.StepAdaBRefIdeal.nD → PrngReg), Pre_StepAdaBIdeal m →
    (∀ c : Dev Cert.StepAdaBIdeal.nD,
      m' ((c.tc : Thread Cert.StepAdaBRefIdeal.nD Cert.StepAdaBRefIdeal.τ).loc Cert.StepAdaBRefIdeal.main_arg0) = m ((c.tc : Thread Cert.StepAdaBIdeal.nD Cert.StepAdaBIdeal.τ).loc Cert.StepAdaBIdeal.main_arg0)
      ∧ m' ((c.tc : Thread Cert.StepAdaBRefIdeal.nD Cert.StepAdaBRefIdeal.τ).loc Cert.StepAdaBRefIdeal.main_arg1) = m ((c.tc : Thread Cert.StepAdaBIdeal.nD Cert.StepAdaBIdeal.τ).loc Cert.StepAdaBIdeal.main_arg1)
      ∧ m' ((c.tc : Thread Cert.StepAdaBRefIdeal.nD Cert.StepAdaBRefIdeal.τ).loc Cert.StepAdaBRefIdeal.main_arg2) = m ((c.tc : Thread Cert.StepAdaBIdeal.nD Cert.StepAdaBIdeal.τ).loc Cert.StepAdaBIdeal.main_arg2)
      ∧ m' ((c.tc : Thread Cert.StepAdaBRefIdeal.nD Cert.StepAdaBRefIdeal.τ).loc Cert.StepAdaBRefIdeal.main_arg3) = m ((c.tc : Thread Cert.StepAdaBIdeal.nD Cert.StepAdaBIdeal.τ).loc Cert.StepAdaBIdeal.main_arg3)) →
    ∃ (v0 : (c : Dev Cert.StepAdaBIdeal.nD) → Buf (Elt Ideal) ((c.tc : Thread Cert.StepAdaBIdeal.nD Cert.StepAdaBIdeal.τ).loc Cert.StepAdaBIdeal.main_v0_0)) (v1 : (c : Dev Cert.StepAdaBIdeal.nD) → Buf (Elt Ideal) ((c.tc : Thread Cert.StepAdaBIdeal.nD Cert.StepAdaBIdeal.τ).loc Cert.StepAdaBIdeal.main_v0_1)) (v2 : (c : Dev Cert.StepAdaBIdeal.nD) → Buf (Elt Ideal) ((c.tc : Thread Cert.StepAdaBIdeal.nD Cert.StepAdaBIdeal.τ).loc Cert.StepAdaBIdeal.main_v0_2)),
      θ_run (Cert.StepAdaBIdeal.defs (F := Ideal)) (onTc (τ := Cert.StepAdaBIdeal.τ) (Cert.StepAdaBIdeal.main (F := Ideal))) ⟨m, fun _ => 0, g⟩ (fun r => ∀ c : Dev Cert.StepAdaBIdeal.nD,
          r.2.mem ((c.tc : Thread Cert.StepAdaBIdeal.nD Cert.StepAdaBIdeal.τ).loc Cert.StepAdaBIdeal.main_v0_0) = v0 c
          ∧ r.2.mem ((c.tc : Thread Cert.StepAdaBIdeal.nD Cert.StepAdaBIdeal.τ).loc Cert.StepAdaBIdeal.main_v0_1) = v1 c
          ∧ r.2.mem ((c.tc : Thread Cert.StepAdaBIdeal.nD Cert.StepAdaBIdeal.τ).loc Cert.StepAdaBIdeal.main_v0_2) = v2 c
          ∧ r.2.mem ((c.tc : Thread Cert.StepAdaBIdeal.nD Cert.StepAdaBIdeal.τ).loc Cert.StepAdaBIdeal.main_arg0) = m ((c.tc : Thread Cert.StepAdaBIdeal.nD Cert.StepAdaBIdeal.τ).loc Cert.StepAdaBIdeal.main_arg0)
          ∧ r.2.mem ((c.tc : Thread Cert.StepAdaBIdeal.nD Cert.StepAdaBIdeal.τ).loc Cert.StepAdaBIdeal.main_arg1) = m ((c.tc : Thread Cert.StepAdaBIdeal.nD Cert.StepAdaBIdeal.τ).loc Cert.StepAdaBIdeal.main_arg1)
          ∧ r.2.mem ((c.tc : Thread Cert.StepAdaBIdeal.nD Cert.StepAdaBIdeal.τ).loc Cert.StepAdaBIdeal.main_arg2) = m ((c.tc : Thread Cert.StepAdaBIdeal.nD Cert.StepAdaBIdeal.τ).loc Cert.StepAdaBIdeal.main_arg2)
          ∧ r.2.mem ((c.tc : Thread Cert.StepAdaBIdeal.nD Cert.StepAdaBIdeal.τ).loc Cert.StepAdaBIdeal.main_arg3) = m ((c.tc : Thread Cert.StepAdaBIdeal.nD Cert.StepAdaBIdeal.τ).loc Cert.StepAdaBIdeal.main_arg3))
      ∧ θ_run (Cert.StepAdaBRefIdeal.defs (F := Ideal)) (onTc (τ := Cert.StepAdaBRefIdeal.τ) (Cert.StepAdaBRefIdeal.main (F := Ideal))) ⟨m', fun _ => 0, g'⟩ (fun r => ∀ c : Dev Cert.StepAdaBRefIdeal.nD,
          r.2.mem ((c.tc : Thread Cert.StepAdaBRefIdeal.nD Cert.StepAdaBRefIdeal.τ).loc Cert.StepAdaBRefIdeal.main_v23) = v0 c
          ∧ r.2.mem ((c.tc : Thread Cert.StepAdaBRefIdeal.nD Cert.StepAdaBRefIdeal.τ).loc Cert.StepAdaBRefIdeal.main_v4) = v1 c
          ∧ r.2.mem ((c.tc : Thread Cert.StepAdaBRefIdeal.nD Cert.StepAdaBRefIdeal.τ).loc Cert.StepAdaBRefIdeal.main_v10) = v2 c
          ∧ r.2.mem ((c.tc : Thread Cert.StepAdaBRefIdeal.nD Cert.StepAdaBRefIdeal.τ).loc Cert.StepAdaBRefIdeal.main_arg0) = m' ((c.tc : Thread Cert.StepAdaBRefIdeal.nD Cert.StepAdaBRefIdeal.τ).loc Cert.StepAdaBRefIdeal.main_arg0)
          ∧ r.2.mem ((c.tc : Thread Cert.StepAdaBRefIdeal.nD Cert.StepAdaBRefIdeal.τ).loc Cert.StepAdaBRefIdeal.main_arg1) = m' ((c.tc : Thread Cert.StepAdaBRefIdeal.nD Cert.StepAdaBRefIdeal.τ).loc Cert.StepAdaBRefIdeal.main_arg1)
          ∧ r.2.mem ((c.tc : Thread Cert.StepAdaBRefIdeal.nD Cert.StepAdaBRefIdeal.τ).loc Cert.StepAdaBRefIdeal.main_arg2) = m' ((c.tc : Thread Cert.StepAdaBRefIdeal.nD Cert.StepAdaBRefIdeal.τ).loc Cert.StepAdaBRefIdeal.main_arg2)
          ∧ r.2.mem ((c.tc : Thread Cert.StepAdaBRefIdeal.nD Cert.StepAdaBRefIdeal.τ).loc Cert.StepAdaBRefIdeal.main_arg3) = m' ((c.tc : Thread Cert.StepAdaBRefIdeal.nD Cert.StepAdaBRefIdeal.τ).loc Cert.StepAdaBRefIdeal.main_arg3))

def preserves_StepGain_StepGainIdeal : Prop :=
  True

def algebraic_StepGainIdeal_StepGainRefIdeal [hStepGainIdeal : Cert.StepGainIdeal.Facts] [hStepGainRefIdeal : Cert.StepGainRefIdeal.Facts] : Prop :=
  ∀ (m : (ℓ : Loc Cert.StepGainIdeal.nD Cert.StepGainIdeal.τ Cert.StepGainIdeal.sig) → Buf (Elt Ideal) ℓ) (g : Dev Cert.StepGainIdeal.nD → PrngReg)
    (m' : (ℓ : Loc Cert.StepGainRefIdeal.nD Cert.StepGainRefIdeal.τ Cert.StepGainRefIdeal.sig) → Buf (Elt Ideal) ℓ) (g' : Dev Cert.StepGainRefIdeal.nD → PrngReg), Pre_StepGainIdeal m →
    (∀ c : Dev Cert.StepGainIdeal.nD,
      m' ((c.tc : Thread Cert.StepGainRefIdeal.nD Cert.StepGainRefIdeal.τ).loc Cert.StepGainRefIdeal.main_arg0) = m ((c.tc : Thread Cert.StepGainIdeal.nD Cert.StepGainIdeal.τ).loc Cert.StepGainIdeal.main_arg0)
      ∧ m' ((c.tc : Thread Cert.StepGainRefIdeal.nD Cert.StepGainRefIdeal.τ).loc Cert.StepGainRefIdeal.main_arg1) = m ((c.tc : Thread Cert.StepGainIdeal.nD Cert.StepGainIdeal.τ).loc Cert.StepGainIdeal.main_arg1)
      ∧ m' ((c.tc : Thread Cert.StepGainRefIdeal.nD Cert.StepGainRefIdeal.τ).loc Cert.StepGainRefIdeal.main_arg2) = m ((c.tc : Thread Cert.StepGainIdeal.nD Cert.StepGainIdeal.τ).loc Cert.StepGainIdeal.main_arg2)
      ∧ m' ((c.tc : Thread Cert.StepGainRefIdeal.nD Cert.StepGainRefIdeal.τ).loc Cert.StepGainRefIdeal.main_arg3) = m ((c.tc : Thread Cert.StepGainIdeal.nD Cert.StepGainIdeal.τ).loc Cert.StepGainIdeal.main_arg3)) →
    ∃ (v0 : (c : Dev Cert.StepGainIdeal.nD) → Buf (Elt Ideal) ((c.tc : Thread Cert.StepGainIdeal.nD Cert.StepGainIdeal.τ).loc Cert.StepGainIdeal.main_v0_0)) (v1 : (c : Dev Cert.StepGainIdeal.nD) → Buf (Elt Ideal) ((c.tc : Thread Cert.StepGainIdeal.nD Cert.StepGainIdeal.τ).loc Cert.StepGainIdeal.main_v0_1)) (v2 : (c : Dev Cert.StepGainIdeal.nD) → Buf (Elt Ideal) ((c.tc : Thread Cert.StepGainIdeal.nD Cert.StepGainIdeal.τ).loc Cert.StepGainIdeal.main_v0_2)),
      θ_run (Cert.StepGainIdeal.defs (F := Ideal)) (onTc (τ := Cert.StepGainIdeal.τ) (Cert.StepGainIdeal.main (F := Ideal))) ⟨m, fun _ => 0, g⟩ (fun r => ∀ c : Dev Cert.StepGainIdeal.nD,
          r.2.mem ((c.tc : Thread Cert.StepGainIdeal.nD Cert.StepGainIdeal.τ).loc Cert.StepGainIdeal.main_v0_0) = v0 c
          ∧ r.2.mem ((c.tc : Thread Cert.StepGainIdeal.nD Cert.StepGainIdeal.τ).loc Cert.StepGainIdeal.main_v0_1) = v1 c
          ∧ r.2.mem ((c.tc : Thread Cert.StepGainIdeal.nD Cert.StepGainIdeal.τ).loc Cert.StepGainIdeal.main_v0_2) = v2 c
          ∧ r.2.mem ((c.tc : Thread Cert.StepGainIdeal.nD Cert.StepGainIdeal.τ).loc Cert.StepGainIdeal.main_arg0) = m ((c.tc : Thread Cert.StepGainIdeal.nD Cert.StepGainIdeal.τ).loc Cert.StepGainIdeal.main_arg0)
          ∧ r.2.mem ((c.tc : Thread Cert.StepGainIdeal.nD Cert.StepGainIdeal.τ).loc Cert.StepGainIdeal.main_arg1) = m ((c.tc : Thread Cert.StepGainIdeal.nD Cert.StepGainIdeal.τ).loc Cert.StepGainIdeal.main_arg1)
          ∧ r.2.mem ((c.tc : Thread Cert.StepGainIdeal.nD Cert.StepGainIdeal.τ).loc Cert.StepGainIdeal.main_arg2) = m ((c.tc : Thread Cert.StepGainIdeal.nD Cert.StepGainIdeal.τ).loc Cert.StepGainIdeal.main_arg2)
          ∧ r.2.mem ((c.tc : Thread Cert.StepGainIdeal.nD Cert.StepGainIdeal.τ).loc Cert.StepGainIdeal.main_arg3) = m ((c.tc : Thread Cert.StepGainIdeal.nD Cert.StepGainIdeal.τ).loc Cert.StepGainIdeal.main_arg3))
      ∧ θ_run (Cert.StepGainRefIdeal.defs (F := Ideal)) (onTc (τ := Cert.StepGainRefIdeal.τ) (Cert.StepGainRefIdeal.main (F := Ideal))) ⟨m', fun _ => 0, g'⟩ (fun r => ∀ c : Dev Cert.StepGainRefIdeal.nD,
          r.2.mem ((c.tc : Thread Cert.StepGainRefIdeal.nD Cert.StepGainRefIdeal.τ).loc Cert.StepGainRefIdeal.main_v23) = v0 c
          ∧ r.2.mem ((c.tc : Thread Cert.StepGainRefIdeal.nD Cert.StepGainRefIdeal.τ).loc Cert.StepGainRefIdeal.main_v4) = v1 c
          ∧ r.2.mem ((c.tc : Thread Cert.StepGainRefIdeal.nD Cert.StepGainRefIdeal.τ).loc Cert.StepGainRefIdeal.main_v10) = v2 c
          ∧ r.2.mem ((c.tc : Thread Cert.StepGainRefIdeal.nD Cert.StepGainRefIdeal.τ).loc Cert.StepGainRefIdeal.main_arg0) = m' ((c.tc : Thread Cert.StepGainRefIdeal.nD Cert.StepGainRefIdeal.τ).loc Cert.StepGainRefIdeal.main_arg0)
          ∧ r.2.mem ((c.tc : Thread Cert.StepGainRefIdeal.nD Cert.StepGainRefIdeal.τ).loc Cert.StepGainRefIdeal.main_arg1) = m' ((c.tc : Thread Cert.StepGainRefIdeal.nD Cert.StepGainRefIdeal.τ).loc Cert.StepGainRefIdeal.main_arg1)
          ∧ r.2.mem ((c.tc : Thread Cert.StepGainRefIdeal.nD Cert.StepGainRefIdeal.τ).loc Cert.StepGainRefIdeal.main_arg2) = m' ((c.tc : Thread Cert.StepGainRefIdeal.nD Cert.StepGainRefIdeal.τ).loc Cert.StepGainRefIdeal.main_arg2)
          ∧ r.2.mem ((c.tc : Thread Cert.StepGainRefIdeal.nD Cert.StepGainRefIdeal.τ).loc Cert.StepGainRefIdeal.main_arg3) = m' ((c.tc : Thread Cert.StepGainRefIdeal.nD Cert.StepGainRefIdeal.τ).loc Cert.StepGainRefIdeal.main_arg3))

def preserves_StepHalf_StepHalfIdeal : Prop :=
  True

def algebraic_StepHalfIdeal_StepHalfRefIdeal [hStepHalfIdeal : Cert.StepHalfIdeal.Facts] [hStepHalfRefIdeal : Cert.StepHalfRefIdeal.Facts] : Prop :=
  ∀ (m : (ℓ : Loc Cert.StepHalfIdeal.nD Cert.StepHalfIdeal.τ Cert.StepHalfIdeal.sig) → Buf (Elt Ideal) ℓ) (g : Dev Cert.StepHalfIdeal.nD → PrngReg)
    (m' : (ℓ : Loc Cert.StepHalfRefIdeal.nD Cert.StepHalfRefIdeal.τ Cert.StepHalfRefIdeal.sig) → Buf (Elt Ideal) ℓ) (g' : Dev Cert.StepHalfRefIdeal.nD → PrngReg), Pre_StepHalfIdeal m →
    (∀ c : Dev Cert.StepHalfIdeal.nD,
      m' ((c.tc : Thread Cert.StepHalfRefIdeal.nD Cert.StepHalfRefIdeal.τ).loc Cert.StepHalfRefIdeal.main_arg0) = m ((c.tc : Thread Cert.StepHalfIdeal.nD Cert.StepHalfIdeal.τ).loc Cert.StepHalfIdeal.main_arg0)
      ∧ m' ((c.tc : Thread Cert.StepHalfRefIdeal.nD Cert.StepHalfRefIdeal.τ).loc Cert.StepHalfRefIdeal.main_arg1) = m ((c.tc : Thread Cert.StepHalfIdeal.nD Cert.StepHalfIdeal.τ).loc Cert.StepHalfIdeal.main_arg1)
      ∧ m' ((c.tc : Thread Cert.StepHalfRefIdeal.nD Cert.StepHalfRefIdeal.τ).loc Cert.StepHalfRefIdeal.main_arg2) = m ((c.tc : Thread Cert.StepHalfIdeal.nD Cert.StepHalfIdeal.τ).loc Cert.StepHalfIdeal.main_arg2)
      ∧ m' ((c.tc : Thread Cert.StepHalfRefIdeal.nD Cert.StepHalfRefIdeal.τ).loc Cert.StepHalfRefIdeal.main_arg3) = m ((c.tc : Thread Cert.StepHalfIdeal.nD Cert.StepHalfIdeal.τ).loc Cert.StepHalfIdeal.main_arg3)) →
    ∃ (v0 : (c : Dev Cert.StepHalfIdeal.nD) → Buf (Elt Ideal) ((c.tc : Thread Cert.StepHalfIdeal.nD Cert.StepHalfIdeal.τ).loc Cert.StepHalfIdeal.main_v0_0)) (v1 : (c : Dev Cert.StepHalfIdeal.nD) → Buf (Elt Ideal) ((c.tc : Thread Cert.StepHalfIdeal.nD Cert.StepHalfIdeal.τ).loc Cert.StepHalfIdeal.main_v0_1)) (v2 : (c : Dev Cert.StepHalfIdeal.nD) → Buf (Elt Ideal) ((c.tc : Thread Cert.StepHalfIdeal.nD Cert.StepHalfIdeal.τ).loc Cert.StepHalfIdeal.main_v0_2)),
      θ_run (Cert.StepHalfIdeal.defs (F := Ideal)) (onTc (τ := Cert.StepHalfIdeal.τ) (Cert.StepHalfIdeal.main (F := Ideal))) ⟨m, fun _ => 0, g⟩ (fun r => ∀ c : Dev Cert.StepHalfIdeal.nD,
          r.2.mem ((c.tc : Thread Cert.StepHalfIdeal.nD Cert.StepHalfIdeal.τ).loc Cert.StepHalfIdeal.main_v0_0) = v0 c
          ∧ r.2.mem ((c.tc : Thread Cert.StepHalfIdeal.nD Cert.StepHalfIdeal.τ).loc Cert.StepHalfIdeal.main_v0_1) = v1 c
          ∧ r.2.mem ((c.tc : Thread Cert.StepHalfIdeal.nD Cert.StepHalfIdeal.τ).loc Cert.StepHalfIdeal.main_v0_2) = v2 c
          ∧ r.2.mem ((c.tc : Thread Cert.StepHalfIdeal.nD Cert.StepHalfIdeal.τ).loc Cert.StepHalfIdeal.main_arg0) = m ((c.tc : Thread Cert.StepHalfIdeal.nD Cert.StepHalfIdeal.τ).loc Cert.StepHalfIdeal.main_arg0)
          ∧ r.2.mem ((c.tc : Thread Cert.StepHalfIdeal.nD Cert.StepHalfIdeal.τ).loc Cert.StepHalfIdeal.main_arg1) = m ((c.tc : Thread Cert.StepHalfIdeal.nD Cert.StepHalfIdeal.τ).loc Cert.StepHalfIdeal.main_arg1)
          ∧ r.2.mem ((c.tc : Thread Cert.StepHalfIdeal.nD Cert.StepHalfIdeal.τ).loc Cert.StepHalfIdeal.main_arg2) = m ((c.tc : Thread Cert.StepHalfIdeal.nD Cert.StepHalfIdeal.τ).loc Cert.StepHalfIdeal.main_arg2)
          ∧ r.2.mem ((c.tc : Thread Cert.StepHalfIdeal.nD Cert.StepHalfIdeal.τ).loc Cert.StepHalfIdeal.main_arg3) = m ((c.tc : Thread Cert.StepHalfIdeal.nD Cert.StepHalfIdeal.τ).loc Cert.StepHalfIdeal.main_arg3))
      ∧ θ_run (Cert.StepHalfRefIdeal.defs (F := Ideal)) (onTc (τ := Cert.StepHalfRefIdeal.τ) (Cert.StepHalfRefIdeal.main (F := Ideal))) ⟨m', fun _ => 0, g'⟩ (fun r => ∀ c : Dev Cert.StepHalfRefIdeal.nD,
          r.2.mem ((c.tc : Thread Cert.StepHalfRefIdeal.nD Cert.StepHalfRefIdeal.τ).loc Cert.StepHalfRefIdeal.main_v23) = v0 c
          ∧ r.2.mem ((c.tc : Thread Cert.StepHalfRefIdeal.nD Cert.StepHalfRefIdeal.τ).loc Cert.StepHalfRefIdeal.main_v4) = v1 c
          ∧ r.2.mem ((c.tc : Thread Cert.StepHalfRefIdeal.nD Cert.StepHalfRefIdeal.τ).loc Cert.StepHalfRefIdeal.main_v10) = v2 c
          ∧ r.2.mem ((c.tc : Thread Cert.StepHalfRefIdeal.nD Cert.StepHalfRefIdeal.τ).loc Cert.StepHalfRefIdeal.main_arg0) = m' ((c.tc : Thread Cert.StepHalfRefIdeal.nD Cert.StepHalfRefIdeal.τ).loc Cert.StepHalfRefIdeal.main_arg0)
          ∧ r.2.mem ((c.tc : Thread Cert.StepHalfRefIdeal.nD Cert.StepHalfRefIdeal.τ).loc Cert.StepHalfRefIdeal.main_arg1) = m' ((c.tc : Thread Cert.StepHalfRefIdeal.nD Cert.StepHalfRefIdeal.τ).loc Cert.StepHalfRefIdeal.main_arg1)
          ∧ r.2.mem ((c.tc : Thread Cert.StepHalfRefIdeal.nD Cert.StepHalfRefIdeal.τ).loc Cert.StepHalfRefIdeal.main_arg2) = m' ((c.tc : Thread Cert.StepHalfRefIdeal.nD Cert.StepHalfRefIdeal.τ).loc Cert.StepHalfRefIdeal.main_arg2)
          ∧ r.2.mem ((c.tc : Thread Cert.StepHalfRefIdeal.nD Cert.StepHalfRefIdeal.τ).loc Cert.StepHalfRefIdeal.main_arg3) = m' ((c.tc : Thread Cert.StepHalfRefIdeal.nD Cert.StepHalfRefIdeal.τ).loc Cert.StepHalfRefIdeal.main_arg3))

def preserves_StepConv_StepConvIdeal : Prop :=
  True

def algebraic_StepConvIdeal_StepConvRefIdeal [hStepConvIdeal : Cert.StepConvIdeal.Facts] [hStepConvRefIdeal : Cert.StepConvRefIdeal.Facts] : Prop :=
  ∀ (m : (ℓ : Loc Cert.StepConvIdeal.nD Cert.StepConvIdeal.τ Cert.StepConvIdeal.sig) → Buf (Elt Ideal) ℓ) (g : Dev Cert.StepConvIdeal.nD → PrngReg)
    (m' : (ℓ : Loc Cert.StepConvRefIdeal.nD Cert.StepConvRefIdeal.τ Cert.StepConvRefIdeal.sig) → Buf (Elt Ideal) ℓ) (g' : Dev Cert.StepConvRefIdeal.nD → PrngReg), Pre_StepConvIdeal m →
    (∀ c : Dev Cert.StepConvIdeal.nD,
      m' ((c.tc : Thread Cert.StepConvRefIdeal.nD Cert.StepConvRefIdeal.τ).loc Cert.StepConvRefIdeal.main_arg0) = m ((c.tc : Thread Cert.StepConvIdeal.nD Cert.StepConvIdeal.τ).loc Cert.StepConvIdeal.main_arg0)
      ∧ m' ((c.tc : Thread Cert.StepConvRefIdeal.nD Cert.StepConvRefIdeal.τ).loc Cert.StepConvRefIdeal.main_arg1) = m ((c.tc : Thread Cert.StepConvIdeal.nD Cert.StepConvIdeal.τ).loc Cert.StepConvIdeal.main_arg1)
      ∧ m' ((c.tc : Thread Cert.StepConvRefIdeal.nD Cert.StepConvRefIdeal.τ).loc Cert.StepConvRefIdeal.main_arg2) = m ((c.tc : Thread Cert.StepConvIdeal.nD Cert.StepConvIdeal.τ).loc Cert.StepConvIdeal.main_arg2)
      ∧ m' ((c.tc : Thread Cert.StepConvRefIdeal.nD Cert.StepConvRefIdeal.τ).loc Cert.StepConvRefIdeal.main_arg3) = m ((c.tc : Thread Cert.StepConvIdeal.nD Cert.StepConvIdeal.τ).loc Cert.StepConvIdeal.main_arg3)) →
    ∃ (v0 : (c : Dev Cert.StepConvIdeal.nD) → Buf (Elt Ideal) ((c.tc : Thread Cert.StepConvIdeal.nD Cert.StepConvIdeal.τ).loc Cert.StepConvIdeal.main_v0_0)) (v1 : (c : Dev Cert.StepConvIdeal.nD) → Buf (Elt Ideal) ((c.tc : Thread Cert.StepConvIdeal.nD Cert.StepConvIdeal.τ).loc Cert.StepConvIdeal.main_v0_1)) (v2 : (c : Dev Cert.StepConvIdeal.nD) → Buf (Elt Ideal) ((c.tc : Thread Cert.StepConvIdeal.nD Cert.StepConvIdeal.τ).loc Cert.StepConvIdeal.main_v0_2)),
      θ_run (Cert.StepConvIdeal.defs (F := Ideal)) (onTc (τ := Cert.StepConvIdeal.τ) (Cert.StepConvIdeal.main (F := Ideal))) ⟨m, fun _ => 0, g⟩ (fun r => ∀ c : Dev Cert.StepConvIdeal.nD,
          r.2.mem ((c.tc : Thread Cert.StepConvIdeal.nD Cert.StepConvIdeal.τ).loc Cert.StepConvIdeal.main_v0_0) = v0 c
          ∧ r.2.mem ((c.tc : Thread Cert.StepConvIdeal.nD Cert.StepConvIdeal.τ).loc Cert.StepConvIdeal.main_v0_1) = v1 c
          ∧ r.2.mem ((c.tc : Thread Cert.StepConvIdeal.nD Cert.StepConvIdeal.τ).loc Cert.StepConvIdeal.main_v0_2) = v2 c
          ∧ r.2.mem ((c.tc : Thread Cert.StepConvIdeal.nD Cert.StepConvIdeal.τ).loc Cert.StepConvIdeal.main_arg0) = m ((c.tc : Thread Cert.StepConvIdeal.nD Cert.StepConvIdeal.τ).loc Cert.StepConvIdeal.main_arg0)
          ∧ r.2.mem ((c.tc : Thread Cert.StepConvIdeal.nD Cert.StepConvIdeal.τ).loc Cert.StepConvIdeal.main_arg1) = m ((c.tc : Thread Cert.StepConvIdeal.nD Cert.StepConvIdeal.τ).loc Cert.StepConvIdeal.main_arg1)
          ∧ r.2.mem ((c.tc : Thread Cert.StepConvIdeal.nD Cert.StepConvIdeal.τ).loc Cert.StepConvIdeal.main_arg2) = m ((c.tc : Thread Cert.StepConvIdeal.nD Cert.StepConvIdeal.τ).loc Cert.StepConvIdeal.main_arg2)
          ∧ r.2.mem ((c.tc : Thread Cert.StepConvIdeal.nD Cert.StepConvIdeal.τ).loc Cert.StepConvIdeal.main_arg3) = m ((c.tc : Thread Cert.StepConvIdeal.nD Cert.StepConvIdeal.τ).loc Cert.StepConvIdeal.main_arg3))
      ∧ θ_run (Cert.StepConvRefIdeal.defs (F := Ideal)) (onTc (τ := Cert.StepConvRefIdeal.τ) (Cert.StepConvRefIdeal.main (F := Ideal))) ⟨m', fun _ => 0, g'⟩ (fun r => ∀ c : Dev Cert.StepConvRefIdeal.nD,
          r.2.mem ((c.tc : Thread Cert.StepConvRefIdeal.nD Cert.StepConvRefIdeal.τ).loc Cert.StepConvRefIdeal.main_v23) = v0 c
          ∧ r.2.mem ((c.tc : Thread Cert.StepConvRefIdeal.nD Cert.StepConvRefIdeal.τ).loc Cert.StepConvRefIdeal.main_v4) = v1 c
          ∧ r.2.mem ((c.tc : Thread Cert.StepConvRefIdeal.nD Cert.StepConvRefIdeal.τ).loc Cert.StepConvRefIdeal.main_v10) = v2 c
          ∧ r.2.mem ((c.tc : Thread Cert.StepConvRefIdeal.nD Cert.StepConvRefIdeal.τ).loc Cert.StepConvRefIdeal.main_arg0) = m' ((c.tc : Thread Cert.StepConvRefIdeal.nD Cert.StepConvRefIdeal.τ).loc Cert.StepConvRefIdeal.main_arg0)
          ∧ r.2.mem ((c.tc : Thread Cert.StepConvRefIdeal.nD Cert.StepConvRefIdeal.τ).loc Cert.StepConvRefIdeal.main_arg1) = m' ((c.tc : Thread Cert.StepConvRefIdeal.nD Cert.StepConvRefIdeal.τ).loc Cert.StepConvRefIdeal.main_arg1)
          ∧ r.2.mem ((c.tc : Thread Cert.StepConvRefIdeal.nD Cert.StepConvRefIdeal.τ).loc Cert.StepConvRefIdeal.main_arg2) = m' ((c.tc : Thread Cert.StepConvRefIdeal.nD Cert.StepConvRefIdeal.τ).loc Cert.StepConvRefIdeal.main_arg2)
          ∧ r.2.mem ((c.tc : Thread Cert.StepConvRefIdeal.nD Cert.StepConvRefIdeal.τ).loc Cert.StepConvRefIdeal.main_arg3) = m' ((c.tc : Thread Cert.StepConvRefIdeal.nD Cert.StepConvRefIdeal.τ).loc Cert.StepConvRefIdeal.main_arg3))

def preserves_StepOnorm_StepOnormIdeal : Prop :=
  True

def algebraic_StepOnormIdeal_StepOnormRefIdeal [hStepOnormIdeal : Cert.StepOnormIdeal.Facts] [hStepOnormRefIdeal : Cert.StepOnormRefIdeal.Facts] : Prop :=
  ∀ (m : (ℓ : Loc Cert.StepOnormIdeal.nD Cert.StepOnormIdeal.τ Cert.StepOnormIdeal.sig) → Buf (Elt Ideal) ℓ) (g : Dev Cert.StepOnormIdeal.nD → PrngReg)
    (m' : (ℓ : Loc Cert.StepOnormRefIdeal.nD Cert.StepOnormRefIdeal.τ Cert.StepOnormRefIdeal.sig) → Buf (Elt Ideal) ℓ) (g' : Dev Cert.StepOnormRefIdeal.nD → PrngReg), Pre_StepOnormIdeal m →
    (∀ c : Dev Cert.StepOnormIdeal.nD,
      m' ((c.tc : Thread Cert.StepOnormRefIdeal.nD Cert.StepOnormRefIdeal.τ).loc Cert.StepOnormRefIdeal.main_arg0) = m ((c.tc : Thread Cert.StepOnormIdeal.nD Cert.StepOnormIdeal.τ).loc Cert.StepOnormIdeal.main_arg0)
      ∧ m' ((c.tc : Thread Cert.StepOnormRefIdeal.nD Cert.StepOnormRefIdeal.τ).loc Cert.StepOnormRefIdeal.main_arg1) = m ((c.tc : Thread Cert.StepOnormIdeal.nD Cert.StepOnormIdeal.τ).loc Cert.StepOnormIdeal.main_arg1)
      ∧ m' ((c.tc : Thread Cert.StepOnormRefIdeal.nD Cert.StepOnormRefIdeal.τ).loc Cert.StepOnormRefIdeal.main_arg2) = m ((c.tc : Thread Cert.StepOnormIdeal.nD Cert.StepOnormIdeal.τ).loc Cert.StepOnormIdeal.main_arg2)
      ∧ m' ((c.tc : Thread Cert.StepOnormRefIdeal.nD Cert.StepOnormRefIdeal.τ).loc Cert.StepOnormRefIdeal.main_arg3) = m ((c.tc : Thread Cert.StepOnormIdeal.nD Cert.StepOnormIdeal.τ).loc Cert.StepOnormIdeal.main_arg3)) →
    ∃ (v0 : (c : Dev Cert.StepOnormIdeal.nD) → Buf (Elt Ideal) ((c.tc : Thread Cert.StepOnormIdeal.nD Cert.StepOnormIdeal.τ).loc Cert.StepOnormIdeal.main_v0_0)) (v1 : (c : Dev Cert.StepOnormIdeal.nD) → Buf (Elt Ideal) ((c.tc : Thread Cert.StepOnormIdeal.nD Cert.StepOnormIdeal.τ).loc Cert.StepOnormIdeal.main_v0_1)) (v2 : (c : Dev Cert.StepOnormIdeal.nD) → Buf (Elt Ideal) ((c.tc : Thread Cert.StepOnormIdeal.nD Cert.StepOnormIdeal.τ).loc Cert.StepOnormIdeal.main_v0_2)),
      θ_run (Cert.StepOnormIdeal.defs (F := Ideal)) (onTc (τ := Cert.StepOnormIdeal.τ) (Cert.StepOnormIdeal.main (F := Ideal))) ⟨m, fun _ => 0, g⟩ (fun r => ∀ c : Dev Cert.StepOnormIdeal.nD,
          r.2.mem ((c.tc : Thread Cert.StepOnormIdeal.nD Cert.StepOnormIdeal.τ).loc Cert.StepOnormIdeal.main_v0_0) = v0 c
          ∧ r.2.mem ((c.tc : Thread Cert.StepOnormIdeal.nD Cert.StepOnormIdeal.τ).loc Cert.StepOnormIdeal.main_v0_1) = v1 c
          ∧ r.2.mem ((c.tc : Thread Cert.StepOnormIdeal.nD Cert.StepOnormIdeal.τ).loc Cert.StepOnormIdeal.main_v0_2) = v2 c
          ∧ r.2.mem ((c.tc : Thread Cert.StepOnormIdeal.nD Cert.StepOnormIdeal.τ).loc Cert.StepOnormIdeal.main_arg0) = m ((c.tc : Thread Cert.StepOnormIdeal.nD Cert.StepOnormIdeal.τ).loc Cert.StepOnormIdeal.main_arg0)
          ∧ r.2.mem ((c.tc : Thread Cert.StepOnormIdeal.nD Cert.StepOnormIdeal.τ).loc Cert.StepOnormIdeal.main_arg1) = m ((c.tc : Thread Cert.StepOnormIdeal.nD Cert.StepOnormIdeal.τ).loc Cert.StepOnormIdeal.main_arg1)
          ∧ r.2.mem ((c.tc : Thread Cert.StepOnormIdeal.nD Cert.StepOnormIdeal.τ).loc Cert.StepOnormIdeal.main_arg2) = m ((c.tc : Thread Cert.StepOnormIdeal.nD Cert.StepOnormIdeal.τ).loc Cert.StepOnormIdeal.main_arg2)
          ∧ r.2.mem ((c.tc : Thread Cert.StepOnormIdeal.nD Cert.StepOnormIdeal.τ).loc Cert.StepOnormIdeal.main_arg3) = m ((c.tc : Thread Cert.StepOnormIdeal.nD Cert.StepOnormIdeal.τ).loc Cert.StepOnormIdeal.main_arg3))
      ∧ θ_run (Cert.StepOnormRefIdeal.defs (F := Ideal)) (onTc (τ := Cert.StepOnormRefIdeal.τ) (Cert.StepOnormRefIdeal.main (F := Ideal))) ⟨m', fun _ => 0, g'⟩ (fun r => ∀ c : Dev Cert.StepOnormRefIdeal.nD,
          r.2.mem ((c.tc : Thread Cert.StepOnormRefIdeal.nD Cert.StepOnormRefIdeal.τ).loc Cert.StepOnormRefIdeal.main_v23) = v0 c
          ∧ r.2.mem ((c.tc : Thread Cert.StepOnormRefIdeal.nD Cert.StepOnormRefIdeal.τ).loc Cert.StepOnormRefIdeal.main_v4) = v1 c
          ∧ r.2.mem ((c.tc : Thread Cert.StepOnormRefIdeal.nD Cert.StepOnormRefIdeal.τ).loc Cert.StepOnormRefIdeal.main_v10) = v2 c
          ∧ r.2.mem ((c.tc : Thread Cert.StepOnormRefIdeal.nD Cert.StepOnormRefIdeal.τ).loc Cert.StepOnormRefIdeal.main_arg0) = m' ((c.tc : Thread Cert.StepOnormRefIdeal.nD Cert.StepOnormRefIdeal.τ).loc Cert.StepOnormRefIdeal.main_arg0)
          ∧ r.2.mem ((c.tc : Thread Cert.StepOnormRefIdeal.nD Cert.StepOnormRefIdeal.τ).loc Cert.StepOnormRefIdeal.main_arg1) = m' ((c.tc : Thread Cert.StepOnormRefIdeal.nD Cert.StepOnormRefIdeal.τ).loc Cert.StepOnormRefIdeal.main_arg1)
          ∧ r.2.mem ((c.tc : Thread Cert.StepOnormRefIdeal.nD Cert.StepOnormRefIdeal.τ).loc Cert.StepOnormRefIdeal.main_arg2) = m' ((c.tc : Thread Cert.StepOnormRefIdeal.nD Cert.StepOnormRefIdeal.τ).loc Cert.StepOnormRefIdeal.main_arg2)
          ∧ r.2.mem ((c.tc : Thread Cert.StepOnormRefIdeal.nD Cert.StepOnormRefIdeal.τ).loc Cert.StepOnormRefIdeal.main_arg3) = m' ((c.tc : Thread Cert.StepOnormRefIdeal.nD Cert.StepOnormRefIdeal.τ).loc Cert.StepOnormRefIdeal.main_arg3))

def preserves_StepLb_StepLbIdeal : Prop :=
  True

def algebraic_StepLbIdeal_StepLbRefIdeal [hStepLbIdeal : Cert.StepLbIdeal.Facts] [hStepLbRefIdeal : Cert.StepLbRefIdeal.Facts] : Prop :=
  ∀ (m : (ℓ : Loc Cert.StepLbIdeal.nD Cert.StepLbIdeal.τ Cert.StepLbIdeal.sig) → Buf (Elt Ideal) ℓ) (g : Dev Cert.StepLbIdeal.nD → PrngReg)
    (m' : (ℓ : Loc Cert.StepLbRefIdeal.nD Cert.StepLbRefIdeal.τ Cert.StepLbRefIdeal.sig) → Buf (Elt Ideal) ℓ) (g' : Dev Cert.StepLbRefIdeal.nD → PrngReg), Pre_StepLbIdeal m →
    (∀ c : Dev Cert.StepLbIdeal.nD,
      m' ((c.tc : Thread Cert.StepLbRefIdeal.nD Cert.StepLbRefIdeal.τ).loc Cert.StepLbRefIdeal.main_arg0) = m ((c.tc : Thread Cert.StepLbIdeal.nD Cert.StepLbIdeal.τ).loc Cert.StepLbIdeal.main_arg0)
      ∧ m' ((c.tc : Thread Cert.StepLbRefIdeal.nD Cert.StepLbRefIdeal.τ).loc Cert.StepLbRefIdeal.main_arg1) = m ((c.tc : Thread Cert.StepLbIdeal.nD Cert.StepLbIdeal.τ).loc Cert.StepLbIdeal.main_arg1)
      ∧ m' ((c.tc : Thread Cert.StepLbRefIdeal.nD Cert.StepLbRefIdeal.τ).loc Cert.StepLbRefIdeal.main_arg2) = m ((c.tc : Thread Cert.StepLbIdeal.nD Cert.StepLbIdeal.τ).loc Cert.StepLbIdeal.main_arg2)
      ∧ m' ((c.tc : Thread Cert.StepLbRefIdeal.nD Cert.StepLbRefIdeal.τ).loc Cert.StepLbRefIdeal.main_arg3) = m ((c.tc : Thread Cert.StepLbIdeal.nD Cert.StepLbIdeal.τ).loc Cert.StepLbIdeal.main_arg3)) →
    ∃ (v0 : (c : Dev Cert.StepLbIdeal.nD) → Buf (Elt Ideal) ((c.tc : Thread Cert.StepLbIdeal.nD Cert.StepLbIdeal.τ).loc Cert.StepLbIdeal.main_v0_0)) (v1 : (c : Dev Cert.StepLbIdeal.nD) → Buf (Elt Ideal) ((c.tc : Thread Cert.StepLbIdeal.nD Cert.StepLbIdeal.τ).loc Cert.StepLbIdeal.main_v0_1)) (v2 : (c : Dev Cert.StepLbIdeal.nD) → Buf (Elt Ideal) ((c.tc : Thread Cert.StepLbIdeal.nD Cert.StepLbIdeal.τ).loc Cert.StepLbIdeal.main_v0_2)),
      θ_run (Cert.StepLbIdeal.defs (F := Ideal)) (onTc (τ := Cert.StepLbIdeal.τ) (Cert.StepLbIdeal.main (F := Ideal))) ⟨m, fun _ => 0, g⟩ (fun r => ∀ c : Dev Cert.StepLbIdeal.nD,
          r.2.mem ((c.tc : Thread Cert.StepLbIdeal.nD Cert.StepLbIdeal.τ).loc Cert.StepLbIdeal.main_v0_0) = v0 c
          ∧ r.2.mem ((c.tc : Thread Cert.StepLbIdeal.nD Cert.StepLbIdeal.τ).loc Cert.StepLbIdeal.main_v0_1) = v1 c
          ∧ r.2.mem ((c.tc : Thread Cert.StepLbIdeal.nD Cert.StepLbIdeal.τ).loc Cert.StepLbIdeal.main_v0_2) = v2 c
          ∧ r.2.mem ((c.tc : Thread Cert.StepLbIdeal.nD Cert.StepLbIdeal.τ).loc Cert.StepLbIdeal.main_arg0) = m ((c.tc : Thread Cert.StepLbIdeal.nD Cert.StepLbIdeal.τ).loc Cert.StepLbIdeal.main_arg0)
          ∧ r.2.mem ((c.tc : Thread Cert.StepLbIdeal.nD Cert.StepLbIdeal.τ).loc Cert.StepLbIdeal.main_arg1) = m ((c.tc : Thread Cert.StepLbIdeal.nD Cert.StepLbIdeal.τ).loc Cert.StepLbIdeal.main_arg1)
          ∧ r.2.mem ((c.tc : Thread Cert.StepLbIdeal.nD Cert.StepLbIdeal.τ).loc Cert.StepLbIdeal.main_arg2) = m ((c.tc : Thread Cert.StepLbIdeal.nD Cert.StepLbIdeal.τ).loc Cert.StepLbIdeal.main_arg2)
          ∧ r.2.mem ((c.tc : Thread Cert.StepLbIdeal.nD Cert.StepLbIdeal.τ).loc Cert.StepLbIdeal.main_arg3) = m ((c.tc : Thread Cert.StepLbIdeal.nD Cert.StepLbIdeal.τ).loc Cert.StepLbIdeal.main_arg3))
      ∧ θ_run (Cert.StepLbRefIdeal.defs (F := Ideal)) (onTc (τ := Cert.StepLbRefIdeal.τ) (Cert.StepLbRefIdeal.main (F := Ideal))) ⟨m', fun _ => 0, g'⟩ (fun r => ∀ c : Dev Cert.StepLbRefIdeal.nD,
          r.2.mem ((c.tc : Thread Cert.StepLbRefIdeal.nD Cert.StepLbRefIdeal.τ).loc Cert.StepLbRefIdeal.main_v23) = v0 c
          ∧ r.2.mem ((c.tc : Thread Cert.StepLbRefIdeal.nD Cert.StepLbRefIdeal.τ).loc Cert.StepLbRefIdeal.main_v4) = v1 c
          ∧ r.2.mem ((c.tc : Thread Cert.StepLbRefIdeal.nD Cert.StepLbRefIdeal.τ).loc Cert.StepLbRefIdeal.main_v10) = v2 c
          ∧ r.2.mem ((c.tc : Thread Cert.StepLbRefIdeal.nD Cert.StepLbRefIdeal.τ).loc Cert.StepLbRefIdeal.main_arg0) = m' ((c.tc : Thread Cert.StepLbRefIdeal.nD Cert.StepLbRefIdeal.τ).loc Cert.StepLbRefIdeal.main_arg0)
          ∧ r.2.mem ((c.tc : Thread Cert.StepLbRefIdeal.nD Cert.StepLbRefIdeal.τ).loc Cert.StepLbRefIdeal.main_arg1) = m' ((c.tc : Thread Cert.StepLbRefIdeal.nD Cert.StepLbRefIdeal.τ).loc Cert.StepLbRefIdeal.main_arg1)
          ∧ r.2.mem ((c.tc : Thread Cert.StepLbRefIdeal.nD Cert.StepLbRefIdeal.τ).loc Cert.StepLbRefIdeal.main_arg2) = m' ((c.tc : Thread Cert.StepLbRefIdeal.nD Cert.StepLbRefIdeal.τ).loc Cert.StepLbRefIdeal.main_arg2)
          ∧ r.2.mem ((c.tc : Thread Cert.StepLbRefIdeal.nD Cert.StepLbRefIdeal.τ).loc Cert.StepLbRefIdeal.main_arg3) = m' ((c.tc : Thread Cert.StepLbRefIdeal.nD Cert.StepLbRefIdeal.τ).loc Cert.StepLbRefIdeal.main_arg3))

def preserves_StepCtx_StepCtxIdeal : Prop :=
  True

def algebraic_StepCtxIdeal_StepCtxRefIdeal [hStepCtxIdeal : Cert.StepCtxIdeal.Facts] [hStepCtxRefIdeal : Cert.StepCtxRefIdeal.Facts] : Prop :=
  ∀ (m : (ℓ : Loc Cert.StepCtxIdeal.nD Cert.StepCtxIdeal.τ Cert.StepCtxIdeal.sig) → Buf (Elt Ideal) ℓ) (g : Dev Cert.StepCtxIdeal.nD → PrngReg)
    (m' : (ℓ : Loc Cert.StepCtxRefIdeal.nD Cert.StepCtxRefIdeal.τ Cert.StepCtxRefIdeal.sig) → Buf (Elt Ideal) ℓ) (g' : Dev Cert.StepCtxRefIdeal.nD → PrngReg), Pre_StepCtxIdeal m →
    (∀ c : Dev Cert.StepCtxIdeal.nD,
      m' ((c.tc : Thread Cert.StepCtxRefIdeal.nD Cert.StepCtxRefIdeal.τ).loc Cert.StepCtxRefIdeal.main_arg0) = m ((c.tc : Thread Cert.StepCtxIdeal.nD Cert.StepCtxIdeal.τ).loc Cert.StepCtxIdeal.main_arg0)
      ∧ m' ((c.tc : Thread Cert.StepCtxRefIdeal.nD Cert.StepCtxRefIdeal.τ).loc Cert.StepCtxRefIdeal.main_arg1) = m ((c.tc : Thread Cert.StepCtxIdeal.nD Cert.StepCtxIdeal.τ).loc Cert.StepCtxIdeal.main_arg1)
      ∧ m' ((c.tc : Thread Cert.StepCtxRefIdeal.nD Cert.StepCtxRefIdeal.τ).loc Cert.StepCtxRefIdeal.main_arg2) = m ((c.tc : Thread Cert.StepCtxIdeal.nD Cert.StepCtxIdeal.τ).loc Cert.StepCtxIdeal.main_arg2)
      ∧ m' ((c.tc : Thread Cert.StepCtxRefIdeal.nD Cert.StepCtxRefIdeal.τ).loc Cert.StepCtxRefIdeal.main_arg3) = m ((c.tc : Thread Cert.StepCtxIdeal.nD Cert.StepCtxIdeal.τ).loc Cert.StepCtxIdeal.main_arg3)) →
    ∃ (v0 : (c : Dev Cert.StepCtxIdeal.nD) → Buf (Elt Ideal) ((c.tc : Thread Cert.StepCtxIdeal.nD Cert.StepCtxIdeal.τ).loc Cert.StepCtxIdeal.main_v0_0)) (v1 : (c : Dev Cert.StepCtxIdeal.nD) → Buf (Elt Ideal) ((c.tc : Thread Cert.StepCtxIdeal.nD Cert.StepCtxIdeal.τ).loc Cert.StepCtxIdeal.main_v0_1)) (v2 : (c : Dev Cert.StepCtxIdeal.nD) → Buf (Elt Ideal) ((c.tc : Thread Cert.StepCtxIdeal.nD Cert.StepCtxIdeal.τ).loc Cert.StepCtxIdeal.main_v0_2)),
      θ_run (Cert.StepCtxIdeal.defs (F := Ideal)) (onTc (τ := Cert.StepCtxIdeal.τ) (Cert.StepCtxIdeal.main (F := Ideal))) ⟨m, fun _ => 0, g⟩ (fun r => ∀ c : Dev Cert.StepCtxIdeal.nD,
          r.2.mem ((c.tc : Thread Cert.StepCtxIdeal.nD Cert.StepCtxIdeal.τ).loc Cert.StepCtxIdeal.main_v0_0) = v0 c
          ∧ r.2.mem ((c.tc : Thread Cert.StepCtxIdeal.nD Cert.StepCtxIdeal.τ).loc Cert.StepCtxIdeal.main_v0_1) = v1 c
          ∧ r.2.mem ((c.tc : Thread Cert.StepCtxIdeal.nD Cert.StepCtxIdeal.τ).loc Cert.StepCtxIdeal.main_v0_2) = v2 c
          ∧ r.2.mem ((c.tc : Thread Cert.StepCtxIdeal.nD Cert.StepCtxIdeal.τ).loc Cert.StepCtxIdeal.main_arg0) = m ((c.tc : Thread Cert.StepCtxIdeal.nD Cert.StepCtxIdeal.τ).loc Cert.StepCtxIdeal.main_arg0)
          ∧ r.2.mem ((c.tc : Thread Cert.StepCtxIdeal.nD Cert.StepCtxIdeal.τ).loc Cert.StepCtxIdeal.main_arg1) = m ((c.tc : Thread Cert.StepCtxIdeal.nD Cert.StepCtxIdeal.τ).loc Cert.StepCtxIdeal.main_arg1)
          ∧ r.2.mem ((c.tc : Thread Cert.StepCtxIdeal.nD Cert.StepCtxIdeal.τ).loc Cert.StepCtxIdeal.main_arg2) = m ((c.tc : Thread Cert.StepCtxIdeal.nD Cert.StepCtxIdeal.τ).loc Cert.StepCtxIdeal.main_arg2)
          ∧ r.2.mem ((c.tc : Thread Cert.StepCtxIdeal.nD Cert.StepCtxIdeal.τ).loc Cert.StepCtxIdeal.main_arg3) = m ((c.tc : Thread Cert.StepCtxIdeal.nD Cert.StepCtxIdeal.τ).loc Cert.StepCtxIdeal.main_arg3))
      ∧ θ_run (Cert.StepCtxRefIdeal.defs (F := Ideal)) (onTc (τ := Cert.StepCtxRefIdeal.τ) (Cert.StepCtxRefIdeal.main (F := Ideal))) ⟨m', fun _ => 0, g'⟩ (fun r => ∀ c : Dev Cert.StepCtxRefIdeal.nD,
          r.2.mem ((c.tc : Thread Cert.StepCtxRefIdeal.nD Cert.StepCtxRefIdeal.τ).loc Cert.StepCtxRefIdeal.main_v23) = v0 c
          ∧ r.2.mem ((c.tc : Thread Cert.StepCtxRefIdeal.nD Cert.StepCtxRefIdeal.τ).loc Cert.StepCtxRefIdeal.main_v4) = v1 c
          ∧ r.2.mem ((c.tc : Thread Cert.StepCtxRefIdeal.nD Cert.StepCtxRefIdeal.τ).loc Cert.StepCtxRefIdeal.main_v10) = v2 c
          ∧ r.2.mem ((c.tc : Thread Cert.StepCtxRefIdeal.nD Cert.StepCtxRefIdeal.τ).loc Cert.StepCtxRefIdeal.main_arg0) = m' ((c.tc : Thread Cert.StepCtxRefIdeal.nD Cert.StepCtxRefIdeal.τ).loc Cert.StepCtxRefIdeal.main_arg0)
          ∧ r.2.mem ((c.tc : Thread Cert.StepCtxRefIdeal.nD Cert.StepCtxRefIdeal.τ).loc Cert.StepCtxRefIdeal.main_arg1) = m' ((c.tc : Thread Cert.StepCtxRefIdeal.nD Cert.StepCtxRefIdeal.τ).loc Cert.StepCtxRefIdeal.main_arg1)
          ∧ r.2.mem ((c.tc : Thread Cert.StepCtxRefIdeal.nD Cert.StepCtxRefIdeal.τ).loc Cert.StepCtxRefIdeal.main_arg2) = m' ((c.tc : Thread Cert.StepCtxRefIdeal.nD Cert.StepCtxRefIdeal.τ).loc Cert.StepCtxRefIdeal.main_arg2)
          ∧ r.2.mem ((c.tc : Thread Cert.StepCtxRefIdeal.nD Cert.StepCtxRefIdeal.τ).loc Cert.StepCtxRefIdeal.main_arg3) = m' ((c.tc : Thread Cert.StepCtxRefIdeal.nD Cert.StepCtxRefIdeal.τ).loc Cert.StepCtxRefIdeal.main_arg3))

def preserves_CCtx_CCtxIdeal : Prop :=
  True

def algebraic_CCtxIdeal_CCtxRefIdeal_pre_finite_ctx [hCCtxIdeal : Cert.CCtxIdeal.Facts] [hCCtxRefIdeal : Cert.CCtxRefIdeal.Facts] [hPre_finite_ctx : Cert.Pre_finite_ctx.Facts] : Prop :=
  ∀ (m : (ℓ : Loc Cert.CCtxIdeal.nD Cert.CCtxIdeal.τ Cert.CCtxIdeal.sig) → Buf (Elt Ideal) ℓ) (g : Dev Cert.CCtxIdeal.nD → PrngReg)
    (m' : (ℓ : Loc Cert.CCtxRefIdeal.nD Cert.CCtxRefIdeal.τ Cert.CCtxRefIdeal.sig) → Buf (Elt Ideal) ℓ) (g' : Dev Cert.CCtxRefIdeal.nD → PrngReg), Pre_CCtxIdeal_finite_ctx m →
    (∀ c : Dev Cert.CCtxIdeal.nD,
      m' ((c.tc : Thread Cert.CCtxRefIdeal.nD Cert.CCtxRefIdeal.τ).loc Cert.CCtxRefIdeal.main_arg0) = m ((c.tc : Thread Cert.CCtxIdeal.nD Cert.CCtxIdeal.τ).loc Cert.CCtxIdeal.main_arg0)
      ∧ m' ((c.tc : Thread Cert.CCtxRefIdeal.nD Cert.CCtxRefIdeal.τ).loc Cert.CCtxRefIdeal.main_arg1) = m ((c.tc : Thread Cert.CCtxIdeal.nD Cert.CCtxIdeal.τ).loc Cert.CCtxIdeal.main_arg1)) →
    ∃ (v0 : (c : Dev Cert.CCtxIdeal.nD) → Buf (Elt Ideal) ((c.tc : Thread Cert.CCtxIdeal.nD Cert.CCtxIdeal.τ).loc Cert.CCtxIdeal.main_v0)),
      θ_run (Cert.CCtxIdeal.defs (F := Ideal)) (onTc (τ := Cert.CCtxIdeal.τ) (Cert.CCtxIdeal.main (F := Ideal))) ⟨m, fun _ => 0, g⟩ (fun r => ∀ c : Dev Cert.CCtxIdeal.nD,
          r.2.mem ((c.tc : Thread Cert.CCtxIdeal.nD Cert.CCtxIdeal.τ).loc Cert.CCtxIdeal.main_v0) = v0 c
          ∧ r.2.mem ((c.tc : Thread Cert.CCtxIdeal.nD Cert.CCtxIdeal.τ).loc Cert.CCtxIdeal.main_arg0) = m ((c.tc : Thread Cert.CCtxIdeal.nD Cert.CCtxIdeal.τ).loc Cert.CCtxIdeal.main_arg0)
          ∧ r.2.mem ((c.tc : Thread Cert.CCtxIdeal.nD Cert.CCtxIdeal.τ).loc Cert.CCtxIdeal.main_arg1) = m ((c.tc : Thread Cert.CCtxIdeal.nD Cert.CCtxIdeal.τ).loc Cert.CCtxIdeal.main_arg1))
      ∧ θ_run (Cert.CCtxRefIdeal.defs (F := Ideal)) (onTc (τ := Cert.CCtxRefIdeal.τ) (Cert.CCtxRefIdeal.main (F := Ideal))) ⟨m', fun _ => 0, g'⟩ (fun r => ∀ c : Dev Cert.CCtxRefIdeal.nD,
          r.2.mem ((c.tc : Thread Cert.CCtxRefIdeal.nD Cert.CCtxRefIdeal.τ).loc Cert.CCtxRefIdeal.main_v14) = v0 c
          ∧ r.2.mem ((c.tc : Thread Cert.CCtxRefIdeal.nD Cert.CCtxRefIdeal.τ).loc Cert.CCtxRefIdeal.main_arg0) = m' ((c.tc : Thread Cert.CCtxRefIdeal.nD Cert.CCtxRefIdeal.τ).loc Cert.CCtxRefIdeal.main_arg0)
          ∧ r.2.mem ((c.tc : Thread Cert.CCtxRefIdeal.nD Cert.CCtxRefIdeal.τ).loc Cert.CCtxRefIdeal.main_arg1) = m' ((c.tc : Thread Cert.CCtxRefIdeal.nD Cert.CCtxRefIdeal.τ).loc Cert.CCtxRefIdeal.main_arg1))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)
      ∧ m' ((c.tc : Thread Cert.NormBRefIdeal.nD Cert.NormBRefIdeal.τ).loc Cert.NormBRefIdeal.main_arg3) = m ((c.tc : Thread Cert.NormBIdeal.nD Cert.NormBIdeal.τ).loc Cert.NormBIdeal.main_arg3)
      ∧ m' ((c.tc : Thread Cert.NormBRefIdeal.nD Cert.NormBRefIdeal.τ).loc Cert.NormBRefIdeal.main_arg4) = m ((c.tc : Thread Cert.NormBIdeal.nD Cert.NormBIdeal.τ).loc Cert.NormBIdeal.main_arg4)) →
    ∃ (v0 : (c : Dev Cert.NormBIdeal.nD) → Buf (Elt Ideal) ((c.tc : Thread Cert.NormBIdeal.nD Cert.NormBIdeal.τ).loc Cert.NormBIdeal.main_v0_0)) (v1 : (c : Dev Cert.NormBIdeal.nD) → Buf (Elt Ideal) ((c.tc : Thread Cert.NormBIdeal.nD Cert.NormBIdeal.τ).loc Cert.NormBIdeal.main_v0_1)) (v2 : (c : Dev Cert.NormBIdeal.nD) → Buf (Elt Ideal) ((c.tc : Thread Cert.NormBIdeal.nD Cert.NormBIdeal.τ).loc Cert.NormBIdeal.main_v0_2)) (v3 : (c : Dev Cert.NormBIdeal.nD) → Buf (Elt Ideal) ((c.tc : Thread Cert.NormBIdeal.nD Cert.NormBIdeal.τ).loc Cert.NormBIdeal.main_v0_3)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v0_0) = v0 c
          ∧ r.2.mem ((c.tc : Thread Cert.NormBIdeal.nD Cert.NormBIdeal.τ).loc Cert.NormBIdeal.main_v0_1) = v1 c
          ∧ r.2.mem ((c.tc : Thread Cert.NormBIdeal.nD Cert.NormBIdeal.τ).loc Cert.NormBIdeal.main_v0_2) = v2 c
          ∧ r.2.mem ((c.tc : Thread Cert.NormBIdeal.nD Cert.NormBIdeal.τ).loc Cert.NormBIdeal.main_v0_3) = v3 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
          ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v103) = v0 c
          ∧ r.2.mem ((c.tc : Thread Cert.NormBRefIdeal.nD Cert.NormBRefIdeal.τ).loc Cert.NormBRefIdeal.main_v104) = v1 c
          ∧ r.2.mem ((c.tc : Thread Cert.NormBRefIdeal.nD Cert.NormBRefIdeal.τ).loc Cert.NormBRefIdeal.main_v105) = v2 c
          ∧ r.2.mem ((c.tc : Thread Cert.NormBRefIdeal.nD Cert.NormBRefIdeal.τ).loc Cert.NormBRefIdeal.main_v106) = v3 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2)
          ∧ r.2.mem ((c.tc : Thread Cert.NormBRefIdeal.nD Cert.NormBRefIdeal.τ).loc Cert.NormBRefIdeal.main_arg3) = m' ((c.tc : Thread Cert.NormBRefIdeal.nD Cert.NormBRefIdeal.τ).loc Cert.NormBRefIdeal.main_arg3)
          ∧ r.2.mem ((c.tc : Thread Cert.NormBRefIdeal.nD Cert.NormBRefIdeal.τ).loc Cert.NormBRefIdeal.main_arg4) = m' ((c.tc : Thread Cert.NormBRefIdeal.nD Cert.NormBRefIdeal.τ).loc Cert.NormBRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)) (v4 : (c : Dev Cert.LossIdeal.nD) → Buf (Elt Ideal) ((c.tc : Thread Cert.LossIdeal.nD Cert.LossIdeal.τ).loc Cert.LossIdeal.main_v0_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_v0_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v78) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v79) = v2 c
          ∧ r.2.mem ((c.tc : Thread Cert.LossRefIdeal.nD Cert.LossRefIdeal.τ).loc Cert.LossRefIdeal.main_v81) = v3 c
          ∧ r.2.mem ((c.tc : Thread Cert.LossRefIdeal.nD Cert.LossRefIdeal.τ).loc Cert.LossRefIdeal.main_v61) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v76) = v0 c
          ∧ r.2.mem ((c.tc : Thread Cert.PostRefIdeal.nD Cert.PostRefIdeal.τ).loc Cert.PostRefIdeal.main_v78) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)
      ∧ m' ((c.tc : Thread Cert.ConvFRefIdeal.nD Cert.ConvFRefIdeal.τ).loc Cert.ConvFRefIdeal.main_arg2) = m ((c.tc : Thread Cert.ConvFIdeal.nD Cert.ConvFIdeal.τ).loc Cert.ConvFIdeal.main_arg2)
      ∧ m' ((c.tc : Thread Cert.ConvFRefIdeal.nD Cert.ConvFRefIdeal.τ).loc Cert.ConvFRefIdeal.main_arg3) = m ((c.tc : Thread Cert.ConvFIdeal.nD Cert.ConvFIdeal.τ).loc Cert.ConvFIdeal.main_arg3)) →
    ∃ (v0 : (c : Dev Cert.ConvFIdeal.nD) → Buf (Elt Ideal) ((c.tc : Thread Cert.ConvFIdeal.nD Cert.ConvFIdeal.τ).loc Cert.ConvFIdeal.main_v0)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v0) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2)
          ∧ r.2.mem ((c.tc : Thread Cert.ConvFIdeal.nD Cert.ConvFIdeal.τ).loc Cert.ConvFIdeal.main_arg3) = m ((c.tc : Thread Cert.ConvFIdeal.nD Cert.ConvFIdeal.τ).loc Cert.ConvFIdeal.main_arg3))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v75) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1)
          ∧ r.2.mem ((c.tc : Thread Cert.ConvFRefIdeal.nD Cert.ConvFRefIdeal.τ).loc Cert.ConvFRefIdeal.main_arg2) = m' ((c.tc : Thread Cert.ConvFRefIdeal.nD Cert.ConvFRefIdeal.τ).loc Cert.ConvFRefIdeal.main_arg2)
          ∧ r.2.mem ((c.tc : Thread Cert.ConvFRefIdeal.nD Cert.ConvFRefIdeal.τ).loc Cert.ConvFRefIdeal.main_arg3) = m' ((c.tc : Thread Cert.ConvFRefIdeal.nD Cert.ConvFRefIdeal.τ).loc Cert.ConvFRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)) →
    ∃ (v0 : (c : Dev Cert.SmallIdeal.nD) → Buf (Elt Ideal) ((c.tc : Thread Cert.SmallIdeal.nD Cert.SmallIdeal.τ).loc Cert.SmallIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v8) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0))

def preserves_NormP_NormPIdeal : Prop :=
  True

def algebraic_NormPIdeal_NormPRefIdeal [hNormPIdeal : Cert.NormPIdeal.Facts] [hNormPRefIdeal : Cert.NormPRefIdeal.Facts] : Prop :=
  ∀ (m : (ℓ : Loc Cert.NormPIdeal.nD Cert.NormPIdeal.τ Cert.NormPIdeal.sig) → Buf (Elt Ideal) ℓ) (g : Dev Cert.NormPIdeal.nD → PrngReg)
    (m' : (ℓ : Loc Cert.NormPRefIdeal.nD Cert.NormPRefIdeal.τ Cert.NormPRefIdeal.sig) → Buf (Elt Ideal) ℓ) (g' : Dev Cert.NormPRefIdeal.nD → PrngReg), Pre_NormPIdeal m →
    (∀ c : Dev Cert.NormPIdeal.nD,
      m' ((c.tc : Thread Cert.NormPRefIdeal.nD Cert.NormPRefIdeal.τ).loc Cert.NormPRefIdeal.main_arg0) = m ((c.tc : Thread Cert.NormPIdeal.nD Cert.NormPIdeal.τ).loc Cert.NormPIdeal.main_arg0)
      ∧ m' ((c.tc : Thread Cert.NormPRefIdeal.nD Cert.NormPRefIdeal.τ).loc Cert.NormPRefIdeal.main_arg1) = m ((c.tc : Thread Cert.NormPIdeal.nD Cert.NormPIdeal.τ).loc Cert.NormPIdeal.main_arg1)
      ∧ m' ((c.tc : Thread Cert.NormPRefIdeal.nD Cert.NormPRefIdeal.τ).loc Cert.NormPRefIdeal.main_arg2) = m ((c.tc : Thread Cert.NormPIdeal.nD Cert.NormPIdeal.τ).loc Cert.NormPIdeal.main_arg2)
      ∧ m' ((c.tc : Thread Cert.NormPRefIdeal.nD Cert.NormPRefIdeal.τ).loc Cert.NormPRefIdeal.main_arg3) = m ((c.tc : Thread Cert.NormPIdeal.nD Cert.NormPIdeal.τ).loc Cert.NormPIdeal.main_arg3)
      ∧ m' ((c.tc : Thread Cert.NormPRefIdeal.nD Cert.NormPRefIdeal.τ).loc Cert.NormPRefIdeal.main_arg4) = m ((c.tc : Thread Cert.NormPIdeal.nD Cert.NormPIdeal.τ).loc Cert.NormPIdeal.main_arg4)
      ∧ m' ((c.tc : Thread Cert.NormPRefIdeal.nD Cert.NormPRefIdeal.τ).loc Cert.NormPRefIdeal.main_arg5) = m ((c.tc : Thread Cert.NormPIdeal.nD Cert.NormPIdeal.τ).loc Cert.NormPIdeal.main_arg5)
      ∧ m' ((c.tc : Thread Cert.NormPRefIdeal.nD Cert.NormPRefIdeal.τ).loc Cert.NormPRefIdeal.main_arg6) = m ((c.tc : Thread Cert.NormPIdeal.nD Cert.NormPIdeal.τ).loc Cert.NormPIdeal.main_arg6)
      ∧ m' ((c.tc : Thread Cert.NormPRefIdeal.nD Cert.NormPRefIdeal.τ).loc Cert.NormPRefIdeal.main_arg7) = m ((c.tc : Thread Cert.NormPIdeal.nD Cert.NormPIdeal.τ).loc Cert.NormPIdeal.main_arg7)) →
    ∃ (v0 : (c : Dev Cert.NormPIdeal.nD) → Buf (Elt Ideal) ((c.tc : Thread Cert.NormPIdeal.nD Cert.NormPIdeal.τ).loc Cert.NormPIdeal.main_v0_0)) (v1 : (c : Dev Cert.NormPIdeal.nD) → Buf (Elt Ideal) ((c.tc : Thread Cert.NormPIdeal.nD Cert.NormPIdeal.τ).loc Cert.NormPIdeal.main_v0_1)) (v2 : (c : Dev Cert.NormPIdeal.nD) → Buf (Elt Ideal) ((c.tc : Thread Cert.NormPIdeal.nD Cert.NormPIdeal.τ).loc Cert.NormPIdeal.main_v0_2)) (v3 : (c : Dev Cert.NormPIdeal.nD) → Buf (Elt Ideal) ((c.tc : Thread Cert.NormPIdeal.nD Cert.NormPIdeal.τ).loc Cert.NormPIdeal.main_v0_3)) (v4 : (c : Dev Cert.NormPIdeal.nD) → Buf (Elt Ideal) ((c.tc : Thread Cert.NormPIdeal.nD Cert.NormPIdeal.τ).loc Cert.NormPIdeal.main_v0_4)) (v5 : (c : Dev Cert.NormPIdeal.nD) → Buf (Elt Ideal) ((c.tc : Thread Cert.NormPIdeal.nD Cert.NormPIdeal.τ).loc Cert.NormPIdeal.main_v0_5)) (v6 : (c : Dev Cert.NormPIdeal.nD) → Buf (Elt Ideal) ((c.tc : Thread Cert.NormPIdeal.nD Cert.NormPIdeal.τ).loc Cert.NormPIdeal.main_v0_6)),
      θ_run (Cert.NormPIdeal.defs (F := Ideal)) (onTc (τ := Cert.NormPIdeal.τ) (Cert.NormPIdeal.main (F := Ideal))) ⟨m, fun _ => 0, g⟩ (fun r => ∀ c : Dev Cert.NormPIdeal.nD,
          r.2.mem ((c.tc : Thread Cert.NormPIdeal.nD Cert.NormPIdeal.τ).loc Cert.NormPIdeal.main_v0_0) = v0 c
          ∧ r.2.mem ((c.tc : Thread Cert.NormPIdeal.nD Cert.NormPIdeal.τ).loc Cert.NormPIdeal.main_v0_1) = v1 c
          ∧ r.2.mem ((c.tc : Thread Cert.NormPIdeal.nD Cert.NormPIdeal.τ).loc Cert.NormPIdeal.main_v0_2) = v2 c
          ∧ r.2.mem ((c.tc : Thread Cert.NormPIdeal.nD Cert.NormPIdeal.τ).loc Cert.NormPIdeal.main_v0_3) = v3 c
          ∧ r.2.mem ((c.tc : Thread Cert.NormPIdeal.nD Cert.NormPIdeal.τ).loc Cert.NormPIdeal.main_v0_4) = v4 c
          ∧ r.2.mem ((c.tc : Thread Cert.NormPIdeal.nD Cert.NormPIdeal.τ).loc Cert.NormPIdeal.main_v0_5) = v5 c
          ∧ r.2.mem ((c.tc : Thread Cert.NormPIdeal.nD Cert.NormPIdeal.τ).loc Cert.NormPIdeal.main_v0_6) = v6 c
          ∧ r.2.mem ((c.tc : Thread Cert.NormPIdeal.nD Cert.NormPIdeal.τ).loc Cert.NormPIdeal.main_arg0) = m ((c.tc : Thread Cert.NormPIdeal.nD Cert.NormPIdeal.τ).loc Cert.NormPIdeal.main_arg0)
          ∧ r.2.mem ((c.tc : Thread Cert.NormPIdeal.nD Cert.NormPIdeal.τ).loc Cert.NormPIdeal.main_arg1) = m ((c.tc : Thread Cert.NormPIdeal.nD Cert.NormPIdeal.τ).loc Cert.NormPIdeal.main_arg1)
          ∧ r.2.mem ((c.tc : Thread Cert.NormPIdeal.nD Cert.NormPIdeal.τ).loc Cert.NormPIdeal.main_arg2) = m ((c.tc : Thread Cert.NormPIdeal.nD Cert.NormPIdeal.τ).loc Cert.NormPIdeal.main_arg2)
          ∧ r.2.mem ((c.tc : Thread Cert.NormPIdeal.nD Cert.NormPIdeal.τ).loc Cert.NormPIdeal.main_arg3) = m ((c.tc : Thread Cert.NormPIdeal.nD Cert.NormPIdeal.τ).loc Cert.NormPIdeal.main_arg3)
          ∧ r.2.mem ((c.tc : Thread Cert.NormPIdeal.nD Cert.NormPIdeal.τ).loc Cert.NormPIdeal.main_arg4) = m ((c.tc : Thread Cert.NormPIdeal.nD Cert.NormPIdeal.τ).loc Cert.NormPIdeal.main_arg4)
          ∧ r.2.mem ((c.tc : Thread Cert.NormPIdeal.nD Cert.NormPIdeal.τ).loc Cert.NormPIdeal.main_arg5) = m ((c.tc : Thread Cert.NormPIdeal.nD Cert.NormPIdeal.τ).loc Cert.NormPIdeal.main_arg5)
          ∧ r.2.mem ((c.tc : Thread Cert.NormPIdeal.nD Cert.NormPIdeal.τ).loc Cert.NormPIdeal.main_arg6) = m ((c.tc : Thread Cert.NormPIdeal.nD Cert.NormPIdeal.τ).loc Cert.NormPIdeal.main_arg6)
          ∧ r.2.mem ((c.tc : Thread Cert.NormPIdeal.nD Cert.NormPIdeal.τ).loc Cert.NormPIdeal.main_arg7) = m ((c.tc : Thread Cert.NormPIdeal.nD Cert.NormPIdeal.τ).loc Cert.NormPIdeal.main_arg7))
      ∧ θ_run (Cert.NormPRefIdeal.defs (F := Ideal)) (onTc (τ := Cert.NormPRefIdeal.τ) (Cert.NormPRefIdeal.main (F := Ideal))) ⟨m', fun _ => 0, g'⟩ (fun r => ∀ c : Dev Cert.NormPRefIdeal.nD,
          r.2.mem ((c.tc : Thread Cert.NormPRefIdeal.nD Cert.NormPRefIdeal.τ).loc Cert.NormPRefIdeal.main_v189) = v0 c
          ∧ r.2.mem ((c.tc : Thread Cert.NormPRefIdeal.nD Cert.NormPRefIdeal.τ).loc Cert.NormPRefIdeal.main_v190) = v1 c
          ∧ r.2.mem ((c.tc : Thread Cert.NormPRefIdeal.nD Cert.NormPRefIdeal.τ).loc Cert.NormPRefIdeal.main_v191) = v2 c
          ∧ r.2.mem ((c.tc : Thread Cert.NormPRefIdeal.nD Cert.NormPRefIdeal.τ).loc Cert.NormPRefIdeal.main_v192) = v3 c
          ∧ r.2.mem ((c.tc : Thread Cert.NormPRefIdeal.nD Cert.NormPRefIdeal.τ).loc Cert.NormPRefIdeal.main_v194) = v4 c
          ∧ r.2.mem ((c.tc : Thread Cert.NormPRefIdeal.nD Cert.NormPRefIdeal.τ).loc Cert.NormPRefIdeal.main_v195) = v5 c
          ∧ r.2.mem ((c.tc : Thread Cert.NormPRefIdeal.nD Cert.NormPRefIdeal.τ).loc Cert.NormPRefIdeal.main_v196) = v6 c
          ∧ r.2.mem ((c.tc : Thread Cert.NormPRefIdeal.nD Cert.NormPRefIdeal.τ).loc Cert.NormPRefIdeal.main_arg0) = m' ((c.tc : Thread Cert.NormPRefIdeal.nD Cert.NormPRefIdeal.τ).loc Cert.NormPRefIdeal.main_arg0)
          ∧ r.2.mem ((c.tc : Thread Cert.NormPRefIdeal.nD Cert.NormPRefIdeal.τ).loc Cert.NormPRefIdeal.main_arg1) = m' ((c.tc : Thread Cert.NormPRefIdeal.nD Cert.NormPRefIdeal.τ).loc Cert.NormPRefIdeal.main_arg1)
          ∧ r.2.mem ((c.tc : Thread Cert.NormPRefIdeal.nD Cert.NormPRefIdeal.τ).loc Cert.NormPRefIdeal.main_arg2) = m' ((c.tc : Thread Cert.NormPRefIdeal.nD Cert.NormPRefIdeal.τ).loc Cert.NormPRefIdeal.main_arg2)
          ∧ r.2.mem ((c.tc : Thread Cert.NormPRefIdeal.nD Cert.NormPRefIdeal.τ).loc Cert.NormPRefIdeal.main_arg3) = m' ((c.tc : Thread Cert.NormPRefIdeal.nD Cert.NormPRefIdeal.τ).loc Cert.NormPRefIdeal.main_arg3)
          ∧ r.2.mem ((c.tc : Thread Cert.NormPRefIdeal.nD Cert.NormPRefIdeal.τ).loc Cert.NormPRefIdeal.main_arg4) = m' ((c.tc : Thread Cert.NormPRefIdeal.nD Cert.NormPRefIdeal.τ).loc Cert.NormPRefIdeal.main_arg4)
          ∧ r.2.mem ((c.tc : Thread Cert.NormPRefIdeal.nD Cert.NormPRefIdeal.τ).loc Cert.NormPRefIdeal.main_arg5) = m' ((c.tc : Thread Cert.NormPRefIdeal.nD Cert.NormPRefIdeal.τ).loc Cert.NormPRefIdeal.main_arg5)
          ∧ r.2.mem ((c.tc : Thread Cert.NormPRefIdeal.nD Cert.NormPRefIdeal.τ).loc Cert.NormPRefIdeal.main_arg6) = m' ((c.tc : Thread Cert.NormPRefIdeal.nD Cert.NormPRefIdeal.τ).loc Cert.NormPRefIdeal.main_arg6)
          ∧ r.2.mem ((c.tc : Thread Cert.NormPRefIdeal.nD Cert.NormPRefIdeal.τ).loc Cert.NormPRefIdeal.main_arg7) = m' ((c.tc : Thread Cert.NormPRefIdeal.nD Cert.NormPRefIdeal.τ).loc Cert.NormPRefIdeal.main_arg7))

def preserves_LbG_LbGIdeal : Prop :=
  True

def algebraic_LbGIdeal_LbGRefIdeal_pre_finite_lb [hLbGIdeal : Cert.LbGIdeal.Facts] [hLbGRefIdeal : Cert.LbGRefIdeal.Facts] [hPre_finite_lb : Cert.Pre_finite_lb.Facts] : Prop :=
  ∀ (m : (ℓ : Loc Cert.LbGIdeal.nD Cert.LbGIdeal.τ Cert.LbGIdeal.sig) → Buf (Elt Ideal) ℓ) (g : Dev Cert.LbGIdeal.nD → PrngReg)
    (m' : (ℓ : Loc Cert.LbGRefIdeal.nD Cert.LbGRefIdeal.τ Cert.LbGRefIdeal.sig) → Buf (Elt Ideal) ℓ) (g' : Dev Cert.LbGRefIdeal.nD → PrngReg), Pre_LbGIdeal_finite_lb m →
    (∀ c : Dev Cert.LbGIdeal.nD,
      m' ((c.tc : Thread Cert.LbGRefIdeal.nD Cert.LbGRefIdeal.τ).loc Cert.LbGRefIdeal.main_arg0) = m ((c.tc : Thread Cert.LbGIdeal.nD Cert.LbGIdeal.τ).loc Cert.LbGIdeal.main_arg0)
      ∧ m' ((c.tc : Thread Cert.LbGRefIdeal.nD Cert.LbGRefIdeal.τ).loc Cert.LbGRefIdeal.main_arg1) = m ((c.tc : Thread Cert.LbGIdeal.nD Cert.LbGIdeal.τ).loc Cert.LbGIdeal.main_arg1)) →
    ∃ (v0 : (c : Dev Cert.LbGIdeal.nD) → Buf (Elt Ideal) ((c.tc : Thread Cert.LbGIdeal.nD Cert.LbGIdeal.τ).loc Cert.LbGIdeal.main_v0)),
      θ_run (Cert.LbGIdeal.defs (F := Ideal)) (onTc (τ := Cert.LbGIdeal.τ) (Cert.LbGIdeal.main (F := Ideal))) ⟨m, fun _ => 0, g⟩ (fun r => ∀ c : Dev Cert.LbGIdeal.nD,
          r.2.mem ((c.tc : Thread Cert.LbGIdeal.nD Cert.LbGIdeal.τ).loc Cert.LbGIdeal.main_v0) = v0 c
          ∧ r.2.mem ((c.tc : Thread Cert.LbGIdeal.nD Cert.LbGIdeal.τ).loc Cert.LbGIdeal.main_arg0) = m ((c.tc : Thread Cert.LbGIdeal.nD Cert.LbGIdeal.τ).loc Cert.LbGIdeal.main_arg0)
          ∧ r.2.mem ((c.tc : Thread Cert.LbGIdeal.nD Cert.LbGIdeal.τ).loc Cert.LbGIdeal.main_arg1) = m ((c.tc : Thread Cert.LbGIdeal.nD Cert.LbGIdeal.τ).loc Cert.LbGIdeal.main_arg1))
      ∧ θ_run (Cert.LbGRefIdeal.defs (F := Ideal)) (onTc (τ := Cert.LbGRefIdeal.τ) (Cert.LbGRefIdeal.main (F := Ideal))) ⟨m', fun _ => 0, g'⟩ (fun r => ∀ c : Dev Cert.LbGRefIdeal.nD,
          r.2.mem ((c.tc : Thread Cert.LbGRefIdeal.nD Cert.LbGRefIdeal.τ).loc Cert.LbGRefIdeal.main_v45) = v0 c
          ∧ r.2.mem ((c.tc : Thread Cert.LbGRefIdeal.nD Cert.LbGRefIdeal.τ).loc Cert.LbGRefIdeal.main_arg0) = m' ((c.tc : Thread Cert.LbGRefIdeal.nD Cert.LbGRefIdeal.τ).loc Cert.LbGRefIdeal.main_arg0)
          ∧ r.2.mem ((c.tc : Thread Cert.LbGRefIdeal.nD Cert.LbGRefIdeal.τ).loc Cert.LbGRefIdeal.main_arg1) = m' ((c.tc : Thread Cert.LbGRefIdeal.nD Cert.LbGRefIdeal.τ).loc Cert.LbGRefIdeal.main_arg1))

def Claim : Prop :=
  ∃ (hKernel : Cert.Kernel.Facts) (hKernelIdeal : Cert.KernelIdeal.Facts) (hReferenceIdeal : Cert.ReferenceIdeal.Facts) (hOdInDx : Cert.OdInDx.Facts) (hOdInDxIdeal : Cert.OdInDxIdeal.Facts) (hOdInDxRefIdeal : Cert.OdInDxRefIdeal.Facts) (hOdInDw : Cert.OdInDw.Facts) (hOdInDwIdeal : Cert.OdInDwIdeal.Facts) (hOdInDwRefIdeal : Cert.OdInDwRefIdeal.Facts) (hEvInDx : Cert.EvInDx.Facts) (hEvInDxIdeal : Cert.EvInDxIdeal.Facts) (hEvInDxRefIdeal : Cert.EvInDxRefIdeal.Facts) (hEvInDw : Cert.EvInDw.Facts) (hEvInDwIdeal : Cert.EvInDwIdeal.Facts) (hEvInDwRefIdeal : Cert.EvInDwRefIdeal.Facts) (hEvOutDx : Cert.EvOutDx.Facts) (hEvOutDxIdeal : Cert.EvOutDxIdeal.Facts) (hEvOutDxRefIdeal : Cert.EvOutDxRefIdeal.Facts) (hEvOutDw : Cert.EvOutDw.Facts) (hEvOutDwIdeal : Cert.EvOutDwIdeal.Facts) (hEvOutDwRefIdeal : Cert.EvOutDwRefIdeal.Facts) (hOdOutDx : Cert.OdOutDx.Facts) (hOdOutDxIdeal : Cert.OdOutDxIdeal.Facts) (hOdOutDxRefIdeal : Cert.OdOutDxRefIdeal.Facts) (hOdOutDw : Cert.OdOutDw.Facts) (hOdOutDwIdeal : Cert.OdOutDwIdeal.Facts) (hOdOutDwRefIdeal : Cert.OdOutDwRefIdeal.Facts) (hOdIn : Cert.OdIn.Facts) (hOdInIdeal : Cert.OdInIdeal.Facts) (hOdInRefIdeal : Cert.OdInRefIdeal.Facts) (hEvIn : Cert.EvIn.Facts) (hEvInIdeal : Cert.EvInIdeal.Facts) (hEvInRefIdeal : Cert.EvInRefIdeal.Facts) (hEvOut : Cert.EvOut.Facts) (hEvOutIdeal : Cert.EvOutIdeal.Facts) (hEvOutRefIdeal : Cert.EvOutRefIdeal.Facts) (hOdOut : Cert.OdOut.Facts) (hOdOutIdeal : Cert.OdOutIdeal.Facts) (hOdOutRefIdeal : Cert.OdOutRefIdeal.Facts) (hAdaBwd : Cert.AdaBwd.Facts) (hAdaBwdIdeal : Cert.AdaBwdIdeal.Facts) (hAdaBwdRefIdeal : Cert.AdaBwdRefIdeal.Facts) (hAda : Cert.Ada.Facts) (hAdaIdeal : Cert.AdaIdeal.Facts) (hAdaRefIdeal : Cert.AdaRefIdeal.Facts) (hStepIn : Cert.StepIn.Facts) (hStepInIdeal : Cert.StepInIdeal.Facts) (hStepInRefIdeal : Cert.StepInRefIdeal.Facts) (hStepOut : Cert.StepOut.Facts) (hStepOutIdeal : Cert.StepOutIdeal.Facts) (hStepOutRefIdeal : Cert.StepOutRefIdeal.Facts) (hStepOdIn : Cert.StepOdIn.Facts) (hStepOdInIdeal : Cert.StepOdInIdeal.Facts) (hStepOdInRefIdeal : Cert.StepOdInRefIdeal.Facts) (hStepPool : Cert.StepPool.Facts) (hStepPoolIdeal : Cert.StepPoolIdeal.Facts) (hStepPoolRefIdeal : Cert.StepPoolRefIdeal.Facts) (hStepAdaB : Cert.StepAdaB.Facts) (hStepAdaBIdeal : Cert.StepAdaBIdeal.Facts) (hStepAdaBRefIdeal : Cert.StepAdaBRefIdeal.Facts) (hStepGain : Cert.StepGain.Facts) (hStepGainIdeal : Cert.StepGainIdeal.Facts) (hStepGainRefIdeal : Cert.StepGainRefIdeal.Facts) (hStepHalf : Cert.StepHalf.Facts) (hStepHalfIdeal : Cert.StepHalfIdeal.Facts) (hStepHalfRefIdeal : Cert.StepHalfRefIdeal.Facts) (hStepConv : Cert.StepConv.Facts) (hStepConvIdeal : Cert.StepConvIdeal.Facts) (hStepConvRefIdeal : Cert.StepConvRefIdeal.Facts) (hStepOnorm : Cert.StepOnorm.Facts) (hStepOnormIdeal : Cert.StepOnormIdeal.Facts) (hStepOnormRefIdeal : Cert.StepOnormRefIdeal.Facts) (hStepLb : Cert.StepLb.Facts) (hStepLbIdeal : Cert.StepLbIdeal.Facts) (hStepLbRefIdeal : Cert.StepLbRefIdeal.Facts) (hStepCtx : Cert.StepCtx.Facts) (hStepCtxIdeal : Cert.StepCtxIdeal.Facts) (hStepCtxRefIdeal : Cert.StepCtxRefIdeal.Facts) (hCCtx : Cert.CCtx.Facts) (hCCtxIdeal : Cert.CCtxIdeal.Facts) (hCCtxRefIdeal : Cert.CCtxRefIdeal.Facts) (hNormB : Cert.NormB.Facts) (hNormBIdeal : Cert.NormBIdeal.Facts) (hNormBRefIdeal : Cert.NormBRefIdeal.Facts) (hLoss : Cert.Loss.Facts) (hLossIdeal : Cert.LossIdeal.Facts) (hLossRefIdeal : Cert.LossRefIdeal.Facts) (hPost : Cert.Post.Facts) (hPostIdeal : Cert.PostIdeal.Facts) (hPostRefIdeal : Cert.PostRefIdeal.Facts) (hConvF : Cert.ConvF.Facts) (hConvFIdeal : Cert.ConvFIdeal.Facts) (hConvFRefIdeal : Cert.ConvFRefIdeal.Facts) (hSmall : Cert.Small.Facts) (hSmallIdeal : Cert.SmallIdeal.Facts) (hSmallRefIdeal : Cert.SmallRefIdeal.Facts) (hNormP : Cert.NormP.Facts) (hNormPIdeal : Cert.NormPIdeal.Facts) (hNormPRefIdeal : Cert.NormPRefIdeal.Facts) (hLbG : Cert.LbG.Facts) (hLbGIdeal : Cert.LbGIdeal.Facts) (hLbGRefIdeal : Cert.LbGRefIdeal.Facts) (hPre_finite : Cert.Pre_finite.Facts) (hPre_finite_ctx : Cert.Pre_finite_ctx.Facts) (hPre_finite_lb : Cert.Pre_finite_lb.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OdInDx (hOdInDx := hOdInDx)
    ∧ quiescent_OdInDxIdeal (hOdInDxIdeal := hOdInDxIdeal)
    ∧ quiescent_OdInDxRefIdeal (hOdInDxRefIdeal := hOdInDxRefIdeal)
    ∧ quiescent_OdInDw (hOdInDw := hOdInDw)
    ∧ quiescent_OdInDwIdeal (hOdInDwIdeal := hOdInDwIdeal)
    ∧ quiescent_OdInDwRefIdeal (hOdInDwRefIdeal := hOdInDwRefIdeal)
    ∧ quiescent_EvInDx (hEvInDx := hEvInDx)
    ∧ quiescent_EvInDxIdeal (hEvInDxIdeal := hEvInDxIdeal)
    ∧ quiescent_EvInDxRefIdeal (hEvInDxRefIdeal := hEvInDxRefIdeal)
    ∧ quiescent_EvInDw (hEvInDw := hEvInDw)
    ∧ quiescent_EvInDwIdeal (hEvInDwIdeal := hEvInDwIdeal)
    ∧ quiescent_EvInDwRefIdeal (hEvInDwRefIdeal := hEvInDwRefIdeal)
    ∧ quiescent_EvOutDx (hEvOutDx := hEvOutDx)
    ∧ quiescent_EvOutDxIdeal (hEvOutDxIdeal := hEvOutDxIdeal)
    ∧ quiescent_EvOutDxRefIdeal (hEvOutDxRefIdeal := hEvOutDxRefIdeal)
    ∧ quiescent_EvOutDw (hEvOutDw := hEvOutDw)
    ∧ quiescent_EvOutDwIdeal (hEvOutDwIdeal := hEvOutDwIdeal)
    ∧ quiescent_EvOutDwRefIdeal (hEvOutDwRefIdeal := hEvOutDwRefIdeal)
    ∧ quiescent_OdOutDx (hOdOutDx := hOdOutDx)
    ∧ quiescent_OdOutDxIdeal (hOdOutDxIdeal := hOdOutDxIdeal)
    ∧ quiescent_OdOutDxRefIdeal (hOdOutDxRefIdeal := hOdOutDxRefIdeal)
    ∧ quiescent_OdOutDw (hOdOutDw := hOdOutDw)
    ∧ quiescent_OdOutDwIdeal (hOdOutDwIdeal := hOdOutDwIdeal)
    ∧ quiescent_OdOutDwRefIdeal (hOdOutDwRefIdeal := hOdOutDwRefIdeal)
    ∧ quiescent_OdIn (hOdIn := hOdIn)
    ∧ quiescent_OdInIdeal (hOdInIdeal := hOdInIdeal)
    ∧ quiescent_OdInRefIdeal (hOdInRefIdeal := hOdInRefIdeal)
    ∧ quiescent_EvIn (hEvIn := hEvIn)
    ∧ quiescent_EvInIdeal (hEvInIdeal := hEvInIdeal)
    ∧ quiescent_EvInRefIdeal (hEvInRefIdeal := hEvInRefIdeal)
    ∧ quiescent_EvOut (hEvOut := hEvOut)
    ∧ quiescent_EvOutIdeal (hEvOutIdeal := hEvOutIdeal)
    ∧ quiescent_EvOutRefIdeal (hEvOutRefIdeal := hEvOutRefIdeal)
    ∧ quiescent_OdOut (hOdOut := hOdOut)
    ∧ quiescent_OdOutIdeal (hOdOutIdeal := hOdOutIdeal)
    ∧ quiescent_OdOutRefIdeal (hOdOutRefIdeal := hOdOutRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_Ada (hAda := hAda)
    ∧ quiescent_AdaIdeal (hAdaIdeal := hAdaIdeal)
    ∧ quiescent_AdaRefIdeal (hAdaRefIdeal := hAdaRefIdeal)
    ∧ quiescent_StepIn (hStepIn := hStepIn)
    ∧ quiescent_StepInIdeal (hStepInIdeal := hStepInIdeal)
    ∧ quiescent_StepInRefIdeal (hStepInRefIdeal := hStepInRefIdeal)
    ∧ quiescent_StepOut (hStepOut := hStepOut)
    ∧ quiescent_StepOutIdeal (hStepOutIdeal := hStepOutIdeal)
    ∧ quiescent_StepOutRefIdeal (hStepOutRefIdeal := hStepOutRefIdeal)
    ∧ quiescent_StepOdIn (hStepOdIn := hStepOdIn)
    ∧ quiescent_StepOdInIdeal (hStepOdInIdeal := hStepOdInIdeal)
    ∧ quiescent_StepOdInRefIdeal (hStepOdInRefIdeal := hStepOdInRefIdeal)
    ∧ quiescent_StepPool (hStepPool := hStepPool)
    ∧ quiescent_StepPoolIdeal (hStepPoolIdeal := hStepPoolIdeal)
    ∧ quiescent_StepPoolRefIdeal (hStepPoolRefIdeal := hStepPoolRefIdeal)
    ∧ quiescent_StepAdaB (hStepAdaB := hStepAdaB)
    ∧ quiescent_StepAdaBIdeal (hStepAdaBIdeal := hStepAdaBIdeal)
    ∧ quiescent_StepAdaBRefIdeal (hStepAdaBRefIdeal := hStepAdaBRefIdeal)
    ∧ quiescent_StepGain (hStepGain := hStepGain)
    ∧ quiescent_StepGainIdeal (hStepGainIdeal := hStepGainIdeal)
    ∧ quiescent_StepGainRefIdeal (hStepGainRefIdeal := hStepGainRefIdeal)
    ∧ quiescent_StepHalf (hStepHalf := hStepHalf)
    ∧ quiescent_StepHalfIdeal (hStepHalfIdeal := hStepHalfIdeal)
    ∧ quiescent_StepHalfRefIdeal (hStepHalfRefIdeal := hStepHalfRefIdeal)
    ∧ quiescent_StepConv (hStepConv := hStepConv)
    ∧ quiescent_StepConvIdeal (hStepConvIdeal := hStepConvIdeal)
    ∧ quiescent_StepConvRefIdeal (hStepConvRefIdeal := hStepConvRefIdeal)
    ∧ quiescent_StepOnorm (hStepOnorm := hStepOnorm)
    ∧ quiescent_StepOnormIdeal (hStepOnormIdeal := hStepOnormIdeal)
    ∧ quiescent_StepOnormRefIdeal (hStepOnormRefIdeal := hStepOnormRefIdeal)
    ∧ quiescent_StepLb (hStepLb := hStepLb)
    ∧ quiescent_StepLbIdeal (hStepLbIdeal := hStepLbIdeal)
    ∧ quiescent_StepLbRefIdeal (hStepLbRefIdeal := hStepLbRefIdeal)
    ∧ quiescent_StepCtx (hStepCtx := hStepCtx)
    ∧ quiescent_StepCtxIdeal (hStepCtxIdeal := hStepCtxIdeal)
    ∧ quiescent_StepCtxRefIdeal (hStepCtxRefIdeal := hStepCtxRefIdeal)
    ∧ quiescent_CCtx (hCCtx := hCCtx)
    ∧ quiescent_CCtxIdeal (hCCtxIdeal := hCCtxIdeal)
    ∧ quiescent_CCtxIdeal_pre_finite_ctx (hCCtxIdeal := hCCtxIdeal) (hPre_finite_ctx := hPre_finite_ctx)
    ∧ quiescent_CCtxRefIdeal (hCCtxRefIdeal := hCCtxRefIdeal)
    ∧ quiescent_CCtxRefIdeal_pre_finite_ctx (hCCtxRefIdeal := hCCtxRefIdeal) (hPre_finite_ctx := hPre_finite_ctx)
    ∧ quiescent_NormB (hNormB := hNormB)
    ∧ quiescent_NormBIdeal (hNormBIdeal := hNormBIdeal)
    ∧ quiescent_NormBRefIdeal (hNormBRefIdeal := hNormBRefIdeal)
    ∧ quiescent_Loss (hLoss := hLoss)
    ∧ quiescent_LossIdeal (hLossIdeal := hLossIdeal)
    ∧ quiescent_LossRefIdeal (hLossRefIdeal := hLossRefIdeal)
    ∧ quiescent_Post (hPost := hPost)
    ∧ quiescent_PostIdeal (hPostIdeal := hPostIdeal)
    ∧ quiescent_PostRefIdeal (hPostRefIdeal := hPostRefIdeal)
    ∧ quiescent_ConvF (hConvF := hConvF)
    ∧ quiescent_ConvFIdeal (hConvFIdeal := hConvFIdeal)
    ∧ quiescent_ConvFRefIdeal (hConvFRefIdeal := hConvFRefIdeal)
    ∧ quiescent_Small (hSmall := hSmall)
    ∧ quiescent_SmallIdeal (hSmallIdeal := hSmallIdeal)
    ∧ quiescent_SmallRefIdeal (hSmallRefIdeal := hSmallRefIdeal)
    ∧ quiescent_NormP (hNormP := hNormP)
    ∧ quiescent_NormPIdeal (hNormPIdeal := hNormPIdeal)
    ∧ quiescent_NormPRefIdeal (hNormPRefIdeal := hNormPRefIdeal)
    ∧ quiescent_LbG (hLbG := hLbG)
    ∧ quiescent_LbGIdeal (hLbGIdeal := hLbGIdeal)
    ∧ quiescent_LbGIdeal_pre_finite_lb (hLbGIdeal := hLbGIdeal) (hPre_finite_lb := hPre_finite_lb)
    ∧ quiescent_LbGRefIdeal (hLbGRefIdeal := hLbGRefIdeal)
    ∧ quiescent_LbGRefIdeal_pre_finite_lb (hLbGRefIdeal := hLbGRefIdeal) (hPre_finite_lb := hPre_finite_lb)
    ∧ preserves_Kernel_KernelIdeal
    ∧ algebraic_KernelIdeal_ReferenceIdeal_pre_finite (hKernelIdeal := hKernelIdeal) (hReferenceIdeal := hReferenceIdeal) (hPre_finite := hPre_finite)
    ∧ preserves_OdInDx_OdInDxIdeal
    ∧ algebraic_OdInDxIdeal_OdInDxRefIdeal (hOdInDxIdeal := hOdInDxIdeal) (hOdInDxRefIdeal := hOdInDxRefIdeal)
    ∧ preserves_OdInDw_OdInDwIdeal
    ∧ algebraic_OdInDwIdeal_OdInDwRefIdeal (hOdInDwIdeal := hOdInDwIdeal) (hOdInDwRefIdeal := hOdInDwRefIdeal)
    ∧ preserves_EvInDx_EvInDxIdeal
    ∧ algebraic_EvInDxIdeal_EvInDxRefIdeal (hEvInDxIdeal := hEvInDxIdeal) (hEvInDxRefIdeal := hEvInDxRefIdeal)
    ∧ preserves_EvInDw_EvInDwIdeal
    ∧ algebraic_EvInDwIdeal_EvInDwRefIdeal (hEvInDwIdeal := hEvInDwIdeal) (hEvInDwRefIdeal := hEvInDwRefIdeal)
    ∧ preserves_EvOutDx_EvOutDxIdeal
    ∧ algebraic_EvOutDxIdeal_EvOutDxRefIdeal (hEvOutDxIdeal := hEvOutDxIdeal) (hEvOutDxRefIdeal := hEvOutDxRefIdeal)
    ∧ preserves_EvOutDw_EvOutDwIdeal
    ∧ algebraic_EvOutDwIdeal_EvOutDwRefIdeal (hEvOutDwIdeal := hEvOutDwIdeal) (hEvOutDwRefIdeal := hEvOutDwRefIdeal)
    ∧ preserves_OdOutDx_OdOutDxIdeal
    ∧ algebraic_OdOutDxIdeal_OdOutDxRefIdeal (hOdOutDxIdeal := hOdOutDxIdeal) (hOdOutDxRefIdeal := hOdOutDxRefIdeal)
    ∧ preserves_OdOutDw_OdOutDwIdeal
    ∧ algebraic_OdOutDwIdeal_OdOutDwRefIdeal (hOdOutDwIdeal := hOdOutDwIdeal) (hOdOutDwRefIdeal := hOdOutDwRefIdeal)
    ∧ preserves_OdIn_OdInIdeal
    ∧ algebraic_OdInIdeal_OdInRefIdeal (hOdInIdeal := hOdInIdeal) (hOdInRefIdeal := hOdInRefIdeal)
    ∧ preserves_EvIn_EvInIdeal
    ∧ algebraic_EvInIdeal_EvInRefIdeal (hEvInIdeal := hEvInIdeal) (hEvInRefIdeal := hEvInRefIdeal)
    ∧ preserves_EvOut_EvOutIdeal
    ∧ algebraic_EvOutIdeal_EvOutRefIdeal (hEvOutIdeal := hEvOutIdeal) (hEvOutRefIdeal := hEvOutRefIdeal)
    ∧ preserves_OdOut_OdOutIdeal
    ∧ algebraic_OdOutIdeal_OdOutRefIdeal (hOdOutIdeal := hOdOutIdeal) (hOdOutRefIdeal := hOdOutRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_Ada_AdaIdeal
    ∧ algebraic_AdaIdeal_AdaRefIdeal (hAdaIdeal := hAdaIdeal) (hAdaRefIdeal := hAdaRefIdeal)
    ∧ preserves_StepIn_StepInIdeal
    ∧ algebraic_StepInIdeal_StepInRefIdeal (hStepInIdeal := hStepInIdeal) (hStepInRefIdeal := hStepInRefIdeal)
    ∧ preserves_StepOut_StepOutIdeal
    ∧ algebraic_StepOutIdeal_StepOutRefIdeal (hStepOutIdeal := hStepOutIdeal) (hStepOutRefIdeal := hStepOutRefIdeal)
    ∧ preserves_StepOdIn_StepOdInIdeal
    ∧ algebraic_StepOdInIdeal_StepOdInRefIdeal (hStepOdInIdeal := hStepOdInIdeal) (hStepOdInRefIdeal := hStepOdInRefIdeal)
    ∧ preserves_StepPool_StepPoolIdeal
    ∧ algebraic_StepPoolIdeal_StepPoolRefIdeal (hStepPoolIdeal := hStepPoolIdeal) (hStepPoolRefIdeal := hStepPoolRefIdeal)
    ∧ preserves_StepAdaB_StepAdaBIdeal
    ∧ algebraic_StepAdaBIdeal_StepAdaBRefIdeal (hStepAdaBIdeal := hStepAdaBIdeal) (hStepAdaBRefIdeal := hStepAdaBRefIdeal)
    ∧ preserves_StepGain_StepGainIdeal
    ∧ algebraic_StepGainIdeal_StepGainRefIdeal (hStepGainIdeal := hStepGainIdeal) (hStepGainRefIdeal := hStepGainRefIdeal)
    ∧ preserves_StepHalf_StepHalfIdeal
    ∧ algebraic_StepHalfIdeal_StepHalfRefIdeal (hStepHalfIdeal := hStepHalfIdeal) (hStepHalfRefIdeal := hStepHalfRefIdeal)
    ∧ preserves_StepConv_StepConvIdeal
    ∧ algebraic_StepConvIdeal_StepConvRefIdeal (hStepConvIdeal := hStepConvIdeal) (hStepConvRefIdeal := hStepConvRefIdeal)
    ∧ preserves_StepOnorm_StepOnormIdeal
    ∧ algebraic_StepOnormIdeal_StepOnormRefIdeal (hStepOnormIdeal := hStepOnormIdeal) (hStepOnormRefIdeal := hStepOnormRefIdeal)
    ∧ preserves_StepLb_StepLbIdeal
    ∧ algebraic_StepLbIdeal_StepLbRefIdeal (hStepLbIdeal := hStepLbIdeal) (hStepLbRefIdeal := hStepLbRefIdeal)
    ∧ preserves_StepCtx_StepCtxIdeal
    ∧ algebraic_StepCtxIdeal_StepCtxRefIdeal (hStepCtxIdeal := hStepCtxIdeal) (hStepCtxRefIdeal := hStepCtxRefIdeal)
    ∧ preserves_CCtx_CCtxIdeal
    ∧ algebraic_CCtxIdeal_CCtxRefIdeal_pre_finite_ctx (hCCtxIdeal := hCCtxIdeal) (hCCtxRefIdeal := hCCtxRefIdeal) (hPre_finite_ctx := hPre_finite_ctx)
    ∧ preserves_NormB_NormBIdeal
    ∧ algebraic_NormBIdeal_NormBRefIdeal (hNormBIdeal := hNormBIdeal) (hNormBRefIdeal := hNormBRefIdeal)
    ∧ preserves_Loss_LossIdeal
    ∧ algebraic_LossIdeal_LossRefIdeal (hLossIdeal := hLossIdeal) (hLossRefIdeal := hLossRefIdeal)
    ∧ preserves_Post_PostIdeal
    ∧ algebraic_PostIdeal_PostRefIdeal (hPostIdeal := hPostIdeal) (hPostRefIdeal := hPostRefIdeal)
    ∧ preserves_ConvF_ConvFIdeal
    ∧ algebraic_ConvFIdeal_ConvFRefIdeal (hConvFIdeal := hConvFIdeal) (hConvFRefIdeal := hConvFRefIdeal)
    ∧ preserves_Small_SmallIdeal
    ∧ algebraic_SmallIdeal_SmallRefIdeal (hSmallIdeal := hSmallIdeal) (hSmallRefIdeal := hSmallRefIdeal)
    ∧ preserves_NormP_NormPIdeal
    ∧ algebraic_NormPIdeal_NormPRefIdeal (hNormPIdeal := hNormPIdeal) (hNormPRefIdeal := hNormPRefIdeal)
    ∧ preserves_LbG_LbGIdeal
    ∧ algebraic_LbGIdeal_LbGRefIdeal_pre_finite_lb (hLbGIdeal := hLbGIdeal) (hLbGRefIdeal := hLbGRefIdeal) (hPre_finite_lb := hPre_finite_lb)
-- ==== Pre_finite.lean ====
abbrev S6x2304x1024 : Shape := ⟨3, ![6, 2304, 1024]⟩
abbrev S2304x2048 : Shape := ⟨2, ![2304, 2048]⟩
abbrev S3x1024 : Shape := ⟨2, ![3, 1024]⟩
abbrev S1x1024 : Shape := ⟨2, ![1, 1024]⟩
abbrev S_ : Shape := ⟨0, ![]⟩

class Facts : Prop where
  bcast_S_S6x2304x1024 : S_.BroadcastsInDim S6x2304x1024 (![] : Fin 0 → Fin S6x2304x1024.rank)
  reducesTo_S6x2304x1024_S_d0_1_2 : S6x2304x1024.ReducesTo [0, 1, 2] S_
  h_S_ : 0 < S_.numel
  bcast_S_S2304x2048 : S_.BroadcastsInDim S2304x2048 (![] : Fin 0 → Fin S2304x2048.rank)
  reducesTo_S2304x2048_S_d0_1 : S2304x2048.ReducesTo [0, 1] S_
  bcast_S_S3x1024 : S_.BroadcastsInDim S3x1024 (![] : Fin 0 → Fin S3x1024.rank)
  reducesTo_S3x1024_S_d0_1 : S3x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S6x2304x1024 .f32) (main_arg1 : FVec F S2304x2048 .f32) (main_arg2 : FVec F S3x1024 .f32) (main_arg3 : FVec F S1x1024 .f32) : IVec S_ 1 :=
  let main_v0 : FVec F S6x2304x1024 .f32 := Host.absf main_arg0
  let main_cst : FVec F S_ .f32 := constant S_ .f32 0x7F800000#32
  let main_v1 : FVec F S6x2304x1024 .f32 := broadcastInDim S6x2304x1024 ![] bcast_S_S6x2304x1024 main_cst
  let main_v2 : IVec S6x2304x1024 1 := cmpf .olt main_v0 main_v1
  let main_c : IVec S_ 1 := constantI S_ 1 1#1
  let main_v3 : IVec S_ 1 := (fun x v => Host.reduce IntOp.andi x v reducesTo_S6x2304x1024_S_d0_1_2 h_S_) main_v2 main_c
  let main_v4 : FVec F S2304x2048 .f32 := Host.absf main_arg1
  let main_cst_0 : FVec F S_ .f32 := constant S_ .f32 0x7F800000#32
  let main_v5 : FVec F S2304x2048 .f32 := broadcastInDim S2304x2048 ![] bcast_S_S2304x2048 main_cst_0
  let main_v6 : IVec S2304x2048 1 := cmpf .olt main_v4 main_v5
  let main_c_1 : IVec S_ 1 := constantI S_ 1 1#1
  let main_v7 : IVec S_ 1 := (fun x v => Host.reduce IntOp.andi x v reducesTo_S2304x2048_S_d0_1 h_S_) main_v6 main_c_1
  let main_v8 : IVec S_ 1 := andi main_v3 main_v7
  let main_v9 : FVec F S3x1024 .f32 := Host.absf main_arg2
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_c_3 : IVec S_ 1 := constantI S_ 1 1#1
  let main_v12 : IVec S_ 1 := (fun x v => Host.reduce IntOp.andi x v reducesTo_S3x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_finite_ctx.lean ====
abbrev S8x8x2048 : Shape := ⟨3, ![8, 8, 2048]⟩
abbrev S1x2048 : Shape := ⟨2, ![1, 2048]⟩
abbrev S_ : Shape := ⟨0, ![]⟩

class Facts : Prop where
  bcast_S_S8x8x2048 : S_.BroadcastsInDim S8x8x2048 (![] : Fin 0 → Fin S8x8x2048.rank)
  reducesTo_S8x8x2048_S_d0_1_2 : S8x8x2048.ReducesTo [0, 1, 2] S_
  h_S_ : 0 < S_.numel

variable [Facts]

def fn {F : FTy → Type} [FloatOps F] (main_arg0 : FVec F S8x8x2048 .f32) (main_arg1 : FVec F S1x2048 .f32) : IVec S_ 1 :=
  let main_v0 : FVec F S8x8x2048 .f32 := Host.absf main_arg0
  let main_cst : FVec F S_ .f32 := constant S_ .f32 0x7F800000#32
  let main_v1 : FVec F S8x8x2048 .f32 := broadcastInDim S8x8x2048 ![] bcast_S_S8x8x2048 main_cst
  let main_v2 : IVec S8x8x2048 1 := cmpf .olt main_v0 main_v1
  let main_c : IVec S_ 1 := constantI S_ 1 1#1
  let main_v3 : IVec S_ 1 := (fun x v => Host.reduce IntOp.andi x v reducesTo_S8x8x2048_S_d0_1_2 h_S_) main_v2 main_c
  main_v3
-- ==== Pre_finite_lb.lean ====
abbrev S2x3x512 : Shape := ⟨3, ![2, 3, 512]⟩
abbrev S2x512 : Shape := ⟨2, ![2, 512]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S2x3x512 .f32) (main_arg1 : FVec F S2x512 .f32) : IVec S_ 1 :=
  let main_v0 : FVec F S2x512 .f32 := Host.absf main_arg1
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  main_v3
-- ==== Kernel.lean ====
abbrev S6x2304x1024 : Shape := ⟨3, ![6, 2304, 1024]⟩
abbrev S2304x2048 : Shape := ⟨2, ![2304, 2048]⟩
abbrev S3x1024 : Shape := ⟨2, ![3, 1024]⟩
abbrev S1x1024 : Shape := ⟨2, ![1, 1024]⟩
abbrev S4x2304x1024 : Shape := ⟨3, ![4, 2304, 1024]⟩
abbrev S1x2304x128 : Shape := ⟨3, ![1, 2304, 128]⟩
abbrev S2304x128 : Shape := ⟨2, ![2304, 128]⟩
abbrev S3x128 : Shape := ⟨2, ![3, 128]⟩
abbrev S1x128 : Shape := ⟨2, ![1, 128]⟩
abbrev S4x2304x128 : Shape := ⟨3, ![4, 2304, 128]⟩
abbrev S2304x1 : Shape := ⟨2, ![2304, 1]⟩
abbrev S128 : Shape := ⟨1, ![128]⟩

abbrev nBuf : Space → Nat
  | .hbm => 7
  | .vmem => 20
  | .smem => 0
  | _ => 0

abbrev bufTy : (tb : Table) → Fin (tcTables nBuf tb) → BufTy
  | .hbm, ⟨0, _⟩ => ⟨S6x2304x1024, .f32⟩
  | .hbm, ⟨1, _⟩ => ⟨S2304x2048, .f32⟩
  | .hbm, ⟨2, _⟩ => ⟨S3x1024, .f32⟩
  | .hbm, ⟨3, _⟩ => ⟨S1x1024, .f32⟩
  | .hbm, ⟨4, _⟩ => ⟨S4x2304x1024, .bf16⟩
  | .hbm, ⟨5, _⟩ => ⟨S3x1024, .f32⟩
  | .hbm, ⟨6, _⟩ => ⟨S1x1024, .f32⟩
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x2304x128, .f32⟩
  | .local _ .vmem, ⟨7, _⟩ => ⟨S1x2304x128, .f32⟩
  | .local _ .vmem, ⟨8, _⟩ => ⟨S2304x128, .f32⟩
  | .local _ .vmem, ⟨9, _⟩ => ⟨S2304x128, .f32⟩
  | .local _ .vmem, ⟨10, _⟩ => ⟨S3x128, .f32⟩
  | .local _ .vmem, ⟨11, _⟩ => ⟨S3x128, .f32⟩
  | .local _ .vmem, ⟨12, _⟩ => ⟨S1x128, .f32⟩
  | .local _ .vmem, ⟨13, _⟩ => ⟨S1x128, .f32⟩
  | .local _ .vmem, ⟨14, _⟩ => ⟨S4x2304x128, .bf16⟩
  | .local _ .vmem, ⟨15, _⟩ => ⟨S4x2304x128, .bf16⟩
  | .local _ .vmem, ⟨16, _⟩ => ⟨S3x128, .f32⟩
  | .local _ .vmem, ⟨17, _⟩ => ⟨S3x128, .f32⟩
  | .local _ .vmem, ⟨18, _⟩ => ⟨S1x128, .f32⟩
  | .local _ .vmem, ⟨19, _⟩ => ⟨S1x128, .f32⟩
  | _, _ => ⟨S6x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat, arg0.toNat]

def cc0_transform_3 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat, arg0.toNat]

def cc0_transform_4 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2304x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x2304x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S6x2304x1024 : Shape := ⟨3, ![6, 2304, 1024]⟩
abbrev S2304x2048 : Shape := ⟨2, ![2304, 2048]⟩
abbrev S3x1024 : Shape := ⟨2, ![3, 1024]⟩
abbrev S1x1024 : Shape := ⟨2, ![1, 1024]⟩
abbrev S1x256x1024 : Shape := ⟨3, ![1, 256, 1024]⟩
abbrev S1024 : Shape := ⟨1, ![1024]⟩
abbrev S1x1x1024 : Shape := ⟨3, ![1, 1, 1024]⟩
abbrev S_ : Shape := ⟨0, ![]⟩
abbrev S1x258x1024 : Shape := ⟨3, ![1, 258, 1024]⟩
abbrev S1x2048x1024 : Shape := ⟨3, ![1, 2048, 1024]⟩
abbrev S1x2050x1024 : Shape := ⟨3, ![1, 2050, 1024]⟩
abbrev S256x1024 : Shape := ⟨2, ![256, 1024]⟩
abbrev S2048x1024 : Shape := ⟨2, ![2048, 1024]⟩
abbrev S2304x1024 : Shape := ⟨2, ![2304, 1024]⟩
abbrev S4x2304x1024 : Shape := ⟨3, ![4, 2304, 1024]⟩

abbrev nBuf : Space → Nat
  | .hbm => 267
  | .vmem => 0
  | .smem => 0
  | _ => 0

abbrev hbmTy0_0 (i : Nat) : BufTy := match i % 128 with
  | 0 => ⟨S6x2304x1024, .f32⟩
  | 1 => ⟨S2304x2048, .f32⟩
  | 2 => ⟨S3x1024, .f32⟩
  | 3 => ⟨S1x1024, .f32⟩
  | 4 => ⟨S1x256x1024, .f32⟩
  | 5 => ⟨S1x256x1024, .f32⟩
  | 6 => ⟨S1x256x1024, .f32⟩
  | 7 => ⟨S1x256x1024, .f32⟩
  | 8 => ⟨S1024, .f32⟩
  | 9 => ⟨S1x256x1024, .f32⟩
  | 10 => ⟨S1x1x1024, .f32⟩
  | 11 => ⟨S_, .f32⟩
  | 12 => ⟨S1x1x1024, .f32⟩
  | 13 => ⟨S1x258x1024, .f32⟩
  | 14 => ⟨S_, .f32⟩
  | 15 => ⟨S1x1x1024, .f32⟩
  | 16 => ⟨S_, .f32⟩
  | 17 => ⟨S1x1x1024, .f32⟩
  | 18 => ⟨S1x256x1024, .f32⟩
  | 19 => ⟨S1x1024, .f32⟩
  | 20 => ⟨S1024, .f32⟩
  | 21 => ⟨S1x1x1024, .f32⟩
  | 22 => ⟨S1x256x1024, .f32⟩
  | 23 => ⟨S1x256x1024, .f32⟩
  | 24 => ⟨S1x256x1024, .f32⟩
  | 25 => ⟨S1x1024, .f32⟩
  | 26 => ⟨S1024, .f32⟩
  | 27 => ⟨S1x1x1024, .f32⟩
  | 28 => ⟨S1x256x1024, .f32⟩
  | 29 => ⟨S1x256x1024, .f32⟩
  | 30 => ⟨S1x256x1024, .f32⟩
  | 31 => ⟨S1x256x1024, .f32⟩
  | 32 => ⟨S1x1024, .f32⟩
  | 33 => ⟨S1024, .f32⟩
  | 34 => ⟨S1x1x1024, .f32⟩
  | 35 => ⟨S1x256x1024, .f32⟩
  | 36 => ⟨S1x256x1024, .f32⟩
  | 37 => ⟨S1x256x1024, .f32⟩
  | 38 => ⟨S1x1x1024, .f32⟩
  | 39 => ⟨S1x256x1024, .f32⟩
  | 40 => ⟨S1x256x1024, .f32⟩
  | 41 => ⟨S1x256x1024, .f32⟩
  | 42 => ⟨S1x256x1024, .f32⟩
  | 43 => ⟨S1x256x1024, .f32⟩
  | 44 => ⟨S_, .f32⟩
  | 45 => ⟨S1x256x1024, .f32⟩
  | 46 => ⟨S1x256x1024, .f32⟩
  | 47 => ⟨S_, .f32⟩
  | 48 => ⟨S1x256x1024, .f32⟩
  | 49 => ⟨S1x256x1024, .f32⟩
  | 50 => ⟨S_, .f32⟩
  | 51 => ⟨S1x256x1024, .f32⟩
  | 52 => ⟨S1x256x1024, .f32⟩
  | 53 => ⟨S1x256x1024, .f32⟩
  | 54 => ⟨S1x256x1024, .f32⟩
  | 55 => ⟨S1x256x1024, .f32⟩
  | 56 => ⟨S1x2048x1024, .f32⟩
  | 57 => ⟨S1x2048x1024, .f32⟩
  | 58 => ⟨S1x2048x1024, .f32⟩
  | 59 => ⟨S1x2048x1024, .f32⟩
  | 60 => ⟨S1024, .f32⟩
  | 61 => ⟨S1x2048x1024, .f32⟩
  | 62 => ⟨S1x1x1024, .f32⟩
  | 63 => ⟨S_, .f32⟩
  | 64 => ⟨S1x1x1024, .f32⟩
  | 65 => ⟨S1x2050x1024, .f32⟩
  | 66 => ⟨S_, .f32⟩
  | 67 => ⟨S1x1x1024, .f32⟩
  | 68 => ⟨S_, .f32⟩
  | 69 => ⟨S1x1x1024, .f32⟩
  | 70 => ⟨S1x2048x1024, .f32⟩
  | 71 => ⟨S1x1024, .f32⟩
  | 72 => ⟨S1024, .f32⟩
  | 73 => ⟨S1x1x1024, .f32⟩
  | 74 => ⟨S1x2048x1024, .f32⟩
  | 75 => ⟨S1x2048x1024, .f32⟩
  | 76 => ⟨S1x2048x1024, .f32⟩
  | 77 => ⟨S1x1024, .f32⟩
  | 78 => ⟨S1024, .f32⟩
  | 79 => ⟨S1x1x1024, .f32⟩
  | 80 => ⟨S1x2048x1024, .f32⟩
  | 81 => ⟨S1x2048x1024, .f32⟩
  | 82 => ⟨S1x2048x1024, .f32⟩
  | 83 => ⟨S1x2048x1024, .f32⟩
  | 84 => ⟨S1x1024, .f32⟩
  | 85 => ⟨S1024, .f32⟩
  | 86 => ⟨S1x1x1024, .f32⟩
  | 87 => ⟨S1x2048x1024, .f32⟩
  | 88 => ⟨S1x2048x1024, .f32⟩
  | 89 => ⟨S1x2048x1024, .f32⟩
  | 90 => ⟨S1x1x1024, .f32⟩
  | 91 => ⟨S1x2048x1024, .f32⟩
  | 92 => ⟨S1x2048x1024, .f32⟩
  | 93 => ⟨S1x2048x1024, .f32⟩
  | 94 => ⟨S1x2048x1024, .f32⟩
  | 95 => ⟨S1x2048x1024, .f32⟩
  | 96 => ⟨S_, .f32⟩
  | 97 => ⟨S1x2048x1024, .f32⟩
  | 98 => ⟨S1x2048x1024, .f32⟩
  | 99 => ⟨S_, .f32⟩
  | 100 => ⟨S1x2048x1024, .f32⟩
  | 101 => ⟨S1x2048x1024, .f32⟩
  | 102 => ⟨S_, .f32⟩
  | 103 => ⟨S1x2048x1024, .f32⟩
  | 104 => ⟨S1x2048x1024, .f32⟩
  | 105 => ⟨S1x2048x1024, .f32⟩
  | 106 => ⟨S1x2048x1024, .f32⟩
  | 107 => ⟨S1x2048x1024, .f32⟩
  | 108 => ⟨S256x1024, .f32⟩
  | 109 => ⟨S2048x1024, .f32⟩
  | 110 => ⟨S2304x1024, .f32⟩
  | 111 => ⟨S2304x1024, .f32⟩
  | 112 => ⟨S256x1024, .f32⟩
  | 113 => ⟨S2048x1024, .f32⟩
  | 114 => ⟨S1x2048x1024, .f32⟩
  | 115 => ⟨S1x256x1024, .f32⟩
  | 116 => ⟨S1x2048x1024, .f32⟩
  | 117 => ⟨S1x2048x1024, .f32⟩
  | 118 => ⟨S1x2048x1024, .f32⟩
  | 119 => ⟨S1x2048x1024, .f32⟩
  | 120 => ⟨S1x2048x1024, .f32⟩
  | 121 => ⟨S1x2048x1024, .f32⟩
  | 122 => ⟨S1x2048x1024, .f32⟩
  | 123 => ⟨S1x2048x1024, .f32⟩
  | 124 => ⟨S_, .f32⟩
  | 125 => ⟨S1x1024, .f32⟩
  | 126 => ⟨S1x1x1024, .f32⟩
  | 127 => ⟨S_, .f32⟩
  | _ => ⟨S6x2304x1024, .f32⟩

abbrev hbmTy0_1 (i : Nat) : BufTy := match i % 128 with
  | 0 => ⟨S1024, .f32⟩
  | 1 => ⟨S1x2048x1024, .f32⟩
  | 2 => ⟨S_, .f32⟩
  | 3 => ⟨S1x1024, .f32⟩
  | 4 => ⟨S1x1x1024, .f32⟩
  | 5 => ⟨S1x2048x1024, .f32⟩
  | 6 => ⟨S1x2048x1024, .f32⟩
  | 7 => ⟨S_, .f32⟩
  | 8 => ⟨S1024, .f32⟩
  | 9 => ⟨S1x1024, .f32⟩
  | 10 => ⟨S_, .f32⟩
  | 11 => ⟨S3x1024, .f32⟩
  | 12 => ⟨S_, .f32⟩
  | 13 => ⟨S1x2050x1024, .f32⟩
  | 14 => ⟨S1x2048x1024, .f32⟩
  | 15 => ⟨S_, .f32⟩
  | 16 => ⟨S1x1024, .f32⟩
  | 17 => ⟨S1x1x1024, .f32⟩
  | 18 => ⟨S1x2048x1024, .f32⟩
  | 19 => ⟨S1x2048x1024, .f32⟩
  | 20 => ⟨S_, .f32⟩
  | 21 => ⟨S1024, .f32⟩
  | 22 => ⟨S1x1024, .f32⟩
  | 23 => ⟨S_, .f32⟩
  | 24 => ⟨S3x1024, .f32⟩
  | 25 => ⟨S3x1024, .f32⟩
  | 26 => ⟨S_, .f32⟩
  | 27 => ⟨S1x2050x1024, .f32⟩
  | 28 => ⟨S1x2050x1024, .f32⟩
  | 29 => ⟨S1x2048x1024, .f32⟩
  | 30 => ⟨S_, .f32⟩
  | 31 => ⟨S1x1024, .f32⟩
  | 32 => ⟨S1x1x1024, .f32⟩
  | 33 => ⟨S1x2048x1024, .f32⟩
  | 34 => ⟨S1x2048x1024, .f32⟩
  | 35 => ⟨S_, .f32⟩
  | 36 => ⟨S1024, .f32⟩
  | 37 => ⟨S1x1024, .f32⟩
  | 38 => ⟨S_, .f32⟩
  | 39 => ⟨S3x1024, .f32⟩
  | 40 => ⟨S3x1024, .f32⟩
  | 41 => ⟨S_, .f32⟩
  | 42 => ⟨S1x2050x1024, .f32⟩
  | 43 => ⟨S1x2050x1024, .f32⟩
  | 44 => ⟨S1x1x1024, .f32⟩
  | 45 => ⟨S1x2048x1024, .f32⟩
  | 46 => ⟨S1x1x1024, .f32⟩
  | 47 => ⟨S1x2048x1024, .f32⟩
  | 48 => ⟨S1x2048x1024, .f32⟩
  | 49 => ⟨S1x1024, .f32⟩
  | 50 => ⟨S_, .f32⟩
  | 51 => ⟨S6x2304x1024, .f32⟩
  | 52 => ⟨S_, .f32⟩
  | 53 => ⟨S6x2304x1024, .f32⟩
  | 54 => ⟨S6x2304x1024, .f32⟩
  | 55 => ⟨S_, .f32⟩
  | 56 => ⟨S6x2304x1024, .f32⟩
  | 57 => ⟨S6x2304x1024, .f32⟩
  | 58 => ⟨S_, .f32⟩
  | 59 => ⟨S6x2304x1024, .f32⟩
  | 60 => ⟨S6x2304x1024, .f32⟩
  | 61 => ⟨S1x256x1024, .f32⟩
  | 62 => ⟨S1x256x1024, .f32⟩
  | 63 => ⟨S1x256x1024, .f32⟩
  | 64 => ⟨S1x256x1024, .f32⟩
  | 65 => ⟨S1x256x1024, .f32⟩
  | 66 => ⟨S1x256x1024, .f32⟩
  | 67 => ⟨S1x256x1024, .f32⟩
  | 68 => ⟨S1x256x1024, .f32⟩
  | 69 => ⟨S_, .f32⟩
  | 70 => ⟨S1x1024, .f32⟩
  | 71 => ⟨S1x1x1024, .f32⟩
  | 72 => ⟨S_, .f32⟩
  | 73 => ⟨S1024, .f32⟩
  | 74 => ⟨S1x256x1024, .f32⟩
  | 75 => ⟨S_, .f32⟩
  | 76 => ⟨S1x1024, .f32⟩
  | 77 => ⟨S1x1x1024, .f32⟩
  | 78 => ⟨S1x256x1024, .f32⟩
  | 79 => ⟨S1x256x1024, .f32⟩
  | 80 => ⟨S_, .f32⟩
  | 81 => ⟨S1024, .f32⟩
  | 82 => ⟨S1x1024, .f32⟩
  | 83 => ⟨S_, .f32⟩
  | 84 => ⟨S3x1024, .f32⟩
  | 85 => ⟨S3x1024, .f32⟩
  | 86 => ⟨S_, .f32⟩
  | 87 => ⟨S1x258x1024, .f32⟩
  | 88 => ⟨S1x256x1024, .f32⟩
  | 89 => ⟨S_, .f32⟩
  | 90 => ⟨S1x1024, .f32⟩
  | 91 => ⟨S1x1x1024, .f32⟩
  | 92 => ⟨S1x256x1024, .f32⟩
  | 93 => ⟨S1x256x1024, .f32⟩
  | 94 => ⟨S_, .f32⟩
  | 95 => ⟨S1024, .f32⟩
  | 96 => ⟨S1x1024, .f32⟩
  | 97 => ⟨S_, .f32⟩
  | 98 => ⟨S3x1024, .f32⟩
  | 99 => ⟨S3x1024, .f32⟩
  | 100 => ⟨S_, .f32⟩
  | 101 => ⟨S1x258x1024, .f32⟩
  | 102 => ⟨S1x258x1024, .f32⟩
  | 103 => ⟨S1x256x1024, .f32⟩
  | 104 => ⟨S_, .f32⟩
  | 105 => ⟨S1x1024, .f32⟩
  | 106 => ⟨S1x1x1024, .f32⟩
  | 107 => ⟨S1x256x1024, .f32⟩
  | 108 => ⟨S1x256x1024, .f32⟩
  | 109 => ⟨S_, .f32⟩
  | 110 => ⟨S1024, .f32⟩
  | 111 => ⟨S1x1024, .f32⟩
  | 112 => ⟨S_, .f32⟩
  | 113 => ⟨S3x1024, .f32⟩
  | 114 => ⟨S3x1024, .f32⟩
  | 115 => ⟨S_, .f32⟩
  | 116 => ⟨S1x258x1024, .f32⟩
  | 117 => ⟨S1x258x1024, .f32⟩
  | 118 => ⟨S1x1x1024, .f32⟩
  | 119 => ⟨S1x256x1024, .f32⟩
  | 120 => ⟨S1x1x1024, .f32⟩
  | 121 => ⟨S1x256x1024, .f32⟩
  | 122 => ⟨S1x256x1024, .f32⟩
  | 123 => ⟨S1x1024, .f32⟩
  | 124 => ⟨S1x1024, .f32⟩
  | 125 => ⟨S_, .f32⟩
  | 126 => ⟨S6x2304x1024, .f32⟩
  | 127 => ⟨S6x2304x1024, .f32⟩
  | _ => ⟨S6x2304x1024, .f32⟩

abbrev hbmTy0_2 (i : Nat) : BufTy := match i % 128 with
  | 0 => ⟨S_, .f32⟩
  | 1 => ⟨S6x2304x1024, .f32⟩
  | 2 => ⟨S6x2304x1024, .f32⟩
  | 3 => ⟨S_, .f32⟩
  | 4 => ⟨S6x2304x1024, .f32⟩
  | 5 => ⟨S6x2304x1024, .f32⟩
  | 6 => ⟨S_, .f32⟩
  | 7 => ⟨S6x2304x1024, .f32⟩
  | 8 => ⟨S6x2304x1024, .f32⟩
  | 9 => ⟨S4x2304x1024, .f32⟩
  | 10 => ⟨S4x2304x1024, .bf16⟩
  | _ => ⟨S6x2304x1024, .f32⟩

abbrev hbmTy (i : Nat) : BufTy := match i / 128 with
  | 0 => hbmTy0_0 i
  | 1 => hbmTy0_1 i
  | 2 => hbmTy0_2 i
  | _ => ⟨S6x2304x1024, .f32⟩

abbrev bufTy : (tb : Table) → Fin (tcTables nBuf tb) → BufTy
  | .hbm, ⟨i, _⟩ => hbmTy i
  | _, _ => ⟨S6x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v35_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v35_1 : Ref sig .tc := ⟨.hbm, 53, rfl⟩
abbrev main_v35_0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_2 : Ref sig .tc := ⟨.hbm, 63, rfl⟩
abbrev main_v44 : Ref sig .tc := ⟨.hbm, 64, rfl⟩
abbrev main_v45 : Ref sig .tc := ⟨.hbm, 65, rfl⟩
abbrev main_cst_3 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_v72_2 : Ref sig .tc := ⟨.hbm, 101, rfl⟩
abbrev main_call1_cst_1 : Ref sig .tc := ⟨.hbm, 102, rfl⟩
abbrev main_call1_v6 : Ref sig .tc := ⟨.hbm, 103, rfl⟩
abbrev main_call1_v7 : Ref sig .tc := ⟨.hbm, 104, rfl⟩
abbrev main_v72_1 : Ref sig .tc := ⟨.hbm, 105, rfl⟩
abbrev main_v72_0 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_5 : Ref sig .tc := ⟨.hbm, 124, rfl⟩
abbrev main_v87 : Ref sig .tc := ⟨.hbm, 125, rfl⟩
abbrev main_v88 : Ref sig .tc := ⟨.hbm, 126, rfl⟩
abbrev main_cst_6 : Ref sig .tc := ⟨.hbm, 127, rfl⟩
abbrev main_v89 : Ref sig .tc := ⟨.hbm, 128, rfl⟩
abbrev main_v90 : Ref sig .tc := ⟨.hbm, 129, rfl⟩
abbrev main_cst_7 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_8 : Ref sig .tc := ⟨.hbm, 135, rfl⟩
abbrev main_v95 : Ref sig .tc := ⟨.hbm, 136, rfl⟩
abbrev main_v96 : Ref sig .tc := ⟨.hbm, 137, rfl⟩
abbrev main_cst_9 : Ref sig .tc := ⟨.hbm, 138, rfl⟩
abbrev main_v97 : Ref sig .tc := ⟨.hbm, 139, rfl⟩
abbrev main_cst_10 : Ref sig .tc := ⟨.hbm, 140, rfl⟩
abbrev main_v98 : Ref sig .tc := ⟨.hbm, 141, rfl⟩
abbrev main_v99 : Ref sig .tc := ⟨.hbm, 142, rfl⟩
abbrev main_cst_11 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_12 : Ref sig .tc := ⟨.hbm, 148, rfl⟩
abbrev main_v104 : Ref sig .tc := ⟨.hbm, 149, rfl⟩
abbrev main_v105 : Ref sig .tc := ⟨.hbm, 150, rfl⟩
abbrev main_cst_13 : Ref sig .tc := ⟨.hbm, 151, rfl⟩
abbrev main_v106 : Ref sig .tc := ⟨.hbm, 152, rfl⟩
abbrev main_v107 : Ref sig .tc := ⟨.hbm, 153, rfl⟩
abbrev main_cst_14 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_15 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_16 : Ref sig .tc := ⟨.hbm, 163, rfl⟩
abbrev main_v115 : Ref sig .tc := ⟨.hbm, 164, rfl⟩
abbrev main_v116 : Ref sig .tc := ⟨.hbm, 165, rfl⟩
abbrev main_cst_17 : Ref sig .tc := ⟨.hbm, 166, rfl⟩
abbrev main_v117 : Ref sig .tc := ⟨.hbm, 167, rfl⟩
abbrev main_v118 : Ref sig .tc := ⟨.hbm, 168, rfl⟩
abbrev main_cst_18 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_19 : Ref sig .tc := ⟨.hbm, 178, rfl⟩
abbrev main_v127 : Ref sig .tc := ⟨.hbm, 179, rfl⟩
abbrev main_cst_20 : Ref sig .tc := ⟨.hbm, 180, rfl⟩
abbrev main_v128 : Ref sig .tc := ⟨.hbm, 181, rfl⟩
abbrev main_v129 : Ref sig .tc := ⟨.hbm, 182, rfl⟩
abbrev main_cst_21 : Ref sig .tc := ⟨.hbm, 183, rfl⟩
abbrev main_v130 : Ref sig .tc := ⟨.hbm, 184, rfl⟩
abbrev main_v131 : Ref sig .tc := ⟨.hbm, 185, rfl⟩
abbrev main_cst_22 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_call3_v0 : Ref sig .tc := ⟨.hbm, 191, rfl⟩
abbrev main_call3_v1 : Ref sig .tc := ⟨.hbm, 192, rfl⟩
abbrev main_call3_v2 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_23 : Ref sig .tc := ⟨.hbm, 197, rfl⟩
abbrev main_v139 : Ref sig .tc := ⟨.hbm, 198, rfl⟩
abbrev main_v140 : Ref sig .tc := ⟨.hbm, 199, rfl⟩
abbrev main_cst_24 : Ref sig .tc := ⟨.hbm, 200, rfl⟩
abbrev main_v141 : Ref sig .tc := ⟨.hbm, 201, rfl⟩
abbrev main_v142 : Ref sig .tc := ⟨.hbm, 202, rfl⟩
abbrev main_cst_25 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_cst_26 : Ref sig .tc := ⟨.hbm, 208, rfl⟩
abbrev main_v147 : Ref sig .tc := ⟨.hbm, 209, rfl⟩
abbrev main_v148 : Ref sig .tc := ⟨.hbm, 210, rfl⟩
abbrev main_cst_27 : Ref sig .tc := ⟨.hbm, 211, rfl⟩
abbrev main_v149 : Ref sig .tc := ⟨.hbm, 212, rfl⟩
abbrev main_v150 : Ref sig .tc := ⟨.hbm, 213, rfl⟩
abbrev main_cst_28 : Ref sig .tc := ⟨.hbm, 214, rfl⟩
abbrev main_v151 : Ref sig .tc := ⟨.hbm, 215, rfl⟩
abbrev main_v152 : Ref sig .tc := ⟨.hbm, 216, rfl⟩
abbrev main_cst_29 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_cst_30 : Ref sig .tc := ⟨.hbm, 222, rfl⟩
abbrev main_v157 : Ref sig .tc := ⟨.hbm, 223, rfl⟩
abbrev main_v158 : Ref sig .tc := ⟨.hbm, 224, rfl⟩
abbrev main_cst_31 : Ref sig .tc := ⟨.hbm, 225, rfl⟩
abbrev main_v159 : Ref sig .tc := ⟨.hbm, 226, rfl⟩
abbrev main_v160 : Ref sig .tc := ⟨.hbm, 227, rfl⟩
abbrev main_cst_32 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_cst_33 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_cst_34 : Ref sig .tc := ⟨.hbm, 237, rfl⟩
abbrev main_v168 : Ref sig .tc := ⟨.hbm, 238, rfl⟩
abbrev main_v169 : Ref sig .tc := ⟨.hbm, 239, rfl⟩
abbrev main_cst_35 : Ref sig .tc := ⟨.hbm, 240, rfl⟩
abbrev main_v170 : Ref sig .tc := ⟨.hbm, 241, rfl⟩
abbrev main_v171 : Ref sig .tc := ⟨.hbm, 242, rfl⟩
abbrev main_cst_36 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_cst_37 : Ref sig .tc := ⟨.hbm, 253, rfl⟩
abbrev main_v181 : Ref sig .tc := ⟨.hbm, 254, rfl⟩
abbrev main_v182 : Ref sig .tc := ⟨.hbm, 255, rfl⟩
abbrev main_cst_38 : Ref sig .tc := ⟨.hbm, 256, rfl⟩
abbrev main_v183 : Ref sig .tc := ⟨.hbm, 257, rfl⟩
abbrev main_v184 : Ref sig .tc := ⟨.hbm, 258, rfl⟩
abbrev main_cst_39 : Ref sig .tc := ⟨.hbm, 259, rfl⟩
abbrev main_v185 : Ref sig .tc := ⟨.hbm, 260, rfl⟩
abbrev main_v186 : Ref sig .tc := ⟨.hbm, 261, rfl⟩
abbrev main_cst_40 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩

abbrev nD : Nat := 1
abbrev τ : Topo := Topo.v7x

variable {F : FTy → Type} [FloatOps F]
-- ==== OdInDx.lean ====
abbrev S5x2304x2048 : Shape := ⟨3, ![5, 2304, 2048]⟩
abbrev S4x2048x2560 : Shape := ⟨3, ![4, 2048, 2560]⟩
abbrev S2304x2048 : Shape := ⟨2, ![2304, 2048]⟩
abbrev S1x1152x512 : Shape := ⟨3, ![1, 1152, 512]⟩
abbrev S1x2048x512 : Shape := ⟨3, ![1, 2048, 512]⟩
abbrev S1152x2048 : Shape := ⟨2, ![1152, 2048]⟩
abbrev S1152x512 : Shape := ⟨2, ![1152, 512]⟩
abbrev S2048x512 : Shape := ⟨2, ![2048, 512]⟩

abbrev nBuf : Space → Nat
  | .hbm => 3
  | .vmem => 8
  | .smem => 0
  | _ => 0

abbrev bufTy : (tb : Table) → Fin (tcTables nBuf tb) → BufTy
  | .hbm, ⟨0, _⟩ => ⟨S5x2304x2048, .bf16⟩
  | .hbm, ⟨1, _⟩ => ⟨S4x2048x2560, .bf16⟩
  | .hbm, ⟨2, _⟩ => ⟨S2304x2048, .f32⟩
  | .local _ .vmem, ⟨0, _⟩ => ⟨S1x1152x512, .bf16⟩
  | .local _ .vmem, ⟨1, _⟩ => ⟨S1x1152x512, .bf16⟩
  | .local _ .vmem, ⟨2, _⟩ => ⟨S1x1152x512, .bf16⟩
  | .local _ .vmem, ⟨3, _⟩ => ⟨S1x1152x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1152x2048, .f32⟩
  | .local _ .vmem, ⟨7, _⟩ => ⟨S1152x2048, .f32⟩
  | _, _ => ⟨S5x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c20_i32 : BitVec 32 := 20#32
  let v3 : BitVec 1 := Scalar.cmpi .slt arg1 c20_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c20_i32_2 : BitVec 32 := 20#32
  let v6 : BitVec 1 := Scalar.cmpi .sge arg1 c20_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c19_i32 : BitVec 32 := 19#32
  let v0 : BitVec 32 := Scalar.minsi arg1 c19_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c19_i32_4 : BitVec 32 := 19#32
  let v18 : BitVec 32 := Scalar.minsi arg1 c19_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c19_i32_11 : BitVec 32 := 19#32
  let v29 : BitVec 32 := Scalar.minsi arg1 c19_i32_11
  let c4_i32_12 : BitVec 32 := 4#32
  let v30 : BitVec 32 := Scalar.divsi v29 c4_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v29 c4_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c19_i32_19 : BitVec 32 := 19#32
  let v47 : BitVec 32 := Scalar.minsi arg1 c19_i32_19
  let c4_i32_20 : BitVec 32 := 4#32
  let c0_i32_21 : BitVec 32 := 0#32
  let v48 : BitVec 1 := Scalar.cmpi .eq c4_i32_20 c0_i32_21
  let c1_i32_22 : BitVec 32 := 1#32
  let v49 : BitVec 32 := Scalar.select v48 c1_i32_22 c4_i32_20
  let v50 : BitVec 32 := Scalar.remsi v47 v49
  let c0_i32_23 : BitVec 32 := 0#32
  let v51 : BitVec 1 := Scalar.cmpi .ne v50 c0_i32_23
  let c0_i32_24 : BitVec 32 := 0#32
  let v52 : BitVec 1 := Scalar.cmpi .slt v50 c0_i32_24
  let c0_i32_25 : BitVec 32 := 0#32
  let v53 : BitVec 1 := Scalar.cmpi .slt v49 c0_i32_25
  let v54 : BitVec 1 := Scalar.xori v52 v53
  let v55 : BitVec 1 := Scalar.andi v54 v51
  let v56 : BitVec 32 := Scalar.addi v50 v49
  let v57 : BitVec 32 := Scalar.select v55 v56 v50
  let c0_i32_26 : BitVec 32 := 0#32
  ![v17.toNat, arg0.toNat, v57.toNat]

def cc0_transform_1 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c20_i32_5 : BitVec 32 := 20#32
  let v19 : BitVec 32 := Scalar.subi arg1 c20_i32_5
  let c0_i32_6 : BitVec 32 := 0#32
  let v20 : BitVec 32 := Scalar.maxsi v19 c0_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c20_i32_13 : BitVec 32 := 20#32
  let v31 : BitVec 32 := Scalar.subi arg1 c20_i32_13
  let c0_i32_14 : BitVec 32 := 0#32
  let v32 : BitVec 32 := Scalar.maxsi v31 c0_i32_14
  let c4_i32_15 : BitVec 32 := 4#32
  let v33 : BitVec 32 := Scalar.divsi v32 c4_i32_15
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c0_i32_18 : BitVec 32 := 0#32
  let v39 : BitVec 1 := Scalar.cmpi .sgt c4_i32_15 c0_i32_18
  let v40 : BitVec 32 := Scalar.extui v39
  let c0_i32_19 : BitVec 32 := 0#32
  let v41 : BitVec 1 := Scalar.cmpi .slt c4_i32_15 c0_i32_19
  let v42 : BitVec 32 := Scalar.extui v41
  let v43 : BitVec 32 := Scalar.subi v40 v42
  let v44 : BitVec 1 := Scalar.cmpi .ne v38 v43
  let v45 : BitVec 32 := Scalar.remsi v32 c4_i32_15
  let c0_i32_20 : BitVec 32 := 0#32
  let v46 : BitVec 1 := Scalar.cmpi .ne v45 c0_i32_20
  let v47 : BitVec 1 := Scalar.andi v44 v46
  let c1_i32_21 : BitVec 32 := 1#32
  let v48 : BitVec 32 := Scalar.subi v33 c1_i32_21
  let v49 : BitVec 32 := Scalar.select v47 v48 v33
  let c20_i32_22 : BitVec 32 := 20#32
  let v50 : BitVec 32 := Scalar.subi arg1 c20_i32_22
  let c0_i32_23 : BitVec 32 := 0#32
  let v51 : BitVec 32 := Scalar.maxsi v50 c0_i32_23
  let c4_i32_24 : BitVec 32 := 4#32
  let c0_i32_25 : BitVec 32 := 0#32
  let v52 : BitVec 1 := Scalar.cmpi .eq c4_i32_24 c0_i32_25
  let c1_i32_26 : BitVec 32 := 1#32
  let v53 : BitVec 32 := Scalar.select v52 c1_i32_26 c4_i32_24
  let v54 : BitVec 32 := Scalar.remsi v51 v53
  let c0_i32_27 : BitVec 32 := 0#32
  let v55 : BitVec 1 := Scalar.cmpi .ne v54 c0_i32_27
  let c0_i32_28 : BitVec 32 := 0#32
  let v56 : BitVec 1 := Scalar.cmpi .slt v54 c0_i32_28
  let c0_i32_29 : BitVec 32 := 0#32
  let v57 : BitVec 1 := Scalar.cmpi .slt v53 c0_i32_29
  let v58 : BitVec 1 := Scalar.xori v56 v57
  let v59 : BitVec 1 := Scalar.andi v58 v55
  let v60 : BitVec 32 := Scalar.addi v54 v53
  let v61 : BitVec 32 := Scalar.select v59 v60 v54
  let c0_i32_30 : BitVec 32 := 0#32
  ![v18.toNat, arg0.toNat, v61.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1152x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1152x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1152x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== OdInDxRefIdeal.lean ====
abbrev S5x2304x2048 : Shape := ⟨3, ![5, 2304, 2048]⟩
abbrev S4x2048x2560 : Shape := ⟨3, ![4, 2048, 2560]⟩
abbrev S2304x5x2048 : Shape := ⟨3, ![2304, 5, 2048]⟩
abbrev S2304x10240 : Shape := ⟨2, ![2304, 10240]⟩
abbrev S2048x4x2560 : Shape := ⟨3, ![2048, 4, 2560]⟩
abbrev S2048x10240 : Shape := ⟨2, ![2048, 10240]⟩
abbrev S_ : Shape := ⟨0, ![]⟩
abbrev S2304x2048 : Shape := ⟨2, ![2304, 2048]⟩

abbrev nBuf : Space → Nat
  | .hbm => 12
  | .vmem => 0
  | .smem => 0
  | _ => 0

abbrev bufTy : (tb : Table) → Fin (tcTables nBuf tb) → BufTy
  | .hbm, ⟨0, _⟩ => ⟨S5x2304x2048, .bf16⟩
  | .hbm, ⟨1, _⟩ => ⟨S4x2048x2560, .bf16⟩
  | .hbm, ⟨2, _⟩ => ⟨S2304x5x2048, .bf16⟩
  | .hbm, ⟨3, _⟩ => ⟨S2304x10240, .bf16⟩
  | .hbm, ⟨4, _⟩ => ⟨S2048x4x2560, .bf16⟩
  | .hbm, ⟨5, _⟩ => ⟨S2048x10240, .bf16⟩
  | .hbm, ⟨6, _⟩ => ⟨S_, .f32⟩
  | .hbm, ⟨7, _⟩ => ⟨S2304x2048, .f32⟩
  | .hbm, ⟨8, _⟩ => ⟨S2048x10240, .f32⟩
  | .hbm, ⟨9, _⟩ => ⟨S2304x10240, .f32⟩
  | .hbm, ⟨10, _⟩ => ⟨S2304x10240, .f32⟩
  | .hbm, ⟨11, _⟩ => ⟨S2304x2048, .f32⟩
  | _, _ => ⟨S5x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OdInDw.lean ====
abbrev S2304x2048 : Shape := ⟨2, ![2304, 2048]⟩
abbrev S5x2304x2048 : Shape := ⟨3, ![5, 2304, 2048]⟩
abbrev S4x2048x2560 : Shape := ⟨3, ![4, 2048, 2560]⟩
abbrev S1x2304x512 : Shape := ⟨3, ![1, 2304, 512]⟩
abbrev S1x2048x512 : Shape := ⟨3, ![1, 2048, 512]⟩
abbrev S2304x512 : Shape := ⟨2, ![2304, 512]⟩
abbrev S2304x256 : Shape := ⟨2, ![2304, 256]⟩
abbrev S256x512 : Shape := ⟨2, ![256, 512]⟩
abbrev S1x256x512 : Shape := ⟨3, ![1, 256, 512]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S5x2304x2048, .bf16⟩
  | .hbm, ⟨2, _⟩ => ⟨S4x2048x2560, .bf16⟩
  | .local _ .vmem, ⟨0, _⟩ => ⟨S2304x2048, .bf16⟩
  | .local _ .vmem, ⟨1, _⟩ => ⟨S1x2304x512, .bf16⟩
  | .local _ .vmem, ⟨2, _⟩ => ⟨S1x2304x512, .bf16⟩
  | .local _ .vmem, ⟨3, _⟩ => ⟨S1x2304x512, .bf16⟩
  | .local _ .vmem, ⟨4, _⟩ => ⟨S1x2304x512, .bf16⟩
  | .local _ .vmem, ⟨5, _⟩ => ⟨S1x2048x512, .bf16⟩
  | .local _ .vmem, ⟨6, _⟩ => ⟨S1x2048x512, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c20_i32 : BitVec 32 := 20#32
  let v0 : BitVec 1 := Scalar.cmpi .slt arg0 c20_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c20_i32_0 : BitVec 32 := 20#32
  let v3 : BitVec 1 := Scalar.cmpi .sge arg0 c20_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c19_i32 : BitVec 32 := 19#32
  let v0 : BitVec 32 := Scalar.minsi arg0 c19_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c19_i32_4 : BitVec 32 := 19#32
  let v18 : BitVec 32 := Scalar.minsi arg0 c19_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c19_i32_11 : BitVec 32 := 19#32
  let v29 : BitVec 32 := Scalar.minsi arg0 c19_i32_11
  let c4_i32_12 : BitVec 32 := 4#32
  let v30 : BitVec 32 := Scalar.divsi v29 c4_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v29 c4_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c19_i32_19 : BitVec 32 := 19#32
  let v47 : BitVec 32 := Scalar.minsi arg0 c19_i32_19
  let c4_i32_20 : BitVec 32 := 4#32
  let c0_i32_21 : BitVec 32 := 0#32
  let v48 : BitVec 1 := Scalar.cmpi .eq c4_i32_20 c0_i32_21
  let c1_i32_22 : BitVec 32 := 1#32
  let v49 : BitVec 32 := Scalar.select v48 c1_i32_22 c4_i32_20
  let v50 : BitVec 32 := Scalar.remsi v47 v49
  let c0_i32_23 : BitVec 32 := 0#32
  let v51 : BitVec 1 := Scalar.cmpi .ne v50 c0_i32_23
  let c0_i32_24 : BitVec 32 := 0#32
  let v52 : BitVec 1 := Scalar.cmpi .slt v50 c0_i32_24
  let c0_i32_25 : BitVec 32 := 0#32
  let v53 : BitVec 1 := Scalar.cmpi .slt v49 c0_i32_25
  let v54 : BitVec 1 := Scalar.xori v52 v53
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v17.toNat, c0_i32_26.toNat, v57.toNat]

def cc0_transform_2 (i : grid0.Coords) : Fin 3 → Nat :=
  let arg0 : BitVec 32 := BitVec.ofNat 32 (i 0).val
  let c20_i32 : BitVec 32 := 20#32
  let v0 : BitVec 32 := Scalar.subi arg0 c20_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c20_i32_5 : BitVec 32 := 20#32
  let v19 : BitVec 32 := Scalar.subi arg0 c20_i32_5
  let c0_i32_6 : BitVec 32 := 0#32
  let v20 : BitVec 32 := Scalar.maxsi v19 c0_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c20_i32_13 : BitVec 32 := 20#32
  let v31 : BitVec 32 := Scalar.subi arg0 c20_i32_13
  let c0_i32_14 : BitVec 32 := 0#32
  let v32 : BitVec 32 := Scalar.maxsi v31 c0_i32_14
  let c4_i32_15 : BitVec 32 := 4#32
  let v33 : BitVec 32 := Scalar.divsi v32 c4_i32_15
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c0_i32_18 : BitVec 32 := 0#32
  let v39 : BitVec 1 := Scalar.cmpi .sgt c4_i32_15 c0_i32_18
  let v40 : BitVec 32 := Scalar.extui v39
  let c0_i32_19 : BitVec 32 := 0#32
  let v41 : BitVec 1 := Scalar.cmpi .slt c4_i32_15 c0_i32_19
  let v42 : BitVec 32 := Scalar.extui v41
  let v43 : BitVec 32 := Scalar.subi v40 v42
  let v44 : BitVec 1 := Scalar.cmpi .ne v38 v43
  let v45 : BitVec 32 := Scalar.remsi v32 c4_i32_15
  let c0_i32_20 : BitVec 32 := 0#32
  let v46 : BitVec 1 := Scalar.cmpi .ne v45 c0_i32_20
  let v47 : BitVec 1 := Scalar.andi v44 v46
  let c1_i32_21 : BitVec 32 := 1#32
  let v48 : BitVec 32 := Scalar.subi v33 c1_i32_21
  let v49 : BitVec 32 := Scalar.select v47 v48 v33
  let c20_i32_22 : BitVec 32 := 20#32
  let v50 : BitVec 32 := Scalar.subi arg0 c20_i32_22
  let c0_i32_23 : BitVec 32 := 0#32
  let v51 : BitVec 32 := Scalar.maxsi v50 c0_i32_23
  let c4_i32_24 : BitVec 32 := 4#32
  let c0_i32_25 : BitVec 32 := 0#32
  let v52 : BitVec 1 := Scalar.cmpi .eq c4_i32_24 c0_i32_25
  let c1_i32_26 : BitVec 32 := 1#32
  let v53 : BitVec 32 := Scalar.select v52 c1_i32_26 c4_i32_24
  let v54 : BitVec 32 := Scalar.remsi v51 v53
  let c0_i32_27 : BitVec 32 := 0#32
  let v55 : BitVec 1 := Scalar.cmpi .ne v54 c0_i32_27
  let c0_i32_28 : BitVec 32 := 0#32
  let v56 : BitVec 1 := Scalar.cmpi .slt v54 c0_i32_28
  let c0_i32_29 : BitVec 32 := 0#32
  let v57 : BitVec 1 := Scalar.cmpi .slt v53 c0_i32_29
  let v58 : BitVec 1 := Scalar.xori v56 v57
  let v59 : BitVec 1 := Scalar.andi v58 v55
  let v60 : BitVec 32 := Scalar.addi v54 v53
  let v61 : BitVec 32 := Scalar.select v59 v60 v54
  let c0_i32_30 : BitVec 32 := 0#32
  let c0_i32_31 : BitVec 32 := 0#32
  ![v18.toNat, c0_i32_30.toNat, v61.toNat]

def cc0_transform_3 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OdInDwRefIdeal.lean ====
abbrev S2304x2048 : Shape := ⟨2, ![2304, 2048]⟩
abbrev S5x2304x2048 : Shape := ⟨3, ![5, 2304, 2048]⟩
abbrev S2304x5x2048 : Shape := ⟨3, ![2304, 5, 2048]⟩
abbrev S2304x10240 : Shape := ⟨2, ![2304, 10240]⟩
abbrev S_ : Shape := ⟨0, ![]⟩
abbrev S2048x10240 : Shape := ⟨2, ![2048, 10240]⟩
abbrev S10240x2048 : Shape := ⟨2, ![10240, 2048]⟩
abbrev S2048x4x2560 : Shape := ⟨3, ![2048, 4, 2560]⟩
abbrev S4x2048x2560 : Shape := ⟨3, ![4, 2048, 2560]⟩

abbrev nBuf : Space → Nat
  | .hbm => 14
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S5x2304x2048, .bf16⟩
  | .hbm, ⟨2, _⟩ => ⟨S2304x5x2048, .bf16⟩
  | .hbm, ⟨3, _⟩ => ⟨S2304x10240, .bf16⟩
  | .hbm, ⟨4, _⟩ => ⟨S_, .f32⟩
  | .hbm, ⟨5, _⟩ => ⟨S2048x10240, .f32⟩
  | .hbm, ⟨6, _⟩ => ⟨S2304x2048, .f32⟩
  | .hbm, ⟨7, _⟩ => ⟨S2304x10240, .f32⟩
  | .hbm, ⟨8, _⟩ => ⟨S2304x10240, .f32⟩
  | .hbm, ⟨9, _⟩ => ⟨S10240x2048, .f32⟩
  | .hbm, ⟨10, _⟩ => ⟨S2048x10240, .f32⟩
  | .hbm, ⟨11, _⟩ => ⟨S2048x4x2560, .f32⟩
  | .hbm, ⟨12, _⟩ => ⟨S4x2048x2560, .f32⟩
  | .hbm, ⟨13, _⟩ => ⟨S4x2048x2560, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== EvInDx.lean ====
abbrev S2x2304x1024 : Shape := ⟨3, ![2, 2304, 1024]⟩
abbrev S4x2304x1024 : Shape := ⟨3, ![4, 2304, 1024]⟩
abbrev S4x2048x1536 : Shape := ⟨3, ![4, 2048, 1536]⟩
abbrev S2304x2048 : Shape := ⟨2, ![2304, 2048]⟩
abbrev S1x1152x512 : Shape := ⟨3, ![1, 1152, 512]⟩
abbrev S1x2048x512 : Shape := ⟨3, ![1, 2048, 512]⟩
abbrev S1152x2048 : Shape := ⟨2, ![1152, 2048]⟩
abbrev S1152x512 : Shape := ⟨2, ![1152, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S2x2304x1024, .bf16⟩
  | .hbm, ⟨1, _⟩ => ⟨S4x2304x1024, .bf16⟩
  | .hbm, ⟨2, _⟩ => ⟨S4x2048x1536, .bf16⟩
  | .hbm, ⟨3, _⟩ => ⟨S2304x2048, .f32⟩
  | .local _ .vmem, ⟨0, _⟩ => ⟨S1x1152x512, .bf16⟩
  | .local _ .vmem, ⟨1, _⟩ => ⟨S1x1152x512, .bf16⟩
  | .local _ .vmem, ⟨2, _⟩ => ⟨S1x1152x512, .bf16⟩
  | .local _ .vmem, ⟨3, _⟩ => ⟨S1x1152x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1152x2048, .f32⟩
  | .local _ .vmem, ⟨7, _⟩ => ⟨S1152x2048, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let v18 : BitVec 32 := Scalar.minsi arg1 c3_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c3_i32_11 : BitVec 32 := 3#32
  let v29 : BitVec 32 := Scalar.minsi arg1 c3_i32_11
  let c2_i32_12 : BitVec 32 := 2#32
  let v30 : BitVec 32 := Scalar.divsi v29 c2_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v29 c2_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c3_i32_19 : BitVec 32 := 3#32
  let v47 : BitVec 32 := Scalar.minsi arg1 c3_i32_19
  let c2_i32_20 : BitVec 32 := 2#32
  let c0_i32_21 : BitVec 32 := 0#32
  let v48 : BitVec 1 := Scalar.cmpi .eq c2_i32_20 c0_i32_21
  let c1_i32_22 : BitVec 32 := 1#32
  let v49 : BitVec 32 := Scalar.select v48 c1_i32_22 c2_i32_20
  let v50 : BitVec 32 := Scalar.remsi v47 v49
  let c0_i32_23 : BitVec 32 := 0#32
  let v51 : BitVec 1 := Scalar.cmpi .ne v50 c0_i32_23
  let c0_i32_24 : BitVec 32 := 0#32
  let v52 : BitVec 1 := Scalar.cmpi .slt v50 c0_i32_24
  let c0_i32_25 : BitVec 32 := 0#32
  let v53 : BitVec 1 := Scalar.cmpi .slt v49 c0_i32_25
  let v54 : BitVec 1 := Scalar.xori v52 v53
  let v55 : BitVec 1 := Scalar.andi v54 v51
  let v56 : BitVec 32 := Scalar.addi v50 v49
  let v57 : BitVec 32 := Scalar.select v55 v56 v50
  let c0_i32_26 : BitVec 32 := 0#32
  ![v17.toNat, arg0.toNat, v57.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.subi arg1 c4_i32_5
  let c0_i32_6 : BitVec 32 := 0#32
  let v20 : BitVec 32 := Scalar.maxsi v19 c0_i32_6
  let c2_i32_7 : BitVec 32 := 2#32
  let c0_i32_8 : BitVec 32 := 0#32
  let v21 : BitVec 1 := Scalar.cmpi .eq c2_i32_7 c0_i32_8
  let c1_i32_9 : BitVec 32 := 1#32
  let v22 : BitVec 32 := Scalar.select v21 c1_i32_9 c2_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c4_i32_13 : BitVec 32 := 4#32
  let v31 : BitVec 32 := Scalar.subi arg1 c4_i32_13
  let c0_i32_14 : BitVec 32 := 0#32
  let v32 : BitVec 32 := Scalar.maxsi v31 c0_i32_14
  let c2_i32_15 : BitVec 32 := 2#32
  let v33 : BitVec 32 := Scalar.divsi v32 c2_i32_15
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let c1_i32_21 : BitVec 32 := 1#32
  let v48 : BitVec 32 := Scalar.subi v33 c1_i32_21
  let v49 : BitVec 32 := Scalar.select v47 v48 v33
  let c4_i32_22 : BitVec 32 := 4#32
  let v50 : BitVec 32 := Scalar.subi arg1 c4_i32_22
  let c0_i32_23 : BitVec 32 := 0#32
  let v51 : BitVec 32 := Scalar.maxsi v50 c0_i32_23
  let c2_i32_24 : BitVec 32 := 2#32
  let c0_i32_25 : BitVec 32 := 0#32
  let v52 : BitVec 1 := Scalar.cmpi .eq c2_i32_24 c0_i32_25
  let c1_i32_26 : BitVec 32 := 1#32
  let v53 : BitVec 32 := Scalar.select v52 c1_i32_26 c2_i32_24
  let v54 : BitVec 32 := Scalar.remsi v51 v53
  let c0_i32_27 : BitVec 32 := 0#32
  let v55 : BitVec 1 := Scalar.cmpi .ne v54 c0_i32_27
  let c0_i32_28 : BitVec 32 := 0#32
  let v56 : BitVec 1 := Scalar.cmpi .slt v54 c0_i32_28
  let c0_i32_29 : BitVec 32 := 0#32
  let v57 : BitVec 1 := Scalar.cmpi .slt v53 c0_i32_29
  let v58 : BitVec 1 := Scalar.xori v56 v57
  let v59 : BitVec 1 := Scalar.andi v58 v55
  let v60 : BitVec 32 := Scalar.addi v54 v53
  let v61 : BitVec 32 := Scalar.select v59 v60 v54
  let c0_i32_30 : BitVec 32 := 0#32
  ![v18.toNat, arg0.toNat, v61.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1152x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1152x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1152x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== EvInDxRefIdeal.lean ====
abbrev S2x2304x1024 : Shape := ⟨3, ![2, 2304, 1024]⟩
abbrev S4x2304x1024 : Shape := ⟨3, ![4, 2304, 1024]⟩
abbrev S4x2048x1536 : Shape := ⟨3, ![4, 2048, 1536]⟩
abbrev S6x2304x1024 : Shape := ⟨3, ![6, 2304, 1024]⟩
abbrev S2304x6x1024 : Shape := ⟨3, ![2304, 6, 1024]⟩
abbrev S2304x6144 : Shape := ⟨2, ![2304, 6144]⟩
abbrev S2048x4x1536 : Shape := ⟨3, ![2048, 4, 1536]⟩
abbrev S2048x6144 : Shape := ⟨2, ![2048, 6144]⟩
abbrev S_ : Shape := ⟨0, ![]⟩
abbrev S2304x2048 : Shape := ⟨2, ![2304, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S4x2304x1024, .bf16⟩
  | .hbm, ⟨2, _⟩ => ⟨S4x2048x1536, .bf16⟩
  | .hbm, ⟨3, _⟩ => ⟨S6x2304x1024, .bf16⟩
  | .hbm, ⟨4, _⟩ => ⟨S2304x6x1024, .bf16⟩
  | .hbm, ⟨5, _⟩ => ⟨S2304x6144, .bf16⟩
  | .hbm, ⟨6, _⟩ => ⟨S2048x4x1536, .bf16⟩
  | .hbm, ⟨7, _⟩ => ⟨S2048x6144, .bf16⟩
  | .hbm, ⟨8, _⟩ => ⟨S_, .f32⟩
  | .hbm, ⟨9, _⟩ => ⟨S2304x2048, .f32⟩
  | .hbm, ⟨10, _⟩ => ⟨S2048x6144, .f32⟩
  | .hbm, ⟨11, _⟩ => ⟨S2304x6144, .f32⟩
  | .hbm, ⟨12, _⟩ => ⟨S2304x6144, .f32⟩
  | .hbm, ⟨13, _⟩ => ⟨S2304x2048, .f32⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== EvInDw.lean ====
abbrev S2304x2048 : Shape := ⟨2, ![2304, 2048]⟩
abbrev S2x2304x1024 : Shape := ⟨3, ![2, 2304, 1024]⟩
abbrev S4x2304x1024 : Shape := ⟨3, ![4, 2304, 1024]⟩
abbrev S4x2048x1536 : Shape := ⟨3, ![4, 2048, 1536]⟩
abbrev S1x2304x512 : Shape := ⟨3, ![1, 2304, 512]⟩
abbrev S1x2048x512 : Shape := ⟨3, ![1, 2048, 512]⟩
abbrev S2304x512 : Shape := ⟨2, ![2304, 512]⟩
abbrev S2304x256 : Shape := ⟨2, ![2304, 256]⟩
abbrev S256x512 : Shape := ⟨2, ![256, 512]⟩
abbrev S1x256x512 : Shape := ⟨3, ![1, 256, 512]⟩

abbrev nBuf : Space → Nat
  | .hbm => 4
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2x2304x1024, .bf16⟩
  | .hbm, ⟨2, _⟩ => ⟨S4x2304x1024, .bf16⟩
  | .hbm, ⟨3, _⟩ => ⟨S4x2048x1536, .bf16⟩
  | .local _ .vmem, ⟨0, _⟩ => ⟨S2304x2048, .bf16⟩
  | .local _ .vmem, ⟨1, _⟩ => ⟨S1x2304x512, .bf16⟩
  | .local _ .vmem, ⟨2, _⟩ => ⟨S1x2304x512, .bf16⟩
  | .local _ .vmem, ⟨3, _⟩ => ⟨S1x2304x512, .bf16⟩
  | .local _ .vmem, ⟨4, _⟩ => ⟨S1x2304x512, .bf16⟩
  | .local _ .vmem, ⟨5, _⟩ => ⟨S1x2048x512, .bf16⟩
  | .local _ .vmem, ⟨6, _⟩ => ⟨S1x2048x512, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.minsi arg0 c3_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let v18 : BitVec 32 := Scalar.minsi arg0 c3_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c3_i32_11 : BitVec 32 := 3#32
  let v29 : BitVec 32 := Scalar.minsi arg0 c3_i32_11
  let c2_i32_12 : BitVec 32 := 2#32
  let v30 : BitVec 32 := Scalar.divsi v29 c2_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v29 c2_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c3_i32_19 : BitVec 32 := 3#32
  let v47 : BitVec 32 := Scalar.minsi arg0 c3_i32_19
  let c2_i32_20 : BitVec 32 := 2#32
  let c0_i32_21 : BitVec 32 := 0#32
  let v48 : BitVec 1 := Scalar.cmpi .eq c2_i32_20 c0_i32_21
  let c1_i32_22 : BitVec 32 := 1#32
  let v49 : BitVec 32 := Scalar.select v48 c1_i32_22 c2_i32_20
  let v50 : BitVec 32 := Scalar.remsi v47 v49
  let c0_i32_23 : BitVec 32 := 0#32
  let v51 : BitVec 1 := Scalar.cmpi .ne v50 c0_i32_23
  let c0_i32_24 : BitVec 32 := 0#32
  let v52 : BitVec 1 := Scalar.cmpi .slt v50 c0_i32_24
  let c0_i32_25 : BitVec 32 := 0#32
  let v53 : BitVec 1 := Scalar.cmpi .slt v49 c0_i32_25
  let v54 : BitVec 1 := Scalar.xori v52 v53
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v17.toNat, c0_i32_26.toNat, v57.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.subi arg0 c4_i32_5
  let c0_i32_6 : BitVec 32 := 0#32
  let v20 : BitVec 32 := Scalar.maxsi v19 c0_i32_6
  let c2_i32_7 : BitVec 32 := 2#32
  let c0_i32_8 : BitVec 32 := 0#32
  let v21 : BitVec 1 := Scalar.cmpi .eq c2_i32_7 c0_i32_8
  let c1_i32_9 : BitVec 32 := 1#32
  let v22 : BitVec 32 := Scalar.select v21 c1_i32_9 c2_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c4_i32_13 : BitVec 32 := 4#32
  let v31 : BitVec 32 := Scalar.subi arg0 c4_i32_13
  let c0_i32_14 : BitVec 32 := 0#32
  let v32 : BitVec 32 := Scalar.maxsi v31 c0_i32_14
  let c2_i32_15 : BitVec 32 := 2#32
  let v33 : BitVec 32 := Scalar.divsi v32 c2_i32_15
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let c1_i32_21 : BitVec 32 := 1#32
  let v48 : BitVec 32 := Scalar.subi v33 c1_i32_21
  let v49 : BitVec 32 := Scalar.select v47 v48 v33
  let c4_i32_22 : BitVec 32 := 4#32
  let v50 : BitVec 32 := Scalar.subi arg0 c4_i32_22
  let c0_i32_23 : BitVec 32 := 0#32
  let v51 : BitVec 32 := Scalar.maxsi v50 c0_i32_23
  let c2_i32_24 : BitVec 32 := 2#32
  let c0_i32_25 : BitVec 32 := 0#32
  let v52 : BitVec 1 := Scalar.cmpi .eq c2_i32_24 c0_i32_25
  let c1_i32_26 : BitVec 32 := 1#32
  let v53 : BitVec 32 := Scalar.select v52 c1_i32_26 c2_i32_24
  let v54 : BitVec 32 := Scalar.remsi v51 v53
  let c0_i32_27 : BitVec 32 := 0#32
  let v55 : BitVec 1 := Scalar.cmpi .ne v54 c0_i32_27
  let c0_i32_28 : BitVec 32 := 0#32
  let v56 : BitVec 1 := Scalar.cmpi .slt v54 c0_i32_28
  let c0_i32_29 : BitVec 32 := 0#32
  let v57 : BitVec 1 := Scalar.cmpi .slt v53 c0_i32_29
  let v58 : BitVec 1 := Scalar.xori v56 v57
  let v59 : BitVec 1 := Scalar.andi v58 v55
  let v60 : BitVec 32 := Scalar.addi v54 v53
  let v61 : BitVec 32 := Scalar.select v59 v60 v54
  let c0_i32_30 : BitVec 32 := 0#32
  let c0_i32_31 : BitVec 32 := 0#32
  ![v18.toNat, c0_i32_30.toNat, v61.toNat]

def cc0_transform_3 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EvInDwRefIdeal.lean ====
abbrev S2304x2048 : Shape := ⟨2, ![2304, 2048]⟩
abbrev S2x2304x1024 : Shape := ⟨3, ![2, 2304, 1024]⟩
abbrev S4x2304x1024 : Shape := ⟨3, ![4, 2304, 1024]⟩
abbrev S6x2304x1024 : Shape := ⟨3, ![6, 2304, 1024]⟩
abbrev S2304x6x1024 : Shape := ⟨3, ![2304, 6, 1024]⟩
abbrev S2304x6144 : Shape := ⟨2, ![2304, 6144]⟩
abbrev S_ : Shape := ⟨0, ![]⟩
abbrev S2048x6144 : Shape := ⟨2, ![2048, 6144]⟩
abbrev S6144x2048 : Shape := ⟨2, ![6144, 2048]⟩
abbrev S2048x4x1536 : Shape := ⟨3, ![2048, 4, 1536]⟩
abbrev S4x2048x1536 : Shape := ⟨3, ![4, 2048, 1536]⟩

abbrev nBuf : Space → Nat
  | .hbm => 16
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2x2304x1024, .bf16⟩
  | .hbm, ⟨2, _⟩ => ⟨S4x2304x1024, .bf16⟩
  | .hbm, ⟨3, _⟩ => ⟨S6x2304x1024, .bf16⟩
  | .hbm, ⟨4, _⟩ => ⟨S2304x6x1024, .bf16⟩
  | .hbm, ⟨5, _⟩ => ⟨S2304x6144, .bf16⟩
  | .hbm, ⟨6, _⟩ => ⟨S_, .f32⟩
  | .hbm, ⟨7, _⟩ => ⟨S2048x6144, .f32⟩
  | .hbm, ⟨8, _⟩ => ⟨S2304x2048, .f32⟩
  | .hbm, ⟨9, _⟩ => ⟨S2304x6144, .f32⟩
  | .hbm, ⟨10, _⟩ => ⟨S2304x6144, .f32⟩
  | .hbm, ⟨11, _⟩ => ⟨S6144x2048, .f32⟩
  | .hbm, ⟨12, _⟩ => ⟨S2048x6144, .f32⟩
  | .hbm, ⟨13, _⟩ => ⟨S2048x4x1536, .f32⟩
  | .hbm, ⟨14, _⟩ => ⟨S4x2048x1536, .f32⟩
  | .hbm, ⟨15, _⟩ => ⟨S4x2048x1536, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== EvOutDx.lean ====
abbrev S1x2304x2048 : Shape := ⟨3, ![1, 2304, 2048]⟩
abbrev S1x2048x2048 : Shape := ⟨3, ![1, 2048, 2048]⟩
abbrev S2304x2048 : Shape := ⟨2, ![2304, 2048]⟩
abbrev S1x1152x512 : Shape := ⟨3, ![1, 1152, 512]⟩
abbrev S1x2048x512 : Shape := ⟨3, ![1, 2048, 512]⟩
abbrev S1152x2048 : Shape := ⟨2, ![1152, 2048]⟩
abbrev S1152x512 : Shape := ⟨2, ![1152, 512]⟩
abbrev S2048x512 : Shape := ⟨2, ![2048, 512]⟩

abbrev nBuf : Space → Nat
  | .hbm => 3
  | .vmem => 8
  | .smem => 0
  | _ => 0

abbrev bufTy : (tb : Table) → Fin (tcTables nBuf tb) → BufTy
  | .hbm, ⟨0, _⟩ => ⟨S1x2304x2048, .bf16⟩
  | .hbm, ⟨1, _⟩ => ⟨S1x2048x2048, .bf16⟩
  | .hbm, ⟨2, _⟩ => ⟨S2304x2048, .f32⟩
  | .local _ .vmem, ⟨0, _⟩ => ⟨S1x1152x512, .bf16⟩
  | .local _ .vmem, ⟨1, _⟩ => ⟨S1x1152x512, .bf16⟩
  | .local _ .vmem, ⟨2, _⟩ => ⟨S1x1152x512, .bf16⟩
  | .local _ .vmem, ⟨3, _⟩ => ⟨S1x1152x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1152x2048, .f32⟩
  | .local _ .vmem, ⟨7, _⟩ => ⟨S1152x2048, .f32⟩
  | _, _ => ⟨S1x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let v18 : BitVec 32 := Scalar.minsi arg1 c3_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c3_i32_11 : BitVec 32 := 3#32
  let v29 : BitVec 32 := Scalar.minsi arg1 c3_i32_11
  let c4_i32_12 : BitVec 32 := 4#32
  let v30 : BitVec 32 := Scalar.divsi v29 c4_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v29 c4_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c3_i32_19 : BitVec 32 := 3#32
  let v47 : BitVec 32 := Scalar.minsi arg1 c3_i32_19
  let c4_i32_20 : BitVec 32 := 4#32
  let c0_i32_21 : BitVec 32 := 0#32
  let v48 : BitVec 1 := Scalar.cmpi .eq c4_i32_20 c0_i32_21
  let c1_i32_22 : BitVec 32 := 1#32
  let v49 : BitVec 32 := Scalar.select v48 c1_i32_22 c4_i32_20
  let v50 : BitVec 32 := Scalar.remsi v47 v49
  let c0_i32_23 : BitVec 32 := 0#32
  let v51 : BitVec 1 := Scalar.cmpi .ne v50 c0_i32_23
  let c0_i32_24 : BitVec 32 := 0#32
  let v52 : BitVec 1 := Scalar.cmpi .slt v50 c0_i32_24
  let c0_i32_25 : BitVec 32 := 0#32
  let v53 : BitVec 1 := Scalar.cmpi .slt v49 c0_i32_25
  let v54 : BitVec 1 := Scalar.xori v52 v53
  let v55 : BitVec 1 := Scalar.andi v54 v51
  let v56 : BitVec 32 := Scalar.addi v50 v49
  let v57 : BitVec 32 := Scalar.select v55 v56 v50
  let c0_i32_26 : BitVec 32 := 0#32
  ![v17.toNat, arg0.toNat, v57.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c4_i32_0 : BitVec 32 := 4#32
  let v2 : BitVec 32 := Scalar.divsi v1 c4_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_0 c0_i32_3
  let v9 : BitVec 32 := Scalar.extui v8
  let c0_i32_4 : BitVec 32 := 0#32
  let v10 : BitVec 1 := Scalar.cmpi .slt c4_i32_0 c0_i32_4
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c4_i32_6 : BitVec 32 := 4#32
  let v19 : BitVec 32 := Scalar.subi arg1 c4_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c4_i32_14 : BitVec 32 := 4#32
  let v31 : BitVec 32 := Scalar.subi arg1 c4_i32_14
  let c0_i32_15 : BitVec 32 := 0#32
  let v32 : BitVec 32 := Scalar.maxsi v31 c0_i32_15
  let c4_i32_16 : BitVec 32 := 4#32
  let v33 : BitVec 32 := Scalar.divsi v32 c4_i32_16
  let c0_i32_17 : BitVec 32 := 0#32
  let v34 : BitVec 1 := Scalar.cmpi .sgt v32 c0_i32_17
  let v35 : BitVec 32 := Scalar.extui v34
  let c0_i32_18 : BitVec 32 := 0#32
  let v36 : BitVec 1 := Scalar.cmpi .slt v32 c0_i32_18
  let v37 : BitVec 32 := Scalar.extui v36
  let v38 : BitVec 32 := Scalar.subi v35 v37
  let c0_i32_19 : BitVec 32 := 0#32
  let v39 : BitVec 1 := Scalar.cmpi .sgt c4_i32_16 c0_i32_19
  let v40 : BitVec 32 := Scalar.extui v39
  let c0_i32_20 : BitVec 32 := 0#32
  let v41 : BitVec 1 := Scalar.cmpi .slt c4_i32_16 c0_i32_20
  let v42 : BitVec 32 := Scalar.extui v41
  let v43 : BitVec 32 := Scalar.subi v40 v42
  let v44 : BitVec 1 := Scalar.cmpi .ne v38 v43
  let v45 : BitVec 32 := Scalar.remsi v32 c4_i32_16
  let c0_i32_21 : BitVec 32 := 0#32
  let v46 : BitVec 1 := Scalar.cmpi .ne v45 c0_i32_21
  let v47 : BitVec 1 := Scalar.andi v44 v46
  let c1_i32_22 : BitVec 32 := 1#32
  let v48 : BitVec 32 := Scalar.subi v33 c1_i32_22
  let v49 : BitVec 32 := Scalar.select v47 v48 v33
  let c4_i32_23 : BitVec 32 := 4#32
  let v50 : BitVec 32 := Scalar.subi arg1 c4_i32_23
  let c0_i32_24 : BitVec 32 := 0#32
  let v51 : BitVec 32 := Scalar.maxsi v50 c0_i32_24
  let c4_i32_25 : BitVec 32 := 4#32
  let c0_i32_26 : BitVec 32 := 0#32
  let v52 : BitVec 1 := Scalar.cmpi .eq c4_i32_25 c0_i32_26
  let c1_i32_27 : BitVec 32 := 1#32
  let v53 : BitVec 32 := Scalar.select v52 c1_i32_27 c4_i32_25
  let v54 : BitVec 32 := Scalar.remsi v51 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  ![v18.toNat, arg0.toNat, v61.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1152x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1152x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1152x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== EvOutDxRefIdeal.lean ====
abbrev S1x2304x2048 : Shape := ⟨3, ![1, 2304, 2048]⟩
abbrev S1x2048x2048 : Shape := ⟨3, ![1, 2048, 2048]⟩
abbrev S2304x2048 : Shape := ⟨2, ![2304, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1x2304x2048, .bf16⟩
  | .hbm, ⟨1, _⟩ => ⟨S1x2048x2048, .bf16⟩
  | .hbm, ⟨2, _⟩ => ⟨S2304x2048, .bf16⟩
  | .hbm, ⟨3, _⟩ => ⟨S2048x2048, .bf16⟩
  | .hbm, ⟨4, _⟩ => ⟨S_, .f32⟩
  | .hbm, ⟨5, _⟩ => ⟨S2304x2048, .f32⟩
  | .hbm, ⟨6, _⟩ => ⟨S2048x2048, .f32⟩
  | .hbm, ⟨7, _⟩ => ⟨S2304x2048, .f32⟩
  | .hbm, ⟨8, _⟩ => ⟨S2304x2048, .f32⟩
  | .hbm, ⟨9, _⟩ => ⟨S2304x2048, .f32⟩
  | _, _ => ⟨S1x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvOutDw.lean ====
abbrev S2304x2048 : Shape := ⟨2, ![2304, 2048]⟩
abbrev S1x2304x2048 : Shape := ⟨3, ![1, 2304, 2048]⟩
abbrev S1x2048x2048 : Shape := ⟨3, ![1, 2048, 2048]⟩
abbrev S1x2304x512 : Shape := ⟨3, ![1, 2304, 512]⟩
abbrev S1x2048x512 : Shape := ⟨3, ![1, 2048, 512]⟩
abbrev S2304x512 : Shape := ⟨2, ![2304, 512]⟩
abbrev S2304x256 : Shape := ⟨2, ![2304, 256]⟩
abbrev S256x512 : Shape := ⟨2, ![256, 512]⟩
abbrev S1x256x512 : Shape := ⟨3, ![1, 256, 512]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S1x2304x2048, .bf16⟩
  | .hbm, ⟨2, _⟩ => ⟨S1x2048x2048, .bf16⟩
  | .local _ .vmem, ⟨0, _⟩ => ⟨S2304x2048, .bf16⟩
  | .local _ .vmem, ⟨1, _⟩ => ⟨S1x2304x512, .bf16⟩
  | .local _ .vmem, ⟨2, _⟩ => ⟨S1x2304x512, .bf16⟩
  | .local _ .vmem, ⟨3, _⟩ => ⟨S1x2304x512, .bf16⟩
  | .local _ .vmem, ⟨4, _⟩ => ⟨S1x2304x512, .bf16⟩
  | .local _ .vmem, ⟨5, _⟩ => ⟨S1x2048x512, .bf16⟩
  | .local _ .vmem, ⟨6, _⟩ => ⟨S1x2048x512, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.minsi arg0 c3_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let v18 : BitVec 32 := Scalar.minsi arg0 c3_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c3_i32_11 : BitVec 32 := 3#32
  let v29 : BitVec 32 := Scalar.minsi arg0 c3_i32_11
  let c4_i32_12 : BitVec 32 := 4#32
  let v30 : BitVec 32 := Scalar.divsi v29 c4_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v29 c4_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c3_i32_19 : BitVec 32 := 3#32
  let v47 : BitVec 32 := Scalar.minsi arg0 c3_i32_19
  let c4_i32_20 : BitVec 32 := 4#32
  let c0_i32_21 : BitVec 32 := 0#32
  let v48 : BitVec 1 := Scalar.cmpi .eq c4_i32_20 c0_i32_21
  let c1_i32_22 : BitVec 32 := 1#32
  let v49 : BitVec 32 := Scalar.select v48 c1_i32_22 c4_i32_20
  let v50 : BitVec 32 := Scalar.remsi v47 v49
  let c0_i32_23 : BitVec 32 := 0#32
  let v51 : BitVec 1 := Scalar.cmpi .ne v50 c0_i32_23
  let c0_i32_24 : BitVec 32 := 0#32
  let v52 : BitVec 1 := Scalar.cmpi .slt v50 c0_i32_24
  let c0_i32_25 : BitVec 32 := 0#32
  let v53 : BitVec 1 := Scalar.cmpi .slt v49 c0_i32_25
  let v54 : BitVec 1 := Scalar.xori v52 v53
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v17.toNat, c0_i32_26.toNat, v57.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c4_i32_0 : BitVec 32 := 4#32
  let v2 : BitVec 32 := Scalar.divsi v1 c4_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_0 c0_i32_3
  let v9 : BitVec 32 := Scalar.extui v8
  let c0_i32_4 : BitVec 32 := 0#32
  let v10 : BitVec 1 := Scalar.cmpi .slt c4_i32_0 c0_i32_4
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c4_i32_6 : BitVec 32 := 4#32
  let v19 : BitVec 32 := Scalar.subi arg0 c4_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c4_i32_14 : BitVec 32 := 4#32
  let v31 : BitVec 32 := Scalar.subi arg0 c4_i32_14
  let c0_i32_15 : BitVec 32 := 0#32
  let v32 : BitVec 32 := Scalar.maxsi v31 c0_i32_15
  let c4_i32_16 : BitVec 32 := 4#32
  let v33 : BitVec 32 := Scalar.divsi v32 c4_i32_16
  let c0_i32_17 : BitVec 32 := 0#32
  let v34 : BitVec 1 := Scalar.cmpi .sgt v32 c0_i32_17
  let v35 : BitVec 32 := Scalar.extui v34
  let c0_i32_18 : BitVec 32 := 0#32
  let v36 : BitVec 1 := Scalar.cmpi .slt v32 c0_i32_18
  let v37 : BitVec 32 := Scalar.extui v36
  let v38 : BitVec 32 := Scalar.subi v35 v37
  let c0_i32_19 : BitVec 32 := 0#32
  let v39 : BitVec 1 := Scalar.cmpi .sgt c4_i32_16 c0_i32_19
  let v40 : BitVec 32 := Scalar.extui v39
  let c0_i32_20 : BitVec 32 := 0#32
  let v41 : BitVec 1 := Scalar.cmpi .slt c4_i32_16 c0_i32_20
  let v42 : BitVec 32 := Scalar.extui v41
  let v43 : BitVec 32 := Scalar.subi v40 v42
  let v44 : BitVec 1 := Scalar.cmpi .ne v38 v43
  let v45 : BitVec 32 := Scalar.remsi v32 c4_i32_16
  let c0_i32_21 : BitVec 32 := 0#32
  let v46 : BitVec 1 := Scalar.cmpi .ne v45 c0_i32_21
  let v47 : BitVec 1 := Scalar.andi v44 v46
  let c1_i32_22 : BitVec 32 := 1#32
  let v48 : BitVec 32 := Scalar.subi v33 c1_i32_22
  let v49 : BitVec 32 := Scalar.select v47 v48 v33
  let c4_i32_23 : BitVec 32 := 4#32
  let v50 : BitVec 32 := Scalar.subi arg0 c4_i32_23
  let c0_i32_24 : BitVec 32 := 0#32
  let v51 : BitVec 32 := Scalar.maxsi v50 c0_i32_24
  let c4_i32_25 : BitVec 32 := 4#32
  let c0_i32_26 : BitVec 32 := 0#32
  let v52 : BitVec 1 := Scalar.cmpi .eq c4_i32_25 c0_i32_26
  let c1_i32_27 : BitVec 32 := 1#32
  let v53 : BitVec 32 := Scalar.select v52 c1_i32_27 c4_i32_25
  let v54 : BitVec 32 := Scalar.remsi v51 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  let c0_i32_32 : BitVec 32 := 0#32
  ![v18.toNat, c0_i32_31.toNat, v61.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EvOutDwRefIdeal.lean ====
abbrev S2304x2048 : Shape := ⟨2, ![2304, 2048]⟩
abbrev S1x2304x2048 : Shape := ⟨3, ![1, 2304, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S1x2304x2048, .bf16⟩
  | .hbm, ⟨2, _⟩ => ⟨S2304x2048, .bf16⟩
  | .hbm, ⟨3, _⟩ => ⟨S_, .f32⟩
  | .hbm, ⟨4, _⟩ => ⟨S2048x2048, .f32⟩
  | .hbm, ⟨5, _⟩ => ⟨S2304x2048, .f32⟩
  | .hbm, ⟨6, _⟩ => ⟨S2304x2048, .f32⟩
  | .hbm, ⟨7, _⟩ => ⟨S2304x2048, .f32⟩
  | .hbm, ⟨8, _⟩ => ⟨S2048x2048, .f32⟩
  | .hbm, ⟨9, _⟩ => ⟨S2048x2048, .f32⟩
  | .hbm, ⟨10, _⟩ => ⟨S1x2048x2048, .f32⟩
  | .hbm, ⟨11, _⟩ => ⟨S1x2048x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OdOutDx.lean ====
abbrev S1x2048x2048 : Shape := ⟨3, ![1, 2048, 2048]⟩
abbrev S2048x2048 : Shape := ⟨2, ![2048, 2048]⟩
abbrev S1x1024x512 : Shape := ⟨3, ![1, 1024, 512]⟩
abbrev S1x2048x512 : Shape := ⟨3, ![1, 2048, 512]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 3
  | .vmem => 8
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x2048, .bf16⟩
  | .hbm, ⟨2, _⟩ => ⟨S2048x2048, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1024x2048, .f32⟩
  | .local _ .vmem, ⟨7, _⟩ => ⟨S1024x2048, .f32⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let v18 : BitVec 32 := Scalar.minsi arg1 c3_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c3_i32_11 : BitVec 32 := 3#32
  let v29 : BitVec 32 := Scalar.minsi arg1 c3_i32_11
  let c4_i32_12 : BitVec 32 := 4#32
  let v30 : BitVec 32 := Scalar.divsi v29 c4_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v29 c4_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c3_i32_19 : BitVec 32 := 3#32
  let v47 : BitVec 32 := Scalar.minsi arg1 c3_i32_19
  let c4_i32_20 : BitVec 32 := 4#32
  let c0_i32_21 : BitVec 32 := 0#32
  let v48 : BitVec 1 := Scalar.cmpi .eq c4_i32_20 c0_i32_21
  let c1_i32_22 : BitVec 32 := 1#32
  let v49 : BitVec 32 := Scalar.select v48 c1_i32_22 c4_i32_20
  let v50 : BitVec 32 := Scalar.remsi v47 v49
  let c0_i32_23 : BitVec 32 := 0#32
  let v51 : BitVec 1 := Scalar.cmpi .ne v50 c0_i32_23
  let c0_i32_24 : BitVec 32 := 0#32
  let v52 : BitVec 1 := Scalar.cmpi .slt v50 c0_i32_24
  let c0_i32_25 : BitVec 32 := 0#32
  let v53 : BitVec 1 := Scalar.cmpi .slt v49 c0_i32_25
  let v54 : BitVec 1 := Scalar.xori v52 v53
  let v55 : BitVec 1 := Scalar.andi v54 v51
  let v56 : BitVec 32 := Scalar.addi v50 v49
  let v57 : BitVec 32 := Scalar.select v55 v56 v50
  let c0_i32_26 : BitVec 32 := 0#32
  ![v17.toNat, arg0.toNat, v57.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c4_i32_0 : BitVec 32 := 4#32
  let v2 : BitVec 32 := Scalar.divsi v1 c4_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_0 c0_i32_3
  let v9 : BitVec 32 := Scalar.extui v8
  let c0_i32_4 : BitVec 32 := 0#32
  let v10 : BitVec 1 := Scalar.cmpi .slt c4_i32_0 c0_i32_4
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c4_i32_6 : BitVec 32 := 4#32
  let v19 : BitVec 32 := Scalar.subi arg1 c4_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c4_i32_14 : BitVec 32 := 4#32
  let v31 : BitVec 32 := Scalar.subi arg1 c4_i32_14
  let c0_i32_15 : BitVec 32 := 0#32
  let v32 : BitVec 32 := Scalar.maxsi v31 c0_i32_15
  let c4_i32_16 : BitVec 32 := 4#32
  let v33 : BitVec 32 := Scalar.divsi v32 c4_i32_16
  let c0_i32_17 : BitVec 32 := 0#32
  let v34 : BitVec 1 := Scalar.cmpi .sgt v32 c0_i32_17
  let v35 : BitVec 32 := Scalar.extui v34
  let c0_i32_18 : BitVec 32 := 0#32
  let v36 : BitVec 1 := Scalar.cmpi .slt v32 c0_i32_18
  let v37 : BitVec 32 := Scalar.extui v36
  let v38 : BitVec 32 := Scalar.subi v35 v37
  let c0_i32_19 : BitVec 32 := 0#32
  let v39 : BitVec 1 := Scalar.cmpi .sgt c4_i32_16 c0_i32_19
  let v40 : BitVec 32 := Scalar.extui v39
  let c0_i32_20 : BitVec 32 := 0#32
  let v41 : BitVec 1 := Scalar.cmpi .slt c4_i32_16 c0_i32_20
  let v42 : BitVec 32 := Scalar.extui v41
  let v43 : BitVec 32 := Scalar.subi v40 v42
  let v44 : BitVec 1 := Scalar.cmpi .ne v38 v43
  let v45 : BitVec 32 := Scalar.remsi v32 c4_i32_16
  let c0_i32_21 : BitVec 32 := 0#32
  let v46 : BitVec 1 := Scalar.cmpi .ne v45 c0_i32_21
  let v47 : BitVec 1 := Scalar.andi v44 v46
  let c1_i32_22 : BitVec 32 := 1#32
  let v48 : BitVec 32 := Scalar.subi v33 c1_i32_22
  let v49 : BitVec 32 := Scalar.select v47 v48 v33
  let c4_i32_23 : BitVec 32 := 4#32
  let v50 : BitVec 32 := Scalar.subi arg1 c4_i32_23
  let c0_i32_24 : BitVec 32 := 0#32
  let v51 : BitVec 32 := Scalar.maxsi v50 c0_i32_24
  let c4_i32_25 : BitVec 32 := 4#32
  let c0_i32_26 : BitVec 32 := 0#32
  let v52 : BitVec 1 := Scalar.cmpi .eq c4_i32_25 c0_i32_26
  let c1_i32_27 : BitVec 32 := 1#32
  let v53 : BitVec 32 := Scalar.select v52 c1_i32_27 c4_i32_25
  let v54 : BitVec 32 := Scalar.remsi v51 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  ![v18.toNat, arg0.toNat, v61.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== OdOutDxRefIdeal.lean ====
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x2048, .bf16⟩
  | .hbm, ⟨2, _⟩ => ⟨S2048x2048, .bf16⟩
  | .hbm, ⟨3, _⟩ => ⟨S2048x2048, .bf16⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OdOutDw.lean ====
abbrev S2048x2048 : Shape := ⟨2, ![2048, 2048]⟩
abbrev S1x2048x2048 : Shape := ⟨3, ![1, 2048, 2048]⟩
abbrev S1x2048x512 : Shape := ⟨3, ![1, 2048, 512]⟩
abbrev S2048x512 : Shape := ⟨2, ![2048, 512]⟩
abbrev S2048x256 : Shape := ⟨2, ![2048, 256]⟩
abbrev S256x512 : Shape := ⟨2, ![256, 512]⟩
abbrev S1x256x512 : Shape := ⟨3, ![1, 256, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S1x2048x2048, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.minsi arg0 c3_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let v18 : BitVec 32 := Scalar.minsi arg0 c3_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c3_i32_11 : BitVec 32 := 3#32
  let v29 : BitVec 32 := Scalar.minsi arg0 c3_i32_11
  let c4_i32_12 : BitVec 32 := 4#32
  let v30 : BitVec 32 := Scalar.divsi v29 c4_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v29 c4_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c3_i32_19 : BitVec 32 := 3#32
  let v47 : BitVec 32 := Scalar.minsi arg0 c3_i32_19
  let c4_i32_20 : BitVec 32 := 4#32
  let c0_i32_21 : BitVec 32 := 0#32
  let v48 : BitVec 1 := Scalar.cmpi .eq c4_i32_20 c0_i32_21
  let c1_i32_22 : BitVec 32 := 1#32
  let v49 : BitVec 32 := Scalar.select v48 c1_i32_22 c4_i32_20
  let v50 : BitVec 32 := Scalar.remsi v47 v49
  let c0_i32_23 : BitVec 32 := 0#32
  let v51 : BitVec 1 := Scalar.cmpi .ne v50 c0_i32_23
  let c0_i32_24 : BitVec 32 := 0#32
  let v52 : BitVec 1 := Scalar.cmpi .slt v50 c0_i32_24
  let c0_i32_25 : BitVec 32 := 0#32
  let v53 : BitVec 1 := Scalar.cmpi .slt v49 c0_i32_25
  let v54 : BitVec 1 := Scalar.xori v52 v53
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v17.toNat, c0_i32_26.toNat, v57.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c4_i32_0 : BitVec 32 := 4#32
  let v2 : BitVec 32 := Scalar.divsi v1 c4_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_0 c0_i32_3
  let v9 : BitVec 32 := Scalar.extui v8
  let c0_i32_4 : BitVec 32 := 0#32
  let v10 : BitVec 1 := Scalar.cmpi .slt c4_i32_0 c0_i32_4
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c4_i32_6 : BitVec 32 := 4#32
  let v19 : BitVec 32 := Scalar.subi arg0 c4_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c4_i32_14 : BitVec 32 := 4#32
  let v31 : BitVec 32 := Scalar.subi arg0 c4_i32_14
  let c0_i32_15 : BitVec 32 := 0#32
  let v32 : BitVec 32 := Scalar.maxsi v31 c0_i32_15
  let c4_i32_16 : BitVec 32 := 4#32
  let v33 : BitVec 32 := Scalar.divsi v32 c4_i32_16
  let c0_i32_17 : BitVec 32 := 0#32
  let v34 : BitVec 1 := Scalar.cmpi .sgt v32 c0_i32_17
  let v35 : BitVec 32 := Scalar.extui v34
  let c0_i32_18 : BitVec 32 := 0#32
  let v36 : BitVec 1 := Scalar.cmpi .slt v32 c0_i32_18
  let v37 : BitVec 32 := Scalar.extui v36
  let v38 : BitVec 32 := Scalar.subi v35 v37
  let c0_i32_19 : BitVec 32 := 0#32
  let v39 : BitVec 1 := Scalar.cmpi .sgt c4_i32_16 c0_i32_19
  let v40 : BitVec 32 := Scalar.extui v39
  let c0_i32_20 : BitVec 32 := 0#32
  let v41 : BitVec 1 := Scalar.cmpi .slt c4_i32_16 c0_i32_20
  let v42 : BitVec 32 := Scalar.extui v41
  let v43 : BitVec 32 := Scalar.subi v40 v42
  let v44 : BitVec 1 := Scalar.cmpi .ne v38 v43
  let v45 : BitVec 32 := Scalar.remsi v32 c4_i32_16
  let c0_i32_21 : BitVec 32 := 0#32
  let v46 : BitVec 1 := Scalar.cmpi .ne v45 c0_i32_21
  let v47 : BitVec 1 := Scalar.andi v44 v46
  let c1_i32_22 : BitVec 32 := 1#32
  let v48 : BitVec 32 := Scalar.subi v33 c1_i32_22
  let v49 : BitVec 32 := Scalar.select v47 v48 v33
  let c4_i32_23 : BitVec 32 := 4#32
  let v50 : BitVec 32 := Scalar.subi arg0 c4_i32_23
  let c0_i32_24 : BitVec 32 := 0#32
  let v51 : BitVec 32 := Scalar.maxsi v50 c0_i32_24
  let c4_i32_25 : BitVec 32 := 4#32
  let c0_i32_26 : BitVec 32 := 0#32
  let v52 : BitVec 1 := Scalar.cmpi .eq c4_i32_25 c0_i32_26
  let c1_i32_27 : BitVec 32 := 1#32
  let v53 : BitVec 32 := Scalar.select v52 c1_i32_27 c4_i32_25
  let v54 : BitVec 32 := Scalar.remsi v51 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  let c0_i32_32 : BitVec 32 := 0#32
  ![v18.toNat, c0_i32_31.toNat, v61.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OdOutDwRefIdeal.lean ====
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S1x2048x2048, .f32⟩
  | .hbm, ⟨11, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OdIn.lean ====
abbrev S2304x2048 : Shape := ⟨2, ![2304, 2048]⟩
abbrev S4x2048x2560 : Shape := ⟨3, ![4, 2048, 2560]⟩
abbrev S5x2304x2048 : Shape := ⟨3, ![5, 2304, 2048]⟩
abbrev S1x2048x512 : Shape := ⟨3, ![1, 2048, 512]⟩
abbrev S1x2304x512 : Shape := ⟨3, ![1, 2304, 512]⟩
abbrev S2048x512 : Shape := ⟨2, ![2048, 512]⟩
abbrev S768x2048 : Shape := ⟨2, ![768, 2048]⟩
abbrev S768x512 : Shape := ⟨2, ![768, 512]⟩
abbrev S1x768x512 : Shape := ⟨3, ![1, 768, 512]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S4x2048x2560, .bf16⟩
  | .hbm, ⟨2, _⟩ => ⟨S5x2304x2048, .f32⟩
  | .local _ .vmem, ⟨0, _⟩ => ⟨S2304x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2304x512, .f32⟩
  | .local _ .vmem, ⟨4, _⟩ => ⟨S1x2304x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

@[reducible] def k0_t1_loop : Scf.Loop 32 :=
  let c0_i32 : BitVec 32 := 0#32
  let c3_i32 : BitVec 32 := 3#32
  let v2 : BitVec 32 := Scalar.addi c0_i32 c3_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c768_i32 : BitVec 32 := 768#32
  let v3 : BitVec 32 := Scalar.muli arg4 c768_i32
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c768_i32 : BitVec 32 := 768#32
  let v3 : BitVec 32 := Scalar.muli arg4 c768_i32
  let v4 : BitVec 32 := v3
  let v5 : Index := Scalar.indexCast v4
  let c0_3 : Index := 0#32
  ![v5.toNat, 0]
def k0_off2 (k0_t1 : Fin k0_t1_loop.trips) : Fin 3 → Nat :=
  let c0_4 : Index := 0#32
  let c0_i32 : BitVec 32 := 0#32
  let c1_i32 : BitVec 32 := 1#32
  let arg4 : BitVec 32 := Scf.iv c0_i32 c1_i32 k0_t1
  let c768_i32 : BitVec 32 := 768#32
  let v3 : BitVec 32 := Scalar.muli arg4 c768_i32
  let v4 : BitVec 32 := v3
  let v8 : Index := Scalar.indexCast v4
  let c0_5 : Index := 0#32
  ![0, v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OdInRefIdeal.lean ====
abbrev S2304x2048 : Shape := ⟨2, ![2304, 2048]⟩
abbrev S4x2048x2560 : Shape := ⟨3, ![4, 2048, 2560]⟩
abbrev S2048x4x2560 : Shape := ⟨3, ![2048, 4, 2560]⟩
abbrev S2048x10240 : Shape := ⟨2, ![2048, 10240]⟩
abbrev S2304x10240 : Shape := ⟨2, ![2304, 10240]⟩
abbrev S2304x5x2048 : Shape := ⟨3, ![2304, 5, 2048]⟩
abbrev S5x2304x2048 : Shape := ⟨3, ![5, 2304, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x2048x2560, .bf16⟩
  | .hbm, ⟨2, _⟩ => ⟨S2304x2048, .f32⟩
  | .hbm, ⟨3, _⟩ => ⟨S2048x4x2560, .bf16⟩
  | .hbm, ⟨4, _⟩ => ⟨S2048x10240, .bf16⟩
  | .hbm, ⟨5, _⟩ => ⟨S2048x10240, .f32⟩
  | .hbm, ⟨6, _⟩ => ⟨S2304x10240, .f32⟩
  | .hbm, ⟨7, _⟩ => ⟨S2304x5x2048, .f32⟩
  | .hbm, ⟨8, _⟩ => ⟨S5x2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== EvIn.lean ====
abbrev S2304x2048 : Shape := ⟨2, ![2304, 2048]⟩
abbrev S4x2048x1536 : Shape := ⟨3, ![4, 2048, 1536]⟩
abbrev S6x2304x1024 : Shape := ⟨3, ![6, 2304, 1024]⟩
abbrev S1x2048x512 : Shape := ⟨3, ![1, 2048, 512]⟩
abbrev S1x2304x512 : Shape := ⟨3, ![1, 2304, 512]⟩
abbrev S2048x512 : Shape := ⟨2, ![2048, 512]⟩
abbrev S768x2048 : Shape := ⟨2, ![768, 2048]⟩
abbrev S768x512 : Shape := ⟨2, ![768, 512]⟩
abbrev S1x768x512 : Shape := ⟨3, ![1, 768, 512]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S4x2048x1536, .bf16⟩
  | .hbm, ⟨2, _⟩ => ⟨S6x2304x1024, .f32⟩
  | .local _ .vmem, ⟨0, _⟩ => ⟨S2304x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2304x512, .f32⟩
  | .local _ .vmem, ⟨4, _⟩ => ⟨S1x2304x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c3_i32 : BitVec 32 := 3#32
  let v2 : BitVec 32 := Scalar.addi c0_i32 c3_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c768_i32 : BitVec 32 := 768#32
  let v3 : BitVec 32 := Scalar.muli arg4 c768_i32
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c768_i32 : BitVec 32 := 768#32
  let v3 : BitVec 32 := Scalar.muli arg4 c768_i32
  let v4 : BitVec 32 := v3
  let v5 : Index := Scalar.indexCast v4
  let c0_3 : Index := 0#32
  ![v5.toNat, 0]
def k0_off2 (k0_t1 : Fin k0_t1_loop.trips) : Fin 3 → Nat :=
  let c0_4 : Index := 0#32
  let c0_i32 : BitVec 32 := 0#32
  let c1_i32 : BitVec 32 := 1#32
  let arg4 : BitVec 32 := Scf.iv c0_i32 c1_i32 k0_t1
  let c768_i32 : BitVec 32 := 768#32
  let v3 : BitVec 32 := Scalar.muli arg4 c768_i32
  let v4 : BitVec 32 := v3
  let v8 : Index := Scalar.indexCast v4
  let c0_5 : Index := 0#32
  ![0, v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== EvInRefIdeal.lean ====
abbrev S2304x2048 : Shape := ⟨2, ![2304, 2048]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S2304x6144 : Shape := ⟨2, ![2304, 6144]⟩
abbrev S2304x6x1024 : Shape := ⟨3, ![2304, 6, 1024]⟩
abbrev S6x2304x1024 : Shape := ⟨3, ![6, 2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x2048x1536, .bf16⟩
  | .hbm, ⟨2, _⟩ => ⟨S2304x2048, .f32⟩
  | .hbm, ⟨3, _⟩ => ⟨S2048x4x1536, .bf16⟩
  | .hbm, ⟨4, _⟩ => ⟨S2048x6144, .bf16⟩
  | .hbm, ⟨5, _⟩ => ⟨S2048x6144, .f32⟩
  | .hbm, ⟨6, _⟩ => ⟨S2304x6144, .f32⟩
  | .hbm, ⟨7, _⟩ => ⟨S2304x6x1024, .f32⟩
  | .hbm, ⟨8, _⟩ => ⟨S6x2304x1024, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== EvOut.lean ====
abbrev S2304x2048 : Shape := ⟨2, ![2304, 2048]⟩
abbrev S1x2048x2048 : Shape := ⟨3, ![1, 2048, 2048]⟩
abbrev S1x2304x2048 : Shape := ⟨3, ![1, 2304, 2048]⟩
abbrev S1x2048x512 : Shape := ⟨3, ![1, 2048, 512]⟩
abbrev S1x2304x512 : Shape := ⟨3, ![1, 2304, 512]⟩
abbrev S2048x512 : Shape := ⟨2, ![2048, 512]⟩
abbrev S768x2048 : Shape := ⟨2, ![768, 2048]⟩
abbrev S768x512 : Shape := ⟨2, ![768, 512]⟩
abbrev S1x768x512 : Shape := ⟨3, ![1, 768, 512]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S1x2048x2048, .bf16⟩
  | .hbm, ⟨2, _⟩ => ⟨S1x2304x2048, .f32⟩
  | .local _ .vmem, ⟨0, _⟩ => ⟨S2304x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2304x512, .f32⟩
  | .local _ .vmem, ⟨4, _⟩ => ⟨S1x2304x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c3_i32 : BitVec 32 := 3#32
  let v2 : BitVec 32 := Scalar.addi c0_i32 c3_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c768_i32 : BitVec 32 := 768#32
  let v3 : BitVec 32 := Scalar.muli arg4 c768_i32
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c768_i32 : BitVec 32 := 768#32
  let v3 : BitVec 32 := Scalar.muli arg4 c768_i32
  let v4 : BitVec 32 := v3
  let v5 : Index := Scalar.indexCast v4
  let c0_3 : Index := 0#32
  ![v5.toNat, 0]
def k0_off2 (k0_t1 : Fin k0_t1_loop.trips) : Fin 3 → Nat :=
  let c0_4 : Index := 0#32
  let c0_i32 : BitVec 32 := 0#32
  let c1_i32 : BitVec 32 := 1#32
  let arg4 : BitVec 32 := Scf.iv c0_i32 c1_i32 k0_t1
  let c768_i32 : BitVec 32 := 768#32
  let v3 : BitVec 32 := Scalar.muli arg4 c768_i32
  let v4 : BitVec 32 := v3
  let v8 : Index := Scalar.indexCast v4
  let c0_5 : Index := 0#32
  ![0, v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== EvOutRefIdeal.lean ====
abbrev S2304x2048 : Shape := ⟨2, ![2304, 2048]⟩
abbrev S1x2048x2048 : Shape := ⟨3, ![1, 2048, 2048]⟩
abbrev S2048x2048 : Shape := ⟨2, ![2048, 2048]⟩
abbrev S1x2304x2048 : Shape := ⟨3, ![1, 2304, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S1x2048x2048, .bf16⟩
  | .hbm, ⟨2, _⟩ => ⟨S2304x2048, .f32⟩
  | .hbm, ⟨3, _⟩ => ⟨S2048x2048, .bf16⟩
  | .hbm, ⟨4, _⟩ => ⟨S2048x2048, .f32⟩
  | .hbm, ⟨5, _⟩ => ⟨S2304x2048, .f32⟩
  | .hbm, ⟨6, _⟩ => ⟨S1x2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OdOut.lean ====
abbrev S2048x2048 : Shape := ⟨2, ![2048, 2048]⟩
abbrev S1x2048x2048 : Shape := ⟨3, ![1, 2048, 2048]⟩
abbrev S1x2048x512 : Shape := ⟨3, ![1, 2048, 512]⟩
abbrev S2048x512 : Shape := ⟨2, ![2048, 512]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S1x2048x2048, .f32⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .f32⟩
  | .local _ .vmem, ⟨4, _⟩ => ⟨S1x2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32 : BitVec 32 := 512#32
  let v3 : BitVec 32 := Scalar.muli arg4 c512_i32
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v3 : BitVec 32 := Scalar.muli arg4 c512_i32
  let v4 : BitVec 32 := v3
  let v5 : Index := Scalar.indexCast v4
  let c0_3 : Index := 0#32
  ![v5.toNat, 0]
def k0_off2 (k0_t1 : Fin k0_t1_loop.trips) : Fin 3 → Nat :=
  let c0_4 : Index := 0#32
  let c0_i32 : BitVec 32 := 0#32
  let c1_i32 : BitVec 32 := 1#32
  let arg4 : BitVec 32 := Scf.iv c0_i32 c1_i32 k0_t1
  let c512_i32 : BitVec 32 := 512#32
  let v3 : BitVec 32 := Scalar.muli arg4 c512_i32
  let v4 : BitVec 32 := v3
  let v8 : Index := Scalar.indexCast v4
  let c0_5 : Index := 0#32
  ![0, v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OdOutRefIdeal.lean ====
abbrev S2048x2048 : Shape := ⟨2, ![2048, 2048]⟩
abbrev S1x2048x2048 : Shape := ⟨3, ![1, 2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S1x2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AdaBwd.lean ====
abbrev S16x2048 : Shape := ⟨2, ![16, 2048]⟩
abbrev S2x16x1536 : Shape := ⟨3, ![2, 16, 1536]⟩
abbrev S2x2048x1536 : Shape := ⟨3, ![2, 2048, 1536]⟩
abbrev S2x8x2048 : Shape := ⟨3, ![2, 8, 2048]⟩
abbrev S16x256 : Shape := ⟨2, ![16, 256]⟩
abbrev S1x16x1536 : Shape := ⟨3, ![1, 16, 1536]⟩
abbrev S1x256x1536 : Shape := ⟨3, ![1, 256, 1536]⟩
abbrev S1x8x256 : Shape := ⟨3, ![1, 8, 256]⟩
abbrev S16x1536 : Shape := ⟨2, ![16, 1536]⟩
abbrev S256x1536 : Shape := ⟨2, ![256, 1536]⟩
abbrev S8x1536 : Shape := ⟨2, ![8, 1536]⟩
abbrev S8x256 : Shape := ⟨2, ![8, 256]⟩

abbrev nBuf : Space → Nat
  | .hbm => 10
  | .vmem => 20
  | .smem => 0
  | _ => 0

abbrev bufTy : (tb : Table) → Fin (tcTables nBuf tb) → BufTy
  | .hbm, ⟨0, _⟩ => ⟨S16x2048, .f32⟩
  | .hbm, ⟨1, _⟩ => ⟨S2x16x1536, .f32⟩
  | .hbm, ⟨2, _⟩ => ⟨S2x2048x1536, .f32⟩
  | .hbm, ⟨3, _⟩ => ⟨S2x2048x1536, .f32⟩
  | .hbm, ⟨4, _⟩ => ⟨S2x2048x1536, .f32⟩
  | .hbm, ⟨5, _⟩ => ⟨S2x2048x1536, .f32⟩
  | .hbm, ⟨6, _⟩ => ⟨S2x2048x1536, .f32⟩
  | .hbm, ⟨7, _⟩ => ⟨S2x2048x1536, .f32⟩
  | .hbm, ⟨8, _⟩ => ⟨S2x2048x1536, .f32⟩
  | .hbm, ⟨9, _⟩ => ⟨S2x8x2048, .f32⟩
  | .local _ .vmem, ⟨0, _⟩ => ⟨S16x256, .f32⟩
  | .local _ .vmem, ⟨1, _⟩ => ⟨S16x256, .f32⟩
  | .local _ .vmem, ⟨2, _⟩ => ⟨S1x16x1536, .f32⟩
  | .local _ .vmem, ⟨3, _⟩ => ⟨S1x16x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | .local _ .vmem, ⟨18, _⟩ => ⟨S1x8x256, .f32⟩
  | .local _ .vmem, ⟨19, _⟩ => ⟨S1x8x256, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AdaBwdRefIdeal.lean ====
abbrev S16x2048 : Shape := ⟨2, ![16, 2048]⟩
abbrev S2x16x1536 : Shape := ⟨3, ![2, 16, 1536]⟩
abbrev S2x2048x1536 : Shape := ⟨3, ![2, 2048, 1536]⟩
abbrev S1x16x2048 : Shape := ⟨3, ![1, 16, 2048]⟩
abbrev S2x16x2048 : Shape := ⟨3, ![2, 16, 2048]⟩
abbrev S2x1536x2048 : Shape := ⟨3, ![2, 1536, 2048]⟩
abbrev S_ : Shape := ⟨0, ![]⟩
abbrev S2x8x2048 : Shape := ⟨3, ![2, 8, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x16x1536, .f32⟩
  | .hbm, ⟨2, _⟩ => ⟨S2x2048x1536, .f32⟩
  | .hbm, ⟨3, _⟩ => ⟨S2x2048x1536, .f32⟩
  | .hbm, ⟨4, _⟩ => ⟨S2x2048x1536, .f32⟩
  | .hbm, ⟨5, _⟩ => ⟨S1x16x2048, .f32⟩
  | .hbm, ⟨6, _⟩ => ⟨S1x16x2048, .f32⟩
  | .hbm, ⟨7, _⟩ => ⟨S2x16x2048, .f32⟩
  | .hbm, ⟨8, _⟩ => ⟨S2x16x1536, .f32⟩
  | .hbm, ⟨9, _⟩ => ⟨S2x1536x2048, .f32⟩
  | .hbm, ⟨10, _⟩ => ⟨S2x2048x1536, .f32⟩
  | .hbm, ⟨11, _⟩ => ⟨S2x16x2048, .f32⟩
  | .hbm, ⟨12, _⟩ => ⟨S_, .f32⟩
  | .hbm, ⟨13, _⟩ => ⟨S2x2048x1536, .f32⟩
  | .hbm, ⟨14, _⟩ => ⟨S2x2048x1536, .f32⟩
  | .hbm, ⟨15, _⟩ => ⟨S_, .f32⟩
  | .hbm, ⟨16, _⟩ => ⟨S2x2048x1536, .f32⟩
  | .hbm, ⟨17, _⟩ => ⟨S2x2048x1536, .f32⟩
  | .hbm, ⟨18, _⟩ => ⟨S2x2048x1536, .f32⟩
  | .hbm, ⟨19, _⟩ => ⟨S_, .f32⟩
  | .hbm, ⟨20, _⟩ => ⟨S2x2048x1536, .f32⟩
  | .hbm, ⟨21, _⟩ => ⟨S2x2048x1536, .f32⟩
  | .hbm, ⟨22, _⟩ => ⟨S2x2048x1536, .f32⟩
  | .hbm, ⟨23, _⟩ => ⟨S_, .f32⟩
  | .hbm, ⟨24, _⟩ => ⟨S2x2048x1536, .f32⟩
  | .hbm, ⟨25, _⟩ => ⟨S2x2048x1536, .f32⟩
  | .hbm, ⟨26, _⟩ => ⟨S2x2048x1536, .f32⟩
  | .hbm, ⟨27, _⟩ => ⟨S_, .f32⟩
  | .hbm, ⟨28, _⟩ => ⟨S2x2048x1536, .f32⟩
  | .hbm, ⟨29, _⟩ => ⟨S2x2048x1536, .f32⟩
  | .hbm, ⟨30, _⟩ => ⟨S_, .f32⟩
  | .hbm, ⟨31, _⟩ => ⟨S2x2048x1536, .f32⟩
  | .hbm, ⟨32, _⟩ => ⟨S2x2048x1536, .f32⟩
  | .hbm, ⟨33, _⟩ => ⟨S2x2048x1536, .f32⟩
  | .hbm, ⟨34, _⟩ => ⟨S_, .f32⟩
  | .hbm, ⟨35, _⟩ => ⟨S2x2048x1536, .f32⟩
  | .hbm, ⟨36, _⟩ => ⟨S2x2048x1536, .f32⟩
  | .hbm, ⟨37, _⟩ => ⟨S2x2048x1536, .f32⟩
  | .hbm, ⟨38, _⟩ => ⟨S_, .f32⟩
  | .hbm, ⟨39, _⟩ => ⟨S2x2048x1536, .f32⟩
  | .hbm, ⟨40, _⟩ => ⟨S2x2048x1536, .f32⟩
  | .hbm, ⟨41, _⟩ => ⟨S2x2048x1536, .f32⟩
  | .hbm, ⟨42, _⟩ => ⟨S_, .f32⟩
  | .hbm, ⟨43, _⟩ => ⟨S2x2048x1536, .f32⟩
  | .hbm, ⟨44, _⟩ => ⟨S2x2048x1536, .f32⟩
  | .hbm, ⟨45, _⟩ => ⟨S2x8x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Ada.lean ====
abbrev S16x2048 : Shape := ⟨2, ![16, 2048]⟩
abbrev S2x2048x1536 : Shape := ⟨3, ![2, 2048, 1536]⟩
abbrev S2x1x1536 : Shape := ⟨3, ![2, 1, 1536]⟩
abbrev S2x16x1536 : Shape := ⟨3, ![2, 16, 1536]⟩
abbrev S1x2048x512 : Shape := ⟨3, ![1, 2048, 512]⟩
abbrev S1x1x512 : Shape := ⟨3, ![1, 1, 512]⟩
abbrev S1x16x512 : Shape := ⟨3, ![1, 16, 512]⟩
abbrev S2048x512 : Shape := ⟨2, ![2048, 512]⟩
abbrev S16x512 : Shape := ⟨2, ![16, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S2x2048x1536, .f32⟩
  | .hbm, ⟨2, _⟩ => ⟨S2x1x1536, .f32⟩
  | .hbm, ⟨3, _⟩ => ⟨S16x2048, .f32⟩
  | .hbm, ⟨4, _⟩ => ⟨S2x16x1536, .f32⟩
  | .local _ .vmem, ⟨0, _⟩ => ⟨S16x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S16x2048, .f32⟩
  | .local _ .vmem, ⟨6, _⟩ => ⟨S1x16x512, .f32⟩
  | .local _ .vmem, ⟨7, _⟩ => ⟨S1x16x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AdaRefIdeal.lean ====
abbrev S16x2048 : Shape := ⟨2, ![16, 2048]⟩
abbrev S2x2048x1536 : Shape := ⟨3, ![2, 2048, 1536]⟩
abbrev S2x1x1536 : Shape := ⟨3, ![2, 1, 1536]⟩
abbrev S_ : Shape := ⟨0, ![]⟩
abbrev S1x2048x1536 : Shape := ⟨3, ![1, 2048, 1536]⟩
abbrev S2048x1536 : Shape := ⟨2, ![2048, 1536]⟩
abbrev S16x1536 : Shape := ⟨2, ![16, 1536]⟩
abbrev S1x1x1536 : Shape := ⟨3, ![1, 1, 1536]⟩
abbrev S1x1536 : Shape := ⟨2, ![1, 1536]⟩
abbrev S1x16x1536 : Shape := ⟨3, ![1, 16, 1536]⟩
abbrev S2x16x1536 : Shape := ⟨3, ![2, 16, 1536]⟩

abbrev nBuf : Space → Nat
  | .hbm => 29
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x1536, .f32⟩
  | .hbm, ⟨2, _⟩ => ⟨S2x1x1536, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x1536, .f32⟩
  | .hbm, ⟨13, _⟩ => ⟨S2048x1536, .f32⟩
  | .hbm, ⟨14, _⟩ => ⟨S16x1536, .f32⟩
  | .hbm, ⟨15, _⟩ => ⟨S1x1x1536, .f32⟩
  | .hbm, ⟨16, _⟩ => ⟨S1x1536, .f32⟩
  | .hbm, ⟨17, _⟩ => ⟨S16x1536, .f32⟩
  | .hbm, ⟨18, _⟩ => ⟨S16x1536, .f32⟩
  | .hbm, ⟨19, _⟩ => ⟨S1x2048x1536, .f32⟩
  | .hbm, ⟨20, _⟩ => ⟨S2048x1536, .f32⟩
  | .hbm, ⟨21, _⟩ => ⟨S16x1536, .f32⟩
  | .hbm, ⟨22, _⟩ => ⟨S1x1x1536, .f32⟩
  | .hbm, ⟨23, _⟩ => ⟨S1x1536, .f32⟩
  | .hbm, ⟨24, _⟩ => ⟨S16x1536, .f32⟩
  | .hbm, ⟨25, _⟩ => ⟨S16x1536, .f32⟩
  | .hbm, ⟨26, _⟩ => ⟨S1x16x1536, .f32⟩
  | .hbm, ⟨27, _⟩ => ⟨S1x16x1536, .f32⟩
  | .hbm, ⟨28, _⟩ => ⟨S2x16x1536, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== StepIn.lean ====
abbrev S2048x1536 : Shape := ⟨2, ![2048, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInIdeal.lean ====
abbrev S2048x1536 : Shape := ⟨2, ![2048, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInRefIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepOut.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOutIdeal.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepOdIn.lean ====
abbrev S2048x2560 : Shape := ⟨2, ![2048, 2560]⟩
abbrev S256x2560 : Shape := ⟨2, ![256, 2560]⟩

abbrev nBuf : Space → Nat
  | .hbm => 8
  | .vmem => 16
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .f32⟩
  | .hbm, ⟨3, _⟩ => ⟨S2048x2560, .f32⟩
  | .hbm, ⟨4, _⟩ => ⟨S2048x2560, .f32⟩
  | .hbm, ⟨5, _⟩ => ⟨S2048x2560, .f32⟩
  | .hbm, ⟨6, _⟩ => ⟨S2048x2560, .f32⟩
  | .hbm, ⟨7, _⟩ => ⟨S2048x2560, .f32⟩
  | .local _ .vmem, ⟨0, _⟩ => ⟨S256x2560, .f32⟩
  | .local _ .vmem, ⟨1, _⟩ => ⟨S256x2560, .f32⟩
  | .local _ .vmem, ⟨2, _⟩ => ⟨S256x2560, .f32⟩
  | .local _ .vmem, ⟨3, _⟩ => ⟨S256x2560, .f32⟩
  | .local _ .vmem, ⟨4, _⟩ => ⟨S256x2560, .f32⟩
  | .local _ .vmem, ⟨5, _⟩ => ⟨S256x2560, .f32⟩
  | .local _ .vmem, ⟨6, _⟩ => ⟨S256x2560, .f32⟩
  | .local _ .vmem, ⟨7, _⟩ => ⟨S256x2560, .f32⟩
  | .local _ .vmem, ⟨8, _⟩ => ⟨S256x2560, .f32⟩
  | .local _ .vmem, ⟨9, _⟩ => ⟨S256x2560, .f32⟩
  | .local _ .vmem, ⟨10, _⟩ => ⟨S256x2560, .f32⟩
  | .local _ .vmem, ⟨11, _⟩ => ⟨S256x2560, .f32⟩
  | .local _ .vmem, ⟨12, _⟩ => ⟨S256x2560, .f32⟩
  | .local _ .vmem, ⟨13, _⟩ => ⟨S256x2560, .f32⟩
  | .local _ .vmem, ⟨14, _⟩ => ⟨S256x2560, .f32⟩
  | .local _ .vmem, ⟨15, _⟩ => ⟨S256x2560, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOdInIdeal.lean ====
abbrev S2048x2560 : Shape := ⟨2, ![2048, 2560]⟩
abbrev S256x2560 : Shape := ⟨2, ![256, 2560]⟩

abbrev nBuf : Space → Nat
  | .hbm => 8
  | .vmem => 16
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .f32⟩
  | .hbm, ⟨3, _⟩ => ⟨S2048x2560, .f32⟩
  | .hbm, ⟨4, _⟩ => ⟨S2048x2560, .f32⟩
  | .hbm, ⟨5, _⟩ => ⟨S2048x2560, .f32⟩
  | .hbm, ⟨6, _⟩ => ⟨S2048x2560, .f32⟩
  | .hbm, ⟨7, _⟩ => ⟨S2048x2560, .f32⟩
  | .local _ .vmem, ⟨0, _⟩ => ⟨S256x2560, .f32⟩
  | .local _ .vmem, ⟨1, _⟩ => ⟨S256x2560, .f32⟩
  | .local _ .vmem, ⟨2, _⟩ => ⟨S256x2560, .f32⟩
  | .local _ .vmem, ⟨3, _⟩ => ⟨S256x2560, .f32⟩
  | .local _ .vmem, ⟨4, _⟩ => ⟨S256x2560, .f32⟩
  | .local _ .vmem, ⟨5, _⟩ => ⟨S256x2560, .f32⟩
  | .local _ .vmem, ⟨6, _⟩ => ⟨S256x2560, .f32⟩
  | .local _ .vmem, ⟨7, _⟩ => ⟨S256x2560, .f32⟩
  | .local _ .vmem, ⟨8, _⟩ => ⟨S256x2560, .f32⟩
  | .local _ .vmem, ⟨9, _⟩ => ⟨S256x2560, .f32⟩
  | .local _ .vmem, ⟨10, _⟩ => ⟨S256x2560, .f32⟩
  | .local _ .vmem, ⟨11, _⟩ => ⟨S256x2560, .f32⟩
  | .local _ .vmem, ⟨12, _⟩ => ⟨S256x2560, .f32⟩
  | .local _ .vmem, ⟨13, _⟩ => ⟨S256x2560, .f32⟩
  | .local _ .vmem, ⟨14, _⟩ => ⟨S256x2560, .f32⟩
  | .local _ .vmem, ⟨15, _⟩ => ⟨S256x2560, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOdInRefIdeal.lean ====
abbrev S2048x2560 : Shape := ⟨2, ![2048, 2560]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .f32⟩
  | .hbm, ⟨3, _⟩ => ⟨S2048x2560, .f32⟩
  | .hbm, ⟨4, _⟩ => ⟨S_, .f32⟩
  | .hbm, ⟨5, _⟩ => ⟨S2048x2560, .f32⟩
  | .hbm, ⟨6, _⟩ => ⟨S2048x2560, .f32⟩
  | .hbm, ⟨7, _⟩ => ⟨S_, .f32⟩
  | .hbm, ⟨8, _⟩ => ⟨S2048x2560, .f32⟩
  | .hbm, ⟨9, _⟩ => ⟨S2048x2560, .f32⟩
  | .hbm, ⟨10, _⟩ => ⟨S2048x2560, .f32⟩
  | .hbm, ⟨11, _⟩ => ⟨S_, .f32⟩
  | .hbm, ⟨12, _⟩ => ⟨S2048x2560, .f32⟩
  | .hbm, ⟨13, _⟩ => ⟨S2048x2560, .f32⟩
  | .hbm, ⟨14, _⟩ => ⟨S2048x2560, .f32⟩
  | .hbm, ⟨15, _⟩ => ⟨S_, .f32⟩
  | .hbm, ⟨16, _⟩ => ⟨S2048x2560, .f32⟩
  | .hbm, ⟨17, _⟩ => ⟨S2048x2560, .f32⟩
  | .hbm, ⟨18, _⟩ => ⟨S2048x2560, .f32⟩
  | .hbm, ⟨19, _⟩ => ⟨S_, .f32⟩
  | .hbm, ⟨20, _⟩ => ⟨S2048x2560, .f32⟩
  | .hbm, ⟨21, _⟩ => ⟨S2048x2560, .f32⟩
  | .hbm, ⟨22, _⟩ => ⟨S_, .f32⟩
  | .hbm, ⟨23, _⟩ => ⟨S2048x2560, .f32⟩
  | .hbm, ⟨24, _⟩ => ⟨S2048x2560, .f32⟩
  | .hbm, ⟨25, _⟩ => ⟨S2048x2560, .f32⟩
  | .hbm, ⟨26, _⟩ => ⟨S_, .f32⟩
  | .hbm, ⟨27, _⟩ => ⟨S2048x2560, .f32⟩
  | .hbm, ⟨28, _⟩ => ⟨S2048x2560, .f32⟩
  | .hbm, ⟨29, _⟩ => ⟨S2048x2560, .f32⟩
  | .hbm, ⟨30, _⟩ => ⟨S_, .f32⟩
  | .hbm, ⟨31, _⟩ => ⟨S2048x2560, .f32⟩
  | .hbm, ⟨32, _⟩ => ⟨S2048x2560, .f32⟩
  | .hbm, ⟨33, _⟩ => ⟨S2048x2560, .f32⟩
  | .hbm, ⟨34, _⟩ => ⟨S_, .f32⟩
  | .hbm, ⟨35, _⟩ => ⟨S2048x2560, .f32⟩
  | .hbm, ⟨36, _⟩ => ⟨S2048x2560, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepPool.lean ====
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepPoolRefIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepAdaB.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepAdaBIdeal.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepAdaBRefIdeal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepGain.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepGainIdeal.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepGainRefIdeal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepHalf.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepHalfIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepHalfRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepConv.lean ====
abbrev S3x256 : Shape := ⟨2, ![3, 256]⟩

abbrev nBuf : Space → Nat
  | .hbm => 7
  | .vmem => 7
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepConvIdeal.lean ====
abbrev S3x256 : Shape := ⟨2, ![3, 256]⟩

abbrev nBuf : Space → Nat
  | .hbm => 7
  | .vmem => 7
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepConvRefIdeal.lean ====
abbrev S3x256 : Shape := ⟨2, ![3, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S_, .f32⟩
  | .hbm, ⟨5, _⟩ => ⟨S3x256, .f32⟩
  | .hbm, ⟨6, _⟩ => ⟨S3x256, .f32⟩
  | .hbm, ⟨7, _⟩ => ⟨S_, .f32⟩
  | .hbm, ⟨8, _⟩ => ⟨S3x256, .f32⟩
  | .hbm, ⟨9, _⟩ => ⟨S3x256, .f32⟩
  | .hbm, ⟨10, _⟩ => ⟨S3x256, .f32⟩
  | .hbm, ⟨11, _⟩ => ⟨S_, .f32⟩
  | .hbm, ⟨12, _⟩ => ⟨S3x256, .f32⟩
  | .hbm, ⟨13, _⟩ => ⟨S3x256, .f32⟩
  | .hbm, ⟨14, _⟩ => ⟨S3x256, .f32⟩
  | .hbm, ⟨15, _⟩ => ⟨S_, .f32⟩
  | .hbm, ⟨16, _⟩ => ⟨S3x256, .f32⟩
  | .hbm, ⟨17, _⟩ => ⟨S3x256, .f32⟩
  | .hbm, ⟨18, _⟩ => ⟨S3x256, .f32⟩
  | .hbm, ⟨19, _⟩ => ⟨S_, .f32⟩
  | .hbm, ⟨20, _⟩ => ⟨S3x256, .f32⟩
  | .hbm, ⟨21, _⟩ => ⟨S3x256, .f32⟩
  | .hbm, ⟨22, _⟩ => ⟨S_, .f32⟩
  | .hbm, ⟨23, _⟩ => ⟨S3x256, .f32⟩
  | .hbm, ⟨24, _⟩ => ⟨S3x256, .f32⟩
  | .hbm, ⟨25, _⟩ => ⟨S3x256, .f32⟩
  | .hbm, ⟨26, _⟩ => ⟨S_, .f32⟩
  | .hbm, ⟨27, _⟩ => ⟨S3x256, .f32⟩
  | .hbm, ⟨28, _⟩ => ⟨S3x256, .f32⟩
  | .hbm, ⟨29, _⟩ => ⟨S3x256, .f32⟩
  | .hbm, ⟨30, _⟩ => ⟨S_, .f32⟩
  | .hbm, ⟨31, _⟩ => ⟨S3x256, .f32⟩
  | .hbm, ⟨32, _⟩ => ⟨S3x256, .f32⟩
  | .hbm, ⟨33, _⟩ => ⟨S3x256, .f32⟩
  | .hbm, ⟨34, _⟩ => ⟨S_, .f32⟩
  | .hbm, ⟨35, _⟩ => ⟨S3x256, .f32⟩
  | .hbm, ⟨36, _⟩ => ⟨S3x256, .f32⟩
  | _, _ => ⟨S3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepOnorm.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepOnormIdeal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepOnormRefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepLb.lean ====
abbrev S6x512 : Shape := ⟨2, ![6, 512]⟩

abbrev nBuf : Space → Nat
  | .hbm => 7
  | .vmem => 7
  | .smem => 0
  | _ => 0

abbrev bufTy : (tb : Table) → Fin (tcTables nBuf tb) → BufTy
  | .hbm, ⟨0, _⟩ => ⟨S6x512, .f32⟩
  | .hbm, ⟨1, _⟩ => ⟨S6x512, .f32⟩
  | .hbm, ⟨2, _⟩ => ⟨S6x512, .f32⟩
  | .hbm, ⟨3, _⟩ => ⟨S6x512, .f32⟩
  | .hbm, ⟨4, _⟩ => ⟨S6x512, .f32⟩
  | .hbm, ⟨5, _⟩ => ⟨S6x512, .f32⟩
  | .hbm, ⟨6, _⟩ => ⟨S6x512, .f32⟩
  | .local _ .vmem, ⟨0, _⟩ => ⟨S6x512, .f32⟩
  | .local _ .vmem, ⟨1, _⟩ => ⟨S6x512, .f32⟩
  | .local _ .vmem, ⟨2, _⟩ => ⟨S6x512, .f32⟩
  | .local _ .vmem, ⟨3, _⟩ => ⟨S6x512, .f32⟩
  | .local _ .vmem, ⟨4, _⟩ => ⟨S6x512, .f32⟩
  | .local _ .vmem, ⟨5, _⟩ => ⟨S6x512, .f32⟩
  | .local _ .vmem, ⟨6, _⟩ => ⟨S6x512, .f32⟩
  | _, _ => ⟨S6x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepLbIdeal.lean ====
abbrev S6x512 : Shape := ⟨2, ![6, 512]⟩

abbrev nBuf : Space → Nat
  | .hbm => 7
  | .vmem => 7
  | .smem => 0
  | _ => 0

abbrev bufTy : (tb : Table) → Fin (tcTables nBuf tb) → BufTy
  | .hbm, ⟨0, _⟩ => ⟨S6x512, .f32⟩
  | .hbm, ⟨1, _⟩ => ⟨S6x512, .f32⟩
  | .hbm, ⟨2, _⟩ => ⟨S6x512, .f32⟩
  | .hbm, ⟨3, _⟩ => ⟨S6x512, .f32⟩
  | .hbm, ⟨4, _⟩ => ⟨S6x512, .f32⟩
  | .hbm, ⟨5, _⟩ => ⟨S6x512, .f32⟩
  | .hbm, ⟨6, _⟩ => ⟨S6x512, .f32⟩
  | .local _ .vmem, ⟨0, _⟩ => ⟨S6x512, .f32⟩
  | .local _ .vmem, ⟨1, _⟩ => ⟨S6x512, .f32⟩
  | .local _ .vmem, ⟨2, _⟩ => ⟨S6x512, .f32⟩
  | .local _ .vmem, ⟨3, _⟩ => ⟨S6x512, .f32⟩
  | .local _ .vmem, ⟨4, _⟩ => ⟨S6x512, .f32⟩
  | .local _ .vmem, ⟨5, _⟩ => ⟨S6x512, .f32⟩
  | .local _ .vmem, ⟨6, _⟩ => ⟨S6x512, .f32⟩
  | _, _ => ⟨S6x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepLbRefIdeal.lean ====
abbrev S6x512 : Shape := ⟨2, ![6, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x512, .f32⟩
  | .hbm, ⟨1, _⟩ => ⟨S6x512, .f32⟩
  | .hbm, ⟨2, _⟩ => ⟨S6x512, .f32⟩
  | .hbm, ⟨3, _⟩ => ⟨S6x512, .f32⟩
  | .hbm, ⟨4, _⟩ => ⟨S_, .f32⟩
  | .hbm, ⟨5, _⟩ => ⟨S6x512, .f32⟩
  | .hbm, ⟨6, _⟩ => ⟨S6x512, .f32⟩
  | .hbm, ⟨7, _⟩ => ⟨S_, .f32⟩
  | .hbm, ⟨8, _⟩ => ⟨S6x512, .f32⟩
  | .hbm, ⟨9, _⟩ => ⟨S6x512, .f32⟩
  | .hbm, ⟨10, _⟩ => ⟨S6x512, .f32⟩
  | .hbm, ⟨11, _⟩ => ⟨S_, .f32⟩
  | .hbm, ⟨12, _⟩ => ⟨S6x512, .f32⟩
  | .hbm, ⟨13, _⟩ => ⟨S6x512, .f32⟩
  | .hbm, ⟨14, _⟩ => ⟨S6x512, .f32⟩
  | .hbm, ⟨15, _⟩ => ⟨S_, .f32⟩
  | .hbm, ⟨16, _⟩ => ⟨S6x512, .f32⟩
  | .hbm, ⟨17, _⟩ => ⟨S6x512, .f32⟩
  | .hbm, ⟨18, _⟩ => ⟨S6x512, .f32⟩
  | .hbm, ⟨19, _⟩ => ⟨S_, .f32⟩
  | .hbm, ⟨20, _⟩ => ⟨S6x512, .f32⟩
  | .hbm, ⟨21, _⟩ => ⟨S6x512, .f32⟩
  | .hbm, ⟨22, _⟩ => ⟨S_, .f32⟩
  | .hbm, ⟨23, _⟩ => ⟨S6x512, .f32⟩
  | .hbm, ⟨24, _⟩ => ⟨S6x512, .f32⟩
  | .hbm, ⟨25, _⟩ => ⟨S6x512, .f32⟩
  | .hbm, ⟨26, _⟩ => ⟨S_, .f32⟩
  | .hbm, ⟨27, _⟩ => ⟨S6x512, .f32⟩
  | .hbm, ⟨28, _⟩ => ⟨S6x512, .f32⟩
  | .hbm, ⟨29, _⟩ => ⟨S6x512, .f32⟩
  | .hbm, ⟨30, _⟩ => ⟨S_, .f32⟩
  | .hbm, ⟨31, _⟩ => ⟨S6x512, .f32⟩
  | .hbm, ⟨32, _⟩ => ⟨S6x512, .f32⟩
  | .hbm, ⟨33, _⟩ => ⟨S6x512, .f32⟩
  | .hbm, ⟨34, _⟩ => ⟨S_, .f32⟩
  | .hbm, ⟨35, _⟩ => ⟨S6x512, .f32⟩
  | .hbm, ⟨36, _⟩ => ⟨S6x512, .f32⟩
  | _, _ => ⟨S6x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepCtx.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepCtxRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== CCtx.lean ====
abbrev S8x8x2048 : Shape := ⟨3, ![8, 8, 2048]⟩
abbrev S1x2048 : Shape := ⟨2, ![1, 2048]⟩
abbrev S1x1x2048 : Shape := ⟨3, ![1, 1, 2048]⟩

abbrev nBuf : Space → Nat
  | .hbm => 3
  | .vmem => 3
  | .smem => 0
  | _ => 0

abbrev bufTy : (tb : Table) → Fin (tcTables nBuf tb) → BufTy
  | .hbm, ⟨0, _⟩ => ⟨S8x8x2048, .f32⟩
  | .hbm, ⟨1, _⟩ => ⟨S1x2048, .f32⟩
  | .hbm, ⟨2, _⟩ => ⟨S1x2048, .f32⟩
  | .local _ .vmem, ⟨0, _⟩ => ⟨S8x8x2048, .f32⟩
  | .local _ .vmem, ⟨1, _⟩ => ⟨S1x2048, .f32⟩
  | .local _ .vmem, ⟨2, _⟩ => ⟨S1x2048, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CCtxRefIdeal.lean ====
abbrev S8x8x2048 : Shape := ⟨3, ![8, 8, 2048]⟩
abbrev S1x2048 : Shape := ⟨2, ![1, 2048]⟩
abbrev S1x1x2048 : Shape := ⟨3, ![1, 1, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S1x2048, .f32⟩
  | .hbm, ⟨2, _⟩ => ⟨S1x1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S1x1x2048, .f32⟩
  | .hbm, ⟨8, _⟩ => ⟨S1x2048, .f32⟩
  | .hbm, ⟨9, _⟩ => ⟨S1x2048, .f32⟩
  | .hbm, ⟨10, _⟩ => ⟨S1x1x2048, .f32⟩
  | .hbm, ⟨11, _⟩ => ⟨S1x2048, .f32⟩
  | .hbm, ⟨12, _⟩ => ⟨S1x2048, .f32⟩
  | .hbm, ⟨13, _⟩ => ⟨S1x1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v13_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v13_1 : Ref sig .tc := ⟨.hbm, 27, rfl⟩
abbrev main_v13_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩

abbrev nD : Nat := 1
abbrev τ : Topo := Topo.v7x

variable {F : FTy → Type} [FloatOps F]
-- ==== NormB.lean ====
abbrev S2304x2048 : Shape := ⟨2, ![2304, 2048]⟩
abbrev S1x2048 : Shape := ⟨2, ![1, 2048]⟩
abbrev S2x2048 : Shape := ⟨2, ![2, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S1x2048, .f32⟩
  | .hbm, ⟨3, _⟩ => ⟨S2x2048, .f32⟩
  | .hbm, ⟨4, _⟩ => ⟨S2304x2048, .f32⟩
  | .hbm, ⟨5, _⟩ => ⟨S2048x2048, .f32⟩
  | .hbm, ⟨6, _⟩ => ⟨S1x2048, .f32⟩
  | .hbm, ⟨7, _⟩ => ⟨S2x2048, .f32⟩
  | .hbm, ⟨8, _⟩ => ⟨S2x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S2x2048, .f32⟩
  | .local _ .vmem, ⟨12, _⟩ => ⟨S2x2048, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormBRefIdeal.lean ====
abbrev S2304x2048 : Shape := ⟨2, ![2304, 2048]⟩
abbrev S1x2048 : Shape := ⟨2, ![1, 2048]⟩
abbrev S2x2048 : Shape := ⟨2, ![2, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S2048 : Shape := ⟨1, ![2048]⟩
abbrev S2048x2048 : Shape := ⟨2, ![2048, 2048]⟩
abbrev S2048x1 : Shape := ⟨2, ![2048, 1]⟩

abbrev nBuf : Space → Nat
  | .hbm => 136
  | .vmem => 0
  | .smem => 0
  | _ => 0

abbrev hbmTy0_0 (i : Nat) : BufTy := match i % 128 with
  | 0 => ⟨S2304x2048, .f32⟩
  | 1 => ⟨S2304x2048, .f32⟩
  | 2 => ⟨S1x2048, .f32⟩
  | 3 => ⟨S2x2048, .f32⟩
  | 4 => ⟨S2304x2048, .f32⟩
  | 5 => ⟨S256x2048, .f32⟩
  | 6 => ⟨S256x2048, .f32⟩
  | 7 => ⟨S1x2048, .f32⟩
  | 8 => ⟨S_, .f32⟩
  | 9 => ⟨S1x2048, .f32⟩
  | 10 => ⟨S256x2048, .f32⟩
  | 11 => ⟨S_, .f32⟩
  | 12 => ⟨S256, .f32⟩
  | 13 => ⟨S256x1, .f32⟩
  | 14 => ⟨S_, .f32⟩
  | 15 => ⟨S256x1, .f32⟩
  | 16 => ⟨S256x1, .f32⟩
  | 17 => ⟨S_, .f32⟩
  | 18 => ⟨S256x1, .f32⟩
  | 19 => ⟨S256x1, .f32⟩
  | 20 => ⟨S256x1, .f32⟩
  | 21 => ⟨S256x1, .f32⟩
  | 22 => ⟨S_, .f32⟩
  | 23 => ⟨S256x1, .f32⟩
  | 24 => ⟨S256x1, .f32⟩
  | 25 => ⟨S256x2048, .f32⟩
  | 26 => ⟨S256x2048, .f32⟩
  | 27 => ⟨S256x2048, .f32⟩
  | 28 => ⟨S256x2048, .f32⟩
  | 29 => ⟨S_, .f32⟩
  | 30 => ⟨S1x2048, .f32⟩
  | 31 => ⟨S1x2048, .f32⟩
  | 32 => ⟨S256x2048, .f32⟩
  | 33 => ⟨S256x2048, .f32⟩
  | 34 => ⟨S256x2048, .f32⟩
  | 35 => ⟨S256x2048, .f32⟩
  | 36 => ⟨S_, .f32⟩
  | 37 => ⟨S2048, .f32⟩
  | 38 => ⟨S1x2048, .f32⟩
  | 39 => ⟨S256x2048, .f32⟩
  | 40 => ⟨S_, .f32⟩
  | 41 => ⟨S2048, .f32⟩
  | 42 => ⟨S1x2048, .f32⟩
  | 43 => ⟨S256x2048, .f32⟩
  | 44 => ⟨S256x2048, .f32⟩
  | 45 => ⟨S256x2048, .f32⟩
  | 46 => ⟨S_, .f32⟩
  | 47 => ⟨S2048, .f32⟩
  | 48 => ⟨S1x2048, .f32⟩
  | 49 => ⟨S256x2048, .f32⟩
  | 50 => ⟨S256x2048, .f32⟩
  | 51 => ⟨S256x2048, .f32⟩
  | 52 => ⟨S_, .f32⟩
  | 53 => ⟨S256, .f32⟩
  | 54 => ⟨S256x1, .f32⟩
  | 55 => ⟨S256x2048, .f32⟩
  | 56 => ⟨S256x2048, .f32⟩
  | 57 => ⟨S256x1, .f32⟩
  | 58 => ⟨S_, .f32⟩
  | 59 => ⟨S256x1, .f32⟩
  | 60 => ⟨S256x1, .f32⟩
  | 61 => ⟨S_, .f32⟩
  | 62 => ⟨S256, .f32⟩
  | 63 => ⟨S256x2048, .f32⟩
  | 64 => ⟨S256x2048, .f32⟩
  | 65 => ⟨S256x2048, .f32⟩
  | 66 => ⟨S256x2048, .f32⟩
  | 67 => ⟨S256x2048, .f32⟩
  | 68 => ⟨S2048x2048, .f32⟩
  | 69 => ⟨S2048x2048, .f32⟩
  | 70 => ⟨S1x2048, .f32⟩
  | 71 => ⟨S_, .f32⟩
  | 72 => ⟨S1x2048, .f32⟩
  | 73 => ⟨S2048x2048, .f32⟩
  | 74 => ⟨S_, .f32⟩
  | 75 => ⟨S2048, .f32⟩
  | 76 => ⟨S2048x1, .f32⟩
  | 77 => ⟨S_, .f32⟩
  | 78 => ⟨S2048x1, .f32⟩
  | 79 => ⟨S2048x1, .f32⟩
  | 80 => ⟨S_, .f32⟩
  | 81 => ⟨S2048x1, .f32⟩
  | 82 => ⟨S2048x1, .f32⟩
  | 83 => ⟨S2048x1, .f32⟩
  | 84 => ⟨S2048x1, .f32⟩
  | 85 => ⟨S_, .f32⟩
  | 86 => ⟨S2048x1, .f32⟩
  | 87 => ⟨S2048x1, .f32⟩
  | 88 => ⟨S2048x2048, .f32⟩
  | 89 => ⟨S2048x2048, .f32⟩
  | 90 => ⟨S2048x2048, .f32⟩
  | 91 => ⟨S2048x2048, .f32⟩
  | 92 => ⟨S_, .f32⟩
  | 93 => ⟨S1x2048, .f32⟩
  | 94 => ⟨S1x2048, .f32⟩
  | 95 => ⟨S2048x2048, .f32⟩
  | 96 => ⟨S2048x2048, .f32⟩
  | 97 => ⟨S2048x2048, .f32⟩
  | 98 => ⟨S2048x2048, .f32⟩
  | 99 => ⟨S_, .f32⟩
  | 100 => ⟨S2048, .f32⟩
  | 101 => ⟨S1x2048, .f32⟩
  | 102 => ⟨S2048x2048, .f32⟩
  | 103 => ⟨S_, .f32⟩
  | 104 => ⟨S2048, .f32⟩
  | 105 => ⟨S1x2048, .f32⟩
  | 106 => ⟨S2048x2048, .f32⟩
  | 107 => ⟨S2048x2048, .f32⟩
  | 108 => ⟨S2048x2048, .f32⟩
  | 109 => ⟨S_, .f32⟩
  | 110 => ⟨S2048, .f32⟩
  | 111 => ⟨S1x2048, .f32⟩
  | 112 => ⟨S2048x2048, .f32⟩
  | 113 => ⟨S2048x2048, .f32⟩
  | 114 => ⟨S2048x2048, .f32⟩
  | 115 => ⟨S_, .f32⟩
  | 116 => ⟨S2048, .f32⟩
  | 117 => ⟨S2048x1, .f32⟩
  | 118 => ⟨S2048x2048, .f32⟩
  | 119 => ⟨S2048x2048, .f32⟩
  | 120 => ⟨S2048x1, .f32⟩
  | 121 => ⟨S_, .f32⟩
  | 122 => ⟨S2048x1, .f32⟩
  | 123 => ⟨S2048x1, .f32⟩
  | 124 => ⟨S_, .f32⟩
  | 125 => ⟨S2048, .f32⟩
  | 126 => ⟨S2048x2048, .f32⟩
  | 127 => ⟨S2048x2048, .f32⟩
  | _ => ⟨S2304x2048, .f32⟩

abbrev hbmTy0_1 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .f32⟩
  | 5 => ⟨S1x2048, .f32⟩
  | 6 => ⟨S2x2048, .f32⟩
  | 7 => ⟨S2x2048, .f32⟩
  | _ => ⟨S2304x2048, .f32⟩

abbrev hbmTy (i : Nat) : BufTy := match i / 128 with
  | 0 => hbmTy0_0 i
  | 1 => hbmTy0_1 i
  | _ => ⟨S2304x2048, .f32⟩

abbrev bufTy : (tb : Table) → Fin (tcTables nBuf tb) → BufTy
  | .hbm, ⟨i, _⟩ => hbmTy i
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_cst_14 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_15 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_16 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_17 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_18 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_19 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_21 : Ref sig .tc := ⟨.hbm, 121, rfl⟩
abbrev main_v94 : Ref sig .tc := ⟨.hbm, 122, rfl⟩
abbrev main_v95 : Ref sig .tc := ⟨.hbm, 123, rfl⟩
abbrev main_cst_22 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩

abbrev nD : Nat := 1
abbrev τ : Topo := Topo.v7x

variable {F : FTy → Type} [FloatOps F]
-- ==== Loss.lean ====
abbrev S2304x2048 : Shape := ⟨2, ![2304, 2048]⟩
abbrev S2048x2048 : Shape := ⟨2, ![2048, 2048]⟩
abbrev S1x2048 : Shape := ⟨2, ![1, 2048]⟩
abbrev S2x2048 : Shape := ⟨2, ![2, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S2304x2048, .f32⟩
  | .hbm, ⟨1, _⟩ => ⟨S2048x2048, .f32⟩
  | .hbm, ⟨2, _⟩ => ⟨S1x2048, .f32⟩
  | .hbm, ⟨3, _⟩ => ⟨S2x2048, .f32⟩
  | .hbm, ⟨4, _⟩ => ⟨S2048x2048, .f32⟩
  | .hbm, ⟨5, _⟩ => ⟨S8x128, .f32⟩
  | .hbm, ⟨6, _⟩ => ⟨S2048x2048, .f32⟩
  | .hbm, ⟨7, _⟩ => ⟨S2048x2048, .bf16⟩
  | .hbm, ⟨8, _⟩ => ⟨S2x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2x2048, .f32⟩
  | .local _ .vmem, ⟨6, _⟩ => ⟨S256x2048, .f32⟩
  | .local _ .vmem, ⟨7, _⟩ => ⟨S256x2048, .f32⟩
  | .local _ .vmem, ⟨8, _⟩ => ⟨S8x128, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S2x2048, .f32⟩
  | .local _ .vmem, ⟨14, _⟩ => ⟨S1x2048, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S2304x2048 : Shape := ⟨2, ![2304, 2048]⟩
abbrev S2048x2048 : Shape := ⟨2, ![2048, 2048]⟩
abbrev S1x2048 : Shape := ⟨2, ![1, 2048]⟩
abbrev S2x2048 : Shape := ⟨2, ![2, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 109
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x2048, .f32⟩
  | .hbm, ⟨2, _⟩ => ⟨S1x2048, .f32⟩
  | .hbm, ⟨3, _⟩ => ⟨S2x2048, .f32⟩
  | .hbm, ⟨4, _⟩ => ⟨S2048x2048, .f32⟩
  | .hbm, ⟨5, _⟩ => ⟨S2048x2048, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S_, .f32⟩
  | .hbm, ⟨29, _⟩ => ⟨S1x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S2048x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S_, .f32⟩
  | .hbm, ⟨89, _⟩ => ⟨S2048, .f32⟩
  | .hbm, ⟨90, _⟩ => ⟨S2048x1, .f32⟩
  | .hbm, ⟨91, _⟩ => ⟨S2048x2048, .f32⟩
  | .hbm, ⟨92, _⟩ => ⟨S2048x2048, .f32⟩
  | .hbm, ⟨93, _⟩ => ⟨S2048x1, .f32⟩
  | .hbm, ⟨94, _⟩ => ⟨S_, .f32⟩
  | .hbm, ⟨95, _⟩ => ⟨S2048x1, .f32⟩
  | .hbm, ⟨96, _⟩ => ⟨S2048x1, .f32⟩
  | .hbm, ⟨97, _⟩ => ⟨S_, .f32⟩
  | .hbm, ⟨98, _⟩ => ⟨S2048, .f32⟩
  | .hbm, ⟨99, _⟩ => ⟨S2048x2048, .f32⟩
  | .hbm, ⟨100, _⟩ => ⟨S2048x2048, .f32⟩
  | .hbm, ⟨101, _⟩ => ⟨S2048x2048, .f32⟩
  | .hbm, ⟨102, _⟩ => ⟨S2048x2048, .f32⟩
  | .hbm, ⟨103, _⟩ => ⟨S2048x2048, .f32⟩
  | .hbm, ⟨104, _⟩ => ⟨S8x128, .f32⟩
  | .hbm, ⟨105, _⟩ => ⟨S2048x2048, .bf16⟩
  | .hbm, ⟨106, _⟩ => ⟨S_, .f32⟩
  | .hbm, ⟨107, _⟩ => ⟨S1x2048, .f32⟩
  | .hbm, ⟨108, _⟩ => ⟨S2x2048, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_cst_12 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_18 : Ref sig .tc := ⟨.hbm, 94, rfl⟩
abbrev main_v70 : Ref sig .tc := ⟨.hbm, 95, rfl⟩
abbrev main_v71 : Ref sig .tc := ⟨.hbm, 96, rfl⟩
abbrev main_cst_19 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_20 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== Post.lean ====
abbrev S2304x2048 : Shape := ⟨2, ![2304, 2048]⟩
abbrev S1x2048 : Shape := ⟨2, ![1, 2048]⟩
abbrev S2x2048 : Shape := ⟨2, ![2, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S1x2048, .f32⟩
  | .hbm, ⟨3, _⟩ => ⟨S2x2048, .f32⟩
  | .hbm, ⟨4, _⟩ => ⟨S1x2048, .f32⟩
  | .hbm, ⟨5, _⟩ => ⟨S2x2048, .f32⟩
  | .hbm, ⟨6, _⟩ => ⟨S2x2048, .f32⟩
  | .hbm, ⟨7, _⟩ => ⟨S2304x2048, .f32⟩
  | .hbm, ⟨8, _⟩ => ⟨S2304x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2x2048, .f32⟩
  | .local _ .vmem, ⟨6, _⟩ => ⟨S1x2048, .f32⟩
  | .local _ .vmem, ⟨7, _⟩ => ⟨S2x2048, .f32⟩
  | .local _ .vmem, ⟨8, _⟩ => ⟨S2x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostRefIdeal.lean ====
abbrev S2304x2048 : Shape := ⟨2, ![2304, 2048]⟩
abbrev S1x2048 : Shape := ⟨2, ![1, 2048]⟩
abbrev S2x2048 : Shape := ⟨2, ![2, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 100
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S1x2048, .f32⟩
  | .hbm, ⟨3, _⟩ => ⟨S2x2048, .f32⟩
  | .hbm, ⟨4, _⟩ => ⟨S1x2048, .f32⟩
  | .hbm, ⟨5, _⟩ => ⟨S2x2048, .f32⟩
  | .hbm, ⟨6, _⟩ => ⟨S2x2048, .f32⟩
  | .hbm, ⟨7, _⟩ => ⟨S256x2048, .f32⟩
  | .hbm, ⟨8, _⟩ => ⟨S256x2048, .f32⟩
  | .hbm, ⟨9, _⟩ => ⟨S1x2048, .f32⟩
  | .hbm, ⟨10, _⟩ => ⟨S256x2048, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S2048x2048, .f32⟩
  | .hbm, ⟨29, _⟩ => ⟨S2048x2048, .f32⟩
  | .hbm, ⟨30, _⟩ => ⟨S1x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S1x2048, .f32⟩
  | .hbm, ⟨50, _⟩ => ⟨S1x2048, .f32⟩
  | .hbm, ⟨51, _⟩ => ⟨S256x2048, .f32⟩
  | .hbm, ⟨52, _⟩ => ⟨S_, .f32⟩
  | .hbm, ⟨53, _⟩ => ⟨S256, .f32⟩
  | .hbm, ⟨54, _⟩ => ⟨S256x1, .f32⟩
  | .hbm, ⟨55, _⟩ => ⟨S_, .f32⟩
  | .hbm, ⟨56, _⟩ => ⟨S256x1, .f32⟩
  | .hbm, ⟨57, _⟩ => ⟨S256x1, .f32⟩
  | .hbm, ⟨58, _⟩ => ⟨S_, .f32⟩
  | .hbm, ⟨59, _⟩ => ⟨S256x1, .f32⟩
  | .hbm, ⟨60, _⟩ => ⟨S256x1, .f32⟩
  | .hbm, ⟨61, _⟩ => ⟨S256x1, .f32⟩
  | .hbm, ⟨62, _⟩ => ⟨S256x2048, .f32⟩
  | .hbm, ⟨63, _⟩ => ⟨S256x2048, .f32⟩
  | .hbm, ⟨64, _⟩ => ⟨S256x2048, .f32⟩
  | .hbm, ⟨65, _⟩ => ⟨S256x2048, .f32⟩
  | .hbm, ⟨66, _⟩ => ⟨S_, .f32⟩
  | .hbm, ⟨67, _⟩ => ⟨S1x2048, .f32⟩
  | .hbm, ⟨68, _⟩ => ⟨S1x2048, .f32⟩
  | .hbm, ⟨69, _⟩ => ⟨S256x2048, .f32⟩
  | .hbm, ⟨70, _⟩ => ⟨S256x2048, .f32⟩
  | .hbm, ⟨71, _⟩ => ⟨S256x2048, .f32⟩
  | .hbm, ⟨72, _⟩ => ⟨S256x2048, .f32⟩
  | .hbm, ⟨73, _⟩ => ⟨S1x2048, .f32⟩
  | .hbm, ⟨74, _⟩ => ⟨S1x2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S2048x1, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S_, .f32⟩
  | .hbm, ⟨91, _⟩ => ⟨S1x2048, .f32⟩
  | .hbm, ⟨92, _⟩ => ⟨S1x2048, .f32⟩
  | .hbm, ⟨93, _⟩ => ⟨S2048x2048, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S2304x2048, .f32⟩
  | .hbm, ⟨98, _⟩ => ⟨S2304x2048, .f32⟩
  | .hbm, ⟨99, _⟩ => ⟨S2304x2048, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_12 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]
-- ==== ConvF.lean ====
abbrev S6x2304x1024 : Shape := ⟨3, ![6, 2304, 1024]⟩
abbrev S3x1024 : Shape := ⟨2, ![3, 1024]⟩
abbrev S1x1024 : Shape := ⟨2, ![1, 1024]⟩
abbrev S2304x2048 : Shape := ⟨2, ![2304, 2048]⟩
abbrev S1x2304x128 : Shape := ⟨3, ![1, 2304, 128]⟩
abbrev S3x128 : Shape := ⟨2, ![3, 128]⟩
abbrev S1x128 : Shape := ⟨2, ![1, 128]⟩
abbrev S2304x128 : Shape := ⟨2, ![2304, 128]⟩
abbrev S2304x1 : Shape := ⟨2, ![2304, 1]⟩

abbrev nBuf : Space → Nat
  | .hbm => 5
  | .vmem => 14
  | .smem => 0
  | _ => 0

abbrev bufTy : (tb : Table) → Fin (tcTables nBuf tb) → BufTy
  | .hbm, ⟨0, _⟩ => ⟨S6x2304x1024, .f32⟩
  | .hbm, ⟨1, _⟩ => ⟨S3x1024, .f32⟩
  | .hbm, ⟨2, _⟩ => ⟨S1x1024, .f32⟩
  | .hbm, ⟨3, _⟩ => ⟨S2304x2048, .bf16⟩
  | .hbm, ⟨4, _⟩ => ⟨S2304x2048, .bf16⟩
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x2304x128, .f32⟩
  | .local _ .vmem, ⟨7, _⟩ => ⟨S1x2304x128, .f32⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S2304x128, .bf16⟩
  | .local _ .vmem, ⟨13, _⟩ => ⟨S2304x128, .bf16⟩
  | _, _ => ⟨S6x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat, arg0.toNat]

def cc0_transform_3 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2304x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFRefIdeal.lean ====
abbrev S6x2304x1024 : Shape := ⟨3, ![6, 2304, 1024]⟩
abbrev S3x1024 : Shape := ⟨2, ![3, 1024]⟩
abbrev S1x1024 : Shape := ⟨2, ![1, 1024]⟩
abbrev S2304x2048 : Shape := ⟨2, ![2304, 2048]⟩
abbrev S2304x1024 : Shape := ⟨2, ![2304, 1024]⟩
abbrev S1x256x1024 : Shape := ⟨3, ![1, 256, 1024]⟩
abbrev S1024 : Shape := ⟨1, ![1024]⟩
abbrev S1x1x1024 : Shape := ⟨3, ![1, 1, 1024]⟩
abbrev S_ : Shape := ⟨0, ![]⟩
abbrev S1x258x1024 : Shape := ⟨3, ![1, 258, 1024]⟩
abbrev S1x2048x1024 : Shape := ⟨3, ![1, 2048, 1024]⟩
abbrev S1x2050x1024 : Shape := ⟨3, ![1, 2050, 1024]⟩
abbrev S256x1024 : Shape := ⟨2, ![256, 1024]⟩
abbrev S2048x1024 : Shape := ⟨2, ![2048, 1024]⟩

abbrev nBuf : Space → Nat
  | .hbm => 98
  | .vmem => 0
  | .smem => 0
  | _ => 0

abbrev bufTy : (tb : Table) → Fin (tcTables nBuf tb) → BufTy
  | .hbm, ⟨0, _⟩ => ⟨S6x2304x1024, .f32⟩
  | .hbm, ⟨1, _⟩ => ⟨S3x1024, .f32⟩
  | .hbm, ⟨2, _⟩ => ⟨S1x1024, .f32⟩
  | .hbm, ⟨3, _⟩ => ⟨S2304x2048, .bf16⟩
  | .hbm, ⟨4, _⟩ => ⟨S2304x1024, .bf16⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .hbm, ⟨9, _⟩ => ⟨S1024, .f32⟩
  | .hbm, ⟨10, _⟩ => ⟨S1x256x1024, .f32⟩
  | .hbm, ⟨11, _⟩ => ⟨S1x1x1024, .f32⟩
  | .hbm, ⟨12, _⟩ => ⟨S_, .f32⟩
  | .hbm, ⟨13, _⟩ => ⟨S1x1x1024, .f32⟩
  | .hbm, ⟨14, _⟩ => ⟨S1x258x1024, .f32⟩
  | .hbm, ⟨15, _⟩ => ⟨S1x256x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S1x256x1024, .f32⟩
  | .hbm, ⟨20, _⟩ => ⟨S1x256x1024, .f32⟩
  | .hbm, ⟨21, _⟩ => ⟨S1x256x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S1x256x1024, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S1x1x1024, .f32⟩
  | .hbm, ⟨36, _⟩ => ⟨S1x256x1024, .f32⟩
  | .hbm, ⟨37, _⟩ => ⟨S1x256x1024, .f32⟩
  | .hbm, ⟨38, _⟩ => ⟨S1x256x1024, .f32⟩
  | .hbm, ⟨39, _⟩ => ⟨S1x256x1024, .f32⟩
  | .hbm, ⟨40, _⟩ => ⟨S1x256x1024, .f32⟩
  | .hbm, ⟨41, _⟩ => ⟨S_, .f32⟩
  | .hbm, ⟨42, _⟩ => ⟨S1x256x1024, .f32⟩
  | .hbm, ⟨43, _⟩ => ⟨S1x256x1024, .f32⟩
  | .hbm, ⟨44, _⟩ => ⟨S_, .f32⟩
  | .hbm, ⟨45, _⟩ => ⟨S1x256x1024, .f32⟩
  | .hbm, ⟨46, _⟩ => ⟨S1x256x1024, .f32⟩
  | .hbm, ⟨47, _⟩ => ⟨S1x256x1024, .f32⟩
  | .hbm, ⟨48, _⟩ => ⟨S1x256x1024, .f32⟩
  | .hbm, ⟨49, _⟩ => ⟨S1x2048x1024, .f32⟩
  | .hbm, ⟨50, _⟩ => ⟨S1x2048x1024, .f32⟩
  | .hbm, ⟨51, _⟩ => ⟨S1x2048x1024, .f32⟩
  | .hbm, ⟨52, _⟩ => ⟨S1x2048x1024, .f32⟩
  | .hbm, ⟨53, _⟩ => ⟨S1024, .f32⟩
  | .hbm, ⟨54, _⟩ => ⟨S1x2048x1024, .f32⟩
  | .hbm, ⟨55, _⟩ => ⟨S1x1x1024, .f32⟩
  | .hbm, ⟨56, _⟩ => ⟨S_, .f32⟩
  | .hbm, ⟨57, _⟩ => ⟨S1x1x1024, .f32⟩
  | .hbm, ⟨58, _⟩ => ⟨S1x2050x1024, .f32⟩
  | .hbm, ⟨59, _⟩ => ⟨S1x2048x1024, .f32⟩
  | .hbm, ⟨60, _⟩ => ⟨S1x1024, .f32⟩
  | .hbm, ⟨61, _⟩ => ⟨S1024, .f32⟩
  | .hbm, ⟨62, _⟩ => ⟨S1x1x1024, .f32⟩
  | .hbm, ⟨63, _⟩ => ⟨S1x2048x1024, .f32⟩
  | .hbm, ⟨64, _⟩ => ⟨S1x2048x1024, .f32⟩
  | .hbm, ⟨65, _⟩ => ⟨S1x2048x1024, .f32⟩
  | .hbm, ⟨66, _⟩ => ⟨S1x1024, .f32⟩
  | .hbm, ⟨67, _⟩ => ⟨S1024, .f32⟩
  | .hbm, ⟨68, _⟩ => ⟨S1x1x1024, .f32⟩
  | .hbm, ⟨69, _⟩ => ⟨S1x2048x1024, .f32⟩
  | .hbm, ⟨70, _⟩ => ⟨S1x2048x1024, .f32⟩
  | .hbm, ⟨71, _⟩ => ⟨S1x2048x1024, .f32⟩
  | .hbm, ⟨72, _⟩ => ⟨S1x2048x1024, .f32⟩
  | .hbm, ⟨73, _⟩ => ⟨S1x1024, .f32⟩
  | .hbm, ⟨74, _⟩ => ⟨S1024, .f32⟩
  | .hbm, ⟨75, _⟩ => ⟨S1x1x1024, .f32⟩
  | .hbm, ⟨76, _⟩ => ⟨S1x2048x1024, .f32⟩
  | .hbm, ⟨77, _⟩ => ⟨S1x2048x1024, .f32⟩
  | .hbm, ⟨78, _⟩ => ⟨S1x2048x1024, .f32⟩
  | .hbm, ⟨79, _⟩ => ⟨S1x1x1024, .f32⟩
  | .hbm, ⟨80, _⟩ => ⟨S1x2048x1024, .f32⟩
  | .hbm, ⟨81, _⟩ => ⟨S1x2048x1024, .f32⟩
  | .hbm, ⟨82, _⟩ => ⟨S1x2048x1024, .f32⟩
  | .hbm, ⟨83, _⟩ => ⟨S1x2048x1024, .f32⟩
  | .hbm, ⟨84, _⟩ => ⟨S1x2048x1024, .f32⟩
  | .hbm, ⟨85, _⟩ => ⟨S_, .f32⟩
  | .hbm, ⟨86, _⟩ => ⟨S1x2048x1024, .f32⟩
  | .hbm, ⟨87, _⟩ => ⟨S1x2048x1024, .f32⟩
  | .hbm, ⟨88, _⟩ => ⟨S_, .f32⟩
  | .hbm, ⟨89, _⟩ => ⟨S1x2048x1024, .f32⟩
  | .hbm, ⟨90, _⟩ => ⟨S1x2048x1024, .f32⟩
  | .hbm, ⟨91, _⟩ => ⟨S1x2048x1024, .f32⟩
  | .hbm, ⟨92, _⟩ => ⟨S1x2048x1024, .f32⟩
  | .hbm, ⟨93, _⟩ => ⟨S256x1024, .f32⟩
  | .hbm, ⟨94, _⟩ => ⟨S2048x1024, .f32⟩
  | .hbm, ⟨95, _⟩ => ⟨S2304x1024, .f32⟩
  | .hbm, ⟨96, _⟩ => ⟨S2304x1024, .bf16⟩
  | .hbm, ⟨97, _⟩ => ⟨S2304x2048, .bf16⟩
  | _, _ => ⟨S6x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== Small.lean ====
abbrev S8x24x2048 : Shape := ⟨3, ![8, 24, 2048]⟩
abbrev S32x2048 : Shape := ⟨2, ![32, 2048]⟩
abbrev S1x24x2048 : Shape := ⟨3, ![1, 24, 2048]⟩
abbrev S24x2048 : Shape := ⟨2, ![24, 2048]⟩
abbrev S3x2048 : Shape := ⟨2, ![3, 2048]⟩
abbrev S2x2048 : Shape := ⟨2, ![2, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x24x2048, .f32⟩
  | .hbm, ⟨1, _⟩ => ⟨S32x2048, .f32⟩
  | .local _ .vmem, ⟨0, _⟩ => ⟨S8x24x2048, .f32⟩
  | .local _ .vmem, ⟨1, _⟩ => ⟨S32x2048, .f32⟩
  | _, _ => ⟨S8x24x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SmallRefIdeal.lean ====
abbrev S8x24x2048 : Shape := ⟨3, ![8, 24, 2048]⟩
abbrev S_ : Shape := ⟨0, ![]⟩
abbrev S24x2048 : Shape := ⟨2, ![24, 2048]⟩
abbrev S3x2048 : Shape := ⟨2, ![3, 2048]⟩
abbrev S2x2048 : Shape := ⟨2, ![2, 2048]⟩
abbrev S32x2048 : Shape := ⟨2, ![32, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x24x2048, .f32⟩
  | .hbm, ⟨1, _⟩ => ⟨S_, .f32⟩
  | .hbm, ⟨2, _⟩ => ⟨S24x2048, .f32⟩
  | .hbm, ⟨3, _⟩ => ⟨S3x2048, .f32⟩
  | .hbm, ⟨4, _⟩ => ⟨S3x2048, .f32⟩
  | .hbm, ⟨5, _⟩ => ⟨S3x2048, .f32⟩
  | .hbm, ⟨6, _⟩ => ⟨S3x2048, .f32⟩
  | .hbm, ⟨7, _⟩ => ⟨S3x2048, .f32⟩
  | .hbm, ⟨8, _⟩ => ⟨S3x2048, .f32⟩
  | .hbm, ⟨9, _⟩ => ⟨S_, .f32⟩
  | .hbm, ⟨10, _⟩ => ⟨S2x2048, .f32⟩
  | .hbm, ⟨11, _⟩ => ⟨S32x2048, .f32⟩
  | _, _ => ⟨S8x24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== NormP.lean ====
abbrev S2304x2048 : Shape := ⟨2, ![2304, 2048]⟩
abbrev S1x2048 : Shape := ⟨2, ![1, 2048]⟩
abbrev S2x2048 : Shape := ⟨2, ![2, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 15
  | .vmem => 21
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S1x2048, .f32⟩
  | .hbm, ⟨3, _⟩ => ⟨S2x2048, .f32⟩
  | .hbm, ⟨4, _⟩ => ⟨S2048x2048, .f32⟩
  | .hbm, ⟨5, _⟩ => ⟨S2304x2048, .f32⟩
  | .hbm, ⟨6, _⟩ => ⟨S1x2048, .f32⟩
  | .hbm, ⟨7, _⟩ => ⟨S2x2048, .f32⟩
  | .hbm, ⟨8, _⟩ => ⟨S2304x2048, .f32⟩
  | .hbm, ⟨9, _⟩ => ⟨S1x2048, .f32⟩
  | .hbm, ⟨10, _⟩ => ⟨S2x2048, .f32⟩
  | .hbm, ⟨11, _⟩ => ⟨S2x2048, .f32⟩
  | .hbm, ⟨12, _⟩ => ⟨S2304x2048, .bf16⟩
  | .hbm, ⟨13, _⟩ => ⟨S2x2048, .f32⟩
  | .hbm, ⟨14, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S2x2048, .f32⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S2x2048, .f32⟩
  | .local _ .vmem, ⟨16, _⟩ => ⟨S2x2048, .f32⟩
  | .local _ .vmem, ⟨17, _⟩ => ⟨S256x2048, .bf16⟩
  | .local _ .vmem, ⟨18, _⟩ => ⟨S256x2048, .bf16⟩
  | .local _ .vmem, ⟨19, _⟩ => ⟨S2x2048, .f32⟩
  | .local _ .vmem, ⟨20, _⟩ => ⟨S1x2048, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== NormPRefIdeal.lean ====
abbrev S2304x2048 : Shape := ⟨2, ![2304, 2048]⟩
abbrev S1x2048 : Shape := ⟨2, ![1, 2048]⟩
abbrev S2x2048 : Shape := ⟨2, ![2, 2048]⟩
abbrev S2048x2048 : Shape := ⟨2, ![2048, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S2048 : Shape := ⟨1, ![2048]⟩
abbrev S2048x1 : Shape := ⟨2, ![2048, 1]⟩

abbrev nBuf : Space → Nat
  | .hbm => 247
  | .vmem => 0
  | .smem => 0
  | _ => 0

abbrev hbmTy0_0 (i : Nat) : BufTy := match i % 128 with
  | 0 => ⟨S2304x2048, .f32⟩
  | 1 => ⟨S2304x2048, .f32⟩
  | 2 => ⟨S1x2048, .f32⟩
  | 3 => ⟨S2x2048, .f32⟩
  | 4 => ⟨S2048x2048, .f32⟩
  | 5 => ⟨S2304x2048, .f32⟩
  | 6 => ⟨S1x2048, .f32⟩
  | 7 => ⟨S2x2048, .f32⟩
  | 8 => ⟨S256x2048, .f32⟩
  | 9 => ⟨S256x2048, .f32⟩
  | 10 => ⟨S1x2048, .f32⟩
  | 11 => ⟨S_, .f32⟩
  | 12 => ⟨S1x2048, .f32⟩
  | 13 => ⟨S256x2048, .f32⟩
  | 14 => ⟨S_, .f32⟩
  | 15 => ⟨S256, .f32⟩
  | 16 => ⟨S256x1, .f32⟩
  | 17 => ⟨S_, .f32⟩
  | 18 => ⟨S256x1, .f32⟩
  | 19 => ⟨S256x1, .f32⟩
  | 20 => ⟨S_, .f32⟩
  | 21 => ⟨S256x1, .f32⟩
  | 22 => ⟨S256x1, .f32⟩
  | 23 => ⟨S256x1, .f32⟩
  | 24 => ⟨S256x1, .f32⟩
  | 25 => ⟨S_, .f32⟩
  | 26 => ⟨S256x1, .f32⟩
  | 27 => ⟨S256x1, .f32⟩
  | 28 => ⟨S256x2048, .f32⟩
  | 29 => ⟨S256x2048, .f32⟩
  | 30 => ⟨S256x2048, .f32⟩
  | 31 => ⟨S256x2048, .f32⟩
  | 32 => ⟨S_, .f32⟩
  | 33 => ⟨S1x2048, .f32⟩
  | 34 => ⟨S1x2048, .f32⟩
  | 35 => ⟨S256x2048, .f32⟩
  | 36 => ⟨S256x2048, .f32⟩
  | 37 => ⟨S256x2048, .f32⟩
  | 38 => ⟨S256x2048, .f32⟩
  | 39 => ⟨S_, .f32⟩
  | 40 => ⟨S2048, .f32⟩
  | 41 => ⟨S1x2048, .f32⟩
  | 42 => ⟨S256x2048, .f32⟩
  | 43 => ⟨S_, .f32⟩
  | 44 => ⟨S2048, .f32⟩
  | 45 => ⟨S1x2048, .f32⟩
  | 46 => ⟨S256x2048, .f32⟩
  | 47 => ⟨S256x2048, .f32⟩
  | 48 => ⟨S256x2048, .f32⟩
  | 49 => ⟨S_, .f32⟩
  | 50 => ⟨S2048, .f32⟩
  | 51 => ⟨S1x2048, .f32⟩
  | 52 => ⟨S256x2048, .f32⟩
  | 53 => ⟨S256x2048, .f32⟩
  | 54 => ⟨S256x2048, .f32⟩
  | 55 => ⟨S_, .f32⟩
  | 56 => ⟨S256, .f32⟩
  | 57 => ⟨S256x1, .f32⟩
  | 58 => ⟨S256x2048, .f32⟩
  | 59 => ⟨S256x2048, .f32⟩
  | 60 => ⟨S256x1, .f32⟩
  | 61 => ⟨S_, .f32⟩
  | 62 => ⟨S256x1, .f32⟩
  | 63 => ⟨S256x1, .f32⟩
  | 64 => ⟨S_, .f32⟩
  | 65 => ⟨S256, .f32⟩
  | 66 => ⟨S256x2048, .f32⟩
  | 67 => ⟨S256x2048, .f32⟩
  | 68 => ⟨S256x2048, .f32⟩
  | 69 => ⟨S256x2048, .f32⟩
  | 70 => ⟨S256x2048, .f32⟩
  | 71 => ⟨S2048x2048, .f32⟩
  | 72 => ⟨S2048x2048, .f32⟩
  | 73 => ⟨S1x2048, .f32⟩
  | 74 => ⟨S_, .f32⟩
  | 75 => ⟨S1x2048, .f32⟩
  | 76 => ⟨S2048x2048, .f32⟩
  | 77 => ⟨S_, .f32⟩
  | 78 => ⟨S2048, .f32⟩
  | 79 => ⟨S2048x1, .f32⟩
  | 80 => ⟨S_, .f32⟩
  | 81 => ⟨S2048x1, .f32⟩
  | 82 => ⟨S2048x1, .f32⟩
  | 83 => ⟨S_, .f32⟩
  | 84 => ⟨S2048x1, .f32⟩
  | 85 => ⟨S2048x1, .f32⟩
  | 86 => ⟨S2048x1, .f32⟩
  | 87 => ⟨S2048x1, .f32⟩
  | 88 => ⟨S_, .f32⟩
  | 89 => ⟨S2048x1, .f32⟩
  | 90 => ⟨S2048x1, .f32⟩
  | 91 => ⟨S2048x2048, .f32⟩
  | 92 => ⟨S2048x2048, .f32⟩
  | 93 => ⟨S2048x2048, .f32⟩
  | 94 => ⟨S2048x2048, .f32⟩
  | 95 => ⟨S_, .f32⟩
  | 96 => ⟨S1x2048, .f32⟩
  | 97 => ⟨S1x2048, .f32⟩
  | 98 => ⟨S2048x2048, .f32⟩
  | 99 => ⟨S2048x2048, .f32⟩
  | 100 => ⟨S2048x2048, .f32⟩
  | 101 => ⟨S2048x2048, .f32⟩
  | 102 => ⟨S_, .f32⟩
  | 103 => ⟨S2048, .f32⟩
  | 104 => ⟨S1x2048, .f32⟩
  | 105 => ⟨S2048x2048, .f32⟩
  | 106 => ⟨S_, .f32⟩
  | 107 => ⟨S2048, .f32⟩
  | 108 => ⟨S1x2048, .f32⟩
  | 109 => ⟨S2048x2048, .f32⟩
  | 110 => ⟨S2048x2048, .f32⟩
  | 111 => ⟨S2048x2048, .f32⟩
  | 112 => ⟨S_, .f32⟩
  | 113 => ⟨S2048, .f32⟩
  | 114 => ⟨S1x2048, .f32⟩
  | 115 => ⟨S2048x2048, .f32⟩
  | 116 => ⟨S2048x2048, .f32⟩
  | 117 => ⟨S2048x2048, .f32⟩
  | 118 => ⟨S_, .f32⟩
  | 119 => ⟨S2048, .f32⟩
  | 120 => ⟨S2048x1, .f32⟩
  | 121 => ⟨S2048x2048, .f32⟩
  | 122 => ⟨S2048x2048, .f32⟩
  | 123 => ⟨S2048x1, .f32⟩
  | 124 => ⟨S_, .f32⟩
  | 125 => ⟨S2048x1, .f32⟩
  | 126 => ⟨S2048x1, .f32⟩
  | 127 => ⟨S_, .f32⟩
  | _ => ⟨S2304x2048, .f32⟩

abbrev hbmTy0_1 (i : Nat) : BufTy := match i % 128 with
  | 0 => ⟨S2048, .f32⟩
  | 1 => ⟨S2048x2048, .f32⟩
  | 2 => ⟨S2048x2048, .f32⟩
  | 3 => ⟨S2048x2048, .f32⟩
  | 4 => ⟨S2048x2048, .f32⟩
  | 5 => ⟨S2048x2048, .f32⟩
  | 6 => ⟨S2048x2048, .f32⟩
  | 7 => ⟨S256x2048, .f32⟩
  | 8 => ⟨S1x2048, .f32⟩
  | 9 => ⟨S256x2048, .f32⟩
  | 10 => ⟨S_, .f32⟩
  | 11 => ⟨S256, .f32⟩
  | 12 => ⟨S256x1, .f32⟩
  | 13 => ⟨S_, .f32⟩
  | 14 => ⟨S256x1, .f32⟩
  | 15 => ⟨S256x1, .f32⟩
  | 16 => ⟨S_, .f32⟩
  | 17 => ⟨S256x1, .f32⟩
  | 18 => ⟨S256x1, .f32⟩
  | 19 => ⟨S256x1, .f32⟩
  | 20 => ⟨S256x1, .f32⟩
  | 21 => ⟨S_, .f32⟩
  | 22 => ⟨S256x1, .f32⟩
  | 23 => ⟨S256x1, .f32⟩
  | 24 => ⟨S256x2048, .f32⟩
  | 25 => ⟨S256x2048, .f32⟩
  | 26 => ⟨S256x2048, .f32⟩
  | 27 => ⟨S256x2048, .f32⟩
  | 28 => ⟨S256x2048, .f32⟩
  | 29 => ⟨S256x2048, .f32⟩
  | 30 => ⟨S256x2048, .f32⟩
  | 31 => ⟨S256x2048, .f32⟩
  | 32 => ⟨S256x2048, .f32⟩
  | 33 => ⟨S_, .f32⟩
  | 34 => ⟨S2048, .f32⟩
  | 35 => ⟨S1x2048, .f32⟩
  | 36 => ⟨S256x2048, .f32⟩
  | 37 => ⟨S_, .f32⟩
  | 38 => ⟨S2048, .f32⟩
  | 39 => ⟨S1x2048, .f32⟩
  | 40 => ⟨S256x2048, .f32⟩
  | 41 => ⟨S256x2048, .f32⟩
  | 42 => ⟨S256x2048, .f32⟩
  | 43 => ⟨S_, .f32⟩
  | 44 => ⟨S256, .f32⟩
  | 45 => ⟨S256x1, .f32⟩
  | 46 => ⟨S256x2048, .f32⟩
  | 47 => ⟨S256x2048, .f32⟩
  | 48 => ⟨S256x1, .f32⟩
  | 49 => ⟨S_, .f32⟩
  | 50 => ⟨S256x1, .f32⟩
  | 51 => ⟨S256x1, .f32⟩
  | 52 => ⟨S_, .f32⟩
  | 53 => ⟨S256, .f32⟩
  | 54 => ⟨S256x2048, .f32⟩
  | 55 => ⟨S256x2048, .f32⟩
  | 56 => ⟨S256x2048, .f32⟩
  | 57 => ⟨S256x2048, .f32⟩
  | 58 => ⟨S256x2048, .f32⟩
  | 59 => ⟨S2048x2048, .f32⟩
  | 60 => ⟨S1x2048, .f32⟩
  | 61 => ⟨S2048x2048, .f32⟩
  | 62 => ⟨S_, .f32⟩
  | 63 => ⟨S2048, .f32⟩
  | 64 => ⟨S2048x1, .f32⟩
  | 65 => ⟨S_, .f32⟩
  | 66 => ⟨S2048x1, .f32⟩
  | 67 => ⟨S2048x1, .f32⟩
  | 68 => ⟨S_, .f32⟩
  | 69 => ⟨S2048x1, .f32⟩
  | 70 => ⟨S2048x1, .f32⟩
  | 71 => ⟨S2048x1, .f32⟩
  | 72 => ⟨S2048x1, .f32⟩
  | 73 => ⟨S_, .f32⟩
  | 74 => ⟨S2048x1, .f32⟩
  | 75 => ⟨S2048x1, .f32⟩
  | 76 => ⟨S2048x2048, .f32⟩
  | 77 => ⟨S2048x2048, .f32⟩
  | 78 => ⟨S2048x2048, .f32⟩
  | 79 => ⟨S2048x2048, .f32⟩
  | 80 => ⟨S2048x2048, .f32⟩
  | 81 => ⟨S2048x2048, .f32⟩
  | 82 => ⟨S2048x2048, .f32⟩
  | 83 => ⟨S2048x2048, .f32⟩
  | 84 => ⟨S2048x2048, .f32⟩
  | 85 => ⟨S_, .f32⟩
  | 86 => ⟨S2048, .f32⟩
  | 87 => ⟨S1x2048, .f32⟩
  | 88 => ⟨S2048x2048, .f32⟩
  | 89 => ⟨S_, .f32⟩
  | 90 => ⟨S2048, .f32⟩
  | 91 => ⟨S1x2048, .f32⟩
  | 92 => ⟨S2048x2048, .f32⟩
  | 93 => ⟨S2048x2048, .f32⟩
  | 94 => ⟨S2048x2048, .f32⟩
  | 95 => ⟨S_, .f32⟩
  | 96 => ⟨S2048, .f32⟩
  | 97 => ⟨S2048x1, .f32⟩
  | 98 => ⟨S2048x2048, .f32⟩
  | 99 => ⟨S2048x2048, .f32⟩
  | 100 => ⟨S2048x1, .f32⟩
  | 101 => ⟨S_, .f32⟩
  | 102 => ⟨S2048x1, .f32⟩
  | 103 => ⟨S2048x1, .f32⟩
  | 104 => ⟨S_, .f32⟩
  | 105 => ⟨S2048, .f32⟩
  | 106 => ⟨S2048x2048, .f32⟩
  | 107 => ⟨S2048x2048, .f32⟩
  | 108 => ⟨S2048x2048, .f32⟩
  | 109 => ⟨S2048x2048, .f32⟩
  | 110 => ⟨S2048x2048, .f32⟩
  | 111 => ⟨S2304x2048, .f32⟩
  | 112 => ⟨S1x2048, .f32⟩
  | 113 => ⟨S2x2048, .f32⟩
  | 114 => ⟨S2x2048, .f32⟩
  | 115 => ⟨S2304x2048, .f32⟩
  | 116 => ⟨S2304x2048, .bf16⟩
  | 117 => ⟨S2x2048, .f32⟩
  | 118 => ⟨S1x2048, .f32⟩
  | _ => ⟨S2304x2048, .f32⟩

abbrev hbmTy (i : Nat) : BufTy := match i / 128 with
  | 0 => hbmTy0_0 i
  | 1 => hbmTy0_1 i
  | _ => ⟨S2304x2048, .f32⟩

abbrev bufTy : (tb : Table) → Fin (tcTables nBuf tb) → BufTy
  | .hbm, ⟨i, _⟩ => hbmTy i
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_16 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_17 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_18 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_19 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_20 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_21 : Ref sig .tc := ⟨.hbm, 124, rfl⟩
abbrev main_v94 : Ref sig .tc := ⟨.hbm, 125, rfl⟩
abbrev main_v95 : Ref sig .tc := ⟨.hbm, 126, rfl⟩
abbrev main_cst_22 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_23 : Ref sig .tc := ⟨.hbm, 138, rfl⟩
abbrev main_v106 : Ref sig .tc := ⟨.hbm, 139, rfl⟩
abbrev main_v107 : Ref sig .tc := ⟨.hbm, 140, rfl⟩
abbrev main_cst_24 : Ref sig .tc := ⟨.hbm, 141, rfl⟩
abbrev main_v108 : Ref sig .tc := ⟨.hbm, 142, rfl⟩
abbrev main_v109 : Ref sig .tc := ⟨.hbm, 143, rfl⟩
abbrev main_cst_25 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_26 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_27 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_28 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_29 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_30 : Ref sig .tc := ⟨.hbm, 177, rfl⟩
abbrev main_v138 : Ref sig .tc := ⟨.hbm, 178, rfl⟩
abbrev main_v139 : Ref sig .tc := ⟨.hbm, 179, rfl⟩
abbrev main_cst_31 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_32 : Ref sig .tc := ⟨.hbm, 190, rfl⟩
abbrev main_v149 : Ref sig .tc := ⟨.hbm, 191, rfl⟩
abbrev main_v150 : Ref sig .tc := ⟨.hbm, 192, rfl⟩
abbrev main_cst_33 : Ref sig .tc := ⟨.hbm, 193, rfl⟩
abbrev main_v151 : Ref sig .tc := ⟨.hbm, 194, rfl⟩
abbrev main_v152 : Ref sig .tc := ⟨.hbm, 195, rfl⟩
abbrev main_cst_34 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_35 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_36 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_37 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_38 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_cst_39 : Ref sig .tc := ⟨.hbm, 229, rfl⟩
abbrev main_v181 : Ref sig .tc := ⟨.hbm, 230, rfl⟩
abbrev main_v182 : Ref sig .tc := ⟨.hbm, 231, rfl⟩
abbrev main_cst_40 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩

abbrev nD : Nat := 1
abbrev τ : Topo := Topo.v7x

variable {F : FTy → Type} [FloatOps F]
-- ==== LbG.lean ====
abbrev S2x3x512 : Shape := ⟨3, ![2, 3, 512]⟩
abbrev S2x512 : Shape := ⟨2, ![2, 512]⟩
abbrev S1x1x512 : Shape := ⟨3, ![1, 1, 512]⟩
abbrev S1x512 : Shape := ⟨2, ![1, 512]⟩

abbrev nBuf : Space → Nat
  | .hbm => 3
  | .vmem => 3
  | .smem => 0
  | _ => 0

abbrev bufTy : (tb : Table) → Fin (tcTables nBuf tb) → BufTy
  | .hbm, ⟨0, _⟩ => ⟨S2x3x512, .f32⟩
  | .hbm, ⟨1, _⟩ => ⟨S2x512, .f32⟩
  | .hbm, ⟨2, _⟩ => ⟨S2x3x512, .f32⟩
  | .local _ .vmem, ⟨0, _⟩ => ⟨S2x3x512, .f32⟩
  | .local _ .vmem, ⟨1, _⟩ => ⟨S2x512, .f32⟩
  | .local _ .vmem, ⟨2, _⟩ => ⟨S2x3x512, .f32⟩
  | _, _ => ⟨S2x3x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbGRefIdeal.lean ====
abbrev S2x3x512 : Shape := ⟨3, ![2, 3, 512]⟩
abbrev S2x512 : Shape := ⟨2, ![2, 512]⟩
abbrev S_ : Shape := ⟨0, ![]⟩
abbrev S2x1x512 : Shape := ⟨3, ![2, 1, 512]⟩

abbrev nBuf : Space → Nat
  | .hbm => 65
  | .vmem => 0
  | .smem => 0
  | _ => 0

abbrev bufTy : (tb : Table) → Fin (tcTables nBuf tb) → BufTy
  | .hbm, ⟨0, _⟩ => ⟨S2x3x512, .f32⟩
  | .hbm, ⟨1, _⟩ => ⟨S2x512, .f32⟩
  | .hbm, ⟨2, _⟩ => ⟨S_, .f32⟩
  | .hbm, ⟨3, _⟩ => ⟨S2x512, .f32⟩
  | .hbm, ⟨4, _⟩ => ⟨S2x1x512, .f32⟩
  | .hbm, ⟨5, _⟩ => ⟨S2x3x512, .f32⟩
  | .hbm, ⟨6, _⟩ => ⟨S2x3x512, .i1⟩
  | .hbm, ⟨7, _⟩ => ⟨S2x3x512, .f32⟩
  | .hbm, ⟨8, _⟩ => ⟨S_, .f32⟩
  | .hbm, ⟨9, _⟩ => ⟨S2x512, .f32⟩
  | .hbm, ⟨10, _⟩ => ⟨S_, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S2x512, .f32⟩
  | .hbm, ⟨15, _⟩ => ⟨S2x512, .i1⟩
  | .hbm, ⟨16, _⟩ => ⟨S_, .f32⟩
  | .hbm, ⟨17, _⟩ => ⟨S2x512, .f32⟩
  | .hbm, ⟨18, _⟩ => ⟨S2x512, .i1⟩
  | .hbm, ⟨19, _⟩ => ⟨S_, .f32⟩
  | .hbm, ⟨20, _⟩ => ⟨S2x512, .f32⟩
  | .hbm, ⟨21, _⟩ => ⟨S_, .f32⟩
  | .hbm, ⟨22, _⟩ => ⟨S2x512, .f32⟩
  | .hbm, ⟨23, _⟩ => ⟨S_, .f32⟩
  | .hbm, ⟨24, _⟩ => ⟨S2x512, .f32⟩
  | .hbm, ⟨25, _⟩ => ⟨S2x512, .f32⟩
  | .hbm, ⟨26, _⟩ => ⟨S2x512, .f32⟩
  | .hbm, ⟨27, _⟩ => ⟨S2x1x512, .f32⟩
  | .hbm, ⟨28, _⟩ => ⟨S2x3x512, .f32⟩
  | .hbm, ⟨29, _⟩ => ⟨S2x3x512, .f32⟩
  | .hbm, ⟨30, _⟩ => ⟨S2x3x512, .f32⟩
  | .hbm, ⟨31, _⟩ => ⟨S_, .f32⟩
  | .hbm, ⟨32, _⟩ => ⟨S2x512, .f32⟩
  | .hbm, ⟨33, _⟩ => ⟨S2x1x512, .f32⟩
  | .hbm, ⟨34, _⟩ => ⟨S2x3x512, .f32⟩
  | .hbm, ⟨35, _⟩ => ⟨S2x3x512, .f32⟩
  | .hbm, ⟨36, _⟩ => ⟨S2x1x512, .f32⟩
  | .hbm, ⟨37, _⟩ => ⟨S_, .f32⟩
  | .hbm, ⟨38, _⟩ => ⟨S2x1x512, .f32⟩
  | .hbm, ⟨39, _⟩ => ⟨S2x1x512, .f32⟩
  | .hbm, ⟨40, _⟩ => ⟨S_, .f32⟩
  | .hbm, ⟨41, _⟩ => ⟨S_, .f32⟩
  | .hbm, ⟨42, _⟩ => ⟨S2x3x512, .f32⟩
  | .hbm, ⟨43, _⟩ => ⟨S2x1x512, .f32⟩
  | .hbm, ⟨44, _⟩ => ⟨S2x512, .f32⟩
  | .hbm, ⟨45, _⟩ => ⟨S2x1x512, .f32⟩
  | .hbm, ⟨46, _⟩ => ⟨S_, .f32⟩
  | .hbm, ⟨47, _⟩ => ⟨S2x3x512, .f32⟩
  | .hbm, ⟨48, _⟩ => ⟨S_, .f32⟩
  | .hbm, ⟨49, _⟩ => ⟨S_, .f32⟩
  | .hbm, ⟨50, _⟩ => ⟨S2x3x512, .f32⟩
  | .hbm, ⟨51, _⟩ => ⟨S2x3x512, .f32⟩
  | .hbm, ⟨52, _⟩ => ⟨S2x3x512, .f32⟩
  | .hbm, ⟨53, _⟩ => ⟨S2x3x512, .f32⟩
  | .hbm, ⟨54, _⟩ => ⟨S_, .f32⟩
  | .hbm, ⟨55, _⟩ => ⟨S2x512, .f32⟩
  | .hbm, ⟨56, _⟩ => ⟨S2x1x512, .f32⟩
  | .hbm, ⟨57, _⟩ => ⟨S2x1x512, .f32⟩
  | .hbm, ⟨58, _⟩ => ⟨S2x3x512, .f32⟩
  | .hbm, ⟨59, _⟩ => ⟨S2x3x512, .f32⟩
  | .hbm, ⟨60, _⟩ => ⟨S_, .f32⟩
  | .hbm, ⟨61, _⟩ => ⟨S2x512, .f32⟩
  | .hbm, ⟨62, _⟩ => ⟨S2x3x512, .f32⟩
  | .hbm, ⟨63, _⟩ => ⟨S2x3x512, .f32⟩
  | .hbm, ⟨64, _⟩ => ⟨S2x3x512, .f32⟩
  | _, _ => ⟨S2x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_call1_call0_cst : Ref sig .tc := ⟨.hbm, 48, rfl⟩
abbrev main_call1_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Proof.Spec.lean ====
/-  The gradient of the gated three-tap convolution, written once over plain functions of natural-number coordinates: what
    both programs are shown to compute. An array is read at naturals (`at3`, `at2`), zero outside its extents, so that a
    pad, a shifted slice or a rotation is arithmetic on the coordinates. -/
module

public import Idealize.ShloMosaic.Lib.ValueIdx
public import Idealize.ShloMosaic.Lib.IdealHost
public import Idealize.ShloMosaic.PureOps.Ideal.Laws

@[expose] public section

noncomputable section

namespace Cert.Mix

open Idealize.ShloMosaic Idealize.ShloMosaic.ValueIdx

/-- A rank-3 array at natural coordinates, zero outside. -/
def at3 {a b c : ℕ} (x : (⟨3, ![a, b, c]⟩ : Shape).Idx → EReal) (s r l : ℕ) : EReal :=
  if h : s < a ∧ r < b ∧ l < c then x (ix3 ⟨s, h.1⟩ ⟨r, h.2.1⟩ ⟨l, h.2.2⟩) else 0

/-- A rank-2 array at natural coordinates, zero outside. -/
def at2 {a b : ℕ} (x : (⟨2, ![a, b]⟩ : Shape).Idx → EReal) (r l : ℕ) : EReal :=
  if h : r < a ∧ l < b then x (ix2 ⟨r, h.1⟩ ⟨l, h.2⟩) else 0

theorem read3 {a b c : ℕ} (x : (⟨3, ![a, b, c]⟩ : Shape).Idx → EReal) (k : (⟨3, ![a, b, c]⟩ : Shape).Idx) {s r l : ℕ}
    (hs : (k 0).val = s) (hr : (k 1).val = r) (hl : (k 2).val = l) : x k = at3 x s r l := by
  subst hs hr hl
  unfold at3
  rw [dif_pos ⟨(k 0).isLt, (k 1).isLt, (k 2).isLt⟩]
  exact congrArg x (eq_ix3 k)

theorem read2 {a b : ℕ} (x : (⟨2, ![a, b]⟩ : Shape).Idx → EReal) (k : (⟨2, ![a, b]⟩ : Shape).Idx) {r l : ℕ}
    (hr : (k 0).val = r) (hl : (k 1).val = l) : x k = at2 x r l := by
  subst hr hl
  unfold at2
  rw [dif_pos ⟨(k 0).isLt, (k 1).isLt⟩]
  exact congrArg x (eq_ix2 k)

section Formula

variable (z : ℕ → ℕ → ℕ → EReal) (d w : ℕ → ℕ → EReal) (b : ℕ → EReal)

/-- The convolved product at row `r`, column `l`. -/
def tt (r l : ℕ) : EReal := z 4 r l * z 2 r l

/-- Its value one row up inside the row's own segment (rows 0–255, rows 256–2303), zero at the segment's first row. -/
def prev (r l : ℕ) : EReal := if r = 0 ∨ r = 256 then 0 else tt z (r - 1) l

/-- One row down, zero at the segment's last row. -/
def next (r l : ℕ) : EReal := if r = 255 ∨ r = 2303 then 0 else tt z (r + 1) l

/-- The convolution. -/
def cv (r l : ℕ) : EReal := prev z r l * w 0 l + tt z r l * w 1 l + next z r l * w 2 l + b l

/-- The gate's logistic. -/
def sg (r l : ℕ) : EReal := Ideal.logistic (z 5 r l)

/-- The cotangent of the convolution. -/
def dcv (r l : ℕ) : EReal := d r l * z 3 r l * (z 5 r l * sg z r l)

/-- The cotangent of the convolved product: the transposed convolution, segment by segment. -/
def dt (r l : ℕ) : EReal :=
  (if r = 255 ∨ r = 2303 then 0 else dcv z d (r + 1) l * w 0 l) + dcv z d r l * w 1 l
    + (if r = 0 ∨ r = 256 then 0 else dcv z d (r - 1) l * w 2 l)

/-- The four sections of the gradient of `z`. -/
def dz (s r l : ℕ) : EReal := match s with
  | 0 => dt z d w r l * z 4 r l
  | 1 => d r l * cv z w b r l * (z 5 r l * sg z r l)
  | 2 => dt z d w r l * z 2 r l
  | _ => d r l * z 3 r l * cv z w b r l * (sg z r l * (1 + z 5 r l * (1 - sg z r l)))

/-- The tap the weight `k` meets. -/
def tap (k r l : ℕ) : EReal := match k with
  | 0 => prev z r l
  | 1 => tt z r l
  | _ => next z r l

/-- The gradient of the taps' weights. -/
def dw (k l : ℕ) : EReal := ∑ r ∈ Finset.range 2304, dcv z d r l * tap z k r l

/-- The gradient of the bias. -/
def db (l : ℕ) : EReal := ∑ r ∈ Finset.range 2304, dcv z d r l

end Formula

/-- A function of rows and columns summed over the rows `o … o + n - 1`. -/
def part (f : ℕ → ℕ → EReal) (o n l : ℕ) : EReal := ∑ k : Fin n, f (o + k.val) l

/-- The four arguments at natural coordinates: the sections, the cotangent's second half, the weights, the bias. -/
abbrev Z (x : (⟨3, ![6, 2304, 1024]⟩ : Shape).Idx → EReal) : ℕ → ℕ → ℕ → EReal := at3 x
abbrev D (x : (⟨2, ![2304, 2048]⟩ : Shape).Idx → EReal) (r l : ℕ) : EReal := at2 x r (1024 + l)
abbrev W (x : (⟨2, ![3, 1024]⟩ : Shape).Idx → EReal) : ℕ → ℕ → EReal := at2 x
abbrev B (x : (⟨2, ![1, 1024]⟩ : Shape).Idx → EReal) (l : ℕ) : EReal := at2 x 0 l

/-- A sum over the rows is the sum over the first segment and the sum over the second. -/
theorem sum_rows (f : ℕ → EReal) :
    ∑ r ∈ Finset.range 2304, f r = (∑ k : Fin 256, f (0 + k.val)) + ∑ k : Fin 2048, f (256 + k.val) := by
  simp only [Nat.zero_add]
  rw [show (2304 : ℕ) = 256 + 2048 from rfl, Finset.sum_range_add, Finset.sum_range, Finset.sum_range]

/-- A value that is a real number. -/
def Real (x : EReal) : Prop := ∃ v : ℝ, x = (v : EReal)

theorem Real.zero : Real 0 := ⟨0, rfl⟩
theorem Real.add {x y : EReal} : Real x → Real y → Real (x + y)
  | ⟨a, ha⟩, ⟨b, hb⟩ => ⟨a + b, by rw [ha, hb, EReal.coe_add]⟩
theorem Real.mul {x y : EReal} : Real x → Real y → Real (x * y)
  | ⟨a, ha⟩, ⟨b, hb⟩ => ⟨a * b, by rw [ha, hb, EReal.coe_mul]⟩
theorem Real.ite {p : Prop} [Decidable p] {x y : EReal} (hx : Real x) (hy : Real y) : Real (if p then x else y) := by
  split <;> assumption

/-- The gate's derivative, the kernel's product against the derivative taken term by term: equal at real numbers. -/
theorem gate_eq {ct q s : EReal} (hc : Real ct) (hq : Real q) (hs : Real s) :
    ct * (s * (1 + q * (1 - s))) = ct * s + q * ct * (s * (1 - s)) := by
  obtain ⟨c, rfl⟩ := hc
  obtain ⟨a, rfl⟩ := hq
  obtain ⟨t, rfl⟩ := hs
  rw [show (1 : EReal) = ((1 : ℝ) : EReal) from rfl]
  simp only [← EReal.coe_mul, ← EReal.coe_add, ← EReal.coe_sub]
  exact congrArg _ (by ring)

theorem real_logistic {x : EReal} : Real x → Real (Ideal.logistic x)
  | ⟨a, ha⟩ => ⟨_, by rw [ha, Ideal.logistic_coe]⟩

theorem real_cv {z : ℕ → ℕ → ℕ → EReal} {w : ℕ → ℕ → EReal} {b : ℕ → EReal} (hz : ∀ s r l, Real (z s r l))
    (hw : ∀ k l, Real (w k l)) (hb : ∀ l, Real (b l)) (r l : ℕ) : Real (cv z w b r l) := by
  have ht : ∀ r, Real (tt z r l) := fun r => (hz 4 r l).mul (hz 2 r l)
  exact ((((Real.zero.ite (ht _)).mul (hw 0 l)).add ((ht r).mul (hw 1 l))).add ((Real.zero.ite (ht _)).mul (hw 2 l))).add (hb l)

end Cert.Mix

end
-- ==== Proof.KernelValue.lean ====
/-  The kernel's three results: each block a grid point writes is the gradient as Spec.lean writes it, at the block's columns;
    so the three arrays are. The body's values are read first over any block given by functions of natural coordinates, then
    the blocks are the arguments' at columns `128 t + l`. -/
module

public import proofs.«01_k».proof.Proof.Spec
public import proofs.«01_k».proof.Proof.Gen.KernelIdeal.Value
public import Idealize.ShloMosaic.Lib.KernelVsHost
public import Idealize.ShloMosaic.Lib.Pipeline.ValueKit.Tiles

@[expose] public section

noncomputable section

namespace Cert.KernelIdeal.At

open Cert.KernelIdeal Cert.KernelIdeal.Gen Cert.Mix Idealize.ShloMosaic Idealize.ShloMosaic.ValueIdx

/-- A vector that is 0 at two rows and 1 elsewhere, as the body writes it. -/
theorem mask (r p q : ℕ) (hr : r < 2304) (hp : p < 2304) (hq : q < 2304) :
    Scalar.select (IntOp.ori (IntOp.cmpi .eq (BitVec.ofNat 32 r) (BitVec.ofNat 32 p)) (IntOp.cmpi .eq (BitVec.ofNat 32 r) (BitVec.ofNat 32 q)))
      (Ideal.ofBits .f32 0x00000000#32) (Ideal.ofBits .f32 0x3F800000#32) = if r = p ∨ r = q then (0 : EReal) else 1 := by
  rw [Ideal.ofBits_zero_f32, Ideal.ofBits_one_f32]
  have e : ∀ s, s < 2304 → ((BitVec.ofNat 32 r == BitVec.ofNat 32 s) = decide (r = s)) := fun s hs => by
    rw [Bool.eq_iff_iff, beq_iff_eq, decide_eq_true_iff, ← BitVec.toNat_inj, BitVec.toNat_ofNat, BitVec.toNat_ofNat]
    omega
  unfold IntOp.cmpi IntOp.ori Scalar.select
  simp only [e p hp, e q hq]
  have key : ∀ a b : Bool, (if BitVec.ofBool a ||| BitVec.ofBool b = 1 then (0 : EReal) else 1) = if a = true ∨ b = true then 0 else 1 :=
    fun a b => by cases a <;> cases b <;> rfl
  refine (key _ _).trans ?_
  simp only [decide_eq_true_eq]

theorem pay1_at (i : S2304x1.Idx) : k0_pay1 (F := Ideal) i = if (i 0).val = 0 ∨ (i 0).val = 256 then (0 : EReal) else 1 := by
  rw [← mask (i 0).val 0 256 (i 0).isLt (by decide) (by decide)]
  unfold k0_pay1
  show Scalar.select (IntOp.ori (IntOp.cmpi .eq (iota .tc S2304x1 32 [0] _ i) _) (IntOp.cmpi .eq (iota .tc S2304x1 32 [0] _ i) _)) _ _ = _
  rw [iota_single_apply]
  rfl

theorem pay2_at (i : S2304x1.Idx) : k0_pay2 (F := Ideal) i = if (i 0).val = 255 ∨ (i 0).val = 2303 then (0 : EReal) else 1 := by
  rw [← mask (i 0).val 255 2303 (i 0).isLt (by decide) (by decide)]
  unfold k0_pay2
  show Scalar.select (IntOp.ori (IntOp.cmpi .eq (iota .tc S2304x1 32 [0] _ i) _) (IntOp.cmpi .eq (iota .tc S2304x1 32 [0] _ i) _)) _ _ = _
  rw [iota_single_apply]
  rfl

/-- A column spread over the lanes, and a row spread over the rows. -/
theorem col_at (x : FVec Ideal S2304x1 .f32) (j : S2304x128.Idx) :
    broadcastTo S2304x128 x broadcasts_S2304x1_S2304x128 j = x (ix2 (j 0) 0) :=
  broadcastTo_apply x _ j (ix2 (j 0) 0) fun a => match a with | ⟨0, _⟩ => rfl | ⟨1, _⟩ => rfl

theorem row_at (x : FVec Ideal S1x128 .f32) (j : S2304x128.Idx) :
    broadcastTo S2304x128 x broadcasts_S1x128_S2304x128 j = x (ix2 0 (j 1)) :=
  broadcastTo_apply x _ j (ix2 0 (j 1)) fun a => match a with | ⟨0, _⟩ => rfl | ⟨1, _⟩ => rfl

/-- The rotations by one row. -/
theorem down_at (x : FVec Ideal S2304x128 .f32) (f : ℕ → ℕ → EReal) (hx : ∀ j, x j = f (j 0).val (j 1).val) (j : S2304x128.Idx) :
    dynamicRotate 0 1#32 none x rotates_S2304x128_d0 j = f (((j 0).val + 2303) % 2304) (j 1).val := by
  have hl := (j 0).isLt
  rw [dynamicRotate_apply 0 1#32 x _ j (ix2 ⟨((j 0).val + 2303) % 2304, Nat.mod_lt _ (by decide)⟩ (j 1)) fun b => match b with | ⟨0, _⟩ => rfl | ⟨1, _⟩ => rfl, hx]

theorem up_at (x : FVec Ideal S2304x128 .f32) (f : ℕ → ℕ → EReal) (hx : ∀ j, x j = f (j 0).val (j 1).val) (j : S2304x128.Idx) :
    dynamicRotate 0 2303#32 none x rotates_S2304x128_d0 j = f (((j 0).val + 1) % 2304) (j 1).val := by
  rw [dynamicRotate_apply 0 2303#32 x _ j (ix2 ⟨((j 0).val + 1) % 2304, Nat.mod_lt _ (by decide)⟩ (j 1)) fun b => match b with
    | ⟨0, _⟩ => by show ((j 0).val + 1) % 2304 = ((j 0).val + 2304 - 2303) % 2304; omega
    | ⟨1, _⟩ => rfl, hx]

/-- A block's column sums, laid out as one row. -/
theorem colsum_at (x : FVec Ideal S2304x128 .f32) (f : ℕ → ℕ → EReal) (hx : ∀ j, x j = f (j 0).val (j 1).val)
    (hf : FKind.Formats .f32) (ha : (0x00000000#32 : BitVec 32) = FKind.add.neutral .f32 hf) (i : S1x128.Idx) :
    shapeCast S1x128 (multiReduction .add [0] S128 x 0x00000000#32 reduces_S2304x128_S128 hf ha) shapeCasts_S128_S1x128 i
      = ∑ r ∈ Finset.range 2304, f r (i 1).val := by
  refine (shapeCast_addUnit_apply ![128] _ shapeCasts_S128_S1x128 i).trans ?_
  refine (Ideal.multiReduction_add_single (a := 0) x _ reduces_S2304x128_S128 hf ha _).trans ?_
  rw [Finset.sum_range]
  exact Finset.sum_congr rfl fun k _ => hx _

section Block

variable {z : ℕ → ℕ → ℕ → EReal} {d w : ℕ → ℕ → EReal} {b : ℕ → EReal}

/-- A block given by a function of the row and the lane. -/
def Is (x : S2304x128.Idx → EReal) (f : ℕ → ℕ → EReal) : Prop := ∀ j, x j = f (j 0).val (j 1).val
/-- A block with a leading unit axis, likewise. -/
def Is1 (x : S1x2304x128.Idx → EReal) (f : ℕ → ℕ → EReal) : Prop := ∀ j, x j = f (j 1).val (j 2).val
/-- A row of lanes. -/
def IsRow (x : S1x128.Idx → EReal) (f : ℕ → EReal) : Prop := ∀ j, x j = f (j 1).val

theorem drop_is {x : FVec Ideal S1x2304x128 .f32} {f : ℕ → ℕ → EReal} (h : Is1 x f) :
    Is (shapeCast S2304x128 x shapeCasts_S1x2304x128_S2304x128) f := fun j =>
  (shapeCast_dropUnit_apply ![2304, 128] x shapeCasts_S1x2304x128_S2304x128 j).trans (h _)

theorem add_is {x : FVec Ideal S2304x128 .bf16} {f : ℕ → ℕ → EReal} (h : Is x f) :
    Is1 (shapeCast S1x2304x128 x shapeCasts_S2304x128_S1x2304x128) f := fun j =>
  (shapeCast_addUnit_apply ![2304, 128] x shapeCasts_S2304x128_S1x2304x128 j).trans (h _)

variable {v17 v21 : Vec Ideal S1x2304x128 .f32} {v20 v22 v18 v24 v25 v26 v29 v32 v70 : FVec Ideal S2304x128 .f32} {v33 v34 v35 v44 : Vec Ideal S1x128 .f32}

theorem pay7_is (h17 : Is1 v17 (z 2)) (h21 : Is1 v21 (z 4)) : Is (k0_pay7 (F := Ideal) v17 v21) (tt z) := fun j => by
  unfold k0_pay7 k0_pay5 k0_pay3
  rw [mulf_apply, drop_is h17 j, drop_is h21 j]
  rfl

theorem pay8_is (h17 : Is1 v17 (z 2)) (h21 : Is1 v21 (z 4)) : Is (k0_pay8 (F := Ideal) v17 v21) (prev z) := fun j => by
  have hl : (j 0).val < 2304 := (j 0).isLt
  unfold k0_pay8
  rw [mulf_apply, col_at, pay1_at, down_at _ _ (pay7_is h17 h21)]
  unfold prev
  show _ * (if (j 0).val = 0 ∨ (j 0).val = 256 then (0 : EReal) else 1) = _
  split
  · exact mul_zero _
  · rename_i hn
    rw [mul_one, show ((j 0).val + 2303) % 2304 = (j 0).val - 1 by omega]

theorem pay9_is (h17 : Is1 v17 (z 2)) (h21 : Is1 v21 (z 4)) : Is (k0_pay9 (F := Ideal) v17 v21) (next z) := fun j => by
  have hl : (j 0).val < 2304 := (j 0).isLt
  unfold k0_pay9
  rw [mulf_apply, col_at, pay2_at, up_at _ _ (pay7_is h17 h21)]
  unfold next
  show _ * (if (j 0).val = 255 ∨ (j 0).val = 2303 then (0 : EReal) else 1) = _
  split
  · exact mul_zero _
  · rename_i hn
    rw [mul_one, show ((j 0).val + 1) % 2304 = (j 0).val + 1 by omega]

theorem pay10_is (h26 : Is v26 (tt z)) (h29 : Is v29 (prev z)) (h32 : Is v32 (next z)) (h33 : IsRow v33 (w 0)) (h34 : IsRow v34 (w 1))
    (h35 : IsRow v35 (w 2)) (h44 : IsRow v44 b) : Is (k0_pay10 (F := Ideal) v26 v29 v32 v33 v34 v35 v44) (cv z w b) := fun j => by
  unfold k0_pay10
  simp only [addf_apply, mulf_apply, row_at]
  rw [h26, h29, h32, h33, h34, h35, h44]
  rfl

theorem pay11_is (h24 : Is v24 (z 5)) : Is (k0_pay11 (F := Ideal) v24) fun r l => z 5 r l * sg z r l := fun j => by
  unfold k0_pay11
  show v24 j * Ideal.logistic (v24 j) = _
  rw [h24]
  rfl

theorem pay12_is (h24 : Is v24 (z 5)) (h25 : Is v25 d) (h26 : Is v26 (tt z)) (h29 : Is v29 (prev z)) (h32 : Is v32 (next z))
    (h33 : IsRow v33 (w 0)) (h34 : IsRow v34 (w 1)) (h35 : IsRow v35 (w 2)) (h44 : IsRow v44 b) :
    Is1 (k0_pay12 (F := Ideal) v24 v25 v26 v29 v32 v33 v34 v35 v44) (dz z d w b 1) := by
  unfold k0_pay12
  refine add_is fun j => ?_
  rw [truncf_apply, mulf_apply, mulf_apply, pay11_is h24, pay10_is h26 h29 h32 h33 h34 h35 h44, h25]
  rfl

theorem pay13_is (h20 : Is v20 (z 3)) (h24 : Is v24 (z 5)) (h25 : Is v25 d) (h26 : Is v26 (tt z)) (h29 : Is v29 (prev z)) (h32 : Is v32 (next z))
    (h33 : IsRow v33 (w 0)) (h34 : IsRow v34 (w 1)) (h35 : IsRow v35 (w 2)) (h44 : IsRow v44 b) :
    Is1 (k0_pay13 (F := Ideal) v20 v24 v25 v26 v29 v32 v33 v34 v35 v44) (dz z d w b 3) := by
  unfold k0_pay13
  refine add_is fun j => ?_
  rw [truncf_apply, mulf_apply, mulf_apply, mulf_apply, pay10_is h26 h29 h32 h33 h34 h35 h44]
  show v25 j * v20 j * _ * (Ideal.logistic (v24 j) * (Ideal.ofBits .f32 0x3F800000#32 + v24 j * (Ideal.ofBits .f32 0x3F800000#32 - Ideal.logistic (v24 j)))) = _
  rw [Ideal.ofBits_one_f32, h24, h25, h20]
  rfl

theorem pay14_is (h20 : Is v20 (z 3)) (h24 : Is v24 (z 5)) (h25 : Is v25 d) : Is (k0_pay14 (F := Ideal) v20 v24 v25) (dcv z d) := fun j => by
  unfold k0_pay14
  rw [mulf_apply, mulf_apply, pay11_is h24, h20, h25]
  rfl

theorem pay15_is (h20 : Is v20 (z 3)) (h24 : Is v24 (z 5)) (h25 : Is v25 d) (h29 : Is v29 (prev z)) :
    IsRow (k0_pay15 (F := Ideal) v20 v24 v25 v29) (dw z d 0) := fun j => by
  unfold k0_pay15
  exact colsum_at _ (fun r l => dcv z d r l * tap z 0 r l) (fun j => by rw [mulf_apply, pay14_is h20 h24 h25, h29]; rfl) _ _ j

theorem pay16_is (h26 : Is v26 (tt z)) (h70 : Is v70 (dcv z d)) : IsRow (k0_pay16 (F := Ideal) v26 v70) (dw z d 1) := fun j => by
  unfold k0_pay16
  exact colsum_at _ (fun r l => dcv z d r l * tap z 1 r l) (fun j => by rw [mulf_apply, h70, h26]; rfl) _ _ j

theorem pay17_is (h32 : Is v32 (next z)) (h70 : Is v70 (dcv z d)) : IsRow (k0_pay17 (F := Ideal) v32 v70) (dw z d 2) := fun j => by
  unfold k0_pay17
  exact colsum_at _ (fun r l => dcv z d r l * tap z 2 r l) (fun j => by rw [mulf_apply, h70, h32]; rfl) _ _ j

theorem pay18_is (h70 : Is v70 (dcv z d)) : IsRow (k0_pay18 (F := Ideal) v70) (db z d) := fun j => by
  unfold k0_pay18
  exact colsum_at _ (dcv z d) h70 _ _ j

/-- The transposed convolution: the rows a rotation carries round are the rows the masks zero. -/
theorem pay19_is (h33 : IsRow v33 (w 0)) (h34 : IsRow v34 (w 1)) (h35 : IsRow v35 (w 2)) (h70 : Is v70 (dcv z d)) :
    Is (k0_pay19 (F := Ideal) k0_pay1 k0_pay2 v33 v34 v35 v70) (dt z d w) := fun j => by
  have hl : (j 0).val < 2304 := (j 0).isLt
  unfold k0_pay19
  simp only [addf_apply, mulf_apply, row_at]
  rw [up_at _ (fun r l => dcv z d r l * if r = 0 ∨ r = 256 then 0 else 1) (fun j => by rw [mulf_apply, col_at, pay1_at, h70]),
    down_at _ (fun r l => dcv z d r l * if r = 255 ∨ r = 2303 then 0 else 1) (fun j => by rw [mulf_apply, col_at, pay2_at, h70]),
    h33, h34, h35, h70]
  unfold dt
  show dcv z d (((j 0).val + 1) % 2304) (j 1).val * (if ((j 0).val + 1) % 2304 = 0 ∨ ((j 0).val + 1) % 2304 = 256 then 0 else 1) * w 0 (j 1).val
    + dcv z d (j 0).val (j 1).val * w 1 (j 1).val
    + dcv z d (((j 0).val + 2303) % 2304) (j 1).val * (if ((j 0).val + 2303) % 2304 = 255 ∨ ((j 0).val + 2303) % 2304 = 2303 then 0 else 1) * w 2 (j 1).val = _
  refine congrArg₂ (· + ·) (congrArg₂ (· + ·) ?_ rfl) ?_
  · by_cases h : (j 0).val = 255 ∨ (j 0).val = 2303
    · rw [if_pos (by omega), if_pos h, mul_zero, zero_mul]
    · rw [if_neg (by omega), if_neg h, mul_one, show ((j 0).val + 1) % 2304 = (j 0).val + 1 by omega]
  · by_cases h : (j 0).val = 0 ∨ (j 0).val = 256
    · rw [if_pos (by omega), if_pos h, mul_zero, zero_mul]
    · rw [if_neg (by omega), if_neg h, mul_one, show ((j 0).val + 2303) % 2304 = (j 0).val - 1 by omega]

theorem pay20_is (h22 : Is v22 (z 4)) (h33 : IsRow v33 (w 0)) (h34 : IsRow v34 (w 1)) (h35 : IsRow v35 (w 2)) (h70 : Is v70 (dcv z d)) :
    Is1 (k0_pay20 (F := Ideal) k0_pay1 k0_pay2 v22 v33 v34 v35 v70) (dz z d w b 0) := by
  unfold k0_pay20
  refine add_is fun j => ?_
  rw [truncf_apply, mulf_apply, pay19_is h33 h34 h35 h70, h22]
  rfl

theorem pay21_is (h18 : Is v18 (z 2)) (h33 : IsRow v33 (w 0)) (h34 : IsRow v34 (w 1)) (h35 : IsRow v35 (w 2)) (h70 : Is v70 (dcv z d)) :
    Is1 (k0_pay21 (F := Ideal) k0_pay1 k0_pay2 v18 v33 v34 v35 v70) (dz z d w b 2) := by
  unfold k0_pay21
  refine add_is fun j => ?_
  rw [truncf_apply, mulf_apply, pay19_is h33 h34 h35 h70, h18]
  rfl

end Block

section Outs

variable {z : ℕ → ℕ → ℕ → EReal} {d w : ℕ → ℕ → EReal} {b : ℕ → EReal}
variable {x0 x1 x2 x3 : Vec Ideal S1x2304x128 .f32} {x4 : Vec Ideal S2304x128 .f32} {x5 : Vec Ideal S3x128 .f32} {x6 : Vec Ideal S1x128 .f32}

/-- The seven input blocks, as functions of natural coordinates. -/
structure Blocks (z : ℕ → ℕ → ℕ → EReal) (d w : ℕ → ℕ → EReal) (b : ℕ → EReal)
    (x0 x1 x2 x3 : Vec Ideal S1x2304x128 .f32) (x4 : Vec Ideal S2304x128 .f32) (x5 : Vec Ideal S3x128 .f32) (x6 : Vec Ideal S1x128 .f32) : Prop where
  h0 : Is1 x0 (z 2)
  h1 : Is1 x1 (z 3)
  h2 : Is1 x2 (z 4)
  h3 : Is1 x3 (z 5)
  h4 : Is x4 d
  h5 : ∀ j, x5 j = w (j 0).val (j 1).val
  h6 : IsRow x6 b

/-- A load of a whole block. -/
theorem ld1 {x : Vec Ideal S1x2304x128 .f32} {f : ℕ → ℕ → EReal} (h : Is1 x f) : Is1 (View.ld x r0_0) f := fun j =>
  (View.ld_unit_apply_of x _ _ _ j j fun a => match a with | ⟨0, _⟩ => (Nat.zero_add _).symm | ⟨1, _⟩ => (Nat.zero_add _).symm | ⟨2, _⟩ => (Nat.zero_add _).symm).trans (h j)

theorem ld2 {x : Vec Ideal S2304x128 .f32} {f : ℕ → ℕ → EReal} (h : Is x f) : Is (View.ld x r0_1) f := fun j =>
  (View.ld_unit_apply_of x _ _ _ j j fun a => match a with | ⟨0, _⟩ => (Nat.zero_add _).symm | ⟨1, _⟩ => (Nat.zero_add _).symm).trans (h j)

theorem ldb {x : Vec Ideal S1x128 .f32} {f : ℕ → EReal} (h : IsRow x f) : IsRow (View.ld x r0_5) f := fun j =>
  (View.ld_unit_apply_of x _ _ _ j j fun a => match a with | ⟨0, _⟩ => (Nat.zero_add _).symm | ⟨1, _⟩ => (Nat.zero_add _).symm).trans (h j)

/-- A row of the weights' block. -/
theorem ldw {x : Vec Ideal S3x128 .f32} (h : ∀ j, x j = w (j 0).val (j 1).val) (k : ℕ) (hk : k < 3) (inb) :
    IsRow (View.ld x (Rect.unit (s := S3x128) ![k, 0] S1x128.size inb)) (w k) := fun j => by
  have hj : (j 0).val = 0 := by have : (j 0).val < 1 := (j 0).isLt; omega
  rw [View.ld_unit_apply_of x _ _ inb j (ix2 ⟨k, hk⟩ (j 1)) fun a => match a with
    | ⟨0, _⟩ => by show k = k + (j 0).val; omega
    | ⟨1, _⟩ => (Nat.zero_add _).symm, h]

theorem out7_at (H : Blocks z d w b x0 x1 x2 x3 x4 x5 x6) (y : S4x2304x128.Idx) :
    out0_7 (F := Ideal) x0 x1 x2 x3 x4 x5 x6 y = dz z d w b (y 0).val (y 1).val (y 2).val := by
  have w0 := ldw H.h5 0 (by decide) inb_S3x128_S1x128_0_0
  have w1 := ldw H.h5 1 (by decide) inb_S3x128_S1x128_1_0
  have w2 := ldw H.h5 2 (by decide) inb_S3x128_S1x128_2_0
  have p7 := pay7_is (ld1 H.h0) (ld1 H.h2)
  have p8 := pay8_is (ld1 H.h0) (ld1 H.h2)
  have p9 := pay9_is (ld1 H.h0) (ld1 H.h2)
  have p14 := pay14_is (drop_is (ld1 H.h1)) (drop_is (ld1 H.h3)) (ld2 H.h4)
  unfold out0_7
  refine View.canon_apply_of_pieces (Val := Elt Ideal) (e := .bf16) (fun y : S4x2304x128.Idx => dz z d w b (y 0).val (y 1).val (y 2).val) _ ?_ y (cover0_7 _ _ _ _ y)
  intro pc hpc x
  have e : ∀ (x : S1x2304x128.Idx) (s : ℕ) (f : ℕ → ℕ → EReal), f (0 + 1 * (x 1).val) (0 + 1 * (x 2).val) = f (x 1).val (x 2).val := fun x s f => by
    rw [Nat.zero_add, Nat.one_mul, Nat.zero_add, Nat.one_mul]
  rcases List.mem_cons.mp hpc with rfl | hpc
  · have hx : (x 0).val < 1 := (x 0).isLt
    refine (pay21_is (b := b) (drop_is (ld1 H.h0)) w0 w1 w2 p14 x).trans ?_
    show _ = dz z d w b (2 + 1 * (x 0).val) (0 + 1 * (x 1).val) (0 + 1 * (x 2).val)
    rw [show 2 + 1 * (x 0).val = 2 by omega, e x 2 (dz z d w b 2)]
  rcases List.mem_cons.mp hpc with rfl | hpc
  · have hx : (x 0).val < 1 := (x 0).isLt
    refine (pay20_is (b := b) (drop_is (ld1 H.h2)) w0 w1 w2 p14 x).trans ?_
    show _ = dz z d w b (0 + 1 * (x 0).val) (0 + 1 * (x 1).val) (0 + 1 * (x 2).val)
    rw [show 0 + 1 * (x 0).val = 0 by omega, e x 0 (dz z d w b 0)]
  rcases List.mem_cons.mp hpc with rfl | hpc
  · have hx : (x 0).val < 1 := (x 0).isLt
    refine (pay13_is (drop_is (ld1 H.h1)) (drop_is (ld1 H.h3)) (ld2 H.h4) p7 p8 p9 w0 w1 w2 (ldb H.h6) x).trans ?_
    show _ = dz z d w b (3 + 1 * (x 0).val) (0 + 1 * (x 1).val) (0 + 1 * (x 2).val)
    rw [show 3 + 1 * (x 0).val = 3 by omega, e x 3 (dz z d w b 3)]
  rcases List.mem_cons.mp hpc with rfl | hpc
  · have hx : (x 0).val < 1 := (x 0).isLt
    refine (pay12_is (drop_is (ld1 H.h3)) (ld2 H.h4) p7 p8 p9 w0 w1 w2 (ldb H.h6) x).trans ?_
    show _ = dz z d w b (1 + 1 * (x 0).val) (0 + 1 * (x 1).val) (0 + 1 * (x 2).val)
    rw [show 1 + 1 * (x 0).val = 1 by omega, e x 1 (dz z d w b 1)]
  nomatch hpc

theorem out8_at (H : Blocks z d w b x0 x1 x2 x3 x4 x5 x6) (y : S3x128.Idx) :
    out0_8 (F := Ideal) x0 x1 x2 x3 x4 x5 x6 y = dw z d (y 0).val (y 1).val := by
  have p7 := pay7_is (ld1 H.h0) (ld1 H.h2)
  have p8 := pay8_is (ld1 H.h0) (ld1 H.h2)
  have p9 := pay9_is (ld1 H.h0) (ld1 H.h2)
  have p14 := pay14_is (drop_is (ld1 H.h1)) (drop_is (ld1 H.h3)) (ld2 H.h4)
  unfold out0_8
  refine View.canon_apply_of_pieces (Val := Elt Ideal) (e := .f32) (fun y : S3x128.Idx => dw z d (y 0).val (y 1).val) _ ?_ y (cover0_8 _ _ _ y)
  intro pc hpc x
  rcases List.mem_cons.mp hpc with rfl | hpc
  · have hx : (x 0).val < 1 := (x 0).isLt
    refine (pay17_is p9 p14 x).trans ?_
    show _ = dw z d (2 + 1 * (x 0).val) (0 + 1 * (x 1).val)
    rw [show 2 + 1 * (x 0).val = 2 by omega, Nat.zero_add, Nat.one_mul]
  rcases List.mem_cons.mp hpc with rfl | hpc
  · have hx : (x 0).val < 1 := (x 0).isLt
    refine (pay16_is p7 p14 x).trans ?_
    show _ = dw z d (1 + 1 * (x 0).val) (0 + 1 * (x 1).val)
    rw [show 1 + 1 * (x 0).val = 1 by omega, Nat.zero_add, Nat.one_mul]
  rcases List.mem_cons.mp hpc with rfl | hpc
  · have hx : (x 0).val < 1 := (x 0).isLt
    refine (pay15_is (drop_is (ld1 H.h1)) (drop_is (ld1 H.h3)) (ld2 H.h4) p8 x).trans ?_
    show _ = dw z d (0 + 1 * (x 0).val) (0 + 1 * (x 1).val)
    rw [show 0 + 1 * (x 0).val = 0 by omega, Nat.zero_add, Nat.one_mul]
  nomatch hpc

theorem out9_at (H : Blocks z d w b x0 x1 x2 x3 x4 x5 x6) (y : S1x128.Idx) :
    out0_9 (F := Ideal) x0 x1 x2 x3 x4 x5 x6 y = db z d (y 1).val := by
  have p14 := pay14_is (drop_is (ld1 H.h1)) (drop_is (ld1 H.h3)) (ld2 H.h4)
  unfold out0_9
  refine View.canon_apply_of_pieces (Val := Elt Ideal) (e := .f32) (fun y : S1x128.Idx => db z d (y 1).val) _ ?_ y (cover0_9 _ y)
  intro pc hpc x
  rcases List.mem_cons.mp hpc with rfl | hpc
  · refine (pay18_is p14 x).trans ?_
    show _ = db z d (0 + 1 * (x 1).val)
    rw [Nat.zero_add, Nat.one_mul]
  nomatch hpc

end Outs

section Arrays

open Idealize.ShloMosaic.TcCoe Idealize.SL.Sem

variable (m : (ℓ : Loc nD τ sig) → Buf (Elt Ideal) ℓ) (ρ : Dev nD → PrngReg)

/-- The arguments a device launches with. -/
abbrev X0 (c : Dev nD) : S6x2304x1024.Idx → EReal := m ((c.tc : Thread nD τ).loc main_arg0)
abbrev X1 (c : Dev nD) : S2304x2048.Idx → EReal := m ((c.tc : Thread nD τ).loc main_arg1)
abbrev X2 (c : Dev nD) : S3x1024.Idx → EReal := m ((c.tc : Thread nD τ).loc main_arg2)
abbrev X3 (c : Dev nD) : S1x1024.Idx → EReal := m ((c.tc : Thread nD τ).loc main_arg3)

/-- Where each window stands at each point. -/
theorem idx0 : ∀ t : Fin cfg0.N, win0_0.index t 0 = 2 ∧ win0_0.index t 1 = 0 ∧ win0_0.index t 2 = t.val :=
  (by decide +kernel : ∀ t : Fin grid0.N, win0_0.index t 0 = 2 ∧ win0_0.index t 1 = 0 ∧ win0_0.index t 2 = t.val)
theorem idx1 : ∀ t : Fin cfg0.N, win0_1.index t 0 = 3 ∧ win0_1.index t 1 = 0 ∧ win0_1.index t 2 = t.val :=
  (by decide +kernel : ∀ t : Fin grid0.N, win0_1.index t 0 = 3 ∧ win0_1.index t 1 = 0 ∧ win0_1.index t 2 = t.val)
theorem idx2 : ∀ t : Fin cfg0.N, win0_2.index t 0 = 4 ∧ win0_2.index t 1 = 0 ∧ win0_2.index t 2 = t.val :=
  (by decide +kernel : ∀ t : Fin grid0.N, win0_2.index t 0 = 4 ∧ win0_2.index t 1 = 0 ∧ win0_2.index t 2 = t.val)
theorem idx3 : ∀ t : Fin cfg0.N, win0_3.index t 0 = 5 ∧ win0_3.index t 1 = 0 ∧ win0_3.index t 2 = t.val :=
  (by decide +kernel : ∀ t : Fin grid0.N, win0_3.index t 0 = 5 ∧ win0_3.index t 1 = 0 ∧ win0_3.index t 2 = t.val)
theorem idx4 : ∀ t : Fin cfg0.N, win0_4.index t 0 = 0 ∧ win0_4.index t 1 = t.val + 8 :=
  (by decide +kernel : ∀ t : Fin grid0.N, win0_4.index t 0 = 0 ∧ win0_4.index t 1 = t.val + 8)
theorem idx5 : ∀ t : Fin cfg0.N, win0_5.index t 0 = 0 ∧ win0_5.index t 1 = t.val :=
  (by decide +kernel : ∀ t : Fin grid0.N, win0_5.index t 0 = 0 ∧ win0_5.index t 1 = t.val)
theorem idx6 : ∀ t : Fin cfg0.N, win0_6.index t 0 = 0 ∧ win0_6.index t 1 = t.val :=
  (by decide +kernel : ∀ t : Fin grid0.N, win0_6.index t 0 = 0 ∧ win0_6.index t 1 = t.val)
theorem idx7 : ∀ t : Fin cfg0.N, win0_7.index t 0 = 0 ∧ win0_7.index t 1 = 0 ∧ win0_7.index t 2 = t.val :=
  (by decide +kernel : ∀ t : Fin grid0.N, win0_7.index t 0 = 0 ∧ win0_7.index t 1 = 0 ∧ win0_7.index t 2 = t.val)
theorem idx8 : ∀ t : Fin cfg0.N, win0_8.index t 0 = 0 ∧ win0_8.index t 1 = t.val :=
  (by decide +kernel : ∀ t : Fin grid0.N, win0_8.index t 0 = 0 ∧ win0_8.index t 1 = t.val)
theorem idx9 : ∀ t : Fin cfg0.N, win0_9.index t 0 = 0 ∧ win0_9.index t 1 = t.val :=
  (by decide +kernel : ∀ t : Fin grid0.N, win0_9.index t 0 = 0 ∧ win0_9.index t 1 = t.val)

/-- The blocks at point `t` are the arguments at columns `128 t + l`. -/
theorem blocks (c : Dev nD) (t : Fin cfg0.N) :
    Blocks (fun s r l => Z (X0 m c) s r (128 * t.val + l)) (fun r l => D (X1 m c) r (128 * t.val + l))
      (fun k l => W (X2 m c) k (128 * t.val + l)) (fun l => B (X3 m c) (128 * t.val + l))
      (iblk m c 0 t) (iblk m c 1 t) (iblk m c 2 t) (iblk m c 3 t) (iblk m c 4 t) (iblk m c 5 t) (iblk m c 6 t) where
  h0 j := by
    have hj : (j 0).val < 1 := (j 0).isLt
    obtain ⟨i0, i1, i2⟩ := idx0 t
    unfold iblk
    rw [View.read_apply]
    exact read3 (X0 m c) _ (by show win0_0.index t 0 * 1 + 1 * (j 0).val = 2; omega) (by show win0_0.index t 1 * 2304 + 1 * (j 1).val = _; omega)
      (by show win0_0.index t 2 * 128 + 1 * (j 2).val = _; omega)
  h1 j := by
    have hj : (j 0).val < 1 := (j 0).isLt
    obtain ⟨i0, i1, i2⟩ := idx1 t
    unfold iblk
    rw [View.read_apply]
    exact read3 (X0 m c) _ (by show win0_1.index t 0 * 1 + 1 * (j 0).val = 3; omega) (by show win0_1.index t 1 * 2304 + 1 * (j 1).val = _; omega)
      (by show win0_1.index t 2 * 128 + 1 * (j 2).val = _; omega)
  h2 j := by
    have hj : (j 0).val < 1 := (j 0).isLt
    obtain ⟨i0, i1, i2⟩ := idx2 t
    unfold iblk
    rw [View.read_apply]
    exact read3 (X0 m c) _ (by show win0_2.index t 0 * 1 + 1 * (j 0).val = 4; omega) (by show win0_2.index t 1 * 2304 + 1 * (j 1).val = _; omega)
      (by show win0_2.index t 2 * 128 + 1 * (j 2).val = _; omega)
  h3 j := by
    have hj : (j 0).val < 1 := (j 0).isLt
    obtain ⟨i0, i1, i2⟩ := idx3 t
    unfold iblk
    rw [View.read_apply]
    exact read3 (X0 m c) _ (by show win0_3.index t 0 * 1 + 1 * (j 0).val = 5; omega) (by show win0_3.index t 1 * 2304 + 1 * (j 1).val = _; omega)
      (by show win0_3.index t 2 * 128 + 1 * (j 2).val = _; omega)
  h4 j := by
    obtain ⟨i0, i1⟩ := idx4 t
    unfold iblk
    rw [View.read_apply]
    exact read2 (X1 m c) _ (by show win0_4.index t 0 * 2304 + 1 * (j 0).val = _; omega) (by show win0_4.index t 1 * 128 + 1 * (j 1).val = _; omega)
  h5 j := by
    obtain ⟨i0, i1⟩ := idx5 t
    unfold iblk
    rw [View.read_apply]
    exact read2 (X2 m c) _ (by show win0_5.index t 0 * 3 + 1 * (j 0).val = _; omega) (by show win0_5.index t 1 * 128 + 1 * (j 1).val = _; omega)
  h6 j := by
    have hj : (j 0).val < 1 := (j 0).isLt
    obtain ⟨i0, i1⟩ := idx6 t
    unfold iblk
    rw [View.read_apply]
    exact read2 (X3 m c) _ (by show win0_6.index t 0 * 1 + 1 * (j 0).val = _; omega) (by show win0_6.index t 1 * 128 + 1 * (j 1).val = _; omega)

/-- The three results as whole arrays. -/
def G7 (c : Dev nD) : Buf (Elt Ideal) ((c.tc : Thread nD τ).loc main_v0_0) := fun (i : S4x2304x1024.Idx) =>
  dz (Z (X0 m c)) (D (X1 m c)) (W (X2 m c)) (B (X3 m c)) (i 0).val (i 1).val (i 2).val
def G8 (c : Dev nD) : Buf (Elt Ideal) ((c.tc : Thread nD τ).loc main_v0_1) := fun (i : S3x1024.Idx) =>
  dw (Z (X0 m c)) (D (X1 m c)) (i 0).val (i 1).val
def G9 (c : Dev nD) : Buf (Elt Ideal) ((c.tc : Thread nD τ).loc main_v0_2) := fun (i : S1x1024.Idx) =>
  db (Z (X0 m c)) (D (X1 m c)) (i 1).val

/-- A coordinate of a block placed in its array. -/
theorem place {o n k x : ℕ} (h : o = k) : o * n + 1 * x = k * n + x := by rw [h, Nat.one_mul]

theorem flushed7_eq (c : Dev nD) (t : Fin cfg0.N) : (dats m 0 c).flushed 7 t = ((cfg0.win 7).blk t).view.read (Elt Ideal) (G7 m c) := by
  obtain ⟨i0, i1, i2⟩ := idx7 t
  rw [Value.flushed7]
  funext j
  refine (out7_at (blocks m c t) _).trans ?_
  rw [View.read_apply]
  show dz _ _ _ _ (j 0).val (j 1).val (j 2).val = dz _ _ _ _ (win0_7.index t 0 * 4 + 1 * (j 0).val) (win0_7.index t 1 * 2304 + 1 * (j 1).val) (win0_7.index t 2 * 128 + 1 * (j 2).val)
  rw [show win0_7.index t 0 * 4 + 1 * (j 0).val = (j 0).val by omega, show win0_7.index t 1 * 2304 + 1 * (j 1).val = (j 1).val by omega,
    show win0_7.index t 2 * 128 + 1 * (j 2).val = 128 * t.val + (j 2).val by omega]
  rfl

theorem flushed8_eq (c : Dev nD) (t : Fin cfg0.N) : (dats m 0 c).flushed 8 t = ((cfg0.win 8).blk t).view.read (Elt Ideal) (G8 m c) := by
  obtain ⟨i0, i1⟩ := idx8 t
  rw [Value.flushed8]
  funext j
  refine (out8_at (blocks m c t) _).trans ?_
  rw [View.read_apply]
  show dw _ _ (j 0).val (j 1).val = dw _ _ (win0_8.index t 0 * 3 + 1 * (j 0).val) (win0_8.index t 1 * 128 + 1 * (j 1).val)
  rw [show win0_8.index t 0 * 3 + 1 * (j 0).val = (j 0).val by omega, show win0_8.index t 1 * 128 + 1 * (j 1).val = 128 * t.val + (j 1).val by omega]
  rfl

theorem flushed9_eq (c : Dev nD) (t : Fin cfg0.N) : (dats m 0 c).flushed 9 t = ((cfg0.win 9).blk t).view.read (Elt Ideal) (G9 m c) := by
  obtain ⟨i0, i1⟩ := idx9 t
  rw [Value.flushed9]
  funext j
  refine (out9_at (blocks m c t) _).trans ?_
  rw [View.read_apply]
  show db _ _ (j 1).val = db _ _ (win0_9.index t 1 * 128 + 1 * (j 1).val)
  rw [show win0_9.index t 1 * 128 + 1 * (j 1).val = 128 * t.val + (j 1).val by omega]
  rfl

/-- The point whose block holds column `l`. -/
def pt (l : ℕ) (h : l < 1024) : Fin cfg0.N := ⟨l / 128, by rw [show cfg0.N = 8 from N_0]; omega⟩

theorem flush7 : ∀ t : Fin cfg0.N, (cfg0.win 7).flush t = true :=
  (by decide +kernel : ∀ t : Fin grid0.N, win0_7.flush t = true)
theorem flush8 : ∀ t : Fin cfg0.N, (cfg0.win 8).flush t = true :=
  (by decide +kernel : ∀ t : Fin grid0.N, win0_8.flush t = true)
theorem flush9 : ∀ t : Fin cfg0.N, (cfg0.win 9).flush t = true :=
  (by decide +kernel : ∀ t : Fin grid0.N, win0_9.flush t = true)

theorem final7 (c : Dev nD) : (dats m 0 c).arrAt 7 cfg0.N = G7 m c :=
  (dats m 0 c).arrAt_eq_of_cover 7 (G7 m c) (fun t _ => flushed7_eq m c t) fun i => by
    have h0 : (i 0 : ℕ) < 4 := (i 0).isLt
    have h1 : (i 1 : ℕ) < 2304 := (i 1).isLt
    have h2 : (i 2 : ℕ) < 1024 := (i 2).isLt
    refine ⟨pt (i 2) h2, flush7 _, ?_⟩
    obtain ⟨e0, e1, e2⟩ := idx7 (pt (i 2) h2)
    have et : (pt (i 2) h2).val = (i 2 : ℕ) / 128 := rfl
    show i ∈ ((View.whole main_v0_0).slice (win0_7.rect (pt (i 2) h2))).set
    rw [View.set_slice_whole, Rect.mem_set_unit]
    intro a
    match a with
    | ⟨0, _⟩ => show win0_7.index (pt (i 2) h2) 0 * 4 ≤ (i 0 : ℕ) ∧ (i 0 : ℕ) < win0_7.index (pt (i 2) h2) 0 * 4 + 4; omega
    | ⟨1, _⟩ => show win0_7.index (pt (i 2) h2) 1 * 2304 ≤ (i 1 : ℕ) ∧ (i 1 : ℕ) < win0_7.index (pt (i 2) h2) 1 * 2304 + 2304; omega
    | ⟨2, _⟩ => show win0_7.index (pt (i 2) h2) 2 * 128 ≤ (i 2 : ℕ) ∧ (i 2 : ℕ) < win0_7.index (pt (i 2) h2) 2 * 128 + 128; omega

theorem final8 (c : Dev nD) : (dats m 0 c).arrAt 8 cfg0.N = G8 m c :=
  (dats m 0 c).arrAt_eq_of_cover 8 (G8 m c) (fun t _ => flushed8_eq m c t) fun i => by
    have h0 : (i 0 : ℕ) < 3 := (i 0).isLt
    have h1 : (i 1 : ℕ) < 1024 := (i 1).isLt
    refine ⟨pt (i 1) h1, flush8 _, ?_⟩
    obtain ⟨e0, e1⟩ := idx8 (pt (i 1) h1)
    have et : (pt (i 1) h1).val = (i 1 : ℕ) / 128 := rfl
    show i ∈ ((View.whole main_v0_1).slice (win0_8.rect (pt (i 1) h1))).set
    rw [View.set_slice_whole, Rect.mem_set_unit]
    intro a
    match a with
    | ⟨0, _⟩ => show win0_8.index (pt (i 1) h1) 0 * 3 ≤ (i 0 : ℕ) ∧ (i 0 : ℕ) < win0_8.index (pt (i 1) h1) 0 * 3 + 3; omega
    | ⟨1, _⟩ => show win0_8.index (pt (i 1) h1) 1 * 128 ≤ (i 1 : ℕ) ∧ (i 1 : ℕ) < win0_8.index (pt (i 1) h1) 1 * 128 + 128; omega

theorem final9 (c : Dev nD) : (dats m 0 c).arrAt 9 cfg0.N = G9 m c :=
  (dats m 0 c).arrAt_eq_of_cover 9 (G9 m c) (fun t _ => flushed9_eq m c t) fun i => by
    have h0 : (i 0 : ℕ) < 1 := (i 0).isLt
    have h1 : (i 1 : ℕ) < 1024 := (i 1).isLt
    refine ⟨pt (i 1) h1, flush9 _, ?_⟩
    obtain ⟨e0, e1⟩ := idx9 (pt (i 1) h1)
    have et : (pt (i 1) h1).val = (i 1 : ℕ) / 128 := rfl
    show i ∈ ((View.whole main_v0_2).slice (win0_9.rect (pt (i 1) h1))).set
    rw [View.set_slice_whole, Rect.mem_set_unit]
    intro a
    match a with
    | ⟨0, _⟩ => show win0_9.index (pt (i 1) h1) 0 * 1 ≤ (i 0 : ℕ) ∧ (i 0 : ℕ) < win0_9.index (pt (i 1) h1) 0 * 1 + 1; omega
    | ⟨1, _⟩ => show win0_9.index (pt (i 1) h1) 1 * 128 ≤ (i 1 : ℕ) ∧ (i 1 : ℕ) < win0_9.index (pt (i 1) h1) 1 * 128 + 128; omega

end Arrays

end Cert.KernelIdeal.At

end
-- ==== Proof.HostRead.lean ====
/-  Host layout operations read at natural coordinates: a zero pad, a row of zeros above and below, a sum over two unit axes. -/
module

public import proofs.«01_k».proof.Proof.Spec
public import Idealize.ShloMosaic.Lib.Pipeline.Value
public import Idealize.ShloMosaic.Lib.KernelVsHost

@[expose] public section

noncomputable section

namespace Cert.Mix

open Idealize.ShloMosaic Idealize.ShloMosaic.ValueIdx

/-- A zero pad of a rank-3 array on its first two axes: the array where it lies, zero elsewhere. -/
theorem pad3 {a b c A B : ℕ} {l0 l1 h0 h1 : ℕ} (x : (⟨3, ![a, b, c]⟩ : Shape).Idx → EReal) {u : Shape} (v : u.Idx → EReal)
    (hp : (⟨3, ![a, b, c]⟩ : Shape).Pads ![l0, l1, 0] ![h0, h1, 0] ![0, 0, 0] ⟨3, ![A, B, c]⟩) (hu : 0 < u.numel)
    (hv : v (Shape.Idx.first hu) = 0) {f : ℕ → ℕ → EReal} (hx : ∀ i, x i = f (i 1).val (i 2).val)
    (j : (⟨3, ![A, B, c]⟩ : Shape).Idx) :
    pad ⟨3, ![A, B, c]⟩ ![l0, l1, 0] ![h0, h1, 0] ![0, 0, 0] x v hp hu j
      = if l0 ≤ (j 0).val ∧ (j 0).val < l0 + a ∧ l1 ≤ (j 1).val ∧ (j 1).val < l1 + b then f ((j 1).val - l1) (j 2).val else 0 := by
  split
  · rename_i h
    refine (pad_apply_of_inside _ _ _ x v hp hu j (ix3 ⟨(j 0).val - l0, by omega⟩ ⟨(j 1).val - l1, by omega⟩ (j 2)) ?_).trans (hx _)
    intro e
    match e with
    | ⟨0, _⟩ => show (j 0).val = l0 + ((j 0).val - l0) * (0 + 1); omega
    | ⟨1, _⟩ => show (j 1).val = l1 + ((j 1).val - l1) * (0 + 1); omega
    | ⟨2, _⟩ => show (j 2).val = 0 + (j 2).val * (0 + 1); omega
  · rename_i h
    by_cases h0 : l0 ≤ (j 0).val ∧ (j 0).val < l0 + a
    · refine (pad_apply_of_not_inside _ _ _ x v hp hu j 1 ?_).trans hv
      show ¬(l1 ≤ (j 1).val ∧ ((j 1).val - l1) % (0 + 1) = 0 ∧ ((j 1).val - l1) / (0 + 1) < b)
      rw [Nat.zero_add, Nat.div_one]; omega
    · refine (pad_apply_of_not_inside _ _ _ x v hp hu j 0 ?_).trans hv
      show ¬(l0 ≤ (j 0).val ∧ ((j 0).val - l0) % (0 + 1) = 0 ∧ ((j 0).val - l0) / (0 + 1) < a)
      rw [Nat.zero_add, Nat.div_one]; omega

/-- A zero pad of one row into several. -/
theorem pad2 {c A : ℕ} {l0 h0 : ℕ} (x : (⟨2, ![1, c]⟩ : Shape).Idx → EReal) {u : Shape} (v : u.Idx → EReal)
    (hp : (⟨2, ![1, c]⟩ : Shape).Pads ![l0, 0] ![h0, 0] ![0, 0] ⟨2, ![A, c]⟩) (hu : 0 < u.numel)
    (hv : v (Shape.Idx.first hu) = 0) {f : ℕ → EReal} (hx : ∀ i, x i = f (i 1).val)
    (j : (⟨2, ![A, c]⟩ : Shape).Idx) :
    pad ⟨2, ![A, c]⟩ ![l0, 0] ![h0, 0] ![0, 0] x v hp hu j = if (j 0).val = l0 then f (j 1).val else 0 := by
  split
  · rename_i h
    refine (pad_apply_of_inside _ _ _ x v hp hu j (ix2 ⟨0, Nat.one_pos⟩ (j 1)) ?_).trans (hx _)
    intro e
    match e with
    | ⟨0, _⟩ => show (j 0).val = l0 + 0 * (0 + 1); omega
    | ⟨1, _⟩ => show (j 1).val = 0 + (j 1).val * (0 + 1); omega
  · rename_i h
    refine (pad_apply_of_not_inside _ _ _ x v hp hu j 0 ?_).trans hv
    show ¬(l0 ≤ (j 0).val ∧ ((j 0).val - l0) % (0 + 1) = 0 ∧ ((j 0).val - l0) / (0 + 1) < 1)
    rw [Nat.zero_add, Nat.div_one]; omega

/-- A row of zeros above and below. -/
theorem cat3 {n N c : ℕ} (y : (⟨3, ![1, 1, c]⟩ : Shape).Idx → EReal) (x : (⟨3, ![1, n, c]⟩ : Shape).Idx → EReal)
    (h : Shape.Concatenates [⟨3, ![1, 1, c]⟩, ⟨3, ![1, n, c]⟩, ⟨3, ![1, 1, c]⟩] (⟨3, ![1, N, c]⟩ : Shape) 1)
    (hN : N = n + 2) (hy : ∀ i, y i = 0) {f : ℕ → ℕ → EReal} (hx : ∀ i, x i = f (i 1).val (i 2).val)
    (j : (⟨3, ![1, N, c]⟩ : Shape).Idx) :
    concatenate (⟨3, ![1, N, c]⟩ : Shape) 1 [⟨⟨3, ![1, 1, c]⟩, y⟩, ⟨⟨3, ![1, n, c]⟩, x⟩, ⟨⟨3, ![1, 1, c]⟩, y⟩] h j
      = if (j 1).val = 0 ∨ (j 1).val = n + 1 then 0 else f ((j 1).val - 1) (j 2).val := by
  have hj : (j 1).val < N := (j 1).isLt
  have h1 : ∀ i : (⟨3, ![1, 1, c]⟩ : Shape).Idx, (i 1).val = 0 := fun i => by have h : (i 1).val < 1 := (i 1).isLt; omega
  by_cases h0 : (j 1).val = 0
  · rw [if_pos (.inl h0)]
    refine (concatenate_apply_piece 1 [⟨⟨3, ![1, 1, c]⟩, y⟩, ⟨⟨3, ![1, n, c]⟩, x⟩, ⟨⟨3, ![1, 1, c]⟩, y⟩] h j 0 (by show 0 < 3; omega) ⟨3, ![1, 1, c]⟩ y rfl rfl 0 rfl (ix3 (j 0) ⟨0, Nat.one_pos⟩ (j 2)) ?_ ?_).trans (hy _)
    · intro e he
      match e with
      | ⟨0, _⟩ => rfl
      | ⟨1, _⟩ => exact absurd rfl he
      | ⟨2, _⟩ => rfl
    · show 0 + 0 = (j 1).val; omega
  · by_cases h2 : (j 1).val = n + 1
    · rw [if_pos (.inr h2)]
      refine (concatenate_apply_piece 1 [⟨⟨3, ![1, 1, c]⟩, y⟩, ⟨⟨3, ![1, n, c]⟩, x⟩, ⟨⟨3, ![1, 1, c]⟩, y⟩] h j 2 (by show 2 < 3; omega) ⟨3, ![1, 1, c]⟩ y rfl rfl (n + 1) ?_ (ix3 (j 0) ⟨0, Nat.one_pos⟩ (j 2)) ?_ ?_).trans (hy _)
      · show 1 + (n + 0) = n + 1; omega
      · intro e he
        match e with
        | ⟨0, _⟩ => rfl
        | ⟨1, _⟩ => exact absurd rfl he
        | ⟨2, _⟩ => rfl
      · show n + 1 + 0 = (j 1).val; omega
    · rw [if_neg (by omega)]
      refine (concatenate_apply_piece 1 [⟨⟨3, ![1, 1, c]⟩, y⟩, ⟨⟨3, ![1, n, c]⟩, x⟩, ⟨⟨3, ![1, 1, c]⟩, y⟩] h j 1 (by show 1 < 3; omega) ⟨3, ![1, n, c]⟩ x rfl rfl 1 ?_ (ix3 (j 0) ⟨(j 1).val - 1, by omega⟩ (j 2)) ?_ ?_).trans (hx _)
      · show 1 + 0 = 1; rfl
      · intro e he
        match e with
        | ⟨0, _⟩ => rfl
        | ⟨1, _⟩ => exact absurd rfl he
        | ⟨2, _⟩ => rfl
      · show 1 + ((j 1).val - 1) = (j 1).val; omega

/-- A sum over the indices with a property only one has. -/
theorem sum_filter_one {α : Type} [Fintype α] (p : α → Prop) [DecidablePred p] (f : α → EReal) (k : α) (hk : p k)
    (hu : ∀ i, p i → i = k) : ∑ i ∈ Finset.univ.filter p, f i = f k :=
  Finset.sum_eq_single k (fun i hi hne => absurd (hu i (Finset.mem_filter.mp hi).2) hne)
    (fun hn => absurd (Finset.mem_filter.mpr ⟨Finset.mem_univ _, hk⟩) hn)

/-- A sum over two leading unit axes is the one element there. -/
theorem sum01 {c : ℕ} (x : (⟨3, ![1, 1, c]⟩ : Shape).Idx → EReal) (init : EReal) (hi : init = 0)
    (h : (⟨3, ![1, 1, c]⟩ : Shape).ReducesTo [0, 1] ⟨1, ![c]⟩) (j : (⟨1, ![c]⟩ : Shape).Idx) :
    Ideal.hostReduceAdd h x init j = x (ix3 ⟨0, Nat.one_pos⟩ ⟨0, Nat.one_pos⟩ (j 0)) := by
  have hd : ∀ i : (⟨3, ![1, 1, c]⟩ : Shape).Idx, (h.drop i 0).val = (i 2).val := fun i => rfl
  unfold Ideal.hostReduceAdd
  rw [hi, zero_add]
  generalize hD : h.drop = D at hd
  refine sum_filter_one _ x _ ?_ ?_
  · funext e
    match e with
    | ⟨0, _⟩ => exact Fin.ext (hd _)
  · intro i hp
    have h0 : (i 0).val < 1 := (i 0).isLt
    have h1 : (i 1).val < 1 := (i 1).isLt
    have h2 : (i 2).val = (j 0).val := by rw [← hd i, hp]
    funext e
    match e with
    | ⟨0, _⟩ => exact Fin.ext (by show (i 0).val = 0; omega)
    | ⟨1, _⟩ => exact Fin.ext (by show (i 1).val = 0; omega)
    | ⟨2, _⟩ => exact Fin.ext h2

end Cert.Mix

end
-- ==== Proof.RefValue.lean ====
/-  The reference's three results read at an index: the gradient of the gated convolution as Spec.lean writes it. The two
    segments of the sequence (the first 256 rows, and the 2048 after them) are two copies of the same operations, read one
    after the other under the namespaces `C` and `L`. -/
module

public import proofs.«01_k».proof.Proof.HostRead
public import proofs.«01_k».proof.Proof.Gen.ReferenceIdeal.Read

@[expose] public section

noncomputable section

namespace Cert.ReferenceIdeal.At

open Cert.ReferenceIdeal Cert.ReferenceIdeal.Gen Cert.ReferenceIdeal.Read Cert.Mix Idealize.ShloMosaic Idealize.ShloMosaic.ValueIdx

variable (x0 : (⟨S6x2304x1024, .f32⟩ : BufTy).Contents (Elt Ideal)) (x1 : (⟨S2304x2048, .f32⟩ : BufTy).Contents (Elt Ideal))
  (x2 : (⟨S3x1024, .f32⟩ : BufTy).Contents (Elt Ideal)) (x3 : (⟨S1x1024, .f32⟩ : BufTy).Contents (Elt Ideal))

namespace C

theorem bx_at (i : S1x256x1024.Idx) : val_main_v0 (F := Ideal) x0 i = Z x0 2 (0 + (i 1).val) (i 2).val := by
  have h0 : (i 0).val < 1 := (i 0).isLt
  rw [val_main_v0_apply]
  exact read3 x0 _ (by show 2 + (i 0).val = 2; omega) (by show (i 1).val = 0 + (i 1).val; omega) rfl

theorem bb_at (i : S1x256x1024.Idx) : val_main_v1 (F := Ideal) x0 i = Z x0 3 (0 + (i 1).val) (i 2).val := by
  have h0 : (i 0).val < 1 := (i 0).isLt
  rw [val_main_v1_apply]
  exact read3 x0 _ (by show 3 + (i 0).val = 3; omega) (by show (i 1).val = 0 + (i 1).val; omega) rfl

theorem bc_at (i : S1x256x1024.Idx) : val_main_v2 (F := Ideal) x0 i = Z x0 4 (0 + (i 1).val) (i 2).val := by
  have h0 : (i 0).val < 1 := (i 0).isLt
  rw [val_main_v2_apply]
  exact read3 x0 _ (by show 4 + (i 0).val = 4; omega) (by show (i 1).val = 0 + (i 1).val; omega) rfl

theorem bg_at (i : S1x256x1024.Idx) : val_main_v3 (F := Ideal) x0 i = Z x0 5 (0 + (i 1).val) (i 2).val := by
  have h0 : (i 0).val < 1 := (i 0).isLt
  rw [val_main_v3_apply]
  exact read3 x0 _ (by show 5 + (i 0).val = 5; omega) (by show (i 1).val = 0 + (i 1).val; omega) rfl

theorem tt_at (i : S1x256x1024.Idx) : val_main_v5 (F := Ideal) x0 i = tt (Z x0) (0 + (i 1).val) (i 2).val := by
  rw [val_main_v5_apply, bc_at, bx_at]; rfl

theorem zero_at (i : S1x1x1024.Idx) : val_main_v7 (F := Ideal) i = (0 : EReal) := by
  rw [val_main_v7_apply]; exact Ideal.ofBits_zero_f32

theorem cat_at (i : S1x258x1024.Idx) : val_main_v8 (F := Ideal) x0 i = if (i 1).val = 0 ∨ (i 1).val = 256 + 1 then (0 : EReal) else tt (Z x0) (0 + ((i 1).val - 1)) (i 2).val := by
  unfold val_main_v8
  exact cat3 (n := 256) _ _ _ rfl zero_at (f := fun r l => tt (Z x0) (0 + r) l) (tt_at x0) i

theorem prev_at (i : S1x256x1024.Idx) : val_main_v11 (F := Ideal) x0 i = prev (Z x0) (0 + (i 1).val) (i 2).val := by
  have h1 : (i 1).val < 256 := (i 1).isLt
  rw [val_main_v11_apply, cat_at]
  show (if (i 1).val = 0 ∨ (i 1).val = 256 + 1 then (0 : EReal) else tt (Z x0) (0 + ((i 1).val - 1)) (i 2).val) = if 0 + (i 1).val = 0 ∨ 0 + (i 1).val = 256 then 0 else tt (Z x0) (0 + (i 1).val - 1) (i 2).val
  by_cases h : (i 1).val = 0
  · rw [if_pos (by omega), if_pos (by omega)]
  · rw [if_neg (by omega), if_neg (by omega)]; exact congrArg (tt (Z x0) · _) (by omega)

theorem mid_at (i : S1x256x1024.Idx) : val_main_v17 (F := Ideal) x0 i = tt (Z x0) (0 + (i 1).val) (i 2).val := by
  have h1 : (i 1).val < 256 := (i 1).isLt
  rw [val_main_v17_apply, cat_at]
  show (if 1 + (i 1).val = 0 ∨ 1 + (i 1).val = 256 + 1 then (0 : EReal) else tt (Z x0) (0 + (1 + (i 1).val - 1)) (i 2).val) = _
  rw [if_neg (by omega)]; exact congrArg (tt (Z x0) · _) (by omega)

theorem next_at (i : S1x256x1024.Idx) : val_main_v24 (F := Ideal) x0 i = next (Z x0) (0 + (i 1).val) (i 2).val := by
  have h1 : (i 1).val < 256 := (i 1).isLt
  rw [val_main_v24_apply, cat_at]
  show (if 2 + (i 1).val = 0 ∨ 2 + (i 1).val = 256 + 1 then (0 : EReal) else tt (Z x0) (0 + (2 + (i 1).val - 1)) (i 2).val) = if 0 + (i 1).val = 255 ∨ 0 + (i 1).val = 2303 then 0 else tt (Z x0) (0 + (i 1).val + 1) (i 2).val
  by_cases h : (i 1).val = 255
  · rw [if_pos (by omega), if_pos (by omega)]
  · rw [if_neg (by omega), if_neg (by omega)]; exact congrArg (tt (Z x0) · _) (by omega)

theorem w0_at (i : S1x1x1024.Idx) : val_main_v14 (F := Ideal) x2 i = at2 (a := 3) (b := 1024) x2 0 (i 2).val := by
  rw [val_main_v14_apply, val_main_v13_apply, val_main_v12_apply]
  exact read2 x2 _ rfl (Nat.mod_eq_of_lt (i 2).isLt)

theorem wa0_at (i : S1x256x1024.Idx) : val_main_v15 (F := Ideal) x2 i = at2 (a := 3) (b := 1024) x2 0 (i 2).val := by
  rw [val_main_v15_apply, w0_at]

theorem wb0_at (i : S1x256x1024.Idx) : val_main_v166 (F := Ideal) x2 i = at2 (a := 3) (b := 1024) x2 0 (i 2).val := by
  rw [val_main_v166_apply, w0_at]

theorem w1_at (i : S1x1x1024.Idx) : val_main_v20 (F := Ideal) x2 i = at2 (a := 3) (b := 1024) x2 1 (i 2).val := by
  rw [val_main_v20_apply, val_main_v19_apply, val_main_v18_apply]
  exact read2 x2 _ rfl (Nat.mod_eq_of_lt (i 2).isLt)

theorem wa1_at (i : S1x256x1024.Idx) : val_main_v21 (F := Ideal) x2 i = at2 (a := 3) (b := 1024) x2 1 (i 2).val := by
  rw [val_main_v21_apply, w1_at]

theorem wb1_at (i : S1x256x1024.Idx) : val_main_v155 (F := Ideal) x2 i = at2 (a := 3) (b := 1024) x2 1 (i 2).val := by
  rw [val_main_v155_apply, w1_at]

theorem w2_at (i : S1x1x1024.Idx) : val_main_v27 (F := Ideal) x2 i = at2 (a := 3) (b := 1024) x2 2 (i 2).val := by
  rw [val_main_v27_apply, val_main_v26_apply, val_main_v25_apply]
  exact read2 x2 _ rfl (Nat.mod_eq_of_lt (i 2).isLt)

theorem wa2_at (i : S1x256x1024.Idx) : val_main_v28 (F := Ideal) x2 i = at2 (a := 3) (b := 1024) x2 2 (i 2).val := by
  rw [val_main_v28_apply, w2_at]

theorem wb2_at (i : S1x256x1024.Idx) : val_main_v145 (F := Ideal) x2 i = at2 (a := 3) (b := 1024) x2 2 (i 2).val := by
  rw [val_main_v145_apply, w2_at]

theorem bias_at (i : S1x256x1024.Idx) : val_main_v32 (F := Ideal) x3 i = at2 (a := 1) (b := 1024) x3 0 (i 2).val := by
  rw [val_main_v32_apply, val_main_v31_apply, val_main_v4_apply]
  exact read2 x3 _ rfl (Nat.mod_eq_of_lt (i 2).isLt)

theorem cv_at (i : S1x256x1024.Idx) : val_main_v33 (F := Ideal) x0 x2 x3 i = cv (Z x0) (W x2) (B x3) (0 + (i 1).val) (i 2).val := by
  rw [val_main_v33_apply, val_main_v30_apply, val_main_v23_apply, val_main_v16_apply, val_main_v22_apply, val_main_v29_apply, prev_at, mid_at, next_at, wa0_at, wa1_at, wa2_at, bias_at]; rfl

theorem sg_at (i : S1x256x1024.Idx) : val_main_v35_2 (F := Ideal) x0 i = sg (Z x0) (0 + (i 1).val) (i 2).val := by
  rw [val_main_v35_2_apply, val_main_call0_v4_apply, val_main_call0_cst_0_apply, val_main_call0_v3_apply, val_main_call0_v2_apply, val_main_call0_cst_apply, val_main_call0_v1_apply, val_main_call0_v0_apply, bg_at]
  show Ideal.div (Ideal.ofBits .f32 0x3F800000#32) (Ideal.ofBits .f32 0x3F800000#32 + Ideal.exp (-Z x0 5 (0 + (i 1).val) (i 2).val)) = _
  rw [Ideal.ofBits_one_f32]; rfl

theorem silu_at (i : S1x256x1024.Idx) : val_main_v35_0 (F := Ideal) x0 i = Z x0 5 (0 + (i 1).val) (i 2).val * sg (Z x0) (0 + (i 1).val) (i 2).val := by
  rw [val_main_v35_0_apply, bg_at, sg_at]; rfl

theorem slope_at (i : S1x256x1024.Idx) : val_main_v35_1 (F := Ideal) x0 i = sg (Z x0) (0 + (i 1).val) (i 2).val * (1 - sg (Z x0) (0 + (i 1).val) (i 2).val) := by
  rw [val_main_v35_1_apply, val_main_call0_v7_apply, val_main_call0_v6_apply, val_main_call0_cst_1_apply, sg_at]
  show sg (Z x0) (0 + (i 1).val) (i 2).val * (Ideal.ofBits .f32 0x3F800000#32 - sg (Z x0) (0 + (i 1).val) (i 2).val) = _
  rw [Ideal.ofBits_one_f32]

theorem du_at (i : S1x256x1024.Idx) : val_main_v81 (F := Ideal) x1 i = D x1 (0 + (i 1).val) (i 2).val := by
  rw [val_main_v81_apply, val_main_v78_apply, val_main_v77_apply]
  exact read2 x1 _ (by show (i 1).val = 0 + (i 1).val; omega) rfl

theorem ct_at (i : S1x256x1024.Idx) : val_main_v134 (F := Ideal) x0 x1 x2 x3 i = Z x0 3 (0 + (i 1).val) (i 2).val * cv (Z x0) (W x2) (B x3) (0 + (i 1).val) (i 2).val * D x1 (0 + (i 1).val) (i 2).val := by
  rw [val_main_v134_apply, val_main_v34_apply, bb_at, cv_at, du_at]; rfl

theorem dus_at (i : S1x256x1024.Idx) : val_main_v135 (F := Ideal) x0 x1 i = D x1 (0 + (i 1).val) (i 2).val * (Z x0 5 (0 + (i 1).val) (i 2).val * sg (Z x0) (0 + (i 1).val) (i 2).val) := by
  rw [val_main_v135_apply, du_at, silu_at]; rfl

theorem dcv_at (i : S1x256x1024.Idx) : val_main_v137 (F := Ideal) x0 x1 i = dcv (Z x0) (D x1) (0 + (i 1).val) (i 2).val := by
  rw [val_main_v137_apply, bb_at, dus_at]
  show Z x0 3 (0 + (i 1).val) (i 2).val * (D x1 (0 + (i 1).val) (i 2).val * (Z x0 5 (0 + (i 1).val) (i 2).val * sg (Z x0) (0 + (i 1).val) (i 2).val)) = D x1 (0 + (i 1).val) (i 2).val * Z x0 3 (0 + (i 1).val) (i 2).val * (Z x0 5 (0 + (i 1).val) (i 2).val * sg (Z x0) (0 + (i 1).val) (i 2).val)
  rw [mul_left_comm, mul_assoc]

theorem d1_at (i : S1x256x1024.Idx) : val_main_v138 (F := Ideal) x0 x1 x2 x3 i = dz (Z x0) (D x1) (W x2) (B x3) 1 (0 + (i 1).val) (i 2).val := by
  rw [val_main_v138_apply, dus_at, cv_at]
  show D x1 (0 + (i 1).val) (i 2).val * (Z x0 5 (0 + (i 1).val) (i 2).val * sg (Z x0) (0 + (i 1).val) (i 2).val) * cv (Z x0) (W x2) (B x3) (0 + (i 1).val) (i 2).val = D x1 (0 + (i 1).val) (i 2).val * cv (Z x0) (W x2) (B x3) (0 + (i 1).val) (i 2).val * (Z x0 5 (0 + (i 1).val) (i 2).val * sg (Z x0) (0 + (i 1).val) (i 2).val)
  exact mul_right_comm _ _ _

theorem d3_at (hz : ∀ s r l, Real (Z x0 s r l)) (hd : ∀ r l, Real (D x1 r l)) (hw : ∀ k l, Real (W x2 k l)) (hb : ∀ l, Real (B x3 l)) (i : S1x256x1024.Idx) :
    val_main_v136 (F := Ideal) x0 x1 x2 x3 i = dz (Z x0) (D x1) (W x2) (B x3) 3 (0 + (i 1).val) (i 2).val := by
  rw [val_main_v136_apply, val_main_call3_v1_apply, val_main_call3_v2_apply, val_main_call3_v0_apply, ct_at, sg_at, slope_at, bg_at]
  refine (gate_eq (((hz _ _ _).mul (real_cv hz hw hb _ _)).mul (hd _ _)) (hz _ _ _) (real_logistic (hz _ _ _))).symm.trans ?_
  show Z x0 3 (0 + (i 1).val) (i 2).val * cv (Z x0) (W x2) (B x3) (0 + (i 1).val) (i 2).val * D x1 (0 + (i 1).val) (i 2).val * (sg (Z x0) (0 + (i 1).val) (i 2).val * (1 + Z x0 5 (0 + (i 1).val) (i 2).val * (1 - sg (Z x0) (0 + (i 1).val) (i 2).val))) = D x1 (0 + (i 1).val) (i 2).val * Z x0 3 (0 + (i 1).val) (i 2).val * cv (Z x0) (W x2) (B x3) (0 + (i 1).val) (i 2).val * (sg (Z x0) (0 + (i 1).val) (i 2).val * (1 + Z x0 5 (0 + (i 1).val) (i 2).val * (1 - sg (Z x0) (0 + (i 1).val) (i 2).val)))
  rw [mul_comm (Z x0 3 (0 + (i 1).val) (i 2).val * cv (Z x0) (W x2) (B x3) (0 + (i 1).val) (i 2).val), ← mul_assoc (D x1 (0 + (i 1).val) (i 2).val)]

theorem m2_at (i : S1x256x1024.Idx) : val_main_v146 (F := Ideal) x0 x1 x2 i = dcv (Z x0) (D x1) (0 + (i 1).val) (i 2).val * W x2 2 (i 2).val := by
  rw [val_main_v146_apply, dcv_at, wb2_at]; rfl

theorem p2_at (i : S1x258x1024.Idx) : val_main_v151 (F := Ideal) x0 x1 x2 i = if 2 ≤ (i 1).val then dcv (Z x0) (D x1) (0 + ((i 1).val - 2)) (i 2).val * W x2 2 (i 2).val else 0 := by
  unfold val_main_v151
  have h0 : (i 0).val < 1 := (i 0).isLt
  have h1 : (i 1).val < 258 := (i 1).isLt
  exact (pad3 _ _ _ _ Ideal.ofBits_zero_f32 (f := fun r l => dcv (Z x0) (D x1) (0 + r) l * W x2 2 l) (m2_at x0 x1 x2) i).trans
    (if_congr (by omega) rfl rfl)

theorem m1_at (i : S1x256x1024.Idx) : val_main_v156 (F := Ideal) x0 x1 x2 i = dcv (Z x0) (D x1) (0 + (i 1).val) (i 2).val * W x2 1 (i 2).val := by
  rw [val_main_v156_apply, dcv_at, wb1_at]; rfl

theorem p1_at (i : S1x258x1024.Idx) : val_main_v161 (F := Ideal) x0 x1 x2 i = if 1 ≤ (i 1).val ∧ (i 1).val < 1 + 256 then dcv (Z x0) (D x1) (0 + ((i 1).val - 1)) (i 2).val * W x2 1 (i 2).val else 0 := by
  unfold val_main_v161
  have h0 : (i 0).val < 1 := (i 0).isLt
  have h1 : (i 1).val < 258 := (i 1).isLt
  exact (pad3 _ _ _ _ Ideal.ofBits_zero_f32 (f := fun r l => dcv (Z x0) (D x1) (0 + r) l * W x2 1 l) (m1_at x0 x1 x2) i).trans
    (if_congr (by omega) rfl rfl)

theorem m0_at (i : S1x256x1024.Idx) : val_main_v167 (F := Ideal) x0 x1 x2 i = dcv (Z x0) (D x1) (0 + (i 1).val) (i 2).val * W x2 0 (i 2).val := by
  rw [val_main_v167_apply, dcv_at, wb0_at]; rfl

theorem p0_at (i : S1x258x1024.Idx) : val_main_v172 (F := Ideal) x0 x1 x2 i = if (i 1).val < 256 then dcv (Z x0) (D x1) (0 + ((i 1).val - 0)) (i 2).val * W x2 0 (i 2).val else 0 := by
  unfold val_main_v172
  have h0 : (i 0).val < 1 := (i 0).isLt
  have h1 : (i 1).val < 258 := (i 1).isLt
  exact (pad3 _ _ _ _ Ideal.ofBits_zero_f32 (f := fun r l => dcv (Z x0) (D x1) (0 + r) l * W x2 0 l) (m0_at x0 x1 x2) i).trans
    (if_congr (by omega) rfl rfl)

theorem dt_at (i : S1x256x1024.Idx) : val_main_v175 (F := Ideal) x0 x1 x2 i = dt (Z x0) (D x1) (W x2) (0 + (i 1).val) (i 2).val := by
  have h1 : (i 1).val < 256 := (i 1).isLt
  rw [val_main_v175_apply, val_main_v173_apply, val_main_v162_apply, p2_at, p1_at, p0_at]
  unfold dt
  show ((if 2 ≤ 1 + (i 1).val then dcv (Z x0) (D x1) (0 + (1 + (i 1).val - 2)) (i 2).val * W x2 2 (i 2).val else 0)
    + (if 1 ≤ 1 + (i 1).val ∧ 1 + (i 1).val < 1 + 256 then dcv (Z x0) (D x1) (0 + (1 + (i 1).val - 1)) (i 2).val * W x2 1 (i 2).val else 0))
    + (if 1 + (i 1).val < 256 then dcv (Z x0) (D x1) (0 + (1 + (i 1).val - 0)) (i 2).val * W x2 0 (i 2).val else 0) = _
  have e2 : (if 2 ≤ 1 + (i 1).val then dcv (Z x0) (D x1) (0 + (1 + (i 1).val - 2)) (i 2).val * W x2 2 (i 2).val else (0 : EReal))
      = if (0 + (i 1).val) = 0 ∨ (0 + (i 1).val) = 256 then 0 else dcv (Z x0) (D x1) ((0 + (i 1).val) - 1) (i 2).val * W x2 2 (i 2).val := by
    by_cases h : (i 1).val = 0
    · rw [if_neg (by omega), if_pos (by omega)]
    · rw [if_pos (by omega), if_neg (by omega)]; exact congrArg (dcv (Z x0) (D x1) · _ * _) (by omega)
  have e1 : (if 1 ≤ 1 + (i 1).val ∧ 1 + (i 1).val < 1 + 256 then dcv (Z x0) (D x1) (0 + (1 + (i 1).val - 1)) (i 2).val * W x2 1 (i 2).val else (0 : EReal))
      = dcv (Z x0) (D x1) (0 + (i 1).val) (i 2).val * W x2 1 (i 2).val := by
    rw [if_pos (by omega)]; exact congrArg (dcv (Z x0) (D x1) · _ * _) (by omega)
  have e0 : (if 1 + (i 1).val < 256 then dcv (Z x0) (D x1) (0 + (1 + (i 1).val - 0)) (i 2).val * W x2 0 (i 2).val else (0 : EReal))
      = if (0 + (i 1).val) = 255 ∨ (0 + (i 1).val) = 2303 then 0 else dcv (Z x0) (D x1) ((0 + (i 1).val) + 1) (i 2).val * W x2 0 (i 2).val := by
    by_cases h : (i 1).val = 255
    · rw [if_neg (by omega), if_pos (by omega)]
    · rw [if_pos (by omega), if_neg (by omega)]; exact congrArg (dcv (Z x0) (D x1) · _ * _) (by omega)
  rw [e2, e1, e0, add_comm, add_comm (ite _ _ _) (dcv (Z x0) (D x1) (0 + (i 1).val) (i 2).val * W x2 1 (i 2).val), ← add_assoc]

theorem d0_at (i : S1x256x1024.Idx) : val_main_v177 (F := Ideal) x0 x1 x2 i = dz (Z x0) (D x1) (W x2) (B x3) 0 (0 + (i 1).val) (i 2).val := by
  rw [val_main_v177_apply, bc_at, dt_at]; exact mul_comm (G := EReal) _ _

theorem d2_at (i : S1x256x1024.Idx) : val_main_v178 (F := Ideal) x0 x1 x2 i = dz (Z x0) (D x1) (W x2) (B x3) 2 (0 + (i 1).val) (i 2).val := by
  rw [val_main_v178_apply, bx_at, dt_at]; rfl

theorem s0_at (i : S1x1024.Idx) : val_main_v164 (F := Ideal) x0 x1 i = part (fun r l => dcv (Z x0) (D x1) r l * tap (Z x0) 0 r l) 0 256 (i 1).val := by
  rw [val_main_v164_apply]
  refine (congrArg (· + _) Ideal.ofBits_zero_f32).trans ((zero_add _).trans (Finset.sum_congr rfl fun k _ => ?_))
  rw [val_main_v163_apply, prev_at, dcv_at]; exact mul_comm (G := EReal) _ _

theorem sr0_at (i : S1x1x1024.Idx) : val_main_v165 (F := Ideal) x0 x1 i = part (fun r l => dcv (Z x0) (D x1) r l * tap (Z x0) 0 r l) 0 256 (i 2).val := by
  have h0 : (i 0).val < 1 := (i 0).isLt
  have h1 : (i 1).val < 1 := (i 1).isLt
  have h2 : (i 2).val < 1024 := (i 2).isLt
  rw [val_main_v165_apply, s0_at]
  exact congrArg (part (fun r l => dcv (Z x0) (D x1) r l * tap (Z x0) 0 r l) 0 256) (by show (((i 0).val * 1 + (i 1).val) * 1024 + (i 2).val) % 1024 = (i 2).val; omega)

theorem st0_at (i : S1024.Idx) : val_main_v168 (F := Ideal) x0 x1 i = part (fun r l => dcv (Z x0) (D x1) r l * tap (Z x0) 0 r l) 0 256 (i 0).val := by
  unfold val_main_v168
  exact (sum01 _ _ Ideal.ofBits_zero_f32 _ i).trans (sr0_at x0 x1 _)

theorem sp0_at (i : S3x1024.Idx) : val_main_v170 (F := Ideal) x0 x1 i = if (i 0).val = 0 then part (fun r l => dcv (Z x0) (D x1) r l * tap (Z x0) 0 r l) 0 256 (i 1).val else 0 := by
  unfold val_main_v170
  exact pad2 _ _ _ _ Ideal.ofBits_zero_f32 (f := part (fun r l => dcv (Z x0) (D x1) r l * tap (Z x0) 0 r l) 0 256) (fun i => by rw [val_main_v169_apply, st0_at]) i

theorem s1_at (i : S1x1024.Idx) : val_main_v153 (F := Ideal) x0 x1 i = part (fun r l => dcv (Z x0) (D x1) r l * tap (Z x0) 1 r l) 0 256 (i 1).val := by
  rw [val_main_v153_apply]
  refine (congrArg (· + _) Ideal.ofBits_zero_f32).trans ((zero_add _).trans (Finset.sum_congr rfl fun k _ => ?_))
  rw [val_main_v152_apply, mid_at, dcv_at]; exact mul_comm (G := EReal) _ _

theorem sr1_at (i : S1x1x1024.Idx) : val_main_v154 (F := Ideal) x0 x1 i = part (fun r l => dcv (Z x0) (D x1) r l * tap (Z x0) 1 r l) 0 256 (i 2).val := by
  have h0 : (i 0).val < 1 := (i 0).isLt
  have h1 : (i 1).val < 1 := (i 1).isLt
  have h2 : (i 2).val < 1024 := (i 2).isLt
  rw [val_main_v154_apply, s1_at]
  exact congrArg (part (fun r l => dcv (Z x0) (D x1) r l * tap (Z x0) 1 r l) 0 256) (by show (((i 0).val * 1 + (i 1).val) * 1024 + (i 2).val) % 1024 = (i 2).val; omega)

theorem st1_at (i : S1024.Idx) : val_main_v157 (F := Ideal) x0 x1 i = part (fun r l => dcv (Z x0) (D x1) r l * tap (Z x0) 1 r l) 0 256 (i 0).val := by
  unfold val_main_v157
  exact (sum01 _ _ Ideal.ofBits_zero_f32 _ i).trans (sr1_at x0 x1 _)

theorem sp1_at (i : S3x1024.Idx) : val_main_v159 (F := Ideal) x0 x1 i = if (i 0).val = 1 then part (fun r l => dcv (Z x0) (D x1) r l * tap (Z x0) 1 r l) 0 256 (i 1).val else 0 := by
  unfold val_main_v159
  exact pad2 _ _ _ _ Ideal.ofBits_zero_f32 (f := part (fun r l => dcv (Z x0) (D x1) r l * tap (Z x0) 1 r l) 0 256) (fun i => by rw [val_main_v158_apply, st1_at]) i

theorem s2_at (i : S1x1024.Idx) : val_main_v143 (F := Ideal) x0 x1 i = part (fun r l => dcv (Z x0) (D x1) r l * tap (Z x0) 2 r l) 0 256 (i 1).val := by
  rw [val_main_v143_apply]
  refine (congrArg (· + _) Ideal.ofBits_zero_f32).trans ((zero_add _).trans (Finset.sum_congr rfl fun k _ => ?_))
  rw [val_main_v142_apply, next_at, dcv_at]; exact mul_comm (G := EReal) _ _

theorem sr2_at (i : S1x1x1024.Idx) : val_main_v144 (F := Ideal) x0 x1 i = part (fun r l => dcv (Z x0) (D x1) r l * tap (Z x0) 2 r l) 0 256 (i 2).val := by
  have h0 : (i 0).val < 1 := (i 0).isLt
  have h1 : (i 1).val < 1 := (i 1).isLt
  have h2 : (i 2).val < 1024 := (i 2).isLt
  rw [val_main_v144_apply, s2_at]
  exact congrArg (part (fun r l => dcv (Z x0) (D x1) r l * tap (Z x0) 2 r l) 0 256) (by show (((i 0).val * 1 + (i 1).val) * 1024 + (i 2).val) % 1024 = (i 2).val; omega)

theorem st2_at (i : S1024.Idx) : val_main_v147 (F := Ideal) x0 x1 i = part (fun r l => dcv (Z x0) (D x1) r l * tap (Z x0) 2 r l) 0 256 (i 0).val := by
  unfold val_main_v147
  exact (sum01 _ _ Ideal.ofBits_zero_f32 _ i).trans (sr2_at x0 x1 _)

theorem sp2_at (i : S3x1024.Idx) : val_main_v149 (F := Ideal) x0 x1 i = if (i 0).val = 2 then part (fun r l => dcv (Z x0) (D x1) r l * tap (Z x0) 2 r l) 0 256 (i 1).val else 0 := by
  unfold val_main_v149
  exact pad2 _ _ _ _ Ideal.ofBits_zero_f32 (f := part (fun r l => dcv (Z x0) (D x1) r l * tap (Z x0) 2 r l) 0 256) (fun i => by rw [val_main_v148_apply, st2_at]) i

theorem sb_at (i : S1x1024.Idx) : val_main_v139 (F := Ideal) x0 x1 i = part (dcv (Z x0) (D x1)) 0 256 (i 1).val := by
  rw [val_main_v139_apply]
  refine (congrArg (· + _) Ideal.ofBits_zero_f32).trans ((zero_add _).trans (Finset.sum_congr rfl fun k _ => ?_))
  rw [dcv_at]

theorem sbr_at (i : S1x1x1024.Idx) : val_main_v140 (F := Ideal) x0 x1 i = part (dcv (Z x0) (D x1)) 0 256 (i 2).val := by
  have h0 : (i 0).val < 1 := (i 0).isLt
  have h1 : (i 1).val < 1 := (i 1).isLt
  have h2 : (i 2).val < 1024 := (i 2).isLt
  rw [val_main_v140_apply, sb_at]
  exact congrArg (part (dcv (Z x0) (D x1)) 0 256) (by show (((i 0).val * 1 + (i 1).val) * 1024 + (i 2).val) % 1024 = (i 2).val; omega)

theorem db_at (i : S1x1024.Idx) : val_main_v179 (F := Ideal) x0 x1 i = part (dcv (Z x0) (D x1)) 0 256 (i 1).val := by
  rw [val_main_v179_apply]
  unfold val_main_v141
  exact (sum01 _ _ Ideal.ofBits_zero_f32 _ _).trans (sbr_at x0 x1 _)

theorem q3_at (hz : ∀ s r l, Real (Z x0 s r l)) (hd : ∀ r l, Real (D x1 r l)) (hw : ∀ k l, Real (W x2 k l)) (hb : ∀ l, Real (B x3 l)) (i : S6x2304x1024.Idx) : val_main_v181 (F := Ideal) x0 x1 x2 x3 i = if (i 0).val = 5 ∧ (i 1).val < 256 then dz (Z x0) (D x1) (W x2) (B x3) 3 (i 1).val (i 2).val else 0 := by
  unfold val_main_v181
  have h1 : (i 1).val < 2304 := (i 1).isLt
  refine (pad3 _ _ _ _ Ideal.ofBits_zero_f32 (f := fun r l => dz (Z x0) (D x1) (W x2) (B x3) 3 (0 + r) l) (d3_at x0 x1 x2 x3 hz hd hw hb) i).trans ?_
  by_cases h : (i 0).val = 5 ∧ (i 1).val < 256
  · rw [if_pos (by omega), if_pos h]; exact congrArg (dz (Z x0) (D x1) (W x2) (B x3) 3 · _) (by omega)
  · rw [if_neg (by omega), if_neg h]

theorem q2_at (i : S6x2304x1024.Idx) : val_main_v183 (F := Ideal) x0 x1 x2 i = if (i 0).val = 4 ∧ (i 1).val < 256 then dz (Z x0) (D x1) (W x2) (B x3) 2 (i 1).val (i 2).val else 0 := by
  unfold val_main_v183
  have h1 : (i 1).val < 2304 := (i 1).isLt
  refine (pad3 _ _ _ _ Ideal.ofBits_zero_f32 (f := fun r l => dz (Z x0) (D x1) (W x2) (B x3) 2 (0 + r) l) (d2_at x0 x1 x2 x3) i).trans ?_
  by_cases h : (i 0).val = 4 ∧ (i 1).val < 256
  · rw [if_pos (by omega), if_pos h]; exact congrArg (dz (Z x0) (D x1) (W x2) (B x3) 2 · _) (by omega)
  · rw [if_neg (by omega), if_neg h]

theorem q1_at (i : S6x2304x1024.Idx) : val_main_v185 (F := Ideal) x0 x1 x2 x3 i = if (i 0).val = 3 ∧ (i 1).val < 256 then dz (Z x0) (D x1) (W x2) (B x3) 1 (i 1).val (i 2).val else 0 := by
  unfold val_main_v185
  have h1 : (i 1).val < 2304 := (i 1).isLt
  refine (pad3 _ _ _ _ Ideal.ofBits_zero_f32 (f := fun r l => dz (Z x0) (D x1) (W x2) (B x3) 1 (0 + r) l) (d1_at x0 x1 x2 x3) i).trans ?_
  by_cases h : (i 0).val = 3 ∧ (i 1).val < 256
  · rw [if_pos (by omega), if_pos h]; exact congrArg (dz (Z x0) (D x1) (W x2) (B x3) 1 · _) (by omega)
  · rw [if_neg (by omega), if_neg h]

theorem q0_at (i : S6x2304x1024.Idx) : val_main_v187 (F := Ideal) x0 x1 x2 i = if (i 0).val = 2 ∧ (i 1).val < 256 then dz (Z x0) (D x1) (W x2) (B x3) 0 (i 1).val (i 2).val else 0 := by
  unfold val_main_v187
  have h1 : (i 1).val < 2304 := (i 1).isLt
  refine (pad3 _ _ _ _ Ideal.ofBits_zero_f32 (f := fun r l => dz (Z x0) (D x1) (W x2) (B x3) 0 (0 + r) l) (d0_at x0 x1 x2 x3) i).trans ?_
  by_cases h : (i 0).val = 2 ∧ (i 1).val < 256
  · rw [if_pos (by omega), if_pos h]; exact congrArg (dz (Z x0) (D x1) (W x2) (B x3) 0 · _) (by omega)
  · rw [if_neg (by omega), if_neg h]

end C

namespace L

theorem bx_at (i : S1x2048x1024.Idx) : val_main_v37 (F := Ideal) x0 i = Z x0 2 (256 + (i 1).val) (i 2).val := by
  have h0 : (i 0).val < 1 := (i 0).isLt
  rw [val_main_v37_apply]
  exact read3 x0 _ (by show 2 + (i 0).val = 2; omega) (by show 256 + (i 1).val = 256 + (i 1).val; omega) rfl

theorem bb_at (i : S1x2048x1024.Idx) : val_main_v38 (F := Ideal) x0 i = Z x0 3 (256 + (i 1).val) (i 2).val := by
  have h0 : (i 0).val < 1 := (i 0).isLt
  rw [val_main_v38_apply]
  exact read3 x0 _ (by show 3 + (i 0).val = 3; omega) (by show 256 + (i 1).val = 256 + (i 1).val; omega) rfl

theorem bc_at (i : S1x2048x1024.Idx) : val_main_v39 (F := Ideal) x0 i = Z x0 4 (256 + (i 1).val) (i 2).val := by
  have h0 : (i 0).val < 1 := (i 0).isLt
  rw [val_main_v39_apply]
  exact read3 x0 _ (by show 4 + (i 0).val = 4; omega) (by show 256 + (i 1).val = 256 + (i 1).val; omega) rfl

theorem bg_at (i : S1x2048x1024.Idx) : val_main_v40 (F := Ideal) x0 i = Z x0 5 (256 + (i 1).val) (i 2).val := by
  have h0 : (i 0).val < 1 := (i 0).isLt
  rw [val_main_v40_apply]
  exact read3 x0 _ (by show 5 + (i 0).val = 5; omega) (by show 256 + (i 1).val = 256 + (i 1).val; omega) rfl

theorem tt_at (i : S1x2048x1024.Idx) : val_main_v42 (F := Ideal) x0 i = tt (Z x0) (256 + (i 1).val) (i 2).val := by
  rw [val_main_v42_apply, bc_at, bx_at]; rfl

theorem zero_at (i : S1x1x1024.Idx) : val_main_v44 (F := Ideal) i = (0 : EReal) := by
  rw [val_main_v44_apply]; exact Ideal.ofBits_zero_f32

theorem cat_at (i : S1x2050x1024.Idx) : val_main_v45 (F := Ideal) x0 i = if (i 1).val = 0 ∨ (i 1).val = 2048 + 1 then (0 : EReal) else tt (Z x0) (256 + ((i 1).val - 1)) (i 2).val := by
  unfold val_main_v45
  exact cat3 (n := 2048) _ _ _ rfl zero_at (f := fun r l => tt (Z x0) (256 + r) l) (tt_at x0) i

theorem prev_at (i : S1x2048x1024.Idx) : val_main_v48 (F := Ideal) x0 i = prev (Z x0) (256 + (i 1).val) (i 2).val := by
  have h1 : (i 1).val < 2048 := (i 1).isLt
  rw [val_main_v48_apply, cat_at]
  show (if (i 1).val = 0 ∨ (i 1).val = 2048 + 1 then (0 : EReal) else tt (Z x0) (256 + ((i 1).val - 1)) (i 2).val) = if 256 + (i 1).val = 0 ∨ 256 + (i 1).val = 256 then 0 else tt (Z x0) (256 + (i 1).val - 1) (i 2).val
  by_cases h : (i 1).val = 0
  · rw [if_pos (by omega), if_pos (by omega)]
  · rw [if_neg (by omega), if_neg (by omega)]; exact congrArg (tt (Z x0) · _) (by omega)

theorem mid_at (i : S1x2048x1024.Idx) : val_main_v54 (F := Ideal) x0 i = tt (Z x0) (256 + (i 1).val) (i 2).val := by
  have h1 : (i 1).val < 2048 := (i 1).isLt
  rw [val_main_v54_apply, cat_at]
  show (if 1 + (i 1).val = 0 ∨ 1 + (i 1).val = 2048 + 1 then (0 : EReal) else tt (Z x0) (256 + (1 + (i 1).val - 1)) (i 2).val) = _
  rw [if_neg (by omega)]; exact congrArg (tt (Z x0) · _) (by omega)

theorem next_at (i : S1x2048x1024.Idx) : val_main_v61 (F := Ideal) x0 i = next (Z x0) (256 + (i 1).val) (i 2).val := by
  have h1 : (i 1).val < 2048 := (i 1).isLt
  rw [val_main_v61_apply, cat_at]
  show (if 2 + (i 1).val = 0 ∨ 2 + (i 1).val = 2048 + 1 then (0 : EReal) else tt (Z x0) (256 + (2 + (i 1).val - 1)) (i 2).val) = if 256 + (i 1).val = 255 ∨ 256 + (i 1).val = 2303 then 0 else tt (Z x0) (256 + (i 1).val + 1) (i 2).val
  by_cases h : (i 1).val = 2047
  · rw [if_pos (by omega), if_pos (by omega)]
  · rw [if_neg (by omega), if_neg (by omega)]; exact congrArg (tt (Z x0) · _) (by omega)

theorem w0_at (i : S1x1x1024.Idx) : val_main_v51 (F := Ideal) x2 i = at2 (a := 3) (b := 1024) x2 0 (i 2).val := by
  rw [val_main_v51_apply, val_main_v50_apply, val_main_v49_apply]
  exact read2 x2 _ rfl (Nat.mod_eq_of_lt (i 2).isLt)

theorem wa0_at (i : S1x2048x1024.Idx) : val_main_v52 (F := Ideal) x2 i = at2 (a := 3) (b := 1024) x2 0 (i 2).val := by
  rw [val_main_v52_apply, w0_at]

theorem wb0_at (i : S1x2048x1024.Idx) : val_main_v113 (F := Ideal) x2 i = at2 (a := 3) (b := 1024) x2 0 (i 2).val := by
  rw [val_main_v113_apply, w0_at]

theorem w1_at (i : S1x1x1024.Idx) : val_main_v57 (F := Ideal) x2 i = at2 (a := 3) (b := 1024) x2 1 (i 2).val := by
  rw [val_main_v57_apply, val_main_v56_apply, val_main_v55_apply]
  exact read2 x2 _ rfl (Nat.mod_eq_of_lt (i 2).isLt)

theorem wa1_at (i : S1x2048x1024.Idx) : val_main_v58 (F := Ideal) x2 i = at2 (a := 3) (b := 1024) x2 1 (i 2).val := by
  rw [val_main_v58_apply, w1_at]

theorem wb1_at (i : S1x2048x1024.Idx) : val_main_v102 (F := Ideal) x2 i = at2 (a := 3) (b := 1024) x2 1 (i 2).val := by
  rw [val_main_v102_apply, w1_at]

theorem w2_at (i : S1x1x1024.Idx) : val_main_v64 (F := Ideal) x2 i = at2 (a := 3) (b := 1024) x2 2 (i 2).val := by
  rw [val_main_v64_apply, val_main_v63_apply, val_main_v62_apply]
  exact read2 x2 _ rfl (Nat.mod_eq_of_lt (i 2).isLt)

theorem wa2_at (i : S1x2048x1024.Idx) : val_main_v65 (F := Ideal) x2 i = at2 (a := 3) (b := 1024) x2 2 (i 2).val := by
  rw [val_main_v65_apply, w2_at]

theorem wb2_at (i : S1x2048x1024.Idx) : val_main_v93 (F := Ideal) x2 i = at2 (a := 3) (b := 1024) x2 2 (i 2).val := by
  rw [val_main_v93_apply, w2_at]

theorem bias_at (i : S1x2048x1024.Idx) : val_main_v69 (F := Ideal) x3 i = at2 (a := 1) (b := 1024) x3 0 (i 2).val := by
  rw [val_main_v69_apply, val_main_v68_apply, val_main_v41_apply]
  exact read2 x3 _ rfl (Nat.mod_eq_of_lt (i 2).isLt)

theorem cv_at (i : S1x2048x1024.Idx) : val_main_v70 (F := Ideal) x0 x2 x3 i = cv (Z x0) (W x2) (B x3) (256 + (i 1).val) (i 2).val := by
  rw [val_main_v70_apply, val_main_v67_apply, val_main_v60_apply, val_main_v53_apply, val_main_v59_apply, val_main_v66_apply, prev_at, mid_at, next_at, wa0_at, wa1_at, wa2_at, bias_at]; rfl

theorem sg_at (i : S1x2048x1024.Idx) : val_main_v72_2 (F := Ideal) x0 i = sg (Z x0) (256 + (i 1).val) (i 2).val := by
  rw [val_main_v72_2_apply, val_main_call1_v4_apply, val_main_call1_cst_0_apply, val_main_call1_v3_apply, val_main_call1_v2_apply, val_main_call1_cst_apply, val_main_call1_v1_apply, val_main_call1_v0_apply, bg_at]
  show Ideal.div (Ideal.ofBits .f32 0x3F800000#32) (Ideal.ofBits .f32 0x3F800000#32 + Ideal.exp (-Z x0 5 (256 + (i 1).val) (i 2).val)) = _
  rw [Ideal.ofBits_one_f32]; rfl

theorem silu_at (i : S1x2048x1024.Idx) : val_main_v72_0 (F := Ideal) x0 i = Z x0 5 (256 + (i 1).val) (i 2).val * sg (Z x0) (256 + (i 1).val) (i 2).val := by
  rw [val_main_v72_0_apply, bg_at, sg_at]; rfl

theorem slope_at (i : S1x2048x1024.Idx) : val_main_v72_1 (F := Ideal) x0 i = sg (Z x0) (256 + (i 1).val) (i 2).val * (1 - sg (Z x0) (256 + (i 1).val) (i 2).val) := by
  rw [val_main_v72_1_apply, val_main_call1_v7_apply, val_main_call1_v6_apply, val_main_call1_cst_1_apply, sg_at]
  show sg (Z x0) (256 + (i 1).val) (i 2).val * (Ideal.ofBits .f32 0x3F800000#32 - sg (Z x0) (256 + (i 1).val) (i 2).val) = _
  rw [Ideal.ofBits_one_f32]

theorem du_at (i : S1x2048x1024.Idx) : val_main_v80 (F := Ideal) x1 i = D x1 (256 + (i 1).val) (i 2).val := by
  rw [val_main_v80_apply, val_main_v79_apply, val_main_v77_apply]
  exact read2 x1 _ (by show 256 + (i 1).val = 256 + (i 1).val; omega) rfl

theorem ct_at (i : S1x2048x1024.Idx) : val_main_v82 (F := Ideal) x0 x1 x2 x3 i = Z x0 3 (256 + (i 1).val) (i 2).val * cv (Z x0) (W x2) (B x3) (256 + (i 1).val) (i 2).val * D x1 (256 + (i 1).val) (i 2).val := by
  rw [val_main_v82_apply, val_main_v71_apply, bb_at, cv_at, du_at]; rfl

theorem dus_at (i : S1x2048x1024.Idx) : val_main_v83 (F := Ideal) x0 x1 i = D x1 (256 + (i 1).val) (i 2).val * (Z x0 5 (256 + (i 1).val) (i 2).val * sg (Z x0) (256 + (i 1).val) (i 2).val) := by
  rw [val_main_v83_apply, du_at, silu_at]; rfl

theorem dcv_at (i : S1x2048x1024.Idx) : val_main_v85 (F := Ideal) x0 x1 i = dcv (Z x0) (D x1) (256 + (i 1).val) (i 2).val := by
  rw [val_main_v85_apply, bb_at, dus_at]
  show Z x0 3 (256 + (i 1).val) (i 2).val * (D x1 (256 + (i 1).val) (i 2).val * (Z x0 5 (256 + (i 1).val) (i 2).val * sg (Z x0) (256 + (i 1).val) (i 2).val)) = D x1 (256 + (i 1).val) (i 2).val * Z x0 3 (256 + (i 1).val) (i 2).val * (Z x0 5 (256 + (i 1).val) (i 2).val * sg (Z x0) (256 + (i 1).val) (i 2).val)
  rw [mul_left_comm, mul_assoc]

theorem d1_at (i : S1x2048x1024.Idx) : val_main_v86 (F := Ideal) x0 x1 x2 x3 i = dz (Z x0) (D x1) (W x2) (B x3) 1 (256 + (i 1).val) (i 2).val := by
  rw [val_main_v86_apply, dus_at, cv_at]
  show D x1 (256 + (i 1).val) (i 2).val * (Z x0 5 (256 + (i 1).val) (i 2).val * sg (Z x0) (256 + (i 1).val) (i 2).val) * cv (Z x0) (W x2) (B x3) (256 + (i 1).val) (i 2).val = D x1 (256 + (i 1).val) (i 2).val * cv (Z x0) (W x2) (B x3) (256 + (i 1).val) (i 2).val * (Z x0 5 (256 + (i 1).val) (i 2).val * sg (Z x0) (256 + (i 1).val) (i 2).val)
  exact mul_right_comm _ _ _

theorem d3_at (hz : ∀ s r l, Real (Z x0 s r l)) (hd : ∀ r l, Real (D x1 r l)) (hw : ∀ k l, Real (W x2 k l)) (hb : ∀ l, Real (B x3 l)) (i : S1x2048x1024.Idx) :
    val_main_v84 (F := Ideal) x0 x1 x2 x3 i = dz (Z x0) (D x1) (W x2) (B x3) 3 (256 + (i 1).val) (i 2).val := by
  rw [val_main_v84_apply, val_main_call2_v1_apply, val_main_call2_v2_apply, val_main_call2_v0_apply, ct_at, sg_at, slope_at, bg_at]
  refine (gate_eq (((hz _ _ _).mul (real_cv hz hw hb _ _)).mul (hd _ _)) (hz _ _ _) (real_logistic (hz _ _ _))).symm.trans ?_
  show Z x0 3 (256 + (i 1).val) (i 2).val * cv (Z x0) (W x2) (B x3) (256 + (i 1).val) (i 2).val * D x1 (256 + (i 1).val) (i 2).val * (sg (Z x0) (256 + (i 1).val) (i 2).val * (1 + Z x0 5 (256 + (i 1).val) (i 2).val * (1 - sg (Z x0) (256 + (i 1).val) (i 2).val))) = D x1 (256 + (i 1).val) (i 2).val * Z x0 3 (256 + (i 1).val) (i 2).val * cv (Z x0) (W x2) (B x3) (256 + (i 1).val) (i 2).val * (sg (Z x0) (256 + (i 1).val) (i 2).val * (1 + Z x0 5 (256 + (i 1).val) (i 2).val * (1 - sg (Z x0) (256 + (i 1).val) (i 2).val)))
  rw [mul_comm (Z x0 3 (256 + (i 1).val) (i 2).val * cv (Z x0) (W x2) (B x3) (256 + (i 1).val) (i 2).val), ← mul_assoc (D x1 (256 + (i 1).val) (i 2).val)]

theorem m2_at (i : S1x2048x1024.Idx) : val_main_v94 (F := Ideal) x0 x1 x2 i = dcv (Z x0) (D x1) (256 + (i 1).val) (i 2).val * W x2 2 (i 2).val := by
  rw [val_main_v94_apply, dcv_at, wb2_at]; rfl

theorem p2_at (i : S1x2050x1024.Idx) : val_main_v98 (F := Ideal) x0 x1 x2 i = if 2 ≤ (i 1).val then dcv (Z x0) (D x1) (256 + ((i 1).val - 2)) (i 2).val * W x2 2 (i 2).val else 0 := by
  unfold val_main_v98
  have h0 : (i 0).val < 1 := (i 0).isLt
  have h1 : (i 1).val < 2050 := (i 1).isLt
  exact (pad3 _ _ _ _ Ideal.ofBits_zero_f32 (f := fun r l => dcv (Z x0) (D x1) (256 + r) l * W x2 2 l) (m2_at x0 x1 x2) i).trans
    (if_congr (by omega) rfl rfl)

theorem m1_at (i : S1x2048x1024.Idx) : val_main_v103 (F := Ideal) x0 x1 x2 i = dcv (Z x0) (D x1) (256 + (i 1).val) (i 2).val * W x2 1 (i 2).val := by
  rw [val_main_v103_apply, dcv_at, wb1_at]; rfl

theorem p1_at (i : S1x2050x1024.Idx) : val_main_v108 (F := Ideal) x0 x1 x2 i = if 1 ≤ (i 1).val ∧ (i 1).val < 1 + 2048 then dcv (Z x0) (D x1) (256 + ((i 1).val - 1)) (i 2).val * W x2 1 (i 2).val else 0 := by
  unfold val_main_v108
  have h0 : (i 0).val < 1 := (i 0).isLt
  have h1 : (i 1).val < 2050 := (i 1).isLt
  exact (pad3 _ _ _ _ Ideal.ofBits_zero_f32 (f := fun r l => dcv (Z x0) (D x1) (256 + r) l * W x2 1 l) (m1_at x0 x1 x2) i).trans
    (if_congr (by omega) rfl rfl)

theorem m0_at (i : S1x2048x1024.Idx) : val_main_v114 (F := Ideal) x0 x1 x2 i = dcv (Z x0) (D x1) (256 + (i 1).val) (i 2).val * W x2 0 (i 2).val := by
  rw [val_main_v114_apply, dcv_at, wb0_at]; rfl

theorem p0_at (i : S1x2050x1024.Idx) : val_main_v119 (F := Ideal) x0 x1 x2 i = if (i 1).val < 2048 then dcv (Z x0) (D x1) (256 + ((i 1).val - 0)) (i 2).val * W x2 0 (i 2).val else 0 := by
  unfold val_main_v119
  have h0 : (i 0).val < 1 := (i 0).isLt
  have h1 : (i 1).val < 2050 := (i 1).isLt
  exact (pad3 _ _ _ _ Ideal.ofBits_zero_f32 (f := fun r l => dcv (Z x0) (D x1) (256 + r) l * W x2 0 l) (m0_at x0 x1 x2) i).trans
    (if_congr (by omega) rfl rfl)

theorem dt_at (i : S1x2048x1024.Idx) : val_main_v122 (F := Ideal) x0 x1 x2 i = dt (Z x0) (D x1) (W x2) (256 + (i 1).val) (i 2).val := by
  have h1 : (i 1).val < 2048 := (i 1).isLt
  rw [val_main_v122_apply, val_main_v120_apply, val_main_v109_apply, p2_at, p1_at, p0_at]
  unfold dt
  show ((if 2 ≤ 1 + (i 1).val then dcv (Z x0) (D x1) (256 + (1 + (i 1).val - 2)) (i 2).val * W x2 2 (i 2).val else 0)
    + (if 1 ≤ 1 + (i 1).val ∧ 1 + (i 1).val < 1 + 2048 then dcv (Z x0) (D x1) (256 + (1 + (i 1).val - 1)) (i 2).val * W x2 1 (i 2).val else 0))
    + (if 1 + (i 1).val < 2048 then dcv (Z x0) (D x1) (256 + (1 + (i 1).val - 0)) (i 2).val * W x2 0 (i 2).val else 0) = _
  have e2 : (if 2 ≤ 1 + (i 1).val then dcv (Z x0) (D x1) (256 + (1 + (i 1).val - 2)) (i 2).val * W x2 2 (i 2).val else (0 : EReal))
      = if (256 + (i 1).val) = 0 ∨ (256 + (i 1).val) = 256 then 0 else dcv (Z x0) (D x1) ((256 + (i 1).val) - 1) (i 2).val * W x2 2 (i 2).val := by
    by_cases h : (i 1).val = 0
    · rw [if_neg (by omega), if_pos (by omega)]
    · rw [if_pos (by omega), if_neg (by omega)]; exact congrArg (dcv (Z x0) (D x1) · _ * _) (by omega)
  have e1 : (if 1 ≤ 1 + (i 1).val ∧ 1 + (i 1).val < 1 + 2048 then dcv (Z x0) (D x1) (256 + (1 + (i 1).val - 1)) (i 2).val * W x2 1 (i 2).val else (0 : EReal))
      = dcv (Z x0) (D x1) (256 + (i 1).val) (i 2).val * W x2 1 (i 2).val := by
    rw [if_pos (by omega)]; exact congrArg (dcv (Z x0) (D x1) · _ * _) (by omega)
  have e0 : (if 1 + (i 1).val < 2048 then dcv (Z x0) (D x1) (256 + (1 + (i 1).val - 0)) (i 2).val * W x2 0 (i 2).val else (0 : EReal))
      = if (256 + (i 1).val) = 255 ∨ (256 + (i 1).val) = 2303 then 0 else dcv (Z x0) (D x1) ((256 + (i 1).val) + 1) (i 2).val * W x2 0 (i 2).val := by
    by_cases h : (i 1).val = 2047
    · rw [if_neg (by omega), if_pos (by omega)]
    · rw [if_pos (by omega), if_neg (by omega)]; exact congrArg (dcv (Z x0) (D x1) · _ * _) (by omega)
  rw [e2, e1, e0, add_comm, add_comm (ite _ _ _) (dcv (Z x0) (D x1) (256 + (i 1).val) (i 2).val * W x2 1 (i 2).val), ← add_assoc]

theorem d0_at (i : S1x2048x1024.Idx) : val_main_v124 (F := Ideal) x0 x1 x2 i = dz (Z x0) (D x1) (W x2) (B x3) 0 (256 + (i 1).val) (i 2).val := by
  rw [val_main_v124_apply, bc_at, dt_at]; exact mul_comm (G := EReal) _ _

theorem d2_at (i : S1x2048x1024.Idx) : val_main_v125 (F := Ideal) x0 x1 x2 i = dz (Z x0) (D x1) (W x2) (B x3) 2 (256 + (i 1).val) (i 2).val := by
  rw [val_main_v125_apply, bx_at, dt_at]; rfl

theorem s0_at (i : S1x1024.Idx) : val_main_v111 (F := Ideal) x0 x1 i = part (fun r l => dcv (Z x0) (D x1) r l * tap (Z x0) 0 r l) 256 2048 (i 1).val := by
  rw [val_main_v111_apply]
  refine (congrArg (· + _) Ideal.ofBits_zero_f32).trans ((zero_add _).trans (Finset.sum_congr rfl fun k _ => ?_))
  rw [val_main_v110_apply, prev_at, dcv_at]; exact mul_comm (G := EReal) _ _

theorem sr0_at (i : S1x1x1024.Idx) : val_main_v112 (F := Ideal) x0 x1 i = part (fun r l => dcv (Z x0) (D x1) r l * tap (Z x0) 0 r l) 256 2048 (i 2).val := by
  have h0 : (i 0).val < 1 := (i 0).isLt
  have h1 : (i 1).val < 1 := (i 1).isLt
  have h2 : (i 2).val < 1024 := (i 2).isLt
  rw [val_main_v112_apply, s0_at]
  exact congrArg (part (fun r l => dcv (Z x0) (D x1) r l * tap (Z x0) 0 r l) 256 2048) (by show (((i 0).val * 1 + (i 1).val) * 1024 + (i 2).val) % 1024 = (i 2).val; omega)

theorem st0_at (i : S1024.Idx) : val_main_v115 (F := Ideal) x0 x1 i = part (fun r l => dcv (Z x0) (D x1) r l * tap (Z x0) 0 r l) 256 2048 (i 0).val := by
  unfold val_main_v115
  exact (sum01 _ _ Ideal.ofBits_zero_f32 _ i).trans (sr0_at x0 x1 _)

theorem sp0_at (i : S3x1024.Idx) : val_main_v117 (F := Ideal) x0 x1 i = if (i 0).val = 0 then part (fun r l => dcv (Z x0) (D x1) r l * tap (Z x0) 0 r l) 256 2048 (i 1).val else 0 := by
  unfold val_main_v117
  exact pad2 _ _ _ _ Ideal.ofBits_zero_f32 (f := part (fun r l => dcv (Z x0) (D x1) r l * tap (Z x0) 0 r l) 256 2048) (fun i => by rw [val_main_v116_apply, st0_at]) i

theorem s1_at (i : S1x1024.Idx) : val_main_v100 (F := Ideal) x0 x1 i = part (fun r l => dcv (Z x0) (D x1) r l * tap (Z x0) 1 r l) 256 2048 (i 1).val := by
  rw [val_main_v100_apply]
  refine (congrArg (· + _) Ideal.ofBits_zero_f32).trans ((zero_add _).trans (Finset.sum_congr rfl fun k _ => ?_))
  rw [val_main_v99_apply, mid_at, dcv_at]; exact mul_comm (G := EReal) _ _

theorem sr1_at (i : S1x1x1024.Idx) : val_main_v101 (F := Ideal) x0 x1 i = part (fun r l => dcv (Z x0) (D x1) r l * tap (Z x0) 1 r l) 256 2048 (i 2).val := by
  have h0 : (i 0).val < 1 := (i 0).isLt
  have h1 : (i 1).val < 1 := (i 1).isLt
  have h2 : (i 2).val < 1024 := (i 2).isLt
  rw [val_main_v101_apply, s1_at]
  exact congrArg (part (fun r l => dcv (Z x0) (D x1) r l * tap (Z x0) 1 r l) 256 2048) (by show (((i 0).val * 1 + (i 1).val) * 1024 + (i 2).val) % 1024 = (i 2).val; omega)

theorem st1_at (i : S1024.Idx) : val_main_v104 (F := Ideal) x0 x1 i = part (fun r l => dcv (Z x0) (D x1) r l * tap (Z x0) 1 r l) 256 2048 (i 0).val := by
  unfold val_main_v104
  exact (sum01 _ _ Ideal.ofBits_zero_f32 _ i).trans (sr1_at x0 x1 _)

theorem sp1_at (i : S3x1024.Idx) : val_main_v106 (F := Ideal) x0 x1 i = if (i 0).val = 1 then part (fun r l => dcv (Z x0) (D x1) r l * tap (Z x0) 1 r l) 256 2048 (i 1).val else 0 := by
  unfold val_main_v106
  exact pad2 _ _ _ _ Ideal.ofBits_zero_f32 (f := part (fun r l => dcv (Z x0) (D x1) r l * tap (Z x0) 1 r l) 256 2048) (fun i => by rw [val_main_v105_apply, st1_at]) i

theorem s2_at (i : S1x1024.Idx) : val_main_v91 (F := Ideal) x0 x1 i = part (fun r l => dcv (Z x0) (D x1) r l * tap (Z x0) 2 r l) 256 2048 (i 1).val := by
  rw [val_main_v91_apply]
  refine (congrArg (· + _) Ideal.ofBits_zero_f32).trans ((zero_add _).trans (Finset.sum_congr rfl fun k _ => ?_))
  rw [val_main_v90_apply, next_at, dcv_at]; exact mul_comm (G := EReal) _ _

theorem sr2_at (i : S1x1x1024.Idx) : val_main_v92 (F := Ideal) x0 x1 i = part (fun r l => dcv (Z x0) (D x1) r l * tap (Z x0) 2 r l) 256 2048 (i 2).val := by
  have h0 : (i 0).val < 1 := (i 0).isLt
  have h1 : (i 1).val < 1 := (i 1).isLt
  have h2 : (i 2).val < 1024 := (i 2).isLt
  rw [val_main_v92_apply, s2_at]
  exact congrArg (part (fun r l => dcv (Z x0) (D x1) r l * tap (Z x0) 2 r l) 256 2048) (by show (((i 0).val * 1 + (i 1).val) * 1024 + (i 2).val) % 1024 = (i 2).val; omega)

theorem st2_at (i : S1024.Idx) : val_main_v95 (F := Ideal) x0 x1 i = part (fun r l => dcv (Z x0) (D x1) r l * tap (Z x0) 2 r l) 256 2048 (i 0).val := by
  unfold val_main_v95
  exact (sum01 _ _ Ideal.ofBits_zero_f32 _ i).trans (sr2_at x0 x1 _)

theorem sp2_at (i : S3x1024.Idx) : val_main_v97 (F := Ideal) x0 x1 i = if (i 0).val = 2 then part (fun r l => dcv (Z x0) (D x1) r l * tap (Z x0) 2 r l) 256 2048 (i 1).val else 0 := by
  unfold val_main_v97
  exact pad2 _ _ _ _ Ideal.ofBits_zero_f32 (f := part (fun r l => dcv (Z x0) (D x1) r l * tap (Z x0) 2 r l) 256 2048) (fun i => by rw [val_main_v96_apply, st2_at]) i

theorem sb_at (i : S1x1024.Idx) : val_main_v87 (F := Ideal) x0 x1 i = part (dcv (Z x0) (D x1)) 256 2048 (i 1).val := by
  rw [val_main_v87_apply]
  refine (congrArg (· + _) Ideal.ofBits_zero_f32).trans ((zero_add _).trans (Finset.sum_congr rfl fun k _ => ?_))
  rw [dcv_at]

theorem sbr_at (i : S1x1x1024.Idx) : val_main_v88 (F := Ideal) x0 x1 i = part (dcv (Z x0) (D x1)) 256 2048 (i 2).val := by
  have h0 : (i 0).val < 1 := (i 0).isLt
  have h1 : (i 1).val < 1 := (i 1).isLt
  have h2 : (i 2).val < 1024 := (i 2).isLt
  rw [val_main_v88_apply, sb_at]
  exact congrArg (part (dcv (Z x0) (D x1)) 256 2048) (by show (((i 0).val * 1 + (i 1).val) * 1024 + (i 2).val) % 1024 = (i 2).val; omega)

theorem db_at (i : S1x1024.Idx) : val_main_v126 (F := Ideal) x0 x1 i = part (dcv (Z x0) (D x1)) 256 2048 (i 1).val := by
  rw [val_main_v126_apply]
  unfold val_main_v89
  exact (sum01 _ _ Ideal.ofBits_zero_f32 _ _).trans (sbr_at x0 x1 _)

theorem q3_at (hz : ∀ s r l, Real (Z x0 s r l)) (hd : ∀ r l, Real (D x1 r l)) (hw : ∀ k l, Real (W x2 k l)) (hb : ∀ l, Real (B x3 l)) (i : S6x2304x1024.Idx) : val_main_v127 (F := Ideal) x0 x1 x2 x3 i = if (i 0).val = 5 ∧ ¬(i 1).val < 256 then dz (Z x0) (D x1) (W x2) (B x3) 3 (i 1).val (i 2).val else 0 := by
  unfold val_main_v127
  have h1 : (i 1).val < 2304 := (i 1).isLt
  refine (pad3 _ _ _ _ Ideal.ofBits_zero_f32 (f := fun r l => dz (Z x0) (D x1) (W x2) (B x3) 3 (256 + r) l) (d3_at x0 x1 x2 x3 hz hd hw hb) i).trans ?_
  by_cases h : (i 0).val = 5 ∧ ¬(i 1).val < 256
  · rw [if_pos (by omega), if_pos h]; exact congrArg (dz (Z x0) (D x1) (W x2) (B x3) 3 · _) (by omega)
  · rw [if_neg (by omega), if_neg h]

theorem q2_at (i : S6x2304x1024.Idx) : val_main_v128 (F := Ideal) x0 x1 x2 i = if (i 0).val = 4 ∧ ¬(i 1).val < 256 then dz (Z x0) (D x1) (W x2) (B x3) 2 (i 1).val (i 2).val else 0 := by
  unfold val_main_v128
  have h1 : (i 1).val < 2304 := (i 1).isLt
  refine (pad3 _ _ _ _ Ideal.ofBits_zero_f32 (f := fun r l => dz (Z x0) (D x1) (W x2) (B x3) 2 (256 + r) l) (d2_at x0 x1 x2 x3) i).trans ?_
  by_cases h : (i 0).val = 4 ∧ ¬(i 1).val < 256
  · rw [if_pos (by omega), if_pos h]; exact congrArg (dz (Z x0) (D x1) (W x2) (B x3) 2 · _) (by omega)
  · rw [if_neg (by omega), if_neg h]

theorem q1_at (i : S6x2304x1024.Idx) : val_main_v130 (F := Ideal) x0 x1 x2 x3 i = if (i 0).val = 3 ∧ ¬(i 1).val < 256 then dz (Z x0) (D x1) (W x2) (B x3) 1 (i 1).val (i 2).val else 0 := by
  unfold val_main_v130
  have h1 : (i 1).val < 2304 := (i 1).isLt
  refine (pad3 _ _ _ _ Ideal.ofBits_zero_f32 (f := fun r l => dz (Z x0) (D x1) (W x2) (B x3) 1 (256 + r) l) (d1_at x0 x1 x2 x3) i).trans ?_
  by_cases h : (i 0).val = 3 ∧ ¬(i 1).val < 256
  · rw [if_pos (by omega), if_pos h]; exact congrArg (dz (Z x0) (D x1) (W x2) (B x3) 1 · _) (by omega)
  · rw [if_neg (by omega), if_neg h]

theorem q0_at (i : S6x2304x1024.Idx) : val_main_v132 (F := Ideal) x0 x1 x2 i = if (i 0).val = 2 ∧ ¬(i 1).val < 256 then dz (Z x0) (D x1) (W x2) (B x3) 0 (i 1).val (i 2).val else 0 := by
  unfold val_main_v132
  have h1 : (i 1).val < 2304 := (i 1).isLt
  refine (pad3 _ _ _ _ Ideal.ofBits_zero_f32 (f := fun r l => dz (Z x0) (D x1) (W x2) (B x3) 0 (256 + r) l) (d0_at x0 x1 x2 x3) i).trans ?_
  by_cases h : (i 0).val = 2 ∧ ¬(i 1).val < 256
  · rw [if_pos (by omega), if_pos h]; exact congrArg (dz (Z x0) (D x1) (W x2) (B x3) 0 · _) (by omega)
  · rw [if_neg (by omega), if_neg h]

end L

/-- Of six rows padded into three and added, the two that lie at row `k`. -/
theorem pick (k : ℕ) (hk : k < 3) (a2 a1 a0 b2 b1 b0 : EReal) :
    (((((if k = 2 then a2 else 0) + (if k = 1 then a1 else 0)) + (if k = 0 then a0 else 0)) + (if k = 2 then b2 else 0))
      + (if k = 1 then b1 else 0)) + (if k = 0 then b0 else 0)
      = if k = 0 then b0 + a0 else if k = 1 then b1 + a1 else b2 + a2 := by
  have h : k = 0 ∨ k = 1 ∨ k = 2 := by omega
  rcases h with rfl | rfl | rfl <;> simp [add_comm]

/-- The gradient of the taps' weights. -/
theorem dw_at (i : S3x1024.Idx) : val_main_v171 (F := Ideal) x0 x1 i = dw (Z x0) (D x1) (i 0).val (i 1).val := by
  rw [val_main_v171_apply, val_main_v160_apply, val_main_v150_apply, val_main_v118_apply, val_main_v107_apply,
    L.sp2_at, L.sp1_at, L.sp0_at, C.sp2_at, C.sp1_at, C.sp0_at]
  have h0 : (i 0).val < 3 := (i 0).isLt
  unfold dw
  rw [sum_rows]
  refine (pick (i 0).val h0 _ _ _ _ _ _).trans ?_
  have h : (i 0).val = 0 ∨ (i 0).val = 1 ∨ (i 0).val = 2 := by omega
  rcases h with h | h | h <;> rw [h] <;> rfl

/-- The gradient of the bias. -/
theorem db_at (i : S1x1024.Idx) : val_main_v180 (F := Ideal) x0 x1 i = db (Z x0) (D x1) (i 1).val := by
  rw [val_main_v180_apply, L.db_at, C.db_at]
  unfold db
  rw [sum_rows]
  exact add_comm (G := EReal) _ _

/-- The gradient of the four sections, at real numbers. -/
theorem dz_at (hz : ∀ s r l, Real (Z x0 s r l)) (hd : ∀ r l, Real (D x1 r l)) (hw : ∀ k l, Real (W x2 k l)) (hb : ∀ l, Real (B x3 l))
    (i : S4x2304x1024.Idx) : val_main_v190 (F := Ideal) x0 x1 x2 x3 i = dz (Z x0) (D x1) (W x2) (B x3) (i 0).val (i 1).val (i 2).val := by
  rw [val_main_v190_apply, val_main_v189_apply, val_main_v188_apply, val_main_v186_apply, val_main_v184_apply, val_main_v182_apply,
    val_main_v133_apply, val_main_v131_apply, val_main_v129_apply,
    L.q3_at x0 x1 x2 x3 hz hd hw hb, L.q2_at x0 x1 x2 x3, L.q1_at x0 x1 x2 x3, L.q0_at x0 x1 x2 x3,
    C.q3_at x0 x1 x2 x3 hz hd hw hb, C.q2_at x0 x1 x2 x3, C.q1_at x0 x1 x2 x3, C.q0_at x0 x1 x2 x3]
  have h0 : (i 0).val < 4 := (i 0).isLt
  show ((((((((if 2 + (i 0).val = 5 ∧ ¬(i 1).val < 256 then dz (Z x0) (D x1) (W x2) (B x3) 3 (i 1).val (i 2).val else (0 : EReal))
    + (if 2 + (i 0).val = 4 ∧ ¬(i 1).val < 256 then dz (Z x0) (D x1) (W x2) (B x3) 2 (i 1).val (i 2).val else 0))
    + (if 2 + (i 0).val = 3 ∧ ¬(i 1).val < 256 then dz (Z x0) (D x1) (W x2) (B x3) 1 (i 1).val (i 2).val else 0))
    + (if 2 + (i 0).val = 2 ∧ ¬(i 1).val < 256 then dz (Z x0) (D x1) (W x2) (B x3) 0 (i 1).val (i 2).val else 0))
    + (if 2 + (i 0).val = 5 ∧ (i 1).val < 256 then dz (Z x0) (D x1) (W x2) (B x3) 3 (i 1).val (i 2).val else 0))
    + (if 2 + (i 0).val = 4 ∧ (i 1).val < 256 then dz (Z x0) (D x1) (W x2) (B x3) 2 (i 1).val (i 2).val else 0))
    + (if 2 + (i 0).val = 3 ∧ (i 1).val < 256 then dz (Z x0) (D x1) (W x2) (B x3) 1 (i 1).val (i 2).val else 0))
    + (if 2 + (i 0).val = 2 ∧ (i 1).val < 256 then dz (Z x0) (D x1) (W x2) (B x3) 0 (i 1).val (i 2).val else 0) : EReal) = _
  have h : (i 0).val = 0 ∨ (i 0).val = 1 ∨ (i 0).val = 2 ∨ (i 0).val = 3 := by omega
  generalize (i 1).val = r
  generalize (i 2).val = l
  by_cases hr : r < 256 <;> rcases h with h | h | h | h <;> rw [h] <;> simp [hr]

end Cert.ReferenceIdeal.At

end
-- ==== Proof.Pre.lean ====
/-  The precondition read: where `finite` holds of the arguments, every element of each of them is a real number. -/
module

public import proofs.«01_k».proof.Proof.Spec
public import proofs.«01_k».proof.Pre_finite
public import proofs.«01_k».proof.Proof.Gen.Pre_finite
public import Idealize.ShloMosaic.Lib.ReduceAll

@[expose] public section

noncomputable section

namespace Cert.Pre_finite

open Cert.Mix Idealize.ShloMosaic Idealize.ShloMosaic.ValueIdx

/-- Below +∞ in absolute value is a real number. -/
theorem real_of_lt (x : EReal) (h : Ideal.cmp .olt (max x (-x)) (Ideal.ofBits .f32 0x7F800000#32) = 1#1) : Real x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  induction x with
  | bot => simp at hlt
  | top => simp at hlt
  | coe v => exact ⟨v, rfl⟩

instance : Subsingleton S_.Idx := ⟨fun a b => funext fun k => k.elim0⟩

/-- One argument's share of the precondition. -/
theorem all_real {s : Shape} {axes : List (Fin s.rank)} (x : FVec Ideal s .f32) (hb : S_.BroadcastsInDim s (![] : Fin 0 → Fin s.rank)) (hr : s.ReducesTo axes S_) (hu : 0 < S_.numel)
    (i0 : S_.Idx)
    (h : Host.reduce IntOp.andi (cmpf .olt (Host.absf x) (broadcastInDim s ![] hb (constant S_ .f32 0x7F800000#32))) (constantI S_ 1 1#1) hr hu i0 = 1#1)
    (i : s.Idx) : Real (x i) :=
  real_of_lt _ (Host.reduce_andi_all _ _ hr hu i0 h i)

theorem reals (x0 : FVec Ideal S6x2304x1024 .f32) (x1 : FVec Ideal S2304x2048 .f32) (x2 : FVec Ideal S3x1024 .f32) (x3 : FVec Ideal S1x1024 .f32)
    (h : fn (F := Ideal) x0 x1 x2 x3 = fun _ => 1#1) :
    (∀ i, Real (x0 i)) ∧ (∀ i, Real (x1 i)) ∧ (∀ i, Real (x2 i)) ∧ (∀ i, Real (x3 i)) := by
  have h := congrFun h (fun k => k.elim0)
  unfold fn fn_part1 at h
  obtain ⟨h, h3⟩ := IntOp.andi_eq_one.1 h
  obtain ⟨h, h2⟩ := IntOp.andi_eq_one.1 h
  obtain ⟨h0, h1⟩ := IntOp.andi_eq_one.1 h
  exact ⟨all_real x0 _ _ _ _ h0, all_real x1 _ _ _ _ h1, all_real x2 _ _ _ _ h2, all_real x3 _ _ _ _ h3⟩

/-- An array of real numbers reads real numbers at every natural coordinate. -/
theorem real_at3 {a b c : ℕ} {x : (⟨3, ![a, b, c]⟩ : Shape).Idx → EReal} (h : ∀ i, Real (x i)) (s r l : ℕ) : Real (at3 x s r l) := by
  unfold at3
  split
  · exact h _
  · exact Real.zero

theorem real_at2 {a b : ℕ} {x : (⟨2, ![a, b]⟩ : Shape).Idx → EReal} (h : ∀ i, Real (x i)) (r l : ℕ) : Real (at2 x r l) := by
  unfold at2
  split
  · exact h _
  · exact Real.zero

end Cert.Pre_finite

end
-- ==== Proof.Mix.lean ====
/-  The gradient of the gated convolution: the kernel's three arrays (KernelValue.lean) beside the reference's (RefValue.lean),
    both the gradient as Spec.lean writes it. -/
module

public import proofs.«01_k».proof.Defs
public import proofs.«01_k».proof.Proof.KernelValue
public import proofs.«01_k».proof.Proof.RefValue
public import proofs.«01_k».proof.Proof.Pre
public import Idealize.ShloMosaic.Lib.Claim
public import Idealize.ShloMosaic.Lib.Quiescent

@[expose] public section

noncomputable section

namespace Cert.Proof

open Idealize.ShloMosaic Idealize.SL.Sem Cert.Mix

section
open Cert.ReferenceIdeal Cert.ReferenceIdeal.Read
variable (V0 : Valuation τ sig (Elt Ideal)) (x0 : FVec Ideal S6x2304x1024 .f32) (x1 : FVec Ideal S2304x2048 .f32)
  (x2 : FVec Ideal S3x1024 .f32) (x3 : FVec Ideal S1x1024 .f32)

/-- The reference's first array over launch contents whose argument buffers hold `x0 … x3`, real numbers. -/
theorem host_dz
    (e0 : V0 (Proc.devRef .tc main_arg0) = x0) (e1 : V0 (Proc.devRef .tc main_arg1) = x1)
    (e2 : V0 (Proc.devRef .tc main_arg2) = x2) (e3 : V0 (Proc.devRef .tc main_arg3) = x3)
    (h : (∀ i, Real (x0 i)) ∧ (∀ i, Real (x1 i)) ∧ (∀ i, Real (x2 i)) ∧ ∀ i, Real (x3 i)) :
    val_main_v190 (F := Ideal) (V0 (Proc.devRef .tc main_arg0)) (V0 (Proc.devRef .tc main_arg1)) (V0 (Proc.devRef .tc main_arg2)) (V0 (Proc.devRef .tc main_arg3))
      = fun (i : S4x2304x1024.Idx) => dz (Z x0) (D x1) (W x2) (B x3) (i 0).val (i 1).val (i 2).val := by
  obtain ⟨r0, r1, r2, r3⟩ := h
  rw [e0, e1, e2, e3]
  funext i
  exact ReferenceIdeal.At.dz_at _ _ _ _ (Pre_finite.real_at3 r0) (fun r l => Pre_finite.real_at2 r1 r _) (Pre_finite.real_at2 r2)
    (fun l => Pre_finite.real_at2 r3 0 l) i

/-- The second array. -/
theorem host_dw (e0 : V0 (Proc.devRef .tc main_arg0) = x0) (e1 : V0 (Proc.devRef .tc main_arg1) = x1) :
    val_main_v171 (F := Ideal) (V0 (Proc.devRef .tc main_arg0)) (V0 (Proc.devRef .tc main_arg1))
      = fun (i : S3x1024.Idx) => dw (Z x0) (D x1) (i 0).val (i 1).val := by
  rw [e0, e1]
  exact funext fun i => ReferenceIdeal.At.dw_at _ _ i

/-- The third array. -/
theorem host_db (e0 : V0 (Proc.devRef .tc main_arg0) = x0) (e1 : V0 (Proc.devRef .tc main_arg1) = x1) :
    val_main_v180 (F := Ideal) (V0 (Proc.devRef .tc main_arg0)) (V0 (Proc.devRef .tc main_arg1))
      = fun (i : S1x1024.Idx) => db (Z x0) (D x1) (i 1).val := by
  rw [e0, e1]
  exact funext fun i => ReferenceIdeal.At.db_at _ _ i

end

/-- The reference's frame: it keeps its arguments and declares no counter. -/
theorem referenceFrame : Cert.quiescent_ReferenceIdeal := fun m g _ =>
  (θ_run (ReferenceIdeal.defs (F := Ideal)) _ _).mono
    (fun r h => ⟨fun c => (h c).2.2.2, Idealize.ShloMosaic.sem_eq_zero_of_no_sems (by decide) r.2⟩)
    (ReferenceIdeal.Value.run (F := Ideal) m g)

/-- The gradient of the gated convolution: kernel and reference end with the same three arrays. -/
theorem mix : Cert.algebraic_KernelIdeal_ReferenceIdeal_pre_finite := by
  intro m g m' g' hpre hag
  refine ⟨KernelIdeal.At.G7 m, KernelIdeal.At.G8 m, KernelIdeal.At.G9 m,
    (θ_run KernelIdeal.defs _ _).mono (fun r h c => ?_) (KernelIdeal.Value.run_blocks (F := Ideal) m g),
    (θ_run ReferenceIdeal.defs _ _).mono (fun r h c => ?_) (ReferenceIdeal.Value.run (F := Ideal) m' g')⟩
  · obtain ⟨h7, h8, h9, ha⟩ := h c
    exact ⟨h7.trans (KernelIdeal.At.final7 m c), h8.trans (KernelIdeal.At.final8 m c), h9.trans (KernelIdeal.At.final9 m c), ha⟩
  · obtain ⟨h0, h1, h2, ha⟩ := h c
    obtain ⟨e0, e1, e2, e3⟩ := hag c
    have hr := Pre_finite.reals _ _ _ _ (hpre c)
    have t0 := host_dz (StableHlo.launchContents m' c) _ _ _ _ e0 e1 e2 e3 hr
    have t1 := host_dw (StableHlo.launchContents m' c) _ _ e0 e1
    have t2 := host_db (StableHlo.launchContents m' c) _ _ e0 e1
    exact ⟨(h0.trans (ReferenceIdeal.Read.val_main_v190_eq (StableHlo.launchContents m' c))).trans t0,
      (h1.trans (ReferenceIdeal.Read.val_main_v171_eq (StableHlo.launchContents m' c))).trans t1,
      (h2.trans (ReferenceIdeal.Read.val_main_v180_eq (StableHlo.launchContents m' c))).trans t2, ha⟩

end Cert.Proof

end
-- ==== Proof.Products.lean ====
/-  The three products of a linear layer — the layer, and the gradients of its input and of its weights — as sums over plain
    functions of natural-number coordinates, and the block products the kernels are made of, read at an index. -/
module

public import proofs.«01_k».proof.Proof.Spec
public import Idealize.ShloMosaic.Lib.MatmulPlain
public import Idealize.ShloMosaic.Lib.Pointwise.Contract
public import Idealize.ShloMosaic.Lib.KernelVsHost
public import Idealize.ShloMosaic.Lib.Pipeline.ValueKit.Tiles

@[expose] public section

noncomputable section

namespace Cert.Products

open Idealize.ShloMosaic Cert.Mix

theorem hz2 : (![0, 0] : Fin 2 → Nat) = fun _ => 0 := funext fun a => by fin_cases a <;> rfl
theorem hz3 : (![0, 0, 0] : Fin 3 → Nat) = fun _ => 0 := funext fun a => by fin_cases a <;> rfl

/-- A stack of sections of width `w` laid side by side: the array whose column `q` is column `q % w` of section `q / w`. -/
def side {a b c : ℕ} (x : (⟨3, ![a, b, c]⟩ : Shape).Idx → EReal) (w r q : ℕ) : EReal := at3 x (q / w) r (q % w)

/-- Two arrays laid side by side, the first of `n` columns. -/
def join (n : ℕ) (f g : ℕ → ℕ → EReal) (r q : ℕ) : EReal := if q < n then f r q else g r (q - n)

/-- The gradient of the layer's input: row `r` of the cotangent against row `k` of the weights, over `n` columns. -/
def gradH (f g : ℕ → ℕ → EReal) (n r k : ℕ) : EReal := ∑ q ∈ Finset.range n, f r q * g k q

/-- The gradient of the layer's weights: column `k` of the input against column `q` of the cotangent, over `n` rows. -/
def gradW (h f : ℕ → ℕ → EReal) (n k q : ℕ) : EReal := ∑ r ∈ Finset.range n, h r k * f r q

/-- The layer: row `r` of the input against column `q` of the weights, over `n` features. -/
def layer (h g : ℕ → ℕ → EReal) (n r q : ℕ) : EReal := ∑ k ∈ Finset.range n, h r k * g k q

/-- A sum taken in `n` runs of `b` terms is the sum. -/
theorem sum_runs (b : ℕ) (F : ℕ → EReal) : ∀ n : ℕ, ∑ s ∈ Finset.range n, ∑ k : Fin b, F (b * s + k.val) = ∑ q ∈ Finset.range (b * n), F q
  | 0 => by simp
  | n + 1 => by rw [Finset.sum_range_succ, sum_runs b F n, Nat.mul_succ, Finset.sum_range_add, Finset.sum_range (fun k => F (b * n + k))]

theorem runs_gradH {N : ℕ} (f g : ℕ → ℕ → EReal) (b n : ℕ) (h : b * n = N) (r k : ℕ) :
    ∑ s ∈ Finset.range n, ∑ q : Fin b, f r (b * s + q.val) * g k (b * s + q.val) = gradH f g N r k := by
  subst h
  exact sum_runs b (fun q => f r q * g k q) n

/-- Two stacks of sections, one on the other, read at section `k / 1024`, row `r`, column `k % 1024`. -/
theorem stacked (x0 : (⟨3, ![2, 2304, 1024]⟩ : Shape).Idx → EReal) (x1 : (⟨3, ![4, 2304, 1024]⟩ : Shape).Idx → EReal) (hc)
    (i : (⟨3, ![6, 2304, 1024]⟩ : Shape).Idx) {r k : ℕ} (hk : k < 6144) (h0 : (i 0).val = k / 1024) (h1 : (i 1).val = r) (h2 : (i 2).val = k % 1024) :
    concatenate ⟨3, ![6, 2304, 1024]⟩ (0 : Fin 3) [⟨⟨3, ![2, 2304, 1024]⟩, x0⟩, ⟨⟨3, ![4, 2304, 1024]⟩, x1⟩] hc i = join 2048 (side x0 1024) (side x1 1024) r k := by
  have hr : (i 1).val < 2304 := (i 1).isLt
  unfold join
  split
  · refine (concatenate_pair_apply_left (0 : Fin 3) x0 x1 _ i rfl (ValueIdx.ix3 ⟨k / 1024, by omega⟩ ⟨r, by omega⟩ ⟨k % 1024, by omega⟩) fun b => ?_).trans (read3 _ _ rfl rfl rfl)
    match b with
    | ⟨0, _⟩ => exact h0.symm
    | ⟨1, _⟩ => exact h1.symm
    | ⟨2, _⟩ => exact h2.symm
  · refine (concatenate_pair_apply_right (0 : Fin 3) x0 x1 _ i rfl rfl (ValueIdx.ix3 ⟨(k - 2048) / 1024, by omega⟩ ⟨r, by omega⟩ ⟨(k - 2048) % 1024, by omega⟩)
      (fun b hb => ?_) ?_).trans (read3 _ _ rfl rfl rfl)
    · match b with
      | ⟨0, _⟩ => exact absurd rfl hb
      | ⟨1, _⟩ => exact h1.symm
      | ⟨2, _⟩ => show (k - 2048) % 1024 = (i 2).val; omega
    · show (k - 2048) / 1024 + 2 = (i 0).val
      omega

section Blocks

variable {M K N : ℕ} {f g : ℕ → ℕ → EReal}

/-- A block given by a function of the row and the column. -/
def Is {M N : ℕ} (x : (⟨2, ![M, N]⟩ : Shape).Idx → EReal) (f : ℕ → ℕ → EReal) : Prop := ∀ j, x j = f (j 0).val (j 1).val
/-- A block with a leading unit axis, likewise. -/
def Is1 {M N : ℕ} (x : (⟨3, ![1, M, N]⟩ : Shape).Idx → EReal) (f : ℕ → ℕ → EReal) : Prop := ∀ j, x j = f (j 1).val (j 2).val

theorem drop_is {φ : FTy} {x : FVec Ideal ⟨3, ![1, M, N]⟩ φ} (h : Is1 x f) (hc) :
    Is (shapeCast ⟨2, ![M, N]⟩ x hc) f := fun j => (shapeCast_dropUnit_apply ![M, N] x hc j).trans (h _)

theorem add_is {φ : FTy} {x : FVec Ideal ⟨2, ![M, N]⟩ φ} (h : Is x f) (hc) :
    Is1 (shapeCast ⟨3, ![1, M, N]⟩ x hc) f := fun j => (shapeCast_addUnit_apply ![M, N] x hc j).trans (h _)

/-- A product against transposed weights. -/
theorem nt_is {φ₁ φ₂ : FTy} (d : DotDims ⟨2, ![M, K]⟩ ⟨2, ![N, K]⟩ ⟨2, ![M, N]⟩) (hd : d = DotDims.transposedRhs M K N) {x : FVec Ideal ⟨2, ![M, K]⟩ φ₁}
    {w : FVec Ideal ⟨2, ![N, K]⟩ φ₂} (hx : Is x f) (hw : Is w g) :
    Is (matmul d none x w (constant ⟨2, ![M, N]⟩ .f32 0x00000000#32)) fun r k => ∑ q : Fin K, f r q.val * g k q.val := fun j => by
  subst hd
  rw [ValueIdx.eq_ix2 j]
  refine (Ideal.matmul_transposedRhs_apply none x w _ (j 0) (j 1)).trans ?_
  show Ideal.ofBits .f32 0x00000000#32 + _ = _
  rw [Ideal.ofBits_zero_f32, zero_add]
  exact Finset.sum_congr rfl fun q _ => by rw [hx, hw]; rfl

/-- A plain product. -/
theorem nn_is {φ₁ φ₂ : FTy} (d : DotDims ⟨2, ![M, K]⟩ ⟨2, ![K, N]⟩ ⟨2, ![M, N]⟩) (hd : d = DotDims.plain M K N) {x : FVec Ideal ⟨2, ![M, K]⟩ φ₁}
    {w : FVec Ideal ⟨2, ![K, N]⟩ φ₂} (hx : Is x f) (hw : Is w g) :
    Is (matmul d none x w (constant ⟨2, ![M, N]⟩ .f32 0x00000000#32)) fun r q => ∑ k : Fin K, f r k.val * g k.val q := fun j => by
  subst hd
  rw [ValueIdx.eq_ix2 j]
  refine (Ideal.matmul_plain_apply none x w _ (j 0) (j 1)).trans ?_
  show Ideal.ofBits .f32 0x00000000#32 + _ = _
  rw [Ideal.ofBits_zero_f32, zero_add]
  exact Finset.sum_congr rfl fun q _ => by rw [hx, hw]; rfl

/-- A product of the transposed input: both operands contracted over their rows. -/
theorem tn_is {φ₁ φ₂ : FTy} (d : DotDims ⟨2, ![K, M]⟩ ⟨2, ![K, N]⟩ ⟨2, ![M, N]⟩) {wf} (hd : d = ⟨[0], [0], [1], [1], [], [], wf⟩)
    {x : FVec Ideal ⟨2, ![K, M]⟩ φ₁} {w : FVec Ideal ⟨2, ![K, N]⟩ φ₂} (hx : Is x f) (hw : Is w g) :
    Is (matmul d none x w (constant ⟨2, ![M, N]⟩ .f32 0x00000000#32)) fun r q => ∑ k : Fin K, f k.val r * g k.val q := fun j => by
  subst hd
  refine (Ideal.matmul_constant_zero_apply _ none x w j).trans ?_
  rw [← Equiv.sum_comp (ValueIdx.contrEquiv1 _ K rfl rfl).symm]
  refine Finset.sum_congr rfl fun k _ => ?_
  rw [hx, hw]
  have hk := ValueIdx.contrEquiv1_symm_val (⟨[0], [0], [1], [1], [], [], wf⟩ : DotDims ⟨2, ![K, M]⟩ ⟨2, ![K, N]⟩ ⟨2, ![M, N]⟩) K rfl rfl k
  exact congrArg₂ (· * ·) (congrArg₂ f hk rfl) (congrArg₂ g hk rfl)

/-- A load of a whole block, and of some rows or columns of one. -/
theorem ld_is {e : EltTy} {x : (⟨2, ![M, N]⟩ : Shape).Idx → Elt Ideal e} {m n o p : ℕ} {f : ℕ → ℕ → Elt Ideal e} (h : ∀ j, x j = f (j 0).val (j 1).val) (inb)
    (j : (⟨2, ![m, n]⟩ : Shape).Idx) :
    View.ld x (Rect.unit (s := ⟨2, ![M, N]⟩) ![o, p] ![m, n] inb) j = f (o + (j 0).val) (p + (j 1).val) := by
  have h0 : o + m ≤ M := inb 0
  have h1 : p + n ≤ N := inb 1
  have j0 : (j 0).val < m := (j 0).isLt
  have j1 : (j 1).val < n := (j 1).isLt
  rw [View.ld_unit_apply_of x _ _ inb j (ValueIdx.ix2 ⟨o + (j 0).val, by omega⟩ ⟨p + (j 1).val, by omega⟩) fun a => match a with
    | ⟨0, _⟩ => rfl
    | ⟨1, _⟩ => rfl]
  exact h _

end Blocks

end Cert.Products

end
-- ==== Proof.OdInDx.lean ====
/-  The gradient of the odd layer's input: the kernel's running sum over the column blocks beside the reference's one product. -/
module

public import proofs.«01_k».proof.Defs
public import proofs.«01_k».proof.Proof.Products
public import proofs.«01_k».proof.Proof.Gen.OdInDxIdeal.Value
public import proofs.«01_k».proof.Proof.Gen.OdInDxRefIdeal.Run
public import proofs.«01_k».proof.Proof.Gen.OdInDxRefIdeal.Read
public import Idealize.ShloMosaic.Lib.Claim
public import Idealize.ShloMosaic.Lib.Quiescent

@[expose] public section

noncomputable section

namespace Cert.OdInDxIdeal.At

open Cert.OdInDxIdeal Cert.OdInDxIdeal.Gen Cert.Mix Cert.Products Idealize.ShloMosaic Idealize.ShloMosaic.TcCoe Idealize.SL.Sem

variable (m : (ℓ : Loc nD τ sig) → Buf (Elt Ideal) ℓ) (c : Dev nD)

/-- The cotangent's sections and the weights' parts, each laid side by side. -/
abbrev Dz : ℕ → ℕ → EReal := side (a := 5) (b := 2304) (c := 2048) (m ((c : Thread nD τ).loc main_arg0)) 2048
abbrev W : ℕ → ℕ → EReal := side (a := 4) (b := 2048) (c := 2560) (m ((c : Thread nD τ).loc main_arg1)) 2560

theorem pay_is {o : Vec Ideal S1152x2048 .f32} {x : Vec Ideal S1x1152x512 .bf16} {w : Vec Ideal S1x2048x512 .bf16} {a f g : ℕ → ℕ → EReal}
    (ho : Is o a) (hx : Is1 x f) (hw : Is1 w g) : Is (k0_pay2 (F := Ideal) o x w) fun r k => a r k + ∑ q : Fin 512, f r q.val * g k q.val := fun j => by
  unfold k0_pay2
  rw [ValueIdx.addf_apply, shapeCast_self, ho j]
  exact congrArg (a _ _ + ·) (nt_is _ rfl (drop_is (φ := .bf16) hx _) (drop_is (φ := .bf16) hw _) j)

/-- The input blocks at point `t`: rows `1152 (t / 20)` on, columns `512 (t % 20)` on. -/
theorem blk0 (t : Fin cfg0.N) : Is1 (iblk m c 0 t) fun r q => Dz m c (1152 * (t.val / 20) + r) (512 * (t.val % 20) + q) := fun j => by
  have hi : win0_0.index t 0 = t.val % 20 / 4 ∧ win0_0.index t 1 = t.val / 20 ∧ win0_0.index t 2 = t.val % 20 % 4 :=
    (by decide +kernel : ∀ t : Fin grid0.N, win0_0.index t 0 = t.val % 20 / 4 ∧ win0_0.index t 1 = t.val / 20 ∧ win0_0.index t 2 = t.val % 20 % 4) t
  have h0 : (j 0).val < 1 := (j 0).isLt
  have h2 : (j 2).val < 512 := (j 2).isLt
  unfold iblk
  rw [View.read_apply]
  exact read3 _ _ (by show win0_0.index t 0 * 1 + 1 * (j 0).val = _; omega) (by show win0_0.index t 1 * 1152 + 1 * (j 1).val = _; omega)
    (by show win0_0.index t 2 * 512 + 1 * (j 2).val = _; omega)

theorem blk2 (t : Fin cfg0.N) : Is1 (iblk m c 2 t) fun k q => W m c k (512 * (t.val % 20) + q) := fun j => by
  have hi : win0_2.index t 0 = t.val % 20 / 5 ∧ win0_2.index t 1 = 0 ∧ win0_2.index t 2 = t.val % 20 % 5 :=
    (by decide +kernel : ∀ t : Fin grid0.N, win0_2.index t 0 = t.val % 20 / 5 ∧ win0_2.index t 1 = 0 ∧ win0_2.index t 2 = t.val % 20 % 5) t
  have h0 : (j 0).val < 1 := (j 0).isLt
  have h2 : (j 2).val < 512 := (j 2).isLt
  unfold iblk
  rw [View.read_apply]
  exact read3 _ _ (by show win0_2.index t 0 * 1 + 1 * (j 0).val = _; omega) (by show win0_2.index t 1 * 2048 + 1 * (j 1).val = _; omega)
    (by show win0_2.index t 2 * 512 + 1 * (j 2).val = _; omega)

section
variable (i : grid0.Coords) (a2 : Memref sig .tc .vmem S1x1152x512 .bf16) (h2 : a2.IsWhole) (a3 : Memref sig .tc .vmem S1x1152x512 .bf16) (h3 : a3.IsWhole)
  (a4 : Memref sig .tc .vmem S1x2048x512 .bf16) (h4 : a4.IsWhole) (a5 : Memref sig .tc .vmem S1152x2048 .f32) (h5 : a5.IsWhole)

theorem outA (hc0 : cond0_0 i) (hc1 : cond0_1 i) (hc2 : ¬cond0_2 i) (x0 x1 : Vec Ideal S1x1152x512 .bf16) (x2 : Vec Ideal S1x2048x512 .bf16) :
    out0_A_3 c i a2 h2 a3 h3 a4 h4 a5 h5 hc0 hc1 hc2 x0 x1 x2 = k0_pay2 k0_pay1 x0 x2 := by
  unfold out0_A_3
  rw [View.read_writes_eq_canon _ _ _ (cover0_A_3 c i a2 h2 a3 h3 a4 h4 a5 h5 hc0 hc1 hc2 x0 x1 x2)]
  unfold kernelRun0_A
  dsimp only
  sl_unfold_words
  rw [View.canon_cons_unit_zero (S := S1152x2048) hz2, View.readCov_unit_zero (S := S1152x2048) _ hz2]
  simp only [View.readAt_eq_ld, h2.read_unread, h4.read_unread, View.ld_unit_zero (S := S1x1152x512) hz3, View.ld_unit_zero (S := S1x2048x512) hz3]

theorem outB (hc0 : ¬cond0_0 i) (hc1 : cond0_1 i) (hc2 : ¬cond0_2 i) (x0 x1 : Vec Ideal S1x1152x512 .bf16) (x2 : Vec Ideal S1x2048x512 .bf16) (xo : Vec Ideal S1152x2048 .f32) :
    out0_B_3 c i a2 h2 a3 h3 a4 h4 a5 h5 hc0 hc1 hc2 x0 x1 x2 xo = k0_pay2 xo x0 x2 := by
  unfold out0_B_3
  rw [View.read_writes_eq_canon _ _ _ (cover0_B_3 c i a2 h2 a3 h3 a4 h4 a5 h5 hc0 hc1 hc2 x0 x1 x2 xo)]
  unfold kernelRun0_B
  dsimp only
  rw [View.canon_unit_zero (S := S1152x2048) hz2]
  simp only [View.readAt_eq_ld, h2.read_unread, h4.read_unread, h5.read_unread, View.ld_unit_zero (S := S1152x2048) hz2, View.ld_unit_zero (S := S1x1152x512) hz3, View.ld_unit_zero (S := S1x2048x512) hz3]
end

theorem zero_is : Is (k0_pay1 (F := Ideal)) fun _ _ => 0 := fun j => Ideal.ofBits_zero_f32

/-- What the buffer holds after point `n`: the products of the column blocks so far, added in order. -/
theorem sum_is : ∀ (n : ℕ) (hn : n < cfg0.N), Is (outsAt0 m c n hn) fun r k =>
    ∑ s ∈ Finset.range (n % 20 + 1), ∑ q : Fin 512, Dz m c (1152 * (n / 20) + r) (512 * s + q.val) * W m c k (512 * s + q.val)
  | 0, hn => fun j => by
    rw [outsAt0_A m c ⟨0, hn⟩ rfl, outA]
    refine (pay_is zero_is (blk0 m c ⟨0, hn⟩) (blk2 m c ⟨0, hn⟩) j).trans ?_
    simp
  | n + 1, hn => fun j => by
    by_cases h : (n + 1) % 20 = 0
    · rw [outsAt0_A m c ⟨n + 1, hn⟩ h, outA]
      refine (pay_is zero_is (blk0 m c ⟨n + 1, hn⟩) (blk2 m c ⟨n + 1, hn⟩) j).trans ?_
      dsimp only
      rw [h, Finset.sum_range_one, zero_add]
    · rw [outsAt0_B m c ⟨n + 1, hn⟩ h, outB]
      refine (pay_is (sum_is n (Nat.lt_of_succ_lt hn)) (blk0 m c ⟨n + 1, hn⟩) (blk2 m c ⟨n + 1, hn⟩) j).trans ?_
      dsimp only
      rw [show n % 20 + 1 = (n + 1) % 20 by omega, show n / 20 = (n + 1) / 20 by omega, ← Finset.sum_range_succ]

/-- The kernel's array. -/
def G : Buf (Elt Ideal) ((c : Thread nD τ).loc main_v0) := fun (i : S2304x2048.Idx) => gradH (Dz m c) (W m c) 10240 (i 0).val (i 1).val

theorem G_at (i : S2304x2048.Idx) {r k : ℕ} (h0 : (i 0).val = r) (h1 : (i 1).val = k) : G m c i = gradH (Dz m c) (W m c) 10240 r k := by
  subst h0 h1
  rfl

theorem flushed_eq (t : Fin cfg0.N) (hf : (cfg0.win 3).flush t = true) : (dats m 0 c).flushed 3 t = ((cfg0.win 3).blk t).view.read (Elt Ideal) (G m c) := by
  have h19 : t.val % 20 = 19 := (flush0_3 t).mp hf
  have hi : win0_3.index t 0 = t.val / 20 ∧ win0_3.index t 1 = 0 :=
    (by decide +kernel : ∀ t : Fin grid0.N, win0_3.index t 0 = t.val / 20 ∧ win0_3.index t 1 = 0) t
  rw [Value.flushed3]
  funext j
  show outsAt0 m c t.val t.isLt j = _
  refine (sum_is m c t.val t.isLt j).trans ?_
  rw [View.read_apply, h19]
  refine (runs_gradH (N := 10240) (Dz m c) (W m c) 512 20 rfl (1152 * (t.val / 20) + (j 0).val) (j 1).val).trans ?_
  refine Eq.trans ?_ (cast_eq _ _).symm
  exact (G_at m c _ (by show win0_3.index t 0 * 1152 + 1 * (j 0).val = 1152 * (t.val / 20) + (j 0).val; omega)
    (by show win0_3.index t 1 * 2048 + 1 * (j 1).val = (j 1).val; omega)).symm

theorem final : (dats m 0 c).arrAt 3 cfg0.N = G m c :=
  (dats m 0 c).arrAt_eq_of_cover 3 (G m c) (flushed_eq m c) fun i => by
    have h0 : (i 0).val < 2304 := (i 0).isLt
    have h1 : (i 1).val < 2048 := (i 1).isLt
    have hN : cfg0.N = 40 := by decide +kernel
    let t : Fin cfg0.N := ⟨20 * ((i 0).val / 1152) + 19, by omega⟩
    have ht : t.val = 20 * ((i 0).val / 1152) + 19 := rfl
    have hi : win0_3.index t 0 = t.val / 20 ∧ win0_3.index t 1 = 0 :=
      (by decide +kernel : ∀ t : Fin grid0.N, win0_3.index t 0 = t.val / 20 ∧ win0_3.index t 1 = 0) t
    refine ⟨t, (flush0_3 t).mpr (by omega), ?_⟩
    show i ∈ ((View.whole main_v0).slice (win0_3.rect t)).set
    rw [View.set_slice_whole, Rect.mem_set_unit]
    intro a
    match a with
    | ⟨0, _⟩ => show win0_3.index t 0 * 1152 ≤ (i 0).val ∧ (i 0).val < win0_3.index t 0 * 1152 + 1152; omega
    | ⟨1, _⟩ => show win0_3.index t 1 * 2048 ≤ (i 1).val ∧ (i 1).val < win0_3.index t 1 * 2048 + 2048; omega

end Cert.OdInDxIdeal.At

namespace Cert.Proof.OdInDx

open Idealize.ShloMosaic Idealize.SL.Sem Cert.Mix Cert.Products

section
open Cert.OdInDxRefIdeal Cert.OdInDxRefIdeal.Read

/-- The reference's array. -/
theorem host (x0 : FVec Ideal S5x2304x2048 .bf16) (x1 : FVec Ideal S4x2048x2560 .bf16) :
    val_main_v8 (F := Ideal) x0 x1 = fun (i : S2304x2048.Idx) => gradH (side x0 2048) (side x1 2560) 10240 (i 0).val (i 1).val := by
  funext i
  have h0 : (i 0).val < 2304 := (i 0).isLt
  have h1 : (i 1).val < 2048 := (i 1).isLt
  rw [val_main_v8_apply]
  unfold gradH
  rw [Finset.sum_range]
  refine Finset.sum_congr rfl fun k _ => ?_
  have hk := k.isLt
  refine congrArg₂ (· * ·) ?_ ?_
  · show val_main_v1 (F := Ideal) x0 _ = _
    rw [val_main_v1_apply, val_main_v0_apply]
    exact read3 _ _ (by show ((i 0).val * 10240 + k.val) / 2048 % 5 = _; omega) (by show ((i 0).val * 10240 + k.val) / 10240 = _; omega)
      (by show ((i 0).val * 10240 + k.val) % 2048 = _; omega)
  · show val_main_v3 (F := Ideal) x1 _ = _
    rw [val_main_v3_apply, val_main_v2_apply]
    exact read3 _ _ (by show ((i 1).val * 10240 + k.val) / 2560 % 4 = _; omega) (by show ((i 1).val * 10240 + k.val) / 10240 = _; omega)
      (by show ((i 1).val * 10240 + k.val) % 2560 = _; omega)

theorem host_of (V0 : Valuation τ sig (Elt Ideal)) (x0 : FVec Ideal S5x2304x2048 .bf16) (x1 : FVec Ideal S4x2048x2560 .bf16)
    (e0 : V0 (Proc.devRef .tc main_arg0) = x0) (e1 : V0 (Proc.devRef .tc main_arg1) = x1) :
    val_main_v8 (F := Ideal) (V0 (Proc.devRef .tc main_arg0)) (V0 (Proc.devRef .tc main_arg1))
      = fun (i : S2304x2048.Idx) => gradH (side x0 2048) (side x1 2560) 10240 (i 0).val (i 1).val := by
  rw [e0, e1]
  exact host x0 x1

end

theorem frame : Cert.quiescent_OdInDxRefIdeal := fun m g _ =>
  (θ_run (OdInDxRefIdeal.defs (F := Ideal)) _ _).mono
    (fun r h => ⟨fun c => (h c).2, Idealize.ShloMosaic.sem_eq_zero_of_no_sems (by decide) r.2⟩)
    (OdInDxRefIdeal.Value.run (F := Ideal) m g)

theorem value : Cert.algebraic_OdInDxIdeal_OdInDxRefIdeal := by
  intro m g m' g' _ hag
  refine ⟨OdInDxIdeal.At.G m,
    (θ_run OdInDxIdeal.defs _ _).mono (fun r h c => ?_) (OdInDxIdeal.Value.run_blocks (F := Ideal) m g),
    (θ_run OdInDxRefIdeal.defs _ _).mono (fun r h c => ?_) (OdInDxRefIdeal.Value.run (F := Ideal) m' g')⟩
  · exact ⟨(h c).1.trans (OdInDxIdeal.At.final m c), (h c).2⟩
  · exact ⟨((h c).1.trans (OdInDxRefIdeal.Read.val_main_v8_eq _ _).symm).trans
      (host_of (StableHlo.launchContents m' c) _ _ (hag c).1 (hag c).2), (h c).2⟩

end Cert.Proof.OdInDx

end
-- ==== Proof.OdInDw.lean ====
/-  The gradient of the odd layer's input weights: the kernel's blocks beside the reference's one product. -/
module

public import proofs.«01_k».proof.Defs
public import proofs.«01_k».proof.Proof.Products
public import proofs.«01_k».proof.Proof.Gen.OdInDwIdeal.Value
public import proofs.«01_k».proof.Proof.Gen.OdInDwRefIdeal.Run
public import proofs.«01_k».proof.Proof.Gen.OdInDwRefIdeal.Read
public import Idealize.ShloMosaic.Lib.Claim
public import Idealize.ShloMosaic.Lib.Quiescent

@[expose] public section

noncomputable section

namespace Cert.OdInDwIdeal.At

open Cert.OdInDwIdeal Cert.OdInDwIdeal.Gen Cert.Mix Cert.Products Idealize.ShloMosaic Idealize.ShloMosaic.TcCoe Idealize.SL.Sem

variable (m : (ℓ : Loc nD τ sig) → Buf (Elt Ideal) ℓ) (c : Dev nD)

/-- The layer's input, and the cotangent's sections laid side by side. -/
abbrev H : ℕ → ℕ → EReal := at2 (a := 2304) (b := 2048) (m ((c : Thread nD τ).loc main_arg0))
abbrev Dz : ℕ → ℕ → EReal := side (a := 5) (b := 2304) (c := 2048) (m ((c : Thread nD τ).loc main_arg1)) 2048

/-- The stored pieces, eight of 256 rows each. -/
theorem pay_is {v : Vec Ideal S2304x256 .bf16} {x : Vec Ideal S1x2304x512 .bf16} {h f : ℕ → ℕ → EReal} (hv : Is v h) (hx : Is1 x f) :
    Is1 (k0_pay10 (F := Ideal) x v) fun k q => ∑ r : Fin 2304, h r.val k * f r.val q := by
  unfold k0_pay10 k0_pay9
  exact add_is (φ := .bf16) (fun j => tn_is (φ₁ := .bf16) (φ₂ := .bf16) _ rfl hv (drop_is (φ := .bf16) hx _) j) _

/-- The piece of rows `o` on. -/
theorem piece {x0 : Vec Ideal S2304x2048 .bf16} {x : Vec Ideal S1x2304x512 .bf16} {h f : ℕ → ℕ → EReal} (hx0 : Is x0 h) (hx : Is1 x f) (o : ℕ) (inb)
    (j : S1x256x512.Idx) :
    k0_pay10 (F := Ideal) x (View.ld x0 (Rect.unit (s := S2304x2048) ![0, o] S2304x256.size inb)) j
      = ∑ r : Fin 2304, h r.val (o + 1 * (j 1).val) * f r.val (0 + 1 * (j 2).val) := by
  refine (pay_is (h := fun r k => h (0 + r) (o + k)) (fun j => ld_is (e := .bf16) hx0 inb j) hx j).trans ?_
  simp only [Nat.zero_add, Nat.one_mul]

theorem blk0 (t : Fin cfg0.N) : Is (iblk m c 0 t) (H m c) := fun j => by
  have hi : win0_0.index t 0 = 0 ∧ win0_0.index t 1 = 0 := (by decide +kernel : ∀ t : Fin grid0.N, win0_0.index t 0 = 0 ∧ win0_0.index t 1 = 0) t
  unfold iblk
  rw [View.read_apply]
  exact read2 _ _ (by show win0_0.index t 0 * 2304 + 1 * (j 0).val = _; omega) (by show win0_0.index t 1 * 2048 + 1 * (j 1).val = _; omega)

theorem blk1 (t : Fin cfg0.N) : Is1 (iblk m c 1 t) fun r q => Dz m c r (512 * t.val + q) := fun j => by
  have hi : win0_1.index t 0 = t.val / 4 ∧ win0_1.index t 1 = 0 ∧ win0_1.index t 2 = t.val % 4 :=
    (by decide +kernel : ∀ t : Fin grid0.N, win0_1.index t 0 = t.val / 4 ∧ win0_1.index t 1 = 0 ∧ win0_1.index t 2 = t.val % 4) t
  have h0 : (j 0).val < 1 := (j 0).isLt
  have h2 : (j 2).val < 512 := (j 2).isLt
  unfold iblk
  rw [View.read_apply]
  exact read3 _ _ (by show win0_1.index t 0 * 1 + 1 * (j 0).val = _; omega) (by show win0_1.index t 1 * 2304 + 1 * (j 1).val = _; omega)
    (by show win0_1.index t 2 * 512 + 1 * (j 2).val = _; omega)

section
variable (i : grid0.Coords) (a1 : Memref sig .tc .vmem S2304x2048 .bf16) (h1 : a1.IsWhole) (a2 : Memref sig .tc .vmem S1x2304x512 .bf16) (h2 : a2.IsWhole)
  (a3 : Memref sig .tc .vmem S1x2304x512 .bf16) (h3 : a3.IsWhole) (a4 : Memref sig .tc .vmem S1x2048x512 .bf16) (h4 : a4.IsWhole)

theorem outA (hc0 : cond0_0 i) (hc1 : ¬cond0_1 i) {x0 : Vec Ideal S2304x2048 .bf16} {x1 : Vec Ideal S1x2304x512 .bf16} (x2 : Vec Ideal S1x2304x512 .bf16)
    {h f : ℕ → ℕ → EReal} (hx0 : Is x0 h) (hx1 : Is1 x1 f) :
    Is1 (out0_A_3 c i a1 h1 a2 h2 a3 h3 a4 h4 hc0 hc1 x0 x1 x2) fun k q => ∑ r : Fin 2304, h r.val k * f r.val q := fun y => by
  unfold out0_A_3
  rw [View.read_writes_eq_canon _ _ _ (cover0_A_3 c i a1 h1 a2 h2 a3 h3 a4 h4 hc0 hc1 x0 x1 x2)]
  refine View.canon_apply_of_pieces (Val := Elt Ideal) (e := .bf16) (fun y : S1x2048x512.Idx => ∑ r : Fin 2304, h r.val (y 1).val * f r.val (y 2).val) _ ?_ y
    (cover0_A_3 c i a1 h1 a2 h2 a3 h3 a4 h4 hc0 hc1 x0 x1 x2 y)
  unfold kernelRun0_A
  dsimp only
  sl_unfold_words
  simp only [View.readAt_eq_ld, h1.read_unread, h2.read_unread, View.ld_unit_zero (S := S1x2304x512) hz3]
  intro pc hpc x
  rcases List.mem_cons.mp hpc with rfl | hpc
  · exact piece hx0 hx1 1792 _ x
  rcases List.mem_cons.mp hpc with rfl | hpc
  · exact piece hx0 hx1 1536 _ x
  rcases List.mem_cons.mp hpc with rfl | hpc
  · exact piece hx0 hx1 1280 _ x
  rcases List.mem_cons.mp hpc with rfl | hpc
  · exact piece hx0 hx1 1024 _ x
  rcases List.mem_cons.mp hpc with rfl | hpc
  · exact piece hx0 hx1 768 _ x
  rcases List.mem_cons.mp hpc with rfl | hpc
  · exact piece hx0 hx1 512 _ x
  rcases List.mem_cons.mp hpc with rfl | hpc
  · exact piece hx0 hx1 256 _ x
  rcases List.mem_cons.mp hpc with rfl | hpc
  · exact piece hx0 hx1 0 _ x
  nomatch hpc
end

/-- The kernel's array. -/
def G : Buf (Elt Ideal) ((c : Thread nD τ).loc main_v0) := fun (i : S4x2048x2560.Idx) => gradW (H m c) (Dz m c) 2304 (i 1).val (2560 * (i 0).val + (i 2).val)

theorem G_at (i : S4x2048x2560.Idx) {k q : ℕ} (h1 : (i 1).val = k) (h2 : 2560 * (i 0).val + (i 2).val = q) : G m c i = gradW (H m c) (Dz m c) 2304 k q := by
  subst h1 h2
  rfl

/-- Where the output's block stands. -/
theorem idx3 (t : Fin cfg0.N) : win0_3.index t 0 = t.val / 5 ∧ win0_3.index t 1 = 0 ∧ win0_3.index t 2 = t.val % 5 :=
  (by decide +kernel : ∀ t : Fin grid0.N, win0_3.index t 0 = t.val / 5 ∧ win0_3.index t 1 = 0 ∧ win0_3.index t 2 = t.val % 5) t

theorem flushed_eq (t : Fin cfg0.N) (hf : (cfg0.win 3).flush t = true) : (dats m 0 c).flushed 3 t = ((cfg0.win 3).blk t).view.read (Elt Ideal) (G m c) := by
  have hi := idx3 t
  rw [Value.flushed3_A]
  funext j
  have h0 : (j 0).val < 1 := (j 0).isLt
  refine (outA c (grid0.coords t) (ms0_0 t) (hs0_0 t) (ms0_1 t) (hs0_1 t) (ms0_2 t) (hs0_2 t) (ms0_3 t) (hs0_3 t) (hcond0_0 t) (hcond0_1 t) (iblk m c 2 t)
    (blk0 m c t) (blk1 m c t) j).trans ?_
  rw [View.read_apply]
  refine Eq.trans ?_ (cast_eq _ _).symm
  refine Eq.trans ?_ (G_at m c _ (k := (j 1).val) (q := 512 * t.val + (j 2).val) (by show win0_3.index t 1 * 2048 + 1 * (j 1).val = (j 1).val; omega)
    (by show 2560 * (win0_3.index t 0 * 1 + 1 * (j 0).val) + (win0_3.index t 2 * 512 + 1 * (j 2).val) = _; omega)).symm
  exact (Finset.sum_range fun r => H m c r (j 1).val * Dz m c r (512 * t.val + (j 2).val)).symm

theorem final : (dats m 0 c).arrAt 3 cfg0.N = G m c :=
  (dats m 0 c).arrAt_eq_of_cover 3 (G m c) (flushed_eq m c) fun i => by
    have h0 : (i 0).val < 4 := (i 0).isLt
    have h1 : (i 1).val < 2048 := (i 1).isLt
    have h2 : (i 2).val < 2560 := (i 2).isLt
    have hN : cfg0.N = 20 := by decide +kernel
    let t : Fin cfg0.N := ⟨5 * (i 0).val + (i 2).val / 512, by omega⟩
    have ht : t.val = 5 * (i 0).val + (i 2).val / 512 := rfl
    have hi := idx3 t
    refine ⟨t, flush0_3 t, ?_⟩
    show i ∈ ((View.whole main_v0).slice (win0_3.rect t)).set
    rw [View.set_slice_whole, Rect.mem_set_unit]
    intro a
    match a with
    | ⟨0, _⟩ => show win0_3.index t 0 * 1 ≤ (i 0).val ∧ (i 0).val < win0_3.index t 0 * 1 + 1; omega
    | ⟨1, _⟩ => show win0_3.index t 1 * 2048 ≤ (i 1).val ∧ (i 1).val < win0_3.index t 1 * 2048 + 2048; omega
    | ⟨2, _⟩ => show win0_3.index t 2 * 512 ≤ (i 2).val ∧ (i 2).val < win0_3.index t 2 * 512 + 512; omega

end Cert.OdInDwIdeal.At

namespace Cert.Proof.OdInDw

open Idealize.ShloMosaic Idealize.SL.Sem Cert.Mix Cert.Products

section
open Cert.OdInDwRefIdeal Cert.OdInDwRefIdeal.Read

/-- The reference's array. -/
theorem host (x0 : FVec Ideal S2304x2048 .bf16) (x1 : FVec Ideal S5x2304x2048 .bf16) :
    val_main_v10 (F := Ideal) x0 x1 = fun (i : S4x2048x2560.Idx) => gradW (at2 x0) (side x1 2048) 2304 (i 1).val (2560 * (i 0).val + (i 2).val) := by
  funext i
  have h0 : (i 0).val < 4 := (i 0).isLt
  have h1 : (i 1).val < 2048 := (i 1).isLt
  have h2 : (i 2).val < 2560 := (i 2).isLt
  show val_main_v9 (F := Ideal) x0 x1 i = _
  rw [val_main_v9_apply, val_main_v8_apply, val_main_v7_apply, val_main_v6_apply]
  unfold gradW
  rw [Finset.sum_range]
  refine Finset.sum_congr rfl fun k _ => ?_
  have hk := k.isLt
  refine (mul_comm _ _).trans (congrArg₂ (· * ·) ?_ ?_)
  · show x0 _ = _
    exact read2 _ _ rfl (by show (((i 1).val * 4 + (i 0).val) * 2560 + (i 2).val) / 10240 = _; omega)
  · show val_main_v1 (F := Ideal) x1 _ = _
    rw [val_main_v1_apply, val_main_v0_apply]
    exact read3 _ _
      (by show (k.val * 10240 + (((i 1).val * 4 + (i 0).val) * 2560 + (i 2).val) % 10240) / 2048 % 5 = (2560 * (i 0).val + (i 2).val) / 2048; omega)
      (by show (k.val * 10240 + (((i 1).val * 4 + (i 0).val) * 2560 + (i 2).val) % 10240) / 10240 = k.val; omega)
      (by show (k.val * 10240 + (((i 1).val * 4 + (i 0).val) * 2560 + (i 2).val) % 10240) % 2048 = (2560 * (i 0).val + (i 2).val) % 2048; omega)

theorem host_of (V0 : Valuation τ sig (Elt Ideal)) (x0 : FVec Ideal S2304x2048 .bf16) (x1 : FVec Ideal S5x2304x2048 .bf16)
    (e0 : V0 (Proc.devRef .tc main_arg0) = x0) (e1 : V0 (Proc.devRef .tc main_arg1) = x1) :
    val_main_v10 (F := Ideal) (V0 (Proc.devRef .tc main_arg0)) (V0 (Proc.devRef .tc main_arg1))
      = fun (i : S4x2048x2560.Idx) => gradW (at2 x0) (side x1 2048) 2304 (i 1).val (2560 * (i 0).val + (i 2).val) := by
  rw [e0, e1]
  exact host x0 x1

end

theorem frame : Cert.quiescent_OdInDwRefIdeal := fun m g _ =>
  (θ_run (OdInDwRefIdeal.defs (F := Ideal)) _ _).mono
    (fun r h => ⟨fun c => (h c).2, Idealize.ShloMosaic.sem_eq_zero_of_no_sems (by decide) r.2⟩)
    (OdInDwRefIdeal.Value.run (F := Ideal) m g)

theorem value : Cert.algebraic_OdInDwIdeal_OdInDwRefIdeal := by
  intro m g m' g' _ hag
  refine ⟨OdInDwIdeal.At.G m,
    (θ_run OdInDwIdeal.defs _ _).mono (fun r h c => ?_) (OdInDwIdeal.Value.run_blocks (F := Ideal) m g),
    (θ_run OdInDwRefIdeal.defs _ _).mono (fun r h c => ?_) (OdInDwRefIdeal.Value.run (F := Ideal) m' g')⟩
  · exact ⟨(h c).1.trans (OdInDwIdeal.At.final m c), (h c).2⟩
  · exact ⟨((h c).1.trans (OdInDwRefIdeal.Read.val_main_v10_eq _ _).symm).trans
      (host_of (StableHlo.launchContents m' c) _ _ (hag c).1 (hag c).2), (h c).2⟩

end Cert.Proof.OdInDw

end
-- ==== Proof.EvInDx.lean ====
/-  The gradient of the even layer's input: the kernel's running sum over the column blocks beside the reference's one product. -/
module

public import proofs.«01_k».proof.Defs
public import proofs.«01_k».proof.Proof.Products
public import proofs.«01_k».proof.Proof.Gen.EvInDxIdeal.Value
public import proofs.«01_k».proof.Proof.Gen.EvInDxRefIdeal.Run
public import proofs.«01_k».proof.Proof.Gen.EvInDxRefIdeal.Read
public import Idealize.ShloMosaic.Lib.Claim
public import Idealize.ShloMosaic.Lib.Quiescent

@[expose] public section

noncomputable section

namespace Cert.EvInDxIdeal.At

open Cert.EvInDxIdeal Cert.EvInDxIdeal.Gen Cert.Mix Cert.Products Idealize.ShloMosaic Idealize.ShloMosaic.TcCoe Idealize.SL.Sem

variable (m : (ℓ : Loc nD τ sig) → Buf (Elt Ideal) ℓ) (c : Dev nD)

/-- The sections of the two cotangents, and the weights' parts, each laid side by side. -/
abbrev Dz : ℕ → ℕ → EReal := join 2048 (side (a := 2) (b := 2304) (c := 1024) (m ((c : Thread nD τ).loc main_arg0)) 1024)
  (side (a := 4) (b := 2304) (c := 1024) (m ((c : Thread nD τ).loc main_arg1)) 1024)
abbrev W : ℕ → ℕ → EReal := side (a := 4) (b := 2048) (c := 1536) (m ((c : Thread nD τ).loc main_arg2)) 1536

theorem pay_is {o : Vec Ideal S1152x2048 .f32} {x : Vec Ideal S1x1152x512 .bf16} {w : Vec Ideal S1x2048x512 .bf16} {a f g : ℕ → ℕ → EReal}
    (ho : Is o a) (hx : Is1 x f) (hw : Is1 w g) : Is (k0_pay2 (F := Ideal) o x w) fun r k => a r k + ∑ q : Fin 512, f r q.val * g k q.val := fun j => by
  unfold k0_pay2
  rw [ValueIdx.addf_apply, shapeCast_self, ho j]
  exact congrArg (a _ _ + ·) (nt_is _ rfl (drop_is (φ := .bf16) hx _) (drop_is (φ := .bf16) hw _) j)

/-- The input blocks at point `t`: rows `1152 (t / 12)` on, columns `512 (t % 12)` on, of the first cotangent at the first four
    column blocks and of the second after them. -/
theorem blk0 (t : Fin cfg0.N) (h : t.val % 12 ≤ 3) : Is1 (iblk m c 0 t) fun r q => Dz m c (1152 * (t.val / 12) + r) (512 * (t.val % 12) + q) := fun j => by
  have hi : win0_0.index t 0 = t.val % 12 / 2 ∧ win0_0.index t 1 = t.val / 12 ∧ win0_0.index t 2 = t.val % 12 % 2 :=
    (by decide +kernel : ∀ t : Fin grid0.N, t.val % 12 ≤ 3 → win0_0.index t 0 = t.val % 12 / 2 ∧ win0_0.index t 1 = t.val / 12 ∧ win0_0.index t 2 = t.val % 12 % 2) t h
  have h0 : (j 0).val < 1 := (j 0).isLt
  have h2 : (j 2).val < 512 := (j 2).isLt
  unfold iblk
  rw [View.read_apply]
  refine Eq.trans ?_ (if_pos (show 512 * (t.val % 12) + (j 2).val < 2048 by omega)).symm
  exact read3 _ _ (by show win0_0.index t 0 * 1 + 1 * (j 0).val = _; omega) (by show win0_0.index t 1 * 1152 + 1 * (j 1).val = _; omega)
    (by show win0_0.index t 2 * 512 + 1 * (j 2).val = _; omega)

theorem blk1 (t : Fin cfg0.N) (h : 4 ≤ t.val % 12) : Is1 (iblk m c 1 t) fun r q => Dz m c (1152 * (t.val / 12) + r) (512 * (t.val % 12) + q) := fun j => by
  have hi : win0_1.index t 0 = (t.val % 12 - 4) / 2 ∧ win0_1.index t 1 = t.val / 12 ∧ win0_1.index t 2 = (t.val % 12 - 4) % 2 :=
    (by decide +kernel : ∀ t : Fin grid0.N, 4 ≤ t.val % 12 → win0_1.index t 0 = (t.val % 12 - 4) / 2 ∧ win0_1.index t 1 = t.val / 12 ∧ win0_1.index t 2 = (t.val % 12 - 4) % 2) t h
  have h0 : (j 0).val < 1 := (j 0).isLt
  have h2 : (j 2).val < 512 := (j 2).isLt
  unfold iblk
  rw [View.read_apply]
  refine Eq.trans ?_ (if_neg (show ¬512 * (t.val % 12) + (j 2).val < 2048 by omega)).symm
  exact read3 _ _ (by show win0_1.index t 0 * 1 + 1 * (j 0).val = _; omega) (by show win0_1.index t 1 * 1152 + 1 * (j 1).val = _; omega)
    (by show win0_1.index t 2 * 512 + 1 * (j 2).val = _; omega)

theorem blk2 (t : Fin cfg0.N) : Is1 (iblk m c 2 t) fun k q => W m c k (512 * (t.val % 12) + q) := fun j => by
  have hi : win0_2.index t 0 = t.val % 12 / 3 ∧ win0_2.index t 1 = 0 ∧ win0_2.index t 2 = t.val % 12 % 3 :=
    (by decide +kernel : ∀ t : Fin grid0.N, win0_2.index t 0 = t.val % 12 / 3 ∧ win0_2.index t 1 = 0 ∧ win0_2.index t 2 = t.val % 12 % 3) t
  have h0 : (j 0).val < 1 := (j 0).isLt
  have h2 : (j 2).val < 512 := (j 2).isLt
  unfold iblk
  rw [View.read_apply]
  exact read3 _ _ (by show win0_2.index t 0 * 1 + 1 * (j 0).val = _; omega) (by show win0_2.index t 1 * 2048 + 1 * (j 1).val = _; omega)
    (by show win0_2.index t 2 * 512 + 1 * (j 2).val = _; omega)

section
variable (i : grid0.Coords) (a2 : Memref sig .tc .vmem S1x1152x512 .bf16) (h2 : a2.IsWhole) (a3 : Memref sig .tc .vmem S1x1152x512 .bf16) (h3 : a3.IsWhole)
  (a4 : Memref sig .tc .vmem S1x2048x512 .bf16) (h4 : a4.IsWhole) (a5 : Memref sig .tc .vmem S1152x2048 .f32) (h5 : a5.IsWhole)

theorem outA (hc0 : cond0_0 i) (hc1 : cond0_1 i) (hc2 : ¬cond0_2 i) (x0 x1 : Vec Ideal S1x1152x512 .bf16) (x2 : Vec Ideal S1x2048x512 .bf16) :
    out0_A_3 c i a2 h2 a3 h3 a4 h4 a5 h5 hc0 hc1 hc2 x0 x1 x2 = k0_pay2 k0_pay1 x0 x2 := by
  unfold out0_A_3
  rw [View.read_writes_eq_canon _ _ _ (cover0_A_3 c i a2 h2 a3 h3 a4 h4 a5 h5 hc0 hc1 hc2 x0 x1 x2)]
  unfold kernelRun0_A
  dsimp only
  sl_unfold_words
  rw [View.canon_cons_unit_zero (S := S1152x2048) hz2, View.readCov_unit_zero (S := S1152x2048) _ hz2]
  simp only [View.readAt_eq_ld, h2.read_unread, h4.read_unread, View.ld_unit_zero (S := S1x1152x512) hz3, View.ld_unit_zero (S := S1x2048x512) hz3]

theorem outB (hc0 : ¬cond0_0 i) (hc1 : cond0_1 i) (hc2 : ¬cond0_2 i) (x0 x1 : Vec Ideal S1x1152x512 .bf16) (x2 : Vec Ideal S1x2048x512 .bf16) (xo : Vec Ideal S1152x2048 .f32) :
    out0_B_3 c i a2 h2 a3 h3 a4 h4 a5 h5 hc0 hc1 hc2 x0 x1 x2 xo = k0_pay2 xo x0 x2 := by
  unfold out0_B_3
  rw [View.read_writes_eq_canon _ _ _ (cover0_B_3 c i a2 h2 a3 h3 a4 h4 a5 h5 hc0 hc1 hc2 x0 x1 x2 xo)]
  unfold kernelRun0_B
  dsimp only
  rw [View.canon_unit_zero (S := S1152x2048) hz2]
  simp only [View.readAt_eq_ld, h2.read_unread, h4.read_unread, h5.read_unread, View.ld_unit_zero (S := S1152x2048) hz2, View.ld_unit_zero (S := S1x1152x512) hz3, View.ld_unit_zero (S := S1x2048x512) hz3]

theorem outC (hc0 : ¬cond0_0 i) (hc1 : ¬cond0_1 i) (hc2 : cond0_2 i) (x0 x1 : Vec Ideal S1x1152x512 .bf16) (x2 : Vec Ideal S1x2048x512 .bf16) (xo : Vec Ideal S1152x2048 .f32) :
    out0_C_3 c i a2 h2 a3 h3 a4 h4 a5 h5 hc0 hc1 hc2 x0 x1 x2 xo = k0_pay2 xo x1 x2 := by
  unfold out0_C_3
  rw [View.read_writes_eq_canon _ _ _ (cover0_C_3 c i a2 h2 a3 h3 a4 h4 a5 h5 hc0 hc1 hc2 x0 x1 x2 xo)]
  unfold kernelRun0_C
  dsimp only
  rw [View.canon_unit_zero (S := S1152x2048) hz2]
  simp only [View.readAt_eq_ld, h3.read_unread, h4.read_unread, h5.read_unread, View.ld_unit_zero (S := S1152x2048) hz2, View.ld_unit_zero (S := S1x1152x512) hz3, View.ld_unit_zero (S := S1x2048x512) hz3]
  rfl
end

theorem zero_is : Is (k0_pay1 (F := Ideal)) fun _ _ => 0 := fun j => Ideal.ofBits_zero_f32

/-- What the buffer holds after point `n`: the products of the column blocks so far, added in order. -/
theorem sum_is : ∀ (n : ℕ) (hn : n < cfg0.N), Is (outsAt0 m c n hn) fun r k =>
    ∑ s ∈ Finset.range (n % 12 + 1), ∑ q : Fin 512, Dz m c (1152 * (n / 12) + r) (512 * s + q.val) * W m c k (512 * s + q.val)
  | 0, hn => fun j => by
    rw [outsAt0_A m c ⟨0, hn⟩ rfl (Nat.zero_le 3) (by show ¬4 ≤ 0 % 12; decide), outA]
    refine (pay_is zero_is (blk0 m c ⟨0, hn⟩ (Nat.zero_le 3)) (blk2 m c ⟨0, hn⟩) j).trans ?_
    simp
  | n + 1, hn => fun j => by
    by_cases h : (n + 1) % 12 = 0
    · have h3 : (n + 1) % 12 ≤ 3 := by omega
      rw [outsAt0_A m c ⟨n + 1, hn⟩ h h3 (by show ¬4 ≤ (n + 1) % 12; omega), outA]
      refine (pay_is zero_is (blk0 m c ⟨n + 1, hn⟩ h3) (blk2 m c ⟨n + 1, hn⟩) j).trans ?_
      dsimp only
      rw [h, Finset.sum_range_one, zero_add]
    · by_cases h3 : (n + 1) % 12 ≤ 3
      · rw [outsAt0_B m c ⟨n + 1, hn⟩ h h3 (by show ¬4 ≤ (n + 1) % 12; omega), outB]
        refine (pay_is (sum_is n (Nat.lt_of_succ_lt hn)) (blk0 m c ⟨n + 1, hn⟩ h3) (blk2 m c ⟨n + 1, hn⟩) j).trans ?_
        dsimp only
        rw [show n % 12 + 1 = (n + 1) % 12 by omega, show n / 12 = (n + 1) / 12 by omega, ← Finset.sum_range_succ]
      · have h4 : 4 ≤ (n + 1) % 12 := by omega
        rw [outsAt0_C m c ⟨n + 1, hn⟩ h h3 h4, outC]
        refine (pay_is (sum_is n (Nat.lt_of_succ_lt hn)) (blk1 m c ⟨n + 1, hn⟩ h4) (blk2 m c ⟨n + 1, hn⟩) j).trans ?_
        dsimp only
        rw [show n % 12 + 1 = (n + 1) % 12 by omega, show n / 12 = (n + 1) / 12 by omega, ← Finset.sum_range_succ]

/-- The kernel's array. -/
def G : Buf (Elt Ideal) ((c : Thread nD τ).loc main_v0) := fun (i : S2304x2048.Idx) => gradH (Dz m c) (W m c) 6144 (i 0).val (i 1).val

theorem G_at (i : S2304x2048.Idx) {r k : ℕ} (h0 : (i 0).val = r) (h1 : (i 1).val = k) : G m c i = gradH (Dz m c) (W m c) 6144 r k := by
  subst h0 h1
  rfl

theorem flushed_eq (t : Fin cfg0.N) (hf : (cfg0.win 3).flush t = true) : (dats m 0 c).flushed 3 t = ((cfg0.win 3).blk t).view.read (Elt Ideal) (G m c) := by
  have h11 : t.val % 12 = 11 := (flush0_3 t).mp hf
  have hi : win0_3.index t 0 = t.val / 12 ∧ win0_3.index t 1 = 0 :=
    (by decide +kernel : ∀ t : Fin grid0.N, win0_3.index t 0 = t.val / 12 ∧ win0_3.index t 1 = 0) t
  rw [Value.flushed3]
  funext j
  show outsAt0 m c t.val t.isLt j = _
  refine (sum_is m c t.val t.isLt j).trans ?_
  rw [View.read_apply, h11]
  refine (runs_gradH (N := 6144) (Dz m c) (W m c) 512 12 rfl (1152 * (t.val / 12) + (j 0).val) (j 1).val).trans ?_
  refine Eq.trans ?_ (cast_eq _ _).symm
  exact (G_at m c _ (by show win0_3.index t 0 * 1152 + 1 * (j 0).val = 1152 * (t.val / 12) + (j 0).val; omega)
    (by show win0_3.index t 1 * 2048 + 1 * (j 1).val = (j 1).val; omega)).symm

theorem final : (dats m 0 c).arrAt 3 cfg0.N = G m c :=
  (dats m 0 c).arrAt_eq_of_cover 3 (G m c) (flushed_eq m c) fun i => by
    have h0 : (i 0).val < 2304 := (i 0).isLt
    have h1 : (i 1).val < 2048 := (i 1).isLt
    have hN : cfg0.N = 24 := by decide +kernel
    let t : Fin cfg0.N := ⟨12 * ((i 0).val / 1152) + 11, by omega⟩
    have ht : t.val = 12 * ((i 0).val / 1152) + 11 := rfl
    have hi : win0_3.index t 0 = t.val / 12 ∧ win0_3.index t 1 = 0 :=
      (by decide +kernel : ∀ t : Fin grid0.N, win0_3.index t 0 = t.val / 12 ∧ win0_3.index t 1 = 0) t
    refine ⟨t, (flush0_3 t).mpr (by omega), ?_⟩
    show i ∈ ((View.whole main_v0).slice (win0_3.rect t)).set
    rw [View.set_slice_whole, Rect.mem_set_unit]
    intro a
    match a with
    | ⟨0, _⟩ => show win0_3.index t 0 * 1152 ≤ (i 0).val ∧ (i 0).val < win0_3.index t 0 * 1152 + 1152; omega
    | ⟨1, _⟩ => show win0_3.index t 1 * 2048 ≤ (i 1).val ∧ (i 1).val < win0_3.index t 1 * 2048 + 2048; omega

end Cert.EvInDxIdeal.At

namespace Cert.Proof.EvInDx

open Idealize.ShloMosaic Idealize.SL.Sem Cert.Mix Cert.Products

section
open Cert.EvInDxRefIdeal Cert.EvInDxRefIdeal.Read

/-- The reference's array. -/
theorem host (x0 : FVec Ideal S2x2304x1024 .bf16) (x1 : FVec Ideal S4x2304x1024 .bf16) (x2 : FVec Ideal S4x2048x1536 .bf16) :
    val_main_v9 (F := Ideal) x0 x1 x2 = fun (i : S2304x2048.Idx) => gradH (join 2048 (side x0 1024) (side x1 1024)) (side x2 1536) 6144 (i 0).val (i 1).val := by
  funext i
  have h0 : (i 0).val < 2304 := (i 0).isLt
  have h1 : (i 1).val < 2048 := (i 1).isLt
  rw [val_main_v9_apply]
  unfold gradH
  rw [Finset.sum_range]
  refine Finset.sum_congr rfl fun k _ => ?_
  have hk := k.isLt
  refine congrArg₂ (· * ·) ?_ ?_
  · show val_main_v2 (F := Ideal) x0 x1 _ = _
    rw [val_main_v2_apply, val_main_v1_apply]
    exact stacked x0 x1 _ _ hk (by show ((i 0).val * 6144 + k.val) / 1024 % 6 = _; omega) (by show ((i 0).val * 6144 + k.val) / 6144 = _; omega)
      (by show ((i 0).val * 6144 + k.val) % 1024 = _; omega)
  · show val_main_v4 (F := Ideal) x2 _ = _
    rw [val_main_v4_apply, val_main_v3_apply]
    exact read3 _ _ (by show ((i 1).val * 6144 + k.val) / 1536 % 4 = _; omega) (by show ((i 1).val * 6144 + k.val) / 6144 = _; omega)
      (by show ((i 1).val * 6144 + k.val) % 1536 = _; omega)

theorem host_of (V0 : Valuation τ sig (Elt Ideal)) (x0 : FVec Ideal S2x2304x1024 .bf16) (x1 : FVec Ideal S4x2304x1024 .bf16) (x2 : FVec Ideal S4x2048x1536 .bf16)
    (e0 : V0 (Proc.devRef .tc main_arg0) = x0) (e1 : V0 (Proc.devRef .tc main_arg1) = x1) (e2 : V0 (Proc.devRef .tc main_arg2) = x2) :
    val_main_v9 (F := Ideal) (V0 (Proc.devRef .tc main_arg0)) (V0 (Proc.devRef .tc main_arg1)) (V0 (Proc.devRef .tc main_arg2))
      = fun (i : S2304x2048.Idx) => gradH (join 2048 (side x0 1024) (side x1 1024)) (side x2 1536) 6144 (i 0).val (i 1).val := by
  rw [e0, e1, e2]
  exact host x0 x1 x2

end

theorem frame : Cert.quiescent_EvInDxRefIdeal := fun m g _ =>
  (θ_run (EvInDxRefIdeal.defs (F := Ideal)) _ _).mono
    (fun r h => ⟨fun c => (h c).2, Idealize.ShloMosaic.sem_eq_zero_of_no_sems (by decide) r.2⟩)
    (EvInDxRefIdeal.Value.run (F := Ideal) m g)

theorem value : Cert.algebraic_EvInDxIdeal_EvInDxRefIdeal := by
  intro m g m' g' _ hag
  refine ⟨EvInDxIdeal.At.G m,
    (θ_run EvInDxIdeal.defs _ _).mono (fun r h c => ?_) (EvInDxIdeal.Value.run_blocks (F := Ideal) m g),
    (θ_run EvInDxRefIdeal.defs _ _).mono (fun r h c => ?_) (EvInDxRefIdeal.Value.run (F := Ideal) m' g')⟩
  · exact ⟨(h c).1.trans (EvInDxIdeal.At.final m c), (h c).2⟩
  · exact ⟨((h c).1.trans (EvInDxRefIdeal.Read.val_main_v9_eq _ _ _).symm).trans
      (host_of (StableHlo.launchContents m' c) _ _ _ (hag c).1 (hag c).2.1 (hag c).2.2), (h c).2⟩

end Cert.Proof.EvInDx

end
-- ==== Proof.EvInDw.lean ====
/-  The gradient of the even layer's input weights: the kernel's blocks beside the reference's one product. -/
module

public import proofs.«01_k».proof.Defs
public import proofs.«01_k».proof.Proof.Products
public import proofs.«01_k».proof.Proof.Gen.EvInDwIdeal.Value
public import proofs.«01_k».proof.Proof.Gen.EvInDwRefIdeal.Run
public import proofs.«01_k».proof.Proof.Gen.EvInDwRefIdeal.Read
public import Idealize.ShloMosaic.Lib.Claim
public import Idealize.ShloMosaic.Lib.Quiescent

@[expose] public section

noncomputable section

namespace Cert.EvInDwIdeal.At

open Cert.EvInDwIdeal Cert.EvInDwIdeal.Gen Cert.Mix Cert.Products Idealize.ShloMosaic Idealize.ShloMosaic.TcCoe Idealize.SL.Sem

variable (m : (ℓ : Loc nD τ sig) → Buf (Elt Ideal) ℓ) (c : Dev nD)

/-- The layer's input, and the sections of the two cotangents laid side by side. -/
abbrev H : ℕ → ℕ → EReal := at2 (a := 2304) (b := 2048) (m ((c : Thread nD τ).loc main_arg0))
abbrev Dz : ℕ → ℕ → EReal := join 2048 (side (a := 2) (b := 2304) (c := 1024) (m ((c : Thread nD τ).loc main_arg1)) 1024)
  (side (a := 4) (b := 2304) (c := 1024) (m ((c : Thread nD τ).loc main_arg2)) 1024)

/-- The stored pieces, eight of 256 rows each. -/
theorem pay_is {v : Vec Ideal S2304x256 .bf16} {x : Vec Ideal S1x2304x512 .bf16} {h f : ℕ → ℕ → EReal} (hv : Is v h) (hx : Is1 x f) :
    Is1 (k0_pay10 (F := Ideal) x v) fun k q => ∑ r : Fin 2304, h r.val k * f r.val q := by
  unfold k0_pay10 k0_pay9
  exact add_is (φ := .bf16) (fun j => tn_is (φ₁ := .bf16) (φ₂ := .bf16) _ rfl hv (drop_is (φ := .bf16) hx _) j) _

/-- The piece of rows `o` on. -/
theorem piece {x0 : Vec Ideal S2304x2048 .bf16} {x : Vec Ideal S1x2304x512 .bf16} {h f : ℕ → ℕ → EReal} (hx0 : Is x0 h) (hx : Is1 x f) (o : ℕ) (inb)
    (j : S1x256x512.Idx) :
    k0_pay10 (F := Ideal) x (View.ld x0 (Rect.unit (s := S2304x2048) ![0, o] S2304x256.size inb)) j
      = ∑ r : Fin 2304, h r.val (o + 1 * (j 1).val) * f r.val (0 + 1 * (j 2).val) := by
  refine (pay_is (h := fun r k => h (0 + r) (o + k)) (fun j => ld_is (e := .bf16) hx0 inb j) hx j).trans ?_
  simp only [Nat.zero_add, Nat.one_mul]

theorem blk0 (t : Fin cfg0.N) : Is (iblk m c 0 t) (H m c) := fun j => by
  have hi : win0_0.index t 0 = 0 ∧ win0_0.index t 1 = 0 := (by decide +kernel : ∀ t : Fin grid0.N, win0_0.index t 0 = 0 ∧ win0_0.index t 1 = 0) t
  unfold iblk
  rw [View.read_apply]
  exact read2 _ _ (by show win0_0.index t 0 * 2304 + 1 * (j 0).val = _; omega) (by show win0_0.index t 1 * 2048 + 1 * (j 1).val = _; omega)

theorem blk1 (t : Fin cfg0.N) (h : t.val < 4) : Is1 (iblk m c 1 t) fun r q => Dz m c r (512 * t.val + q) := fun j => by
  have hi : win0_1.index t 0 = t.val / 2 ∧ win0_1.index t 1 = 0 ∧ win0_1.index t 2 = t.val % 2 :=
    (by decide +kernel : ∀ t : Fin grid0.N, t.val < 4 → win0_1.index t 0 = t.val / 2 ∧ win0_1.index t 1 = 0 ∧ win0_1.index t 2 = t.val % 2) t h
  have h0 : (j 0).val < 1 := (j 0).isLt
  have h2 : (j 2).val < 512 := (j 2).isLt
  unfold iblk
  rw [View.read_apply]
  refine Eq.trans ?_ (if_pos (show 512 * t.val + (j 2).val < 2048 by omega)).symm
  exact read3 _ _ (by show win0_1.index t 0 * 1 + 1 * (j 0).val = _; omega) (by show win0_1.index t 1 * 2304 + 1 * (j 1).val = _; omega)
    (by show win0_1.index t 2 * 512 + 1 * (j 2).val = _; omega)

theorem blk2 (t : Fin cfg0.N) (h : 4 ≤ t.val) : Is1 (iblk m c 2 t) fun r q => Dz m c r (512 * t.val + q) := fun j => by
  have hi : win0_2.index t 0 = (t.val - 4) / 2 ∧ win0_2.index t 1 = 0 ∧ win0_2.index t 2 = (t.val - 4) % 2 :=
    (by decide +kernel : ∀ t : Fin grid0.N, 4 ≤ t.val → win0_2.index t 0 = (t.val - 4) / 2 ∧ win0_2.index t 1 = 0 ∧ win0_2.index t 2 = (t.val - 4) % 2) t h
  have h0 : (j 0).val < 1 := (j 0).isLt
  have h2 : (j 2).val < 512 := (j 2).isLt
  unfold iblk
  rw [View.read_apply]
  refine Eq.trans ?_ (if_neg (show ¬512 * t.val + (j 2).val < 2048 by omega)).symm
  exact read3 _ _ (by show win0_2.index t 0 * 1 + 1 * (j 0).val = _; omega) (by show win0_2.index t 1 * 2304 + 1 * (j 1).val = _; omega)
    (by show win0_2.index t 2 * 512 + 1 * (j 2).val = _; omega)

section
variable (i : grid0.Coords) (a1 : Memref sig .tc .vmem S2304x2048 .bf16) (h1 : a1.IsWhole) (a2 : Memref sig .tc .vmem S1x2304x512 .bf16) (h2 : a2.IsWhole)
  (a3 : Memref sig .tc .vmem S1x2304x512 .bf16) (h3 : a3.IsWhole) (a4 : Memref sig .tc .vmem S1x2048x512 .bf16) (h4 : a4.IsWhole)

theorem outA (hc0 : cond0_0 i) (hc1 : ¬cond0_1 i) {x0 : Vec Ideal S2304x2048 .bf16} {x1 : Vec Ideal S1x2304x512 .bf16} (x2 : Vec Ideal S1x2304x512 .bf16)
    {h f : ℕ → ℕ → EReal} (hx0 : Is x0 h) (hx1 : Is1 x1 f) :
    Is1 (out0_A_3 c i a1 h1 a2 h2 a3 h3 a4 h4 hc0 hc1 x0 x1 x2) fun k q => ∑ r : Fin 2304, h r.val k * f r.val q := fun y => by
  unfold out0_A_3
  rw [View.read_writes_eq_canon _ _ _ (cover0_A_3 c i a1 h1 a2 h2 a3 h3 a4 h4 hc0 hc1 x0 x1 x2)]
  refine View.canon_apply_of_pieces (Val := Elt Ideal) (e := .bf16) (fun y : S1x2048x512.Idx => ∑ r : Fin 2304, h r.val (y 1).val * f r.val (y 2).val) _ ?_ y
    (cover0_A_3 c i a1 h1 a2 h2 a3 h3 a4 h4 hc0 hc1 x0 x1 x2 y)
  unfold kernelRun0_A
  dsimp only
  sl_unfold_words
  simp only [View.readAt_eq_ld, h1.read_unread, h2.read_unread, View.ld_unit_zero (S := S1x2304x512) hz3]
  intro pc hpc x
  rcases List.mem_cons.mp hpc with rfl | hpc
  · exact piece hx0 hx1 1792 _ x
  rcases List.mem_cons.mp hpc with rfl | hpc
  · exact piece hx0 hx1 1536 _ x
  rcases List.mem_cons.mp hpc with rfl | hpc
  · exact piece hx0 hx1 1280 _ x
  rcases List.mem_cons.mp hpc with rfl | hpc
  · exact piece hx0 hx1 1024 _ x
  rcases List.mem_cons.mp hpc with rfl | hpc
  · exact piece hx0 hx1 768 _ x
  rcases List.mem_cons.mp hpc with rfl | hpc
  · exact piece hx0 hx1 512 _ x
  rcases List.mem_cons.mp hpc with rfl | hpc
  · exact piece hx0 hx1 256 _ x
  rcases List.mem_cons.mp hpc with rfl | hpc
  · exact piece hx0 hx1 0 _ x
  nomatch hpc

theorem outB (hc0 : ¬cond0_0 i) (hc1 : cond0_1 i) {x0 : Vec Ideal S2304x2048 .bf16} (x1 : Vec Ideal S1x2304x512 .bf16) {x2 : Vec Ideal S1x2304x512 .bf16}
    {h f : ℕ → ℕ → EReal} (hx0 : Is x0 h) (hx1 : Is1 x2 f) :
    Is1 (out0_B_3 c i a1 h1 a2 h2 a3 h3 a4 h4 hc0 hc1 x0 x1 x2) fun k q => ∑ r : Fin 2304, h r.val k * f r.val q := fun y => by
  unfold out0_B_3
  rw [View.read_writes_eq_canon _ _ _ (cover0_B_3 c i a1 h1 a2 h2 a3 h3 a4 h4 hc0 hc1 x0 x1 x2)]
  refine View.canon_apply_of_pieces (Val := Elt Ideal) (e := .bf16) (fun y : S1x2048x512.Idx => ∑ r : Fin 2304, h r.val (y 1).val * f r.val (y 2).val) _ ?_ y
    (cover0_B_3 c i a1 h1 a2 h2 a3 h3 a4 h4 hc0 hc1 x0 x1 x2 y)
  unfold kernelRun0_B
  dsimp only
  sl_unfold_words
  simp only [View.readAt_eq_ld, h1.read_unread, h3.read_unread, View.ld_unit_zero (S := S1x2304x512) hz3]
  intro pc hpc x
  rcases List.mem_cons.mp hpc with rfl | hpc
  · exact piece hx0 hx1 1792 _ x
  rcases List.mem_cons.mp hpc with rfl | hpc
  · exact piece hx0 hx1 1536 _ x
  rcases List.mem_cons.mp hpc with rfl | hpc
  · exact piece hx0 hx1 1280 _ x
  rcases List.mem_cons.mp hpc with rfl | hpc
  · exact piece hx0 hx1 1024 _ x
  rcases List.mem_cons.mp hpc with rfl | hpc
  · exact piece hx0 hx1 768 _ x
  rcases List.mem_cons.mp hpc with rfl | hpc
  · exact piece hx0 hx1 512 _ x
  rcases List.mem_cons.mp hpc with rfl | hpc
  · exact piece hx0 hx1 256 _ x
  rcases List.mem_cons.mp hpc with rfl | hpc
  · exact piece hx0 hx1 0 _ x
  nomatch hpc
end

/-- The kernel's array. -/
def G : Buf (Elt Ideal) ((c : Thread nD τ).loc main_v0) := fun (i : S4x2048x1536.Idx) => gradW (H m c) (Dz m c) 2304 (i 1).val (1536 * (i 0).val + (i 2).val)

theorem G_at (i : S4x2048x1536.Idx) {k q : ℕ} (h1 : (i 1).val = k) (h2 : 1536 * (i 0).val + (i 2).val = q) : G m c i = gradW (H m c) (Dz m c) 2304 k q := by
  subst h1 h2
  rfl

/-- Where the output's block stands. -/
theorem idx3 (t : Fin cfg0.N) : win0_3.index t 0 = t.val / 3 ∧ win0_3.index t 1 = 0 ∧ win0_3.index t 2 = t.val % 3 :=
  (by decide +kernel : ∀ t : Fin grid0.N, win0_3.index t 0 = t.val / 3 ∧ win0_3.index t 1 = 0 ∧ win0_3.index t 2 = t.val % 3) t

theorem flushed_eq (t : Fin cfg0.N) (hf : (cfg0.win 3).flush t = true) : (dats m 0 c).flushed 3 t = ((cfg0.win 3).blk t).view.read (Elt Ideal) (G m c) := by
  have hi := idx3 t
  have hout : Is1 (outsAt0 m c t.val t.isLt) fun k q => ∑ r : Fin 2304, H m c r.val k * Dz m c r.val (512 * t.val + q) := by
    by_cases h : t.val < 4
    · rw [outsAt0_A m c t h (by omega)]
      exact outA c (grid0.coords t) (ms0_0 t) (hs0_0 t) (ms0_1 t) (hs0_1 t) (ms0_2 t) (hs0_2 t) (ms0_3 t) (hs0_3 t) _ _ (iblk m c 2 t) (blk0 m c t) (blk1 m c t h)
    · rw [outsAt0_B m c t h (by omega)]
      exact outB c (grid0.coords t) (ms0_0 t) (hs0_0 t) (ms0_1 t) (hs0_1 t) (ms0_2 t) (hs0_2 t) (ms0_3 t) (hs0_3 t) _ _ (iblk m c 1 t) (blk0 m c t) (blk2 m c t (by omega))
  rw [Value.flushed3]
  funext j
  have h0 : (j 0).val < 1 := (j 0).isLt
  show outsAt0 m c t.val t.isLt j = _
  refine (hout j).trans ?_
  rw [View.read_apply]
  refine Eq.trans ?_ (cast_eq _ _).symm
  refine Eq.trans ?_ (G_at m c _ (k := (j 1).val) (q := 512 * t.val + (j 2).val) (by show win0_3.index t 1 * 2048 + 1 * (j 1).val = (j 1).val; omega)
    (by show 1536 * (win0_3.index t 0 * 1 + 1 * (j 0).val) + (win0_3.index t 2 * 512 + 1 * (j 2).val) = _; omega)).symm
  exact (Finset.sum_range fun r => H m c r (j 1).val * Dz m c r (512 * t.val + (j 2).val)).symm

theorem final : (dats m 0 c).arrAt 3 cfg0.N = G m c :=
  (dats m 0 c).arrAt_eq_of_cover 3 (G m c) (flushed_eq m c) fun i => by
    have h0 : (i 0).val < 4 := (i 0).isLt
    have h1 : (i 1).val < 2048 := (i 1).isLt
    have h2 : (i 2).val < 1536 := (i 2).isLt
    have hN : cfg0.N = 12 := by decide +kernel
    let t : Fin cfg0.N := ⟨3 * (i 0).val + (i 2).val / 512, by omega⟩
    have ht : t.val = 3 * (i 0).val + (i 2).val / 512 := rfl
    have hi := idx3 t
    refine ⟨t, flush0_3 t, ?_⟩
    show i ∈ ((View.whole main_v0).slice (win0_3.rect t)).set
    rw [View.set_slice_whole, Rect.mem_set_unit]
    intro a
    match a with
    | ⟨0, _⟩ => show win0_3.index t 0 * 1 ≤ (i 0).val ∧ (i 0).val < win0_3.index t 0 * 1 + 1; omega
    | ⟨1, _⟩ => show win0_3.index t 1 * 2048 ≤ (i 1).val ∧ (i 1).val < win0_3.index t 1 * 2048 + 2048; omega
    | ⟨2, _⟩ => show win0_3.index t 2 * 512 ≤ (i 2).val ∧ (i 2).val < win0_3.index t 2 * 512 + 512; omega

end Cert.EvInDwIdeal.At

namespace Cert.Proof.EvInDw

open Idealize.ShloMosaic Idealize.SL.Sem Cert.Mix Cert.Products

section
open Cert.EvInDwRefIdeal Cert.EvInDwRefIdeal.Read

/-- The reference's array. -/
theorem host (x0 : FVec Ideal S2304x2048 .bf16) (x1 : FVec Ideal S2x2304x1024 .bf16) (x2 : FVec Ideal S4x2304x1024 .bf16) :
    val_main_v11 (F := Ideal) x0 x1 x2 = fun (i : S4x2048x1536.Idx) =>
      gradW (at2 x0) (join 2048 (side x1 1024) (side x2 1024)) 2304 (i 1).val (1536 * (i 0).val + (i 2).val) := by
  funext i
  have h0 : (i 0).val < 4 := (i 0).isLt
  have h1 : (i 1).val < 2048 := (i 1).isLt
  have h2 : (i 2).val < 1536 := (i 2).isLt
  show val_main_v10 (F := Ideal) x0 x1 x2 i = _
  rw [val_main_v10_apply, val_main_v9_apply, val_main_v8_apply, val_main_v7_apply]
  unfold gradW
  rw [Finset.sum_range]
  refine Finset.sum_congr rfl fun k _ => ?_
  have hk := k.isLt
  refine (mul_comm _ _).trans (congrArg₂ (· * ·) ?_ ?_)
  · show x0 _ = _
    exact read2 _ _ rfl (by show (((i 1).val * 4 + (i 0).val) * 1536 + (i 2).val) / 6144 = _; omega)
  · show val_main_v2 (F := Ideal) x1 x2 _ = _
    rw [val_main_v2_apply, val_main_v1_apply]
    exact stacked x1 x2 _ _ (by omega)
      (by show (k.val * 6144 + (((i 1).val * 4 + (i 0).val) * 1536 + (i 2).val) % 6144) / 1024 % 6 = (1536 * (i 0).val + (i 2).val) / 1024; omega)
      (by show (k.val * 6144 + (((i 1).val * 4 + (i 0).val) * 1536 + (i 2).val) % 6144) / 6144 = k.val; omega)
      (by show (k.val * 6144 + (((i 1).val * 4 + (i 0).val) * 1536 + (i 2).val) % 6144) % 1024 = (1536 * (i 0).val + (i 2).val) % 1024; omega)

theorem host_of (V0 : Valuation τ sig (Elt Ideal)) (x0 : FVec Ideal S2304x2048 .bf16) (x1 : FVec Ideal S2x2304x1024 .bf16) (x2 : FVec Ideal S4x2304x1024 .bf16)
    (e0 : V0 (Proc.devRef .tc main_arg0) = x0) (e1 : V0 (Proc.devRef .tc main_arg1) = x1) (e2 : V0 (Proc.devRef .tc main_arg2) = x2) :
    val_main_v11 (F := Ideal) (V0 (Proc.devRef .tc main_arg0)) (V0 (Proc.devRef .tc main_arg1)) (V0 (Proc.devRef .tc main_arg2))
      = fun (i : S4x2048x1536.Idx) => gradW (at2 x0) (join 2048 (side x1 1024) (side x2 1024)) 2304 (i 1).val (1536 * (i 0).val + (i 2).val) := by
  rw [e0, e1, e2]
  exact host x0 x1 x2

end

theorem frame : Cert.quiescent_EvInDwRefIdeal := fun m g _ =>
  (θ_run (EvInDwRefIdeal.defs (F := Ideal)) _ _).mono
    (fun r h => ⟨fun c => (h c).2, Idealize.ShloMosaic.sem_eq_zero_of_no_sems (by decide) r.2⟩)
    (EvInDwRefIdeal.Value.run (F := Ideal) m g)

theorem value : Cert.algebraic_EvInDwIdeal_EvInDwRefIdeal := by
  intro m g m' g' _ hag
  refine ⟨EvInDwIdeal.At.G m,
    (θ_run EvInDwIdeal.defs _ _).mono (fun r h c => ?_) (EvInDwIdeal.Value.run_blocks (F := Ideal) m g),
    (θ_run EvInDwRefIdeal.defs _ _).mono (fun r h c => ?_) (EvInDwRefIdeal.Value.run (F := Ideal) m' g')⟩
  · exact ⟨(h c).1.trans (EvInDwIdeal.At.final m c), (h c).2⟩
  · exact ⟨((h c).1.trans (EvInDwRefIdeal.Read.val_main_v11_eq _ _ _).symm).trans
      (host_of (StableHlo.launchContents m' c) _ _ _ (hag c).1 (hag c).2.1 (hag c).2.2), (h c).2⟩

end Cert.Proof.EvInDw

end
-- ==== Proof.EvOutDx.lean ====
/-  The gradient of the even layer's mixed features: the kernel's running sum over the column blocks beside the reference's one product. -/
module

public import proofs.«01_k».proof.Defs
public import proofs.«01_k».proof.Proof.Products
public import proofs.«01_k».proof.Proof.Gen.EvOutDxIdeal.Value
public import proofs.«01_k».proof.Proof.Gen.EvOutDxRefIdeal.Run
public import proofs.«01_k».proof.Proof.Gen.EvOutDxRefIdeal.Read
public import Idealize.ShloMosaic.Lib.Claim
public import Idealize.ShloMosaic.Lib.Quiescent

@[expose] public section

noncomputable section

namespace Cert.EvOutDxIdeal.At

open Cert.EvOutDxIdeal Cert.EvOutDxIdeal.Gen Cert.Mix Cert.Products Idealize.ShloMosaic Idealize.ShloMosaic.TcCoe Idealize.SL.Sem

variable (m : (ℓ : Loc nD τ sig) → Buf (Elt Ideal) ℓ) (c : Dev nD)

/-- The cotangent's sections and the weights' parts, each laid side by side. -/
abbrev Dz : ℕ → ℕ → EReal := side (a := 1) (b := 2304) (c := 2048) (m ((c : Thread nD τ).loc main_arg0)) 2048
abbrev W : ℕ → ℕ → EReal := side (a := 1) (b := 2048) (c := 2048) (m ((c : Thread nD τ).loc main_arg1)) 2048

theorem pay_is {o : Vec Ideal S1152x2048 .f32} {x : Vec Ideal S1x1152x512 .bf16} {w : Vec Ideal S1x2048x512 .bf16} {a f g : ℕ → ℕ → EReal}
    (ho : Is o a) (hx : Is1 x f) (hw : Is1 w g) : Is (k0_pay2 (F := Ideal) o x w) fun r k => a r k + ∑ q : Fin 512, f r q.val * g k q.val := fun j => by
  unfold k0_pay2
  rw [ValueIdx.addf_apply, shapeCast_self, ho j]
  exact congrArg (a _ _ + ·) (nt_is _ rfl (drop_is (φ := .bf16) hx _) (drop_is (φ := .bf16) hw _) j)

/-- The input blocks at point `t`: rows `1152 (t / 4)` on, columns `512 (t % 4)` on. -/
theorem blk0 (t : Fin cfg0.N) : Is1 (iblk m c 0 t) fun r q => Dz m c (1152 * (t.val / 4) + r) (512 * (t.val % 4) + q) := fun j => by
  have hi : win0_0.index t 0 = t.val % 4 / 4 ∧ win0_0.index t 1 = t.val / 4 ∧ win0_0.index t 2 = t.val % 4 % 4 :=
    (by decide +kernel : ∀ t : Fin grid0.N, win0_0.index t 0 = t.val % 4 / 4 ∧ win0_0.index t 1 = t.val / 4 ∧ win0_0.index t 2 = t.val % 4 % 4) t
  have h0 : (j 0).val < 1 := (j 0).isLt
  have h2 : (j 2).val < 512 := (j 2).isLt
  unfold iblk
  rw [View.read_apply]
  exact read3 _ _ (by show win0_0.index t 0 * 1 + 1 * (j 0).val = _; omega) (by show win0_0.index t 1 * 1152 + 1 * (j 1).val = _; omega)
    (by show win0_0.index t 2 * 512 + 1 * (j 2).val = _; omega)

theorem blk2 (t : Fin cfg0.N) : Is1 (iblk m c 2 t) fun k q => W m c k (512 * (t.val % 4) + q) := fun j => by
  have hi : win0_2.index t 0 = t.val % 4 / 4 ∧ win0_2.index t 1 = 0 ∧ win0_2.index t 2 = t.val % 4 % 4 :=
    (by decide +kernel : ∀ t : Fin grid0.N, win0_2.index t 0 = t.val % 4 / 4 ∧ win0_2.index t 1 = 0 ∧ win0_2.index t 2 = t.val % 4 % 4) t
  have h0 : (j 0).val < 1 := (j 0).isLt
  have h2 : (j 2).val < 512 := (j 2).isLt
  unfold iblk
  rw [View.read_apply]
  exact read3 _ _ (by show win0_2.index t 0 * 1 + 1 * (j 0).val = _; omega) (by show win0_2.index t 1 * 2048 + 1 * (j 1).val = _; omega)
    (by show win0_2.index t 2 * 512 + 1 * (j 2).val = _; omega)

section
variable (i : grid0.Coords) (a2 : Memref sig .tc .vmem S1x1152x512 .bf16) (h2 : a2.IsWhole) (a3 : Memref sig .tc .vmem S1x1152x512 .bf16) (h3 : a3.IsWhole)
  (a4 : Memref sig .tc .vmem S1x2048x512 .bf16) (h4 : a4.IsWhole) (a5 : Memref sig .tc .vmem S1152x2048 .f32) (h5 : a5.IsWhole)

theorem outA (hc0 : cond0_0 i) (hc1 : cond0_1 i) (hc2 : ¬cond0_2 i) (x0 x1 : Vec Ideal S1x1152x512 .bf16) (x2 : Vec Ideal S1x2048x512 .bf16) :
    out0_A_3 c i a2 h2 a3 h3 a4 h4 a5 h5 hc0 hc1 hc2 x0 x1 x2 = k0_pay2 k0_pay1 x0 x2 := by
  unfold out0_A_3
  rw [View.read_writes_eq_canon _ _ _ (cover0_A_3 c i a2 h2 a3 h3 a4 h4 a5 h5 hc0 hc1 hc2 x0 x1 x2)]
  unfold kernelRun0_A
  dsimp only
  sl_unfold_words
  rw [View.canon_cons_unit_zero (S := S1152x2048) hz2, View.readCov_unit_zero (S := S1152x2048) _ hz2]
  simp only [View.readAt_eq_ld, h2.read_unread, h4.read_unread, View.ld_unit_zero (S := S1x1152x512) hz3, View.ld_unit_zero (S := S1x2048x512) hz3]

theorem outB (hc0 : ¬cond0_0 i) (hc1 : cond0_1 i) (hc2 : ¬cond0_2 i) (x0 x1 : Vec Ideal S1x1152x512 .bf16) (x2 : Vec Ideal S1x2048x512 .bf16) (xo : Vec Ideal S1152x2048 .f32) :
    out0_B_3 c i a2 h2 a3 h3 a4 h4 a5 h5 hc0 hc1 hc2 x0 x1 x2 xo = k0_pay2 xo x0 x2 := by
  unfold out0_B_3
  rw [View.read_writes_eq_canon _ _ _ (cover0_B_3 c i a2 h2 a3 h3 a4 h4 a5 h5 hc0 hc1 hc2 x0 x1 x2 xo)]
  unfold kernelRun0_B
  dsimp only
  rw [View.canon_unit_zero (S := S1152x2048) hz2]
  simp only [View.readAt_eq_ld, h2.read_unread, h4.read_unread, h5.read_unread, View.ld_unit_zero (S := S1152x2048) hz2, View.ld_unit_zero (S := S1x1152x512) hz3, View.ld_unit_zero (S := S1x2048x512) hz3]
end

theorem zero_is : Is (k0_pay1 (F := Ideal)) fun _ _ => 0 := fun j => Ideal.ofBits_zero_f32

/-- What the buffer holds after point `n`: the products of the column blocks so far, added in order. -/
theorem sum_is : ∀ (n : ℕ) (hn : n < cfg0.N), Is (outsAt0 m c n hn) fun r k =>
    ∑ s ∈ Finset.range (n % 4 + 1), ∑ q : Fin 512, Dz m c (1152 * (n / 4) + r) (512 * s + q.val) * W m c k (512 * s + q.val)
  | 0, hn => fun j => by
    rw [outsAt0_A m c ⟨0, hn⟩ rfl, outA]
    refine (pay_is zero_is (blk0 m c ⟨0, hn⟩) (blk2 m c ⟨0, hn⟩) j).trans ?_
    simp
  | n + 1, hn => fun j => by
    by_cases h : (n + 1) % 4 = 0
    · rw [outsAt0_A m c ⟨n + 1, hn⟩ h, outA]
      refine (pay_is zero_is (blk0 m c ⟨n + 1, hn⟩) (blk2 m c ⟨n + 1, hn⟩) j).trans ?_
      dsimp only
      rw [h, Finset.sum_range_one, zero_add]
    · rw [outsAt0_B m c ⟨n + 1, hn⟩ h, outB]
      refine (pay_is (sum_is n (Nat.lt_of_succ_lt hn)) (blk0 m c ⟨n + 1, hn⟩) (blk2 m c ⟨n + 1, hn⟩) j).trans ?_
      dsimp only
      rw [show n % 4 + 1 = (n + 1) % 4 by omega, show n / 4 = (n + 1) / 4 by omega, ← Finset.sum_range_succ]

/-- The kernel's array. -/
def G : Buf (Elt Ideal) ((c : Thread nD τ).loc main_v0) := fun (i : S2304x2048.Idx) => gradH (Dz m c) (W m c) 2048 (i 0).val (i 1).val

theorem G_at (i : S2304x2048.Idx) {r k : ℕ} (h0 : (i 0).val = r) (h1 : (i 1).val = k) : G m c i = gradH (Dz m c) (W m c) 2048 r k := by
  subst h0 h1
  rfl

theorem flushed_eq (t : Fin cfg0.N) (hf : (cfg0.win 3).flush t = true) : (dats m 0 c).flushed 3 t = ((cfg0.win 3).blk t).view.read (Elt Ideal) (G m c) := by
  have h3 : t.val % 4 = 3 := (flush0_3 t).mp hf
  have hi : win0_3.index t 0 = t.val / 4 ∧ win0_3.index t 1 = 0 :=
    (by decide +kernel : ∀ t : Fin grid0.N, win0_3.index t 0 = t.val / 4 ∧ win0_3.index t 1 = 0) t
  rw [Value.flushed3]
  funext j
  show outsAt0 m c t.val t.isLt j = _
  refine (sum_is m c t.val t.isLt j).trans ?_
  rw [View.read_apply, h3]
  refine (runs_gradH (N := 2048) (Dz m c) (W m c) 512 4 rfl (1152 * (t.val / 4) + (j 0).val) (j 1).val).trans ?_
  refine Eq.trans ?_ (cast_eq _ _).symm
  exact (G_at m c _ (by show win0_3.index t 0 * 1152 + 1 * (j 0).val = 1152 * (t.val / 4) + (j 0).val; omega)
    (by show win0_3.index t 1 * 2048 + 1 * (j 1).val = (j 1).val; omega)).symm

theorem final : (dats m 0 c).arrAt 3 cfg0.N = G m c :=
  (dats m 0 c).arrAt_eq_of_cover 3 (G m c) (flushed_eq m c) fun i => by
    have h0 : (i 0).val < 2304 := (i 0).isLt
    have h1 : (i 1).val < 2048 := (i 1).isLt
    have hN : cfg0.N = 8 := by decide +kernel
    let t : Fin cfg0.N := ⟨4 * ((i 0).val / 1152) + 3, by omega⟩
    have ht : t.val = 4 * ((i 0).val / 1152) + 3 := rfl
    have hi : win0_3.index t 0 = t.val / 4 ∧ win0_3.index t 1 = 0 :=
      (by decide +kernel : ∀ t : Fin grid0.N, win0_3.index t 0 = t.val / 4 ∧ win0_3.index t 1 = 0) t
    refine ⟨t, (flush0_3 t).mpr (by omega), ?_⟩
    show i ∈ ((View.whole main_v0).slice (win0_3.rect t)).set
    rw [View.set_slice_whole, Rect.mem_set_unit]
    intro a
    match a with
    | ⟨0, _⟩ => show win0_3.index t 0 * 1152 ≤ (i 0).val ∧ (i 0).val < win0_3.index t 0 * 1152 + 1152; omega
    | ⟨1, _⟩ => show win0_3.index t 1 * 2048 ≤ (i 1).val ∧ (i 1).val < win0_3.index t 1 * 2048 + 2048; omega

end Cert.EvOutDxIdeal.At

namespace Cert.Proof.EvOutDx

open Idealize.ShloMosaic Idealize.SL.Sem Cert.Mix Cert.Products

section
open Cert.EvOutDxRefIdeal Cert.EvOutDxRefIdeal.Read

/-- The reference's array. -/
theorem host (x0 : FVec Ideal S1x2304x2048 .bf16) (x1 : FVec Ideal S1x2048x2048 .bf16) :
    val_main_v6 (F := Ideal) x0 x1 = fun (i : S2304x2048.Idx) => gradH (side x0 2048) (side x1 2048) 2048 (i 0).val (i 1).val := by
  funext i
  have h0 : (i 0).val < 2304 := (i 0).isLt
  have h1 : (i 1).val < 2048 := (i 1).isLt
  rw [val_main_v6_apply]
  unfold gradH
  rw [Finset.sum_range]
  refine Finset.sum_congr rfl fun k _ => ?_
  have hk := k.isLt
  refine congrArg₂ (· * ·) ?_ ?_
  · show val_main_v0 (F := Ideal) x0 _ = _
    rw [val_main_v0_apply]
    exact read3 _ _ (by show 0 = k.val / 2048; omega) (by show ((i 0).val * 2048 + k.val) / 2048 % 2304 = _; omega)
      (by show ((i 0).val * 2048 + k.val) % 2048 = _; omega)
  · show val_main_v1 (F := Ideal) x1 _ = _
    rw [val_main_v1_apply]
    exact read3 _ _ (by show 0 = k.val / 2048; omega) (by show ((i 1).val * 2048 + k.val) / 2048 % 2048 = _; omega)
      (by show ((i 1).val * 2048 + k.val) % 2048 = _; omega)

theorem host_of (V0 : Valuation τ sig (Elt Ideal)) (x0 : FVec Ideal S1x2304x2048 .bf16) (x1 : FVec Ideal S1x2048x2048 .bf16)
    (e0 : V0 (Proc.devRef .tc main_arg0) = x0) (e1 : V0 (Proc.devRef .tc main_arg1) = x1) :
    val_main_v6 (F := Ideal) (V0 (Proc.devRef .tc main_arg0)) (V0 (Proc.devRef .tc main_arg1))
      = fun (i : S2304x2048.Idx) => gradH (side x0 2048) (side x1 2048) 2048 (i 0).val (i 1).val := by
  rw [e0, e1]
  exact host x0 x1

end

theorem frame : Cert.quiescent_EvOutDxRefIdeal := fun m g _ =>
  (θ_run (EvOutDxRefIdeal.defs (F := Ideal)) _ _).mono
    (fun r h => ⟨fun c => (h c).2, Idealize.ShloMosaic.sem_eq_zero_of_no_sems (by decide) r.2⟩)
    (EvOutDxRefIdeal.Value.run (F := Ideal) m g)

theorem value : Cert.algebraic_EvOutDxIdeal_EvOutDxRefIdeal := by
  intro m g m' g' _ hag
  refine ⟨EvOutDxIdeal.At.G m,
    (θ_run EvOutDxIdeal.defs _ _).mono (fun r h c => ?_) (EvOutDxIdeal.Value.run_blocks (F := Ideal) m g),
    (θ_run EvOutDxRefIdeal.defs _ _).mono (fun r h c => ?_) (EvOutDxRefIdeal.Value.run (F := Ideal) m' g')⟩
  · exact ⟨(h c).1.trans (EvOutDxIdeal.At.final m c), (h c).2⟩
  · exact ⟨((h c).1.trans (EvOutDxRefIdeal.Read.val_main_v6_eq _ _).symm).trans
      (host_of (StableHlo.launchContents m' c) _ _ (hag c).1 (hag c).2), (h c).2⟩

end Cert.Proof.EvOutDx

end
-- ==== Proof.EvOutDw.lean ====
/-  The gradient of the even layer's output weights: the kernel's blocks beside the reference's one product. -/
module

public import proofs.«01_k».proof.Defs
public import proofs.«01_k».proof.Proof.Products
public import proofs.«01_k».proof.Proof.Gen.EvOutDwIdeal.Value
public import proofs.«01_k».proof.Proof.Gen.EvOutDwRefIdeal.Run
public import proofs.«01_k».proof.Proof.Gen.EvOutDwRefIdeal.Read
public import Idealize.ShloMosaic.Lib.Claim
public import Idealize.ShloMosaic.Lib.Quiescent

@[expose] public section

noncomputable section

namespace Cert.EvOutDwIdeal.At

open Cert.EvOutDwIdeal Cert.EvOutDwIdeal.Gen Cert.Mix Cert.Products Idealize.ShloMosaic Idealize.ShloMosaic.TcCoe Idealize.SL.Sem

variable (m : (ℓ : Loc nD τ sig) → Buf (Elt Ideal) ℓ) (c : Dev nD)

/-- The product's input, and the cotangent's one section. -/
abbrev H : ℕ → ℕ → EReal := at2 (a := 2304) (b := 2048) (m ((c : Thread nD τ).loc main_arg0))
abbrev Dz : ℕ → ℕ → EReal := side (a := 1) (b := 2304) (c := 2048) (m ((c : Thread nD τ).loc main_arg1)) 2048

/-- The stored pieces, eight of 256 rows each. -/
theorem pay_is {v : Vec Ideal S2304x256 .bf16} {x : Vec Ideal S1x2304x512 .bf16} {h f : ℕ → ℕ → EReal} (hv : Is v h) (hx : Is1 x f) :
    Is1 (k0_pay10 (F := Ideal) x v) fun k q => ∑ r : Fin 2304, h r.val k * f r.val q := by
  unfold k0_pay10 k0_pay9
  exact add_is (φ := .bf16) (fun j => tn_is (φ₁ := .bf16) (φ₂ := .bf16) _ rfl hv (drop_is (φ := .bf16) hx _) j) _

/-- The piece of rows `o` on. -/
theorem piece {x0 : Vec Ideal S2304x2048 .bf16} {x : Vec Ideal S1x2304x512 .bf16} {h f : ℕ → ℕ → EReal} (hx0 : Is x0 h) (hx : Is1 x f) (o : ℕ) (inb)
    (j : S1x256x512.Idx) :
    k0_pay10 (F := Ideal) x (View.ld x0 (Rect.unit (s := S2304x2048) ![0, o] S2304x256.size inb)) j
      = ∑ r : Fin 2304, h r.val (o + 1 * (j 1).val) * f r.val (0 + 1 * (j 2).val) := by
  refine (pay_is (h := fun r k => h (0 + r) (o + k)) (fun j => ld_is (e := .bf16) hx0 inb j) hx j).trans ?_
  simp only [Nat.zero_add, Nat.one_mul]

theorem blk0 (t : Fin cfg0.N) : Is (iblk m c 0 t) (H m c) := fun j => by
  have hi : win0_0.index t 0 = 0 ∧ win0_0.index t 1 = 0 := (by decide +kernel : ∀ t : Fin grid0.N, win0_0.index t 0 = 0 ∧ win0_0.index t 1 = 0) t
  unfold iblk
  rw [View.read_apply]
  exact read2 _ _ (by show win0_0.index t 0 * 2304 + 1 * (j 0).val = _; omega) (by show win0_0.index t 1 * 2048 + 1 * (j 1).val = _; omega)

theorem blk1 (t : Fin cfg0.N) : Is1 (iblk m c 1 t) fun r q => Dz m c r (512 * t.val + q) := fun j => by
  have hi : win0_1.index t 0 = t.val / 4 ∧ win0_1.index t 1 = 0 ∧ win0_1.index t 2 = t.val % 4 :=
    (by decide +kernel : ∀ t : Fin grid0.N, win0_1.index t 0 = t.val / 4 ∧ win0_1.index t 1 = 0 ∧ win0_1.index t 2 = t.val % 4) t
  have h0 : (j 0).val < 1 := (j 0).isLt
  have h2 : (j 2).val < 512 := (j 2).isLt
  unfold iblk
  rw [View.read_apply]
  exact read3 _ _ (by show win0_1.index t 0 * 1 + 1 * (j 0).val = _; omega) (by show win0_1.index t 1 * 2304 + 1 * (j 1).val = _; omega)
    (by show win0_1.index t 2 * 512 + 1 * (j 2).val = _; omega)

section
variable (i : grid0.Coords) (a1 : Memref sig .tc .vmem S2304x2048 .bf16) (h1 : a1.IsWhole) (a2 : Memref sig .tc .vmem S1x2304x512 .bf16) (h2 : a2.IsWhole)
  (a3 : Memref sig .tc .vmem S1x2304x512 .bf16) (h3 : a3.IsWhole) (a4 : Memref sig .tc .vmem S1x2048x512 .bf16) (h4 : a4.IsWhole)

theorem outA (hc0 : cond0_0 i) (hc1 : ¬cond0_1 i) {x0 : Vec Ideal S2304x2048 .bf16} {x1 : Vec Ideal S1x2304x512 .bf16} (x2 : Vec Ideal S1x2304x512 .bf16)
    {h f : ℕ → ℕ → EReal} (hx0 : Is x0 h) (hx1 : Is1 x1 f) :
    Is1 (out0_A_3 c i a1 h1 a2 h2 a3 h3 a4 h4 hc0 hc1 x0 x1 x2) fun k q => ∑ r : Fin 2304, h r.val k * f r.val q := fun y => by
  unfold out0_A_3
  rw [View.read_writes_eq_canon _ _ _ (cover0_A_3 c i a1 h1 a2 h2 a3 h3 a4 h4 hc0 hc1 x0 x1 x2)]
  refine View.canon_apply_of_pieces (Val := Elt Ideal) (e := .bf16) (fun y : S1x2048x512.Idx => ∑ r : Fin 2304, h r.val (y 1).val * f r.val (y 2).val) _ ?_ y
    (cover0_A_3 c i a1 h1 a2 h2 a3 h3 a4 h4 hc0 hc1 x0 x1 x2 y)
  unfold kernelRun0_A
  dsimp only
  sl_unfold_words
  simp only [View.readAt_eq_ld, h1.read_unread, h2.read_unread, View.ld_unit_zero (S := S1x2304x512) hz3]
  intro pc hpc x
  rcases List.mem_cons.mp hpc with rfl | hpc
  · exact piece hx0 hx1 1792 _ x
  rcases List.mem_cons.mp hpc with rfl | hpc
  · exact piece hx0 hx1 1536 _ x
  rcases List.mem_cons.mp hpc with rfl | hpc
  · exact piece hx0 hx1 1280 _ x
  rcases List.mem_cons.mp hpc with rfl | hpc
  · exact piece hx0 hx1 1024 _ x
  rcases List.mem_cons.mp hpc with rfl | hpc
  · exact piece hx0 hx1 768 _ x
  rcases List.mem_cons.mp hpc with rfl | hpc
  · exact piece hx0 hx1 512 _ x
  rcases List.mem_cons.mp hpc with rfl | hpc
  · exact piece hx0 hx1 256 _ x
  rcases List.mem_cons.mp hpc with rfl | hpc
  · exact piece hx0 hx1 0 _ x
  nomatch hpc
end

/-- The kernel's array. -/
def G : Buf (Elt Ideal) ((c : Thread nD τ).loc main_v0) := fun (i : S1x2048x2048.Idx) => gradW (H m c) (Dz m c) 2304 (i 1).val (2048 * (i 0).val + (i 2).val)

theorem G_at (i : S1x2048x2048.Idx) {k q : ℕ} (h1 : (i 1).val = k) (h2 : 2048 * (i 0).val + (i 2).val = q) : G m c i = gradW (H m c) (Dz m c) 2304 k q := by
  subst h1 h2
  rfl

/-- Where the output's block stands. -/
theorem idx3 (t : Fin cfg0.N) : win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4) t

theorem flushed_eq (t : Fin cfg0.N) (hf : (cfg0.win 3).flush t = true) : (dats m 0 c).flushed 3 t = ((cfg0.win 3).blk t).view.read (Elt Ideal) (G m c) := by
  have hi := idx3 t
  rw [Value.flushed3_A]
  funext j
  have h0 : (j 0).val < 1 := (j 0).isLt
  refine (outA c (grid0.coords t) (ms0_0 t) (hs0_0 t) (ms0_1 t) (hs0_1 t) (ms0_2 t) (hs0_2 t) (ms0_3 t) (hs0_3 t) (hcond0_0 t) (hcond0_1 t) (iblk m c 2 t)
    (blk0 m c t) (blk1 m c t) j).trans ?_
  rw [View.read_apply]
  refine Eq.trans ?_ (cast_eq _ _).symm
  refine Eq.trans ?_ (G_at m c _ (k := (j 1).val) (q := 512 * t.val + (j 2).val) (by show win0_3.index t 1 * 2048 + 1 * (j 1).val = (j 1).val; omega)
    (by show 2048 * (win0_3.index t 0 * 1 + 1 * (j 0).val) + (win0_3.index t 2 * 512 + 1 * (j 2).val) = _; omega)).symm
  exact (Finset.sum_range fun r => H m c r (j 1).val * Dz m c r (512 * t.val + (j 2).val)).symm

theorem final : (dats m 0 c).arrAt 3 cfg0.N = G m c :=
  (dats m 0 c).arrAt_eq_of_cover 3 (G m c) (flushed_eq m c) fun i => by
    have h0 : (i 0).val < 1 := (i 0).isLt
    have h1 : (i 1).val < 2048 := (i 1).isLt
    have h2 : (i 2).val < 2048 := (i 2).isLt
    have hN : cfg0.N = 4 := by decide +kernel
    let t : Fin cfg0.N := ⟨4 * (i 0).val + (i 2).val / 512, by omega⟩
    have ht : t.val = 4 * (i 0).val + (i 2).val / 512 := rfl
    have hi := idx3 t
    refine ⟨t, flush0_3 t, ?_⟩
    show i ∈ ((View.whole main_v0).slice (win0_3.rect t)).set
    rw [View.set_slice_whole, Rect.mem_set_unit]
    intro a
    match a with
    | ⟨0, _⟩ => show win0_3.index t 0 * 1 ≤ (i 0).val ∧ (i 0).val < win0_3.index t 0 * 1 + 1; omega
    | ⟨1, _⟩ => show win0_3.index t 1 * 2048 ≤ (i 1).val ∧ (i 1).val < win0_3.index t 1 * 2048 + 2048; omega
    | ⟨2, _⟩ => show win0_3.index t 2 * 512 ≤ (i 2).val ∧ (i 2).val < win0_3.index t 2 * 512 + 512; omega

end Cert.EvOutDwIdeal.At

namespace Cert.Proof.EvOutDw

open Idealize.ShloMosaic Idealize.SL.Sem Cert.Mix Cert.Products

section
open Cert.EvOutDwRefIdeal Cert.EvOutDwRefIdeal.Read

/-- The reference's array. -/
theorem host (x0 : FVec Ideal S2304x2048 .bf16) (x1 : FVec Ideal S1x2304x2048 .bf16) :
    val_main_v8 (F := Ideal) x0 x1 = fun (i : S1x2048x2048.Idx) => gradW (at2 x0) (side x1 2048) 2304 (i 1).val (2048 * (i 0).val + (i 2).val) := by
  funext i
  have h0 : (i 0).val < 1 := (i 0).isLt
  have h1 : (i 1).val < 2048 := (i 1).isLt
  have h2 : (i 2).val < 2048 := (i 2).isLt
  show val_main_v7 (F := Ideal) x0 x1 i = _
  rw [val_main_v7_apply, val_main_v6_apply, val_main_v5_apply]
  unfold gradW
  rw [Finset.sum_range]
  refine Finset.sum_congr rfl fun k _ => ?_
  have hk := k.isLt
  refine (mul_comm _ _).trans (congrArg₂ (· * ·) ?_ ?_)
  · show x0 _ = _
    exact read2 _ _ rfl (by show (i 1).val = _; rfl)
  · show val_main_v0 (F := Ideal) x1 _ = _
    rw [val_main_v0_apply]
    exact read3 _ _ (by show 0 = (2048 * (i 0).val + (i 2).val) / 2048; omega) (by show (k.val * 2048 + (i 2).val) / 2048 % 2304 = k.val; omega)
      (by show (k.val * 2048 + (i 2).val) % 2048 = (2048 * (i 0).val + (i 2).val) % 2048; omega)

theorem host_of (V0 : Valuation τ sig (Elt Ideal)) (x0 : FVec Ideal S2304x2048 .bf16) (x1 : FVec Ideal S1x2304x2048 .bf16)
    (e0 : V0 (Proc.devRef .tc main_arg0) = x0) (e1 : V0 (Proc.devRef .tc main_arg1) = x1) :
    val_main_v8 (F := Ideal) (V0 (Proc.devRef .tc main_arg0)) (V0 (Proc.devRef .tc main_arg1))
      = fun (i : S1x2048x2048.Idx) => gradW (at2 x0) (side x1 2048) 2304 (i 1).val (2048 * (i 0).val + (i 2).val) := by
  rw [e0, e1]
  exact host x0 x1

end

theorem frame : Cert.quiescent_EvOutDwRefIdeal := fun m g _ =>
  (θ_run (EvOutDwRefIdeal.defs (F := Ideal)) _ _).mono
    (fun r h => ⟨fun c => (h c).2, Idealize.ShloMosaic.sem_eq_zero_of_no_sems (by decide) r.2⟩)
    (EvOutDwRefIdeal.Value.run (F := Ideal) m g)

theorem value : Cert.algebraic_EvOutDwIdeal_EvOutDwRefIdeal := by
  intro m g m' g' _ hag
  refine ⟨EvOutDwIdeal.At.G m,
    (θ_run EvOutDwIdeal.defs _ _).mono (fun r h c => ?_) (EvOutDwIdeal.Value.run_blocks (F := Ideal) m g),
    (θ_run EvOutDwRefIdeal.defs _ _).mono (fun r h c => ?_) (EvOutDwRefIdeal.Value.run (F := Ideal) m' g')⟩
  · exact ⟨(h c).1.trans (EvOutDwIdeal.At.final m c), (h c).2⟩
  · exact ⟨((h c).1.trans (EvOutDwRefIdeal.Read.val_main_v8_eq _ _).symm).trans
      (host_of (StableHlo.launchContents m' c) _ _ (hag c).1 (hag c).2), (h c).2⟩

end Cert.Proof.EvOutDw

end
-- ==== Proof.OdOutDx.lean ====
/-  The gradient of the odd layer's attended features: the kernel's running sum over the column blocks beside the reference's one product. -/
module

public import proofs.«01_k».proof.Defs
public import proofs.«01_k».proof.Proof.Products
public import proofs.«01_k».proof.Proof.Gen.OdOutDxIdeal.Value
public import proofs.«01_k».proof.Proof.Gen.OdOutDxRefIdeal.Run
public import proofs.«01_k».proof.Proof.Gen.OdOutDxRefIdeal.Read
public import Idealize.ShloMosaic.Lib.Claim
public import Idealize.ShloMosaic.Lib.Quiescent

@[expose] public section

noncomputable section

namespace Cert.OdOutDxIdeal.At

open Cert.OdOutDxIdeal Cert.OdOutDxIdeal.Gen Cert.Mix Cert.Products Idealize.ShloMosaic Idealize.ShloMosaic.TcCoe Idealize.SL.Sem

variable (m : (ℓ : Loc nD τ sig) → Buf (Elt Ideal) ℓ) (c : Dev nD)

/-- The cotangent's sections and the weights' parts, each laid side by side. -/
abbrev Dz : ℕ → ℕ → EReal := side (a := 1) (b := 2048) (c := 2048) (m ((c : Thread nD τ).loc main_arg0)) 2048
abbrev W : ℕ → ℕ → EReal := side (a := 1) (b := 2048) (c := 2048) (m ((c : Thread nD τ).loc main_arg1)) 2048

theorem pay_is {o : Vec Ideal S1024x2048 .f32} {x : Vec Ideal S1x1024x512 .bf16} {w : Vec Ideal S1x2048x512 .bf16} {a f g : ℕ → ℕ → EReal}
    (ho : Is o a) (hx : Is1 x f) (hw : Is1 w g) : Is (k0_pay2 (F := Ideal) o x w) fun r k => a r k + ∑ q : Fin 512, f r q.val * g k q.val := fun j => by
  unfold k0_pay2
  rw [ValueIdx.addf_apply, shapeCast_self, ho j]
  exact congrArg (a _ _ + ·) (nt_is _ rfl (drop_is (φ := .bf16) hx _) (drop_is (φ := .bf16) hw _) j)

/-- The input blocks at point `t`: rows `1024 (t / 4)` on, columns `512 (t % 4)` on. -/
theorem blk0 (t : Fin cfg0.N) : Is1 (iblk m c 0 t) fun r q => Dz m c (1024 * (t.val / 4) + r) (512 * (t.val % 4) + q) := fun j => by
  have hi : win0_0.index t 0 = t.val % 4 / 4 ∧ win0_0.index t 1 = t.val / 4 ∧ win0_0.index t 2 = t.val % 4 % 4 :=
    (by decide +kernel : ∀ t : Fin grid0.N, win0_0.index t 0 = t.val % 4 / 4 ∧ win0_0.index t 1 = t.val / 4 ∧ win0_0.index t 2 = t.val % 4 % 4) t
  have h0 : (j 0).val < 1 := (j 0).isLt
  have h2 : (j 2).val < 512 := (j 2).isLt
  unfold iblk
  rw [View.read_apply]
  exact read3 _ _ (by show win0_0.index t 0 * 1 + 1 * (j 0).val = _; omega) (by show win0_0.index t 1 * 1024 + 1 * (j 1).val = _; omega)
    (by show win0_0.index t 2 * 512 + 1 * (j 2).val = _; omega)

theorem blk2 (t : Fin cfg0.N) : Is1 (iblk m c 2 t) fun k q => W m c k (512 * (t.val % 4) + q) := fun j => by
  have hi : win0_2.index t 0 = t.val % 4 / 4 ∧ win0_2.index t 1 = 0 ∧ win0_2.index t 2 = t.val % 4 % 4 :=
    (by decide +kernel : ∀ t : Fin grid0.N, win0_2.index t 0 = t.val % 4 / 4 ∧ win0_2.index t 1 = 0 ∧ win0_2.index t 2 = t.val % 4 % 4) t
  have h0 : (j 0).val < 1 := (j 0).isLt
  have h2 : (j 2).val < 512 := (j 2).isLt
  unfold iblk
  rw [View.read_apply]
  exact read3 _ _ (by show win0_2.index t 0 * 1 + 1 * (j 0).val = _; omega) (by show win0_2.index t 1 * 2048 + 1 * (j 1).val = _; omega)
    (by show win0_2.index t 2 * 512 + 1 * (j 2).val = _; omega)

section
variable (i : grid0.Coords) (a2 : Memref sig .tc .vmem S1x1024x512 .bf16) (h2 : a2.IsWhole) (a3 : Memref sig .tc .vmem S1x1024x512 .bf16) (h3 : a3.IsWhole)
  (a4 : Memref sig .tc .vmem S1x2048x512 .bf16) (h4 : a4.IsWhole) (a5 : Memref sig .tc .vmem S1024x2048 .f32) (h5 : a5.IsWhole)

theorem outA (hc0 : cond0_0 i) (hc1 : cond0_1 i) (hc2 : ¬cond0_2 i) (x0 x1 : Vec Ideal S1x1024x512 .bf16) (x2 : Vec Ideal S1x2048x512 .bf16) :
    out0_A_3 c i a2 h2 a3 h3 a4 h4 a5 h5 hc0 hc1 hc2 x0 x1 x2 = k0_pay2 k0_pay1 x0 x2 := by
  unfold out0_A_3
  rw [View.read_writes_eq_canon _ _ _ (cover0_A_3 c i a2 h2 a3 h3 a4 h4 a5 h5 hc0 hc1 hc2 x0 x1 x2)]
  unfold kernelRun0_A
  dsimp only
  sl_unfold_words
  rw [View.canon_cons_unit_zero (S := S1024x2048) hz2, View.readCov_unit_zero (S := S1024x2048) _ hz2]
  simp only [View.readAt_eq_ld, h2.read_unread, h4.read_unread, View.ld_unit_zero (S := S1x1024x512) hz3, View.ld_unit_zero (S := S1x2048x512) hz3]

theorem outB (hc0 : ¬cond0_0 i) (hc1 : cond0_1 i) (hc2 : ¬cond0_2 i) (x0 x1 : Vec Ideal S1x1024x512 .bf16) (x2 : Vec Ideal S1x2048x512 .bf16) (xo : Vec Ideal S1024x2048 .f32) :
    out0_B_3 c i a2 h2 a3 h3 a4 h4 a5 h5 hc0 hc1 hc2 x0 x1 x2 xo = k0_pay2 xo x0 x2 := by
  unfold out0_B_3
  rw [View.read_writes_eq_canon _ _ _ (cover0_B_3 c i a2 h2 a3 h3 a4 h4 a5 h5 hc0 hc1 hc2 x0 x1 x2 xo)]
  unfold kernelRun0_B
  dsimp only
  rw [View.canon_unit_zero (S := S1024x2048) hz2]
  simp only [View.readAt_eq_ld, h2.read_unread, h4.read_unread, h5.read_unread, View.ld_unit_zero (S := S1024x2048) hz2, View.ld_unit_zero (S := S1x1024x512) hz3, View.ld_unit_zero (S := S1x2048x512) hz3]
end

theorem zero_is : Is (k0_pay1 (F := Ideal)) fun _ _ => 0 := fun j => Ideal.ofBits_zero_f32

/-- What the buffer holds after point `n`: the products of the column blocks so far, added in order. -/
theorem sum_is : ∀ (n : ℕ) (hn : n < cfg0.N), Is (outsAt0 m c n hn) fun r k =>
    ∑ s ∈ Finset.range (n % 4 + 1), ∑ q : Fin 512, Dz m c (1024 * (n / 4) + r) (512 * s + q.val) * W m c k (512 * s + q.val)
  | 0, hn => fun j => by
    rw [outsAt0_A m c ⟨0, hn⟩ rfl, outA]
    refine (pay_is zero_is (blk0 m c ⟨0, hn⟩) (blk2 m c ⟨0, hn⟩) j).trans ?_
    simp
  | n + 1, hn => fun j => by
    by_cases h : (n + 1) % 4 = 0
    · rw [outsAt0_A m c ⟨n + 1, hn⟩ h, outA]
      refine (pay_is zero_is (blk0 m c ⟨n + 1, hn⟩) (blk2 m c ⟨n + 1, hn⟩) j).trans ?_
      dsimp only
      rw [h, Finset.sum_range_one, zero_add]
    · rw [outsAt0_B m c ⟨n + 1, hn⟩ h, outB]
      refine (pay_is (sum_is n (Nat.lt_of_succ_lt hn)) (blk0 m c ⟨n + 1, hn⟩) (blk2 m c ⟨n + 1, hn⟩) j).trans ?_
      dsimp only
      rw [show n % 4 + 1 = (n + 1) % 4 by omega, show n / 4 = (n + 1) / 4 by omega, ← Finset.sum_range_succ]

/-- The kernel's array. -/
def G : Buf (Elt Ideal) ((c : Thread nD τ).loc main_v0) := fun (i : S2048x2048.Idx) => gradH (Dz m c) (W m c) 2048 (i 0).val (i 1).val

theorem G_at (i : S2048x2048.Idx) {r k : ℕ} (h0 : (i 0).val = r) (h1 : (i 1).val = k) : G m c i = gradH (Dz m c) (W m c) 2048 r k := by
  subst h0 h1
  rfl

theorem flushed_eq (t : Fin cfg0.N) (hf : (cfg0.win 3).flush t = true) : (dats m 0 c).flushed 3 t = ((cfg0.win 3).blk t).view.read (Elt Ideal) (G m c) := by
  have h3 : t.val % 4 = 3 := (flush0_3 t).mp hf
  have hi : win0_3.index t 0 = t.val / 4 ∧ win0_3.index t 1 = 0 :=
    (by decide +kernel : ∀ t : Fin grid0.N, win0_3.index t 0 = t.val / 4 ∧ win0_3.index t 1 = 0) t
  rw [Value.flushed3]
  funext j
  show outsAt0 m c t.val t.isLt j = _
  refine (sum_is m c t.val t.isLt j).trans ?_
  rw [View.read_apply, h3]
  refine (runs_gradH (N := 2048) (Dz m c) (W m c) 512 4 rfl (1024 * (t.val / 4) + (j 0).val) (j 1).val).trans ?_
  refine Eq.trans ?_ (cast_eq _ _).symm
  exact (G_at m c _ (by show win0_3.index t 0 * 1024 + 1 * (j 0).val = 1024 * (t.val / 4) + (j 0).val; omega)
    (by show win0_3.index t 1 * 2048 + 1 * (j 1).val = (j 1).val; omega)).symm

theorem final : (dats m 0 c).arrAt 3 cfg0.N = G m c :=
  (dats m 0 c).arrAt_eq_of_cover 3 (G m c) (flushed_eq m c) fun i => by
    have h0 : (i 0).val < 2048 := (i 0).isLt
    have h1 : (i 1).val < 2048 := (i 1).isLt
    have hN : cfg0.N = 8 := by decide +kernel
    let t : Fin cfg0.N := ⟨4 * ((i 0).val / 1024) + 3, by omega⟩
    have ht : t.val = 4 * ((i 0).val / 1024) + 3 := rfl
    have hi : win0_3.index t 0 = t.val / 4 ∧ win0_3.index t 1 = 0 :=
      (by decide +kernel : ∀ t : Fin grid0.N, win0_3.index t 0 = t.val / 4 ∧ win0_3.index t 1 = 0) t
    refine ⟨t, (flush0_3 t).mpr (by omega), ?_⟩
    show i ∈ ((View.whole main_v0).slice (win0_3.rect t)).set
    rw [View.set_slice_whole, Rect.mem_set_unit]
    intro a
    match a with
    | ⟨0, _⟩ => show win0_3.index t 0 * 1024 ≤ (i 0).val ∧ (i 0).val < win0_3.index t 0 * 1024 + 1024; omega
    | ⟨1, _⟩ => show win0_3.index t 1 * 2048 ≤ (i 1).val ∧ (i 1).val < win0_3.index t 1 * 2048 + 2048; omega

end Cert.OdOutDxIdeal.At

namespace Cert.Proof.OdOutDx

open Idealize.ShloMosaic Idealize.SL.Sem Cert.Mix Cert.Products

section
open Cert.OdOutDxRefIdeal Cert.OdOutDxRefIdeal.Read

/-- The reference's array. -/
theorem host (x0 : FVec Ideal S1x2048x2048 .bf16) (x1 : FVec Ideal S1x2048x2048 .bf16) :
    val_main_v6 (F := Ideal) x0 x1 = fun (i : S2048x2048.Idx) => gradH (side x0 2048) (side x1 2048) 2048 (i 0).val (i 1).val := by
  funext i
  have h0 : (i 0).val < 2048 := (i 0).isLt
  have h1 : (i 1).val < 2048 := (i 1).isLt
  rw [val_main_v6_apply]
  unfold gradH
  rw [Finset.sum_range]
  refine Finset.sum_congr rfl fun k _ => ?_
  have hk := k.isLt
  refine congrArg₂ (· * ·) ?_ ?_
  · show val_main_v0 (F := Ideal) x0 _ = _
    rw [val_main_v0_apply]
    exact read3 _ _ (by show 0 = k.val / 2048; omega) (by show ((i 0).val * 2048 + k.val) / 2048 % 2048 = _; omega)
      (by show ((i 0).val * 2048 + k.val) % 2048 = _; omega)
  · show val_main_v1 (F := Ideal) x1 _ = _
    rw [val_main_v1_apply]
    exact read3 _ _ (by show 0 = k.val / 2048; omega) (by show ((i 1).val * 2048 + k.val) / 2048 % 2048 = _; omega)
      (by show ((i 1).val * 2048 + k.val) % 2048 = _; omega)

theorem host_of (V0 : Valuation τ sig (Elt Ideal)) (x0 : FVec Ideal S1x2048x2048 .bf16) (x1 : FVec Ideal S1x2048x2048 .bf16)
    (e0 : V0 (Proc.devRef .tc main_arg0) = x0) (e1 : V0 (Proc.devRef .tc main_arg1) = x1) :
    val_main_v6 (F := Ideal) (V0 (Proc.devRef .tc main_arg0)) (V0 (Proc.devRef .tc main_arg1))
      = fun (i : S2048x2048.Idx) => gradH (side x0 2048) (side x1 2048) 2048 (i 0).val (i 1).val := by
  rw [e0, e1]
  exact host x0 x1

end

theorem frame : Cert.quiescent_OdOutDxRefIdeal := fun m g _ =>
  (θ_run (OdOutDxRefIdeal.defs (F := Ideal)) _ _).mono
    (fun r h => ⟨fun c => (h c).2, Idealize.ShloMosaic.sem_eq_zero_of_no_sems (by decide) r.2⟩)
    (OdOutDxRefIdeal.Value.run (F := Ideal) m g)

theorem value : Cert.algebraic_OdOutDxIdeal_OdOutDxRefIdeal := by
  intro m g m' g' _ hag
  refine ⟨OdOutDxIdeal.At.G m,
    (θ_run OdOutDxIdeal.defs _ _).mono (fun r h c => ?_) (OdOutDxIdeal.Value.run_blocks (F := Ideal) m g),
    (θ_run OdOutDxRefIdeal.defs _ _).mono (fun r h c => ?_) (OdOutDxRefIdeal.Value.run (F := Ideal) m' g')⟩
  · exact ⟨(h c).1.trans (OdOutDxIdeal.At.final m c), (h c).2⟩
  · exact ⟨((h c).1.trans (OdOutDxRefIdeal.Read.val_main_v6_eq _ _).symm).trans
      (host_of (StableHlo.launchContents m' c) _ _ (hag c).1 (hag c).2), (h c).2⟩

end Cert.Proof.OdOutDx

end
-- ==== Proof.OdOutDw.lean ====
/-  The gradient of the odd layer's output weights: the kernel's blocks beside the reference's one product. -/
module

public import proofs.«01_k».proof.Defs
public import proofs.«01_k».proof.Proof.Products
public import proofs.«01_k».proof.Proof.Gen.OdOutDwIdeal.Value
public import proofs.«01_k».proof.Proof.Gen.OdOutDwRefIdeal.Run
public import proofs.«01_k».proof.Proof.Gen.OdOutDwRefIdeal.Read
public import Idealize.ShloMosaic.Lib.Claim
public import Idealize.ShloMosaic.Lib.Quiescent

@[expose] public section

noncomputable section

namespace Cert.OdOutDwIdeal.At

open Cert.OdOutDwIdeal Cert.OdOutDwIdeal.Gen Cert.Mix Cert.Products Idealize.ShloMosaic Idealize.ShloMosaic.TcCoe Idealize.SL.Sem

variable (m : (ℓ : Loc nD τ sig) → Buf (Elt Ideal) ℓ) (c : Dev nD)

/-- The product's input, and the cotangent's one section. -/
abbrev H : ℕ → ℕ → EReal := at2 (a := 2048) (b := 2048) (m ((c : Thread nD τ).loc main_arg0))
abbrev Dz : ℕ → ℕ → EReal := side (a := 1) (b := 2048) (c := 2048) (m ((c : Thread nD τ).loc main_arg1)) 2048

/-- The stored pieces, eight of 256 rows each. -/
theorem pay_is {v : Vec Ideal S2048x256 .bf16} {x : Vec Ideal S1x2048x512 .bf16} {h f : ℕ → ℕ → EReal} (hv : Is v h) (hx : Is1 x f) :
    Is1 (k0_pay10 (F := Ideal) x v) fun k q => ∑ r : Fin 2048, h r.val k * f r.val q := by
  unfold k0_pay10 k0_pay9
  exact add_is (φ := .bf16) (fun j => tn_is (φ₁ := .bf16) (φ₂ := .bf16) _ rfl hv (drop_is (φ := .bf16) hx _) j) _

/-- The piece of rows `o` on. -/
theorem piece {x0 : Vec Ideal S2048x2048 .bf16} {x : Vec Ideal S1x2048x512 .bf16} {h f : ℕ → ℕ → EReal} (hx0 : Is x0 h) (hx : Is1 x f) (o : ℕ) (inb)
    (j : S1x256x512.Idx) :
    k0_pay10 (F := Ideal) x (View.ld x0 (Rect.unit (s := S2048x2048) ![0, o] S2048x256.size inb)) j
      = ∑ r : Fin 2048, h r.val (o + 1 * (j 1).val) * f r.val (0 + 1 * (j 2).val) := by
  refine (pay_is (h := fun r k => h (0 + r) (o + k)) (fun j => ld_is (e := .bf16) hx0 inb j) hx j).trans ?_
  simp only [Nat.zero_add, Nat.one_mul]

theorem blk0 (t : Fin cfg0.N) : Is (iblk m c 0 t) (H m c) := fun j => by
  have hi : win0_0.index t 0 = 0 ∧ win0_0.index t 1 = 0 := (by decide +kernel : ∀ t : Fin grid0.N, win0_0.index t 0 = 0 ∧ win0_0.index t 1 = 0) t
  unfold iblk
  rw [View.read_apply]
  exact read2 _ _ (by show win0_0.index t 0 * 2048 + 1 * (j 0).val = _; omega) (by show win0_0.index t 1 * 2048 + 1 * (j 1).val = _; omega)

theorem blk1 (t : Fin cfg0.N) : Is1 (iblk m c 1 t) fun r q => Dz m c r (512 * t.val + q) := fun j => by
  have hi : win0_1.index t 0 = t.val / 4 ∧ win0_1.index t 1 = 0 ∧ win0_1.index t 2 = t.val % 4 :=
    (by decide +kernel : ∀ t : Fin grid0.N, win0_1.index t 0 = t.val / 4 ∧ win0_1.index t 1 = 0 ∧ win0_1.index t 2 = t.val % 4) t
  have h0 : (j 0).val < 1 := (j 0).isLt
  have h2 : (j 2).val < 512 := (j 2).isLt
  unfold iblk
  rw [View.read_apply]
  exact read3 _ _ (by show win0_1.index t 0 * 1 + 1 * (j 0).val = _; omega) (by show win0_1.index t 1 * 2048 + 1 * (j 1).val = _; omega)
    (by show win0_1.index t 2 * 512 + 1 * (j 2).val = _; omega)

section
variable (i : grid0.Coords) (a1 : Memref sig .tc .vmem S2048x2048 .bf16) (h1 : a1.IsWhole) (a2 : Memref sig .tc .vmem S1x2048x512 .bf16) (h2 : a2.IsWhole)
  (a3 : Memref sig .tc .vmem S1x2048x512 .bf16) (h3 : a3.IsWhole) (a4 : Memref sig .tc .vmem S1x2048x512 .bf16) (h4 : a4.IsWhole)

theorem outA (hc0 : cond0_0 i) (hc1 : ¬cond0_1 i) {x0 : Vec Ideal S2048x2048 .bf16} {x1 : Vec Ideal S1x2048x512 .bf16} (x2 : Vec Ideal S1x2048x512 .bf16)
    {h f : ℕ → ℕ → EReal} (hx0 : Is x0 h) (hx1 : Is1 x1 f) :
    Is1 (out0_A_3 c i a1 h1 a2 h2 a3 h3 a4 h4 hc0 hc1 x0 x1 x2) fun k q => ∑ r : Fin 2048, h r.val k * f r.val q := fun y => by
  unfold out0_A_3
  rw [View.read_writes_eq_canon _ _ _ (cover0_A_3 c i a1 h1 a2 h2 a3 h3 a4 h4 hc0 hc1 x0 x1 x2)]
  refine View.canon_apply_of_pieces (Val := Elt Ideal) (e := .bf16) (fun y : S1x2048x512.Idx => ∑ r : Fin 2048, h r.val (y 1).val * f r.val (y 2).val) _ ?_ y
    (cover0_A_3 c i a1 h1 a2 h2 a3 h3 a4 h4 hc0 hc1 x0 x1 x2 y)
  unfold kernelRun0_A
  dsimp only
  sl_unfold_words
  simp only [View.readAt_eq_ld, h1.read_unread, h2.read_unread, View.ld_unit_zero (S := S1x2048x512) hz3]
  intro pc hpc x
  rcases List.mem_cons.mp hpc with rfl | hpc
  · exact piece hx0 hx1 1792 _ x
  rcases List.mem_cons.mp hpc with rfl | hpc
  · exact piece hx0 hx1 1536 _ x
  rcases List.mem_cons.mp hpc with rfl | hpc
  · exact piece hx0 hx1 1280 _ x
  rcases List.mem_cons.mp hpc with rfl | hpc
  · exact piece hx0 hx1 1024 _ x
  rcases List.mem_cons.mp hpc with rfl | hpc
  · exact piece hx0 hx1 768 _ x
  rcases List.mem_cons.mp hpc with rfl | hpc
  · exact piece hx0 hx1 512 _ x
  rcases List.mem_cons.mp hpc with rfl | hpc
  · exact piece hx0 hx1 256 _ x
  rcases List.mem_cons.mp hpc with rfl | hpc
  · exact piece hx0 hx1 0 _ x
  nomatch hpc
end

/-- The kernel's array. -/
def G : Buf (Elt Ideal) ((c : Thread nD τ).loc main_v0) := fun (i : S1x2048x2048.Idx) => gradW (H m c) (Dz m c) 2048 (i 1).val (2048 * (i 0).val + (i 2).val)

theorem G_at (i : S1x2048x2048.Idx) {k q : ℕ} (h1 : (i 1).val = k) (h2 : 2048 * (i 0).val + (i 2).val = q) : G m c i = gradW (H m c) (Dz m c) 2048 k q := by
  subst h1 h2
  rfl

/-- Where the output's block stands. -/
theorem idx3 (t : Fin cfg0.N) : win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4) t

theorem flushed_eq (t : Fin cfg0.N) (hf : (cfg0.win 3).flush t = true) : (dats m 0 c).flushed 3 t = ((cfg0.win 3).blk t).view.read (Elt Ideal) (G m c) := by
  have hi := idx3 t
  rw [Value.flushed3_A]
  funext j
  have h0 : (j 0).val < 1 := (j 0).isLt
  refine (outA c (grid0.coords t) (ms0_0 t) (hs0_0 t) (ms0_1 t) (hs0_1 t) (ms0_2 t) (hs0_2 t) (ms0_3 t) (hs0_3 t) (hcond0_0 t) (hcond0_1 t) (iblk m c 2 t)
    (blk0 m c t) (blk1 m c t) j).trans ?_
  rw [View.read_apply]
  refine Eq.trans ?_ (cast_eq _ _).symm
  refine Eq.trans ?_ (G_at m c _ (k := (j 1).val) (q := 512 * t.val + (j 2).val) (by show win0_3.index t 1 * 2048 + 1 * (j 1).val = (j 1).val; omega)
    (by show 2048 * (win0_3.index t 0 * 1 + 1 * (j 0).val) + (win0_3.index t 2 * 512 + 1 * (j 2).val) = _; omega)).symm
  exact (Finset.sum_range fun r => H m c r (j 1).val * Dz m c r (512 * t.val + (j 2).val)).symm

theorem final : (dats m 0 c).arrAt 3 cfg0.N = G m c :=
  (dats m 0 c).arrAt_eq_of_cover 3 (G m c) (flushed_eq m c) fun i => by
    have h0 : (i 0).val < 1 := (i 0).isLt
    have h1 : (i 1).val < 2048 := (i 1).isLt
    have h2 : (i 2).val < 2048 := (i 2).isLt
    have hN : cfg0.N = 4 := by decide +kernel
    let t : Fin cfg0.N := ⟨4 * (i 0).val + (i 2).val / 512, by omega⟩
    have ht : t.val = 4 * (i 0).val + (i 2).val / 512 := rfl
    have hi := idx3 t
    refine ⟨t, flush0_3 t, ?_⟩
    show i ∈ ((View.whole main_v0).slice (win0_3.rect t)).set
    rw [View.set_slice_whole, Rect.mem_set_unit]
    intro a
    match a with
    | ⟨0, _⟩ => show win0_3.index t 0 * 1 ≤ (i 0).val ∧ (i 0).val < win0_3.index t 0 * 1 + 1; omega
    | ⟨1, _⟩ => show win0_3.index t 1 * 2048 ≤ (i 1).val ∧ (i 1).val < win0_3.index t 1 * 2048 + 2048; omega
    | ⟨2, _⟩ => show win0_3.index t 2 * 512 ≤ (i 2).val ∧ (i 2).val < win0_3.index t 2 * 512 + 512; omega

end Cert.OdOutDwIdeal.At

namespace Cert.Proof.OdOutDw

open Idealize.ShloMosaic Idealize.SL.Sem Cert.Mix Cert.Products

section
open Cert.OdOutDwRefIdeal Cert.OdOutDwRefIdeal.Read

/-- The reference's array. -/
theorem host (x0 : FVec Ideal S2048x2048 .bf16) (x1 : FVec Ideal S1x2048x2048 .bf16) :
    val_main_v8 (F := Ideal) x0 x1 = fun (i : S1x2048x2048.Idx) => gradW (at2 x0) (side x1 2048) 2048 (i 1).val (2048 * (i 0).val + (i 2).val) := by
  funext i
  have h0 : (i 0).val < 1 := (i 0).isLt
  have h1 : (i 1).val < 2048 := (i 1).isLt
  have h2 : (i 2).val < 2048 := (i 2).isLt
  show val_main_v7 (F := Ideal) x0 x1 i = _
  rw [val_main_v7_apply, val_main_v6_apply, val_main_v5_apply]
  unfold gradW
  rw [Finset.sum_range]
  refine Finset.sum_congr rfl fun k _ => ?_
  have hk := k.isLt
  refine (mul_comm _ _).trans (congrArg₂ (· * ·) ?_ ?_)
  · show x0 _ = _
    exact read2 _ _ rfl (by show (i 1).val = _; rfl)
  · show val_main_v0 (F := Ideal) x1 _ = _
    rw [val_main_v0_apply]
    exact read3 _ _ (by show 0 = (2048 * (i 0).val + (i 2).val) / 2048; omega) (by show (k.val * 2048 + (i 2).val) / 2048 % 2048 = k.val; omega)
      (by show (k.val * 2048 + (i 2).val) % 2048 = (2048 * (i 0).val + (i 2).val) % 2048; omega)

theorem host_of (V0 : Valuation τ sig (Elt Ideal)) (x0 : FVec Ideal S2048x2048 .bf16) (x1 : FVec Ideal S1x2048x2048 .bf16)
    (e0 : V0 (Proc.devRef .tc main_arg0) = x0) (e1 : V0 (Proc.devRef .tc main_arg1) = x1) :
    val_main_v8 (F := Ideal) (V0 (Proc.devRef .tc main_arg0)) (V0 (Proc.devRef .tc main_arg1))
      = fun (i : S1x2048x2048.Idx) => gradW (at2 x0) (side x1 2048) 2048 (i 1).val (2048 * (i 0).val + (i 2).val) := by
  rw [e0, e1]
  exact host x0 x1

end

theorem frame : Cert.quiescent_OdOutDwRefIdeal := fun m g _ =>
  (θ_run (OdOutDwRefIdeal.defs (F := Ideal)) _ _).mono
    (fun r h => ⟨fun c => (h c).2, Idealize.ShloMosaic.sem_eq_zero_of_no_sems (by decide) r.2⟩)
    (OdOutDwRefIdeal.Value.run (F := Ideal) m g)

theorem value : Cert.algebraic_OdOutDwIdeal_OdOutDwRefIdeal := by
  intro m g m' g' _ hag
  refine ⟨OdOutDwIdeal.At.G m,
    (θ_run OdOutDwIdeal.defs _ _).mono (fun r h c => ?_) (OdOutDwIdeal.Value.run_blocks (F := Ideal) m g),
    (θ_run OdOutDwRefIdeal.defs _ _).mono (fun r h c => ?_) (OdOutDwRefIdeal.Value.run (F := Ideal) m' g')⟩
  · exact ⟨(h c).1.trans (OdOutDwIdeal.At.final m c), (h c).2⟩
  · exact ⟨((h c).1.trans (OdOutDwRefIdeal.Read.val_main_v8_eq _ _).symm).trans
      (host_of (StableHlo.launchContents m' c) _ _ (hag c).1 (hag c).2), (h c).2⟩

end Cert.Proof.OdOutDw

end
-- ==== Proof.OdIn.lean ====
/-  The odd layer's input product: the kernel's blocks beside the reference's one product. -/
module

public import proofs.«01_k».proof.Defs
public import proofs.«01_k».proof.Proof.Products
public import proofs.«01_k».proof.Proof.Gen.OdInIdeal.Value
public import proofs.«01_k».proof.Proof.Gen.OdInRefIdeal.Run
public import proofs.«01_k».proof.Proof.Gen.OdInRefIdeal.Read
public import Idealize.ShloMosaic.Lib.Claim
public import Idealize.ShloMosaic.Lib.Quiescent

@[expose] public section

noncomputable section

namespace Cert.OdInIdeal.At

open Cert.OdInIdeal Cert.OdInIdeal.Gen Cert.Mix Cert.Products Idealize.ShloMosaic Idealize.ShloMosaic.TcCoe Idealize.SL.Sem

variable (m : (ℓ : Loc nD τ sig) → Buf (Elt Ideal) ℓ) (c : Dev nD)

/-- The layer's input, and the weights' parts laid side by side. -/
abbrev H : ℕ → ℕ → EReal := at2 (a := 2304) (b := 2048) (m ((c : Thread nD τ).loc main_arg0))
abbrev W : ℕ → ℕ → EReal := side (a := 4) (b := 2048) (c := 2560) (m ((c : Thread nD τ).loc main_arg1)) 2560

theorem pay_is {v : Vec Ideal S768x2048 .bf16} {x : Vec Ideal S1x2048x512 .bf16} {h g : ℕ → ℕ → EReal} (hv : Is v h) (hx : Is1 x g) :
    Is1 (k0_pay1 (F := Ideal) x v) fun r q => ∑ k : Fin 2048, h r k.val * g k.val q :=
  add_is (φ := .f32) (fun j => nn_is (φ₁ := .bf16) (φ₂ := .bf16) _ rfl hv (drop_is (φ := .bf16) hx _) j) _

/-- A trip's piece: the rows from `o` on. -/
theorem piece {x0 : Vec Ideal S2304x2048 .bf16} {x : Vec Ideal S1x2048x512 .bf16} {h g : ℕ → ℕ → EReal} (hx0 : Is x0 h) (hx : Is1 x g) {off : Fin 2 → ℕ} {o : ℕ}
    (ho : off = ![o, 0]) (inb) (j : S1x768x512.Idx) :
    k0_pay1 (F := Ideal) x (View.ld x0 (Rect.unit (s := S2304x2048) off S768x2048.size inb)) j
      = ∑ k : Fin 2048, h (o + 1 * (j 1).val) k.val * g k.val (0 + 1 * (j 2).val) := by
  subst ho
  refine (pay_is (h := fun r k => h (o + r) (0 + k)) (fun j => ld_is (e := .bf16) hx0 inb j) hx j).trans ?_
  simp only [Nat.zero_add, Nat.one_mul]

section
variable (i : grid0.Coords) (a1 : Memref sig .tc .vmem S2304x2048 .bf16) (h1 : a1.IsWhole) (a2 : Memref sig .tc .vmem S1x2048x512 .bf16) (h2 : a2.IsWhole)
  (a3 : Memref sig .tc .vmem S1x2304x512 .f32) (h3 : a3.IsWhole)

theorem off1_eq : ∀ k : Fin k0_t1_loop.trips, k0_off1 k = ![768 * k.val, 0] := by decide +kernel
theorem off2_eq : ∀ k : Fin k0_t1_loop.trips, k0_off2 k = ![0, 768 * k.val, 0] := by decide +kernel

/-- What the trips before `n` store: pieces of the one product. -/
theorem trips_is {x0 : Vec Ideal S2304x2048 .bf16} {x1 : Vec Ideal S1x2048x512 .bf16} {h g : ℕ → ℕ → EReal} (hx0 : Is x0 h) (hx1 : Is1 x1 g) :
    ∀ n : ℕ, n ≤ k0_t1_loop.trips → ∀ p ∈ pb_k0_t1 (F := Ideal) Variants.none c none i a1 h1 a2 h2 a3 h3 x1 (h1.unread x0) n, ∀ x : p.1.shape.Idx,
      p.2 x = ∑ k : Fin 2048, h (p.1.emb x 1).val k.val * g k.val (p.1.emb x 2).val
  | 0, _ => fun p hp => nomatch hp
  | n + 1, hn => fun p hp x => by
    rw [pb_k0_t1_succ Variants.none c none i a1 h1 a2 h2 a3 h3 x1 (h1.unread x0) ⟨n, hn⟩] at hp
    rcases List.mem_append.mp hp with hp | hp
    · unfold tripL_k0_t1 trip_k0_t1 at hp
      dsimp only at hp
      obtain rfl := List.mem_singleton.mp hp
      simp only [View.readAt_eq_ld, h1.read_unread]
      refine (piece hx0 hx1 (off1_eq ⟨n, hn⟩) _ x).trans ?_
      have e1 : k0_off2 ⟨n, hn⟩ 1 = 768 * n := congrFun (off2_eq ⟨n, hn⟩) 1
      have e2 : k0_off2 ⟨n, hn⟩ 2 = 0 := congrFun (off2_eq ⟨n, hn⟩) 2
      show _ = ∑ k : Fin 2048, h (k0_off2 ⟨n, hn⟩ 1 + 1 * (x 1).val) k.val * g k.val (k0_off2 ⟨n, hn⟩ 2 + 1 * (x 2).val)
      rw [e1, e2]
    · exact trips_is hx0 hx1 n (Nat.le_of_succ_le hn) p hp x

theorem outA {x0 : Vec Ideal S2304x2048 .bf16} {x1 : Vec Ideal S1x2048x512 .bf16} {h g : ℕ → ℕ → EReal} (hx0 : Is x0 h) (hx1 : Is1 x1 g) :
    Is1 (out0_A_2 c i a1 h1 a2 h2 a3 h3 x0 x1) fun r q => ∑ k : Fin 2048, h r k.val * g k.val q := fun y => by
  unfold out0_A_2
  rw [View.read_writes_eq_canon _ _ _ (cover0_A_2 c i a1 h1 a2 h2 a3 h3 x0 x1)]
  refine View.canon_apply_of_pieces (Val := Elt Ideal) (e := .f32) (fun y : S1x2304x512.Idx => ∑ k : Fin 2048, h (y 1).val k.val * g k.val (y 2).val) _ ?_ y
    (cover0_A_2 c i a1 h1 a2 h2 a3 h3 x0 x1 y)
  unfold kernelRun0_A
  dsimp only
  sl_unfold_words
  simp only [View.readAt_eq_ld, h2.read_unread, View.ld_unit_zero (S := S1x2048x512) hz3]
  exact trips_is c i a1 h1 a2 h2 a3 h3 hx0 hx1 _ le_rfl
end

theorem blk0 (t : Fin cfg0.N) : Is (iblk m c 0 t) (H m c) := fun j => by
  have hi : win0_0.index t 0 = 0 ∧ win0_0.index t 1 = 0 := (by decide +kernel : ∀ t : Fin grid0.N, win0_0.index t 0 = 0 ∧ win0_0.index t 1 = 0) t
  unfold iblk
  rw [View.read_apply]
  exact read2 _ _ (by show win0_0.index t 0 * 2304 + 1 * (j 0).val = _; omega) (by show win0_0.index t 1 * 2048 + 1 * (j 1).val = _; omega)

theorem blk1 (t : Fin cfg0.N) : Is1 (iblk m c 1 t) fun k q => W m c k (512 * t.val + q) := fun j => by
  have hi : win0_1.index t 0 = t.val / 5 ∧ win0_1.index t 1 = 0 ∧ win0_1.index t 2 = t.val % 5 :=
    (by decide +kernel : ∀ t : Fin grid0.N, win0_1.index t 0 = t.val / 5 ∧ win0_1.index t 1 = 0 ∧ win0_1.index t 2 = t.val % 5) t
  have h0 : (j 0).val < 1 := (j 0).isLt
  have h2 : (j 2).val < 512 := (j 2).isLt
  unfold iblk
  rw [View.read_apply]
  exact read3 _ _ (by show win0_1.index t 0 * 1 + 1 * (j 0).val = _; omega) (by show win0_1.index t 1 * 2048 + 1 * (j 1).val = _; omega)
    (by show win0_1.index t 2 * 512 + 1 * (j 2).val = _; omega)

/-- The kernel's array. -/
def G : Buf (Elt Ideal) ((c : Thread nD τ).loc main_v0) := fun (i : S5x2304x2048.Idx) => layer (H m c) (W m c) 2048 (i 1).val (2048 * (i 0).val + (i 2).val)

theorem G_at (i : S5x2304x2048.Idx) {r q : ℕ} (h1 : (i 1).val = r) (h2 : 2048 * (i 0).val + (i 2).val = q) : G m c i = layer (H m c) (W m c) 2048 r q := by
  subst h1 h2
  rfl

/-- Where the output's block stands. -/
theorem idx2 (t : Fin cfg0.N) : win0_2.index t 0 = t.val / 4 ∧ win0_2.index t 1 = 0 ∧ win0_2.index t 2 = t.val % 4 :=
  (by decide +kernel : ∀ t : Fin grid0.N, win0_2.index t 0 = t.val / 4 ∧ win0_2.index t 1 = 0 ∧ win0_2.index t 2 = t.val % 4) t

theorem flushed_eq (t : Fin cfg0.N) (hf : (cfg0.win 2).flush t = true) : (dats m 0 c).flushed 2 t = ((cfg0.win 2).blk t).view.read (Elt Ideal) (G m c) := by
  have hi := idx2 t
  rw [Value.flushed2_A]
  funext j
  have h0 : (j 0).val < 1 := (j 0).isLt
  refine (outA c (grid0.coords t) (ms0_0 t) (hs0_0 t) (ms0_1 t) (hs0_1 t) (ms0_2 t) (hs0_2 t) (blk0 m c t) (blk1 m c t) j).trans ?_
  rw [View.read_apply]
  refine Eq.trans ?_ (cast_eq _ _).symm
  refine Eq.trans ?_ (G_at m c _ (r := (j 1).val) (q := 512 * t.val + (j 2).val) (by show win0_2.index t 1 * 2304 + 1 * (j 1).val = (j 1).val; omega)
    (by show 2048 * (win0_2.index t 0 * 1 + 1 * (j 0).val) + (win0_2.index t 2 * 512 + 1 * (j 2).val) = _; omega)).symm
  exact (Finset.sum_range fun k => H m c (j 1).val k * W m c k (512 * t.val + (j 2).val)).symm

theorem final : (dats m 0 c).arrAt 2 cfg0.N = G m c :=
  (dats m 0 c).arrAt_eq_of_cover 2 (G m c) (flushed_eq m c) fun i => by
    have h0 : (i 0).val < 5 := (i 0).isLt
    have h1 : (i 1).val < 2304 := (i 1).isLt
    have h2 : (i 2).val < 2048 := (i 2).isLt
    have hN : cfg0.N = 20 := by decide +kernel
    let t : Fin cfg0.N := ⟨4 * (i 0).val + (i 2).val / 512, by omega⟩
    have ht : t.val = 4 * (i 0).val + (i 2).val / 512 := rfl
    have hi := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1; omega
    | ⟨1, _⟩ => show win0_2.index t 1 * 2304 ≤ (i 1).val ∧ (i 1).val < win0_2.index t 1 * 2304 + 2304; omega
    | ⟨2, _⟩ => show win0_2.index t 2 * 512 ≤ (i 2).val ∧ (i 2).val < win0_2.index t 2 * 512 + 512; omega

end Cert.OdInIdeal.At

namespace Cert.Proof.OdIn

open Idealize.ShloMosaic Idealize.SL.Sem Cert.Mix Cert.Products

section
open Cert.OdInRefIdeal Cert.OdInRefIdeal.Read

/-- The reference's array. -/
theorem host (x0 : FVec Ideal S2304x2048 .bf16) (x1 : FVec Ideal S4x2048x2560 .bf16) :
    val_main_v6 (F := Ideal) x0 x1 = fun (i : S5x2304x2048.Idx) => layer (at2 x0) (side x1 2560) 2048 (i 1).val (2048 * (i 0).val + (i 2).val) := by
  funext i
  have h0 : (i 0).val < 5 := (i 0).isLt
  have h1 : (i 1).val < 2304 := (i 1).isLt
  have h2 : (i 2).val < 2048 := (i 2).isLt
  rw [val_main_v6_apply, val_main_v5_apply, val_main_v4_apply]
  unfold layer
  rw [Finset.sum_range]
  refine Finset.sum_congr rfl fun k _ => ?_
  have hk := k.isLt
  refine congrArg₂ (· * ·) ?_ ?_
  · show x0 _ = _
    exact read2 _ _ (by show (((i 1).val * 5 + (i 0).val) * 2048 + (i 2).val) / 10240 = _; omega) rfl
  · show val_main_v2 (F := Ideal) x1 _ = _
    rw [val_main_v2_apply, val_main_v1_apply]
    exact read3 _ _
      (by show (k.val * 10240 + (((i 1).val * 5 + (i 0).val) * 2048 + (i 2).val) % 10240) / 2560 % 4 = (2048 * (i 0).val + (i 2).val) / 2560; omega)
      (by show (k.val * 10240 + (((i 1).val * 5 + (i 0).val) * 2048 + (i 2).val) % 10240) / 10240 = k.val; omega)
      (by show (k.val * 10240 + (((i 1).val * 5 + (i 0).val) * 2048 + (i 2).val) % 10240) % 2560 = (2048 * (i 0).val + (i 2).val) % 2560; omega)

theorem host_of (V0 : Valuation τ sig (Elt Ideal)) (x0 : FVec Ideal S2304x2048 .bf16) (x1 : FVec Ideal S4x2048x2560 .bf16)
    (e0 : V0 (Proc.devRef .tc main_arg0) = x0) (e1 : V0 (Proc.devRef .tc main_arg1) = x1) :
    val_main_v6 (F := Ideal) (V0 (Proc.devRef .tc main_arg0)) (V0 (Proc.devRef .tc main_arg1))
      = fun (i : S5x2304x2048.Idx) => layer (at2 x0) (side x1 2560) 2048 (i 1).val (2048 * (i 0).val + (i 2).val) := by
  rw [e0, e1]
  exact host x0 x1

end

theorem frame : Cert.quiescent_OdInRefIdeal := fun m g _ =>
  (θ_run (OdInRefIdeal.defs (F := Ideal)) _ _).mono
    (fun r h => ⟨fun c => (h c).2, Idealize.ShloMosaic.sem_eq_zero_of_no_sems (by decide) r.2⟩)
    (OdInRefIdeal.Value.run (F := Ideal) m g)

theorem value : Cert.algebraic_OdInIdeal_OdInRefIdeal := by
  intro m g m' g' _ hag
  refine ⟨OdInIdeal.At.G m,
    (θ_run OdInIdeal.defs _ _).mono (fun r h c => ?_) (OdInIdeal.Value.run_blocks (F := Ideal) m g),
    (θ_run OdInRefIdeal.defs _ _).mono (fun r h c => ?_) (OdInRefIdeal.Value.run (F := Ideal) m' g')⟩
  · exact ⟨(h c).1.trans (OdInIdeal.At.final m c), (h c).2⟩
  · exact ⟨((h c).1.trans (OdInRefIdeal.Read.val_main_v6_eq _ _).symm).trans
      (host_of (StableHlo.launchContents m' c) _ _ (hag c).1 (hag c).2), (h c).2⟩

end Cert.Proof.OdIn

end
-- ==== Proof.EvIn.lean ====
/-  The even layer's input product: the kernel's blocks beside the reference's one product. -/
module

public import proofs.«01_k».proof.Defs
public import proofs.«01_k».proof.Proof.Products
public import proofs.«01_k».proof.Proof.Gen.EvInIdeal.Value
public import proofs.«01_k».proof.Proof.Gen.EvInRefIdeal.Run
public import proofs.«01_k».proof.Proof.Gen.EvInRefIdeal.Read
public import Idealize.ShloMosaic.Lib.Claim
public import Idealize.ShloMosaic.Lib.Quiescent

@[expose] public section

noncomputable section

namespace Cert.EvInIdeal.At

open Cert.EvInIdeal Cert.EvInIdeal.Gen Cert.Mix Cert.Products Idealize.ShloMosaic Idealize.ShloMosaic.TcCoe Idealize.SL.Sem

variable (m : (ℓ : Loc nD τ sig) → Buf (Elt Ideal) ℓ) (c : Dev nD)

/-- The layer's input, and the weights' parts laid side by side. -/
abbrev H : ℕ → ℕ → EReal := at2 (a := 2304) (b := 2048) (m ((c : Thread nD τ).loc main_arg0))
abbrev W : ℕ → ℕ → EReal := side (a := 4) (b := 2048) (c := 1536) (m ((c : Thread nD τ).loc main_arg1)) 1536

theorem pay_is {v : Vec Ideal S768x2048 .bf16} {x : Vec Ideal S1x2048x512 .bf16} {h g : ℕ → ℕ → EReal} (hv : Is v h) (hx : Is1 x g) :
    Is1 (k0_pay1 (F := Ideal) x v) fun r q => ∑ k : Fin 2048, h r k.val * g k.val q :=
  add_is (φ := .f32) (fun j => nn_is (φ₁ := .bf16) (φ₂ := .bf16) _ rfl hv (drop_is (φ := .bf16) hx _) j) _

/-- A trip's piece: the rows from `o` on. -/
theorem piece {x0 : Vec Ideal S2304x2048 .bf16} {x : Vec Ideal S1x2048x512 .bf16} {h g : ℕ → ℕ → EReal} (hx0 : Is x0 h) (hx : Is1 x g) {off : Fin 2 → ℕ} {o : ℕ}
    (ho : off = ![o, 0]) (inb) (j : S1x768x512.Idx) :
    k0_pay1 (F := Ideal) x (View.ld x0 (Rect.unit (s := S2304x2048) off S768x2048.size inb)) j
      = ∑ k : Fin 2048, h (o + 1 * (j 1).val) k.val * g k.val (0 + 1 * (j 2).val) := by
  subst ho
  refine (pay_is (h := fun r k => h (o + r) (0 + k)) (fun j => ld_is (e := .bf16) hx0 inb j) hx j).trans ?_
  simp only [Nat.zero_add, Nat.one_mul]

section
variable (i : grid0.Coords) (a1 : Memref sig .tc .vmem S2304x2048 .bf16) (h1 : a1.IsWhole) (a2 : Memref sig .tc .vmem S1x2048x512 .bf16) (h2 : a2.IsWhole)
  (a3 : Memref sig .tc .vmem S1x2304x512 .f32) (h3 : a3.IsWhole)

theorem off1_eq : ∀ k : Fin k0_t1_loop.trips, k0_off1 k = ![768 * k.val, 0] := by decide +kernel
theorem off2_eq : ∀ k : Fin k0_t1_loop.trips, k0_off2 k = ![0, 768 * k.val, 0] := by decide +kernel

/-- What the trips before `n` store: pieces of the one product. -/
theorem trips_is {x0 : Vec Ideal S2304x2048 .bf16} {x1 : Vec Ideal S1x2048x512 .bf16} {h g : ℕ → ℕ → EReal} (hx0 : Is x0 h) (hx1 : Is1 x1 g) :
    ∀ n : ℕ, n ≤ k0_t1_loop.trips → ∀ p ∈ pb_k0_t1 (F := Ideal) Variants.none c none i a1 h1 a2 h2 a3 h3 x1 (h1.unread x0) n, ∀ x : p.1.shape.Idx,
      p.2 x = ∑ k : Fin 2048, h (p.1.emb x 1).val k.val * g k.val (p.1.emb x 2).val
  | 0, _ => fun p hp => nomatch hp
  | n + 1, hn => fun p hp x => by
    rw [pb_k0_t1_succ Variants.none c none i a1 h1 a2 h2 a3 h3 x1 (h1.unread x0) ⟨n, hn⟩] at hp
    rcases List.mem_append.mp hp with hp | hp
    · unfold tripL_k0_t1 trip_k0_t1 at hp
      dsimp only at hp
      obtain rfl := List.mem_singleton.mp hp
      simp only [View.readAt_eq_ld, h1.read_unread]
      refine (piece hx0 hx1 (off1_eq ⟨n, hn⟩) _ x).trans ?_
      have e1 : k0_off2 ⟨n, hn⟩ 1 = 768 * n := congrFun (off2_eq ⟨n, hn⟩) 1
      have e2 : k0_off2 ⟨n, hn⟩ 2 = 0 := congrFun (off2_eq ⟨n, hn⟩) 2
      show _ = ∑ k : Fin 2048, h (k0_off2 ⟨n, hn⟩ 1 + 1 * (x 1).val) k.val * g k.val (k0_off2 ⟨n, hn⟩ 2 + 1 * (x 2).val)
      rw [e1, e2]
    · exact trips_is hx0 hx1 n (Nat.le_of_succ_le hn) p hp x

theorem outA {x0 : Vec Ideal S2304x2048 .bf16} {x1 : Vec Ideal S1x2048x512 .bf16} {h g : ℕ → ℕ → EReal} (hx0 : Is x0 h) (hx1 : Is1 x1 g) :
    Is1 (out0_A_2 c i a1 h1 a2 h2 a3 h3 x0 x1) fun r q => ∑ k : Fin 2048, h r k.val * g k.val q := fun y => by
  unfold out0_A_2
  rw [View.read_writes_eq_canon _ _ _ (cover0_A_2 c i a1 h1 a2 h2 a3 h3 x0 x1)]
  refine View.canon_apply_of_pieces (Val := Elt Ideal) (e := .f32) (fun y : S1x2304x512.Idx => ∑ k : Fin 2048, h (y 1).val k.val * g k.val (y 2).val) _ ?_ y
    (cover0_A_2 c i a1 h1 a2 h2 a3 h3 x0 x1 y)
  unfold kernelRun0_A
  dsimp only
  sl_unfold_words
  simp only [View.readAt_eq_ld, h2.read_unread, View.ld_unit_zero (S := S1x2048x512) hz3]
  exact trips_is c i a1 h1 a2 h2 a3 h3 hx0 hx1 _ le_rfl
end

theorem blk0 (t : Fin cfg0.N) : Is (iblk m c 0 t) (H m c) := fun j => by
  have hi : win0_0.index t 0 = 0 ∧ win0_0.index t 1 = 0 := (by decide +kernel : ∀ t : Fin grid0.N, win0_0.index t 0 = 0 ∧ win0_0.index t 1 = 0) t
  unfold iblk
  rw [View.read_apply]
  exact read2 _ _ (by show win0_0.index t 0 * 2304 + 1 * (j 0).val = _; omega) (by show win0_0.index t 1 * 2048 + 1 * (j 1).val = _; omega)

theorem blk1 (t : Fin cfg0.N) : Is1 (iblk m c 1 t) fun k q => W m c k (512 * t.val + q) := fun j => by
  have hi : win0_1.index t 0 = t.val / 3 ∧ win0_1.index t 1 = 0 ∧ win0_1.index t 2 = t.val % 3 :=
    (by decide +kernel : ∀ t : Fin grid0.N, win0_1.index t 0 = t.val / 3 ∧ win0_1.index t 1 = 0 ∧ win0_1.index t 2 = t.val % 3) t
  have h0 : (j 0).val < 1 := (j 0).isLt
  have h2 : (j 2).val < 512 := (j 2).isLt
  unfold iblk
  rw [View.read_apply]
  exact read3 _ _ (by show win0_1.index t 0 * 1 + 1 * (j 0).val = _; omega) (by show win0_1.index t 1 * 2048 + 1 * (j 1).val = _; omega)
    (by show win0_1.index t 2 * 512 + 1 * (j 2).val = _; omega)

/-- The kernel's array. -/
def G : Buf (Elt Ideal) ((c : Thread nD τ).loc main_v0) := fun (i : S6x2304x1024.Idx) => layer (H m c) (W m c) 2048 (i 1).val (1024 * (i 0).val + (i 2).val)

theorem G_at (i : S6x2304x1024.Idx) {r q : ℕ} (h1 : (i 1).val = r) (h2 : 1024 * (i 0).val + (i 2).val = q) : G m c i = layer (H m c) (W m c) 2048 r q := by
  subst h1 h2
  rfl

/-- Where the output's block stands. -/
theorem idx2 (t : Fin cfg0.N) : win0_2.index t 0 = t.val / 2 ∧ win0_2.index t 1 = 0 ∧ win0_2.index t 2 = t.val % 2 :=
  (by decide +kernel : ∀ t : Fin grid0.N, win0_2.index t 0 = t.val / 2 ∧ win0_2.index t 1 = 0 ∧ win0_2.index t 2 = t.val % 2) t

theorem flushed_eq (t : Fin cfg0.N) (hf : (cfg0.win 2).flush t = true) : (dats m 0 c).flushed 2 t = ((cfg0.win 2).blk t).view.read (Elt Ideal) (G m c) := by
  have hi := idx2 t
  rw [Value.flushed2_A]
  funext j
  have h0 : (j 0).val < 1 := (j 0).isLt
  refine (outA c (grid0.coords t) (ms0_0 t) (hs0_0 t) (ms0_1 t) (hs0_1 t) (ms0_2 t) (hs0_2 t) (blk0 m c t) (blk1 m c t) j).trans ?_
  rw [View.read_apply]
  refine Eq.trans ?_ (cast_eq _ _).symm
  refine Eq.trans ?_ (G_at m c _ (r := (j 1).val) (q := 512 * t.val + (j 2).val) (by show win0_2.index t 1 * 2304 + 1 * (j 1).val = (j 1).val; omega)
    (by show 1024 * (win0_2.index t 0 * 1 + 1 * (j 0).val) + (win0_2.index t 2 * 512 + 1 * (j 2).val) = _; omega)).symm
  exact (Finset.sum_range fun k => H m c (j 1).val k * W m c k (512 * t.val + (j 2).val)).symm

theorem final : (dats m 0 c).arrAt 2 cfg0.N = G m c :=
  (dats m 0 c).arrAt_eq_of_cover 2 (G m c) (flushed_eq m c) fun i => by
    have h0 : (i 0).val < 6 := (i 0).isLt
    have h1 : (i 1).val < 2304 := (i 1).isLt
    have h2 : (i 2).val < 1024 := (i 2).isLt
    have hN : cfg0.N = 12 := by decide +kernel
    let t : Fin cfg0.N := ⟨2 * (i 0).val + (i 2).val / 512, by omega⟩
    have ht : t.val = 2 * (i 0).val + (i 2).val / 512 := rfl
    have hi := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1; omega
    | ⟨1, _⟩ => show win0_2.index t 1 * 2304 ≤ (i 1).val ∧ (i 1).val < win0_2.index t 1 * 2304 + 2304; omega
    | ⟨2, _⟩ => show win0_2.index t 2 * 512 ≤ (i 2).val ∧ (i 2).val < win0_2.index t 2 * 512 + 512; omega

end Cert.EvInIdeal.At

namespace Cert.Proof.EvIn

open Idealize.ShloMosaic Idealize.SL.Sem Cert.Mix Cert.Products

section
open Cert.EvInRefIdeal Cert.EvInRefIdeal.Read

/-- The reference's array. -/
theorem host (x0 : FVec Ideal S2304x2048 .bf16) (x1 : FVec Ideal S4x2048x1536 .bf16) :
    val_main_v6 (F := Ideal) x0 x1 = fun (i : S6x2304x1024.Idx) => layer (at2 x0) (side x1 1536) 2048 (i 1).val (1024 * (i 0).val + (i 2).val) := by
  funext i
  have h0 : (i 0).val < 6 := (i 0).isLt
  have h1 : (i 1).val < 2304 := (i 1).isLt
  have h2 : (i 2).val < 1024 := (i 2).isLt
  rw [val_main_v6_apply, val_main_v5_apply, val_main_v4_apply]
  unfold layer
  rw [Finset.sum_range]
  refine Finset.sum_congr rfl fun k _ => ?_
  have hk := k.isLt
  refine congrArg₂ (· * ·) ?_ ?_
  · show x0 _ = _
    exact read2 _ _ (by show (((i 1).val * 6 + (i 0).val) * 1024 + (i 2).val) / 6144 = _; omega) rfl
  · show val_main_v2 (F := Ideal) x1 _ = _
    rw [val_main_v2_apply, val_main_v1_apply]
    exact read3 _ _
      (by show (k.val * 6144 + (((i 1).val * 6 + (i 0).val) * 1024 + (i 2).val) % 6144) / 1536 % 4 = (1024 * (i 0).val + (i 2).val) / 1536; omega)
      (by show (k.val * 6144 + (((i 1).val * 6 + (i 0).val) * 1024 + (i 2).val) % 6144) / 6144 = k.val; omega)
      (by show (k.val * 6144 + (((i 1).val * 6 + (i 0).val) * 1024 + (i 2).val) % 6144) % 1536 = (1024 * (i 0).val + (i 2).val) % 1536; omega)

theorem host_of (V0 : Valuation τ sig (Elt Ideal)) (x0 : FVec Ideal S2304x2048 .bf16) (x1 : FVec Ideal S4x2048x1536 .bf16)
    (e0 : V0 (Proc.devRef .tc main_arg0) = x0) (e1 : V0 (Proc.devRef .tc main_arg1) = x1) :
    val_main_v6 (F := Ideal) (V0 (Proc.devRef .tc main_arg0)) (V0 (Proc.devRef .tc main_arg1))
      = fun (i : S6x2304x1024.Idx) => layer (at2 x0) (side x1 1536) 2048 (i 1).val (1024 * (i 0).val + (i 2).val) := by
  rw [e0, e1]
  exact host x0 x1

end

theorem frame : Cert.quiescent_EvInRefIdeal := fun m g _ =>
  (θ_run (EvInRefIdeal.defs (F := Ideal)) _ _).mono
    (fun r h => ⟨fun c => (h c).2, Idealize.ShloMosaic.sem_eq_zero_of_no_sems (by decide) r.2⟩)
    (EvInRefIdeal.Value.run (F := Ideal) m g)

theorem value : Cert.algebraic_EvInIdeal_EvInRefIdeal := by
  intro m g m' g' _ hag
  refine ⟨EvInIdeal.At.G m,
    (θ_run EvInIdeal.defs _ _).mono (fun r h c => ?_) (EvInIdeal.Value.run_blocks (F := Ideal) m g),
    (θ_run EvInRefIdeal.defs _ _).mono (fun r h c => ?_) (EvInRefIdeal.Value.run (F := Ideal) m' g')⟩
  · exact ⟨(h c).1.trans (EvInIdeal.At.final m c), (h c).2⟩
  · exact ⟨((h c).1.trans (EvInRefIdeal.Read.val_main_v6_eq _ _).symm).trans
      (host_of (StableHlo.launchContents m' c) _ _ (hag c).1 (hag c).2), (h c).2⟩

end Cert.Proof.EvIn

end
-- ==== Proof.EvOut.lean ====
/-  The even layer's output product: the kernel's blocks beside the reference's one product. -/
module

public import proofs.«01_k».proof.Defs
public import proofs.«01_k».proof.Proof.Products
public import proofs.«01_k».proof.Proof.Gen.EvOutIdeal.Value
public import proofs.«01_k».proof.Proof.Gen.EvOutRefIdeal.Run
public import proofs.«01_k».proof.Proof.Gen.EvOutRefIdeal.Read
public import Idealize.ShloMosaic.Lib.Claim
public import Idealize.ShloMosaic.Lib.Quiescent

@[expose] public section

noncomputable section

namespace Cert.EvOutIdeal.At

open Cert.EvOutIdeal Cert.EvOutIdeal.Gen Cert.Mix Cert.Products Idealize.ShloMosaic Idealize.ShloMosaic.TcCoe Idealize.SL.Sem

variable (m : (ℓ : Loc nD τ sig) → Buf (Elt Ideal) ℓ) (c : Dev nD)

/-- The layer's value, and the weights. -/
abbrev H : ℕ → ℕ → EReal := at2 (a := 2304) (b := 2048) (m ((c : Thread nD τ).loc main_arg0))
abbrev W : ℕ → ℕ → EReal := at3 (a := 1) (b := 2048) (c := 2048) (m ((c : Thread nD τ).loc main_arg1)) 0

theorem pay_is {v : Vec Ideal S768x2048 .bf16} {x : Vec Ideal S1x2048x512 .bf16} {h g : ℕ → ℕ → EReal} (hv : Is v h) (hx : Is1 x g) :
    Is1 (k0_pay1 (F := Ideal) x v) fun r q => ∑ k : Fin 2048, h r k.val * g k.val q :=
  add_is (φ := .f32) (fun j => nn_is (φ₁ := .bf16) (φ₂ := .bf16) _ rfl hv (drop_is (φ := .bf16) hx _) j) _

/-- A trip's piece: the rows from `o` on. -/
theorem piece {x0 : Vec Ideal S2304x2048 .bf16} {x : Vec Ideal S1x2048x512 .bf16} {h g : ℕ → ℕ → EReal} (hx0 : Is x0 h) (hx : Is1 x g) {off : Fin 2 → ℕ} {o : ℕ}
    (ho : off = ![o, 0]) (inb) (j : S1x768x512.Idx) :
    k0_pay1 (F := Ideal) x (View.ld x0 (Rect.unit (s := S2304x2048) off S768x2048.size inb)) j
      = ∑ k : Fin 2048, h (o + 1 * (j 1).val) k.val * g k.val (0 + 1 * (j 2).val) := by
  subst ho
  refine (pay_is (h := fun r k => h (o + r) (0 + k)) (fun j => ld_is (e := .bf16) hx0 inb j) hx j).trans ?_
  simp only [Nat.zero_add, Nat.one_mul]

section
variable (i : grid0.Coords) (a1 : Memref sig .tc .vmem S2304x2048 .bf16) (h1 : a1.IsWhole) (a2 : Memref sig .tc .vmem S1x2048x512 .bf16) (h2 : a2.IsWhole)
  (a3 : Memref sig .tc .vmem S1x2304x512 .f32) (h3 : a3.IsWhole)

theorem off1_eq : ∀ k : Fin k0_t1_loop.trips, k0_off1 k = ![768 * k.val, 0] := by decide +kernel
theorem off2_eq : ∀ k : Fin k0_t1_loop.trips, k0_off2 k = ![0, 768 * k.val, 0] := by decide +kernel

/-- What the trips before `n` store: pieces of the one product. -/
theorem trips_is {x0 : Vec Ideal S2304x2048 .bf16} {x1 : Vec Ideal S1x2048x512 .bf16} {h g : ℕ → ℕ → EReal} (hx0 : Is x0 h) (hx1 : Is1 x1 g) :
    ∀ n : ℕ, n ≤ k0_t1_loop.trips → ∀ p ∈ pb_k0_t1 (F := Ideal) Variants.none c none i a1 h1 a2 h2 a3 h3 x1 (h1.unread x0) n, ∀ x : p.1.shape.Idx,
      p.2 x = ∑ k : Fin 2048, h (p.1.emb x 1).val k.val * g k.val (p.1.emb x 2).val
  | 0, _ => fun p hp => nomatch hp
  | n + 1, hn => fun p hp x => by
    rw [pb_k0_t1_succ Variants.none c none i a1 h1 a2 h2 a3 h3 x1 (h1.unread x0) ⟨n, hn⟩] at hp
    rcases List.mem_append.mp hp with hp | hp
    · unfold tripL_k0_t1 trip_k0_t1 at hp
      dsimp only at hp
      obtain rfl := List.mem_singleton.mp hp
      simp only [View.readAt_eq_ld, h1.read_unread]
      refine (piece hx0 hx1 (off1_eq ⟨n, hn⟩) _ x).trans ?_
      have e1 : k0_off2 ⟨n, hn⟩ 1 = 768 * n := congrFun (off2_eq ⟨n, hn⟩) 1
      have e2 : k0_off2 ⟨n, hn⟩ 2 = 0 := congrFun (off2_eq ⟨n, hn⟩) 2
      show _ = ∑ k : Fin 2048, h (k0_off2 ⟨n, hn⟩ 1 + 1 * (x 1).val) k.val * g k.val (k0_off2 ⟨n, hn⟩ 2 + 1 * (x 2).val)
      rw [e1, e2]
    · exact trips_is hx0 hx1 n (Nat.le_of_succ_le hn) p hp x

theorem outA {x0 : Vec Ideal S2304x2048 .bf16} {x1 : Vec Ideal S1x2048x512 .bf16} {h g : ℕ → ℕ → EReal} (hx0 : Is x0 h) (hx1 : Is1 x1 g) :
    Is1 (out0_A_2 c i a1 h1 a2 h2 a3 h3 x0 x1) fun r q => ∑ k : Fin 2048, h r k.val * g k.val q := fun y => by
  unfold out0_A_2
  rw [View.read_writes_eq_canon _ _ _ (cover0_A_2 c i a1 h1 a2 h2 a3 h3 x0 x1)]
  refine View.canon_apply_of_pieces (Val := Elt Ideal) (e := .f32) (fun y : S1x2304x512.Idx => ∑ k : Fin 2048, h (y 1).val k.val * g k.val (y 2).val) _ ?_ y
    (cover0_A_2 c i a1 h1 a2 h2 a3 h3 x0 x1 y)
  unfold kernelRun0_A
  dsimp only
  sl_unfold_words
  simp only [View.readAt_eq_ld, h2.read_unread, View.ld_unit_zero (S := S1x2048x512) hz3]
  exact trips_is c i a1 h1 a2 h2 a3 h3 hx0 hx1 _ le_rfl
end

theorem blk0 (t : Fin cfg0.N) : Is (iblk m c 0 t) (H m c) := fun j => by
  have hi : win0_0.index t 0 = 0 ∧ win0_0.index t 1 = 0 := (by decide +kernel : ∀ t : Fin grid0.N, win0_0.index t 0 = 0 ∧ win0_0.index t 1 = 0) t
  unfold iblk
  rw [View.read_apply]
  exact read2 _ _ (by show win0_0.index t 0 * 2304 + 1 * (j 0).val = _; omega) (by show win0_0.index t 1 * 2048 + 1 * (j 1).val = _; omega)

theorem blk1 (t : Fin cfg0.N) : Is1 (iblk m c 1 t) fun k q => W m c k (512 * t.val + q) := fun j => by
  have hi : win0_1.index t 0 = 0 ∧ win0_1.index t 1 = 0 ∧ win0_1.index t 2 = t.val :=
    (by decide +kernel : ∀ t : Fin grid0.N, win0_1.index t 0 = 0 ∧ win0_1.index t 1 = 0 ∧ win0_1.index t 2 = t.val) t
  have h0 : (j 0).val < 1 := (j 0).isLt
  have h2 : (j 2).val < 512 := (j 2).isLt
  unfold iblk
  rw [View.read_apply]
  exact read3 _ _ (by show win0_1.index t 0 * 1 + 1 * (j 0).val = _; omega) (by show win0_1.index t 1 * 2048 + 1 * (j 1).val = _; omega)
    (by show win0_1.index t 2 * 512 + 1 * (j 2).val = _; omega)

/-- The kernel's array. -/
def G : Buf (Elt Ideal) ((c : Thread nD τ).loc main_v0) := fun (i : S1x2304x2048.Idx) => layer (H m c) (W m c) 2048 (i 1).val ((i 2).val)

theorem G_at (i : S1x2304x2048.Idx) {r q : ℕ} (h1 : (i 1).val = r) (h2 : (i 2).val = q) : G m c i = layer (H m c) (W m c) 2048 r q := by
  subst h1 h2
  rfl

/-- Where the output's block stands. -/
theorem idx2 (t : Fin cfg0.N) : win0_2.index t 0 = 0 ∧ win0_2.index t 1 = 0 ∧ win0_2.index t 2 = t.val :=
  (by decide +kernel : ∀ t : Fin grid0.N, win0_2.index t 0 = 0 ∧ win0_2.index t 1 = 0 ∧ win0_2.index t 2 = t.val) t

theorem flushed_eq (t : Fin cfg0.N) (hf : (cfg0.win 2).flush t = true) : (dats m 0 c).flushed 2 t = ((cfg0.win 2).blk t).view.read (Elt Ideal) (G m c) := by
  have hi := idx2 t
  rw [Value.flushed2_A]
  funext j
  have h0 : (j 0).val < 1 := (j 0).isLt
  refine (outA c (grid0.coords t) (ms0_0 t) (hs0_0 t) (ms0_1 t) (hs0_1 t) (ms0_2 t) (hs0_2 t) (blk0 m c t) (blk1 m c t) j).trans ?_
  rw [View.read_apply]
  refine Eq.trans ?_ (cast_eq _ _).symm
  refine Eq.trans ?_ (G_at m c _ (r := (j 1).val) (q := 512 * t.val + (j 2).val) (by show win0_2.index t 1 * 2304 + 1 * (j 1).val = (j 1).val; omega)
    (by show win0_2.index t 2 * 512 + 1 * (j 2).val = _; omega)).symm
  exact (Finset.sum_range fun k => H m c (j 1).val k * W m c k (512 * t.val + (j 2).val)).symm

theorem final : (dats m 0 c).arrAt 2 cfg0.N = G m c :=
  (dats m 0 c).arrAt_eq_of_cover 2 (G m c) (flushed_eq m c) fun i => by
    have h0 : (i 0).val < 1 := (i 0).isLt
    have h1 : (i 1).val < 2304 := (i 1).isLt
    have h2 : (i 2).val < 2048 := (i 2).isLt
    have hN : cfg0.N = 4 := by decide +kernel
    let t : Fin cfg0.N := ⟨(i 2).val / 512, by omega⟩
    have ht : t.val = (i 2).val / 512 := rfl
    have hi := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1; omega
    | ⟨1, _⟩ => show win0_2.index t 1 * 2304 ≤ (i 1).val ∧ (i 1).val < win0_2.index t 1 * 2304 + 2304; omega
    | ⟨2, _⟩ => show win0_2.index t 2 * 512 ≤ (i 2).val ∧ (i 2).val < win0_2.index t 2 * 512 + 512; omega

end Cert.EvOutIdeal.At

namespace Cert.Proof.EvOut

open Idealize.ShloMosaic Idealize.SL.Sem Cert.Mix Cert.Products

section
open Cert.EvOutRefIdeal Cert.EvOutRefIdeal.Read

/-- The reference's array. -/
theorem host (x0 : FVec Ideal S2304x2048 .bf16) (x1 : FVec Ideal S1x2048x2048 .bf16) :
    val_main_v4 (F := Ideal) x0 x1 = fun (i : S1x2304x2048.Idx) => layer (at2 x0) (at3 x1 0) 2048 (i 1).val ((i 2).val) := by
  funext i
  have h0 : (i 0).val < 1 := (i 0).isLt
  have h1 : (i 1).val < 2304 := (i 1).isLt
  have h2 : (i 2).val < 2048 := (i 2).isLt
  rw [val_main_v4_apply, val_main_v3_apply]
  unfold layer
  rw [Finset.sum_range]
  refine Finset.sum_congr rfl fun k _ => ?_
  have hk := k.isLt
  refine congrArg₂ (· * ·) ?_ ?_
  · show x0 _ = _
    exact read2 _ _ rfl rfl
  · show val_main_v1 (F := Ideal) x1 _ = _
    rw [val_main_v1_apply]
    exact read3 _ _ rfl (by show (k.val * 2048 + (i 2).val) / 2048 % 2048 = k.val; omega) (by show (k.val * 2048 + (i 2).val) % 2048 = (i 2).val; omega)

theorem host_of (V0 : Valuation τ sig (Elt Ideal)) (x0 : FVec Ideal S2304x2048 .bf16) (x1 : FVec Ideal S1x2048x2048 .bf16)
    (e0 : V0 (Proc.devRef .tc main_arg0) = x0) (e1 : V0 (Proc.devRef .tc main_arg1) = x1) :
    val_main_v4 (F := Ideal) (V0 (Proc.devRef .tc main_arg0)) (V0 (Proc.devRef .tc main_arg1))
      = fun (i : S1x2304x2048.Idx) => layer (at2 x0) (at3 x1 0) 2048 (i 1).val ((i 2).val) := by
  rw [e0, e1]
  exact host x0 x1

end

theorem frame : Cert.quiescent_EvOutRefIdeal := fun m g _ =>
  (θ_run (EvOutRefIdeal.defs (F := Ideal)) _ _).mono
    (fun r h => ⟨fun c => (h c).2, Idealize.ShloMosaic.sem_eq_zero_of_no_sems (by decide) r.2⟩)
    (EvOutRefIdeal.Value.run (F := Ideal) m g)

theorem value : Cert.algebraic_EvOutIdeal_EvOutRefIdeal := by
  intro m g m' g' _ hag
  refine ⟨EvOutIdeal.At.G m,
    (θ_run EvOutIdeal.defs _ _).mono (fun r h c => ?_) (EvOutIdeal.Value.run_blocks (F := Ideal) m g),
    (θ_run EvOutRefIdeal.defs _ _).mono (fun r h c => ?_) (EvOutRefIdeal.Value.run (F := Ideal) m' g')⟩
  · exact ⟨(h c).1.trans (EvOutIdeal.At.final m c), (h c).2⟩
  · exact ⟨((h c).1.trans (EvOutRefIdeal.Read.val_main_v4_eq _ _).symm).trans
      (host_of (StableHlo.launchContents m' c) _ _ (hag c).1 (hag c).2), (h c).2⟩

end Cert.Proof.EvOut

end
-- ==== Proof.OdOut.lean ====
/-  The odd layer's output product: the kernel's blocks beside the reference's one product. -/
module

public import proofs.«01_k».proof.Defs
public import proofs.«01_k».proof.Proof.Products
public import proofs.«01_k».proof.Proof.Gen.OdOutIdeal.Value
public import proofs.«01_k».proof.Proof.Gen.OdOutRefIdeal.Run
public import proofs.«01_k».proof.Proof.Gen.OdOutRefIdeal.Read
public import Idealize.ShloMosaic.Lib.Claim
public import Idealize.ShloMosaic.Lib.Quiescent

@[expose] public section

noncomputable section

namespace Cert.OdOutIdeal.At

open Cert.OdOutIdeal Cert.OdOutIdeal.Gen Cert.Mix Cert.Products Idealize.ShloMosaic Idealize.ShloMosaic.TcCoe Idealize.SL.Sem

variable (m : (ℓ : Loc nD τ sig) → Buf (Elt Ideal) ℓ) (c : Dev nD)

/-- The layer's value, and the weights. -/
abbrev H : ℕ → ℕ → EReal := at2 (a := 2048) (b := 2048) (m ((c : Thread nD τ).loc main_arg0))
abbrev W : ℕ → ℕ → EReal := at3 (a := 1) (b := 2048) (c := 2048) (m ((c : Thread nD τ).loc main_arg1)) 0

theorem pay_is {v : Vec Ideal S512x2048 .bf16} {x : Vec Ideal S1x2048x512 .bf16} {h g : ℕ → ℕ → EReal} (hv : Is v h) (hx : Is1 x g) :
    Is1 (k0_pay1 (F := Ideal) x v) fun r q => ∑ k : Fin 2048, h r k.val * g k.val q :=
  add_is (φ := .f32) (fun j => nn_is (φ₁ := .bf16) (φ₂ := .bf16) _ rfl hv (drop_is (φ := .bf16) hx _) j) _

/-- A trip's piece: the rows from `o` on. -/
theorem piece {x0 : Vec Ideal S2048x2048 .bf16} {x : Vec Ideal S1x2048x512 .bf16} {h g : ℕ → ℕ → EReal} (hx0 : Is x0 h) (hx : Is1 x g) {off : Fin 2 → ℕ} {o : ℕ}
    (ho : off = ![o, 0]) (inb) (j : S1x512x512.Idx) :
    k0_pay1 (F := Ideal) x (View.ld x0 (Rect.unit (s := S2048x2048) off S512x2048.size inb)) j
      = ∑ k : Fin 2048, h (o + 1 * (j 1).val) k.val * g k.val (0 + 1 * (j 2).val) := by
  subst ho
  refine (pay_is (h := fun r k => h (o + r) (0 + k)) (fun j => ld_is (e := .bf16) hx0 inb j) hx j).trans ?_
  simp only [Nat.zero_add, Nat.one_mul]

section
variable (i : grid0.Coords) (a1 : Memref sig .tc .vmem S2048x2048 .bf16) (h1 : a1.IsWhole) (a2 : Memref sig .tc .vmem S1x2048x512 .bf16) (h2 : a2.IsWhole)
  (a3 : Memref sig .tc .vmem S1x2048x512 .f32) (h3 : a3.IsWhole)

theorem off1_eq : ∀ k : Fin k0_t1_loop.trips, k0_off1 k = ![512 * k.val, 0] := by decide +kernel
theorem off2_eq : ∀ k : Fin k0_t1_loop.trips, k0_off2 k = ![0, 512 * k.val, 0] := by decide +kernel

/-- What the trips before `n` store: pieces of the one product. -/
theorem trips_is {x0 : Vec Ideal S2048x2048 .bf16} {x1 : Vec Ideal S1x2048x512 .bf16} {h g : ℕ → ℕ → EReal} (hx0 : Is x0 h) (hx1 : Is1 x1 g) :
    ∀ n : ℕ, n ≤ k0_t1_loop.trips → ∀ p ∈ pb_k0_t1 (F := Ideal) Variants.none c none i a1 h1 a2 h2 a3 h3 x1 (h1.unread x0) n, ∀ x : p.1.shape.Idx,
      p.2 x = ∑ k : Fin 2048, h (p.1.emb x 1).val k.val * g k.val (p.1.emb x 2).val
  | 0, _ => fun p hp => nomatch hp
  | n + 1, hn => fun p hp x => by
    rw [pb_k0_t1_succ Variants.none c none i a1 h1 a2 h2 a3 h3 x1 (h1.unread x0) ⟨n, hn⟩] at hp
    rcases List.mem_append.mp hp with hp | hp
    · unfold tripL_k0_t1 trip_k0_t1 at hp
      dsimp only at hp
      obtain rfl := List.mem_singleton.mp hp
      simp only [View.readAt_eq_ld, h1.read_unread]
      refine (piece hx0 hx1 (off1_eq ⟨n, hn⟩) _ x).trans ?_
      have e1 : k0_off2 ⟨n, hn⟩ 1 = 512 * n := congrFun (off2_eq ⟨n, hn⟩) 1
      have e2 : k0_off2 ⟨n, hn⟩ 2 = 0 := congrFun (off2_eq ⟨n, hn⟩) 2
      show _ = ∑ k : Fin 2048, h (k0_off2 ⟨n, hn⟩ 1 + 1 * (x 1).val) k.val * g k.val (k0_off2 ⟨n, hn⟩ 2 + 1 * (x 2).val)
      rw [e1, e2]
    · exact trips_is hx0 hx1 n (Nat.le_of_succ_le hn) p hp x

theorem outA {x0 : Vec Ideal S2048x2048 .bf16} {x1 : Vec Ideal S1x2048x512 .bf16} {h g : ℕ → ℕ → EReal} (hx0 : Is x0 h) (hx1 : Is1 x1 g) :
    Is1 (out0_A_2 c i a1 h1 a2 h2 a3 h3 x0 x1) fun r q => ∑ k : Fin 2048, h r k.val * g k.val q := fun y => by
  unfold out0_A_2
  rw [View.read_writes_eq_canon _ _ _ (cover0_A_2 c i a1 h1 a2 h2 a3 h3 x0 x1)]
  refine View.canon_apply_of_pieces (Val := Elt Ideal) (e := .f32) (fun y : S1x2048x512.Idx => ∑ k : Fin 2048, h (y 1).val k.val * g k.val (y 2).val) _ ?_ y
    (cover0_A_2 c i a1 h1 a2 h2 a3 h3 x0 x1 y)
  unfold kernelRun0_A
  dsimp only
  sl_unfold_words
  simp only [View.readAt_eq_ld, h2.read_unread, View.ld_unit_zero (S := S1x2048x512) hz3]
  exact trips_is c i a1 h1 a2 h2 a3 h3 hx0 hx1 _ le_rfl
end

theorem blk0 (t : Fin cfg0.N) : Is (iblk m c 0 t) (H m c) := fun j => by
  have hi : win0_0.index t 0 = 0 ∧ win0_0.index t 1 = 0 := (by decide +kernel : ∀ t : Fin grid0.N, win0_0.index t 0 = 0 ∧ win0_0.index t 1 = 0) t
  unfold iblk
  rw [View.read_apply]
  exact read2 _ _ (by show win0_0.index t 0 * 2048 + 1 * (j 0).val = _; omega) (by show win0_0.index t 1 * 2048 + 1 * (j 1).val = _; omega)

theorem blk1 (t : Fin cfg0.N) : Is1 (iblk m c 1 t) fun k q => W m c k (512 * t.val + q) := fun j => by
  have hi : win0_1.index t 0 = 0 ∧ win0_1.index t 1 = 0 ∧ win0_1.index t 2 = t.val :=
    (by decide +kernel : ∀ t : Fin grid0.N, win0_1.index t 0 = 0 ∧ win0_1.index t 1 = 0 ∧ win0_1.index t 2 = t.val) t
  have h0 : (j 0).val < 1 := (j 0).isLt
  have h2 : (j 2).val < 512 := (j 2).isLt
  unfold iblk
  rw [View.read_apply]
  exact read3 _ _ (by show win0_1.index t 0 * 1 + 1 * (j 0).val = _; omega) (by show win0_1.index t 1 * 2048 + 1 * (j 1).val = _; omega)
    (by show win0_1.index t 2 * 512 + 1 * (j 2).val = _; omega)

/-- The kernel's array. -/
def G : Buf (Elt Ideal) ((c : Thread nD τ).loc main_v0) := fun (i : S1x2048x2048.Idx) => layer (H m c) (W m c) 2048 (i 1).val ((i 2).val)

theorem G_at (i : S1x2048x2048.Idx) {r q : ℕ} (h1 : (i 1).val = r) (h2 : (i 2).val = q) : G m c i = layer (H m c) (W m c) 2048 r q := by
  subst h1 h2
  rfl

/-- Where the output's block stands. -/
theorem idx2 (t : Fin cfg0.N) : win0_2.index t 0 = 0 ∧ win0_2.index t 1 = 0 ∧ win0_2.index t 2 = t.val :=
  (by decide +kernel : ∀ t : Fin grid0.N, win0_2.index t 0 = 0 ∧ win0_2.index t 1 = 0 ∧ win0_2.index t 2 = t.val) t

theorem flushed_eq (t : Fin cfg0.N) (hf : (cfg0.win 2).flush t = true) : (dats m 0 c).flushed 2 t = ((cfg0.win 2).blk t).view.read (Elt Ideal) (G m c) := by
  have hi := idx2 t
  rw [Value.flushed2_A]
  funext j
  have h0 : (j 0).val < 1 := (j 0).isLt
  refine (outA c (grid0.coords t) (ms0_0 t) (hs0_0 t) (ms0_1 t) (hs0_1 t) (ms0_2 t) (hs0_2 t) (blk0 m c t) (blk1 m c t) j).trans ?_
  rw [View.read_apply]
  refine Eq.trans ?_ (cast_eq _ _).symm
  refine Eq.trans ?_ (G_at m c _ (r := (j 1).val) (q := 512 * t.val + (j 2).val) (by show win0_2.index t 1 * 2048 + 1 * (j 1).val = (j 1).val; omega)
    (by show win0_2.index t 2 * 512 + 1 * (j 2).val = _; omega)).symm
  exact (Finset.sum_range fun k => H m c (j 1).val k * W m c k (512 * t.val + (j 2).val)).symm

theorem final : (dats m 0 c).arrAt 2 cfg0.N = G m c :=
  (dats m 0 c).arrAt_eq_of_cover 2 (G m c) (flushed_eq m c) fun i => by
    have h0 : (i 0).val < 1 := (i 0).isLt
    have h1 : (i 1).val < 2048 := (i 1).isLt
    have h2 : (i 2).val < 2048 := (i 2).isLt
    have hN : cfg0.N = 4 := by decide +kernel
    let t : Fin cfg0.N := ⟨(i 2).val / 512, by omega⟩
    have ht : t.val = (i 2).val / 512 := rfl
    have hi := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1; omega
    | ⟨1, _⟩ => show win0_2.index t 1 * 2048 ≤ (i 1).val ∧ (i 1).val < win0_2.index t 1 * 2048 + 2048; omega
    | ⟨2, _⟩ => show win0_2.index t 2 * 512 ≤ (i 2).val ∧ (i 2).val < win0_2.index t 2 * 512 + 512; omega

end Cert.OdOutIdeal.At

namespace Cert.Proof.OdOut

open Idealize.ShloMosaic Idealize.SL.Sem Cert.Mix Cert.Products

section
open Cert.OdOutRefIdeal Cert.OdOutRefIdeal.Read

/-- The reference's array. -/
theorem host (x0 : FVec Ideal S2048x2048 .bf16) (x1 : FVec Ideal S1x2048x2048 .bf16) :
    val_main_v4 (F := Ideal) x0 x1 = fun (i : S1x2048x2048.Idx) => layer (at2 x0) (at3 x1 0) 2048 (i 1).val ((i 2).val) := by
  funext i
  have h0 : (i 0).val < 1 := (i 0).isLt
  have h1 : (i 1).val < 2048 := (i 1).isLt
  have h2 : (i 2).val < 2048 := (i 2).isLt
  rw [val_main_v4_apply, val_main_v3_apply]
  unfold layer
  rw [Finset.sum_range]
  refine Finset.sum_congr rfl fun k _ => ?_
  have hk := k.isLt
  refine congrArg₂ (· * ·) ?_ ?_
  · show x0 _ = _
    exact read2 _ _ rfl rfl
  · show val_main_v1 (F := Ideal) x1 _ = _
    rw [val_main_v1_apply]
    exact read3 _ _ rfl (by show (k.val * 2048 + (i 2).val) / 2048 % 2048 = k.val; omega) (by show (k.val * 2048 + (i 2).val) % 2048 = (i 2).val; omega)

theorem host_of (V0 : Valuation τ sig (Elt Ideal)) (x0 : FVec Ideal S2048x2048 .bf16) (x1 : FVec Ideal S1x2048x2048 .bf16)
    (e0 : V0 (Proc.devRef .tc main_arg0) = x0) (e1 : V0 (Proc.devRef .tc main_arg1) = x1) :
    val_main_v4 (F := Ideal) (V0 (Proc.devRef .tc main_arg0)) (V0 (Proc.devRef .tc main_arg1))
      = fun (i : S1x2048x2048.Idx) => layer (at2 x0) (at3 x1 0) 2048 (i 1).val ((i 2).val) := by
  rw [e0, e1]
  exact host x0 x1

end

theorem frame : Cert.quiescent_OdOutRefIdeal := fun m g _ =>
  (θ_run (OdOutRefIdeal.defs (F := Ideal)) _ _).mono
    (fun r h => ⟨fun c => (h c).2, Idealize.ShloMosaic.sem_eq_zero_of_no_sems (by decide) r.2⟩)
    (OdOutRefIdeal.Value.run (F := Ideal) m g)

theorem value : Cert.algebraic_OdOutIdeal_OdOutRefIdeal := by
  intro m g m' g' _ hag
  refine ⟨OdOutIdeal.At.G m,
    (θ_run OdOutIdeal.defs _ _).mono (fun r h c => ?_) (OdOutIdeal.Value.run_blocks (F := Ideal) m g),
    (θ_run OdOutRefIdeal.defs _ _).mono (fun r h c => ?_) (OdOutRefIdeal.Value.run (F := Ideal) m' g')⟩
  · exact ⟨(h c).1.trans (OdOutIdeal.At.final m c), (h c).2⟩
  · exact ⟨((h c).1.trans (OdOutRefIdeal.Read.val_main_v4_eq _ _).symm).trans
      (host_of (StableHlo.launchContents m' c) _ _ (hag c).1 (hag c).2), (h c).2⟩

end Cert.Proof.OdOut

end
-- ==== Proof.Adam.lean ====
/-  One AdamW step of one element: the new first moment, the new second moment and the change of the weight, over the constants both
    programs print. -/
module

public import Idealize.ShloMosaic.Lib.ValueIdx
public import Idealize.ShloMosaic.Lib.IdealHost
public import Idealize.ShloMosaic.PureOps.Ideal.Laws

@[expose] public section

noncomputable section

namespace Cert.Adam

open Idealize.ShloMosaic

/-- The first moment: nine tenths of the old one and a tenth of the gradient. -/
def mom (g m : Ideal .f32) : Ideal .f32 :=
  FloatOps.addf (FloatOps.mulf (FloatOps.ofBits .f32 0x3F666666#32) m) (FloatOps.mulf (FloatOps.ofBits .f32 0x3DCCCCCD#32) g)

/-- The second moment. -/
def sqr (g v : Ideal .f32) : Ideal .f32 :=
  FloatOps.addf (FloatOps.mulf (FloatOps.ofBits .f32 0x3F7FBE77#32) v) (FloatOps.mulf (FloatOps.ofBits .f32 0x3A83126F#32) (FloatOps.mulf g g))

/-- The weight's change: the corrected moments' quotient and the decay. -/
def del (w g m v : Ideal .f32) : Ideal .f32 :=
  FloatOps.mulf (FloatOps.ofBits .f32 0xBA83126F#32) (FloatOps.addf
    (FloatOps.divf (FloatOps.divf (mom g m) (FloatOps.ofBits .f32 0x3F26BD02#32))
      (FloatOps.addf (FloatOps.sqrt (FloatOps.divf (sqr g v) (FloatOps.ofBits .f32 0x3C231ACC#32))) (FloatOps.ofBits .f32 0x322BCC77#32)))
    (FloatOps.mulf (FloatOps.ofBits .f32 0x3C23D70A#32) w))

theorem hz2 : (![0, 0] : Fin 2 → Nat) = 0 := by decide

end Cert.Adam

end
-- ==== Proof.AdaBwd.lean ====
/-  The backward call of the modulation's product, with the weight's AdamW step in the same pass: a block of the gradient, its step and
    a block of the input's gradient per grid point, beside the two products of the differentiated layer and the step of whole arrays. -/
module

public import proofs.«01_k».proof.Defs
public import proofs.«01_k».proof.Proof.Products
public import proofs.«01_k».proof.Proof.Adam
public import proofs.«01_k».proof.Proof.Gen.AdaBwdIdeal.Value
public import proofs.«01_k».proof.Proof.Gen.AdaBwdRefIdeal.Run
public import proofs.«01_k».proof.Proof.Gen.AdaBwdRefIdeal.Read
public import Idealize.ShloMosaic.Lib.Claim
public import Idealize.ShloMosaic.Lib.Quiescent

@[expose] public section

noncomputable section

namespace Cert.AdaBwdIdeal.At

open Cert.AdaBwdIdeal Cert.AdaBwdIdeal.Gen Cert.Mix Cert.Products Cert.Adam Idealize.ShloMosaic Idealize.ShloMosaic.TcCoe Idealize.SL.Sem

/-- The gradient of the weights of layer `l`, and the last eight rows of its input's. -/
def gr (s : (⟨2, ![16, 2048]⟩ : Shape).Idx → EReal) (d : (⟨3, ![2, 16, 1536]⟩ : Shape).Idx → EReal) (l k q : ℕ) : EReal :=
  ∑ r : Fin 16, at2 s r.val k * at3 d l r.val q
def ds (d : (⟨3, ![2, 16, 1536]⟩ : Shape).Idx → EReal) (w : (⟨3, ![2, 2048, 1536]⟩ : Shape).Idx → EReal) (l r k : ℕ) : EReal :=
  ∑ q : Fin 1536, at3 d l (8 + r) q.val * at3 w l k q.val

section Body

variable {v0 : Vec Ideal S1x16x1536 .f32} {v5 : Vec Ideal S16x256 .f32} {w m v : Vec Ideal S1x256x1536 .f32} {d s fw fm fv : ℕ → ℕ → EReal}

theorem pay7_is (hd : Is1 v0 d) (hs : Is v5 s) : Is (k0_pay7 (F := Ideal) v0 v5) fun k q => ∑ r : Fin 16, s r.val k * d r.val q := by
  unfold k0_pay7 k0_pay5
  exact tn_is (φ₁ := .bf16) (φ₂ := .bf16) _ rfl (fun j => hs j) (fun j => drop_is (φ := .f32) hd _ j)

theorem pay9_is {g : ℕ → ℕ → EReal} (hg : Is (k0_pay7 (F := Ideal) v0 v5) g) (hm : Is1 m fm) :
    Is (k0_pay9 (F := Ideal) v0 v5 m) fun k q => mom (g k q) (fm k q) := fun j => by
  unfold k0_pay9
  show mom (k0_pay7 (F := Ideal) v0 v5 j) (shapeCast S256x1536 m _ j) = _
  rw [hg, drop_is (φ := .f32) hm]

theorem pay10_is {g : ℕ → ℕ → EReal} (hg : Is (k0_pay7 (F := Ideal) v0 v5) g) (hv : Is1 v fv) :
    Is (k0_pay10 (F := Ideal) v0 v5 v) fun k q => sqr (g k q) (fv k q) := fun j => by
  unfold k0_pay10
  show sqr (k0_pay7 (F := Ideal) v0 v5 j) (shapeCast S256x1536 v _ j) = _
  rw [hg, drop_is (φ := .f32) hv]

theorem pay1_is {g : ℕ → ℕ → EReal} (hg : Is (k0_pay7 (F := Ideal) v0 v5) g) (hw : Is1 w fw) (hm : Is1 m fm) (hv : Is1 v fv) :
    Is1 (k0_pay1 (F := Ideal) (k0_pay6 w) (k0_pay11 v0 v5 m) (k0_pay12 v0 v5 v) k0_pay13) fun k q => del (fw k q) (g k q) (fm k q) (fv k q) := by
  unfold k0_pay1
  refine add_is (φ := .f32) (fun j => ?_) _
  unfold k0_pay11 k0_pay12 k0_pay6 k0_pay13 k0_pay9 k0_pay10
  show del (shapeCast S256x1536 w _ j) (k0_pay7 (F := Ideal) v0 v5 j) (shapeCast S256x1536 m _ j) (shapeCast S256x1536 v _ j) = _
  rw [hg, drop_is (φ := .f32) hw, drop_is (φ := .f32) hm, drop_is (φ := .f32) hv]

theorem pay4_is (hd : Is1 v0 d) (hw : Is1 w fw) : Is1 (k0_pay4 (F := Ideal) (k0_pay5 v0) (k0_pay6 w)) fun r k => ∑ q : Fin 1536, d (8 + r) q.val * fw k q.val := by
  unfold k0_pay4 k0_pay5 k0_pay6
  refine add_is (φ := .f32) (nt_is (φ₁ := .bf16) (φ₂ := .bf16) (f := fun r q => d (8 + r) q) _ rfl (fun j => ?_) (fun j => drop_is (φ := .f32) hw _ j)) _
  have h0 : (j 0).val < 8 := (j 0).isLt
  have h1 : (j 1).val < 1536 := (j 1).isLt
  refine (extractStridedSlice_apply ![8, 0] _ _ j (ValueIdx.ix2 ⟨8 + (j 0).val, by omega⟩ ⟨(j 1).val, h1⟩) (fun a => match a with
    | ⟨0, _⟩ => rfl
    | ⟨1, _⟩ => (Nat.zero_add _).symm)).trans ?_
  exact drop_is (φ := .f32) hd _ _

end Body

variable (m : (ℓ : Loc nD τ sig) → Buf (Elt Ideal) ℓ) (c : Dev nD)

/-- The five arguments: the layer's input, the cotangent, the weights and their moments. -/
abbrev Sx : (⟨2, ![16, 2048]⟩ : Shape).Idx → EReal := m ((c : Thread nD τ).loc main_arg0)
abbrev Dx : (⟨3, ![2, 16, 1536]⟩ : Shape).Idx → EReal := m ((c : Thread nD τ).loc main_arg1)
abbrev Wx : (⟨3, ![2, 2048, 1536]⟩ : Shape).Idx → EReal := m ((c : Thread nD τ).loc main_arg2)
abbrev Mx : (⟨3, ![2, 2048, 1536]⟩ : Shape).Idx → EReal := m ((c : Thread nD τ).loc main_arg3)
abbrev Vx : (⟨3, ![2, 2048, 1536]⟩ : Shape).Idx → EReal := m ((c : Thread nD τ).loc main_arg4)

/-- The input blocks at point `t`: layer `t / 8`, rows `256 (t % 8)` on. -/
theorem blk0 (t : Fin cfg0.N) : Is (iblk m c 0 t) fun r q => at2 (Sx m c) r (256 * (t.val % 8) + q) := fun j => by
  have hi : win0_0.index t 0 = 0 ∧ win0_0.index t 1 = t.val % 8 :=
    (by decide +kernel : ∀ t : Fin grid0.N, win0_0.index t 0 = 0 ∧ win0_0.index t 1 = t.val % 8) t
  unfold iblk
  rw [View.read_apply]
  exact read2 _ _ (by show win0_0.index t 0 * 16 + 1 * (j 0).val = _; omega) (by show win0_0.index t 1 * 256 + 1 * (j 1).val = _; omega)

theorem blk1 (t : Fin cfg0.N) : Is1 (iblk m c 1 t) fun r q => at3 (Dx m c) (t.val / 8) r q := fun j => by
  have hi : win0_1.index t 0 = t.val / 8 ∧ win0_1.index t 1 = 0 ∧ win0_1.index t 2 = 0 :=
    (by decide +kernel : ∀ t : Fin grid0.N, win0_1.index t 0 = t.val / 8 ∧ win0_1.index t 1 = 0 ∧ win0_1.index t 2 = 0) t
  have h0 : (j 0).val < 1 := (j 0).isLt
  unfold iblk
  rw [View.read_apply]
  exact read3 _ _ (by show win0_1.index t 0 * 1 + 1 * (j 0).val = _; omega) (by show win0_1.index t 1 * 16 + 1 * (j 1).val = _; omega)
    (by show win0_1.index t 2 * 1536 + 1 * (j 2).val = _; omega)

theorem blk2 (t : Fin cfg0.N) : Is1 (iblk m c 2 t) fun r q => at3 (Wx m c) (t.val / 8) (256 * (t.val % 8) + r) q := fun j => by
  have hi : win0_2.index t 0 = t.val / 8 ∧ win0_2.index t 1 = t.val % 8 ∧ win0_2.index t 2 = 0 :=
    (by decide +kernel : ∀ t : Fin grid0.N, win0_2.index t 0 = t.val / 8 ∧ win0_2.index t 1 = t.val % 8 ∧ win0_2.index t 2 = 0) t
  have h0 : (j 0).val < 1 := (j 0).isLt
  unfold iblk
  rw [View.read_apply]
  exact read3 _ _ (by show win0_2.index t 0 * 1 + 1 * (j 0).val = _; omega) (by show win0_2.index t 1 * 256 + 1 * (j 1).val = _; omega)
    (by show win0_2.index t 2 * 1536 + 1 * (j 2).val = _; omega)

theorem blk3 (t : Fin cfg0.N) : Is1 (iblk m c 3 t) fun r q => at3 (Mx m c) (t.val / 8) (256 * (t.val % 8) + r) q := fun j => by
  have hi : win0_3.index t 0 = t.val / 8 ∧ win0_3.index t 1 = t.val % 8 ∧ win0_3.index t 2 = 0 :=
    (by decide +kernel : ∀ t : Fin grid0.N, win0_3.index t 0 = t.val / 8 ∧ win0_3.index t 1 = t.val % 8 ∧ win0_3.index t 2 = 0) t
  have h0 : (j 0).val < 1 := (j 0).isLt
  unfold iblk
  rw [View.read_apply]
  exact read3 _ _ (by show win0_3.index t 0 * 1 + 1 * (j 0).val = _; omega) (by show win0_3.index t 1 * 256 + 1 * (j 1).val = _; omega)
    (by show win0_3.index t 2 * 1536 + 1 * (j 2).val = _; omega)

theorem blk4 (t : Fin cfg0.N) : Is1 (iblk m c 4 t) fun r q => at3 (Vx m c) (t.val / 8) (256 * (t.val % 8) + r) q := fun j => by
  have hi : win0_4.index t 0 = t.val / 8 ∧ win0_4.index t 1 = t.val % 8 ∧ win0_4.index t 2 = 0 :=
    (by decide +kernel : ∀ t : Fin grid0.N, win0_4.index t 0 = t.val / 8 ∧ win0_4.index t 1 = t.val % 8 ∧ win0_4.index t 2 = 0) t
  have h0 : (j 0).val < 1 := (j 0).isLt
  unfold iblk
  rw [View.read_apply]
  exact read3 _ _ (by show win0_4.index t 0 * 1 + 1 * (j 0).val = _; omega) (by show win0_4.index t 1 * 256 + 1 * (j 1).val = _; omega)
    (by show win0_4.index t 2 * 1536 + 1 * (j 2).val = _; omega)

/-- The kernel's five arrays, at layer `l`, row `k`, column `q`. -/
def g5 (l k q : ℕ) : EReal := gr (Sx m c) (Dx m c) l k q
def g6 (l k q : ℕ) : EReal := del (at3 (Wx m c) l k q) (gr (Sx m c) (Dx m c) l k q) (at3 (Mx m c) l k q) (at3 (Vx m c) l k q)
def g7 (l k q : ℕ) : EReal := mom (gr (Sx m c) (Dx m c) l k q) (at3 (Mx m c) l k q)
def g8 (l k q : ℕ) : EReal := sqr (gr (Sx m c) (Dx m c) l k q) (at3 (Vx m c) l k q)
def g9 (l r k : ℕ) : EReal := ds (Dx m c) (Wx m c) l r k

theorem grad_is (t : Fin cfg0.N) : Is (k0_pay7 (F := Ideal) (iblk m c 1 t) (iblk m c 0 t)) fun k q => gr (Sx m c) (Dx m c) (t.val / 8) (256 * (t.val % 8) + k) q :=
  pay7_is (blk1 m c t) (blk0 m c t)

def G5 : Buf (Elt Ideal) ((c : Thread nD τ).loc main_v0_0) := fun i : S2x2048x1536.Idx => g5 m c (i 0).val (i 1).val (i 2).val

theorem G5_at (i : S2x2048x1536.Idx) {l k q : ℕ} (h0 : (i 0).val = l) (h1 : (i 1).val = k) (h2 : (i 2).val = q) : G5 m c i = g5 m c l k q := by
  subst h0 h1 h2
  rfl

theorem flushed5_eq (t : Fin cfg0.N) (hf : (cfg0.win 5).flush t = true) : (dats m 0 c).flushed 5 t = ((cfg0.win 5).blk t).view.read (Elt Ideal) (G5 m c) := by
  have hi : win0_5.index t 0 = t.val / 8 ∧ win0_5.index t 1 = t.val % 8 ∧ win0_5.index t 2 = 0 :=
    (by decide +kernel : ∀ t : Fin grid0.N, win0_5.index t 0 = t.val / 8 ∧ win0_5.index t 1 = t.val % 8 ∧ win0_5.index t 2 = 0) t
  rw [Value.flushed5]
  funext j
  have h0 : (j 0).val < 1 := (j 0).isLt
  show out0_5 (iblk m c 0 t) (iblk m c 1 t) (iblk m c 2 t) (iblk m c 3 t) (iblk m c 4 t) j = _
  unfold_out out0_5
  rw [View.canon_unit_zero (S := S1x256x1536) hz3]
  simp only [View.ld_unit_zero (S := S16x256) Products.hz2, View.ld_unit_zero (S := S1x16x1536) hz3, View.ld_unit_zero (S := S1x256x1536) hz3]
  rw [View.read_apply]
  have hp : Is1 (k0_pay8 (F := Ideal) (iblk m c 1 t) (iblk m c 0 t)) fun r q => g5 m c (t.val / 8) (256 * (t.val % 8) + r) q := add_is (φ := .f32) (grad_is m c t) _
  refine (hp j).trans ?_
  refine Eq.trans ?_ (cast_eq _ _).symm
  exact (G5_at m c _ (by show win0_5.index t 0 * 1 + 1 * (j 0).val = _; omega) (by show win0_5.index t 1 * 256 + 1 * (j 1).val = _; omega)
    (by show win0_5.index t 2 * 1536 + 1 * (j 2).val = _; omega)).symm

theorem final5 : (dats m 0 c).arrAt 5 cfg0.N = G5 m c :=
  (dats m 0 c).arrAt_eq_of_cover 5 (G5 m c) (flushed5_eq m c) fun i => by
    have h0 : (i 0).val < 2 := (i 0).isLt
    have h1 : (i 1).val < 2048 := (i 1).isLt
    have h2 : (i 2).val < 1536 := (i 2).isLt
    have hN : cfg0.N = 16 := by decide +kernel
    let t : Fin cfg0.N := ⟨8 * (i 0).val + (i 1).val / 256, by omega⟩
    have ht : t.val = 8 * (i 0).val + (i 1).val / 256 := rfl
    have hi : win0_5.index t 0 = t.val / 8 ∧ win0_5.index t 1 = t.val % 8 ∧ win0_5.index t 2 = 0 :=
      (by decide +kernel : ∀ t : Fin grid0.N, win0_5.index t 0 = t.val / 8 ∧ win0_5.index t 1 = t.val % 8 ∧ win0_5.index t 2 = 0) t
    refine ⟨t, flush0_5 t, ?_⟩
    show i ∈ ((View.whole main_v0_0).slice (win0_5.rect t)).set
    rw [View.set_slice_whole, Rect.mem_set_unit]
    intro a
    match a with
    | ⟨0, _⟩ => show win0_5.index t 0 * 1 ≤ (i 0).val ∧ (i 0).val < win0_5.index t 0 * 1 + 1; omega
    | ⟨1, _⟩ => show win0_5.index t 1 * 256 ≤ (i 1).val ∧ (i 1).val < win0_5.index t 1 * 256 + 256; omega
    | ⟨2, _⟩ => show win0_5.index t 2 * 1536 ≤ (i 2).val ∧ (i 2).val < win0_5.index t 2 * 1536 + 1536; omega

def G6 : Buf (Elt Ideal) ((c : Thread nD τ).loc main_v0_1) := fun i : S2x2048x1536.Idx => g6 m c (i 0).val (i 1).val (i 2).val

theorem G6_at (i : S2x2048x1536.Idx) {l k q : ℕ} (h0 : (i 0).val = l) (h1 : (i 1).val = k) (h2 : (i 2).val = q) : G6 m c i = g6 m c l k q := by
  subst h0 h1 h2
  rfl

theorem flushed6_eq (t : Fin cfg0.N) (hf : (cfg0.win 6).flush t = true) : (dats m 0 c).flushed 6 t = ((cfg0.win 6).blk t).view.read (Elt Ideal) (G6 m c) := by
  have hi : win0_6.index t 0 = t.val / 8 ∧ win0_6.index t 1 = t.val % 8 ∧ win0_6.index t 2 = 0 :=
    (by decide +kernel : ∀ t : Fin grid0.N, win0_6.index t 0 = t.val / 8 ∧ win0_6.index t 1 = t.val % 8 ∧ win0_6.index t 2 = 0) t
  rw [Value.flushed6]
  funext j
  have h0 : (j 0).val < 1 := (j 0).isLt
  show out0_6 (iblk m c 0 t) (iblk m c 1 t) (iblk m c 2 t) (iblk m c 3 t) (iblk m c 4 t) j = _
  unfold_out out0_6
  rw [View.canon_unit_zero (S := S1x256x1536) hz3]
  simp only [View.ld_unit_zero (S := S16x256) Products.hz2, View.ld_unit_zero (S := S1x16x1536) hz3, View.ld_unit_zero (S := S1x256x1536) hz3]
  rw [View.read_apply]
  have hp : Is1 (k0_pay1 (F := Ideal) (k0_pay6 (iblk m c 2 t)) (k0_pay11 (iblk m c 1 t) (iblk m c 0 t) (iblk m c 3 t)) (k0_pay12 (iblk m c 1 t) (iblk m c 0 t) (iblk m c 4 t)) k0_pay13) fun r q => g6 m c (t.val / 8) (256 * (t.val % 8) + r) q := pay1_is (grad_is m c t) (blk2 m c t) (blk3 m c t) (blk4 m c t)
  refine (hp j).trans ?_
  refine Eq.trans ?_ (cast_eq _ _).symm
  exact (G6_at m c _ (by show win0_6.index t 0 * 1 + 1 * (j 0).val = _; omega) (by show win0_6.index t 1 * 256 + 1 * (j 1).val = _; omega)
    (by show win0_6.index t 2 * 1536 + 1 * (j 2).val = _; omega)).symm

theorem final6 : (dats m 0 c).arrAt 6 cfg0.N = G6 m c :=
  (dats m 0 c).arrAt_eq_of_cover 6 (G6 m c) (flushed6_eq m c) fun i => by
    have h0 : (i 0).val < 2 := (i 0).isLt
    have h1 : (i 1).val < 2048 := (i 1).isLt
    have h2 : (i 2).val < 1536 := (i 2).isLt
    have hN : cfg0.N = 16 := by decide +kernel
    let t : Fin cfg0.N := ⟨8 * (i 0).val + (i 1).val / 256, by omega⟩
    have ht : t.val = 8 * (i 0).val + (i 1).val / 256 := rfl
    have hi : win0_6.index t 0 = t.val / 8 ∧ win0_6.index t 1 = t.val % 8 ∧ win0_6.index t 2 = 0 :=
      (by decide +kernel : ∀ t : Fin grid0.N, win0_6.index t 0 = t.val / 8 ∧ win0_6.index t 1 = t.val % 8 ∧ win0_6.index t 2 = 0) t
    refine ⟨t, flush0_6 t, ?_⟩
    show i ∈ ((View.whole main_v0_1).slice (win0_6.rect t)).set
    rw [View.set_slice_whole, Rect.mem_set_unit]
    intro a
    match a with
    | ⟨0, _⟩ => show win0_6.index t 0 * 1 ≤ (i 0).val ∧ (i 0).val < win0_6.index t 0 * 1 + 1; omega
    | ⟨1, _⟩ => show win0_6.index t 1 * 256 ≤ (i 1).val ∧ (i 1).val < win0_6.index t 1 * 256 + 256; omega
    | ⟨2, _⟩ => show win0_6.index t 2 * 1536 ≤ (i 2).val ∧ (i 2).val < win0_6.index t 2 * 1536 + 1536; omega

def G7 : Buf (Elt Ideal) ((c : Thread nD τ).loc main_v0_2) := fun i : S2x2048x1536.Idx => g7 m c (i 0).val (i 1).val (i 2).val

theorem G7_at (i : S2x2048x1536.Idx) {l k q : ℕ} (h0 : (i 0).val = l) (h1 : (i 1).val = k) (h2 : (i 2).val = q) : G7 m c i = g7 m c l k q := by
  subst h0 h1 h2
  rfl

theorem flushed7_eq (t : Fin cfg0.N) (hf : (cfg0.win 7).flush t = true) : (dats m 0 c).flushed 7 t = ((cfg0.win 7).blk t).view.read (Elt Ideal) (G7 m c) := by
  have hi : win0_7.index t 0 = t.val / 8 ∧ win0_7.index t 1 = t.val % 8 ∧ win0_7.index t 2 = 0 :=
    (by decide +kernel : ∀ t : Fin grid0.N, win0_7.index t 0 = t.val / 8 ∧ win0_7.index t 1 = t.val % 8 ∧ win0_7.index t 2 = 0) t
  rw [Value.flushed7]
  funext j
  have h0 : (j 0).val < 1 := (j 0).isLt
  show out0_7 (iblk m c 0 t) (iblk m c 1 t) (iblk m c 2 t) (iblk m c 3 t) (iblk m c 4 t) j = _
  unfold_out out0_7
  rw [View.canon_unit_zero (S := S1x256x1536) hz3]
  simp only [View.ld_unit_zero (S := S16x256) Products.hz2, View.ld_unit_zero (S := S1x16x1536) hz3, View.ld_unit_zero (S := S1x256x1536) hz3]
  rw [View.read_apply]
  have hp : Is1 (k0_pay2 (F := Ideal) (k0_pay9 (iblk m c 1 t) (iblk m c 0 t) (iblk m c 3 t))) fun r q => g7 m c (t.val / 8) (256 * (t.val % 8) + r) q := add_is (φ := .f32) (pay9_is (grad_is m c t) (blk3 m c t)) _
  refine (hp j).trans ?_
  refine Eq.trans ?_ (cast_eq _ _).symm
  exact (G7_at m c _ (by show win0_7.index t 0 * 1 + 1 * (j 0).val = _; omega) (by show win0_7.index t 1 * 256 + 1 * (j 1).val = _; omega)
    (by show win0_7.index t 2 * 1536 + 1 * (j 2).val = _; omega)).symm

theorem final7 : (dats m 0 c).arrAt 7 cfg0.N = G7 m c :=
  (dats m 0 c).arrAt_eq_of_cover 7 (G7 m c) (flushed7_eq m c) fun i => by
    have h0 : (i 0).val < 2 := (i 0).isLt
    have h1 : (i 1).val < 2048 := (i 1).isLt
    have h2 : (i 2).val < 1536 := (i 2).isLt
    have hN : cfg0.N = 16 := by decide +kernel
    let t : Fin cfg0.N := ⟨8 * (i 0).val + (i 1).val / 256, by omega⟩
    have ht : t.val = 8 * (i 0).val + (i 1).val / 256 := rfl
    have hi : win0_7.index t 0 = t.val / 8 ∧ win0_7.index t 1 = t.val % 8 ∧ win0_7.index t 2 = 0 :=
      (by decide +kernel : ∀ t : Fin grid0.N, win0_7.index t 0 = t.val / 8 ∧ win0_7.index t 1 = t.val % 8 ∧ win0_7.index t 2 = 0) t
    refine ⟨t, flush0_7 t, ?_⟩
    show i ∈ ((View.whole main_v0_2).slice (win0_7.rect t)).set
    rw [View.set_slice_whole, Rect.mem_set_unit]
    intro a
    match a with
    | ⟨0, _⟩ => show win0_7.index t 0 * 1 ≤ (i 0).val ∧ (i 0).val < win0_7.index t 0 * 1 + 1; omega
    | ⟨1, _⟩ => show win0_7.index t 1 * 256 ≤ (i 1).val ∧ (i 1).val < win0_7.index t 1 * 256 + 256; omega
    | ⟨2, _⟩ => show win0_7.index t 2 * 1536 ≤ (i 2).val ∧ (i 2).val < win0_7.index t 2 * 1536 + 1536; omega

def G8 : Buf (Elt Ideal) ((c : Thread nD τ).loc main_v0_3) := fun i : S2x2048x1536.Idx => g8 m c (i 0).val (i 1).val (i 2).val

theorem G8_at (i : S2x2048x1536.Idx) {l k q : ℕ} (h0 : (i 0).val = l) (h1 : (i 1).val = k) (h2 : (i 2).val = q) : G8 m c i = g8 m c l k q := by
  subst h0 h1 h2
  rfl

theorem flushed8_eq (t : Fin cfg0.N) (hf : (cfg0.win 8).flush t = true) : (dats m 0 c).flushed 8 t = ((cfg0.win 8).blk t).view.read (Elt Ideal) (G8 m c) := by
  have hi : win0_8.index t 0 = t.val / 8 ∧ win0_8.index t 1 = t.val % 8 ∧ win0_8.index t 2 = 0 :=
    (by decide +kernel : ∀ t : Fin grid0.N, win0_8.index t 0 = t.val / 8 ∧ win0_8.index t 1 = t.val % 8 ∧ win0_8.index t 2 = 0) t
  rw [Value.flushed8]
  funext j
  have h0 : (j 0).val < 1 := (j 0).isLt
  show out0_8 (iblk m c 0 t) (iblk m c 1 t) (iblk m c 2 t) (iblk m c 3 t) (iblk m c 4 t) j = _
  unfold_out out0_8
  rw [View.canon_unit_zero (S := S1x256x1536) hz3]
  simp only [View.ld_unit_zero (S := S16x256) Products.hz2, View.ld_unit_zero (S := S1x16x1536) hz3, View.ld_unit_zero (S := S1x256x1536) hz3]
  rw [View.read_apply]
  have hp : Is1 (k0_pay3 (F := Ideal) (k0_pay10 (iblk m c 1 t) (iblk m c 0 t) (iblk m c 4 t))) fun r q => g8 m c (t.val / 8) (256 * (t.val % 8) + r) q := add_is (φ := .f32) (pay10_is (grad_is m c t) (blk4 m c t)) _
  refine (hp j).trans ?_
  refine Eq.trans ?_ (cast_eq _ _).symm
  exact (G8_at m c _ (by show win0_8.index t 0 * 1 + 1 * (j 0).val = _; omega) (by show win0_8.index t 1 * 256 + 1 * (j 1).val = _; omega)
    (by show win0_8.index t 2 * 1536 + 1 * (j 2).val = _; omega)).symm

theorem final8 : (dats m 0 c).arrAt 8 cfg0.N = G8 m c :=
  (dats m 0 c).arrAt_eq_of_cover 8 (G8 m c) (flushed8_eq m c) fun i => by
    have h0 : (i 0).val < 2 := (i 0).isLt
    have h1 : (i 1).val < 2048 := (i 1).isLt
    have h2 : (i 2).val < 1536 := (i 2).isLt
    have hN : cfg0.N = 16 := by decide +kernel
    let t : Fin cfg0.N := ⟨8 * (i 0).val + (i 1).val / 256, by omega⟩
    have ht : t.val = 8 * (i 0).val + (i 1).val / 256 := rfl
    have hi : win0_8.index t 0 = t.val / 8 ∧ win0_8.index t 1 = t.val % 8 ∧ win0_8.index t 2 = 0 :=
      (by decide +kernel : ∀ t : Fin grid0.N, win0_8.index t 0 = t.val / 8 ∧ win0_8.index t 1 = t.val % 8 ∧ win0_8.index t 2 = 0) t
    refine ⟨t, flush0_8 t, ?_⟩
    show i ∈ ((View.whole main_v0_3).slice (win0_8.rect t)).set
    rw [View.set_slice_whole, Rect.mem_set_unit]
    intro a
    match a with
    | ⟨0, _⟩ => show win0_8.index t 0 * 1 ≤ (i 0).val ∧ (i 0).val < win0_8.index t 0 * 1 + 1; omega
    | ⟨1, _⟩ => show win0_8.index t 1 * 256 ≤ (i 1).val ∧ (i 1).val < win0_8.index t 1 * 256 + 256; omega
    | ⟨2, _⟩ => show win0_8.index t 2 * 1536 ≤ (i 2).val ∧ (i 2).val < win0_8.index t 2 * 1536 + 1536; omega

def G9 : Buf (Elt Ideal) ((c : Thread nD τ).loc main_v0_4) := fun i : S2x8x2048.Idx => g9 m c (i 0).val (i 1).val (i 2).val

theorem G9_at (i : S2x8x2048.Idx) {l k q : ℕ} (h0 : (i 0).val = l) (h1 : (i 1).val = k) (h2 : (i 2).val = q) : G9 m c i = g9 m c l k q := by
  subst h0 h1 h2
  rfl

theorem flushed9_eq (t : Fin cfg0.N) (hf : (cfg0.win 9).flush t = true) : (dats m 0 c).flushed 9 t = ((cfg0.win 9).blk t).view.read (Elt Ideal) (G9 m c) := by
  have hi : win0_9.index t 0 = t.val / 8 ∧ win0_9.index t 1 = 0 ∧ win0_9.index t 2 = t.val % 8 :=
    (by decide +kernel : ∀ t : Fin grid0.N, win0_9.index t 0 = t.val / 8 ∧ win0_9.index t 1 = 0 ∧ win0_9.index t 2 = t.val % 8) t
  rw [Value.flushed9]
  funext j
  have h0 : (j 0).val < 1 := (j 0).isLt
  show out0_9 (iblk m c 0 t) (iblk m c 1 t) (iblk m c 2 t) (iblk m c 3 t) (iblk m c 4 t) j = _
  unfold_out out0_9
  rw [View.canon_unit_zero (S := S1x8x256) hz3]
  simp only [View.ld_unit_zero (S := S16x256) Products.hz2, View.ld_unit_zero (S := S1x16x1536) hz3, View.ld_unit_zero (S := S1x256x1536) hz3]
  rw [View.read_apply]
  have hp : Is1 (k0_pay4 (F := Ideal) (k0_pay5 (iblk m c 1 t)) (k0_pay6 (iblk m c 2 t))) fun r q => g9 m c (t.val / 8) r (256 * (t.val % 8) + q) := pay4_is (blk1 m c t) (blk2 m c t)
  refine (hp j).trans ?_
  refine Eq.trans ?_ (cast_eq _ _).symm
  exact (G9_at m c _ (by show win0_9.index t 0 * 1 + 1 * (j 0).val = _; omega) (by show win0_9.index t 1 * 8 + 1 * (j 1).val = _; omega)
    (by show win0_9.index t 2 * 256 + 1 * (j 2).val = _; omega)).symm

theorem final9 : (dats m 0 c).arrAt 9 cfg0.N = G9 m c :=
  (dats m 0 c).arrAt_eq_of_cover 9 (G9 m c) (flushed9_eq m c) fun i => by
    have h0 : (i 0).val < 2 := (i 0).isLt
    have h1 : (i 1).val < 8 := (i 1).isLt
    have h2 : (i 2).val < 2048 := (i 2).isLt
    have hN : cfg0.N = 16 := by decide +kernel
    let t : Fin cfg0.N := ⟨8 * (i 0).val + (i 2).val / 256, by omega⟩
    have ht : t.val = 8 * (i 0).val + (i 2).val / 256 := rfl
    have hi : win0_9.index t 0 = t.val / 8 ∧ win0_9.index t 1 = 0 ∧ win0_9.index t 2 = t.val % 8 :=
      (by decide +kernel : ∀ t : Fin grid0.N, win0_9.index t 0 = t.val / 8 ∧ win0_9.index t 1 = 0 ∧ win0_9.index t 2 = t.val % 8) t
    refine ⟨t, flush0_9 t, ?_⟩
    show i ∈ ((View.whole main_v0_4).slice (win0_9.rect t)).set
    rw [View.set_slice_whole, Rect.mem_set_unit]
    intro a
    match a with
    | ⟨0, _⟩ => show win0_9.index t 0 * 1 ≤ (i 0).val ∧ (i 0).val < win0_9.index t 0 * 1 + 1; omega
    | ⟨1, _⟩ => show win0_9.index t 1 * 8 ≤ (i 1).val ∧ (i 1).val < win0_9.index t 1 * 8 + 8; omega
    | ⟨2, _⟩ => show win0_9.index t 2 * 256 ≤ (i 2).val ∧ (i 2).val < win0_9.index t 2 * 256 + 256; omega

end Cert.AdaBwdIdeal.At

namespace Cert.Proof.AdaBwd

open Idealize.ShloMosaic Idealize.SL.Sem Cert.Mix Cert.Products Cert.Adam Cert.AdaBwdIdeal.At

section
open Cert.AdaBwdRefIdeal Cert.AdaBwdRefIdeal.Read

variable (s : FVec Ideal S16x2048 .f32) (d : FVec Ideal S2x16x1536 .f32) (w m v : FVec Ideal S2x2048x1536 .f32)

/-- The stacked input is the input on either layer. -/
theorem stack_at (i : S2x16x2048.Idx) {r k : ℕ} (h1 : (i 1).val = r) (h2 : (i 2).val = k) : val_main_v2 (F := Ideal) s i = at2 s r k := by
  have l0 : (i 0).val < 2 := (i 0).isLt
  have l1 : (i 1).val < 16 := (i 1).isLt
  have l2 : (i 2).val < 2048 := (i 2).isLt
  unfold val_main_v2
  by_cases h : (i 0).val = 0
  · refine (concatenate_pair_apply_left (0 : Fin 3) (val_main_v0 (F := Ideal) s) (val_main_v1 (F := Ideal) s) _ i rfl (ValueIdx.ix3 ⟨0, by omega⟩ ⟨(i 1).val, l1⟩ ⟨(i 2).val, l2⟩) fun b => ?_).trans ?_
    · match b with
      | ⟨0, _⟩ => exact h.symm
      | ⟨1, _⟩ => rfl
      | ⟨2, _⟩ => rfl
    · rw [val_main_v0_apply]
      exact read2 _ _ h1 h2
  · refine (concatenate_pair_apply_right (0 : Fin 3) (val_main_v0 (F := Ideal) s) (val_main_v1 (F := Ideal) s) _ i rfl rfl (ValueIdx.ix3 ⟨0, by omega⟩ ⟨(i 1).val, l1⟩ ⟨(i 2).val, l2⟩) (fun b hb => ?_) ?_).trans ?_
    · match b with
      | ⟨0, _⟩ => exact absurd rfl hb
      | ⟨1, _⟩ => rfl
      | ⟨2, _⟩ => rfl
    · show 0 + 1 = (i 0).val
      omega
    · rw [val_main_v1_apply]
      exact read2 _ _ h1 h2

theorem host_g (i : S2x2048x1536.Idx) : val_main_v5 (F := Ideal) s d i = gr s d (i 0).val (i 1).val (i 2).val := by
  rw [val_main_v5_apply, val_main_v4_apply]
  unfold gr
  refine Finset.sum_congr rfl fun r _ => ?_
  rw [mul_comm]
  exact congrArg₂ (· * ·) (stack_at s _ rfl rfl) (read3 d _ rfl rfl rfl)

theorem host5 : val_main_v5 (F := Ideal) s d = fun i : S2x2048x1536.Idx => gr s d (i 0).val (i 1).val (i 2).val := funext (host_g s d)

theorem host6 : val_main_v30 (F := Ideal) s d w m v = fun i : S2x2048x1536.Idx =>
    del (at3 w (i 0).val (i 1).val (i 2).val) (gr s d (i 0).val (i 1).val (i 2).val) (at3 m (i 0).val (i 1).val (i 2).val) (at3 v (i 0).val (i 1).val (i 2).val) := by
  funext i
  rw [← host_g, ← read3 w i rfl rfl rfl, ← read3 m i rfl rfl rfl, ← read3 v i rfl rfl rfl]
  rfl

theorem host7 : val_main_v11 (F := Ideal) s d m = fun i : S2x2048x1536.Idx => mom (gr s d (i 0).val (i 1).val (i 2).val) (at3 m (i 0).val (i 1).val (i 2).val) := by
  funext i
  rw [← host_g, ← read3 m i rfl rfl rfl]
  rfl

theorem host8 : val_main_v17 (F := Ideal) s d v = fun i : S2x2048x1536.Idx => sqr (gr s d (i 0).val (i 1).val (i 2).val) (at3 v (i 0).val (i 1).val (i 2).val) := by
  funext i
  rw [← host_g, ← read3 v i rfl rfl rfl]
  rfl

theorem host9 : val_main_v31 (F := Ideal) d w = fun i : S2x8x2048.Idx => ds d w (i 0).val (i 1).val (i 2).val := by
  funext i
  rw [val_main_v31_apply, val_main_v6_apply]
  unfold ds
  refine Finset.sum_congr rfl fun q _ => ?_
  exact congrArg₂ (· * ·) (read3 d _ (by first | rfl | (show 0 + (i 0).val = _; omega)) (by show 8 + (i 1).val = _; rfl) rfl)
    (read3 w _ (by first | rfl | (show 0 + (i 0).val = _; omega)) (by first | rfl | (show 0 + (i 2).val = _; omega)) rfl)

end

theorem frame : Cert.quiescent_AdaBwdRefIdeal := fun m g _ =>
  (θ_run (AdaBwdRefIdeal.defs (F := Ideal)) _ _).mono
    (fun r h => ⟨fun c => (h c).2.2.2.2.2, Idealize.ShloMosaic.sem_eq_zero_of_no_sems (by decide) r.2⟩)
    (AdaBwdRefIdeal.Value.run (F := Ideal) m g)

section
open Cert.AdaBwdRefIdeal Cert.AdaBwdRefIdeal.Read

/-- The five results where the arguments are the kernel's. -/
theorem host_of (V0 : Valuation τ sig (Elt Ideal)) (s : FVec Ideal S16x2048 .f32) (d : FVec Ideal S2x16x1536 .f32) (w m v : FVec Ideal S2x2048x1536 .f32)
    (e0 : V0 (Proc.devRef .tc main_arg0) = s) (e1 : V0 (Proc.devRef .tc main_arg1) = d) (e2 : V0 (Proc.devRef .tc main_arg2) = w)
    (e3 : V0 (Proc.devRef .tc main_arg3) = m) (e4 : V0 (Proc.devRef .tc main_arg4) = v) :
    val_main_v5 (F := Ideal) (V0 (Proc.devRef .tc main_arg0)) (V0 (Proc.devRef .tc main_arg1)) = val_main_v5 (F := Ideal) s d
    ∧ val_main_v30 (F := Ideal) (V0 (Proc.devRef .tc main_arg0)) (V0 (Proc.devRef .tc main_arg1)) (V0 (Proc.devRef .tc main_arg2)) (V0 (Proc.devRef .tc main_arg3)) (V0 (Proc.devRef .tc main_arg4)) = val_main_v30 (F := Ideal) s d w m v
    ∧ val_main_v11 (F := Ideal) (V0 (Proc.devRef .tc main_arg0)) (V0 (Proc.devRef .tc main_arg1)) (V0 (Proc.devRef .tc main_arg3)) = val_main_v11 (F := Ideal) s d m
    ∧ val_main_v17 (F := Ideal) (V0 (Proc.devRef .tc main_arg0)) (V0 (Proc.devRef .tc main_arg1)) (V0 (Proc.devRef .tc main_arg4)) = val_main_v17 (F := Ideal) s d v
    ∧ val_main_v31 (F := Ideal) (V0 (Proc.devRef .tc main_arg1)) (V0 (Proc.devRef .tc main_arg2)) = val_main_v31 (F := Ideal) d w := by
  rw [e0, e1, e2, e3, e4]
  exact ⟨rfl, rfl, rfl, rfl, rfl⟩

end

theorem value : Cert.algebraic_AdaBwdIdeal_AdaBwdRefIdeal := by
  intro m g m' g' _ hag
  refine ⟨AdaBwdIdeal.At.G5 m, AdaBwdIdeal.At.G6 m, AdaBwdIdeal.At.G7 m, AdaBwdIdeal.At.G8 m, AdaBwdIdeal.At.G9 m,
    (θ_run AdaBwdIdeal.defs _ _).mono (fun r h c => ?_) (AdaBwdIdeal.Value.run_blocks (F := Ideal) m g),
    (θ_run AdaBwdRefIdeal.defs _ _).mono (fun r h c => ?_) (AdaBwdRefIdeal.Value.run (F := Ideal) m' g')⟩
  · obtain ⟨h0, h1, h2, h3, h4, h5⟩ := h c
    exact ⟨h0.trans (final5 m c), h1.trans (final6 m c), h2.trans (final7 m c), h3.trans (final8 m c), h4.trans (final9 m c), h5⟩
  · obtain ⟨h0, h1, h2, h3, h4, h5⟩ := h c
    obtain ⟨k0, k1, k2, k3, k4⟩ := host_of (StableHlo.launchContents m' c) _ _ _ _ _ (hag c).1 (hag c).2.1 (hag c).2.2.1 (hag c).2.2.2.1 (hag c).2.2.2.2
    exact ⟨((h0.trans (AdaBwdRefIdeal.Read.val_main_v5_eq _ _).symm).trans k0).trans (host5 _ _),
      ((h1.trans (AdaBwdRefIdeal.Read.val_main_v30_eq _ _ _ _ _).symm).trans k1).trans (host6 _ _ _ _ _),
      ((h2.trans (AdaBwdRefIdeal.Read.val_main_v11_eq _ _ _).symm).trans k2).trans (host7 _ _ _),
      ((h3.trans (AdaBwdRefIdeal.Read.val_main_v17_eq _ _ _).symm).trans k3).trans (host8 _ _ _),
      ((h4.trans (AdaBwdRefIdeal.Read.val_main_v31_eq _ _).symm).trans k4).trans (host9 _ _), h5⟩

end Cert.Proof.AdaBwd

end
-- ==== Proof.Ada.lean ====
/-  The forward call of the modulation: the gated input, written once, and a block of its product with a layer's weights and the bias
    per grid point, beside the plain product of each layer. -/
module

public import proofs.«01_k».proof.Defs
public import proofs.«01_k».proof.Proof.Products
public import proofs.«01_k».proof.Proof.Gen.AdaIdeal.Value
public import proofs.«01_k».proof.Proof.Gen.AdaRefIdeal.Run
public import proofs.«01_k».proof.Proof.Gen.AdaRefIdeal.Read
public import Idealize.ShloMosaic.Lib.Claim
public import Idealize.ShloMosaic.Lib.Quiescent

@[expose] public section

noncomputable section

namespace Cert.AdaIdeal.At

open Cert.AdaIdeal Cert.AdaIdeal.Gen Cert.Mix Cert.Products Idealize.ShloMosaic Idealize.ShloMosaic.TcCoe Idealize.SL.Sem

/-- The gated input, and layer `l` of the modulation. -/
def sx (x : (⟨2, ![16, 2048]⟩ : Shape).Idx → EReal) (r k : ℕ) : EReal := at2 x r k * Ideal.logistic (at2 x r k)
def md (x : (⟨2, ![16, 2048]⟩ : Shape).Idx → EReal) (w : (⟨3, ![2, 2048, 1536]⟩ : Shape).Idx → EReal) (b : (⟨3, ![2, 1, 1536]⟩ : Shape).Idx → EReal) (l r q : ℕ) : EReal :=
  (∑ k : Fin 2048, sx x r k.val * at3 w l k.val q) + at3 b l 0 q

section Body

variable {x : Vec Ideal S16x2048 .f32} {w : Vec Ideal S1x2048x512 .f32} {b : Vec Ideal S1x1x512 .f32} {fx fw fb : ℕ → ℕ → EReal}

theorem pay1_is (hx : Is x fx) : Is (k0_pay1 (F := Ideal) x) fun r k => fx r k * Ideal.logistic (fx r k) := fun j => by
  unfold k0_pay1
  show x j * Ideal.logistic (x j) = _
  rw [hx]

theorem pay2_is (hx : Is x fx) (hw : Is1 w fw) (hb : Is1 b fb) :
    Is1 (k0_pay2 (F := Ideal) x w b) fun r q => (∑ k : Fin 2048, fx r k.val * Ideal.logistic (fx r k.val) * fw k.val q) + fb 0 q := by
  unfold k0_pay2
  refine add_is (φ := .f32) (fun j => ?_) _
  have h1 : (j 1).val < 512 := (j 1).isLt
  refine congrArg₂ (fun a b : EReal => a + b) ?_ ?_
  · exact nn_is (φ₁ := .bf16) (φ₂ := .bf16) (f := fun r k => fx r k * Ideal.logistic (fx r k)) (g := fw) _ rfl (fun j => pay1_is hx j) (fun j => drop_is (φ := .f32) hw _ j) j
  refine (broadcastTo_apply _ _ j (ValueIdx.ix2 ⟨0, by omega⟩ ⟨(j 1).val, h1⟩) (fun a => match a with
    | ⟨0, _⟩ => rfl
    | ⟨1, _⟩ => rfl)).trans ?_
  exact drop_is (φ := .f32) hb _ _

end Body

variable (m : (ℓ : Loc nD τ sig) → Buf (Elt Ideal) ℓ) (c : Dev nD)

/-- The three arguments: the input, the weights and the bias. -/
abbrev Sx : (⟨2, ![16, 2048]⟩ : Shape).Idx → EReal := m ((c : Thread nD τ).loc main_arg0)
abbrev Wx : (⟨3, ![2, 2048, 1536]⟩ : Shape).Idx → EReal := m ((c : Thread nD τ).loc main_arg1)
abbrev Bx : (⟨3, ![2, 1, 1536]⟩ : Shape).Idx → EReal := m ((c : Thread nD τ).loc main_arg2)

/-- The input blocks at point `t`: the whole input, and of layer `t / 3` the columns from `512 (t % 3)` on. -/
theorem blk0 (t : Fin cfg0.N) : Is (iblk m c 0 t) fun r q => at2 (Sx m c) r q := fun j => by
  have hi : win0_0.index t 0 = 0 ∧ win0_0.index t 1 = 0 :=
    (by decide +kernel : ∀ t : Fin grid0.N, win0_0.index t 0 = 0 ∧ win0_0.index t 1 = 0) t
  unfold iblk
  rw [View.read_apply]
  exact read2 _ _ (by show win0_0.index t 0 * 16 + 1 * (j 0).val = _; omega) (by show win0_0.index t 1 * 2048 + 1 * (j 1).val = _; omega)

theorem blk1 (t : Fin cfg0.N) : Is1 (iblk m c 1 t) fun k q => at3 (Wx m c) (t.val / 3) k (512 * (t.val % 3) + q) := fun j => by
  have hi : win0_1.index t 0 = t.val / 3 ∧ win0_1.index t 1 = 0 ∧ win0_1.index t 2 = t.val % 3 :=
    (by decide +kernel : ∀ t : Fin grid0.N, win0_1.index t 0 = t.val / 3 ∧ win0_1.index t 1 = 0 ∧ win0_1.index t 2 = t.val % 3) t
  have h0 : (j 0).val < 1 := (j 0).isLt
  unfold iblk
  rw [View.read_apply]
  exact read3 _ _ (by show win0_1.index t 0 * 1 + 1 * (j 0).val = _; omega) (by show win0_1.index t 1 * 2048 + 1 * (j 1).val = _; omega)
    (by show win0_1.index t 2 * 512 + 1 * (j 2).val = _; omega)

theorem blk2 (t : Fin cfg0.N) : Is1 (iblk m c 2 t) fun k q => at3 (Bx m c) (t.val / 3) k (512 * (t.val % 3) + q) := fun j => by
  have hi : win0_2.index t 0 = t.val / 3 ∧ win0_2.index t 1 = 0 ∧ win0_2.index t 2 = t.val % 3 :=
    (by decide +kernel : ∀ t : Fin grid0.N, win0_2.index t 0 = t.val / 3 ∧ win0_2.index t 1 = 0 ∧ win0_2.index t 2 = t.val % 3) t
  have h0 : (j 0).val < 1 := (j 0).isLt
  unfold iblk
  rw [View.read_apply]
  exact read3 _ _ (by show win0_2.index t 0 * 1 + 1 * (j 0).val = _; omega) (by show win0_2.index t 1 * 1 + 1 * (j 1).val = _; omega)
    (by show win0_2.index t 2 * 512 + 1 * (j 2).val = _; omega)

/-- The kernel's two arrays. -/
def G3 : Buf (Elt Ideal) ((c : Thread nD τ).loc main_v0_0) := fun i : S16x2048.Idx => sx (Sx m c) (i 0).val (i 1).val
def G4 : Buf (Elt Ideal) ((c : Thread nD τ).loc main_v0_1) := fun i : S2x16x1536.Idx => md (Sx m c) (Wx m c) (Bx m c) (i 0).val (i 1).val (i 2).val

theorem G3_at (i : S16x2048.Idx) {r k : ℕ} (h0 : (i 0).val = r) (h1 : (i 1).val = k) : G3 m c i = sx (Sx m c) r k := by
  subst h0 h1
  rfl

theorem G4_at (i : S2x16x1536.Idx) {l r q : ℕ} (h0 : (i 0).val = l) (h1 : (i 1).val = r) (h2 : (i 2).val = q) : G4 m c i = md (Sx m c) (Wx m c) (Bx m c) l r q := by
  subst h0 h1 h2
  rfl

theorem flushed3_eq (t : Fin cfg0.N) (hf : (cfg0.win 3).flush t = true) : (dats m 0 c).flushed 3 t = ((cfg0.win 3).blk t).view.read (Elt Ideal) (G3 m c) := by
  have hi : win0_3.index t 0 = 0 ∧ win0_3.index t 1 = 0 :=
    (by decide +kernel : ∀ t : Fin grid0.N, win0_3.index t 0 = 0 ∧ win0_3.index t 1 = 0) t
  rw [Value.flushed3]
  funext j
  show out0_3 (iblk m c 0 t) (iblk m c 1 t) (iblk m c 2 t) j = _
  unfold out0_3
  rw [View.canon_unit_zero (S := S16x2048) hz2]
  simp only [View.ld_unit_zero (S := S16x2048) hz2]
  rw [View.read_apply]
  refine (pay1_is (blk0 m c t) j).trans ?_
  refine Eq.trans ?_ (cast_eq _ _).symm
  exact (G3_at m c _ (by show win0_3.index t 0 * 16 + 1 * (j 0).val = _; omega) (by show win0_3.index t 1 * 2048 + 1 * (j 1).val = _; omega)).symm

theorem final3 : (dats m 0 c).arrAt 3 cfg0.N = G3 m c :=
  (dats m 0 c).arrAt_eq_of_cover 3 (G3 m c) (flushed3_eq m c) fun i => by
    have h0 : (i 0).val < 16 := (i 0).isLt
    have h1 : (i 1).val < 2048 := (i 1).isLt
    have hN : cfg0.N = 6 := by decide +kernel
    let t : Fin cfg0.N := ⟨5, by omega⟩
    have hi : win0_3.index t 0 = 0 ∧ win0_3.index t 1 = 0 :=
      (by decide +kernel : ∀ t : Fin grid0.N, win0_3.index t 0 = 0 ∧ win0_3.index t 1 = 0) t
    refine ⟨t, (flush0_3 t).mpr rfl, ?_⟩
    show i ∈ ((View.whole main_v0_0).slice (win0_3.rect t)).set
    rw [View.set_slice_whole, Rect.mem_set_unit]
    intro a
    match a with
    | ⟨0, _⟩ => show win0_3.index t 0 * 16 ≤ (i 0).val ∧ (i 0).val < win0_3.index t 0 * 16 + 16; omega
    | ⟨1, _⟩ => show win0_3.index t 1 * 2048 ≤ (i 1).val ∧ (i 1).val < win0_3.index t 1 * 2048 + 2048; omega

theorem flushed4_eq (t : Fin cfg0.N) (hf : (cfg0.win 4).flush t = true) : (dats m 0 c).flushed 4 t = ((cfg0.win 4).blk t).view.read (Elt Ideal) (G4 m c) := by
  have hi : win0_4.index t 0 = t.val / 3 ∧ win0_4.index t 1 = 0 ∧ win0_4.index t 2 = t.val % 3 :=
    (by decide +kernel : ∀ t : Fin grid0.N, win0_4.index t 0 = t.val / 3 ∧ win0_4.index t 1 = 0 ∧ win0_4.index t 2 = t.val % 3) t
  rw [Value.flushed4]
  funext j
  have h0 : (j 0).val < 1 := (j 0).isLt
  show out0_4 (iblk m c 0 t) (iblk m c 1 t) (iblk m c 2 t) j = _
  unfold out0_4
  rw [View.canon_unit_zero (S := S1x16x512) hz3]
  simp only [View.ld_unit_zero (S := S16x2048) hz2, View.ld_unit_zero (S := S1x2048x512) hz3, View.ld_unit_zero (S := S1x1x512) hz3]
  rw [View.read_apply]
  refine (pay2_is (blk0 m c t) (blk1 m c t) (blk2 m c t) j).trans ?_
  refine Eq.trans ?_ (cast_eq _ _).symm
  exact (G4_at m c _ (by show win0_4.index t 0 * 1 + 1 * (j 0).val = _; omega) (by show win0_4.index t 1 * 16 + 1 * (j 1).val = _; omega)
    (by show win0_4.index t 2 * 512 + 1 * (j 2).val = _; omega)).symm

theorem final4 : (dats m 0 c).arrAt 4 cfg0.N = G4 m c :=
  (dats m 0 c).arrAt_eq_of_cover 4 (G4 m c) (flushed4_eq m c) fun i => by
    have h0 : (i 0).val < 2 := (i 0).isLt
    have h1 : (i 1).val < 16 := (i 1).isLt
    have h2 : (i 2).val < 1536 := (i 2).isLt
    have hN : cfg0.N = 6 := by decide +kernel
    let t : Fin cfg0.N := ⟨3 * (i 0).val + (i 2).val / 512, by omega⟩
    have ht : t.val = 3 * (i 0).val + (i 2).val / 512 := rfl
    have hi : win0_4.index t 0 = t.val / 3 ∧ win0_4.index t 1 = 0 ∧ win0_4.index t 2 = t.val % 3 :=
      (by decide +kernel : ∀ t : Fin grid0.N, win0_4.index t 0 = t.val / 3 ∧ win0_4.index t 1 = 0 ∧ win0_4.index t 2 = t.val % 3) t
    refine ⟨t, flush0_4 t, ?_⟩
    show i ∈ ((View.whole main_v0_1).slice (win0_4.rect t)).set
    rw [View.set_slice_whole, Rect.mem_set_unit]
    intro a
    match a with
    | ⟨0, _⟩ => show win0_4.index t 0 * 1 ≤ (i 0).val ∧ (i 0).val < win0_4.index t 0 * 1 + 1; omega
    | ⟨1, _⟩ => show win0_4.index t 1 * 16 ≤ (i 1).val ∧ (i 1).val < win0_4.index t 1 * 16 + 16; omega
    | ⟨2, _⟩ => show win0_4.index t 2 * 512 ≤ (i 2).val ∧ (i 2).val < win0_4.index t 2 * 512 + 512; omega

end Cert.AdaIdeal.At

namespace Cert.Proof.Ada

open Idealize.ShloMosaic Idealize.SL.Sem Cert.Mix Cert.Products Cert.AdaIdeal.At

section
open Cert.AdaRefIdeal Cert.AdaRefIdeal.Read

variable (x : FVec Ideal S16x2048 .f32) (w : FVec Ideal S2x2048x1536 .f32) (b : FVec Ideal S2x1x1536 .f32)

theorem gated_at (i : S16x2048.Idx) {r k : ℕ} (h0 : (i 0).val = r) (h1 : (i 1).val = k) : val_main_v0 (F := Ideal) x i = sx x r k := by
  rw [val_main_v0_apply, val_main_call0_v5_apply, val_main_call0_v4_apply, val_main_call0_cst_0_apply, val_main_call0_v3_apply, val_main_call0_v2_apply, val_main_call0_cst_apply, val_main_call0_v1_apply, val_main_call0_v0_apply, read2 x i h0 h1]
  show at2 x r k * Ideal.div (Ideal.ofBits .f32 0x3F800000#32) (Ideal.ofBits .f32 0x3F800000#32 + Ideal.exp (-at2 x r k)) = _
  rw [Ideal.ofBits_one_f32]
  rfl

theorem host3 : val_main_v0 (F := Ideal) x = fun i : S16x2048.Idx => sx x (i 0).val (i 1).val := funext fun i => gated_at x i rfl rfl

theorem first_at (i : S1x16x1536.Idx) {r q : ℕ} (h1 : (i 1).val = r) (h2 : (i 2).val = q) : val_main_v15 (F := Ideal) x w b i = md x w b 0 r q := by
  have l2 : (i 2).val < 1536 := (i 2).isLt
  rw [val_main_v15_apply, val_main_v7_apply, val_main_v3_apply, val_main_v6_apply, val_main_v5_apply, val_main_v4_apply]
  unfold md
  refine congrArg₂ (fun a b : EReal => a + b) (Finset.sum_congr rfl fun k _ => ?_) (read3 b _ rfl rfl (by show (0 * 1536 + (i 2).val) % 1536 = q; omega))
  have lk : k.val < 2048 := k.isLt
  rw [val_main_v2_apply, val_main_v1_apply]
  exact congrArg₂ (fun a b : EReal => a * b) (gated_at x _ h1 rfl) (read3 w _ rfl (by show (k.val * 1536 + (i 2).val) / 1536 % 2048 = k.val; omega)
    (by show (k.val * 1536 + (i 2).val) % 1536 = q; omega))

theorem second_at (i : S1x16x1536.Idx) {r q : ℕ} (h1 : (i 1).val = r) (h2 : (i 2).val = q) : val_main_v16 (F := Ideal) x w b i = md x w b 1 r q := by
  have l2 : (i 2).val < 1536 := (i 2).isLt
  rw [val_main_v16_apply, val_main_v14_apply, val_main_v10_apply, val_main_v13_apply, val_main_v12_apply, val_main_v11_apply]
  unfold md
  refine congrArg₂ (fun a b : EReal => a + b) (Finset.sum_congr rfl fun k _ => ?_) (read3 b _ rfl rfl (by show (0 * 1536 + (i 2).val) % 1536 = q; omega))
  have lk : k.val < 2048 := k.isLt
  rw [val_main_v9_apply, val_main_v8_apply]
  exact congrArg₂ (fun a b : EReal => a * b) (gated_at x _ h1 rfl) (read3 w _ rfl (by show (k.val * 1536 + (i 2).val) / 1536 % 2048 = k.val; omega)
    (by show (k.val * 1536 + (i 2).val) % 1536 = q; omega))

theorem host4 : val_main_v17 (F := Ideal) x w b = fun i : S2x16x1536.Idx => md x w b (i 0).val (i 1).val (i 2).val := by
  funext i
  have l0 : (i 0).val < 2 := (i 0).isLt
  have l1 : (i 1).val < 16 := (i 1).isLt
  have l2 : (i 2).val < 1536 := (i 2).isLt
  unfold val_main_v17
  by_cases h : (i 0).val = 0
  · refine (concatenate_pair_apply_left (0 : Fin 3) (val_main_v15 (F := Ideal) x w b) (val_main_v16 (F := Ideal) x w b) _ i rfl (ValueIdx.ix3 ⟨0, by omega⟩ ⟨(i 1).val, l1⟩ ⟨(i 2).val, l2⟩) fun b => ?_).trans ?_
    · match b with
      | ⟨0, _⟩ => exact h.symm
      | ⟨1, _⟩ => rfl
      | ⟨2, _⟩ => rfl
    · show _ = md x w b (i 0).val (i 1).val (i 2).val
      rw [h]
      exact first_at x w b _ rfl rfl
  · refine (concatenate_pair_apply_right (0 : Fin 3) (val_main_v15 (F := Ideal) x w b) (val_main_v16 (F := Ideal) x w b) _ i rfl rfl (ValueIdx.ix3 ⟨0, by omega⟩ ⟨(i 1).val, l1⟩ ⟨(i 2).val, l2⟩) (fun b hb => ?_) ?_).trans ?_
    · match b with
      | ⟨0, _⟩ => exact absurd rfl hb
      | ⟨1, _⟩ => rfl
      | ⟨2, _⟩ => rfl
    · show 0 + 1 = (i 0).val
      omega
    · show _ = md x w b (i 0).val (i 1).val (i 2).val
      rw [show (i 0).val = 1 by omega]
      exact second_at x w b _ rfl rfl

end

theorem frame : Cert.quiescent_AdaRefIdeal := fun m g _ =>
  (θ_run (AdaRefIdeal.defs (F := Ideal)) _ _).mono
    (fun r h => ⟨fun c => (h c).2.2, Idealize.ShloMosaic.sem_eq_zero_of_no_sems (by decide) r.2⟩)
    (AdaRefIdeal.Value.run (F := Ideal) m g)

section
open Cert.AdaRefIdeal Cert.AdaRefIdeal.Read

/-- The two results where the arguments are the kernel's. -/
theorem host_of (V0 : Valuation τ sig (Elt Ideal)) (x : FVec Ideal S16x2048 .f32) (w : FVec Ideal S2x2048x1536 .f32) (b : FVec Ideal S2x1x1536 .f32)
    (e0 : V0 (Proc.devRef .tc main_arg0) = x) (e1 : V0 (Proc.devRef .tc main_arg1) = w) (e2 : V0 (Proc.devRef .tc main_arg2) = b) :
    val_main_v0 (F := Ideal) (V0 (Proc.devRef .tc main_arg0)) = val_main_v0 (F := Ideal) x
    ∧ val_main_v17 (F := Ideal) (V0 (Proc.devRef .tc main_arg0)) (V0 (Proc.devRef .tc main_arg1)) (V0 (Proc.devRef .tc main_arg2)) = val_main_v17 (F := Ideal) x w b := by
  rw [e0, e1, e2]
  exact ⟨rfl, rfl⟩

end

theorem value : Cert.algebraic_AdaIdeal_AdaRefIdeal := by
  intro m g m' g' _ hag
  refine ⟨AdaIdeal.At.G3 m, AdaIdeal.At.G4 m,
    (θ_run AdaIdeal.defs _ _).mono (fun r h c => ?_) (AdaIdeal.Value.run_blocks (F := Ideal) m g),
    (θ_run AdaRefIdeal.defs _ _).mono (fun r h c => ?_) (AdaRefIdeal.Value.run (F := Ideal) m' g')⟩
  · obtain ⟨h0, h1, h2⟩ := h c
    exact ⟨h0.trans (final3 m c), h1.trans (final4 m c), h2⟩
  · obtain ⟨h0, h1, h2⟩ := h c
    obtain ⟨k0, k1⟩ := host_of (StableHlo.launchContents m' c) _ _ _ (hag c).1 (hag c).2.1 (hag c).2.2
    exact ⟨((h0.trans (AdaRefIdeal.Read.val_main_v0_eq _).symm).trans k0).trans (host3 _),
      ((h1.trans (AdaRefIdeal.Read.val_main_v17_eq _ _ _).symm).trans k1).trans (host4 _ _ _), h2⟩

end Cert.Proof.Ada

end
-- ==== Proof.StepIn.lean ====
/-  One AdamW step of a [2048, 1536] weight, which hands its gradient on: the kernel's blocks of rows beside the reference's pointwise
    operations. -/
module

public import proofs.«01_k».proof.Defs
public import proofs.«01_k».proof.Proof.Adam
public import proofs.«01_k».proof.Proof.Gen.StepInIdeal.Value
public import proofs.«01_k».proof.Proof.Gen.StepInRefIdeal.Run
public import proofs.«01_k».proof.Proof.Gen.StepInRefIdeal.Read
public import Idealize.ShloMosaic.Lib.Claim
public import Idealize.ShloMosaic.Lib.Quiescent

@[expose] public section

noncomputable section

namespace Cert.StepInIdeal.At

open Cert.StepInIdeal Cert.StepInIdeal.Gen Cert.Adam Idealize.ShloMosaic Idealize.ShloMosaic.TcCoe Idealize.SL.Sem

variable (m : (ℓ : Loc nD τ sig) → Buf (Elt Ideal) ℓ) (c : Dev nD)

/-- The four arguments: weight, gradient, first moment, second moment. -/
abbrev Wt : FVec Ideal S2048x1536 .f32 := m ((c : Thread nD τ).loc main_arg0)
abbrev Gr : FVec Ideal S2048x1536 .f32 := m ((c : Thread nD τ).loc main_arg1)
abbrev Mo : FVec Ideal S2048x1536 .f32 := m ((c : Thread nD τ).loc main_arg2)
abbrev Sq : FVec Ideal S2048x1536 .f32 := m ((c : Thread nD τ).loc main_arg3)

/-- The kernel's four arrays. -/
def G4 : Buf (Elt Ideal) ((c : Thread nD τ).loc main_v0_0) := fun i : S2048x1536.Idx => del (Wt m c i) (Gr m c i) (Mo m c i) (Sq m c i)
def G5 : Buf (Elt Ideal) ((c : Thread nD τ).loc main_v0_1) := fun i : S2048x1536.Idx => mom (Gr m c i) (Mo m c i)
def G6 : Buf (Elt Ideal) ((c : Thread nD τ).loc main_v0_2) := fun i : S2048x1536.Idx => sqr (Gr m c i) (Sq m c i)
def G7 : Buf (Elt Ideal) ((c : Thread nD τ).loc main_v0_3) := fun i : S2048x1536.Idx => Gr m c i

/-- Where element `j` of block `t` lies in an array: the same place in all eight. -/
abbrev place (t : Fin cfg0.N) (j : S256x1536.Idx) : S2048x1536.Idx := ((cfg0.win 4).blk t).view.emb j

theorem blk0 (t : Fin cfg0.N) (j : S256x1536.Idx) : iblk m c 0 t j = Wt m c (place t j) := rfl
theorem blk1 (t : Fin cfg0.N) (j : S256x1536.Idx) : iblk m c 1 t j = Gr m c (place t j) := rfl
theorem blk2 (t : Fin cfg0.N) (j : S256x1536.Idx) : iblk m c 2 t j = Mo m c (place t j) := rfl
theorem blk3 (t : Fin cfg0.N) (j : S256x1536.Idx) : iblk m c 3 t j = Sq m c (place t j) := rfl

/-- The blocks cover the array. -/
theorem cover (i : S2048x1536.Idx) : ∃ t : Fin cfg0.N, i ∈ ((View.whole main_v0_0).slice (win0_4.rect t)).set := by
  have h0 : (i 0).val < 2048 := (i 0).isLt
  have h1 : (i 1).val < 1536 := (i 1).isLt
  have hN : cfg0.N = 8 := by decide +kernel
  let t : Fin cfg0.N := ⟨(i 0).val / 256, by omega⟩
  have ht : t.val = (i 0).val / 256 := rfl
  have hi : win0_4.index t 0 = t.val ∧ win0_4.index t 1 = 0 :=
    (by decide +kernel : ∀ t : Fin grid0.N, win0_4.index t 0 = t.val ∧ win0_4.index t 1 = 0) t
  refine ⟨t, ?_⟩
  show i ∈ ((View.whole main_v0_0).slice (win0_4.rect t)).set
  rw [View.set_slice_whole, Rect.mem_set_unit]
  intro a
  match a with
  | ⟨0, _⟩ => show win0_4.index t 0 * 256 ≤ (i 0).val ∧ (i 0).val < win0_4.index t 0 * 256 + 256; omega
  | ⟨1, _⟩ => show win0_4.index t 1 * 1536 ≤ (i 1).val ∧ (i 1).val < win0_4.index t 1 * 1536 + 1536; omega

theorem flushed4_eq (t : Fin cfg0.N) (hf : (cfg0.win 4).flush t = true) : (dats m 0 c).flushed 4 t = ((cfg0.win 4).blk t).view.read (Elt Ideal) (G4 m c) := by
  rw [Value.flushed4]
  funext j
  show out0_4 (iblk m c 0 t) (iblk m c 1 t) (iblk m c 2 t) (iblk m c 3 t) j = _
  unfold out0_4
  rw [View.canon_unit_zero (S := S256x1536) hz2]
  simp only [View.ld_unit_zero (S := S256x1536) hz2]
  rw [View.read_apply]
  refine Eq.trans ?_ (cast_eq _ _).symm
  show del (iblk m c 0 t j) (iblk m c 1 t j) (iblk m c 2 t j) (iblk m c 3 t j) = _
  rw [blk0, blk1, blk2, blk3]
  rfl

theorem final4 : (dats m 0 c).arrAt 4 cfg0.N = G4 m c :=
  (dats m 0 c).arrAt_eq_of_cover 4 (G4 m c) (flushed4_eq m c) fun i => (cover i).imp fun t h => ⟨flush0_4 t, h⟩

theorem flushed5_eq (t : Fin cfg0.N) (hf : (cfg0.win 5).flush t = true) : (dats m 0 c).flushed 5 t = ((cfg0.win 5).blk t).view.read (Elt Ideal) (G5 m c) := by
  rw [Value.flushed5]
  funext j
  show out0_5 (iblk m c 0 t) (iblk m c 1 t) (iblk m c 2 t) (iblk m c 3 t) j = _
  unfold out0_5
  rw [View.canon_unit_zero (S := S256x1536) hz2]
  simp only [View.ld_unit_zero (S := S256x1536) hz2]
  rw [View.read_apply]
  refine Eq.trans ?_ (cast_eq _ _).symm
  show mom (iblk m c 1 t j) (iblk m c 2 t j) = _
  rw [blk1, blk2]
  rfl

theorem final5 : (dats m 0 c).arrAt 5 cfg0.N = G5 m c :=
  (dats m 0 c).arrAt_eq_of_cover 5 (G5 m c) (flushed5_eq m c) fun i => (cover i).imp fun t h => ⟨flush0_5 t, h⟩

theorem flushed6_eq (t : Fin cfg0.N) (hf : (cfg0.win 6).flush t = true) : (dats m 0 c).flushed 6 t = ((cfg0.win 6).blk t).view.read (Elt Ideal) (G6 m c) := by
  rw [Value.flushed6]
  funext j
  show out0_6 (iblk m c 0 t) (iblk m c 1 t) (iblk m c 2 t) (iblk m c 3 t) j = _
  unfold out0_6
  rw [View.canon_unit_zero (S := S256x1536) hz2]
  simp only [View.ld_unit_zero (S := S256x1536) hz2]
  rw [View.read_apply]
  refine Eq.trans ?_ (cast_eq _ _).symm
  show sqr (iblk m c 1 t j) (iblk m c 3 t j) = _
  rw [blk1, blk3]
  rfl

theorem final6 : (dats m 0 c).arrAt 6 cfg0.N = G6 m c :=
  (dats m 0 c).arrAt_eq_of_cover 6 (G6 m c) (flushed6_eq m c) fun i => (cover i).imp fun t h => ⟨flush0_6 t, h⟩

theorem flushed7_eq (t : Fin cfg0.N) (hf : (cfg0.win 7).flush t = true) : (dats m 0 c).flushed 7 t = ((cfg0.win 7).blk t).view.read (Elt Ideal) (G7 m c) := by
  rw [Value.flushed7]
  funext j
  show out0_7 (iblk m c 0 t) (iblk m c 1 t) (iblk m c 2 t) (iblk m c 3 t) j = _
  unfold out0_7
  rw [View.canon_unit_zero (S := S256x1536) hz2]
  rw [View.read_apply]
  refine Eq.trans ?_ (cast_eq _ _).symm
  refine (congrFun (View.ld_unit_zero (S := S256x1536) hz2 _ _) j).trans ?_
  show iblk m c 1 t j = _
  rw [blk1]
  rfl

theorem final7 : (dats m 0 c).arrAt 7 cfg0.N = G7 m c :=
  (dats m 0 c).arrAt_eq_of_cover 7 (G7 m c) (flushed7_eq m c) fun i => (cover i).imp fun t h => ⟨flush0_7 t, h⟩

end Cert.StepInIdeal.At

namespace Cert.Proof.StepIn

open Idealize.ShloMosaic Idealize.SL.Sem Cert.Adam

section
open Cert.StepInRefIdeal Cert.StepInRefIdeal.Read

/-- The reference's three computed results, index by index. -/
theorem host_of (V0 : Valuation τ sig (Elt Ideal)) (w g m v : FVec Ideal S2048x1536 .f32) (e : V0 (Proc.devRef .tc main_arg0) = w ∧
    V0 (Proc.devRef .tc main_arg1) = g ∧ V0 (Proc.devRef .tc main_arg2) = m ∧ V0 (Proc.devRef .tc main_arg3) = v) :
    val_main_v23 (F := Ideal) (V0 (Proc.devRef .tc main_arg0)) (V0 (Proc.devRef .tc main_arg1)) (V0 (Proc.devRef .tc main_arg2)) (V0 (Proc.devRef .tc main_arg3)) = (fun i : S2048x1536.Idx => del (w i) (g i) (m i) (v i))
      ∧ val_main_v4 (F := Ideal) (V0 (Proc.devRef .tc main_arg1)) (V0 (Proc.devRef .tc main_arg2)) = (fun i : S2048x1536.Idx => mom (g i) (m i))
      ∧ val_main_v10 (F := Ideal) (V0 (Proc.devRef .tc main_arg1)) (V0 (Proc.devRef .tc main_arg3)) = fun i : S2048x1536.Idx => sqr (g i) (v i) := by
  obtain ⟨rfl, rfl, rfl, rfl⟩ := e
  exact ⟨funext fun _ => rfl, funext fun _ => rfl, funext fun _ => rfl⟩

end

theorem frame : Cert.quiescent_StepInRefIdeal := fun m g _ =>
  (θ_run (StepInRefIdeal.defs (F := Ideal)) _ _).mono
    (fun r h => ⟨fun c => (h c).2.2.2.2, Idealize.ShloMosaic.sem_eq_zero_of_no_sems (by decide) r.2⟩)
    (StepInRefIdeal.Value.run (F := Ideal) m g)

theorem value : Cert.algebraic_StepInIdeal_StepInRefIdeal := by
  intro m g m' g' _ hag
  refine ⟨StepInIdeal.At.G4 m, StepInIdeal.At.G5 m, StepInIdeal.At.G6 m, StepInIdeal.At.G7 m,
    (θ_run StepInIdeal.defs _ _).mono (fun r h c => ?_) (StepInIdeal.Value.run_blocks (F := Ideal) m g),
    (θ_run StepInRefIdeal.defs _ _).mono (fun r h c => ?_) (StepInRefIdeal.Value.run (F := Ideal) m' g')⟩
  · obtain ⟨h0, h1, h2, h3, h4⟩ := h c
    exact ⟨h0.trans (StepInIdeal.At.final4 m c), h1.trans (StepInIdeal.At.final5 m c), h2.trans (StepInIdeal.At.final6 m c), h3.trans (StepInIdeal.At.final7 m c), h4⟩
  · obtain ⟨h0, h1, h2, h3, h4⟩ := h c
    obtain ⟨e0, e1, e2⟩ := host_of (StableHlo.launchContents m' c) _ _ _ _ (hag c)
    exact ⟨(h0.trans (StepInRefIdeal.Read.val_main_v23_eq _ _ _ _).symm).trans e0, (h1.trans (StepInRefIdeal.Read.val_main_v4_eq _ _).symm).trans e1,
      (h2.trans (StepInRefIdeal.Read.val_main_v10_eq _ _).symm).trans e2, h3.trans (hag c).2.1, h4⟩

end Cert.Proof.StepIn

end
-- ==== Proof.StepOut.lean ====
/-  One AdamW step of a [512, 2048] weight, which hands its gradient on: the kernel's blocks of rows beside the reference's pointwise
    operations. -/
module

public import proofs.«01_k».proof.Defs
public import proofs.«01_k».proof.Proof.Adam
public import proofs.«01_k».proof.Proof.Gen.StepOutIdeal.Value
public import proofs.«01_k».proof.Proof.Gen.StepOutRefIdeal.Run
public import proofs.«01_k».proof.Proof.Gen.StepOutRefIdeal.Read
public import Idealize.ShloMosaic.Lib.Claim
public import Idealize.ShloMosaic.Lib.Quiescent

@[expose] public section

noncomputable section

namespace Cert.StepOutIdeal.At

open Cert.StepOutIdeal Cert.StepOutIdeal.Gen Cert.Adam Idealize.ShloMosaic Idealize.ShloMosaic.TcCoe Idealize.SL.Sem

variable (m : (ℓ : Loc nD τ sig) → Buf (Elt Ideal) ℓ) (c : Dev nD)

/-- The four arguments: weight, gradient, first moment, second moment. -/
abbrev Wt : FVec Ideal S512x2048 .f32 := m ((c : Thread nD τ).loc main_arg0)
abbrev Gr : FVec Ideal S512x2048 .f32 := m ((c : Thread nD τ).loc main_arg1)
abbrev Mo : FVec Ideal S512x2048 .f32 := m ((c : Thread nD τ).loc main_arg2)
abbrev Sq : FVec Ideal S512x2048 .f32 := m ((c : Thread nD τ).loc main_arg3)

/-- The kernel's four arrays. -/
def G4 : Buf (Elt Ideal) ((c : Thread nD τ).loc main_v0_0) := fun i : S512x2048.Idx => del (Wt m c i) (Gr m c i) (Mo m c i) (Sq m c i)
def G5 : Buf (Elt Ideal) ((c : Thread nD τ).loc main_v0_1) := fun i : S512x2048.Idx => mom (Gr m c i) (Mo m c i)
def G6 : Buf (Elt Ideal) ((c : Thread nD τ).loc main_v0_2) := fun i : S512x2048.Idx => sqr (Gr m c i) (Sq m c i)
def G7 : Buf (Elt Ideal) ((c : Thread nD τ).loc main_v0_3) := fun i : S512x2048.Idx => Gr m c i

/-- Where element `j` of block `t` lies in an array: the same place in all eight. -/
abbrev place (t : Fin cfg0.N) (j : S256x2048.Idx) : S512x2048.Idx := ((cfg0.win 4).blk t).view.emb j

theorem blk0 (t : Fin cfg0.N) (j : S256x2048.Idx) : iblk m c 0 t j = Wt m c (place t j) := rfl
theorem blk1 (t : Fin cfg0.N) (j : S256x2048.Idx) : iblk m c 1 t j = Gr m c (place t j) := rfl
theorem blk2 (t : Fin cfg0.N) (j : S256x2048.Idx) : iblk m c 2 t j = Mo m c (place t j) := rfl
theorem blk3 (t : Fin cfg0.N) (j : S256x2048.Idx) : iblk m c 3 t j = Sq m c (place t j) := rfl

/-- The blocks cover the array. -/
theorem cover (i : S512x2048.Idx) : ∃ t : Fin cfg0.N, i ∈ ((View.whole main_v0_0).slice (win0_4.rect t)).set := by
  have h0 : (i 0).val < 512 := (i 0).isLt
  have h1 : (i 1).val < 2048 := (i 1).isLt
  have hN : cfg0.N = 2 := by decide +kernel
  let t : Fin cfg0.N := ⟨(i 0).val / 256, by omega⟩
  have ht : t.val = (i 0).val / 256 := rfl
  have hi : win0_4.index t 0 = t.val ∧ win0_4.index t 1 = 0 :=
    (by decide +kernel : ∀ t : Fin grid0.N, win0_4.index t 0 = t.val ∧ win0_4.index t 1 = 0) t
  refine ⟨t, ?_⟩
  show i ∈ ((View.whole main_v0_0).slice (win0_4.rect t)).set
  rw [View.set_slice_whole, Rect.mem_set_unit]
  intro a
  match a with
  | ⟨0, _⟩ => show win0_4.index t 0 * 256 ≤ (i 0).val ∧ (i 0).val < win0_4.index t 0 * 256 + 256; omega
  | ⟨1, _⟩ => show win0_4.index t 1 * 2048 ≤ (i 1).val ∧ (i 1).val < win0_4.index t 1 * 2048 + 2048; omega

theorem flushed4_eq (t : Fin cfg0.N) (hf : (cfg0.win 4).flush t = true) : (dats m 0 c).flushed 4 t = ((cfg0.win 4).blk t).view.read (Elt Ideal) (G4 m c) := by
  rw [Value.flushed4]
  funext j
  show out0_4 (iblk m c 0 t) (iblk m c 1 t) (iblk m c 2 t) (iblk m c 3 t) j = _
  unfold out0_4
  rw [View.canon_unit_zero (S := S256x2048) hz2]
  simp only [View.ld_unit_zero (S := S256x2048) hz2]
  rw [View.read_apply]
  refine Eq.trans ?_ (cast_eq _ _).symm
  show del (iblk m c 0 t j) (iblk m c 1 t j) (iblk m c 2 t j) (iblk m c 3 t j) = _
  rw [blk0, blk1, blk2, blk3]
  rfl

theorem final4 : (dats m 0 c).arrAt 4 cfg0.N = G4 m c :=
  (dats m 0 c).arrAt_eq_of_cover 4 (G4 m c) (flushed4_eq m c) fun i => (cover i).imp fun t h => ⟨flush0_4 t, h⟩

theorem flushed5_eq (t : Fin cfg0.N) (hf : (cfg0.win 5).flush t = true) : (dats m 0 c).flushed 5 t = ((cfg0.win 5).blk t).view.read (Elt Ideal) (G5 m c) := by
  rw [Value.flushed5]
  funext j
  show out0_5 (iblk m c 0 t) (iblk m c 1 t) (iblk m c 2 t) (iblk m c 3 t) j = _
  unfold out0_5
  rw [View.canon_unit_zero (S := S256x2048) hz2]
  simp only [View.ld_unit_zero (S := S256x2048) hz2]
  rw [View.read_apply]
  refine Eq.trans ?_ (cast_eq _ _).symm
  show mom (iblk m c 1 t j) (iblk m c 2 t j) = _
  rw [blk1, blk2]
  rfl

theorem final5 : (dats m 0 c).arrAt 5 cfg0.N = G5 m c :=
  (dats m 0 c).arrAt_eq_of_cover 5 (G5 m c) (flushed5_eq m c) fun i => (cover i).imp fun t h => ⟨flush0_5 t, h⟩

theorem flushed6_eq (t : Fin cfg0.N) (hf : (cfg0.win 6).flush t = true) : (dats m 0 c).flushed 6 t = ((cfg0.win 6).blk t).view.read (Elt Ideal) (G6 m c) := by
  rw [Value.flushed6]
  funext j
  show out0_6 (iblk m c 0 t) (iblk m c 1 t) (iblk m c 2 t) (iblk m c 3 t) j = _
  unfold out0_6
  rw [View.canon_unit_zero (S := S256x2048) hz2]
  simp only [View.ld_unit_zero (S := S256x2048) hz2]
  rw [View.read_apply]
  refine Eq.trans ?_ (cast_eq _ _).symm
  show sqr (iblk m c 1 t j) (iblk m c 3 t j) = _
  rw [blk1, blk3]
  rfl

theorem final6 : (dats m 0 c).arrAt 6 cfg0.N = G6 m c :=
  (dats m 0 c).arrAt_eq_of_cover 6 (G6 m c) (flushed6_eq m c) fun i => (cover i).imp fun t h => ⟨flush0_6 t, h⟩

theorem flushed7_eq (t : Fin cfg0.N) (hf : (cfg0.win 7).flush t = true) : (dats m 0 c).flushed 7 t = ((cfg0.win 7).blk t).view.read (Elt Ideal) (G7 m c) := by
  rw [Value.flushed7]
  funext j
  show out0_7 (iblk m c 0 t) (iblk m c 1 t) (iblk m c 2 t) (iblk m c 3 t) j = _
  unfold out0_7
  rw [View.canon_unit_zero (S := S256x2048) hz2]
  rw [View.read_apply]
  refine Eq.trans ?_ (cast_eq _ _).symm
  refine (congrFun (View.ld_unit_zero (S := S256x2048) hz2 _ _) j).trans ?_
  show iblk m c 1 t j = _
  rw [blk1]
  rfl

theorem final7 : (dats m 0 c).arrAt 7 cfg0.N = G7 m c :=
  (dats m 0 c).arrAt_eq_of_cover 7 (G7 m c) (flushed7_eq m c) fun i => (cover i).imp fun t h => ⟨flush0_7 t, h⟩

end Cert.StepOutIdeal.At

namespace Cert.Proof.StepOut

open Idealize.ShloMosaic Idealize.SL.Sem Cert.Adam

section
open Cert.StepOutRefIdeal Cert.StepOutRefIdeal.Read

/-- The reference's three computed results, index by index. -/
theorem host_of (V0 : Valuation τ sig (Elt Ideal)) (w g m v : FVec Ideal S512x2048 .f32) (e : V0 (Proc.devRef .tc main_arg0) = w ∧
    V0 (Proc.devRef .tc main_arg1) = g ∧ V0 (Proc.devRef .tc main_arg2) = m ∧ V0 (Proc.devRef .tc main_arg3) = v) :
    val_main_v23 (F := Ideal) (V0 (Proc.devRef .tc main_arg0)) (V0 (Proc.devRef .tc main_arg1)) (V0 (Proc.devRef .tc main_arg2)) (V0 (Proc.devRef .tc main_arg3)) = (fun i : S512x2048.Idx => del (w i) (g i) (m i) (v i))
      ∧ val_main_v4 (F := Ideal) (V0 (Proc.devRef .tc main_arg1)) (V0 (Proc.devRef .tc main_arg2)) = (fun i : S512x2048.Idx => mom (g i) (m i))
      ∧ val_main_v10 (F := Ideal) (V0 (Proc.devRef .tc main_arg1)) (V0 (Proc.devRef .tc main_arg3)) = fun i : S512x2048.Idx => sqr (g i) (v i) := by
  obtain ⟨rfl, rfl, rfl, rfl⟩ := e
  exact ⟨funext fun _ => rfl, funext fun _ => rfl, funext fun _ => rfl⟩

end

theorem frame : Cert.quiescent_StepOutRefIdeal := fun m g _ =>
  (θ_run (StepOutRefIdeal.defs (F := Ideal)) _ _).mono
    (fun r h => ⟨fun c => (h c).2.2.2.2, Idealize.ShloMosaic.sem_eq_zero_of_no_sems (by decide) r.2⟩)
    (StepOutRefIdeal.Value.run (F := Ideal) m g)

theorem value : Cert.algebraic_StepOutIdeal_StepOutRefIdeal := by
  intro m g m' g' _ hag
  refine ⟨StepOutIdeal.At.G4 m, StepOutIdeal.At.G5 m, StepOutIdeal.At.G6 m, StepOutIdeal.At.G7 m,
    (θ_run StepOutIdeal.defs _ _).mono (fun r h c => ?_) (StepOutIdeal.Value.run_blocks (F := Ideal) m g),
    (θ_run StepOutRefIdeal.defs _ _).mono (fun r h c => ?_) (StepOutRefIdeal.Value.run (F := Ideal) m' g')⟩
  · obtain ⟨h0, h1, h2, h3, h4⟩ := h c
    exact ⟨h0.trans (StepOutIdeal.At.final4 m c), h1.trans (StepOutIdeal.At.final5 m c), h2.trans (StepOutIdeal.At.final6 m c), h3.trans (StepOutIdeal.At.final7 m c), h4⟩
  · obtain ⟨h0, h1, h2, h3, h4⟩ := h c
    obtain ⟨e0, e1, e2⟩ := host_of (StableHlo.launchContents m' c) _ _ _ _ (hag c)
    exact ⟨(h0.trans (StepOutRefIdeal.Read.val_main_v23_eq _ _ _ _).symm).trans e0, (h1.trans (StepOutRefIdeal.Read.val_main_v4_eq _ _).symm).trans e1,
      (h2.trans (StepOutRefIdeal.Read.val_main_v10_eq _ _).symm).trans e2, h3.trans (hag c).2.1, h4⟩

end Cert.Proof.StepOut

end
-- ==== Proof.StepOdIn.lean ====
/-  One AdamW step of a [2048, 2560] weight, which hands its gradient on: the kernel's blocks of rows beside the reference's pointwise
    operations. -/
module

public import proofs.«01_k».proof.Defs
public import proofs.«01_k».proof.Proof.Adam
public import proofs.«01_k».proof.Proof.Gen.StepOdInIdeal.Value
public import proofs.«01_k».proof.Proof.Gen.StepOdInRefIdeal.Run
public import proofs.«01_k».proof.Proof.Gen.StepOdInRefIdeal.Read
public import Idealize.ShloMosaic.Lib.Claim
public import Idealize.ShloMosaic.Lib.Quiescent

@[expose] public section

noncomputable section

namespace Cert.StepOdInIdeal.At

open Cert.StepOdInIdeal Cert.StepOdInIdeal.Gen Cert.Adam Idealize.ShloMosaic Idealize.ShloMosaic.TcCoe Idealize.SL.Sem

variable (m : (ℓ : Loc nD τ sig) → Buf (Elt Ideal) ℓ) (c : Dev nD)

/-- The four arguments: weight, gradient, first moment, second moment. -/
abbrev Wt : FVec Ideal S2048x2560 .f32 := m ((c : Thread nD τ).loc main_arg0)
abbrev Gr : FVec Ideal S2048x2560 .f32 := m ((c : Thread nD τ).loc main_arg1)
abbrev Mo : FVec Ideal S2048x2560 .f32 := m ((c : Thread nD τ).loc main_arg2)
abbrev Sq : FVec Ideal S2048x2560 .f32 := m ((c : Thread nD τ).loc main_arg3)

/-- The kernel's four arrays. -/
def G4 : Buf (Elt Ideal) ((c : Thread nD τ).loc main_v0_0) := fun i : S2048x2560.Idx => del (Wt m c i) (Gr m c i) (Mo m c i) (Sq m c i)
def G5 : Buf (Elt Ideal) ((c : Thread nD τ).loc main_v0_1) := fun i : S2048x2560.Idx => mom (Gr m c i) (Mo m c i)
def G6 : Buf (Elt Ideal) ((c : Thread nD τ).loc main_v0_2) := fun i : S2048x2560.Idx => sqr (Gr m c i) (Sq m c i)
def G7 : Buf (Elt Ideal) ((c : Thread nD τ).loc main_v0_3) := fun i : S2048x2560.Idx => Gr m c i

/-- Where element `j` of block `t` lies in an array: the same place in all eight. -/
abbrev place (t : Fin cfg0.N) (j : S256x2560.Idx) : S2048x2560.Idx := ((cfg0.win 4).blk t).view.emb j

theorem blk0 (t : Fin cfg0.N) (j : S256x2560.Idx) : iblk m c 0 t j = Wt m c (place t j) := rfl
theorem blk1 (t : Fin cfg0.N) (j : S256x2560.Idx) : iblk m c 1 t j = Gr m c (place t j) := rfl
theorem blk2 (t : Fin cfg0.N) (j : S256x2560.Idx) : iblk m c 2 t j = Mo m c (place t j) := rfl
theorem blk3 (t : Fin cfg0.N) (j : S256x2560.Idx) : iblk m c 3 t j = Sq m c (place t j) := rfl

/-- The blocks cover the array. -/
theorem cover (i : S2048x2560.Idx) : ∃ t : Fin cfg0.N, i ∈ ((View.whole main_v0_0).slice (win0_4.rect t)).set := by
  have h0 : (i 0).val < 2048 := (i 0).isLt
  have h1 : (i 1).val < 2560 := (i 1).isLt
  have hN : cfg0.N = 8 := by decide +kernel
  let t : Fin cfg0.N := ⟨(i 0).val / 256, by omega⟩
  have ht : t.val = (i 0).val / 256 := rfl
  have hi : win0_4.index t 0 = t.val ∧ win0_4.index t 1 = 0 :=
    (by decide +kernel : ∀ t : Fin grid0.N, win0_4.index t 0 = t.val ∧ win0_4.index t 1 = 0) t
  refine ⟨t, ?_⟩
  show i ∈ ((View.whole main_v0_0).slice (win0_4.rect t)).set
  rw [View.set_slice_whole, Rect.mem_set_unit]
  intro a
  match a with
  | ⟨0, _⟩ => show win0_4.index t 0 * 256 ≤ (i 0).val ∧ (i 0).val < win0_4.index t 0 * 256 + 256; omega
  | ⟨1, _⟩ => show win0_4.index t 1 * 2560 ≤ (i 1).val ∧ (i 1).val < win0_4.index t 1 * 2560 + 2560; omega

theorem flushed4_eq (t : Fin cfg0.N) (hf : (cfg0.win 4).flush t = true) : (dats m 0 c).flushed 4 t = ((cfg0.win 4).blk t).view.read (Elt Ideal) (G4 m c) := by
  rw [Value.flushed4]
  funext j
  show out0_4 (iblk m c 0 t) (iblk m c 1 t) (iblk m c 2 t) (iblk m c 3 t) j = _
  unfold out0_4
  rw [View.canon_unit_zero (S := S256x2560) hz2]
  simp only [View.ld_unit_zero (S := S256x2560) hz2]
  rw [View.read_apply]
  refine Eq.trans ?_ (cast_eq _ _).symm
  show del (iblk m c 0 t j) (iblk m c 1 t j) (iblk m c 2 t j) (iblk m c 3 t j) = _
  rw [blk0, blk1, blk2, blk3]
  rfl

theorem final4 : (dats m 0 c).arrAt 4 cfg0.N = G4 m c :=
  (dats m 0 c).arrAt_eq_of_cover 4 (G4 m c) (flushed4_eq m c) fun i => (cover i).imp fun t h => ⟨flush0_4 t, h⟩

theorem flushed5_eq (t : Fin cfg0.N) (hf : (cfg0.win 5).flush t = true) : (dats m 0 c).flushed 5 t = ((cfg0.win 5).blk t).view.read (Elt Ideal) (G5 m c) := by
  rw [Value.flushed5]
  funext j
  show out0_5 (iblk m c 0 t) (iblk m c 1 t) (iblk m c 2 t) (iblk m c 3 t) j = _
  unfold out0_5
  rw [View.canon_unit_zero (S := S256x2560) hz2]
  simp only [View.ld_unit_zero (S := S256x2560) hz2]
  rw [View.read_apply]
  refine Eq.trans ?_ (cast_eq _ _).symm
  show mom (iblk m c 1 t j) (iblk m c 2 t j) = _
  rw [blk1, blk2]
  rfl

theorem final5 : (dats m 0 c).arrAt 5 cfg0.N = G5 m c :=
  (dats m 0 c).arrAt_eq_of_cover 5 (G5 m c) (flushed5_eq m c) fun i => (cover i).imp fun t h => ⟨flush0_5 t, h⟩

theorem flushed6_eq (t : Fin cfg0.N) (hf : (cfg0.win 6).flush t = true) : (dats m 0 c).flushed 6 t = ((cfg0.win 6).blk t).view.read (Elt Ideal) (G6 m c) := by
  rw [Value.flushed6]
  funext j
  show out0_6 (iblk m c 0 t) (iblk m c 1 t) (iblk m c 2 t) (iblk m c 3 t) j = _
  unfold out0_6
  rw [View.canon_unit_zero (S := S256x2560) hz2]
  simp only [View.ld_unit_zero (S := S256x2560) hz2]
  rw [View.read_apply]
  refine Eq.trans ?_ (cast_eq _ _).symm
  show sqr (iblk m c 1 t j) (iblk m c 3 t j) = _
  rw [blk1, blk3]
  rfl

theorem final6 : (dats m 0 c).arrAt 6 cfg0.N = G6 m c :=
  (dats m 0 c).arrAt_eq_of_cover 6 (G6 m c) (flushed6_eq m c) fun i => (cover i).imp fun t h => ⟨flush0_6 t, h⟩

theorem flushed7_eq (t : Fin cfg0.N) (hf : (cfg0.win 7).flush t = true) : (dats m 0 c).flushed 7 t = ((cfg0.win 7).blk t).view.read (Elt Ideal) (G7 m c) := by
  rw [Value.flushed7]
  funext j
  show out0_7 (iblk m c 0 t) (iblk m c 1 t) (iblk m c 2 t) (iblk m c 3 t) j = _
  unfold out0_7
  rw [View.canon_unit_zero (S := S256x2560) hz2]
  rw [View.read_apply]
  refine Eq.trans ?_ (cast_eq _ _).symm
  refine (congrFun (View.ld_unit_zero (S := S256x2560) hz2 _ _) j).trans ?_
  show iblk m c 1 t j = _
  rw [blk1]
  rfl

theorem final7 : (dats m 0 c).arrAt 7 cfg0.N = G7 m c :=
  (dats m 0 c).arrAt_eq_of_cover 7 (G7 m c) (flushed7_eq m c) fun i => (cover i).imp fun t h => ⟨flush0_7 t, h⟩

end Cert.StepOdInIdeal.At

namespace Cert.Proof.StepOdIn

open Idealize.ShloMosaic Idealize.SL.Sem Cert.Adam

section
open Cert.StepOdInRefIdeal Cert.StepOdInRefIdeal.Read

/-- The reference's three computed results, index by index. -/
theorem host_of (V0 : Valuation τ sig (Elt Ideal)) (w g m v : FVec Ideal S2048x2560 .f32) (e : V0 (Proc.devRef .tc main_arg0) = w ∧
    V0 (Proc.devRef .tc main_arg1) = g ∧ V0 (Proc.devRef .tc main_arg2) = m ∧ V0 (Proc.devRef .tc main_arg3) = v) :
    val_main_v23 (F := Ideal) (V0 (Proc.devRef .tc main_arg0)) (V0 (Proc.devRef .tc main_arg1)) (V0 (Proc.devRef .tc main_arg2)) (V0 (Proc.devRef .tc main_arg3)) = (fun i : S2048x2560.Idx => del (w i) (g i) (m i) (v i))
      ∧ val_main_v4 (F := Ideal) (V0 (Proc.devRef .tc main_arg1)) (V0 (Proc.devRef .tc main_arg2)) = (fun i : S2048x2560.Idx => mom (g i) (m i))
      ∧ val_main_v10 (F := Ideal) (V0 (Proc.devRef .tc main_arg1)) (V0 (Proc.devRef .tc main_arg3)) = fun i : S2048x2560.Idx => sqr (g i) (v i) := by
  obtain ⟨rfl, rfl, rfl, rfl⟩ := e
  exact ⟨funext fun _ => rfl, funext fun _ => rfl, funext fun _ => rfl⟩

end

theorem frame : Cert.quiescent_StepOdInRefIdeal := fun m g _ =>
  (θ_run (StepOdInRefIdeal.defs (F := Ideal)) _ _).mono
    (fun r h => ⟨fun c => (h c).2.2.2.2, Idealize.ShloMosaic.sem_eq_zero_of_no_sems (by decide) r.2⟩)
    (StepOdInRefIdeal.Value.run (F := Ideal) m g)

theorem value : Cert.algebraic_StepOdInIdeal_StepOdInRefIdeal := by
  intro m g m' g' _ hag
  refine ⟨StepOdInIdeal.At.G4 m, StepOdInIdeal.At.G5 m, StepOdInIdeal.At.G6 m, StepOdInIdeal.At.G7 m,
    (θ_run StepOdInIdeal.defs _ _).mono (fun r h c => ?_) (StepOdInIdeal.Value.run_blocks (F := Ideal) m g),
    (θ_run StepOdInRefIdeal.defs _ _).mono (fun r h c => ?_) (StepOdInRefIdeal.Value.run (F := Ideal) m' g')⟩
  · obtain ⟨h0, h1, h2, h3, h4⟩ := h c
    exact ⟨h0.trans (StepOdInIdeal.At.final4 m c), h1.trans (StepOdInIdeal.At.final5 m c), h2.trans (StepOdInIdeal.At.final6 m c), h3.trans (StepOdInIdeal.At.final7 m c), h4⟩
  · obtain ⟨h0, h1, h2, h3, h4⟩ := h c
    obtain ⟨e0, e1, e2⟩ := host_of (StableHlo.launchContents m' c) _ _ _ _ (hag c)
    exact ⟨(h0.trans (StepOdInRefIdeal.Read.val_main_v23_eq _ _ _ _).symm).trans e0, (h1.trans (StepOdInRefIdeal.Read.val_main_v4_eq _ _).symm).trans e1,
      (h2.trans (StepOdInRefIdeal.Read.val_main_v10_eq _ _).symm).trans e2, h3.trans (hag c).2.1, h4⟩

end Cert.Proof.StepOdIn

end
-- ==== Proof.StepPool.lean ====
/-  One AdamW step of a [256, 256] weight, which hands its gradient on: the kernel's blocks of rows beside the reference's pointwise
    operations. -/
module

public import proofs.«01_k».proof.Defs
public import proofs.«01_k».proof.Proof.Adam
public import proofs.«01_k».proof.Proof.Gen.StepPoolIdeal.Value
public import proofs.«01_k».proof.Proof.Gen.StepPoolRefIdeal.Run
public import proofs.«01_k».proof.Proof.Gen.StepPoolRefIdeal.Read
public import Idealize.ShloMosaic.Lib.Claim
public import Idealize.ShloMosaic.Lib.Quiescent

@[expose] public section

noncomputable section

namespace Cert.StepPoolIdeal.At

open Cert.StepPoolIdeal Cert.StepPoolIdeal.Gen Cert.Adam Idealize.ShloMosaic Idealize.ShloMosaic.TcCoe Idealize.SL.Sem

variable (m : (ℓ : Loc nD τ sig) → Buf (Elt Ideal) ℓ) (c : Dev nD)

/-- The four arguments: weight, gradient, first moment, second moment. -/
abbrev Wt : FVec Ideal S256x256 .f32 := m ((c : Thread nD τ).loc main_arg0)
abbrev Gr : FVec Ideal S256x256 .f32 := m ((c : Thread nD τ).loc main_arg1)
abbrev Mo : FVec Ideal S256x256 .f32 := m ((c : Thread nD τ).loc main_arg2)
abbrev Sq : FVec Ideal S256x256 .f32 := m ((c : Thread nD τ).loc main_arg3)

/-- The kernel's four arrays. -/
def G4 : Buf (Elt Ideal) ((c : Thread nD τ).loc main_v0_0) := fun i : S256x256.Idx => del (Wt m c i) (Gr m c i) (Mo m c i) (Sq m c i)
def G5 : Buf (Elt Ideal) ((c : Thread nD τ).loc main_v0_1) := fun i : S256x256.Idx => mom (Gr m c i) (Mo m c i)
def G6 : Buf (Elt Ideal) ((c : Thread nD τ).loc main_v0_2) := fun i : S256x256.Idx => sqr (Gr m c i) (Sq m c i)
def G7 : Buf (Elt Ideal) ((c : Thread nD τ).loc main_v0_3) := fun i : S256x256.Idx => Gr m c i

/-- Where element `j` of block `t` lies in an array: the same place in all eight. -/
abbrev place (t : Fin cfg0.N) (j : S256x256.Idx) : S256x256.Idx := ((cfg0.win 4).blk t).view.emb j

theorem blk0 (t : Fin cfg0.N) (j : S256x256.Idx) : iblk m c 0 t j = Wt m c (place t j) := rfl
theorem blk1 (t : Fin cfg0.N) (j : S256x256.Idx) : iblk m c 1 t j = Gr m c (place t j) := rfl
theorem blk2 (t : Fin cfg0.N) (j : S256x256.Idx) : iblk m c 2 t j = Mo m c (place t j) := rfl
theorem blk3 (t : Fin cfg0.N) (j : S256x256.Idx) : iblk m c 3 t j = Sq m c (place t j) := rfl

/-- The blocks cover the array. -/
theorem cover (i : S256x256.Idx) : ∃ t : Fin cfg0.N, i ∈ ((View.whole main_v0_0).slice (win0_4.rect t)).set := by
  have h0 : (i 0).val < 256 := (i 0).isLt
  have h1 : (i 1).val < 256 := (i 1).isLt
  have hN : cfg0.N = 1 := by decide +kernel
  let t : Fin cfg0.N := ⟨(i 0).val / 256, by omega⟩
  have ht : t.val = (i 0).val / 256 := rfl
  have hi : win0_4.index t 0 = t.val ∧ win0_4.index t 1 = 0 :=
    (by decide +kernel : ∀ t : Fin grid0.N, win0_4.index t 0 = t.val ∧ win0_4.index t 1 = 0) t
  refine ⟨t, ?_⟩
  show i ∈ ((View.whole main_v0_0).slice (win0_4.rect t)).set
  rw [View.set_slice_whole, Rect.mem_set_unit]
  intro a
  match a with
  | ⟨0, _⟩ => show win0_4.index t 0 * 256 ≤ (i 0).val ∧ (i 0).val < win0_4.index t 0 * 256 + 256; omega
  | ⟨1, _⟩ => show win0_4.index t 1 * 256 ≤ (i 1).val ∧ (i 1).val < win0_4.index t 1 * 256 + 256; omega

theorem flushed4_eq (t : Fin cfg0.N) (hf : (cfg0.win 4).flush t = true) : (dats m 0 c).flushed 4 t = ((cfg0.win 4).blk t).view.read (Elt Ideal) (G4 m c) := by
  rw [Value.flushed4]
  funext j
  show out0_4 (iblk m c 0 t) (iblk m c 1 t) (iblk m c 2 t) (iblk m c 3 t) j = _
  unfold out0_4
  rw [View.canon_unit_zero (S := S256x256) hz2]
  simp only [View.ld_unit_zero (S := S256x256) hz2]
  rw [View.read_apply]
  refine Eq.trans ?_ (cast_eq _ _).symm
  show del (iblk m c 0 t j) (iblk m c 1 t j) (iblk m c 2 t j) (iblk m c 3 t j) = _
  rw [blk0, blk1, blk2, blk3]
  rfl

theorem final4 : (dats m 0 c).arrAt 4 cfg0.N = G4 m c :=
  (dats m 0 c).arrAt_eq_of_cover 4 (G4 m c) (flushed4_eq m c) fun i => (cover i).imp fun t h => ⟨flush0_4 t, h⟩

theorem flushed5_eq (t : Fin cfg0.N) (hf : (cfg0.win 5).flush t = true) : (dats m 0 c).flushed 5 t = ((cfg0.win 5).blk t).view.read (Elt Ideal) (G5 m c) := by
  rw [Value.flushed5]
  funext j
  show out0_5 (iblk m c 0 t) (iblk m c 1 t) (iblk m c 2 t) (iblk m c 3 t) j = _
  unfold out0_5
  rw [View.canon_unit_zero (S := S256x256) hz2]
  simp only [View.ld_unit_zero (S := S256x256) hz2]
  rw [View.read_apply]
  refine Eq.trans ?_ (cast_eq _ _).symm
  show mom (iblk m c 1 t j) (iblk m c 2 t j) = _
  rw [blk1, blk2]
  rfl

theorem final5 : (dats m 0 c).arrAt 5 cfg0.N = G5 m c :=
  (dats m 0 c).arrAt_eq_of_cover 5 (G5 m c) (flushed5_eq m c) fun i => (cover i).imp fun t h => ⟨flush0_5 t, h⟩

theorem flushed6_eq (t : Fin cfg0.N) (hf : (cfg0.win 6).flush t = true) : (dats m 0 c).flushed 6 t = ((cfg0.win 6).blk t).view.read (Elt Ideal) (G6 m c) := by
  rw [Value.flushed6]
  funext j
  show out0_6 (iblk m c 0 t) (iblk m c 1 t) (iblk m c 2 t) (iblk m c 3 t) j = _
  unfold out0_6
  rw [View.canon_unit_zero (S := S256x256) hz2]
  simp only [View.ld_unit_zero (S := S256x256) hz2]
  rw [View.read_apply]
  refine Eq.trans ?_ (cast_eq _ _).symm
  show sqr (iblk m c 1 t j) (iblk m c 3 t j) = _
  rw [blk1, blk3]
  rfl

theorem final6 : (dats m 0 c).arrAt 6 cfg0.N = G6 m c :=
  (dats m 0 c).arrAt_eq_of_cover 6 (G6 m c) (flushed6_eq m c) fun i => (cover i).imp fun t h => ⟨flush0_6 t, h⟩

theorem flushed7_eq (t : Fin cfg0.N) (hf : (cfg0.win 7).flush t = true) : (dats m 0 c).flushed 7 t = ((cfg0.win 7).blk t).view.read (Elt Ideal) (G7 m c) := by
  rw [Value.flushed7]
  funext j
  show out0_7 (iblk m c 0 t) (iblk m c 1 t) (iblk m c 2 t) (iblk m c 3 t) j = _
  unfold out0_7
  rw [View.canon_unit_zero (S := S256x256) hz2]
  rw [View.read_apply]
  refine Eq.trans ?_ (cast_eq _ _).symm
  refine (congrFun (View.ld_unit_zero (S := S256x256) hz2 _ _) j).trans ?_
  show iblk m c 1 t j = _
  rw [blk1]
  rfl

theorem final7 : (dats m 0 c).arrAt 7 cfg0.N = G7 m c :=
  (dats m 0 c).arrAt_eq_of_cover 7 (G7 m c) (flushed7_eq m c) fun i => (cover i).imp fun t h => ⟨flush0_7 t, h⟩

end Cert.StepPoolIdeal.At

namespace Cert.Proof.StepPool

open Idealize.ShloMosaic Idealize.SL.Sem Cert.Adam

section
open Cert.StepPoolRefIdeal Cert.StepPoolRefIdeal.Read

/-- The reference's three computed results, index by index. -/
theorem host_of (V0 : Valuation τ sig (Elt Ideal)) (w g m v : FVec Ideal S256x256 .f32) (e : V0 (Proc.devRef .tc main_arg0) = w ∧
    V0 (Proc.devRef .tc main_arg1) = g ∧ V0 (Proc.devRef .tc main_arg2) = m ∧ V0 (Proc.devRef .tc main_arg3) = v) :
    val_main_v23 (F := Ideal) (V0 (Proc.devRef .tc main_arg0)) (V0 (Proc.devRef .tc main_arg1)) (V0 (Proc.devRef .tc main_arg2)) (V0 (Proc.devRef .tc main_arg3)) = (fun i : S256x256.Idx => del (w i) (g i) (m i) (v i))
      ∧ val_main_v4 (F := Ideal) (V0 (Proc.devRef .tc main_arg1)) (V0 (Proc.devRef .tc main_arg2)) = (fun i : S256x256.Idx => mom (g i) (m i))
      ∧ val_main_v10 (F := Ideal) (V0 (Proc.devRef .tc main_arg1)) (V0 (Proc.devRef .tc main_arg3)) = fun i : S256x256.Idx => sqr (g i) (v i) := by
  obtain ⟨rfl, rfl, rfl, rfl⟩ := e
  exact ⟨funext fun _ => rfl, funext fun _ => rfl, funext fun _ => rfl⟩

end

theorem frame : Cert.quiescent_StepPoolRefIdeal := fun m g _ =>
  (θ_run (StepPoolRefIdeal.defs (F := Ideal)) _ _).mono
    (fun r h => ⟨fun c => (h c).2.2.2.2, Idealize.ShloMosaic.sem_eq_zero_of_no_sems (by decide) r.2⟩)
    (StepPoolRefIdeal.Value.run (F := Ideal) m g)

theorem value : Cert.algebraic_StepPoolIdeal_StepPoolRefIdeal := by
  intro m g m' g' _ hag
  refine ⟨StepPoolIdeal.At.G4 m, StepPoolIdeal.At.G5 m, StepPoolIdeal.At.G6 m, StepPoolIdeal.At.G7 m,
    (θ_run StepPoolIdeal.defs _ _).mono (fun r h c => ?_) (StepPoolIdeal.Value.run_blocks (F := Ideal) m g),
    (θ_run StepPoolRefIdeal.defs _ _).mono (fun r h c => ?_) (StepPoolRefIdeal.Value.run (F := Ideal) m' g')⟩
  · obtain ⟨h0, h1, h2, h3, h4⟩ := h c
    exact ⟨h0.trans (StepPoolIdeal.At.final4 m c), h1.trans (StepPoolIdeal.At.final5 m c), h2.trans (StepPoolIdeal.At.final6 m c), h3.trans (StepPoolIdeal.At.final7 m c), h4⟩
  · obtain ⟨h0, h1, h2, h3, h4⟩ := h c
    obtain ⟨e0, e1, e2⟩ := host_of (StableHlo.launchContents m' c) _ _ _ _ (hag c)
    exact ⟨(h0.trans (StepPoolRefIdeal.Read.val_main_v23_eq _ _ _ _).symm).trans e0, (h1.trans (StepPoolRefIdeal.Read.val_main_v4_eq _ _).symm).trans e1,
      (h2.trans (StepPoolRefIdeal.Read.val_main_v10_eq _ _).symm).trans e2, h3.trans (hag c).2.1, h4⟩

end Cert.Proof.StepPool

end
-- ==== Proof.StepAdaB.lean ====
/-  One AdamW step of a [2, 6144] weight: the kernel's pointwise blocks beside the reference's pointwise operations. -/
module

public import proofs.«01_k».proof.Defs
public import proofs.«01_k».proof.Proof.Gen.StepAdaBIdeal.Value
public import proofs.«01_k».proof.Proof.Gen.StepAdaBRefIdeal.Run
public import proofs.«01_k».proof.Proof.Gen.StepAdaBRefIdeal.Read
public import Idealize.ShloMosaic.Lib.Claim
public import Idealize.ShloMosaic.Lib.Quiescent

@[expose] public section

noncomputable section

namespace Cert.Proof.StepAdaB

open Idealize.ShloMosaic Idealize.SL.Sem

section
open Cert.StepAdaBRefIdeal Cert.StepAdaBRefIdeal.Read

/-- The reference's three results, index by index the kernel's. -/
theorem host_of (V0 : Valuation τ sig (Elt Ideal)) (w g m v : FVec Ideal S2x6144 .f32) (e : V0 (Proc.devRef .tc main_arg0) = w ∧
    V0 (Proc.devRef .tc main_arg1) = g ∧ V0 (Proc.devRef .tc main_arg2) = m ∧ V0 (Proc.devRef .tc main_arg3) = v) :
    val_main_v23 (F := Ideal) (V0 (Proc.devRef .tc main_arg0)) (V0 (Proc.devRef .tc main_arg1)) (V0 (Proc.devRef .tc main_arg2)) (V0 (Proc.devRef .tc main_arg3)) = StepAdaBIdeal.Value.G4 g w m v
      ∧ val_main_v4 (F := Ideal) (V0 (Proc.devRef .tc main_arg1)) (V0 (Proc.devRef .tc main_arg2)) = StepAdaBIdeal.Value.G5 g m ∧ val_main_v10 (F := Ideal) (V0 (Proc.devRef .tc main_arg1)) (V0 (Proc.devRef .tc main_arg3)) = StepAdaBIdeal.Value.G6 g v := by
  obtain ⟨rfl, rfl, rfl, rfl⟩ := e
  exact ⟨funext fun _ => rfl, funext fun _ => rfl, funext fun _ => rfl⟩

end

theorem frame : Cert.quiescent_StepAdaBRefIdeal := fun m g _ =>
  (θ_run (StepAdaBRefIdeal.defs (F := Ideal)) _ _).mono
    (fun r h => ⟨fun c => (h c).2.2.2, Idealize.ShloMosaic.sem_eq_zero_of_no_sems (by decide) r.2⟩)
    (StepAdaBRefIdeal.Value.run (F := Ideal) m g)

theorem value : Cert.algebraic_StepAdaBIdeal_StepAdaBRefIdeal := by
  intro m g m' g' _ hag
  refine ⟨_, _, _, StepAdaBIdeal.Value.run (F := Ideal) m g, (θ_run StepAdaBRefIdeal.defs _ _).mono (fun r h c => ?_) (StepAdaBRefIdeal.Value.run (F := Ideal) m' g')⟩
  obtain ⟨h0, h1, h2, h3⟩ := h c
  obtain ⟨e0, e1, e2⟩ := StepAdaB.host_of (StableHlo.launchContents m' c) _ _ _ _ (hag c)
  exact ⟨(h0.trans (StepAdaBRefIdeal.Read.val_main_v23_eq _ _ _ _).symm).trans e0, (h1.trans (StepAdaBRefIdeal.Read.val_main_v4_eq _ _).symm).trans e1,
    (h2.trans (StepAdaBRefIdeal.Read.val_main_v10_eq _ _).symm).trans e2, h3⟩

end Cert.Proof.StepAdaB

end
-- ==== Proof.StepGain.lean ====
/-  One AdamW step of a [2, 2048] weight: the kernel's pointwise blocks beside the reference's pointwise operations. -/
module

public import proofs.«01_k».proof.Defs
public import proofs.«01_k».proof.Proof.Gen.StepGainIdeal.Value
public import proofs.«01_k».proof.Proof.Gen.StepGainRefIdeal.Run
public import proofs.«01_k».proof.Proof.Gen.StepGainRefIdeal.Read
public import Idealize.ShloMosaic.Lib.Claim
public import Idealize.ShloMosaic.Lib.Quiescent

@[expose] public section

noncomputable section

namespace Cert.Proof.StepGain

open Idealize.ShloMosaic Idealize.SL.Sem

section
open Cert.StepGainRefIdeal Cert.StepGainRefIdeal.Read

/-- The reference's three results, index by index the kernel's. -/
theorem host_of (V0 : Valuation τ sig (Elt Ideal)) (w g m v : FVec Ideal S2x2048 .f32) (e : V0 (Proc.devRef .tc main_arg0) = w ∧
    V0 (Proc.devRef .tc main_arg1) = g ∧ V0 (Proc.devRef .tc main_arg2) = m ∧ V0 (Proc.devRef .tc main_arg3) = v) :
    val_main_v23 (F := Ideal) (V0 (Proc.devRef .tc main_arg0)) (V0 (Proc.devRef .tc main_arg1)) (V0 (Proc.devRef .tc main_arg2)) (V0 (Proc.devRef .tc main_arg3)) = StepGainIdeal.Value.G4 g w m v
      ∧ val_main_v4 (F := Ideal) (V0 (Proc.devRef .tc main_arg1)) (V0 (Proc.devRef .tc main_arg2)) = StepGainIdeal.Value.G5 g m ∧ val_main_v10 (F := Ideal) (V0 (Proc.devRef .tc main_arg1)) (V0 (Proc.devRef .tc main_arg3)) = StepGainIdeal.Value.G6 g v := by
  obtain ⟨rfl, rfl, rfl, rfl⟩ := e
  exact ⟨funext fun _ => rfl, funext fun _ => rfl, funext fun _ => rfl⟩

end

theorem frame : Cert.quiescent_StepGainRefIdeal := fun m g _ =>
  (θ_run (StepGainRefIdeal.defs (F := Ideal)) _ _).mono
    (fun r h => ⟨fun c => (h c).2.2.2, Idealize.ShloMosaic.sem_eq_zero_of_no_sems (by decide) r.2⟩)
    (StepGainRefIdeal.Value.run (F := Ideal) m g)

theorem value : Cert.algebraic_StepGainIdeal_StepGainRefIdeal := by
  intro m g m' g' _ hag
  refine ⟨_, _, _, StepGainIdeal.Value.run (F := Ideal) m g, (θ_run StepGainRefIdeal.defs _ _).mono (fun r h c => ?_) (StepGainRefIdeal.Value.run (F := Ideal) m' g')⟩
  obtain ⟨h0, h1, h2, h3⟩ := h c
  obtain ⟨e0, e1, e2⟩ := StepGain.host_of (StableHlo.launchContents m' c) _ _ _ _ (hag c)
  exact ⟨(h0.trans (StepGainRefIdeal.Read.val_main_v23_eq _ _ _ _).symm).trans e0, (h1.trans (StepGainRefIdeal.Read.val_main_v4_eq _ _).symm).trans e1,
    (h2.trans (StepGainRefIdeal.Read.val_main_v10_eq _ _).symm).trans e2, h3⟩

end Cert.Proof.StepGain

end
-- ==== Proof.StepHalf.lean ====
/-  One AdamW step of a [1, 1024] weight: the kernel's pointwise blocks beside the reference's pointwise operations. -/
module

public import proofs.«01_k».proof.Defs
public import proofs.«01_k».proof.Proof.Gen.StepHalfIdeal.Value
public import proofs.«01_k».proof.Proof.Gen.StepHalfRefIdeal.Run
public import proofs.«01_k».proof.Proof.Gen.StepHalfRefIdeal.Read
public import Idealize.ShloMosaic.Lib.Claim
public import Idealize.ShloMosaic.Lib.Quiescent

@[expose] public section

noncomputable section

namespace Cert.Proof.StepHalf

open Idealize.ShloMosaic Idealize.SL.Sem

section
open Cert.StepHalfRefIdeal Cert.StepHalfRefIdeal.Read

/-- The reference's three results, index by index the kernel's. -/
theorem host_of (V0 : Valuation τ sig (Elt Ideal)) (w g m v : FVec Ideal S1x1024 .f32) (e : V0 (Proc.devRef .tc main_arg0) = w ∧
    V0 (Proc.devRef .tc main_arg1) = g ∧ V0 (Proc.devRef .tc main_arg2) = m ∧ V0 (Proc.devRef .tc main_arg3) = v) :
    val_main_v23 (F := Ideal) (V0 (Proc.devRef .tc main_arg0)) (V0 (Proc.devRef .tc main_arg1)) (V0 (Proc.devRef .tc main_arg2)) (V0 (Proc.devRef .tc main_arg3)) = StepHalfIdeal.Value.G4 g w m v
      ∧ val_main_v4 (F := Ideal) (V0 (Proc.devRef .tc main_arg1)) (V0 (Proc.devRef .tc main_arg2)) = StepHalfIdeal.Value.G5 g m ∧ val_main_v10 (F := Ideal) (V0 (Proc.devRef .tc main_arg1)) (V0 (Proc.devRef .tc main_arg3)) = StepHalfIdeal.Value.G6 g v := by
  obtain ⟨rfl, rfl, rfl, rfl⟩ := e
  exact ⟨funext fun _ => rfl, funext fun _ => rfl, funext fun _ => rfl⟩

end

theorem frame : Cert.quiescent_StepHalfRefIdeal := fun m g _ =>
  (θ_run (StepHalfRefIdeal.defs (F := Ideal)) _ _).mono
    (fun r h => ⟨fun c => (h c).2.2.2, Idealize.ShloMosaic.sem_eq_zero_of_no_sems (by decide) r.2⟩)
    (StepHalfRefIdeal.Value.run (F := Ideal) m g)

theorem value : Cert.algebraic_StepHalfIdeal_StepHalfRefIdeal := by
  intro m g m' g' _ hag
  refine ⟨_, _, _, StepHalfIdeal.Value.run (F := Ideal) m g, (θ_run StepHalfRefIdeal.defs _ _).mono (fun r h c => ?_) (StepHalfRefIdeal.Value.run (F := Ideal) m' g')⟩
  obtain ⟨h0, h1, h2, h3⟩ := h c
  obtain ⟨e0, e1, e2⟩ := StepHalf.host_of (StableHlo.launchContents m' c) _ _ _ _ (hag c)
  exact ⟨(h0.trans (StepHalfRefIdeal.Read.val_main_v23_eq _ _ _ _).symm).trans e0, (h1.trans (StepHalfRefIdeal.Read.val_main_v4_eq _ _).symm).trans e1,
    (h2.trans (StepHalfRefIdeal.Read.val_main_v10_eq _ _).symm).trans e2, h3⟩

end Cert.Proof.StepHalf

end
-- ==== Proof.StepConv.lean ====
/-  One AdamW step of a [3, 256] weight: the kernel's pointwise blocks beside the reference's pointwise operations. -/
module

public import proofs.«01_k».proof.Defs
public import proofs.«01_k».proof.Proof.Gen.StepConvIdeal.Value
public import proofs.«01_k».proof.Proof.Gen.StepConvRefIdeal.Run
public import proofs.«01_k».proof.Proof.Gen.StepConvRefIdeal.Read
public import Idealize.ShloMosaic.Lib.Claim
public import Idealize.ShloMosaic.Lib.Quiescent

@[expose] public section

noncomputable section

namespace Cert.Proof.StepConv

open Idealize.ShloMosaic Idealize.SL.Sem

section
open Cert.StepConvRefIdeal Cert.StepConvRefIdeal.Read

/-- The reference's three results, index by index the kernel's. -/
theorem host_of (V0 : Valuation τ sig (Elt Ideal)) (w g m v : FVec Ideal S3x256 .f32) (e : V0 (Proc.devRef .tc main_arg0) = w ∧
    V0 (Proc.devRef .tc main_arg1) = g ∧ V0 (Proc.devRef .tc main_arg2) = m ∧ V0 (Proc.devRef .tc main_arg3) = v) :
    val_main_v23 (F := Ideal) (V0 (Proc.devRef .tc main_arg0)) (V0 (Proc.devRef .tc main_arg1)) (V0 (Proc.devRef .tc main_arg2)) (V0 (Proc.devRef .tc main_arg3)) = StepConvIdeal.Value.G4 g w m v
      ∧ val_main_v4 (F := Ideal) (V0 (Proc.devRef .tc main_arg1)) (V0 (Proc.devRef .tc main_arg2)) = StepConvIdeal.Value.G5 g m ∧ val_main_v10 (F := Ideal) (V0 (Proc.devRef .tc main_arg1)) (V0 (Proc.devRef .tc main_arg3)) = StepConvIdeal.Value.G6 g v := by
  obtain ⟨rfl, rfl, rfl, rfl⟩ := e
  exact ⟨funext fun _ => rfl, funext fun _ => rfl, funext fun _ => rfl⟩

end

theorem frame : Cert.quiescent_StepConvRefIdeal := fun m g _ =>
  (θ_run (StepConvRefIdeal.defs (F := Ideal)) _ _).mono
    (fun r h => ⟨fun c => (h c).2.2.2, Idealize.ShloMosaic.sem_eq_zero_of_no_sems (by decide) r.2⟩)
    (StepConvRefIdeal.Value.run (F := Ideal) m g)

theorem value : Cert.algebraic_StepConvIdeal_StepConvRefIdeal := by
  intro m g m' g' _ hag
  refine ⟨_, _, _, StepConvIdeal.Value.run (F := Ideal) m g, (θ_run StepConvRefIdeal.defs _ _).mono (fun r h c => ?_) (StepConvRefIdeal.Value.run (F := Ideal) m' g')⟩
  obtain ⟨h0, h1, h2, h3⟩ := h c
  obtain ⟨e0, e1, e2⟩ := StepConv.host_of (StableHlo.launchContents m' c) _ _ _ _ (hag c)
  exact ⟨(h0.trans (StepConvRefIdeal.Read.val_main_v23_eq _ _ _ _).symm).trans e0, (h1.trans (StepConvRefIdeal.Read.val_main_v4_eq _ _).symm).trans e1,
    (h2.trans (StepConvRefIdeal.Read.val_main_v10_eq _ _).symm).trans e2, h3⟩

end Cert.Proof.StepConv

end
-- ==== Proof.StepOnorm.lean ====
/-  One AdamW step of a [1, 512] weight: the kernel's pointwise blocks beside the reference's pointwise operations. -/
module

public import proofs.«01_k».proof.Defs
public import proofs.«01_k».proof.Proof.Gen.StepOnormIdeal.Value
public import proofs.«01_k».proof.Proof.Gen.StepOnormRefIdeal.Run
public import proofs.«01_k».proof.Proof.Gen.StepOnormRefIdeal.Read
public import Idealize.ShloMosaic.Lib.Claim
public import Idealize.ShloMosaic.Lib.Quiescent

@[expose] public section

noncomputable section

namespace Cert.Proof.StepOnorm

open Idealize.ShloMosaic Idealize.SL.Sem

section
open Cert.StepOnormRefIdeal Cert.StepOnormRefIdeal.Read

/-- The reference's three results, index by index the kernel's. -/
theorem host_of (V0 : Valuation τ sig (Elt Ideal)) (w g m v : FVec Ideal S1x512 .f32) (e : V0 (Proc.devRef .tc main_arg0) = w ∧
    V0 (Proc.devRef .tc main_arg1) = g ∧ V0 (Proc.devRef .tc main_arg2) = m ∧ V0 (Proc.devRef .tc main_arg3) = v) :
    val_main_v23 (F := Ideal) (V0 (Proc.devRef .tc main_arg0)) (V0 (Proc.devRef .tc main_arg1)) (V0 (Proc.devRef .tc main_arg2)) (V0 (Proc.devRef .tc main_arg3)) = StepOnormIdeal.Value.G4 g w m v
      ∧ val_main_v4 (F := Ideal) (V0 (Proc.devRef .tc main_arg1)) (V0 (Proc.devRef .tc main_arg2)) = StepOnormIdeal.Value.G5 g m ∧ val_main_v10 (F := Ideal) (V0 (Proc.devRef .tc main_arg1)) (V0 (Proc.devRef .tc main_arg3)) = StepOnormIdeal.Value.G6 g v := by
  obtain ⟨rfl, rfl, rfl, rfl⟩ := e
  exact ⟨funext fun _ => rfl, funext fun _ => rfl, funext fun _ => rfl⟩

end

theorem frame : Cert.quiescent_StepOnormRefIdeal := fun m g _ =>
  (θ_run (StepOnormRefIdeal.defs (F := Ideal)) _ _).mono
    (fun r h => ⟨fun c => (h c).2.2.2, Idealize.ShloMosaic.sem_eq_zero_of_no_sems (by decide) r.2⟩)
    (StepOnormRefIdeal.Value.run (F := Ideal) m g)

theorem value : Cert.algebraic_StepOnormIdeal_StepOnormRefIdeal := by
  intro m g m' g' _ hag
  refine ⟨_, _, _, StepOnormIdeal.Value.run (F := Ideal) m g, (θ_run StepOnormRefIdeal.defs _ _).mono (fun r h c => ?_) (StepOnormRefIdeal.Value.run (F := Ideal) m' g')⟩
  obtain ⟨h0, h1, h2, h3⟩ := h c
  obtain ⟨e0, e1, e2⟩ := StepOnorm.host_of (StableHlo.launchContents m' c) _ _ _ _ (hag c)
  exact ⟨(h0.trans (StepOnormRefIdeal.Read.val_main_v23_eq _ _ _ _).symm).trans e0, (h1.trans (StepOnormRefIdeal.Read.val_main_v4_eq _ _).symm).trans e1,
    (h2.trans (StepOnormRefIdeal.Read.val_main_v10_eq _ _).symm).trans e2, h3⟩

end Cert.Proof.StepOnorm

end
-- ==== Proof.StepLb.lean ====
/-  One AdamW step of a [6, 512] weight: the kernel's pointwise blocks beside the reference's pointwise operations. -/
module

public import proofs.«01_k».proof.Defs
public import proofs.«01_k».proof.Proof.Gen.StepLbIdeal.Value
public import proofs.«01_k».proof.Proof.Gen.StepLbRefIdeal.Run
public import proofs.«01_k».proof.Proof.Gen.StepLbRefIdeal.Read
public import Idealize.ShloMosaic.Lib.Claim
public import Idealize.ShloMosaic.Lib.Quiescent

@[expose] public section

noncomputable section

namespace Cert.Proof.StepLb

open Idealize.ShloMosaic Idealize.SL.Sem

section
open Cert.StepLbRefIdeal Cert.StepLbRefIdeal.Read

/-- The reference's three results, index by index the kernel's. -/
theorem host_of (V0 : Valuation τ sig (Elt Ideal)) (w g m v : FVec Ideal S6x512 .f32) (e : V0 (Proc.devRef .tc main_arg0) = w ∧
    V0 (Proc.devRef .tc main_arg1) = g ∧ V0 (Proc.devRef .tc main_arg2) = m ∧ V0 (Proc.devRef .tc main_arg3) = v) :
    val_main_v23 (F := Ideal) (V0 (Proc.devRef .tc main_arg0)) (V0 (Proc.devRef .tc main_arg1)) (V0 (Proc.devRef .tc main_arg2)) (V0 (Proc.devRef .tc main_arg3)) = StepLbIdeal.Value.G4 g w m v
      ∧ val_main_v4 (F := Ideal) (V0 (Proc.devRef .tc main_arg1)) (V0 (Proc.devRef .tc main_arg2)) = StepLbIdeal.Value.G5 g m ∧ val_main_v10 (F := Ideal) (V0 (Proc.devRef .tc main_arg1)) (V0 (Proc.devRef .tc main_arg3)) = StepLbIdeal.Value.G6 g v := by
  obtain ⟨rfl, rfl, rfl, rfl⟩ := e
  exact ⟨funext fun _ => rfl, funext fun _ => rfl, funext fun _ => rfl⟩

end

theorem frame : Cert.quiescent_StepLbRefIdeal := fun m g _ =>
  (θ_run (StepLbRefIdeal.defs (F := Ideal)) _ _).mono
    (fun r h => ⟨fun c => (h c).2.2.2, Idealize.ShloMosaic.sem_eq_zero_of_no_sems (by decide) r.2⟩)
    (StepLbRefIdeal.Value.run (F := Ideal) m g)

theorem value : Cert.algebraic_StepLbIdeal_StepLbRefIdeal := by
  intro m g m' g' _ hag
  refine ⟨_, _, _, StepLbIdeal.Value.run (F := Ideal) m g, (θ_run StepLbRefIdeal.defs _ _).mono (fun r h c => ?_) (StepLbRefIdeal.Value.run (F := Ideal) m' g')⟩
  obtain ⟨h0, h1, h2, h3⟩ := h c
  obtain ⟨e0, e1, e2⟩ := StepLb.host_of (StableHlo.launchContents m' c) _ _ _ _ (hag c)
  exact ⟨(h0.trans (StepLbRefIdeal.Read.val_main_v23_eq _ _ _ _).symm).trans e0, (h1.trans (StepLbRefIdeal.Read.val_main_v4_eq _ _).symm).trans e1,
    (h2.trans (StepLbRefIdeal.Read.val_main_v10_eq _ _).symm).trans e2, h3⟩

end Cert.Proof.StepLb

end
-- ==== Proof.StepCtx.lean ====
/-  One AdamW step of a [1, 2048] weight: the kernel's pointwise blocks beside the reference's pointwise operations. -/
module

public import proofs.«01_k».proof.Defs
public import proofs.«01_k».proof.Proof.Gen.StepCtxIdeal.Value
public import proofs.«01_k».proof.Proof.Gen.StepCtxRefIdeal.Run
public import proofs.«01_k».proof.Proof.Gen.StepCtxRefIdeal.Read
public import Idealize.ShloMosaic.Lib.Claim
public import Idealize.ShloMosaic.Lib.Quiescent

@[expose] public section

noncomputable section

namespace Cert.Proof.StepCtx

open Idealize.ShloMosaic Idealize.SL.Sem

section
open Cert.StepCtxRefIdeal Cert.StepCtxRefIdeal.Read

/-- The reference's three results, index by index the kernel's. -/
theorem host_of (V0 : Valuation τ sig (Elt Ideal)) (w g m v : FVec Ideal S1x2048 .f32) (e : V0 (Proc.devRef .tc main_arg0) = w ∧
    V0 (Proc.devRef .tc main_arg1) = g ∧ V0 (Proc.devRef .tc main_arg2) = m ∧ V0 (Proc.devRef .tc main_arg3) = v) :
    val_main_v23 (F := Ideal) (V0 (Proc.devRef .tc main_arg0)) (V0 (Proc.devRef .tc main_arg1)) (V0 (Proc.devRef .tc main_arg2)) (V0 (Proc.devRef .tc main_arg3)) = StepCtxIdeal.Value.G4 g w m v
      ∧ val_main_v4 (F := Ideal) (V0 (Proc.devRef .tc main_arg1)) (V0 (Proc.devRef .tc main_arg2)) = StepCtxIdeal.Value.G5 g m ∧ val_main_v10 (F := Ideal) (V0 (Proc.devRef .tc main_arg1)) (V0 (Proc.devRef .tc main_arg3)) = StepCtxIdeal.Value.G6 g v := by
  obtain ⟨rfl, rfl, rfl, rfl⟩ := e
  exact ⟨funext fun _ => rfl, funext fun _ => rfl, funext fun _ => rfl⟩

end

theorem frame : Cert.quiescent_StepCtxRefIdeal := fun m g _ =>
  (θ_run (StepCtxRefIdeal.defs (F := Ideal)) _ _).mono
    (fun r h => ⟨fun c => (h c).2.2.2, Idealize.ShloMosaic.sem_eq_zero_of_no_sems (by decide) r.2⟩)
    (StepCtxRefIdeal.Value.run (F := Ideal) m g)

theorem value : Cert.algebraic_StepCtxIdeal_StepCtxRefIdeal := by
  intro m g m' g' _ hag
  refine ⟨_, _, _, StepCtxIdeal.Value.run (F := Ideal) m g, (θ_run StepCtxRefIdeal.defs _ _).mono (fun r h c => ?_) (StepCtxRefIdeal.Value.run (F := Ideal) m' g')⟩
  obtain ⟨h0, h1, h2, h3⟩ := h c
  obtain ⟨e0, e1, e2⟩ := StepCtx.host_of (StableHlo.launchContents m' c) _ _ _ _ (hag c)
  exact ⟨(h0.trans (StepCtxRefIdeal.Read.val_main_v23_eq _ _ _ _).symm).trans e0, (h1.trans (StepCtxRefIdeal.Read.val_main_v4_eq _ _).symm).trans e1,
    (h2.trans (StepCtxRefIdeal.Read.val_main_v10_eq _ _).symm).trans e2, h3⟩

end Cert.Proof.StepCtx

end
-- ==== Proof.CCtx.lean ====
/-  The gradient of the condition vector: the kernel's product with the gate's slope against the derivative taken term by term, equal
    where the chips' terms are real numbers. -/
module

public import proofs.«01_k».proof.Defs
public import proofs.«01_k».proof.Proof.Pre
public import proofs.«01_k».proof.Proof.Gen.Pre_finite_ctx
public import proofs.«01_k».proof.Proof.Gen.CCtxIdeal.Value
public import proofs.«01_k».proof.Proof.Gen.CCtxRefIdeal.Run
public import proofs.«01_k».proof.Proof.Gen.CCtxRefIdeal.Read
public import Idealize.ShloMosaic.Lib.Claim
public import Idealize.ShloMosaic.Lib.Quiescent

@[expose] public section

noncomputable section

namespace Cert.Proof.CCtx

open Idealize.ShloMosaic Idealize.SL.Sem Cert.Mix

/-- The sum over the chips of the gradient that reaches the gate. -/
def tot (p : (⟨3, ![8, 8, 2048]⟩ : Shape).Idx → EReal) (k : ℕ) : EReal := at3 p 0 0 k + at3 p 2 0 k + at3 p 4 0 k + at3 p 6 0 k

theorem real_tot {p : (⟨3, ![8, 8, 2048]⟩ : Shape).Idx → EReal} (h : ∀ i, Real (p i)) (k : ℕ) : Real (tot p k) :=
  (((Pre_finite.real_at3 h 0 0 k).add (Pre_finite.real_at3 h 2 0 k)).add (Pre_finite.real_at3 h 4 0 k)).add (Pre_finite.real_at3 h 6 0 k)

/-- The two forms of the gate's slope against a real gradient, for every extended real argument. -/
theorem gate_at {t : EReal} (ht : Real t) (x : EReal) :
    t * (Ideal.logistic x * (1 + x * (1 - Ideal.logistic x))) = t * Ideal.logistic x + x * t * (Ideal.logistic x * (1 - Ideal.logistic x)) := by
  have h1 : (1 : EReal) - 1 = 0 := by rw [show (1 : EReal) = ((1 : ℝ) : EReal) from rfl, ← EReal.coe_sub, sub_self]; rfl
  induction x with
  | bot => simp
  | top => simp [h1]
  | coe r => exact gate_eq ht ⟨r, rfl⟩ (real_logistic ⟨r, rfl⟩)

section
open Cert.CCtxIdeal Cert.CCtxIdeal.Gen

theorem kernel_at (p : FVec Ideal S8x8x2048 .f32) (x : FVec Ideal S1x2048 .f32) (i : S1x2048.Idx) :
    CCtxIdeal.Value.G2 (F := Ideal) p x i = tot p (i 1).val * (Ideal.logistic (x i) * (1 + x i * (1 - Ideal.logistic (x i)))) := by
  have h0 : (i 0).val < 1 := (i 0).isLt
  have hx : ∀ k : S1x2048.Idx, (k 1).val = (i 1).val → x k = x i := fun k hk => congrArg x (funext fun a => Fin.ext (by
    match a with
    | ⟨0, _⟩ => have hk0 : (k 0).val < 1 := (k 0).isLt; show (k 0).val = (i 0).val; omega
    | ⟨1, _⟩ => exact hk))
  refine (CCtxIdeal.Value.piece2_0 _ _ _ _ _ i).trans ?_
  show (p _ + p _ + p _ + p _) * (Ideal.logistic (x _) * (Ideal.ofBits .f32 0x3F800000#32 + x _ * (Ideal.ofBits .f32 0x3F800000#32 - Ideal.logistic (x _)))) = _
  rw [Ideal.ofBits_one_f32, hx _ (by show 0 + 1 * (i 1).val = _; omega)]
  unfold tot
  refine congrArg (fun a : EReal => a * _) (congrArg₂ (fun a b : EReal => a + b) (congrArg₂ (fun a b : EReal => a + b) (congrArg₂ (fun a b : EReal => a + b) ?_ ?_) ?_) ?_) <;>
    exact read3 p _ rfl rfl (by show 0 + 1 * (0 + 1 * (i 1).val) = _; omega)

end

section
open Cert.CCtxRefIdeal Cert.CCtxRefIdeal.Read

variable (p : FVec Ideal S8x8x2048 .f32) (x : FVec Ideal S1x2048 .f32)

theorem sum_at (i : S1x2048.Idx) : val_main_v12 (F := Ideal) p i = tot p (i 1).val := by
  have h0 : (i 0).val < 1 := (i 0).isLt
  have h1 : (i 1).val < 2048 := (i 1).isLt
  have hm : ((i 0).val * 2048 + (i 1).val) % 2048 = (i 1).val := by omega
  rw [val_main_v12_apply, val_main_v9_apply, val_main_v6_apply, val_main_v3_apply, val_main_v2_apply, val_main_cst_apply, val_main_v1_apply, val_main_v0_apply, val_main_v5_apply, val_main_v4_apply,
    val_main_v8_apply, val_main_v7_apply, val_main_v11_apply, val_main_v10_apply]
  show Ideal.ofBits .f32 0x00000000#32 + p _ + p _ + p _ + p _ = _
  rw [Ideal.ofBits_zero_f32, zero_add]
  unfold tot
  refine congrArg₂ (fun a b : EReal => a + b) (congrArg₂ (fun a b : EReal => a + b) (congrArg₂ (fun a b : EReal => a + b) ?_ ?_) ?_) ?_ <;>
    exact read3 p _ rfl rfl hm

theorem slope_at (i : S1x2048.Idx) : val_main_v13_2 (F := Ideal) x i = Ideal.logistic (x i) := by
  rw [val_main_v13_2_apply, val_main_call0_v4_apply, val_main_call0_cst_0_apply, val_main_call0_v3_apply, val_main_call0_v2_apply, val_main_call0_cst_apply, val_main_call0_v1_apply, val_main_call0_v0_apply]
  show Ideal.div (Ideal.ofBits .f32 0x3F800000#32) (Ideal.ofBits .f32 0x3F800000#32 + Ideal.exp (-x i)) = _
  rw [Ideal.ofBits_one_f32]
  rfl

theorem host_at (hp : ∀ i, Real (p i)) : val_main_v14 (F := Ideal) p x = CCtxIdeal.Value.G2 (F := Ideal) p x := by
  funext i
  rw [val_main_v14_apply, val_main_call1_v1_apply, val_main_call1_v2_apply, val_main_call1_v0_apply, val_main_v13_1_apply, val_main_call0_v7_apply, val_main_call0_v6_apply, val_main_call0_cst_1_apply,
    sum_at, slope_at]
  refine Eq.trans ?_ ((kernel_at p x i).trans (gate_at (real_tot hp _) (x i))).symm
  show tot p (i 1).val * Ideal.logistic (x i) + x i * tot p (i 1).val * (Ideal.logistic (x i) * (Ideal.ofBits .f32 0x3F800000#32 - Ideal.logistic (x i))) = _
  rw [Ideal.ofBits_one_f32]

theorem host_of (V0 : Valuation τ sig (Elt Ideal)) (e0 : V0 (Proc.devRef .tc main_arg0) = p) (e1 : V0 (Proc.devRef .tc main_arg1) = x) (hp : ∀ i, Real (p i)) :
    val_main_v14 (F := Ideal) (V0 (Proc.devRef .tc main_arg0)) (V0 (Proc.devRef .tc main_arg1)) = CCtxIdeal.Value.G2 (F := Ideal) p x := by
  rw [e0, e1]
  exact host_at p x hp

end

theorem frame : Cert.quiescent_CCtxRefIdeal := fun m g _ =>
  (θ_run (CCtxRefIdeal.defs (F := Ideal)) _ _).mono
    (fun r h => ⟨fun c => (h c).2, Idealize.ShloMosaic.sem_eq_zero_of_no_sems (by decide) r.2⟩)
    (CCtxRefIdeal.Value.run (F := Ideal) m g)

section
open Cert.Pre_finite_ctx

/-- The precondition read: every element of the chips' terms is a real number. -/
theorem reals (x0 : FVec Ideal S8x8x2048 .f32) (x1 : FVec Ideal S1x2048 .f32) (h : fn (F := Ideal) x0 x1 = fun _ => 1#1) : ∀ i, Real (x0 i) := by
  have h := congrFun h (fun k => k.elim0)
  unfold fn at h
  exact Pre_finite.all_real x0 _ _ _ _ h

end

theorem value : Cert.algebraic_CCtxIdeal_CCtxRefIdeal_pre_finite_ctx := by
  intro m g m' g' hpre hag
  refine ⟨fun c => CCtxIdeal.Value.G2 (m ((c.tc : Thread CCtxIdeal.nD CCtxIdeal.τ).loc CCtxIdeal.main_arg0)) (m ((c.tc : Thread CCtxIdeal.nD CCtxIdeal.τ).loc CCtxIdeal.main_arg1)),
    (θ_run CCtxIdeal.defs _ _).mono (fun r h c => ?_) (CCtxIdeal.Value.run (F := Ideal) m g),
    (θ_run CCtxRefIdeal.defs _ _).mono (fun r h c => ?_) (CCtxRefIdeal.Value.run (F := Ideal) m' g')⟩
  · exact h c
  · obtain ⟨h0, h1⟩ := h c
    exact ⟨(h0.trans (CCtxRefIdeal.Read.val_main_v14_eq _ _).symm).trans (host_of _ _ (StableHlo.launchContents m' c) (hag c).1 (hag c).2 (reals _ _ (hpre c))), h1⟩

end Cert.Proof.CCtx

end
-- ==== Proof.Norm.lean ====
/-  Rows normalised by their root mean square: the specification, and what a kernel's block operations compute over blocks given by
    functions of natural coordinates. -/
module

public import proofs.«01_k».proof.Proof.Products
public import Idealize.ShloMosaic.Lib.ValueLayoutCasts

@[expose] public section

noncomputable section

namespace Cert.Norm

open Cert.Mix Cert.Products Idealize.ShloMosaic

/-- The width as a divisor, and the small constant added to the mean square. -/
def width : EReal := Ideal.ofBits .f32 0x45000000#32
def eps : EReal := Ideal.ofBits .f32 0x358637BD#32

/-- The mean square of a row, with the constant, and the reciprocal of its root. -/
def msq (f : ℕ → EReal) : EReal := Ideal.div (∑ k : Fin 2048, f k.val * f k.val) width + eps
def rs (f : ℕ → EReal) : EReal := Ideal.rsqrt (msq f)

/-- The row of a pair that a position takes: the first for the 256 context rows, the second for the latents. -/
def rowOf (r : ℕ) : ℕ := if r < 256 then 0 else 1

/-- A block's sum of squares and such: over each row, laid out as a column. -/
theorem rowsum_is {M : ℕ} {x : FVec Ideal ⟨2, ![M, 2048]⟩ .f32} {f : ℕ → ℕ → EReal} (hx : Is x f) (hr) (hf : FKind.Formats .f32)
    (ha : (0x00000000#32 : BitVec 32) = FKind.add.neutral .f32 hf) (hc) :
    Is (shapeCast ⟨2, ![M, 1]⟩ (multiReduction .add [1] ⟨1, ![M]⟩ x 0x00000000#32 hr hf ha) hc) fun r _ => ∑ k : Fin 2048, f r k.val := fun j => by
  rw [ValueIdx.eq_ix2 j]
  refine (ValueIdx.shapeCast_a_a1_apply _ hc (j 0) (j 1)).trans ?_
  refine (Ideal.multiReduction_add_single (a := 1) x _ hr hf ha _).trans ?_
  exact Finset.sum_congr rfl fun k _ => hx _

/-- Over each column, laid out as a row. -/
theorem colsum_is {M N : ℕ} {x : FVec Ideal ⟨2, ![M, N]⟩ .f32} {f : ℕ → ℕ → EReal} (hx : Is x f) (hr) (hf : FKind.Formats .f32)
    (ha : (0x00000000#32 : BitVec 32) = FKind.add.neutral .f32 hf) (hc) :
    Is (shapeCast ⟨2, ![1, N]⟩ (multiReduction .add [0] ⟨1, ![N]⟩ x 0x00000000#32 hr hf ha) hc) fun _ q => ∑ r : Fin M, f r.val q := fun j => by
  refine (shapeCast_addUnit_apply ![N] _ hc j).trans ?_
  refine (Ideal.multiReduction_add_single (a := 0) x _ hr hf ha _).trans ?_
  exact Finset.sum_congr rfl fun k _ => hx _

/-- A column spread over the lanes, and a row spread over the rows. -/
theorem col_is {M N : ℕ} {x : FVec Ideal ⟨2, ![M, 1]⟩ .f32} {f : ℕ → ℕ → EReal} (hx : Is x f) (hM : M ≠ 1) (hb) : Is (broadcastTo ⟨2, ![M, N]⟩ x hb) fun r _ => f r 0 := fun j =>
  (broadcastTo_apply x hb j (ValueIdx.ix2 (j 0) 0) fun a => match a with
    | ⟨0, _⟩ => (if_neg hM).symm
    | ⟨1, _⟩ => rfl).trans (hx _)

theorem row_is {M N : ℕ} {x : FVec Ideal ⟨2, ![1, N]⟩ .f32} {f : ℕ → ℕ → EReal} (hx : Is x f) (hN : N ≠ 1) (hb) : Is (broadcastTo ⟨2, ![M, N]⟩ x hb) fun _ q => f 0 q := fun j =>
  (broadcastTo_apply x hb j (ValueIdx.ix2 0 (j 1)) fun a => match a with
    | ⟨0, _⟩ => rfl
    | ⟨1, _⟩ => (if_neg hN).symm).trans (hx _)

/-- The reciprocal root mean square of every row, as a kernel computes it. -/
theorem rs_is {M : ℕ} {x : FVec Ideal ⟨2, ![M, 2048]⟩ .f32} {f : ℕ → ℕ → EReal} (hx : Is x f) (hM : M ≠ 1) (hr) (hf : FKind.Formats .f32)
    (ha : (0x00000000#32 : BitVec 32) = FKind.add.neutral .f32 hf) (hc) (hb) :
    Is (broadcastTo ⟨2, ![M, 2048]⟩ (rsqrt (addf (divf (shapeCast ⟨2, ![M, 1]⟩ (multiReduction .add [1] ⟨1, ![M]⟩ (mulf x x) 0x00000000#32 hr hf ha) hc)
      (broadcast ⟨2, ![M, 1]⟩ (Scalar.ofBits .f32 0x45000000#32))) (broadcast ⟨2, ![M, 1]⟩ (Scalar.ofBits .f32 0x358637BD#32)))) hb) fun r _ => rs (f r) := by
  refine col_is (f := fun r _ => rs (f r)) (fun j => ?_) hM hb
  show Ideal.rsqrt (Ideal.div (shapeCast ⟨2, ![M, 1]⟩ (multiReduction .add [1] ⟨1, ![M]⟩ (mulf x x) 0x00000000#32 hr hf ha) hc j) width + eps) = _
  rw [rowsum_is (x := mulf x x) (f := fun r k => f r k * f r k) (fun j => congrArg₂ (fun a b : EReal => a * b) (hx j) (hx j)) hr hf ha hc j]
  rfl

/-- One of two rows, chosen by a flag. -/
theorem pick_is {N : ℕ} {a b : (⟨2, ![1, N]⟩ : Shape).Idx → EReal} {f g : ℕ → ℕ → EReal} {v : BitVec 1} {p : Prop} [Decidable p] (hv : v = if p then 1#1 else 0#1) (ha : Is a f) (hb : Is b g) :
    Is (Scalar.select v a b) fun r q => if p then f r q else g r q := fun j => by
  subst hv
  by_cases h : p
  · rw [if_pos h]; exact (ha j).trans (if_pos h).symm
  · rw [if_neg h]; exact (hb j).trans (if_neg h).symm

/-- Context rows over latent rows. -/
theorem rows_joined {N A B C : ℕ} {f : ℕ → ℕ → EReal} (a : (⟨2, ![A, N]⟩ : Shape).Idx → EReal) (b : (⟨2, ![B, N]⟩ : Shape).Idx → EReal)
    (hc : Shape.Concatenates [⟨2, ![A, N]⟩, ⟨2, ![B, N]⟩] (⟨2, ![C, N]⟩ : Shape) 0) (ha : Is a f) (hb : Is b fun r q => f (A + r) q)
    (i : (⟨2, ![C, N]⟩ : Shape).Idx) :
    concatenate (⟨2, ![C, N]⟩ : Shape) 0 [⟨_, a⟩, ⟨_, b⟩] hc i = f (i 0).val (i 1).val := by
  have hi : (i 0).val < C := (i 0).isLt
  have hC : A + B = C := by
    have h := hc.2.2
    simpa using h
  by_cases h : (i 0).val < A
  · refine (concatenate_pair_apply_left (0 : Fin 2) a b hc i rfl (ix2 ⟨(i 0).val, h⟩ (i 1)) fun e => ?_).trans (ha _)
    match e with
    | ⟨0, _⟩ => rfl
    | ⟨1, _⟩ => rfl
  · refine (concatenate_pair_apply_right (0 : Fin 2) a b hc i rfl rfl (ix2 ⟨(i 0).val - A, by omega⟩ (i 1)) (fun e he => ?_) ?_).trans ((hb _).trans (congrArg₂ f ?_ rfl))
    · match e with
      | ⟨0, _⟩ => exact absurd rfl he
      | ⟨1, _⟩ => rfl
    · show (i 0).val - A + A = (i 0).val; omega
    · show A + ((i 0).val - A) = (i 0).val; omega

end Cert.Norm

end
-- ==== Proof.NormGrad.lean ====
/-  The gradient through a row normalised by its root mean square: as a kernel computes it from the normalised row, and term by term;
    the two agree. Sums that grow block by block over the rows. -/
module

public import proofs.«01_k».proof.Proof.Norm
public import Idealize.ShloMosaic.Lib.IdealHost
public import Idealize.ShloMosaic.Lib.Pointwise.Index
public import Idealize.ShloMosaic.Lib.WritesUnit
public import Idealize.ShloMosaic.Lib.Pipeline.ReadBack

@[expose] public section

noncomputable section

namespace Cert.Norm

open Cert.Mix Cert.Products Idealize.ShloMosaic

/-- The constant minus one half. -/
def negHalf : EReal := Ideal.ofBits .f32 0xBF000000#32

/-- The gradient at a row, from the gradient `d` at the normalised row. -/
def back (y d : ℕ → EReal) (q : ℕ) : EReal := rs y * (d q - y q * rs y * Ideal.div (∑ k : Fin 2048, d k.val * (y k.val * rs y)) width)

/-- The share of the mean square in it, term by term. -/
def pull (y d : ℕ → EReal) : EReal := Ideal.div ((∑ k : Fin 2048, y k.val * d k.val) * (negHalf * Ideal.div (rs y) (msq y))) width

theorem width_eq : width = ((2048 : ℝ) : EReal) := by
  unfold width
  simp [Ideal.ofBits, Ideal.ieee, -EReal.coe_mul]
  norm_num

theorem negHalf_eq : negHalf = ((-(1 / 2) : ℝ) : EReal) := by
  unfold negHalf
  simp [Ideal.ofBits, Ideal.ieee, -EReal.coe_mul, -EReal.coe_neg]
  norm_num

theorem eps_pos : ∃ e : ℝ, eps = (e : EReal) ∧ 0 < e := by
  refine ⟨_, by unfold eps; simp only [Ideal.ofBits, Ideal.ieee]; rfl, ?_⟩
  rw [if_neg (by decide)]
  positivity

theorem div_coe {a b : ℝ} (hb : b ≠ 0) : Ideal.div (a : EReal) (b : EReal) = ((a * b⁻¹ : ℝ) : EReal) := by
  unfold Ideal.div
  rw [if_neg (by exact_mod_cast hb), EReal.coe_mul, EReal.coe_inv]

theorem sum_coe {n : ℕ} (f : Fin n → ℝ) : ∑ k, (f k : EReal) = ((∑ k, f k : ℝ) : EReal) := (map_sum (⟨⟨Real.toEReal, EReal.coe_zero⟩, EReal.coe_add⟩ : ℝ →+ EReal) f Finset.univ).symm

/-- Of a real row: the mean square is positive, and its reciprocal root real. -/
theorem msq_real (a : ℕ → ℝ) : ∃ s : ℝ, 0 < s ∧ msq (fun k => (a k : EReal)) = (s : EReal) ∧ rs (fun k => (a k : EReal)) = ((√s)⁻¹ : ℝ) := by
  obtain ⟨e, he, h0⟩ := eps_pos
  have h1 : msq (fun k => (a k : EReal)) = (((∑ k : Fin 2048, a k.val * a k.val) * (2048 : ℝ)⁻¹ + e : ℝ) : EReal) := by
    unfold msq
    simp only [← EReal.coe_mul]
    rw [sum_coe, width_eq, div_coe (by norm_num), he, EReal.coe_add]
  have hs : 0 < (∑ k : Fin 2048, a k.val * a k.val) * (2048 : ℝ)⁻¹ + e :=
    add_pos_of_nonneg_of_pos (mul_nonneg (Finset.sum_nonneg fun k _ => mul_self_nonneg _) (by norm_num)) h0
  refine ⟨_, hs, h1, ?_⟩
  unfold rs
  rw [h1]
  unfold Ideal.rsqrt
  exact (if_neg (not_lt.mpr hs.le)).trans (if_neg hs.ne')

theorem double (a : EReal) : a + a = a * ((2 : ℝ) : EReal) := by
  induction a with
  | bot => exact (EReal.bot_mul_coe_of_pos (by norm_num)).symm
  | top => exact (EReal.top_mul_coe_of_pos (by norm_num)).symm
  | coe r => exact_mod_cast (mul_two r).symm

theorem mul_sum_coe {n : ℕ} {r : ℝ} (hr : 0 ≤ r) (f : Fin n → EReal) : ∑ k, (r : EReal) * f k = (r : EReal) * ∑ k, f k :=
  (map_sum (⟨⟨fun z => (r : EReal) * z, mul_zero _⟩, fun y z => EReal.left_distrib_of_nonneg_of_ne_top (by exact_mod_cast hr) (EReal.coe_ne_top r) y z⟩ : EReal →+ EReal) f Finset.univ).symm

theorem square_nonneg (a : EReal) : 0 ≤ a * a := by
  induction a with
  | bot => rw [EReal.bot_mul_bot]; exact le_top
  | top => rw [EReal.top_mul_top]; exact le_top
  | coe r => exact_mod_cast mul_self_nonneg r

/-- Of a row with an infinite element, the mean square is infinite. -/
theorem msq_top {y : ℕ → EReal} {k : Fin 2048} (h : y k.val * y k.val = ⊤) : msq y = ⊤ := by
  obtain ⟨e, he, h0⟩ := eps_pos
  have hs : ∑ k : Fin 2048, y k.val * y k.val = ⊤ :=
    top_le_iff.1 (h ▸ Finset.single_le_sum (f := fun k : Fin 2048 => y k.val * y k.val) (fun k _ => square_nonneg _) (Finset.mem_univ k))
  unfold msq
  rw [hs, width_eq, he]
  unfold Ideal.div
  rw [if_neg (by norm_num), ← EReal.coe_inv, EReal.top_mul_coe_of_pos (by norm_num), EReal.top_add_coe]

/-- The two forms of the gradient agree. -/
theorem back_eq (y d : ℕ → EReal) {q : ℕ} (hq : q < 2048) : d q * rs y + y q * pull y d + pull y d * y q = back y d q := by
  by_cases h : ∃ k : Fin 2048, y k.val * y k.val = ⊤
  · obtain ⟨k, h⟩ := h
    have hm := msq_top h
    have hr : rs y = 0 := by unfold rs; rw [hm]; rfl
    have hp : pull y d = 0 := by
      unfold pull
      rw [hr, hm]
      unfold Ideal.div
      simp [width_eq]
    unfold back
    rw [hp, hr, mul_zero, mul_zero, zero_mul, zero_mul, add_zero, add_zero]
  have hy : ∀ k : Fin 2048, ∃ a : ℝ, y k.val = a := fun k => by
    have hk : ¬y k.val * y k.val = ⊤ := fun e => h ⟨k, e⟩
    generalize y k.val = z at hk
    induction z with
    | bot => exact absurd EReal.bot_mul_bot hk
    | top => exact absurd EReal.top_mul_top hk
    | coe r => exact ⟨r, rfl⟩
  choose b hb using hy
  let a : ℕ → ℝ := fun k => if hk : k < 2048 then b ⟨k, hk⟩ else 0
  have ha : ∀ k, k < 2048 → y k = a k := fun k hk => (hb ⟨k, hk⟩).trans (by simp only [a, dif_pos hk])
  obtain ⟨s, hs, hm', hr'⟩ := msq_real a
  have hm : msq y = (s : EReal) := by
    rw [← hm']
    unfold msq
    simp only [fun k : Fin 2048 => ha k.val k.isLt]
  have hr : rs y = (((√s)⁻¹ : ℝ) : EReal) := by
    rw [← hr']
    unfold rs
    rw [hm, hm']
  set S := ∑ k : Fin 2048, y k.val * d k.val with hS
  have h3 : ∑ k : Fin 2048, d k.val * (y k.val * (((√s)⁻¹ : ℝ) : EReal)) = (((√s)⁻¹ : ℝ) : EReal) * S := by
    rw [hS, ← mul_sum_coe (inv_nonneg.2 (Real.sqrt_nonneg s))]
    exact Finset.sum_congr rfl fun k _ => by rw [mul_comm, mul_comm (y k.val), mul_assoc]
  have h2 : s⁻¹ = (√s)⁻¹ * (√s)⁻¹ := by rw [← mul_inv, Real.mul_self_sqrt hs.le]
  have hd : ∀ z : EReal, Ideal.div z width = z * ((2048⁻¹ : ℝ) : EReal) := fun z => by
    rw [width_eq]
    unfold Ideal.div
    rw [if_neg (by norm_num), EReal.coe_inv]
  unfold pull back
  rw [← hS, hm, hr, h3, negHalf_eq, div_coe hs.ne', hd, hd, ha q hq, sub_eq_add_neg,
    EReal.left_distrib_of_nonneg_of_ne_top (by exact_mod_cast inv_nonneg.2 (Real.sqrt_nonneg s)) (EReal.coe_ne_top _)]
  rw [mul_comm (S * _ * _) (a q : EReal), add_assoc, double, mul_comm (d q)]
  have hn : ∀ z : EReal, -z = z * ((-1 : ℝ) : EReal) := fun z => by rw [EReal.coe_neg, EReal.coe_one, mul_neg, mul_one]
  have hl : (a q : EReal) * (S * (((-(1 / 2) : ℝ) : EReal) * (((√s)⁻¹ * s⁻¹ : ℝ) : EReal)) * ((2048⁻¹ : ℝ) : EReal)) * ((2 : ℝ) : EReal)
      = S * ((-(a q * ((√s)⁻¹ * ((√s)⁻¹ * (√s)⁻¹)) * 2048⁻¹) : ℝ) : EReal) := by
    rw [← h2, show (-(a q * ((√s)⁻¹ * s⁻¹) * 2048⁻¹) : ℝ) = a q * ((-(1 / 2) * ((√s)⁻¹ * s⁻¹)) * 2048⁻¹) * 2 by ring]
    simp only [EReal.coe_mul]
    ac_rfl
  have hr : (((√s)⁻¹ : ℝ) : EReal) * -((a q : EReal) * (((√s)⁻¹ : ℝ) : EReal) * ((((√s)⁻¹ : ℝ) : EReal) * S * ((2048⁻¹ : ℝ) : EReal)))
      = S * ((-(a q * ((√s)⁻¹ * ((√s)⁻¹ * (√s)⁻¹)) * 2048⁻¹) : ℝ) : EReal) := by
    rw [hn, show (-(a q * ((√s)⁻¹ * ((√s)⁻¹ * (√s)⁻¹)) * 2048⁻¹) : ℝ) = (√s)⁻¹ * (a q * (√s)⁻¹ * ((√s)⁻¹ * 2048⁻¹)) * (-1) by ring]
    simp only [EReal.coe_mul]
    ac_rfl
  exact congrArg (fun z : EReal => _ + z) (hl.trans hr.symm)

/-- The reciprocal root mean square of every row, as a column. -/
theorem rsq_is {M : ℕ} {x : FVec Ideal ⟨2, ![M, 2048]⟩ .f32} {f : ℕ → ℕ → EReal} (hx : Is x f) (hr) (hf : FKind.Formats .f32)
    (ha : (0x00000000#32 : BitVec 32) = FKind.add.neutral .f32 hf) (hc) :
    Is (rsqrt (addf (divf (shapeCast ⟨2, ![M, 1]⟩ (multiReduction .add [1] ⟨1, ![M]⟩ (mulf x x) 0x00000000#32 hr hf ha) hc)
      (broadcast ⟨2, ![M, 1]⟩ (Scalar.ofBits .f32 0x45000000#32))) (broadcast ⟨2, ![M, 1]⟩ (Scalar.ofBits .f32 0x358637BD#32)))) fun r _ => rs (f r) := fun j =>
  congrArg (fun s : EReal => Ideal.rsqrt (Ideal.div s width + eps))
    (rowsum_is (x := mulf x x) (f := fun r k => f r k * f r k) (fun j => congrArg₂ (fun a b : EReal => a * b) (hx j) (hx j)) hr hf ha hc j)

/-- The gradient as a kernel computes it over a block of rows. -/
theorem back_is {M : ℕ} {R : FVec Ideal ⟨2, ![M, 1]⟩ .f32} {h d : FVec Ideal ⟨2, ![M, 2048]⟩ .f32} {f g : ℕ → ℕ → EReal}
    (hR : Is R fun r _ => rs (f r)) (hh : Is h fun r q => f r q * rs (f r)) (hd : Is d g) (hM : M ≠ 1) (hr) (hf : FKind.Formats .f32)
    (ha : (0x00000000#32 : BitVec 32) = FKind.add.neutral .f32 hf) (hc) (hb) (hb') :
    Is (mulf (broadcastTo ⟨2, ![M, 2048]⟩ R hb) (subf d (mulf h (broadcastTo ⟨2, ![M, 2048]⟩ (divf (shapeCast ⟨2, ![M, 1]⟩ (multiReduction .add [1] ⟨1, ![M]⟩ (mulf d h) 0x00000000#32 hr hf ha) hc)
      (broadcast ⟨2, ![M, 1]⟩ (Scalar.ofBits .f32 0x45000000#32))) hb')))) fun r q => back (f r) (g r) q := fun j => by
  refine congrArg₂ (fun a b : EReal => a * b) (col_is hR hM hb j) (congrArg₂ (fun a b : EReal => a - b) (hd j) (congrArg₂ (fun a b : EReal => a * b) (hh j) ?_))
  refine col_is (f := fun r _ => Ideal.div (∑ k : Fin 2048, g r k.val * (f r k.val * rs (f r))) width) (fun i => ?_) hM hb' j
  exact congrArg (Ideal.div · width) (rowsum_is (x := mulf d h) (f := fun r k => g r k * (f r k * rs (f r))) (fun j => congrArg₂ (fun a b : EReal => a * b) (hd j) (hh j)) hr hf ha hc i)

/-- A table by rows and columns as an array. -/
def cells {R b : ℕ} (f : ℕ → ℕ → EReal) : (⟨2, ![R, b]⟩ : Shape).Idx → EReal := fun i => f (i 0).val (i 1).val

theorem cells_at {R b : ℕ} (f : ℕ → ℕ → EReal) {r q : ℕ} (i : (⟨2, ![R, b]⟩ : Shape).Idx) (h0 : r = (i 0).val) (h1 : q = (i 1).val) : f r q = cells f i :=
  congrArg₂ f h0 h1

/-- A sum over the rows of the first `n` blocks of 256. -/
def acc (f : ℕ → ℕ → EReal) (n q : ℕ) : EReal := ∑ s ∈ Finset.range n, ∑ r : Fin 256, f (256 * s + r.val) q

theorem acc_one (f : ℕ → ℕ → EReal) (q : ℕ) : acc f 1 q = ∑ r : Fin 256, f (256 * 0 + r.val) q := Finset.sum_range_one _
theorem acc_succ (f : ℕ → ℕ → EReal) (n q : ℕ) : acc f (n + 1) q = acc f n q + ∑ r : Fin 256, f (256 * n + r.val) q := Finset.sum_range_succ _ _
theorem acc_all (f : ℕ → ℕ → EReal) (n q : ℕ) : acc f n q = ∑ r : Fin (256 * n), f r.val q :=
  (sum_runs 256 (fun r => f r q) n).trans (Finset.sum_range _)

/-- A sum over a whole block, as a kernel takes it. -/
theorem acc_split (f : ℕ → ℕ → EReal) (q : ℕ) : acc f 9 q = (∑ r : Fin 256, f r.val q) + ∑ r : Fin 2048, f (256 + r.val) q := by
  refine (sum_runs 256 (fun r => f r q) 9).trans ?_
  rw [show 256 * 9 = 256 + 2048 from rfl, Finset.sum_range_add, Finset.sum_range, Finset.sum_range]

/-- A term kept on the context's rows only, and on the latents' only. -/
def lo (f : ℕ → ℕ → EReal) (r q : ℕ) : EReal := if r < 256 then f r q else 0
def hi (f : ℕ → ℕ → EReal) (r q : ℕ) : EReal := if r < 256 then 0 else f r q

theorem acc_lo_zero (f : ℕ → ℕ → EReal) (q : ℕ) : acc (lo f) 1 q = acc (lo f) 0 q + ∑ r : Fin 256, f (256 * 0 + r.val) q :=
  (acc_succ (lo f) 0 q).trans (congrArg (_ + ·) (Finset.sum_congr rfl fun r _ => if_pos (by have := r.isLt; omega)))

theorem acc_lo_succ (f : ℕ → ℕ → EReal) {n : ℕ} (hn : n ≠ 0) (q : ℕ) : acc (lo f) (n + 1) q = acc (lo f) n q + 0 :=
  (acc_succ (lo f) n q).trans (congrArg (_ + ·) (Finset.sum_eq_zero fun r _ => if_neg (by omega)))

theorem acc_hi_zero (f : ℕ → ℕ → EReal) (q : ℕ) : acc (hi f) 1 q = acc (hi f) 0 q + 0 :=
  (acc_succ (hi f) 0 q).trans (congrArg (_ + ·) (Finset.sum_eq_zero fun r _ => if_pos (by have := r.isLt; omega)))

theorem acc_hi_succ (f : ℕ → ℕ → EReal) {n : ℕ} (hn : n ≠ 0) (q : ℕ) : acc (hi f) (n + 1) q = acc (hi f) n q + ∑ r : Fin 256, f (256 * n + r.val) q :=
  (acc_succ (hi f) n q).trans (congrArg (_ + ·) (Finset.sum_congr rfl fun r _ => if_neg (by omega)))

theorem acc_lo (f : ℕ → ℕ → EReal) (q : ℕ) : acc (lo f) 9 q = ∑ r : Fin 256, f r.val q := by
  rw [acc_split, Finset.sum_eq_zero (s := Finset.univ) (f := fun r : Fin 2048 => lo f (256 + r.val) q) fun r _ => if_neg (by omega), add_zero]
  exact Finset.sum_congr rfl fun r _ => if_pos r.isLt

theorem acc_hi (f : ℕ → ℕ → EReal) (q : ℕ) : acc (hi f) 9 q = ∑ r : Fin 2048, f (256 + r.val) q := by
  rw [acc_split, Finset.sum_eq_zero (s := Finset.univ) (f := fun r : Fin 256 => hi f r.val q) fun r _ => if_pos r.isLt, zero_add]
  exact Finset.sum_congr rfl fun r _ => if_neg (by omega)

theorem total_is {M N : ℕ} {x : FVec Ideal ⟨2, ![M, N]⟩ .f32} {f : ℕ → ℕ → EReal} (hx : Is x f) (hc) (hr : (⟨3, ![1, M, N]⟩ : Shape).Reduces [1, 2] ⟨1, ![1]⟩) (hf : FKind.Formats .f32)
    (ha : (0x00000000#32 : BitVec 32) = FKind.add.neutral .f32 hf) (hc') (hp) :
    extractAt ![0, 0, 0] (shapeCast ⟨3, ![1, 1, 1]⟩ (multiReduction .add [1, 2] ⟨1, ![1]⟩ (shapeCast ⟨3, ![1, M, N]⟩ x hc) 0x00000000#32 hr hf ha) hc') hp
      = ∑ r : Fin M, ∑ q : Fin N, f r.val q.val := by
  refine (Ideal.multiReduction_add_total _ _ hr (fun b => match b with | ⟨0, _⟩ => rfl) hf ha _).trans ?_
  rw [sum_idx3, Fin.sum_univ_one]
  exact Finset.sum_congr rfl fun r _ => Finset.sum_congr rfl fun q _ => (shapeCast_addUnit_apply ![M, N] x hc _).trans (hx _)

/-- A buffer of rows read after a store of its row `o`: that row is what was stored, the others what was there. -/
theorem read_row {sig : RefSig} {κ : Kind} {sp : Space} {M N : ℕ} (v : View sig κ sp ⟨2, ![M, N]⟩ .f32) (f : v.ty.Contents (Elt Ideal)) (o : ℕ) {off : Fin 2 → ℕ} (hoff : off = ![o, 0])
    (inb : ∀ a : Fin 2, off a + (![1, N] : Fin 2 → ℕ) a ≤ (![M, N] : Fin 2 → ℕ) a) (w : (⟨2, ![1, N]⟩ : Shape).Idx → EReal) (L : List (View.Piece (Elt Ideal) ⟨2, ![M, N]⟩ .f32)) (y : (⟨2, ![M, N]⟩ : Shape).Idx) :
    v.read (Elt Ideal) (v.writes (Elt Ideal) f ((⟨Rect.unit (s := ⟨2, ![M, N]⟩) off ![1, N] inb, w⟩ : View.Piece (Elt Ideal) ⟨2, ![M, N]⟩ .f32) :: L)) y
      = if (y 0).val = o then w (ix2 0 (y 1)) else v.read (Elt Ideal) (v.writes (Elt Ideal) f L) y := by
  split
  · rename_i h
    exact View.read_writes_cons_rows_of_mem v f inb w L y (ix2 0 (y 1)) hoff h rfl
  · rename_i h
    exact View.read_writes_cons_rows_of_not_mem (W := 1) v f inb w L y hoff rfl (by omega)

end Cert.Norm

end
-- ==== Proof.NormBOut.lean ====
/-  What each store of the normalisation gradient's kernel leaves, as its payloads over the blocks. -/
module

public import proofs.«01_k».proof.Defs
public import proofs.«01_k».proof.Proof.NormGrad
public import proofs.«01_k».proof.Proof.Gen.NormBIdeal.Value
public import Idealize.ShloMosaic.Lib.WritesUnit
public import Idealize.ShloMosaic.Lib.Pipeline.ReadBack

@[expose] public section

noncomputable section

namespace Cert.NormBIdeal.At

open Cert.NormBIdeal Cert.NormBIdeal.Gen Cert.Mix Cert.Norm Idealize.ShloMosaic Idealize.ShloMosaic.TcCoe Idealize.SL.Sem
open Cert.Products (Is hz2)

/-- The rows of a pair. -/
abbrev top (x : Vec Ideal S2x2048 .f32) : Vec Ideal S1x2048 .f32 := View.ld (Val := Elt Ideal) x (Rect.unit (s := S2x2048) ![0, 0] S1x2048.size inb_S2x2048_S1x2048_0_0)
abbrev bot (x : Vec Ideal S2x2048 .f32) : Vec Ideal S1x2048 .f32 := View.ld (Val := Elt Ideal) x (Rect.unit (s := S2x2048) ![1, 0] S1x2048.size inb_S2x2048_S1x2048_1_0)

/-- Whether the point is the context's. -/
abbrev first (i : grid0.Coords) : BitVec 1 := Scalar.cmpi .slt (BitVec.ofNat 32 (i 0).val) 1#32

theorem top_is {x : Vec Ideal S2x2048 .f32} {f : ℕ → ℕ → EReal} (hx : Is x f) : Is (top x) fun _ q => f 0 q := fun j => by
  have hj : (j 0).val < 1 := (j 0).isLt
  refine (View.ld_unit_apply_of x _ _ _ j (ValueIdx.ix2 0 (j 1)) fun a => match a with
    | ⟨0, _⟩ => by show 0 = 0 + (j 0).val; omega
    | ⟨1, _⟩ => (Nat.zero_add _).symm).trans (hx _)

theorem bot_is {x : Vec Ideal S2x2048 .f32} {f : ℕ → ℕ → EReal} (hx : Is x f) : Is (bot x) fun _ q => f 1 q := fun j => by
  have hj : (j 0).val < 1 := (j 0).isLt
  refine (View.ld_unit_apply_of x _ _ _ j (ValueIdx.ix2 1 (j 1)) fun a => match a with
    | ⟨0, _⟩ => by show 1 = 1 + (j 0).val; omega
    | ⟨1, _⟩ => (Nat.zero_add _).symm).trans (hx _)

section
variable (c : Dev nD) (i : grid0.Coords) (a1 : Memref sig .tc .vmem S256x2048 .f32) (g1 : a1.IsWhole) (a2 : Memref sig .tc .vmem S256x2048 .f32) (g2 : a2.IsWhole) (a3 : Memref sig .tc .vmem S1x2048 .f32) (g3 : a3.IsWhole) (a4 : Memref sig .tc .vmem S2x2048 .f32) (g4 : a4.IsWhole) (a5 : Memref sig .tc .vmem S256x2048 .f32) (g5 : a5.IsWhole) (a6 : Memref sig .tc .vmem S256x2048 .f32) (g6 : a6.IsWhole) (a7 : Memref sig .tc .vmem S1x2048 .f32) (g7 : a7.IsWhole) (a8 : Memref sig .tc .vmem S2x2048 .f32) (g8 : a8.IsWhole) (a9 : Memref sig .tc .vmem S2x2048 .f32) (g9 : a9.IsWhole)

theorem outA5 (hc : cond0_0 i) (x0 x1 : Vec Ideal S256x2048 .f32) (x2 : Vec Ideal S1x2048 .f32) (x3 : Vec Ideal S2x2048 .f32) (x4 : Vec Ideal S256x2048 .f32) : out0_A_5 c i a1 g1 a2 g2 a3 g3 a4 g4 a5 g5 a6 g6 a7 g7 a8 g8 a9 g9 hc x0 x1 x2 x3 x4 = k0_pay1 (k0_pay5 x0) (k0_pay6 x0) (k0_pay17 x1 x2 (k0_pay7 i (top x3) (bot x3))) (k0_pay18 x1 x2 (k0_pay6 x0) (k0_pay7 i (top x3) (bot x3))) x4 := by
  unfold out0_A_5
  rw [View.read_writes_eq_canon _ _ _ (cover0_A_5 c i a1 g1 a2 g2 a3 g3 a4 g4 a5 g5 a6 g6 a7 g7 a8 g8 a9 g9 hc x0 x1 x2 x3 x4)]
  unfold kernelRun0_A
  dsimp only
  sl_unfold_words
  rw [View.canon_unit_zero (S := S256x2048) hz2]
  simp only [View.readAt_eq_ld, g1.read_unread, g2.read_unread, g3.read_unread, g4.read_unread, g5.read_unread, g7.read_unread, g8.read_unread, g9.read_unread, View.ld_unit_zero (S := S256x2048) hz2, View.ld_unit_zero (S := S1x2048) hz2]

theorem outA6 (hc : cond0_0 i) (x0 x1 : Vec Ideal S256x2048 .f32) (x2 : Vec Ideal S1x2048 .f32) (x3 : Vec Ideal S2x2048 .f32) (x4 : Vec Ideal S256x2048 .f32) : out0_A_6 c i a1 g1 a2 g2 a3 g3 a4 g4 a5 g5 a6 g6 a7 g7 a8 g8 a9 g9 hc x0 x1 x2 x3 x4 = k0_pay11 i x0 x1 (top x3) (bot x3) (k0_pay2 (F := Ideal)) := by
  unfold out0_A_6
  rw [View.read_writes_eq_canon _ _ _ (cover0_A_6 c i a1 g1 a2 g2 a3 g3 a4 g4 a5 g5 a6 g6 a7 g7 a8 g8 a9 g9 hc x0 x1 x2 x3 x4)]
  unfold kernelRun0_A
  dsimp only
  sl_unfold_words
  rw [View.canon_cons_unit_zero (S := S1x2048) hz2, View.readCov_unit_zero (S := S1x2048) _ hz2]
  simp only [View.readAt_eq_ld, g1.read_unread, g2.read_unread, g3.read_unread, g4.read_unread, g5.read_unread, g7.read_unread, g8.read_unread, g9.read_unread, View.ld_unit_zero (S := S256x2048) hz2, View.ld_unit_zero (S := S1x2048) hz2]

theorem outA7 (hc : cond0_0 i) (x0 x1 : Vec Ideal S256x2048 .f32) (x2 : Vec Ideal S1x2048 .f32) (x3 : Vec Ideal S2x2048 .f32) (x4 : Vec Ideal S256x2048 .f32) (y : S2x2048.Idx) :
    out0_A_7 c i a1 g1 a2 g2 a3 g3 a4 g4 a5 g5 a6 g6 a7 g7 a8 g8 a9 g9 hc x0 x1 x2 x3 x4 y = if (y 0).val = 1 then k0_pay14 (first i) (k0_pay8 x1) (bot (k0_pay3 (F := Ideal))) (ix2 0 (y 1)) else k0_pay13 (first i) (k0_pay8 x1) (top (k0_pay3 (F := Ideal))) (ix2 0 (y 1)) := by
  unfold out0_A_7 kernelRun0_A
  dsimp only
  sl_unfold_words
  refine (read_row _ _ 1 rfl _ _ _ y).trans ?_
  refine if_ctx_congr Iff.rfl (fun _ => ?_) fun h => (read_row _ _ 0 rfl _ _ _ y).trans ((if_pos (by have h0 : (y 0).val < 2 := (y 0).isLt; omega)).trans ?_)
  · rw [View.readCov_skip (s := S2x2048) _ _ _ _ _ rfl, View.readCov_fill (s := S2x2048) _ _ _ _ _ (fun a => match a with | ⟨0, _⟩ => rfl | ⟨1, _⟩ => rfl)]
    simp only [View.readAt_eq_ld, g1.read_unread, g2.read_unread, g3.read_unread, g4.read_unread, g5.read_unread, g7.read_unread, g8.read_unread, g9.read_unread, View.ld_unit_zero (S := S256x2048) hz2, View.ld_unit_zero (S := S1x2048) hz2]
  · rw [View.readCov_fill (s := S2x2048) _ _ _ _ _ (fun a => match a with | ⟨0, _⟩ => rfl | ⟨1, _⟩ => rfl)]
    simp only [View.readAt_eq_ld, g1.read_unread, g2.read_unread, g3.read_unread, g4.read_unread, g5.read_unread, g7.read_unread, g8.read_unread, g9.read_unread, View.ld_unit_zero (S := S256x2048) hz2, View.ld_unit_zero (S := S1x2048) hz2]

theorem outA8 (hc : cond0_0 i) (x0 x1 : Vec Ideal S256x2048 .f32) (x2 : Vec Ideal S1x2048 .f32) (x3 : Vec Ideal S2x2048 .f32) (x4 : Vec Ideal S256x2048 .f32) (y : S2x2048.Idx) :
    out0_A_8 c i a1 g1 a2 g2 a3 g3 a4 g4 a5 g5 a6 g6 a7 g7 a8 g8 a9 g9 hc x0 x1 x2 x3 x4 y = if (y 0).val = 1 then k0_pay16 (first i) (k0_pay10 x0 x1 x2) (bot (k0_pay4 (F := Ideal))) (ix2 0 (y 1)) else k0_pay15 (first i) (k0_pay10 x0 x1 x2) (top (k0_pay4 (F := Ideal))) (ix2 0 (y 1)) := by
  unfold out0_A_8 kernelRun0_A
  dsimp only
  sl_unfold_words
  refine (read_row _ _ 1 rfl _ _ _ y).trans ?_
  refine if_ctx_congr Iff.rfl (fun _ => ?_) fun h => (read_row _ _ 0 rfl _ _ _ y).trans ((if_pos (by have h0 : (y 0).val < 2 := (y 0).isLt; omega)).trans ?_)
  · rw [View.readCov_skip (s := S2x2048) _ _ _ _ _ rfl, View.readCov_fill (s := S2x2048) _ _ _ _ _ (fun a => match a with | ⟨0, _⟩ => rfl | ⟨1, _⟩ => rfl)]
    simp only [View.readAt_eq_ld, g1.read_unread, g2.read_unread, g3.read_unread, g4.read_unread, g5.read_unread, g7.read_unread, g8.read_unread, g9.read_unread, View.ld_unit_zero (S := S256x2048) hz2, View.ld_unit_zero (S := S1x2048) hz2]
  · rw [View.readCov_fill (s := S2x2048) _ _ _ _ _ (fun a => match a with | ⟨0, _⟩ => rfl | ⟨1, _⟩ => rfl)]
    simp only [View.readAt_eq_ld, g1.read_unread, g2.read_unread, g3.read_unread, g4.read_unread, g5.read_unread, g7.read_unread, g8.read_unread, g9.read_unread, View.ld_unit_zero (S := S256x2048) hz2, View.ld_unit_zero (S := S1x2048) hz2]

theorem outB5 (hc : ¬cond0_0 i) (x0 x1 : Vec Ideal S256x2048 .f32) (x2 : Vec Ideal S1x2048 .f32) (x3 : Vec Ideal S2x2048 .f32) (x4 : Vec Ideal S256x2048 .f32) (xo6 : Vec Ideal S1x2048 .f32) (xo7 xo8 : Vec Ideal S2x2048 .f32) : out0_B_5 c i a1 g1 a2 g2 a3 g3 a4 g4 a5 g5 a6 g6 a7 g7 a8 g8 a9 g9 hc x0 x1 x2 x3 x4 xo6 xo7 xo8 = k0_pay1 (k0_pay5 x0) (k0_pay6 x0) (k0_pay17 x1 x2 (k0_pay7 i (top x3) (bot x3))) (k0_pay18 x1 x2 (k0_pay6 x0) (k0_pay7 i (top x3) (bot x3))) x4 := by
  unfold out0_B_5
  rw [View.read_writes_eq_canon _ _ _ (cover0_B_5 c i a1 g1 a2 g2 a3 g3 a4 g4 a5 g5 a6 g6 a7 g7 a8 g8 a9 g9 hc x0 x1 x2 x3 x4 xo6 xo7 xo8)]
  unfold kernelRun0_B
  dsimp only
  sl_unfold_words
  rw [View.canon_unit_zero (S := S256x2048) hz2]
  simp only [View.readAt_eq_ld, g1.read_unread, g2.read_unread, g3.read_unread, g4.read_unread, g5.read_unread, g7.read_unread, g8.read_unread, g9.read_unread, View.ld_unit_zero (S := S256x2048) hz2, View.ld_unit_zero (S := S1x2048) hz2]

theorem outB6 (hc : ¬cond0_0 i) (x0 x1 : Vec Ideal S256x2048 .f32) (x2 : Vec Ideal S1x2048 .f32) (x3 : Vec Ideal S2x2048 .f32) (x4 : Vec Ideal S256x2048 .f32) (xo6 : Vec Ideal S1x2048 .f32) (xo7 xo8 : Vec Ideal S2x2048 .f32) : out0_B_6 c i a1 g1 a2 g2 a3 g3 a4 g4 a5 g5 a6 g6 a7 g7 a8 g8 a9 g9 hc x0 x1 x2 x3 x4 xo6 xo7 xo8 = k0_pay11 i x0 x1 (top x3) (bot x3) xo6 := by
  unfold out0_B_6
  rw [View.read_writes_eq_canon _ _ _ (cover0_B_6 c i a1 g1 a2 g2 a3 g3 a4 g4 a5 g5 a6 g6 a7 g7 a8 g8 a9 g9 hc x0 x1 x2 x3 x4 xo6 xo7 xo8)]
  unfold kernelRun0_B
  dsimp only
  sl_unfold_words
  rw [View.canon_unit_zero (S := S1x2048) hz2]
  simp only [View.readAt_eq_ld, g1.read_unread, g2.read_unread, g3.read_unread, g4.read_unread, g5.read_unread, g7.read_unread, g8.read_unread, g9.read_unread, View.ld_unit_zero (S := S256x2048) hz2, View.ld_unit_zero (S := S1x2048) hz2]

theorem outB7 (hc : ¬cond0_0 i) (x0 x1 : Vec Ideal S256x2048 .f32) (x2 : Vec Ideal S1x2048 .f32) (x3 : Vec Ideal S2x2048 .f32) (x4 : Vec Ideal S256x2048 .f32) (xo6 : Vec Ideal S1x2048 .f32) (xo7 xo8 : Vec Ideal S2x2048 .f32) (y : S2x2048.Idx) :
    out0_B_7 c i a1 g1 a2 g2 a3 g3 a4 g4 a5 g5 a6 g6 a7 g7 a8 g8 a9 g9 hc x0 x1 x2 x3 x4 xo6 xo7 xo8 y = if (y 0).val = 1 then k0_pay14 (first i) (k0_pay8 x1) (bot xo7) (ix2 0 (y 1)) else k0_pay13 (first i) (k0_pay8 x1) (top xo7) (ix2 0 (y 1)) := by
  unfold out0_B_7 kernelRun0_B
  dsimp only
  sl_unfold_words
  refine (read_row _ _ 1 rfl _ _ _ y).trans ?_
  refine if_ctx_congr Iff.rfl (fun _ => ?_) fun h => (read_row _ _ 0 rfl _ _ _ y).trans ((if_pos (by have h0 : (y 0).val < 2 := (y 0).isLt; omega)).trans ?_)
  · simp only [View.readAt_eq_ld, g1.read_unread, g2.read_unread, g3.read_unread, g4.read_unread, g5.read_unread, g7.read_unread, g8.read_unread, g9.read_unread, View.ld_unit_zero (S := S256x2048) hz2, View.ld_unit_zero (S := S1x2048) hz2]
  · simp only [View.readAt_eq_ld, g1.read_unread, g2.read_unread, g3.read_unread, g4.read_unread, g5.read_unread, g7.read_unread, g8.read_unread, g9.read_unread, View.ld_unit_zero (S := S256x2048) hz2, View.ld_unit_zero (S := S1x2048) hz2]

theorem outB8 (hc : ¬cond0_0 i) (x0 x1 : Vec Ideal S256x2048 .f32) (x2 : Vec Ideal S1x2048 .f32) (x3 : Vec Ideal S2x2048 .f32) (x4 : Vec Ideal S256x2048 .f32) (xo6 : Vec Ideal S1x2048 .f32) (xo7 xo8 : Vec Ideal S2x2048 .f32) (y : S2x2048.Idx) :
    out0_B_8 c i a1 g1 a2 g2 a3 g3 a4 g4 a5 g5 a6 g6 a7 g7 a8 g8 a9 g9 hc x0 x1 x2 x3 x4 xo6 xo7 xo8 y = if (y 0).val = 1 then k0_pay16 (first i) (k0_pay10 x0 x1 x2) (bot xo8) (ix2 0 (y 1)) else k0_pay15 (first i) (k0_pay10 x0 x1 x2) (top xo8) (ix2 0 (y 1)) := by
  unfold out0_B_8 kernelRun0_B
  dsimp only
  sl_unfold_words
  refine (read_row _ _ 1 rfl _ _ _ y).trans ?_
  refine if_ctx_congr Iff.rfl (fun _ => ?_) fun h => (read_row _ _ 0 rfl _ _ _ y).trans ((if_pos (by have h0 : (y 0).val < 2 := (y 0).isLt; omega)).trans ?_)
  · simp only [View.readAt_eq_ld, g1.read_unread, g2.read_unread, g3.read_unread, g4.read_unread, g5.read_unread, g7.read_unread, g8.read_unread, g9.read_unread, View.ld_unit_zero (S := S256x2048) hz2, View.ld_unit_zero (S := S1x2048) hz2]
  · simp only [View.readAt_eq_ld, g1.read_unread, g2.read_unread, g3.read_unread, g4.read_unread, g5.read_unread, g7.read_unread, g8.read_unread, g9.read_unread, View.ld_unit_zero (S := S256x2048) hz2, View.ld_unit_zero (S := S1x2048) hz2]

end

end Cert.NormBIdeal.At

end
-- ==== Proof.NormBSum.lean ====
/-  The normalisation gradient's kernel: what its blocks and its three growing arrays hold after each point. -/
module

public import proofs.«01_k».proof.Defs
public import proofs.«01_k».proof.Proof.NormBOut
public import proofs.«01_k».proof.Proof.Gen.NormBIdeal.Value
public import Idealize.ShloMosaic.Lib.WritesUnit
public import Idealize.ShloMosaic.Lib.Pipeline.ReadBack

@[expose] public section

noncomputable section

namespace Cert.NormBIdeal.At

open Cert.NormBIdeal Cert.NormBIdeal.Gen Cert.Mix Cert.Norm Idealize.ShloMosaic Idealize.ShloMosaic.TcCoe Idealize.SL.Sem
open Cert.Products (Is hz2)

/-- The number one, as the programs write it. -/
def one : EReal := Ideal.ofBits .f32 0x3F800000#32

section Spec
variable (x d : ℕ → ℕ → EReal) (g : ℕ → EReal) (s : ℕ → ℕ → EReal)

/-- The scale of a row's segment, and the gradients' terms, at a row and a column. -/
def seg (r q : ℕ) : EReal := if r < 256 then s 0 q else s 1 q
def dxh (r q : ℕ) : EReal := d r q * (g q * (one + seg s r q))
def dgT (r q : ℕ) : EReal := d r q * (x r q * rs (x r)) * (one + seg s r q)
def dsT (r q : ℕ) : EReal := d r q * (x r q * rs (x r)) * g q
end Spec

section Body

variable {x d z g s : ℕ → ℕ → EReal} {v4 v5 v73 : Vec Ideal S256x2048 .f32} {v6 v19 : Vec Ideal S1x2048 .f32}
variable (h4 : Is v4 x) (h5 : Is v5 d) (h6 : Is v6 g) (h19 : Is v19 s) (h73 : Is v73 z)

include h4 in
theorem pay5_is : Is (k0_pay5 (F := Ideal) v4) fun r _ => rs (x r) := rsq_is h4 _ _ _ _

include h4 in
theorem pay6_is : Is (k0_pay6 (F := Ideal) v4) fun r q => x r q * rs (x r) := fun j =>
  congrArg₂ (fun a b : EReal => a * b) (h4 j) (col_is (f := fun r _ => rs (x r)) (pay5_is h4) (by decide) _ j)

include h5 in
theorem pay8_is : Is (k0_pay8 (F := Ideal) v5) fun _ q => ∑ r : Fin 256, d r.val q := colsum_is h5 _ _ _ _

include h4 h5 in
theorem pay9_is : Is (k0_pay9 (F := Ideal) v4 v5) fun r q => d r q * (x r q * rs (x r)) := fun j =>
  congrArg₂ (fun a b : EReal => a * b) (h5 j) (pay6_is h4 j)

include h4 h5 h6 in
theorem pay10_is : Is (k0_pay10 (F := Ideal) v4 v5 v6) fun _ q => ∑ r : Fin 256, d r.val q * (x r.val q * rs (x r.val)) * g 0 q :=
  colsum_is (f := fun r q => d r q * (x r q * rs (x r)) * g 0 q) (fun j => congrArg₂ (fun a b : EReal => a * b) (pay9_is h4 h5 j) (row_is h6 (by decide) _ j)) _ _ _ _

include h5 h6 h19 in
theorem pay17_is : Is (k0_pay17 (F := Ideal) v5 v6 v19) fun r q => d r q * (g 0 q * (one + s 0 q)) := fun j =>
  congrArg₂ (fun a b : EReal => a * b) (h5 j)
    (row_is (x := mulf v6 (addf (broadcast S1x2048 (Scalar.ofBits .f32 0x3F800000#32)) v19)) (f := fun r q => g r q * (one + s r q))
      (fun j => congrArg₂ (fun a b : EReal => a * b) (h6 j) (congrArg (one + ·) (h19 j))) (by decide) broadcasts_S1x2048_S256x2048 j)

include h4 h5 h6 h19 h73 in
theorem pay1_is : Is (k0_pay1 (F := Ideal) (k0_pay5 v4) (k0_pay6 v4) (k0_pay17 v5 v6 v19) (k0_pay18 v5 v6 (k0_pay6 v4) v19) v73)
    fun r q => back (x r) (fun q => d r q * (g 0 q * (one + s 0 q))) q + z r q := fun j =>
  congrArg₂ (fun a b : EReal => a + b) (back_is (f := x) (g := fun r q => d r q * (g 0 q * (one + s 0 q))) (pay5_is h4) (pay6_is h4) (pay17_is h5 h6 h19) (by decide) _ _ _ _ broadcasts_S256x1_S256x2048 broadcasts_S256x1_S256x2048 j) (h73 j)

include h4 h5 in
theorem pay11_is {i : grid0.Coords} {v17 v18 v27 : Vec Ideal S1x2048 .f32} {o : ℕ → EReal} (h7 : Is (k0_pay7 (F := Ideal) i v17 v18) s) (h27 : Is v27 fun _ => o) :
    Is (k0_pay11 (F := Ideal) i v4 v5 v17 v18 v27) fun _ q => o q + ∑ r : Fin 256, d r.val q * (x r.val q * rs (x r.val)) * (one + s 0 q) := fun j => by
  unfold k0_pay11
  dsimp only
  rw [ValueIdx.addf_apply, shapeCast_self, h27 j]
  exact congrArg (o _ + ·) (colsum_is (f := fun r q => d r q * (x r q * rs (x r)) * (one + s 0 q))
    (fun j => congrArg₂ (fun a b : EReal => a * b) (pay9_is h4 h5 j)
      (row_is (x := addf (broadcast S1x2048 (Scalar.ofBits .f32 0x3F800000#32)) (k0_pay7 i v17 v18)) (f := fun r q => one + s r q) (fun j => congrArg (one + ·) (h7 j)) (by decide) broadcasts_S1x2048_S256x2048 j)) _ _ _ _ j)

end Body

/-- The condition on a point says whether it is the first. -/
theorem first_eq (t : Fin cfg0.N) : first (grid0.coords t) = if t.val = 0 then 1#1 else 0#1 :=
  (by decide +kernel : ∀ t : Fin grid0.N, first (grid0.coords t) = if t.val = 0 then 1#1 else 0#1) t

theorem choose_is {b : BitVec 1} {n : ℕ} (hb : b = if n = 0 then 1#1 else 0#1) {u v : Vec Ideal S1x2048 .f32} {s : ℕ → ℕ → EReal} (hu : Is u fun _ q => s 0 q) (hv : Is v fun _ q => s 1 q) :
    Is (Scalar.select b u v) fun _ q => if n = 0 then s 0 q else s 1 q := fun j => by
  by_cases h : n = 0
  · rw [hb.trans (if_pos h)]
    exact (hu j).trans (if_pos h).symm
  · rw [hb.trans (if_neg h)]
    exact (hv j).trans (if_neg h).symm

/-- A pair's first row grows at the first point only, its second row after that. -/
theorem pay13_is {b : BitVec 1} {n : ℕ} (hb : b = if n = 0 then 1#1 else 0#1) {u o : Vec Ideal S1x2048 .f32} {f : ℕ → ℕ → EReal}
    (hu : Is u fun _ q => ∑ r : Fin 256, f (256 * n + r.val) q) (ho : Is o fun _ q => acc (lo f) n q) :
    Is (k0_pay13 (F := Ideal) b u o) fun _ q => acc (lo f) (n + 1) q := fun j => by
  unfold k0_pay13
  dsimp only
  rw [ValueIdx.addf_apply, shapeCast_self, ho j]
  by_cases h : n = 0
  · subst h
    rw [hb.trans (if_pos rfl)]
    exact (congrArg (acc (lo f) 0 _ + ·) (hu j)).trans (acc_lo_zero f _).symm
  · rw [hb.trans (if_neg h)]
    exact (congrArg (acc (lo f) n _ + ·) Ideal.ofBits_zero_f32).trans (acc_lo_succ f h _).symm

theorem pay14_is {b : BitVec 1} {n : ℕ} (hb : b = if n = 0 then 1#1 else 0#1) {u o : Vec Ideal S1x2048 .f32} {f : ℕ → ℕ → EReal}
    (hu : Is u fun _ q => ∑ r : Fin 256, f (256 * n + r.val) q) (ho : Is o fun _ q => acc (hi f) n q) :
    Is (k0_pay14 (F := Ideal) b u o) fun _ q => acc (hi f) (n + 1) q := fun j => by
  unfold k0_pay14
  dsimp only
  rw [ValueIdx.addf_apply, shapeCast_self, ho j]
  by_cases h : n = 0
  · subst h
    rw [hb.trans (if_pos rfl)]
    exact (congrArg (acc (hi f) 0 _ + ·) Ideal.ofBits_zero_f32).trans (acc_hi_zero f _).symm
  · rw [hb.trans (if_neg h)]
    exact (congrArg (acc (hi f) n _ + ·) (hu j)).trans (acc_hi_succ f h _).symm

/-- The scale a point reads is its rows' own. -/
theorem seg_at (s : ℕ → ℕ → EReal) (n : ℕ) (r : Fin 256) (q : ℕ) : (if n = 0 then s 0 q else s 1 q) = seg s (256 * n + r.val) q :=
  if_congr (by have := r.isLt; omega) rfl rfl

variable (m : (ℓ : Loc nD τ sig) → Buf (Elt Ideal) ℓ) (c : Dev nD)

/-- The arguments at natural coordinates: the stream, the gradient of the normalised rows, the gain, the scales, and the gradient passed by. -/
abbrev X : ℕ → ℕ → EReal := at2 (a := 2304) (b := 2048) (m ((c : Thread nD τ).loc main_arg0))
abbrev D : ℕ → ℕ → EReal := at2 (a := 2304) (b := 2048) (m ((c : Thread nD τ).loc main_arg1))
abbrev G : ℕ → EReal := at2 (a := 1) (b := 2048) (m ((c : Thread nD τ).loc main_arg2)) 0
abbrev S : ℕ → ℕ → EReal := at2 (a := 2) (b := 2048) (m ((c : Thread nD τ).loc main_arg3))
abbrev Z : ℕ → ℕ → EReal := at2 (a := 2304) (b := 2048) (m ((c : Thread nD τ).loc main_arg4))

theorem blk0 (t : Fin cfg0.N) : Is (iblk m c 0 t) fun r q => X m c (256 * t.val + r) q := fun j => by
  have hi : win0_0.index t 0 = t.val ∧ win0_0.index t 1 = 0 := (by decide +kernel : ∀ t : Fin grid0.N, win0_0.index t 0 = t.val ∧ win0_0.index t 1 = 0) t
  unfold iblk
  rw [View.read_apply]
  exact read2 _ _ (by show win0_0.index t 0 * 256 + 1 * (j 0).val = _; omega) (by show win0_0.index t 1 * 2048 + 1 * (j 1).val = _; omega)

theorem blk1 (t : Fin cfg0.N) : Is (iblk m c 1 t) fun r q => D m c (256 * t.val + r) q := fun j => by
  have hi : win0_1.index t 0 = t.val ∧ win0_1.index t 1 = 0 := (by decide +kernel : ∀ t : Fin grid0.N, win0_1.index t 0 = t.val ∧ win0_1.index t 1 = 0) t
  unfold iblk
  rw [View.read_apply]
  exact read2 _ _ (by show win0_1.index t 0 * 256 + 1 * (j 0).val = _; omega) (by show win0_1.index t 1 * 2048 + 1 * (j 1).val = _; omega)

theorem blk2 (t : Fin cfg0.N) : Is (iblk m c 2 t) fun _ q => G m c q := fun j => by
  have hi : win0_2.index t 0 = 0 ∧ win0_2.index t 1 = 0 := (by decide +kernel : ∀ t : Fin grid0.N, win0_2.index t 0 = 0 ∧ win0_2.index t 1 = 0) t
  have hj : (j 0).val < 1 := (j 0).isLt
  unfold iblk
  rw [View.read_apply]
  exact read2 _ _ (by show win0_2.index t 0 * 1 + 1 * (j 0).val = _; omega) (by show win0_2.index t 1 * 2048 + 1 * (j 1).val = _; omega)

theorem blk3 (t : Fin cfg0.N) : Is (iblk m c 3 t) (S m c) := fun j => by
  have hi : win0_3.index t 0 = 0 ∧ win0_3.index t 1 = 0 := (by decide +kernel : ∀ t : Fin grid0.N, win0_3.index t 0 = 0 ∧ win0_3.index t 1 = 0) t
  unfold iblk
  rw [View.read_apply]
  exact read2 _ _ (by show win0_3.index t 0 * 2 + 1 * (j 0).val = _; omega) (by show win0_3.index t 1 * 2048 + 1 * (j 1).val = _; omega)

theorem blk4 (t : Fin cfg0.N) : Is (iblk m c 4 t) fun r q => Z m c (256 * t.val + r) q := fun j => by
  have hi : win0_4.index t 0 = t.val ∧ win0_4.index t 1 = 0 := (by decide +kernel : ∀ t : Fin grid0.N, win0_4.index t 0 = t.val ∧ win0_4.index t 1 = 0) t
  unfold iblk
  rw [View.read_apply]
  exact read2 _ _ (by show win0_4.index t 0 * 256 + 1 * (j 0).val = _; omega) (by show win0_4.index t 1 * 2048 + 1 * (j 1).val = _; omega)

/-- The gradients and their terms at the arguments. -/
abbrev Dh : ℕ → ℕ → EReal := dxh (D m c) (G m c) (S m c)
abbrev Gx : ℕ → ℕ → EReal := fun r q => back (X m c r) (Dh m c r) q + Z m c r q
abbrev Tg : ℕ → ℕ → EReal := dgT (X m c) (D m c) (S m c)
abbrev Ts : ℕ → ℕ → EReal := dsT (X m c) (D m c) (G m c)

section
variable (t : Fin cfg0.N)

theorem p7 : Is (k0_pay7 (F := Ideal) (grid0.coords t) (top (iblk m c 3 t)) (bot (iblk m c 3 t))) fun _ q => if t.val = 0 then S m c 0 q else S m c 1 q :=
  choose_is (first_eq t) (top_is (blk3 m c t)) (bot_is (blk3 m c t))

theorem p1 : Is (k0_pay1 (F := Ideal) (k0_pay5 (iblk m c 0 t)) (k0_pay6 (iblk m c 0 t))
    (k0_pay17 (iblk m c 1 t) (iblk m c 2 t) (k0_pay7 (grid0.coords t) (top (iblk m c 3 t)) (bot (iblk m c 3 t))))
    (k0_pay18 (iblk m c 1 t) (iblk m c 2 t) (k0_pay6 (iblk m c 0 t)) (k0_pay7 (grid0.coords t) (top (iblk m c 3 t)) (bot (iblk m c 3 t)))) (iblk m c 4 t))
    fun r q => Gx m c (256 * t.val + r) q := fun j => by
  refine (pay1_is (blk0 m c t) (blk1 m c t) (blk2 m c t) (p7 m c t) (blk4 m c t) j).trans ?_
  refine congrArg (· + _) (congrArg (fun f => back (X m c (256 * t.val + (j 0).val)) f (j 1).val) ?_)
  funext q
  exact congrArg (fun a => D m c (256 * t.val + (j 0).val) q * (G m c q * (one + a))) (seg_at (S m c) t.val (j 0) q)

theorem p11 {o : Vec Ideal S1x2048 .f32} {n : ℕ} (hn : t.val = n) (ho : Is o fun _ q => acc (Tg m c) n q) :
    Is (k0_pay11 (F := Ideal) (grid0.coords t) (iblk m c 0 t) (iblk m c 1 t) (top (iblk m c 3 t)) (bot (iblk m c 3 t)) o) fun _ q => acc (Tg m c) (n + 1) q := fun j => by
  subst hn
  refine (pay11_is (blk0 m c t) (blk1 m c t) (p7 m c t) ho j).trans (Eq.trans ?_ (acc_succ (Tg m c) _ _).symm)
  exact congrArg (_ + ·) (Finset.sum_congr rfl fun r _ => congrArg (fun a => _ * (one + a)) (seg_at (S m c) t.val r _))

theorem p8 : Is (k0_pay8 (F := Ideal) (iblk m c 1 t)) fun _ q => ∑ r : Fin 256, D m c (256 * t.val + r.val) q := pay8_is (blk1 m c t)

theorem p10 : Is (k0_pay10 (F := Ideal) (iblk m c 0 t) (iblk m c 1 t) (iblk m c 2 t)) fun _ q => ∑ r : Fin 256, Ts m c (256 * t.val + r.val) q :=
  pay10_is (g := fun _ => G m c) (blk0 m c t) (blk1 m c t) (blk2 m c t)

end

theorem at5 (t : Fin cfg0.N) : Is (outsAt0 m c t.val t.isLt).1 fun r q => Gx m c (256 * t.val + r) q := fun j => by
  by_cases h : t.val % 9 = 0
  · rw [outsAt0_A m c t h]
    dsimp only
    rw [outA5]
    exact p1 m c t j
  · rw [outsAt0_B m c t h]
    dsimp only
    rw [outB5]
    exact p1 m c t j

/-- A pair of growing rows. -/
abbrev pair (f : ℕ → ℕ → EReal) (n r q : ℕ) : EReal := if r = 1 then acc (hi f) n q else acc (lo f) n q

/-- What the three growing arrays hold after point `n`. -/
theorem sums : ∀ (n : ℕ) (hn : n < cfg0.N), Is (outsAt0 m c n hn).2.1 (fun _ q => acc (Tg m c) (n + 1) q)
    ∧ Is (outsAt0 m c n hn).2.2.1 (pair (D m c) (n + 1))
    ∧ Is (outsAt0 m c n hn).2.2.2 (pair (Ts m c) (n + 1))
  | 0, hn => by
    rw [outsAt0_A m c ⟨0, hn⟩ rfl]
    dsimp only
    refine ⟨fun j => ?_, fun j => ?_, fun j => ?_⟩
    · rw [outA6]
      exact p11 m c ⟨0, hn⟩ rfl (fun _ => Ideal.ofBits_zero_f32) j
    · rw [outA7]
      refine if_congr Iff.rfl ?_ ?_
      · exact pay14_is (first_eq ⟨0, hn⟩) (p8 m c ⟨0, hn⟩) (bot_is (f := fun _ _ => 0) fun _ => Ideal.ofBits_zero_f32) _
      · exact pay13_is (first_eq ⟨0, hn⟩) (p8 m c ⟨0, hn⟩) (top_is (f := fun _ _ => 0) fun _ => Ideal.ofBits_zero_f32) _
    · rw [outA8]
      refine if_congr Iff.rfl ?_ ?_
      · exact pay14_is (first_eq ⟨0, hn⟩) (p10 m c ⟨0, hn⟩) (bot_is (f := fun _ _ => 0) fun _ => Ideal.ofBits_zero_f32) _
      · exact pay13_is (first_eq ⟨0, hn⟩) (p10 m c ⟨0, hn⟩) (top_is (f := fun _ _ => 0) fun _ => Ideal.ofBits_zero_f32) _
  | n + 1, hn => by
    have hN : n + 1 < 9 := Nat.lt_of_lt_of_eq hn N_0
    obtain ⟨s6, s7, s8⟩ := sums n (Nat.lt_of_succ_lt hn)
    rw [outsAt0_B m c ⟨n + 1, hn⟩ (by show ¬(n + 1) % 9 = 0; omega)]
    dsimp only
    refine ⟨fun j => ?_, fun j => ?_, fun j => ?_⟩
    · rw [outB6]
      exact p11 m c ⟨n + 1, hn⟩ rfl s6 j
    · rw [outB7]
      refine if_congr Iff.rfl ?_ ?_
      · exact pay14_is (first_eq ⟨n + 1, hn⟩) (p8 m c ⟨n + 1, hn⟩) (bot_is s7) _
      · exact pay13_is (first_eq ⟨n + 1, hn⟩) (p8 m c ⟨n + 1, hn⟩) (top_is s7) _
    · rw [outB8]
      refine if_congr Iff.rfl ?_ ?_
      · exact pay14_is (first_eq ⟨n + 1, hn⟩) (p10 m c ⟨n + 1, hn⟩) (bot_is s8) _
      · exact pay13_is (first_eq ⟨n + 1, hn⟩) (p10 m c ⟨n + 1, hn⟩) (top_is s8) _

end Cert.NormBIdeal.At

end
-- ==== Proof.NormB.lean ====
/-  The normalisation gradient: what its four results hold, and the reference's gradients beside them. -/
module

public import proofs.«01_k».proof.Defs
public import proofs.«01_k».proof.Proof.NormBSum
public import proofs.«01_k».proof.Proof.Gen.NormBIdeal.Value
public import proofs.«01_k».proof.Proof.Gen.NormBRefIdeal.Run
public import proofs.«01_k».proof.Proof.Gen.NormBRefIdeal.Read
public import Idealize.ShloMosaic.Lib.Claim
public import Idealize.ShloMosaic.Lib.Quiescent
public import Idealize.ShloMosaic.Lib.Pipeline.ReadBack

@[expose] public section

noncomputable section

namespace Cert.NormBIdeal.At

open Cert.NormBIdeal Cert.NormBIdeal.Gen Cert.Mix Cert.Norm Idealize.ShloMosaic Idealize.ShloMosaic.TcCoe Idealize.SL.Sem
open Cert.Products (Is hz2)

variable (m : (ℓ : Loc nD τ sig) → Buf (Elt Ideal) ℓ) (c : Dev nD)

/-- The stream's gradient is flushed at every point after the first. -/
theorem flush5 (t : Fin cfg0.N) : (cfg0.win 5).flush t = true ↔ 1 ≤ t.val :=
  (by decide +kernel : ∀ t : Fin grid0.N, (cfg0.win 5).flush t = true ↔ 1 ≤ t.val) t

/-- What each result holds in the end. -/
abbrev G5 : (⟨2, ![2048, 2048]⟩ : Shape).Idx → EReal := cells (fun r q => Gx m c (256 + r) q)

theorem final5 : (dats m 0 c).arrAt 5 cfg0.N = G5 m c := by
  have hi := (by decide +kernel : ∀ t : Fin grid0.N, win0_5.index t 0 = t.val - 1 ∧ win0_5.index t 1 = 0)
  funext i
  have h0 : (i 0).val < 2048 := (i 0).isLt
  have h1 : (i 1).val < 2048 := (i 1).isLt
  let t : Fin cfg0.N := ⟨(i 0).val / 256 + 1, Nat.lt_of_lt_of_eq (by omega : (i 0).val / 256 + 1 < 9) N_0.symm⟩
  have ht := hi t
  have hv : t.val = (i 0).val / 256 + 1 := rfl
  refine (dats m 0 c).arrAt_apply_of_mem 5 (G5 m c) (fun t hf => ?_) cfg0.N t i t.isLt ((flush5 t).mpr (by omega)) ?_
  · have ht := hi t
    have hp : 1 ≤ t.val := (flush5 t).mp hf
    rw [Value.flushed5]
    funext j
    rw [View.read_apply]
    refine ((at5 m c t j).trans (congrArg (fun r => Gx m c r (j 1).val) (by omega : 256 * t.val + (j 0).val = 256 + (256 * (t.val - 1) + (j 0).val)))).trans (Eq.trans ?_ (cast_eq _ _).symm)
    exact cells_at (fun r q => Gx m c (256 + r) q) (r := 256 * (t.val - 1) + (j 0).val) (q := (j 1).val) _ (by show 256 * (t.val - 1) + (j 0).val = win0_5.index t 0 * 256 + 1 * (j 0).val; omega) (by show (j 1).val = win0_5.index t 1 * 2048 + 1 * (j 1).val; omega)
  · show i ∈ ((View.whole main_v0_0).slice (win0_5.rect t)).set
    rw [View.set_slice_whole, Rect.mem_set_unit]
    intro a
    match a with
    | ⟨0, _⟩ => show win0_5.index t 0 * 256 ≤ (i 0).val ∧ (i 0).val < win0_5.index t 0 * 256 + 256; omega
    | ⟨1, _⟩ => show win0_5.index t 1 * 2048 ≤ (i 1).val ∧ (i 1).val < win0_5.index t 1 * 2048 + 2048; omega

abbrev G6 : (⟨2, ![1, 2048]⟩ : Shape).Idx → EReal := cells (fun _ => acc (Tg m c) 9)

theorem final6 : (dats m 0 c).arrAt 6 cfg0.N = G6 m c := by
  have hi := (by decide +kernel : ∀ t : Fin grid0.N, win0_6.index t 0 = 0 ∧ win0_6.index t 1 = 0)
  funext i
  have h0 : (i 0).val < 1 := (i 0).isLt
  have h1 : (i 1).val < 2048 := (i 1).isLt
  let t : Fin cfg0.N := ⟨8, by decide +kernel⟩
  have ht := hi t
  refine (dats m 0 c).arrAt_apply_of_mem 6 (G6 m c) (fun t hf => ?_) cfg0.N t i t.isLt ((flush0_6 t).mpr rfl) ?_
  · have ht := hi t
    have hl : t.val = 8 := by have h := (flush0_6 t).mp hf; have h8 := Nat.lt_of_lt_of_eq t.isLt N_0; omega
    rw [Value.flushed6]
    funext j
    rw [View.read_apply]
    refine ((sums m c t.val t.isLt).1 j).trans (Eq.trans ?_ (cast_eq _ _).symm)
    rw [hl]
    exact cells_at (fun _ => acc (Tg m c) 9) (r := (j 0).val) (q := (j 1).val) _ (by show (j 0).val = win0_6.index t 0 * 1 + 1 * (j 0).val; omega) (by show (j 1).val = win0_6.index t 1 * 2048 + 1 * (j 1).val; omega)
  · show i ∈ ((View.whole main_v0_1).slice (win0_6.rect t)).set
    rw [View.set_slice_whole, Rect.mem_set_unit]
    intro a
    match a with
    | ⟨0, _⟩ => show win0_6.index t 0 * 1 ≤ (i 0).val ∧ (i 0).val < win0_6.index t 0 * 1 + 1; omega
    | ⟨1, _⟩ => show win0_6.index t 1 * 2048 ≤ (i 1).val ∧ (i 1).val < win0_6.index t 1 * 2048 + 2048; omega

abbrev G7 : (⟨2, ![2, 2048]⟩ : Shape).Idx → EReal := cells (pair (D m c) 9)

theorem final7 : (dats m 0 c).arrAt 7 cfg0.N = G7 m c := by
  have hi := (by decide +kernel : ∀ t : Fin grid0.N, win0_7.index t 0 = 0 ∧ win0_7.index t 1 = 0)
  funext i
  have h0 : (i 0).val < 2 := (i 0).isLt
  have h1 : (i 1).val < 2048 := (i 1).isLt
  let t : Fin cfg0.N := ⟨8, by decide +kernel⟩
  have ht := hi t
  refine (dats m 0 c).arrAt_apply_of_mem 7 (G7 m c) (fun t hf => ?_) cfg0.N t i t.isLt ((flush0_7 t).mpr rfl) ?_
  · have ht := hi t
    have hl : t.val = 8 := by have h := (flush0_7 t).mp hf; have h8 := Nat.lt_of_lt_of_eq t.isLt N_0; omega
    rw [Value.flushed7]
    funext j
    rw [View.read_apply]
    refine ((sums m c t.val t.isLt).2.1 j).trans (Eq.trans ?_ (cast_eq _ _).symm)
    rw [hl]
    exact cells_at (pair (D m c) 9) (r := (j 0).val) (q := (j 1).val) _ (by show (j 0).val = win0_7.index t 0 * 2 + 1 * (j 0).val; omega) (by show (j 1).val = win0_7.index t 1 * 2048 + 1 * (j 1).val; omega)
  · show i ∈ ((View.whole main_v0_2).slice (win0_7.rect t)).set
    rw [View.set_slice_whole, Rect.mem_set_unit]
    intro a
    match a with
    | ⟨0, _⟩ => show win0_7.index t 0 * 2 ≤ (i 0).val ∧ (i 0).val < win0_7.index t 0 * 2 + 2; omega
    | ⟨1, _⟩ => show win0_7.index t 1 * 2048 ≤ (i 1).val ∧ (i 1).val < win0_7.index t 1 * 2048 + 2048; omega

abbrev G8 : (⟨2, ![2, 2048]⟩ : Shape).Idx → EReal := cells (pair (Ts m c) 9)

theorem final8 : (dats m 0 c).arrAt 8 cfg0.N = G8 m c := by
  have hi := (by decide +kernel : ∀ t : Fin grid0.N, win0_8.index t 0 = 0 ∧ win0_8.index t 1 = 0)
  funext i
  have h0 : (i 0).val < 2 := (i 0).isLt
  have h1 : (i 1).val < 2048 := (i 1).isLt
  let t : Fin cfg0.N := ⟨8, by decide +kernel⟩
  have ht := hi t
  refine (dats m 0 c).arrAt_apply_of_mem 8 (G8 m c) (fun t hf => ?_) cfg0.N t i t.isLt ((flush0_8 t).mpr rfl) ?_
  · have ht := hi t
    have hl : t.val = 8 := by have h := (flush0_8 t).mp hf; have h8 := Nat.lt_of_lt_of_eq t.isLt N_0; omega
    rw [Value.flushed8]
    funext j
    rw [View.read_apply]
    refine ((sums m c t.val t.isLt).2.2 j).trans (Eq.trans ?_ (cast_eq _ _).symm)
    rw [hl]
    exact cells_at (pair (Ts m c) 9) (r := (j 0).val) (q := (j 1).val) _ (by show (j 0).val = win0_8.index t 0 * 2 + 1 * (j 0).val; omega) (by show (j 1).val = win0_8.index t 1 * 2048 + 1 * (j 1).val; omega)
  · show i ∈ ((View.whole main_v0_3).slice (win0_8.rect t)).set
    rw [View.set_slice_whole, Rect.mem_set_unit]
    intro a
    match a with
    | ⟨0, _⟩ => show win0_8.index t 0 * 2 ≤ (i 0).val ∧ (i 0).val < win0_8.index t 0 * 2 + 2; omega
    | ⟨1, _⟩ => show win0_8.index t 1 * 2048 ≤ (i 1).val ∧ (i 1).val < win0_8.index t 1 * 2048 + 2048; omega

end Cert.NormBIdeal.At

namespace Cert.Proof.NormB

open Idealize.ShloMosaic Idealize.SL.Sem Cert.Mix Cert.Norm Cert.NormBIdeal.At

section
open Cert.NormBRefIdeal Cert.NormBRefIdeal.Read

variable (x0 x1 : FVec Ideal S2304x2048 .f32) (x2 : FVec Ideal S1x2048 .f32) (x3 : FVec Ideal S2x2048 .f32) (x4 : FVec Ideal S2304x2048 .f32)

/-- The gradient of the normalised rows before the gain and the scale. -/
abbrev hD : ℕ → ℕ → EReal := dxh (at2 x1) (at2 x2 0) (at2 x3)

theorem xC_at (i : S256x2048.Idx) : val_main_v0 (F := Ideal) x0 i = at2 x0 (0 + (i 0).val) (i 1).val := by
  rw [val_main_v0_apply]; exact read2 x0 _ (Nat.zero_add _).symm (by first | rfl | exact Nat.zero_add _)

theorem dC_at (i : S256x2048.Idx) : val_main_v1 (F := Ideal) x1 i = at2 x1 (0 + (i 0).val) (i 1).val := by
  rw [val_main_v1_apply]; exact read2 x1 _ (Nat.zero_add _).symm (by first | rfl | exact Nat.zero_add _)

theorem oneC_at (i : S1x2048.Idx) : val_main_v20 (F := Ideal) x3 i = one + at2 x3 0 (i 1).val := by
  have h0 : (i 0).val < 1 := (i 0).isLt
  rw [val_main_v20_apply, val_main_v2_apply]
  exact congrArg (one + ·) (read2 x3 _ (by show _ = 0; first | (show (i 0).val = 0; omega) | (show 0 + (i 0).val = 0; omega)) (by first | rfl | exact Nat.zero_add _))

theorem msqC_at (i : S256x1.Idx) : val_main_v10 (F := Ideal) x0 i = msq (at2 x0 (0 + (i 0).val)) := by
  rw [val_main_v10_apply, val_main_v8_apply, val_main_v6_apply, val_main_v5_apply, val_main_v7_apply, val_main_v9_apply]
  refine congrArg (fun s : EReal => Ideal.div s width + eps) ?_
  refine (congrArg (fun a : EReal => a + _) Ideal.ofBits_zero_f32).trans ((zero_add _).trans ?_)
  refine Finset.sum_congr rfl fun k _ => ?_
  rw [val_main_v4_apply, xC_at]
  rfl

theorem rsC_at (i : S256x1.Idx) : val_main_v11 (F := Ideal) x0 i = rs (at2 x0 (0 + (i 0).val)) := by
  rw [val_main_v11_apply, msqC_at]; rfl

theorem slopeC_at (i : S256x1.Idx) : val_main_v14 (F := Ideal) x0 i = negHalf * Ideal.div (rs (at2 x0 (0 + (i 0).val))) (msq (at2 x0 (0 + (i 0).val))) := by
  rw [val_main_v14_apply, val_main_v12_apply, rsC_at, msqC_at, val_main_v13_apply]; rfl

theorem hatC_at (i : S256x2048.Idx) : val_main_v16 (F := Ideal) x0 i = at2 x0 (0 + (i 0).val) (i 1).val * rs (at2 x0 (0 + (i 0).val)) := by
  rw [val_main_v16_apply, xC_at, val_main_v15_apply, rsC_at]
  rfl

theorem dhC_at (i : S256x2048.Idx) : val_main_v31 (F := Ideal) x1 x3 i = at2 x1 (0 + (i 0).val) (i 1).val * (one + at2 x3 0 (i 1).val) := by
  rw [val_main_v31_apply, dC_at, val_main_v30_apply, oneC_at]
  rfl

theorem shiftC_at (i : S1x2048.Idx) : val_main_v26 (F := Ideal) x1 i = ∑ r : Fin 256, at2 x1 (0 + r.val) (i 1).val := by
  have h0 : (i 0).val < 1 := (i 0).isLt
  have hj : (i 0).val * 2048 + (i 1).val = (i 1).val := by omega
  rw [val_main_v26_apply, val_main_v25_apply]
  refine (congrArg (fun a : EReal => a + _) Ideal.ofBits_zero_f32).trans ((zero_add _).trans ?_)
  refine Finset.sum_congr rfl fun r _ => ?_
  rw [dC_at]
  exact congrArg (at2 x1 (0 + r.val)) hj

theorem scaleC_at (i : S1x2048.Idx) : val_main_v29 (F := Ideal) x0 x1 x2 i = ∑ r : Fin 256, dsT (at2 x0) (at2 x1) (at2 x2 0) (0 + r.val) (i 1).val := by
  have h0 : (i 0).val < 1 := (i 0).isLt
  have hj : (i 0).val * 2048 + (i 1).val = (i 1).val := by omega
  rw [val_main_v29_apply, val_main_v28_apply]
  refine (congrArg (fun a : EReal => a + _) Ideal.ofBits_zero_f32).trans ((zero_add _).trans ?_)
  refine Finset.sum_congr rfl fun r _ => ?_
  rw [val_main_v27_apply, val_main_v18_apply, val_main_v17_apply, hatC_at, dC_at]
  refine Eq.trans ?_ (congrArg (dsT (at2 x0) (at2 x1) (at2 x2 0) (0 + r.val)) hj)
  refine (congrArg (fun a : EReal => _ * a * _) (read2 x2 _ rfl rfl : _ = at2 x2 0 ((i 0).val * 2048 + (i 1).val))).trans ?_
  exact (mul_comm _ _).trans (mul_assoc _ _ _).symm

theorem gainC_at (i : S1x2048.Idx) : val_main_v34 (F := Ideal) x0 x1 x3 i = ∑ r : Fin 256, dgT (at2 x0) (at2 x1) (at2 x3) (0 + r.val) (i 1).val := by
  have h0 : (i 0).val < 1 := (i 0).isLt
  have hj : (i 0).val * 2048 + (i 1).val = (i 1).val := by omega
  rw [val_main_v34_apply, val_main_v33_apply]
  refine (congrArg (fun a : EReal => a + _) Ideal.ofBits_zero_f32).trans ((zero_add _).trans ?_)
  refine Finset.sum_congr rfl fun r _ => ?_
  rw [val_main_v32_apply, hatC_at, dhC_at]
  refine Eq.trans ?_ (congrArg (dgT (at2 x0) (at2 x1) (at2 x3) (0 + r.val)) hj)
  refine (mul_left_comm _ _ _).trans ((mul_assoc _ _ _).symm.trans ?_)
  exact congrArg (fun a => _ * (one + a)) (if_pos (by have := r.isLt; omega) : seg (at2 x3) (0 + r.val) _ = _).symm

theorem dxhC_at (i : S256x2048.Idx) : val_main_v36 (F := Ideal) x1 x2 x3 i = hD x1 x2 x3 (0 + (i 0).val) (i 1).val := by
  have hi : (i 0).val < 256 := (i 0).isLt
  rw [val_main_v36_apply, dhC_at, val_main_v35_apply]
  refine (congrArg (_ * ·) (read2 x2 _ rfl rfl)).trans ((mul_assoc _ _ _).trans (congrArg (_ * ·) ((mul_comm _ _).trans ?_)))
  exact congrArg (fun a => _ * (one + a)) (if_pos (by omega) : seg (at2 x3) (0 + (i 0).val) _ = _).symm

theorem pullC_at (i : S256x2048.Idx) : val_main_v46 (F := Ideal) x0 x1 x2 x3 i = pull (at2 x0 (0 + (i 0).val)) (hD x1 x2 x3 (0 + (i 0).val)) := by
  rw [val_main_v46_apply, val_main_v45_apply]
  refine (congrArg (fun a : EReal => a + _) Ideal.ofBits_zero_f32).trans ((zero_add _).trans ?_)
  rw [Fin.sum_univ_one, val_main_v44_apply, val_main_v42_apply, slopeC_at, val_main_v43_apply, val_main_v39_apply, val_main_v38_apply]
  refine congrArg (fun s : EReal => Ideal.div (s * (negHalf * Ideal.div (rs (at2 x0 (0 + (i 0).val))) (msq (at2 x0 (0 + (i 0).val))))) width) ?_
  refine (congrArg (fun a : EReal => a + _) Ideal.ofBits_zero_f32).trans ((zero_add _).trans ?_)
  refine Finset.sum_congr rfl fun k _ => ?_
  rw [val_main_v37_apply, xC_at, dxhC_at]
  have hi : (i 0).val * 1 + 0 = (i 0).val := by omega
  exact congrArg (fun r => at2 x0 (0 + r) k.val * hD x1 x2 x3 (0 + r) k.val) hi

theorem dxC_at (i : S256x2048.Idx) : val_main_v50 (F := Ideal) x0 x1 x2 x3 i = back (at2 x0 (0 + (i 0).val)) (hD x1 x2 x3 (0 + (i 0).val)) (i 1).val := by
  refine Eq.trans ?_ (back_eq (at2 x0 (0 + (i 0).val)) (hD x1 x2 x3 (0 + (i 0).val)) (i 1).isLt)
  rw [val_main_v50_apply, val_main_v48_apply, val_main_v49_apply, val_main_v47_apply, val_main_v41_apply, val_main_v40_apply, rsC_at, pullC_at, dxhC_at, xC_at]
  rfl

theorem xL_at (i : S2048x2048.Idx) : val_main_v51 (F := Ideal) x0 i = at2 x0 (256 + (i 0).val) (i 1).val := by
  rw [val_main_v51_apply]; exact read2 x0 _ rfl (by first | rfl | exact Nat.zero_add _)

theorem dL_at (i : S2048x2048.Idx) : val_main_v52 (F := Ideal) x1 i = at2 x1 (256 + (i 0).val) (i 1).val := by
  rw [val_main_v52_apply]; exact read2 x1 _ rfl (by first | rfl | exact Nat.zero_add _)

theorem oneL_at (i : S1x2048.Idx) : val_main_v71 (F := Ideal) x3 i = one + at2 x3 1 (i 1).val := by
  have h0 : (i 0).val < 1 := (i 0).isLt
  rw [val_main_v71_apply, val_main_v53_apply]
  exact congrArg (one + ·) (read2 x3 _ (by show _ = 1; first | (show (i 0).val = 1; omega) | (show 1 + (i 0).val = 1; omega)) (by first | rfl | exact Nat.zero_add _))

theorem msqL_at (i : S2048x1.Idx) : val_main_v61 (F := Ideal) x0 i = msq (at2 x0 (256 + (i 0).val)) := by
  rw [val_main_v61_apply, val_main_v59_apply, val_main_v57_apply, val_main_v56_apply, val_main_v58_apply, val_main_v60_apply]
  refine congrArg (fun s : EReal => Ideal.div s width + eps) ?_
  refine (congrArg (fun a : EReal => a + _) Ideal.ofBits_zero_f32).trans ((zero_add _).trans ?_)
  refine Finset.sum_congr rfl fun k _ => ?_
  rw [val_main_v55_apply, xL_at]
  rfl

theorem rsL_at (i : S2048x1.Idx) : val_main_v62 (F := Ideal) x0 i = rs (at2 x0 (256 + (i 0).val)) := by
  rw [val_main_v62_apply, msqL_at]; rfl

theorem slopeL_at (i : S2048x1.Idx) : val_main_v65 (F := Ideal) x0 i = negHalf * Ideal.div (rs (at2 x0 (256 + (i 0).val))) (msq (at2 x0 (256 + (i 0).val))) := by
  rw [val_main_v65_apply, val_main_v63_apply, rsL_at, msqL_at, val_main_v64_apply]; rfl

theorem hatL_at (i : S2048x2048.Idx) : val_main_v67 (F := Ideal) x0 i = at2 x0 (256 + (i 0).val) (i 1).val * rs (at2 x0 (256 + (i 0).val)) := by
  rw [val_main_v67_apply, xL_at, val_main_v66_apply, rsL_at]
  rfl

theorem dhL_at (i : S2048x2048.Idx) : val_main_v82 (F := Ideal) x1 x3 i = at2 x1 (256 + (i 0).val) (i 1).val * (one + at2 x3 1 (i 1).val) := by
  rw [val_main_v82_apply, dL_at, val_main_v81_apply, oneL_at]
  rfl

theorem shiftL_at (i : S1x2048.Idx) : val_main_v77 (F := Ideal) x1 i = ∑ r : Fin 2048, at2 x1 (256 + r.val) (i 1).val := by
  have h0 : (i 0).val < 1 := (i 0).isLt
  have hj : (i 0).val * 2048 + (i 1).val = (i 1).val := by omega
  rw [val_main_v77_apply, val_main_v76_apply]
  refine (congrArg (fun a : EReal => a + _) Ideal.ofBits_zero_f32).trans ((zero_add _).trans ?_)
  refine Finset.sum_congr rfl fun r _ => ?_
  rw [dL_at]
  exact congrArg (at2 x1 (256 + r.val)) hj

theorem scaleL_at (i : S1x2048.Idx) : val_main_v80 (F := Ideal) x0 x1 x2 i = ∑ r : Fin 2048, dsT (at2 x0) (at2 x1) (at2 x2 0) (256 + r.val) (i 1).val := by
  have h0 : (i 0).val < 1 := (i 0).isLt
  have hj : (i 0).val * 2048 + (i 1).val = (i 1).val := by omega
  rw [val_main_v80_apply, val_main_v79_apply]
  refine (congrArg (fun a : EReal => a + _) Ideal.ofBits_zero_f32).trans ((zero_add _).trans ?_)
  refine Finset.sum_congr rfl fun r _ => ?_
  rw [val_main_v78_apply, val_main_v69_apply, val_main_v68_apply, hatL_at, dL_at]
  refine Eq.trans ?_ (congrArg (dsT (at2 x0) (at2 x1) (at2 x2 0) (256 + r.val)) hj)
  refine (congrArg (fun a : EReal => _ * a * _) (read2 x2 _ rfl rfl : _ = at2 x2 0 ((i 0).val * 2048 + (i 1).val))).trans ?_
  exact (mul_comm _ _).trans (mul_assoc _ _ _).symm

theorem gainL_at (i : S1x2048.Idx) : val_main_v85 (F := Ideal) x0 x1 x3 i = ∑ r : Fin 2048, dgT (at2 x0) (at2 x1) (at2 x3) (256 + r.val) (i 1).val := by
  have h0 : (i 0).val < 1 := (i 0).isLt
  have hj : (i 0).val * 2048 + (i 1).val = (i 1).val := by omega
  rw [val_main_v85_apply, val_main_v84_apply]
  refine (congrArg (fun a : EReal => a + _) Ideal.ofBits_zero_f32).trans ((zero_add _).trans ?_)
  refine Finset.sum_congr rfl fun r _ => ?_
  rw [val_main_v83_apply, hatL_at, dhL_at]
  refine Eq.trans ?_ (congrArg (dgT (at2 x0) (at2 x1) (at2 x3) (256 + r.val)) hj)
  refine (mul_left_comm _ _ _).trans ((mul_assoc _ _ _).symm.trans ?_)
  exact congrArg (fun a => _ * (one + a)) (if_neg (by omega) : seg (at2 x3) (256 + r.val) _ = _).symm

theorem dxhL_at (i : S2048x2048.Idx) : val_main_v87 (F := Ideal) x1 x2 x3 i = hD x1 x2 x3 (256 + (i 0).val) (i 1).val := by
  have hi : (i 0).val < 2048 := (i 0).isLt
  rw [val_main_v87_apply, dhL_at, val_main_v86_apply]
  refine (congrArg (_ * ·) (read2 x2 _ rfl rfl)).trans ((mul_assoc _ _ _).trans (congrArg (_ * ·) ((mul_comm _ _).trans ?_)))
  exact congrArg (fun a => _ * (one + a)) (if_neg (by omega) : seg (at2 x3) (256 + (i 0).val) _ = _).symm

theorem pullL_at (i : S2048x2048.Idx) : val_main_v97 (F := Ideal) x0 x1 x2 x3 i = pull (at2 x0 (256 + (i 0).val)) (hD x1 x2 x3 (256 + (i 0).val)) := by
  rw [val_main_v97_apply, val_main_v96_apply]
  refine (congrArg (fun a : EReal => a + _) Ideal.ofBits_zero_f32).trans ((zero_add _).trans ?_)
  rw [Fin.sum_univ_one, val_main_v95_apply, val_main_v93_apply, slopeL_at, val_main_v94_apply, val_main_v90_apply, val_main_v89_apply]
  refine congrArg (fun s : EReal => Ideal.div (s * (negHalf * Ideal.div (rs (at2 x0 (256 + (i 0).val))) (msq (at2 x0 (256 + (i 0).val))))) width) ?_
  refine (congrArg (fun a : EReal => a + _) Ideal.ofBits_zero_f32).trans ((zero_add _).trans ?_)
  refine Finset.sum_congr rfl fun k _ => ?_
  rw [val_main_v88_apply, xL_at, dxhL_at]
  have hi : (i 0).val * 1 + 0 = (i 0).val := by omega
  exact congrArg (fun r => at2 x0 (256 + r) k.val * hD x1 x2 x3 (256 + r) k.val) hi

theorem dxL_at (i : S2048x2048.Idx) : val_main_v101 (F := Ideal) x0 x1 x2 x3 i = back (at2 x0 (256 + (i 0).val)) (hD x1 x2 x3 (256 + (i 0).val)) (i 1).val := by
  refine Eq.trans ?_ (back_eq (at2 x0 (256 + (i 0).val)) (hD x1 x2 x3 (256 + (i 0).val)) (i 1).isLt)
  rw [val_main_v101_apply, val_main_v99_apply, val_main_v100_apply, val_main_v98_apply, val_main_v92_apply, val_main_v91_apply, rsL_at, pullL_at, dxhL_at, xL_at]
  rfl

theorem out_at (i : S2048x2048.Idx) : val_main_v103 (F := Ideal) x0 x1 x2 x3 x4 i
    = back (at2 x0 (256 + (i 0).val)) (hD x1 x2 x3 (256 + (i 0).val)) (i 1).val + at2 x4 (256 + (i 0).val) (i 1).val := by
  rw [val_main_v103_apply, dxL_at, val_main_v102_apply]
  exact congrArg (_ + ·) (read2 x4 _ rfl (by first | rfl | exact Nat.zero_add _))

theorem gain_at (i : S1x2048.Idx) : val_main_v104 (F := Ideal) x0 x1 x3 i = acc (dgT (at2 x0) (at2 x1) (at2 x3)) 9 (i 1).val := by
  rw [val_main_v104_apply, gainC_at, gainL_at, acc_split]
  exact congrArg (· + _) (Finset.sum_congr rfl fun r _ => congrArg (fun n => dgT (at2 x0) (at2 x1) (at2 x3) n _) (Nat.zero_add _))

/-- Two rows of column sums, the context's and the stream's, one above the other. -/
theorem pair_joined {f : ℕ → ℕ → EReal} {u v : FVec Ideal S1x2048 .f32} (hu : ∀ j : S1x2048.Idx, u j = ∑ r : Fin 256, f (0 + r.val) (j 1).val)
    (hv : ∀ j : S1x2048.Idx, v j = ∑ r : Fin 2048, f (256 + r.val) (j 1).val) (i : S2x2048.Idx) :
    concatenate S2x2048 0 [⟨S1x2048, u⟩, ⟨S1x2048, v⟩] NormBRefIdeal.Gen.facts.concatenates_S1x2048_S1x2048_S2x2048_d0 i = pair f 9 (i 0).val (i 1).val :=
  rows_joined (A := 1) (B := 1) (C := 2) (N := 2048) (f := pair f 9) _ _ NormBRefIdeal.Gen.facts.concatenates_S1x2048_S1x2048_S2x2048_d0
    (fun j => by
      have h0 : (j 0).val < 1 := (j 0).isLt
      refine (hu j).trans (Eq.trans ?_ ((if_neg (by omega)).trans (acc_lo f _)).symm)
      exact Finset.sum_congr rfl fun r _ => congrArg (fun n => f n _) (Nat.zero_add _))
    (fun j => (hv j).trans ((if_pos (by show 1 + (j 0).val = 1; have h0 : (j 0).val < 1 := (j 0).isLt; omega)).trans (acc_hi f _)).symm)
    i

theorem shift_at (i : S2x2048.Idx) : val_main_v105 (F := Ideal) x1 i = pair (at2 x1) 9 (i 0).val (i 1).val :=
  pair_joined (shiftC_at x1) (shiftL_at x1) i

theorem scale_at (i : S2x2048.Idx) : val_main_v106 (F := Ideal) x0 x1 x2 i = pair (dsT (at2 x0) (at2 x1) (at2 x2 0)) 9 (i 0).val (i 1).val :=
  pair_joined (scaleC_at x0 x1 x2) (scaleL_at x0 x1 x2) i

end

theorem frame : Cert.quiescent_NormBRefIdeal := fun m g _ =>
  (θ_run (NormBRefIdeal.defs (F := Ideal)) _ _).mono
    (fun r h => ⟨fun c => (h c).2.2.2.2, Idealize.ShloMosaic.sem_eq_zero_of_no_sems (by decide) r.2⟩)
    (NormBRefIdeal.Value.run (F := Ideal) m g)

theorem value : Cert.algebraic_NormBIdeal_NormBRefIdeal := by
  intro m g m' g' _ hag
  refine ⟨G5 m, G6 m, G7 m, G8 m,
    (θ_run NormBIdeal.defs _ _).mono (fun r h c => ?_) (NormBIdeal.Value.run_blocks (F := Ideal) m g),
    (θ_run NormBRefIdeal.defs _ _).mono (fun r h c => ?_) (NormBRefIdeal.Value.run (F := Ideal) m' g')⟩
  · obtain ⟨h5, h6, h7, h8, h⟩ := h c
    exact ⟨h5.trans (final5 m c), h6.trans (final6 m c), h7.trans (final7 m c), h8.trans (final8 m c), h⟩
  · obtain ⟨h5, h6, h7, h8, h⟩ := h c
    obtain ⟨e0, e1, e2, e3, e4⟩ := hag c
    refine ⟨(h5.trans (NormBRefIdeal.Read.val_main_v103_eq m' c)).trans ?_, (h6.trans (NormBRefIdeal.Read.val_main_v104_eq _ _ _)).trans ?_,
      (h7.trans (NormBRefIdeal.Read.val_main_v105_eq _)).trans ?_, (h8.trans (NormBRefIdeal.Read.val_main_v106_eq _ _ _)).trans ?_, h⟩
    · rw [e0, e1, e2, e3, e4]
      funext i
      exact out_at _ _ _ _ _ i
    · rw [e0, e1, e3]
      funext i
      exact gain_at _ _ _ i
    · rw [e1]
      funext i
      exact shift_at _ i
    · rw [e0, e1, e2]
      funext i
      exact scale_at _ _ _ i

end Cert.Proof.NormB

end
-- ==== Proof.LossOut.lean ====
/-  What each store of the loss's kernel leaves, as its payloads over the blocks. -/
module

public import proofs.«01_k».proof.Defs
public import proofs.«01_k».proof.Proof.NormGrad
public import proofs.«01_k».proof.Proof.Gen.LossIdeal.Value
public import Idealize.ShloMosaic.Lib.WritesUnit
public import Idealize.ShloMosaic.Lib.Pipeline.ReadBack

@[expose] public section

noncomputable section

namespace Cert.LossIdeal.At

open Cert.LossIdeal Cert.LossIdeal.Gen Cert.Mix Cert.Norm Idealize.ShloMosaic Idealize.ShloMosaic.TcCoe Idealize.SL.Sem
open Cert.Products (Is hz2)

/-- The second row of a pair. -/
abbrev gr (x : Vec Ideal S2x2048 .f32) : Vec Ideal S1x2048 .f32 := View.ld (Val := Elt Ideal) x (Rect.unit (s := S2x2048) ![1, 0] S1x2048.size inb_S2x2048_S1x2048_1_0)

theorem gr_is {x : Vec Ideal S2x2048 .f32} {f : ℕ → ℕ → EReal} (hx : Is x f) : Is (gr x) fun _ q => f 1 q := fun j => by
  have hj : (j 0).val < 1 := (j 0).isLt
  refine (View.ld_unit_apply_of x _ _ _ j (ValueIdx.ix2 1 (j 1)) fun a => match a with
    | ⟨0, _⟩ => by show 1 = 1 + (j 0).val; omega
    | ⟨1, _⟩ => (Nat.zero_add _).symm).trans (hx _)

section
variable (c : Dev nD) (i : grid0.Coords) (a1 : Memref sig .tc .vmem S256x2048 .f32) (g1 : a1.IsWhole) (a2 : Memref sig .tc .vmem S256x2048 .f32) (g2 : a2.IsWhole) (a3 : Memref sig .tc .vmem S1x2048 .f32) (g3 : a3.IsWhole) (a4 : Memref sig .tc .vmem S2x2048 .f32) (g4 : a4.IsWhole) (a5 : Memref sig .tc .vmem S256x2048 .f32) (g5 : a5.IsWhole) (a6 : Memref sig .tc .vmem S8x128 .f32) (g6 : a6.IsWhole) (a7 : Memref sig .tc .vmem S256x2048 .f32) (g7 : a7.IsWhole) (a8 : Memref sig .tc .vmem S256x2048 .bf16) (g8 : a8.IsWhole) (a9 : Memref sig .tc .vmem S2x2048 .f32) (g9 : a9.IsWhole) (a10 : Memref sig .tc .vmem S1x2048 .f32) (g10 : a10.IsWhole)
theorem outA5 (hc : cond0_0 i) (x0 x1 : Vec Ideal S256x2048 .f32) (x2 : Vec Ideal S1x2048 .f32) (x3 : Vec Ideal S2x2048 .f32) (x4 : Vec Ideal S256x2048 .f32) : out0_A_5 c i a1 g1 a2 g2 a3 g3 a4 g4 a5 g5 a6 g6 a7 g7 a8 g8 a9 g9 a10 g10 hc x0 x1 x2 x3 x4 = k0_pay11 x1 x2 (gr x3) x0 x4 (k0_pay5 (F := Ideal)) := by
  unfold out0_A_5
  rw [View.read_writes_eq_canon _ _ _ (cover0_A_5 c i a1 g1 a2 g2 a3 g3 a4 g4 a5 g5 a6 g6 a7 g7 a8 g8 a9 g9 a10 g10 hc x0 x1 x2 x3 x4)]
  unfold kernelRun0_A
  dsimp only
  sl_unfold_words
  rw [View.canon_cons_unit_zero (S := S8x128) hz2, View.readCov_unit_zero (S := S8x128) _ hz2]
  simp only [View.readAt_eq_ld, g1.read_unread, g2.read_unread, g3.read_unread, g4.read_unread, g5.read_unread, g6.read_unread, g9.read_unread, g10.read_unread, View.ld_unit_zero (S := S256x2048) hz2, View.ld_unit_zero (S := S1x2048) hz2, View.ld_unit_zero (S := S8x128) hz2]

theorem outA6 (hc : cond0_0 i) (x0 x1 : Vec Ideal S256x2048 .f32) (x2 : Vec Ideal S1x2048 .f32) (x3 : Vec Ideal S2x2048 .f32) (x4 : Vec Ideal S256x2048 .f32) : out0_A_6 c i a1 g1 a2 g2 a3 g3 a4 g4 a5 g5 a6 g6 a7 g7 a8 g8 a9 g9 a10 g10 hc x0 x1 x2 x3 x4 = k0_pay12 x1 x2 (gr x3) x0 x4 := by
  unfold out0_A_6
  rw [View.read_writes_eq_canon _ _ _ (cover0_A_6 c i a1 g1 a2 g2 a3 g3 a4 g4 a5 g5 a6 g6 a7 g7 a8 g8 a9 g9 a10 g10 hc x0 x1 x2 x3 x4)]
  unfold kernelRun0_A
  dsimp only
  sl_unfold_words
  rw [View.canon_unit_zero (S := S256x2048) hz2]
  simp only [View.readAt_eq_ld, g1.read_unread, g2.read_unread, g3.read_unread, g4.read_unread, g5.read_unread, g6.read_unread, g9.read_unread, g10.read_unread, View.ld_unit_zero (S := S256x2048) hz2, View.ld_unit_zero (S := S1x2048) hz2, View.ld_unit_zero (S := S8x128) hz2]

theorem outA7 (hc : cond0_0 i) (x0 x1 : Vec Ideal S256x2048 .f32) (x2 : Vec Ideal S1x2048 .f32) (x3 : Vec Ideal S2x2048 .f32) (x4 : Vec Ideal S256x2048 .f32) : out0_A_7 c i a1 g1 a2 g2 a3 g3 a4 g4 a5 g5 a6 g6 a7 g7 a8 g8 a9 g9 a10 g10 hc x0 x1 x2 x3 x4 = k0_pay4 x2 (gr x3) (k0_pay8 x1) (k0_pay9 x1) (k0_pay12 x1 x2 (gr x3) x0 x4) := by
  unfold out0_A_7
  rw [View.read_writes_eq_canon _ _ _ (cover0_A_7 c i a1 g1 a2 g2 a3 g3 a4 g4 a5 g5 a6 g6 a7 g7 a8 g8 a9 g9 a10 g10 hc x0 x1 x2 x3 x4)]
  unfold kernelRun0_A
  dsimp only
  sl_unfold_words
  rw [View.canon_unit_zero (S := S256x2048) hz2]
  simp only [View.readAt_eq_ld, g1.read_unread, g2.read_unread, g3.read_unread, g4.read_unread, g5.read_unread, g6.read_unread, g9.read_unread, g10.read_unread, View.ld_unit_zero (S := S256x2048) hz2, View.ld_unit_zero (S := S1x2048) hz2, View.ld_unit_zero (S := S8x128) hz2]

theorem outA9 (hc : cond0_0 i) (x0 x1 : Vec Ideal S256x2048 .f32) (x2 : Vec Ideal S1x2048 .f32) (x3 : Vec Ideal S2x2048 .f32) (x4 : Vec Ideal S256x2048 .f32) : out0_A_9 c i a1 g1 a2 g2 a3 g3 a4 g4 a5 g5 a6 g6 a7 g7 a8 g8 a9 g9 a10 g10 hc x0 x1 x2 x3 x4 = k0_pay3 (gr x3) (k0_pay9 x1) (k0_pay12 x1 x2 (gr x3) x0 x4) (k0_pay7 (F := Ideal)) := by
  unfold out0_A_9
  rw [View.read_writes_eq_canon _ _ _ (cover0_A_9 c i a1 g1 a2 g2 a3 g3 a4 g4 a5 g5 a6 g6 a7 g7 a8 g8 a9 g9 a10 g10 hc x0 x1 x2 x3 x4)]
  unfold kernelRun0_A
  dsimp only
  sl_unfold_words
  rw [View.canon_cons_unit_zero (S := S1x2048) hz2, View.readCov_unit_zero (S := S1x2048) _ hz2]
  simp only [View.readAt_eq_ld, g1.read_unread, g2.read_unread, g3.read_unread, g4.read_unread, g5.read_unread, g6.read_unread, g9.read_unread, g10.read_unread, View.ld_unit_zero (S := S256x2048) hz2, View.ld_unit_zero (S := S1x2048) hz2, View.ld_unit_zero (S := S8x128) hz2]

theorem outB5 (hc : ¬cond0_0 i) (x0 x1 : Vec Ideal S256x2048 .f32) (x2 : Vec Ideal S1x2048 .f32) (x3 : Vec Ideal S2x2048 .f32) (x4 : Vec Ideal S256x2048 .f32) (xo5 : Vec Ideal S8x128 .f32) (xo8 : Vec Ideal S2x2048 .f32) (xo9 : Vec Ideal S1x2048 .f32) : out0_B_5 c i a1 g1 a2 g2 a3 g3 a4 g4 a5 g5 a6 g6 a7 g7 a8 g8 a9 g9 a10 g10 hc x0 x1 x2 x3 x4 xo5 xo8 xo9 = k0_pay11 x1 x2 (gr x3) x0 x4 xo5 := by
  unfold out0_B_5
  rw [View.read_writes_eq_canon _ _ _ (cover0_B_5 c i a1 g1 a2 g2 a3 g3 a4 g4 a5 g5 a6 g6 a7 g7 a8 g8 a9 g9 a10 g10 hc x0 x1 x2 x3 x4 xo5 xo8 xo9)]
  unfold kernelRun0_B
  dsimp only
  sl_unfold_words
  rw [View.canon_unit_zero (S := S8x128) hz2]
  simp only [View.readAt_eq_ld, g1.read_unread, g2.read_unread, g3.read_unread, g4.read_unread, g5.read_unread, g6.read_unread, g9.read_unread, g10.read_unread, View.ld_unit_zero (S := S256x2048) hz2, View.ld_unit_zero (S := S1x2048) hz2, View.ld_unit_zero (S := S8x128) hz2]

theorem outB6 (hc : ¬cond0_0 i) (x0 x1 : Vec Ideal S256x2048 .f32) (x2 : Vec Ideal S1x2048 .f32) (x3 : Vec Ideal S2x2048 .f32) (x4 : Vec Ideal S256x2048 .f32) (xo5 : Vec Ideal S8x128 .f32) (xo8 : Vec Ideal S2x2048 .f32) (xo9 : Vec Ideal S1x2048 .f32) : out0_B_6 c i a1 g1 a2 g2 a3 g3 a4 g4 a5 g5 a6 g6 a7 g7 a8 g8 a9 g9 a10 g10 hc x0 x1 x2 x3 x4 xo5 xo8 xo9 = k0_pay12 x1 x2 (gr x3) x0 x4 := by
  unfold out0_B_6
  rw [View.read_writes_eq_canon _ _ _ (cover0_B_6 c i a1 g1 a2 g2 a3 g3 a4 g4 a5 g5 a6 g6 a7 g7 a8 g8 a9 g9 a10 g10 hc x0 x1 x2 x3 x4 xo5 xo8 xo9)]
  unfold kernelRun0_B
  dsimp only
  sl_unfold_words
  rw [View.canon_unit_zero (S := S256x2048) hz2]
  simp only [View.readAt_eq_ld, g1.read_unread, g2.read_unread, g3.read_unread, g4.read_unread, g5.read_unread, g6.read_unread, g9.read_unread, g10.read_unread, View.ld_unit_zero (S := S256x2048) hz2, View.ld_unit_zero (S := S1x2048) hz2, View.ld_unit_zero (S := S8x128) hz2]

theorem outB7 (hc : ¬cond0_0 i) (x0 x1 : Vec Ideal S256x2048 .f32) (x2 : Vec Ideal S1x2048 .f32) (x3 : Vec Ideal S2x2048 .f32) (x4 : Vec Ideal S256x2048 .f32) (xo5 : Vec Ideal S8x128 .f32) (xo8 : Vec Ideal S2x2048 .f32) (xo9 : Vec Ideal S1x2048 .f32) : out0_B_7 c i a1 g1 a2 g2 a3 g3 a4 g4 a5 g5 a6 g6 a7 g7 a8 g8 a9 g9 a10 g10 hc x0 x1 x2 x3 x4 xo5 xo8 xo9 = k0_pay4 x2 (gr x3) (k0_pay8 x1) (k0_pay9 x1) (k0_pay12 x1 x2 (gr x3) x0 x4) := by
  unfold out0_B_7
  rw [View.read_writes_eq_canon _ _ _ (cover0_B_7 c i a1 g1 a2 g2 a3 g3 a4 g4 a5 g5 a6 g6 a7 g7 a8 g8 a9 g9 a10 g10 hc x0 x1 x2 x3 x4 xo5 xo8 xo9)]
  unfold kernelRun0_B
  dsimp only
  sl_unfold_words
  rw [View.canon_unit_zero (S := S256x2048) hz2]
  simp only [View.readAt_eq_ld, g1.read_unread, g2.read_unread, g3.read_unread, g4.read_unread, g5.read_unread, g6.read_unread, g9.read_unread, g10.read_unread, View.ld_unit_zero (S := S256x2048) hz2, View.ld_unit_zero (S := S1x2048) hz2, View.ld_unit_zero (S := S8x128) hz2]

theorem outB9 (hc : ¬cond0_0 i) (x0 x1 : Vec Ideal S256x2048 .f32) (x2 : Vec Ideal S1x2048 .f32) (x3 : Vec Ideal S2x2048 .f32) (x4 : Vec Ideal S256x2048 .f32) (xo5 : Vec Ideal S8x128 .f32) (xo8 : Vec Ideal S2x2048 .f32) (xo9 : Vec Ideal S1x2048 .f32) : out0_B_9 c i a1 g1 a2 g2 a3 g3 a4 g4 a5 g5 a6 g6 a7 g7 a8 g8 a9 g9 a10 g10 hc x0 x1 x2 x3 x4 xo5 xo8 xo9 = k0_pay3 (gr x3) (k0_pay9 x1) (k0_pay12 x1 x2 (gr x3) x0 x4) xo9 := by
  unfold out0_B_9
  rw [View.read_writes_eq_canon _ _ _ (cover0_B_9 c i a1 g1 a2 g2 a3 g3 a4 g4 a5 g5 a6 g6 a7 g7 a8 g8 a9 g9 a10 g10 hc x0 x1 x2 x3 x4 xo5 xo8 xo9)]
  unfold kernelRun0_B
  dsimp only
  sl_unfold_words
  rw [View.canon_unit_zero (S := S1x2048) hz2]
  simp only [View.readAt_eq_ld, g1.read_unread, g2.read_unread, g3.read_unread, g4.read_unread, g5.read_unread, g6.read_unread, g9.read_unread, g10.read_unread, View.ld_unit_zero (S := S256x2048) hz2, View.ld_unit_zero (S := S1x2048) hz2, View.ld_unit_zero (S := S8x128) hz2]

theorem outA8 (hc : cond0_0 i) (x0 x1 : Vec Ideal S256x2048 .f32) (x2 : Vec Ideal S1x2048 .f32) (x3 : Vec Ideal S2x2048 .f32) (x4 : Vec Ideal S256x2048 .f32) (y : S2x2048.Idx) :
    out0_A_8 c i a1 g1 a2 g2 a3 g3 a4 g4 a5 g5 a6 g6 a7 g7 a8 g8 a9 g9 a10 g10 hc x0 x1 x2 x3 x4 y = if (y 0).val = 1 then k0_pay2 x2 (k0_pay9 x1) (k0_pay12 x1 x2 (gr x3) x0 x4) (gr (k0_pay6 (F := Ideal))) (ix2 0 (y 1)) else (k0_pay6 (F := Ideal)) y := by
  unfold out0_A_8 kernelRun0_A
  dsimp only
  sl_unfold_words
  refine (read_row _ _ 1 rfl _ _ _ y).trans ?_
  refine if_congr Iff.rfl ?_ ?_
  · rw [View.readCov_fill (s := S2x2048) _ _ _ _ _ (fun a => match a with | ⟨0, _⟩ => rfl | ⟨1, _⟩ => rfl)]
    simp only [View.readAt_eq_ld, g1.read_unread, g2.read_unread, g3.read_unread, g4.read_unread, g5.read_unread, g6.read_unread, g9.read_unread, g10.read_unread, View.ld_unit_zero (S := S256x2048) hz2, View.ld_unit_zero (S := S1x2048) hz2, View.ld_unit_zero (S := S8x128) hz2]
  · exact congrFun ((View.read_writes_junk_eq_canon _ _).trans (View.canon_unit_zero (S := S2x2048) hz2 _ _)) y

theorem outB8 (hc : ¬cond0_0 i) (x0 x1 : Vec Ideal S256x2048 .f32) (x2 : Vec Ideal S1x2048 .f32) (x3 : Vec Ideal S2x2048 .f32) (x4 : Vec Ideal S256x2048 .f32) (xo5 : Vec Ideal S8x128 .f32) (xo8 : Vec Ideal S2x2048 .f32) (xo9 : Vec Ideal S1x2048 .f32) (y : S2x2048.Idx) :
    out0_B_8 c i a1 g1 a2 g2 a3 g3 a4 g4 a5 g5 a6 g6 a7 g7 a8 g8 a9 g9 a10 g10 hc x0 x1 x2 x3 x4 xo5 xo8 xo9 y = if (y 0).val = 1 then k0_pay2 x2 (k0_pay9 x1) (k0_pay12 x1 x2 (gr x3) x0 x4) (gr xo8) (ix2 0 (y 1)) else xo8 y := by
  unfold out0_B_8 kernelRun0_B
  dsimp only
  sl_unfold_words
  refine (read_row _ _ 1 rfl _ _ _ y).trans ?_
  refine if_congr Iff.rfl ?_ ?_
  · simp only [View.readAt_eq_ld, g1.read_unread, g2.read_unread, g3.read_unread, g4.read_unread, g5.read_unread, g6.read_unread, g9.read_unread, g10.read_unread, View.ld_unit_zero (S := S256x2048) hz2, View.ld_unit_zero (S := S1x2048) hz2, View.ld_unit_zero (S := S8x128) hz2]
  · rw [View.writes_nil, g9.read_unread]

end

end Cert.LossIdeal.At

end
-- ==== Proof.LossSum.lean ====
/-  The last normalisation with the loss: the loss's sum of squares and its gradients at the layer's output, the gate and the gain,
    the kernel's block-by-block sums beside the reference's whole ones. -/
module

public import proofs.«01_k».proof.Defs
public import proofs.«01_k».proof.Proof.LossOut
public import proofs.«01_k».proof.Proof.Gen.LossIdeal.Value
public import Idealize.ShloMosaic.Lib.WritesUnit
public import Idealize.ShloMosaic.Lib.Pipeline.ReadBack

@[expose] public section

noncomputable section

namespace Cert.LossIdeal.At

open Cert.LossIdeal Cert.LossIdeal.Gen Cert.Mix Cert.Norm Idealize.ShloMosaic Idealize.ShloMosaic.TcCoe Idealize.SL.Sem
open Cert.Products (Is hz2)

/-- One over the width. -/
def inv : EReal := Ideal.ofBits .f32 0x3A000000#32

section Spec
variable (x y t : ℕ → ℕ → EReal) (p g : ℕ → EReal)

/-- The residual, its scaled form, and the gradients' terms, at a row and a column. -/
def err (r q : ℕ) : EReal := x r q + g q * (y r q * rs (y r) * p q) - t r q
def dxo (r q : ℕ) : EReal := err x y t p g r q * inv
def sqs (r : ℕ) : EReal := ∑ q : Fin 2048, err x y t p g r q.val * err x y t p g r q.val
def dyh (r q : ℕ) : EReal := dxo x y t p g r q * (g q * p q)
def dgt (r q : ℕ) : EReal := dxo x y t p g r q * (y r q * rs (y r)) * p q
def dpt (r q : ℕ) : EReal := dxo x y t p g r q * (y r q * rs (y r)) * g q
end Spec

section Body

variable {x y t p g : ℕ → ℕ → EReal} {v3 v16 v22 : Vec Ideal S256x2048 .f32} {v4 v5 : Vec Ideal S1x2048 .f32}
variable (h3 : Is v3 y) (h16 : Is v16 x) (h22 : Is v22 t) (h4 : Is v4 p) (h5 : Is v5 g)

include h3 in
theorem pay8_is : Is (k0_pay8 (F := Ideal) v3) fun r _ => rs (y r) := rsq_is h3 _ _ _ _

include h3 in
theorem pay9_is : Is (k0_pay9 (F := Ideal) v3) fun r q => y r q * rs (y r) := fun j =>
  congrArg₂ (fun a b : EReal => a * b) (h3 j) (col_is (f := fun r _ => rs (y r)) (pay8_is h3) (by decide) _ j)

include h3 h4 h5 h16 h22 in
theorem pay10_is : Is (k0_pay10 (F := Ideal) v3 v4 v5 v16 v22) (err x y t (p 0) (g 0)) := fun j =>
  congrArg₂ (fun a b : EReal => a - b) (congrArg₂ (fun a b : EReal => a + b) (h16 j) (congrArg₂ (fun a b : EReal => a * b) (row_is h5 (by decide) _ j)
    (congrArg₂ (fun a b : EReal => a * b) (pay9_is h3 j) (row_is h4 (by decide) _ j)))) (h22 j)

include h3 h4 h5 h16 h22 in
theorem pay12_is : Is (k0_pay12 (F := Ideal) v3 v4 v5 v16 v22) (dxo x y t (p 0) (g 0)) := fun j =>
  congrArg (· * inv) (pay10_is h3 h16 h22 h4 h5 j)

theorem tot_is {e : FVec Ideal S256x2048 .f32} {f : ℕ → ℕ → EReal} (he : Is e f) :
    extractAt ![0, 0, 0] (shapeCast S1x1x1 (multiReduction .add [1, 2] S1 (shapeCast S1x256x2048 e shapeCasts_S256x2048_S1x256x2048) 0x00000000#32 reduces_S1x256x2048_S1 (.inl rfl) rfl)
      shapeCasts_S1_S1x1x1) inpos_S1x1x1_p0_0_0 = ∑ r : Fin 256, ∑ q : Fin 2048, f r.val q.val :=
  total_is (M := 256) (N := 2048) he _ _ _ _ _ _

include h3 h4 h5 h16 h22 in
theorem pay11_is {v24 : Vec Ideal S8x128 .f32} {o : EReal} (h24 : Is v24 fun _ _ => o) :
    Is (k0_pay11 (F := Ideal) v3 v4 v5 v16 v22 v24) fun _ _ => o + ∑ r : Fin 256, sqs x y t (p 0) (g 0) r.val := fun j => by
  have hs : Is (mulf (k0_pay10 v3 v4 v5 v16 v22) (k0_pay10 v3 v4 v5 v16 v22)) fun r q => err x y t (p 0) (g 0) r q * err x y t (p 0) (g 0) r q :=
    fun j => congrArg₂ (fun a b : EReal => a * b) (pay10_is h3 h16 h22 h4 h5 j) (pay10_is h3 h16 h22 h4 h5 j)
  unfold k0_pay11
  dsimp only
  rw [ValueIdx.addf_apply, shapeCast_self, h24 j, ValueIdx.broadcast_apply, tot_is hs]
  rfl

variable {v15 v35 : FVec Ideal S256x2048 .f32} {h d : ℕ → ℕ → EReal} (h15 : Is v15 h) (h35 : Is v35 d)

include h15 h35 in
theorem pay1_is : Is (k0_pay1 (F := Ideal) v15 v35) fun r q => d r q * h r q := fun j => congrArg₂ (fun a b : EReal => a * b) (h35 j) (h15 j)

include h4 h15 h35 in
theorem pay2_is {v38 : Vec Ideal S1x2048 .f32} {o : ℕ → EReal} (h38 : Is v38 fun _ => o) :
    Is (k0_pay2 (F := Ideal) v4 v15 v35 v38) fun _ q => o q + ∑ r : Fin 256, d r.val q * h r.val q * p 0 q := fun j => by
  unfold k0_pay2
  rw [ValueIdx.addf_apply, shapeCast_self, h38 j]
  exact congrArg (o _ + ·) (colsum_is (f := fun r q => d r q * h r q * p 0 q) (fun j => congrArg₂ (fun a b : EReal => a * b) (pay1_is h15 h35 j) (row_is h4 (by decide) _ j)) _ _ _ _ j)

include h5 h15 h35 in
theorem pay3_is {v46 : Vec Ideal S1x2048 .f32} {o : ℕ → EReal} (h46 : Is v46 fun _ => o) :
    Is (k0_pay3 (F := Ideal) v5 v15 v35 v46) fun _ q => o q + ∑ r : Fin 256, d r.val q * h r.val q * g 0 q := fun j => by
  unfold k0_pay3
  rw [ValueIdx.addf_apply, shapeCast_self, h46 j]
  exact congrArg (o _ + ·) (colsum_is (f := fun r q => d r q * h r q * g 0 q) (fun j => congrArg₂ (fun a b : EReal => a * b) (pay1_is h15 h35 j) (row_is h5 (by decide) _ j)) _ _ _ _ j)

include h3 h4 h5 h35 in
theorem pay4_is : Is (k0_pay4 (F := Ideal) v4 v5 (k0_pay8 v3) (k0_pay9 v3) v35) fun r q => back (y r) (fun q => d r q * (g 0 q * p 0 q)) q := fun j =>
  back_is (f := y) (g := fun r q => d r q * (g 0 q * p 0 q)) (pay8_is h3) (pay9_is h3)
    (fun j => congrArg₂ (fun a b : EReal => a * b) (h35 j)
      (row_is (x := mulf v5 v4) (f := fun r q => g r q * p r q) (fun j => congrArg₂ (fun a b : EReal => a * b) (h5 j) (h4 j)) (by decide) broadcasts_S1x2048_S256x2048 j))
    (by decide) _ _ _ _ _ _ j

end Body

variable (m : (ℓ : Loc nD τ sig) → Buf (Elt Ideal) ℓ) (c : Dev nD)

/-- The arguments at natural coordinates: the residual stream's latent rows, the layer's output, the target, the gain and the latents' gate. -/
abbrev X : ℕ → ℕ → EReal := fun r q => at2 (a := 2304) (b := 2048) (m ((c : Thread nD τ).loc main_arg0)) (256 + r) q
abbrev Y : ℕ → ℕ → EReal := at2 (a := 2048) (b := 2048) (m ((c : Thread nD τ).loc main_arg1))
abbrev P : ℕ → EReal := at2 (a := 1) (b := 2048) (m ((c : Thread nD τ).loc main_arg2)) 0
abbrev Gt : ℕ → EReal := at2 (a := 2) (b := 2048) (m ((c : Thread nD τ).loc main_arg3)) 1
abbrev T : ℕ → ℕ → EReal := at2 (a := 2048) (b := 2048) (m ((c : Thread nD τ).loc main_arg4))

theorem blk0 (t : Fin cfg0.N) : Is (iblk m c 0 t) fun r q => X m c (256 * t.val + r) q := fun j => by
  have hi : win0_0.index t 0 = t.val + 1 ∧ win0_0.index t 1 = 0 := (by decide +kernel : ∀ t : Fin grid0.N, win0_0.index t 0 = t.val + 1 ∧ win0_0.index t 1 = 0) t
  unfold iblk
  rw [View.read_apply]
  exact read2 _ _ (by show win0_0.index t 0 * 256 + 1 * (j 0).val = _; omega) (by show win0_0.index t 1 * 2048 + 1 * (j 1).val = _; omega)

theorem blk1 (t : Fin cfg0.N) : Is (iblk m c 1 t) fun r q => Y m c (256 * t.val + r) q := fun j => by
  have hi : win0_1.index t 0 = t.val ∧ win0_1.index t 1 = 0 := (by decide +kernel : ∀ t : Fin grid0.N, win0_1.index t 0 = t.val ∧ win0_1.index t 1 = 0) t
  unfold iblk
  rw [View.read_apply]
  exact read2 _ _ (by show win0_1.index t 0 * 256 + 1 * (j 0).val = _; omega) (by show win0_1.index t 1 * 2048 + 1 * (j 1).val = _; omega)

theorem blk2 (t : Fin cfg0.N) : Is (iblk m c 2 t) fun _ q => P m c q := fun j => by
  have hi : win0_2.index t 0 = 0 ∧ win0_2.index t 1 = 0 := (by decide +kernel : ∀ t : Fin grid0.N, win0_2.index t 0 = 0 ∧ win0_2.index t 1 = 0) t
  have hj : (j 0).val < 1 := (j 0).isLt
  unfold iblk
  rw [View.read_apply]
  exact read2 _ _ (by show win0_2.index t 0 * 1 + 1 * (j 0).val = _; omega) (by show win0_2.index t 1 * 2048 + 1 * (j 1).val = _; omega)

theorem blk3 (t : Fin cfg0.N) : Is (iblk m c 3 t) fun r q => at2 (a := 2) (b := 2048) (m ((c : Thread nD τ).loc main_arg3)) r q := fun j => by
  have hi : win0_3.index t 0 = 0 ∧ win0_3.index t 1 = 0 := (by decide +kernel : ∀ t : Fin grid0.N, win0_3.index t 0 = 0 ∧ win0_3.index t 1 = 0) t
  unfold iblk
  rw [View.read_apply]
  exact read2 _ _ (by show win0_3.index t 0 * 2 + 1 * (j 0).val = _; omega) (by show win0_3.index t 1 * 2048 + 1 * (j 1).val = _; omega)

theorem blk4 (t : Fin cfg0.N) : Is (iblk m c 4 t) fun r q => T m c (256 * t.val + r) q := fun j => by
  have hi : win0_4.index t 0 = t.val ∧ win0_4.index t 1 = 0 := (by decide +kernel : ∀ t : Fin grid0.N, win0_4.index t 0 = t.val ∧ win0_4.index t 1 = 0) t
  unfold iblk
  rw [View.read_apply]
  exact read2 _ _ (by show win0_4.index t 0 * 256 + 1 * (j 0).val = _; omega) (by show win0_4.index t 1 * 2048 + 1 * (j 1).val = _; omega)

/-- The gradients' terms at the arguments. -/
abbrev Dx : ℕ → ℕ → EReal := dxo (X m c) (Y m c) (T m c) (P m c) (Gt m c)
abbrev Sq : ℕ → ℕ → EReal := fun r _ => sqs (X m c) (Y m c) (T m c) (P m c) (Gt m c) r
abbrev Dy : ℕ → ℕ → EReal := fun r q => back (Y m c r) (dyh (X m c) (Y m c) (T m c) (P m c) (Gt m c) r) q
abbrev Dg : ℕ → ℕ → EReal := dgt (X m c) (Y m c) (T m c) (P m c) (Gt m c)
abbrev Dp : ℕ → ℕ → EReal := dpt (X m c) (Y m c) (T m c) (P m c) (Gt m c)

section
variable (t : Fin cfg0.N)

theorem p12 : Is (k0_pay12 (F := Ideal) (iblk m c 1 t) (iblk m c 2 t) (gr (iblk m c 3 t)) (iblk m c 0 t) (iblk m c 4 t)) fun r q => Dx m c (256 * t.val + r) q :=
  pay12_is (blk1 m c t) (blk0 m c t) (blk4 m c t) (blk2 m c t) (gr_is (blk3 m c t))

theorem p4 : Is (k0_pay4 (F := Ideal) (iblk m c 2 t) (gr (iblk m c 3 t)) (k0_pay8 (iblk m c 1 t)) (k0_pay9 (iblk m c 1 t))
    (k0_pay12 (iblk m c 1 t) (iblk m c 2 t) (gr (iblk m c 3 t)) (iblk m c 0 t) (iblk m c 4 t))) fun r q => Dy m c (256 * t.val + r) q :=
  pay4_is (blk1 m c t) (blk2 m c t) (gr_is (blk3 m c t)) (p12 m c t)

theorem p11 {o : Vec Ideal S8x128 .f32} {n : ℕ} (hn : t.val = n) (ho : Is o fun _ _ => acc (Sq m c) n 0) :
    Is (k0_pay11 (F := Ideal) (iblk m c 1 t) (iblk m c 2 t) (gr (iblk m c 3 t)) (iblk m c 0 t) (iblk m c 4 t) o) fun _ _ => acc (Sq m c) (n + 1) 0 := fun j => by
  subst hn
  exact (pay11_is (blk1 m c t) (blk0 m c t) (blk4 m c t) (blk2 m c t) (gr_is (blk3 m c t)) ho j).trans (acc_succ (Sq m c) _ 0).symm

theorem p2 {o : Vec Ideal S1x2048 .f32} {n : ℕ} (hn : t.val = n) (ho : Is o fun _ q => acc (Dg m c) n q) :
    Is (k0_pay2 (F := Ideal) (iblk m c 2 t) (k0_pay9 (iblk m c 1 t)) (k0_pay12 (iblk m c 1 t) (iblk m c 2 t) (gr (iblk m c 3 t)) (iblk m c 0 t) (iblk m c 4 t)) o)
      fun _ q => acc (Dg m c) (n + 1) q := fun j => by
  subst hn
  exact (pay2_is (blk2 m c t) (pay9_is (blk1 m c t)) (p12 m c t) ho j).trans (acc_succ (Dg m c) _ _).symm

theorem p3 {o : Vec Ideal S1x2048 .f32} {n : ℕ} (hn : t.val = n) (ho : Is o fun _ q => acc (Dp m c) n q) :
    Is (k0_pay3 (F := Ideal) (gr (iblk m c 3 t)) (k0_pay9 (iblk m c 1 t)) (k0_pay12 (iblk m c 1 t) (iblk m c 2 t) (gr (iblk m c 3 t)) (iblk m c 0 t) (iblk m c 4 t)) o)
      fun _ q => acc (Dp m c) (n + 1) q := fun j => by
  subst hn
  exact (pay3_is (gr_is (blk3 m c t)) (pay9_is (blk1 m c t)) (p12 m c t) ho j).trans (acc_succ (Dp m c) _ _).symm

end

theorem at6 (t : Fin cfg0.N) : Is (outsAt0 m c t.val t.isLt).2.1 fun r q => Dx m c (256 * t.val + r) q := fun j => by
  by_cases h : t.val % 8 = 0
  · rw [outsAt0_A m c t h]
    dsimp only
    rw [outA6]
    exact p12 m c t j
  · rw [outsAt0_B m c t h]
    dsimp only
    rw [outB6]
    exact p12 m c t j

theorem at7 (t : Fin cfg0.N) : Is (outsAt0 m c t.val t.isLt).2.2.1 fun r q => Dy m c (256 * t.val + r) q := fun j => by
  by_cases h : t.val % 8 = 0
  · rw [outsAt0_A m c t h]
    dsimp only
    rw [outA7]
    exact p4 m c t j
  · rw [outsAt0_B m c t h]
    dsimp only
    rw [outB7]
    exact p4 m c t j

/-- What the three growing arrays hold after point `n`. -/
theorem sums : ∀ (n : ℕ) (hn : n < cfg0.N), Is (outsAt0 m c n hn).1 (fun _ _ => acc (Sq m c) (n + 1) 0)
    ∧ Is (outsAt0 m c n hn).2.2.2.1 (fun r q => if r = 1 then acc (Dg m c) (n + 1) q else 0)
    ∧ Is (outsAt0 m c n hn).2.2.2.2 (fun _ q => acc (Dp m c) (n + 1) q)
  | 0, hn => by
    rw [outsAt0_A m c ⟨0, hn⟩ rfl]
    dsimp only
    refine ⟨fun j => ?_, fun j => ?_, fun j => ?_⟩
    · rw [outA5]
      exact p11 m c ⟨0, hn⟩ rfl (fun _ => Ideal.ofBits_zero_f32) j
    · rw [outA8]
      refine if_congr Iff.rfl ?_ Ideal.ofBits_zero_f32
      exact p2 m c ⟨0, hn⟩ rfl (gr_is (f := fun _ _ => 0) fun _ => Ideal.ofBits_zero_f32) _
    · rw [outA9]
      exact p3 m c ⟨0, hn⟩ rfl (fun _ => Ideal.ofBits_zero_f32) j
  | n + 1, hn => by
    have hN : n + 1 < 8 := Nat.lt_of_lt_of_eq hn N_0
    obtain ⟨s5, s8, s9⟩ := sums n (Nat.lt_of_succ_lt hn)
    rw [outsAt0_B m c ⟨n + 1, hn⟩ (by show ¬(n + 1) % 8 = 0; omega)]
    dsimp only
    refine ⟨fun j => ?_, fun j => ?_, fun j => ?_⟩
    · rw [outB5]
      exact p11 m c ⟨n + 1, hn⟩ rfl s5 j
    · rw [outB8]
      refine if_ctx_congr Iff.rfl (fun _ => ?_) fun h => (s8 j).trans (if_neg h)
      exact p2 m c ⟨n + 1, hn⟩ rfl (gr_is s8) _
    · rw [outB9]
      exact p3 m c ⟨n + 1, hn⟩ rfl s9 j

end Cert.LossIdeal.At

end
-- ==== Proof.Loss.lean ====
/-  The last normalisation with the loss: what its five results hold, and the reference's gradients beside them. -/
module

public import proofs.«01_k».proof.Defs
public import proofs.«01_k».proof.Proof.LossSum
public import proofs.«01_k».proof.Proof.Gen.LossIdeal.Value
public import proofs.«01_k».proof.Proof.Gen.LossRefIdeal.Run
public import proofs.«01_k».proof.Proof.Gen.LossRefIdeal.Read
public import Idealize.ShloMosaic.Lib.Claim
public import Idealize.ShloMosaic.Lib.Quiescent
public import Idealize.ShloMosaic.Lib.Pipeline.ReadBack

@[expose] public section

noncomputable section

namespace Cert.LossIdeal.At

open Cert.LossIdeal Cert.LossIdeal.Gen Cert.Mix Cert.Norm Idealize.ShloMosaic Idealize.ShloMosaic.TcCoe Idealize.SL.Sem
open Cert.Products (Is hz2)

variable (m : (ℓ : Loc nD τ sig) → Buf (Elt Ideal) ℓ) (c : Dev nD)

/-- The rows of the gate's gradient: the context's is zero. -/
abbrev Gw : ℕ → ℕ → EReal := fun r q => if r = 1 then acc (Dg m c) 8 q else 0

/-- What each result holds in the end. -/
abbrev G5 : (⟨2, ![8, 128]⟩ : Shape).Idx → EReal := cells (fun _ _ => acc (Sq m c) 8 0)

theorem final5 : (dats m 0 c).arrAt 5 cfg0.N = G5 m c := by
  have hi := (by decide +kernel : ∀ t : Fin grid0.N, win0_5.index t 0 = 0 ∧ win0_5.index t 1 = 0)
  funext i
  have h0 : (i 0).val < 8 := (i 0).isLt
  have h1 : (i 1).val < 128 := (i 1).isLt
  let t : Fin cfg0.N := ⟨7, by decide +kernel⟩
  have ht := hi t
  refine (dats m 0 c).arrAt_apply_of_mem 5 (G5 m c) (fun t hf => ?_) cfg0.N t i t.isLt ((flush0_5 t).mpr rfl) ?_
  · have ht := hi t
    have hl : t.val = 7 := by have h := (flush0_5 t).mp hf; have h8 := Nat.lt_of_lt_of_eq t.isLt N_0; omega
    rw [Value.flushed5]
    funext j
    rw [View.read_apply]
    refine ((sums m c t.val t.isLt).1 j).trans (Eq.trans ?_ (cast_eq _ _).symm)
    rw [hl]
    exact cells_at (fun _ _ => acc (Sq m c) 8 0) (r := (j 0).val) (q := (j 1).val) _ (by show (j 0).val = win0_5.index t 0 * 8 + 1 * (j 0).val; omega) (by show (j 1).val = win0_5.index t 1 * 128 + 1 * (j 1).val; omega)
  · show i ∈ ((View.whole main_v0_0).slice (win0_5.rect t)).set
    rw [View.set_slice_whole, Rect.mem_set_unit]
    intro a
    match a with
    | ⟨0, _⟩ => show win0_5.index t 0 * 8 ≤ (i 0).val ∧ (i 0).val < win0_5.index t 0 * 8 + 8; omega
    | ⟨1, _⟩ => show win0_5.index t 1 * 128 ≤ (i 1).val ∧ (i 1).val < win0_5.index t 1 * 128 + 128; omega

abbrev G6 : (⟨2, ![2048, 2048]⟩ : Shape).Idx → EReal := cells (Dx m c)

theorem final6 : (dats m 0 c).arrAt 6 cfg0.N = G6 m c := by
  have hi := (by decide +kernel : ∀ t : Fin grid0.N, win0_6.index t 0 = t.val ∧ win0_6.index t 1 = 0)
  funext i
  have h0 : (i 0).val < 2048 := (i 0).isLt
  have h1 : (i 1).val < 2048 := (i 1).isLt
  let t : Fin cfg0.N := ⟨(i 0).val / 256, Nat.lt_of_lt_of_eq (by omega : (i 0).val / 256 < 8) N_0.symm⟩
  have ht := hi t
  have hv : t.val = (i 0).val / 256 := rfl
  refine (dats m 0 c).arrAt_apply_of_mem 6 (G6 m c) (fun t hf => ?_) cfg0.N t i t.isLt (flush0_6 t) ?_
  · have ht := hi t
    rw [Value.flushed6]
    funext j
    rw [View.read_apply]
    refine (at6 m c t j).trans (Eq.trans ?_ (cast_eq _ _).symm)
    exact cells_at (Dx m c) (r := 256 * t.val + (j 0).val) (q := (j 1).val) _ (by show 256 * t.val + (j 0).val = win0_6.index t 0 * 256 + 1 * (j 0).val; omega) (by show (j 1).val = win0_6.index t 1 * 2048 + 1 * (j 1).val; omega)
  · show i ∈ ((View.whole main_v0_1).slice (win0_6.rect t)).set
    rw [View.set_slice_whole, Rect.mem_set_unit]
    intro a
    match a with
    | ⟨0, _⟩ => show win0_6.index t 0 * 256 ≤ (i 0).val ∧ (i 0).val < win0_6.index t 0 * 256 + 256; omega
    | ⟨1, _⟩ => show win0_6.index t 1 * 2048 ≤ (i 1).val ∧ (i 1).val < win0_6.index t 1 * 2048 + 2048; omega

abbrev G7 : (⟨2, ![2048, 2048]⟩ : Shape).Idx → EReal := cells (Dy m c)

theorem final7 : (dats m 0 c).arrAt 7 cfg0.N = G7 m c := by
  have hi := (by decide +kernel : ∀ t : Fin grid0.N, win0_7.index t 0 = t.val ∧ win0_7.index t 1 = 0)
  funext i
  have h0 : (i 0).val < 2048 := (i 0).isLt
  have h1 : (i 1).val < 2048 := (i 1).isLt
  let t : Fin cfg0.N := ⟨(i 0).val / 256, Nat.lt_of_lt_of_eq (by omega : (i 0).val / 256 < 8) N_0.symm⟩
  have ht := hi t
  have hv : t.val = (i 0).val / 256 := rfl
  refine (dats m 0 c).arrAt_apply_of_mem 7 (G7 m c) (fun t hf => ?_) cfg0.N t i t.isLt (flush0_7 t) ?_
  · have ht := hi t
    rw [Value.flushed7]
    funext j
    rw [View.read_apply]
    refine (at7 m c t j).trans (Eq.trans ?_ (cast_eq _ _).symm)
    exact cells_at (Dy m c) (r := 256 * t.val + (j 0).val) (q := (j 1).val) _ (by show 256 * t.val + (j 0).val = win0_7.index t 0 * 256 + 1 * (j 0).val; omega) (by show (j 1).val = win0_7.index t 1 * 2048 + 1 * (j 1).val; omega)
  · show i ∈ ((View.whole main_v0_2).slice (win0_7.rect t)).set
    rw [View.set_slice_whole, Rect.mem_set_unit]
    intro a
    match a with
    | ⟨0, _⟩ => show win0_7.index t 0 * 256 ≤ (i 0).val ∧ (i 0).val < win0_7.index t 0 * 256 + 256; omega
    | ⟨1, _⟩ => show win0_7.index t 1 * 2048 ≤ (i 1).val ∧ (i 1).val < win0_7.index t 1 * 2048 + 2048; omega

abbrev G8 : (⟨2, ![2, 2048]⟩ : Shape).Idx → EReal := cells (Gw m c)

theorem final8 : (dats m 0 c).arrAt 8 cfg0.N = G8 m c := by
  have hi := (by decide +kernel : ∀ t : Fin grid0.N, win0_8.index t 0 = 0 ∧ win0_8.index t 1 = 0)
  funext i
  have h0 : (i 0).val < 2 := (i 0).isLt
  have h1 : (i 1).val < 2048 := (i 1).isLt
  let t : Fin cfg0.N := ⟨7, by decide +kernel⟩
  have ht := hi t
  refine (dats m 0 c).arrAt_apply_of_mem 8 (G8 m c) (fun t hf => ?_) cfg0.N t i t.isLt ((flush0_8 t).mpr rfl) ?_
  · have ht := hi t
    have hl : t.val = 7 := by have h := (flush0_8 t).mp hf; have h8 := Nat.lt_of_lt_of_eq t.isLt N_0; omega
    rw [Value.flushed8]
    funext j
    rw [View.read_apply]
    refine ((sums m c t.val t.isLt).2.1 j).trans (Eq.trans ?_ (cast_eq _ _).symm)
    rw [hl]
    exact cells_at (Gw m c) (r := (j 0).val) (q := (j 1).val) _ (by show (j 0).val = win0_8.index t 0 * 2 + 1 * (j 0).val; omega) (by show (j 1).val = win0_8.index t 1 * 2048 + 1 * (j 1).val; omega)
  · show i ∈ ((View.whole main_v0_3).slice (win0_8.rect t)).set
    rw [View.set_slice_whole, Rect.mem_set_unit]
    intro a
    match a with
    | ⟨0, _⟩ => show win0_8.index t 0 * 2 ≤ (i 0).val ∧ (i 0).val < win0_8.index t 0 * 2 + 2; omega
    | ⟨1, _⟩ => show win0_8.index t 1 * 2048 ≤ (i 1).val ∧ (i 1).val < win0_8.index t 1 * 2048 + 2048; omega

abbrev G9 : (⟨2, ![1, 2048]⟩ : Shape).Idx → EReal := cells (fun _ q => acc (Dp m c) 8 q)

theorem final9 : (dats m 0 c).arrAt 9 cfg0.N = G9 m c := by
  have hi := (by decide +kernel : ∀ t : Fin grid0.N, win0_9.index t 0 = 0 ∧ win0_9.index t 1 = 0)
  funext i
  have h0 : (i 0).val < 1 := (i 0).isLt
  have h1 : (i 1).val < 2048 := (i 1).isLt
  let t : Fin cfg0.N := ⟨7, by decide +kernel⟩
  have ht := hi t
  refine (dats m 0 c).arrAt_apply_of_mem 9 (G9 m c) (fun t hf => ?_) cfg0.N t i t.isLt ((flush0_9 t).mpr rfl) ?_
  · have ht := hi t
    have hl : t.val = 7 := by have h := (flush0_9 t).mp hf; have h8 := Nat.lt_of_lt_of_eq t.isLt N_0; omega
    rw [Value.flushed9]
    funext j
    rw [View.read_apply]
    refine ((sums m c t.val t.isLt).2.2 j).trans (Eq.trans ?_ (cast_eq _ _).symm)
    rw [hl]
    exact cells_at (fun _ q => acc (Dp m c) 8 q) (r := (j 0).val) (q := (j 1).val) _ (by show (j 0).val = win0_9.index t 0 * 1 + 1 * (j 0).val; omega) (by show (j 1).val = win0_9.index t 1 * 2048 + 1 * (j 1).val; omega)
  · show i ∈ ((View.whole main_v0_4).slice (win0_9.rect t)).set
    rw [View.set_slice_whole, Rect.mem_set_unit]
    intro a
    match a with
    | ⟨0, _⟩ => show win0_9.index t 0 * 1 ≤ (i 0).val ∧ (i 0).val < win0_9.index t 0 * 1 + 1; omega
    | ⟨1, _⟩ => show win0_9.index t 1 * 2048 ≤ (i 1).val ∧ (i 1).val < win0_9.index t 1 * 2048 + 2048; omega

end Cert.LossIdeal.At

namespace Cert.Proof.Loss

open Idealize.ShloMosaic Idealize.SL.Sem Cert.Mix Cert.Norm Cert.LossIdeal.At

section
open Cert.LossRefIdeal Cert.LossRefIdeal.Read

variable (x0 : FVec Ideal S2304x2048 .f32) (x1 : FVec Ideal S2048x2048 .f32) (x2 : FVec Ideal S1x2048 .f32) (x3 : FVec Ideal S2x2048 .f32) (x4 : FVec Ideal S2048x2048 .f32)

/-- The arguments at natural coordinates. -/
abbrev hX : ℕ → ℕ → EReal := fun r q => at2 x0 (256 + r) q
abbrev hE : ℕ → ℕ → EReal := err (hX x0) (at2 x1) (at2 x4) (at2 x2 0) (at2 x3 1)
abbrev hD : ℕ → ℕ → EReal := dxo (hX x0) (at2 x1) (at2 x4) (at2 x2 0) (at2 x3 1)
abbrev hH : ℕ → ℕ → EReal := dyh (hX x0) (at2 x1) (at2 x4) (at2 x2 0) (at2 x3 1)

theorem x_at (i : S2048x2048.Idx) : val_main_v0 (F := Ideal) x0 i = hX x0 (i 0).val (i 1).val := by
  rw [val_main_v0_apply]; exact read2 x0 _ rfl (by first | rfl | exact Nat.zero_add _)

theorem rs_at (i : S2048x1.Idx) : val_main_v9 (F := Ideal) x1 i = rs (at2 x1 (i 0).val) := by
  rw [val_main_v9_apply, val_main_v8_apply, val_main_v6_apply, val_main_v4_apply, val_main_v3_apply, val_main_v5_apply, val_main_v7_apply]
  refine congrArg (fun s : EReal => Ideal.rsqrt (Ideal.div s width + eps)) ?_
  refine (congrArg (fun a : EReal => a + _) Ideal.ofBits_zero_f32).trans ((zero_add _).trans ?_)
  exact Finset.sum_congr rfl fun k _ => congrArg₂ (fun a b : EReal => a * b) (read2 x1 _ rfl rfl) (read2 x1 _ rfl rfl)

theorem err_at (i : S2048x2048.Idx) : val_main_v17 (F := Ideal) x0 x1 x2 x3 x4 i = hE x0 x1 x2 x3 x4 (i 0).val (i 1).val := by
  rw [val_main_v17_apply, val_main_v16_apply, val_main_v15_apply, val_main_v14_apply, val_main_v13_apply, val_main_v12_apply, val_main_v11_apply, val_main_v10_apply, x_at, rs_at, val_main_v1_apply]
  exact congrArg₂ (fun a b : EReal => a - b) (congrArg (_ + ·) (congrArg₂ (fun a b : EReal => a * b) (read2 x3 _ rfl rfl)
    (congrArg₂ (fun a b : EReal => a * b) (congrArg (· * _) (read2 x1 i rfl rfl)) (read2 x2 _ rfl rfl)))) (read2 x4 i rfl rfl)

theorem loss_at (i : S8x128.Idx) : val_main_v78 (F := Ideal) x0 x1 x2 x3 x4 i = ∑ r : Fin 2048, sqs (hX x0) (at2 x1) (at2 x4) (at2 x2 0) (at2 x3 1) r.val := by
  rw [val_main_v78_apply, val_main_v19_apply]
  refine (congrArg (fun a : EReal => a + _) Ideal.ofBits_zero_f32).trans ((zero_add _).trans ?_)
  rw [Idealize.ShloMosaic.sum_idx2]
  refine Finset.sum_congr rfl fun r _ => Finset.sum_congr rfl fun q _ => ?_
  rw [val_main_v18_apply, err_at]
  rfl

theorem msq2_at (i : S2048x1.Idx) : val_main_v27 (F := Ideal) x1 i = msq (at2 x1 (i 0).val) := by
  rw [val_main_v27_apply, val_main_v25_apply, val_main_v23_apply, val_main_v22_apply, val_main_v24_apply, val_main_v26_apply]
  refine congrArg (fun s : EReal => Ideal.div s width + eps) ?_
  refine (congrArg (fun a : EReal => a + _) Ideal.ofBits_zero_f32).trans ((zero_add _).trans ?_)
  exact Finset.sum_congr rfl fun k _ => congrArg₂ (fun a b : EReal => a * b) (read2 x1 _ rfl rfl) (read2 x1 _ rfl rfl)

theorem rs2_at (i : S2048x1.Idx) : val_main_v28 (F := Ideal) x1 i = rs (at2 x1 (i 0).val) := by
  rw [val_main_v28_apply, msq2_at]; rfl

theorem yhat_at (i : S2048x2048.Idx) : val_main_v33 (F := Ideal) x1 i = at2 x1 (i 0).val (i 1).val * rs (at2 x1 (i 0).val) := by
  rw [val_main_v33_apply, val_main_v32_apply, rs2_at]
  exact congrArg (· * _) (read2 x1 i rfl rfl)

theorem yp_at (i : S2048x2048.Idx) : val_main_v35 (F := Ideal) x1 x2 i = at2 x1 (i 0).val (i 1).val * rs (at2 x1 (i 0).val) * at2 x2 0 (i 1).val := by
  rw [val_main_v35_apply, yhat_at, val_main_v34_apply]
  exact congrArg (_ * ·) (read2 x2 _ rfl rfl)

theorem err2_at (i : S2048x2048.Idx) : val_main_v39 (F := Ideal) x0 x1 x2 x3 x4 i = hE x0 x1 x2 x3 x4 (i 0).val (i 1).val := by
  rw [val_main_v39_apply, val_main_v38_apply, val_main_v37_apply, val_main_v36_apply, yp_at, x_at, val_main_v20_apply]
  exact congrArg₂ (fun a b : EReal => a - b) (congrArg (_ + ·) (congrArg (· * _) (read2 x3 _ rfl rfl))) (read2 x4 i rfl rfl)

/-- The loss's slope: half of one over the width, twice. -/
theorem slope (a : EReal) : Ideal.div (Ideal.ofBits .f32 0x3F000000#32 * Ideal.ofBits .f32 0x3F800000#32) width * (Ideal.ofBits .f32 0x40000000#32 * a) = a * LossIdeal.At.inv := by
  have h1 : Ideal.ofBits .f32 0x3F000000#32 = ((1 / 2 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  have h3 : LossIdeal.At.inv = ((2048⁻¹ : ℝ) : EReal) := by unfold LossIdeal.At.inv; simp [Ideal.ofBits, Ideal.ieee, -EReal.coe_mul]; norm_num
  rw [Ideal.ofBits_one_f32, mul_one, h1, h2, h3, width_eq, div_coe (by norm_num), ← mul_assoc, ← EReal.coe_mul, mul_comm]
  refine congrArg (fun z : ℝ => a * (z : EReal)) ?_
  norm_num

theorem dx_at (i : S2048x2048.Idx) : val_main_v53 (F := Ideal) x0 x1 x2 x3 x4 i = hD x0 x1 x2 x3 x4 (i 0).val (i 1).val := by
  rw [val_main_v53_apply, val_main_v42_apply, err2_at, val_main_v52_apply, val_main_v51_apply, val_main_v49_apply, val_main_v48_apply, val_main_v50_apply, val_main_v41_apply]
  exact slope _

theorem gdx_at (i : S2048x2048.Idx) : val_main_v55 (F := Ideal) x0 x1 x2 x3 x4 i = at2 x3 1 (i 1).val * hD x0 x1 x2 x3 x4 (i 0).val (i 1).val := by
  rw [val_main_v55_apply, dx_at, val_main_v54_apply, val_main_v20_apply]
  exact congrArg (· * _) (read2 x3 _ rfl rfl)

theorem dgate_at (i : S1x2048.Idx) : val_main_v58 (F := Ideal) x0 x1 x2 x3 x4 i = ∑ r : Fin 2048, dgt (hX x0) (at2 x1) (at2 x4) (at2 x2 0) (at2 x3 1) r.val (i 1).val := by
  have h0 : (i 0).val < 1 := (i 0).isLt
  have hj : (i 0).val * 2048 + (i 1).val = (i 1).val := by omega
  rw [val_main_v58_apply, val_main_v57_apply]
  refine (congrArg (fun a : EReal => a + _) Ideal.ofBits_zero_f32).trans ((zero_add _).trans ?_)
  refine Finset.sum_congr rfl fun r _ => ?_
  rw [val_main_v56_apply, dx_at, yp_at]
  show hD x0 x1 x2 x3 x4 r.val ((i 0).val * 2048 + (i 1).val) * (at2 x1 r.val ((i 0).val * 2048 + (i 1).val) * rs (at2 x1 r.val) * at2 x2 0 ((i 0).val * 2048 + (i 1).val)) = _
  rw [hj]
  exact (mul_assoc _ _ _).symm

theorem dpg_at (i : S1x2048.Idx) : val_main_v61 (F := Ideal) x0 x1 x2 x3 x4 i = ∑ r : Fin 2048, dpt (hX x0) (at2 x1) (at2 x4) (at2 x2 0) (at2 x3 1) r.val (i 1).val := by
  have h0 : (i 0).val < 1 := (i 0).isLt
  have hj : (i 0).val * 2048 + (i 1).val = (i 1).val := by omega
  rw [val_main_v61_apply, val_main_v60_apply]
  refine (congrArg (fun a : EReal => a + _) Ideal.ofBits_zero_f32).trans ((zero_add _).trans ?_)
  refine Finset.sum_congr rfl fun r _ => ?_
  rw [val_main_v59_apply, yhat_at, gdx_at]
  show at2 x1 r.val ((i 0).val * 2048 + (i 1).val) * rs (at2 x1 r.val) * (at2 x3 1 ((i 0).val * 2048 + (i 1).val) * hD x0 x1 x2 x3 x4 r.val ((i 0).val * 2048 + (i 1).val)) = _
  rw [hj]
  exact (mul_comm _ _).trans ((congrArg (· * _) (mul_comm _ _)).trans (mul_right_comm _ _ _))

theorem dyh_at (i : S2048x2048.Idx) : val_main_v63 (F := Ideal) x0 x1 x2 x3 x4 i = hH x0 x1 x2 x3 x4 (i 0).val (i 1).val := by
  rw [val_main_v63_apply, gdx_at, val_main_v62_apply]
  refine (congrArg (_ * ·) (read2 x2 _ rfl rfl)).trans ?_
  exact (congrArg (· * _) (mul_comm _ _)).trans (mul_assoc _ _ _)

theorem pull_at (i : S2048x2048.Idx) : val_main_v73 (F := Ideal) x0 x1 x2 x3 x4 i = pull (at2 x1 (i 0).val) (hH x0 x1 x2 x3 x4 (i 0).val) := by
  rw [val_main_v73_apply, val_main_v72_apply]
  refine (congrArg (fun a : EReal => a + _) Ideal.ofBits_zero_f32).trans ((zero_add _).trans ?_)
  rw [Fin.sum_univ_one, val_main_v71_apply, val_main_v69_apply, val_main_v31_apply, val_main_v29_apply, rs2_at, msq2_at, val_main_v30_apply, val_main_v70_apply, val_main_v66_apply, val_main_v65_apply]
  refine congrArg (fun s : EReal => Ideal.div (s * (negHalf * Ideal.div (rs (at2 x1 (i 0).val)) (msq (at2 x1 (i 0).val)))) width) ?_
  refine (congrArg (fun a : EReal => a + _) Ideal.ofBits_zero_f32).trans ((zero_add _).trans ?_)
  refine Finset.sum_congr rfl fun k _ => ?_
  rw [val_main_v64_apply, dyh_at]
  have hi : (i 0).val * 1 + 0 = (i 0).val := by omega
  exact congrArg₂ (fun a b : EReal => a * b) (read2 x1 _ hi rfl) (congrArg (fun r => hH x0 x1 x2 x3 x4 r k.val) hi)

theorem dy_at (i : S2048x2048.Idx) : val_main_v79 (F := Ideal) x0 x1 x2 x3 x4 i = back (at2 x1 (i 0).val) (hH x0 x1 x2 x3 x4 (i 0).val) (i 1).val := by
  rw [val_main_v79_apply]
  refine Eq.trans ?_ (back_eq (at2 x1 (i 0).val) (hH x0 x1 x2 x3 x4 (i 0).val) (i 1).isLt)
  show val_main_v77 (F := Ideal) x0 x1 x2 x3 x4 i = _
  rw [val_main_v77_apply, val_main_v75_apply, val_main_v76_apply, val_main_v74_apply, val_main_v68_apply, val_main_v67_apply, rs2_at, pull_at, dyh_at]
  exact congrArg₂ (fun a b : EReal => a + b) (congrArg (_ + ·) (congrArg (· * _) (read2 x1 i rfl rfl))) (congrArg (_ * ·) (read2 x1 i rfl rfl))

end

theorem frame : Cert.quiescent_LossRefIdeal := fun m g _ =>
  (θ_run (LossRefIdeal.defs (F := Ideal)) _ _).mono
    (fun r h => ⟨fun c => (h c).2.2.2.2.2, Idealize.ShloMosaic.sem_eq_zero_of_no_sems (by decide) r.2⟩)
    (LossRefIdeal.Value.run (F := Ideal) m g)

section
open Cert.LossRefIdeal Cert.LossRefIdeal.Read

theorem gates (x0 : FVec Ideal S2304x2048 .f32) (x1 : FVec Ideal S2048x2048 .f32) (x2 : FVec Ideal S1x2048 .f32) (x3 : FVec Ideal S2x2048 .f32) (x4 : FVec Ideal S2048x2048 .f32)
    (i : S2x2048.Idx) : val_main_v81 (F := Ideal) x0 x1 x2 x3 x4 i
      = if (i 0).val = 1 then ∑ r : Fin 2048, dgt (hX x0) (at2 x1) (at2 x4) (at2 x2 0) (at2 x3 1) r.val (i 1).val else 0 :=
  rows_joined (A := 1) (B := 1) (C := 2) (N := 2048)
    (f := fun r q => if r = 1 then ∑ k : Fin 2048, dgt (hX x0) (at2 x1) (at2 x4) (at2 x2 0) (at2 x3 1) k.val q else 0) _ _
    LossRefIdeal.Gen.facts.concatenates_S1x2048_S1x2048_S2x2048_d0
    (fun j => by
      have h0 : (j 0).val < 1 := (j 0).isLt
      rw [val_main_v80_apply]
      exact Eq.trans Ideal.ofBits_zero_f32 (if_neg (by omega)).symm)
    (fun j => by
      have h0 : (j 0).val < 1 := (j 0).isLt
      rw [dgate_at]
      exact (if_pos (by omega)).symm)
    i

end

theorem value : Cert.algebraic_LossIdeal_LossRefIdeal := by
  intro m g m' g' _ hag
  refine ⟨G5 m, G6 m, G7 m, G8 m, G9 m,
    (θ_run LossIdeal.defs _ _).mono (fun r h c => ?_) (LossIdeal.Value.run_blocks (F := Ideal) m g),
    (θ_run LossRefIdeal.defs _ _).mono (fun r h c => ?_) (LossRefIdeal.Value.run (F := Ideal) m' g')⟩
  · obtain ⟨h5, h6, h7, h8, h9, h⟩ := h c
    exact ⟨h5.trans (final5 m c), h6.trans (final6 m c), h7.trans (final7 m c), h8.trans (final8 m c), h9.trans (final9 m c), h⟩
  · obtain ⟨h5, h6, h7, h8, h9, h⟩ := h c
    obtain ⟨e0, e1, e2, e3, e4⟩ := hag c
    refine ⟨(h5.trans (LossRefIdeal.Read.val_main_v78_eq _ _ _ _ _)).trans ?_, (h6.trans (LossRefIdeal.Read.val_main_v53_eq _ _ _ _ _)).trans ?_,
      (h7.trans (LossRefIdeal.Read.val_main_v79_eq m' c)).trans ?_, (h8.trans (LossRefIdeal.Read.val_main_v81_eq _ _ _ _ _)).trans ?_,
      (h9.trans (LossRefIdeal.Read.val_main_v61_eq _ _ _ _ _)).trans ?_, h⟩ <;> rw [e0, e1, e2, e3, e4] <;> funext i
    · exact (loss_at _ _ _ _ _ i).trans (acc_all (Sq m c) 8 0).symm
    · exact dx_at _ _ _ _ _ i
    · exact dy_at _ _ _ _ _ i
    · exact (gates _ _ _ _ _ i).trans (if_congr Iff.rfl (acc_all (Dg m c) 8 _).symm rfl)
    · exact (dpg_at _ _ _ _ _ i).trans (acc_all (Dp m c) 8 _).symm

end Cert.Proof.Loss

end
-- ==== Proof.Post.lean ====
/-  The residual and the next layer's input: a row block per grid point, normalised twice, beside the same for the context rows and the
    latent rows apart. -/
module

public import proofs.«01_k».proof.Defs
public import proofs.«01_k».proof.Proof.Norm
public import proofs.«01_k».proof.Proof.Gen.PostIdeal.Value
public import proofs.«01_k».proof.Proof.Gen.PostRefIdeal.Run
public import proofs.«01_k».proof.Proof.Gen.PostRefIdeal.Read
public import Idealize.ShloMosaic.Lib.Claim
public import Idealize.ShloMosaic.Lib.Quiescent

@[expose] public section

noncomputable section

namespace Cert.PostIdeal.At

open Cert.PostIdeal Cert.PostIdeal.Gen Cert.Mix Cert.Norm Cert.Products Idealize.ShloMosaic Idealize.ShloMosaic.TcCoe Idealize.SL.Sem

/-- A row of the residual stream, and of the next layer's input. -/
def res (x y pg gate : ℕ → ℕ → EReal) (r q : ℕ) : EReal := x r q + gate (rowOf r) q * (y r q * rs (y r) * pg 0 q)
def inp (x y pg gate g sh sc : ℕ → ℕ → EReal) (r q : ℕ) : EReal :=
  res x y pg gate r q * rs (res x y pg gate r) * g 0 q * (Ideal.ofBits .f32 0x3F800000#32 + sc (rowOf r) q) + sh (rowOf r) q

section Body

variable {x y : Vec Ideal S256x2048 .f32} {a b g k a' b' a'' b'' : Vec Ideal S1x2048 .f32} {fx fy fa fb fg fk fa' fb' fa'' fb'' : ℕ → ℕ → EReal} {i : grid0.Coords} {p : Prop} [Decidable p]

theorem pay2_is (hv : Scalar.cmpi .slt (BitVec.ofNat 32 (i 0).val) 1#32 = if p then 1#1 else 0#1) (hy : Is y fy) (hx : Is x fx) (ha : Is a fa) (hb : Is b fb) (hg : Is g fg) :
    Is (k0_pay2 (F := Ideal) i y x a b g) fun r q => fx r q + (if p then fa 0 q else fb 0 q) * (fy r q * rs (fy r) * fg 0 q) := fun j => by
  unfold k0_pay2
  refine congrArg₂ (fun a b : EReal => a + b) (hx j) (congrArg₂ (fun a b : EReal => a * b) ?_ (congrArg₂ (fun a b : EReal => a * b) (congrArg₂ (fun a b : EReal => a * b) (hy j) ?_) ?_))
  · exact row_is (pick_is hv ha hb) (by decide) _ j
  · exact rs_is hy (by decide) _ _ _ _ _ j
  · exact row_is hg (by decide) _ j

theorem pay3_is (hv : Scalar.cmpi .slt (BitVec.ofNat 32 (i 0).val) 1#32 = if p then 1#1 else 0#1) (hy : Is y fy) (hx : Is x fx) (ha : Is a fa) (hb : Is b fb) (hg : Is g fg) (hk : Is k fk)
    {f : ℕ → ℕ → EReal} (hf : Is (k0_pay2 (F := Ideal) i y x a b g) f) :
    Is (k0_pay3 (F := Ideal) i y x a b g k) fun r q => f r q * rs (f r) * fk 0 q := fun j => by
  unfold k0_pay3
  refine congrArg₂ (fun a b : EReal => a * b) (congrArg₂ (fun a b : EReal => a * b) (hf j) ?_) ?_
  · exact rs_is hf (by decide) _ _ _ _ _ j
  · exact row_is hk (by decide) _ j

theorem pay1_is {v : BitVec 1} (hv : v = if p then 1#1 else 0#1) {f : ℕ → ℕ → EReal} (hf : Is x f) (ha : Is a fa) (hb : Is b fb) (ha' : Is a' fa') (hb' : Is b' fb') :
    Is (k0_pay1 (F := Ideal) v x a b a' b') fun r q => f r q * (Ideal.ofBits .f32 0x3F800000#32 + if p then fa 0 q else fb 0 q) + if p then fa' 0 q else fb' 0 q := fun j => by
  unfold k0_pay1
  refine congrArg₂ (fun a b : EReal => a + b) (congrArg₂ (fun a b : EReal => a * b) (hf j) ?_) ?_
  · refine row_is (f := fun r q => Ideal.ofBits .f32 0x3F800000#32 + if p then fa r q else fb r q) (fun k => ?_) (by decide) _ j
    exact congrArg (fun a : EReal => _ + a) (pick_is hv ha hb k)
  · exact row_is (pick_is hv ha' hb') (by decide) _ j

end Body

variable (m : (ℓ : Loc nD τ sig) → Buf (Elt Ideal) ℓ) (c : Dev nD)

/-- The arguments, by natural coordinates. -/
abbrev X := at2 (m ((c : Thread nD τ).loc main_arg0) : S2304x2048.Idx → EReal)
abbrev Y := at2 (m ((c : Thread nD τ).loc main_arg1) : S2304x2048.Idx → EReal)
abbrev Pg := at2 (m ((c : Thread nD τ).loc main_arg2) : S1x2048.Idx → EReal)
abbrev Gt := at2 (m ((c : Thread nD τ).loc main_arg3) : S2x2048.Idx → EReal)
abbrev Gn := at2 (m ((c : Thread nD τ).loc main_arg4) : S1x2048.Idx → EReal)
abbrev Sh := at2 (m ((c : Thread nD τ).loc main_arg5) : S2x2048.Idx → EReal)
abbrev Sc := at2 (m ((c : Thread nD τ).loc main_arg6) : S2x2048.Idx → EReal)

theorem flag (t : Fin cfg0.N) : Scalar.cmpi .slt (BitVec.ofNat 32 ((grid0.coords t) 0).val) 1#32 = if t.val = 0 then 1#1 else 0#1 :=
  (by decide +kernel : ∀ t : Fin grid0.N, Scalar.cmpi .slt (BitVec.ofNat 32 ((grid0.coords t) 0).val) 1#32 = if t.val = 0 then 1#1 else 0#1) t

/-- The row of a pair that block `t` takes. -/
theorem side_of {f : ℕ → ℕ → EReal} (t r q : ℕ) (hr : r < 256) : (if t = 0 then f 0 q else f 1 q) = f (rowOf (256 * t + r)) q := by
  unfold rowOf
  by_cases h : t = 0
  · rw [if_pos h, if_pos (by omega)]
  · rw [if_neg h, if_neg (by omega)]

theorem blk0 (t : Fin cfg0.N) : Is (iblk m c 0 t) fun r q => X m c (256 * t.val + r) q := fun j => by
  have hi : win0_0.index t 0 = t.val ∧ win0_0.index t 1 = 0 := (by decide +kernel : ∀ t : Fin grid0.N, win0_0.index t 0 = t.val ∧ win0_0.index t 1 = 0) t
  unfold iblk
  rw [View.read_apply]
  exact read2 _ _ (by show win0_0.index t 0 * 256 + 1 * (j 0).val = _; omega) (by show win0_0.index t 1 * 2048 + 1 * (j 1).val = _; omega)

theorem blk1 (t : Fin cfg0.N) : Is (iblk m c 1 t) fun r q => Y m c (256 * t.val + r) q := fun j => by
  have hi : win0_1.index t 0 = t.val ∧ win0_1.index t 1 = 0 := (by decide +kernel : ∀ t : Fin grid0.N, win0_1.index t 0 = t.val ∧ win0_1.index t 1 = 0) t
  unfold iblk
  rw [View.read_apply]
  exact read2 _ _ (by show win0_1.index t 0 * 256 + 1 * (j 0).val = _; omega) (by show win0_1.index t 1 * 2048 + 1 * (j 1).val = _; omega)

theorem blk2 (t : Fin cfg0.N) : Is (iblk m c 2 t) (Pg m c) := fun j => by
  have hi : win0_2.index t 0 = 0 ∧ win0_2.index t 1 = 0 := (by decide +kernel : ∀ t : Fin grid0.N, win0_2.index t 0 = 0 ∧ win0_2.index t 1 = 0) t
  unfold iblk
  rw [View.read_apply]
  exact read2 _ _ (by show win0_2.index t 0 * 1 + 1 * (j 0).val = _; omega) (by show win0_2.index t 1 * 2048 + 1 * (j 1).val = _; omega)

theorem blk3 (t : Fin cfg0.N) : Is (iblk m c 3 t) (Gt m c) := fun j => by
  have hi : win0_3.index t 0 = 0 ∧ win0_3.index t 1 = 0 := (by decide +kernel : ∀ t : Fin grid0.N, win0_3.index t 0 = 0 ∧ win0_3.index t 1 = 0) t
  unfold iblk
  rw [View.read_apply]
  exact read2 _ _ (by show win0_3.index t 0 * 2 + 1 * (j 0).val = _; omega) (by show win0_3.index t 1 * 2048 + 1 * (j 1).val = _; omega)

theorem blk4 (t : Fin cfg0.N) : Is (iblk m c 4 t) (Gn m c) := fun j => by
  have hi : win0_4.index t 0 = 0 ∧ win0_4.index t 1 = 0 := (by decide +kernel : ∀ t : Fin grid0.N, win0_4.index t 0 = 0 ∧ win0_4.index t 1 = 0) t
  unfold iblk
  rw [View.read_apply]
  exact read2 _ _ (by show win0_4.index t 0 * 1 + 1 * (j 0).val = _; omega) (by show win0_4.index t 1 * 2048 + 1 * (j 1).val = _; omega)

theorem blk5 (t : Fin cfg0.N) : Is (iblk m c 5 t) (Sh m c) := fun j => by
  have hi : win0_5.index t 0 = 0 ∧ win0_5.index t 1 = 0 := (by decide +kernel : ∀ t : Fin grid0.N, win0_5.index t 0 = 0 ∧ win0_5.index t 1 = 0) t
  unfold iblk
  rw [View.read_apply]
  exact read2 _ _ (by show win0_5.index t 0 * 2 + 1 * (j 0).val = _; omega) (by show win0_5.index t 1 * 2048 + 1 * (j 1).val = _; omega)

theorem blk6 (t : Fin cfg0.N) : Is (iblk m c 6 t) (Sc m c) := fun j => by
  have hi : win0_6.index t 0 = 0 ∧ win0_6.index t 1 = 0 := (by decide +kernel : ∀ t : Fin grid0.N, win0_6.index t 0 = 0 ∧ win0_6.index t 1 = 0) t
  unfold iblk
  rw [View.read_apply]
  exact read2 _ _ (by show win0_6.index t 0 * 2 + 1 * (j 0).val = _; omega) (by show win0_6.index t 1 * 2048 + 1 * (j 1).val = _; omega)

/-- A row of a pair, loaded. -/
theorem row0_is {v : Vec Ideal S2x2048 .f32} {f : ℕ → ℕ → EReal} (h : Is v f) : Is (View.ld v r0_1) f := fun j =>
  (ld_is (e := .f32) (m := 1) (n := 2048) (o := 0) (p := 0) h _ j).trans (congrArg₂ f (Nat.zero_add _) (Nat.zero_add _))
theorem row1_is {v : Vec Ideal S2x2048 .f32} {f : ℕ → ℕ → EReal} (h : Is v f) : Is (View.ld v r0_2) fun r q => f (1 + r) q := fun j =>
  (ld_is (e := .f32) (m := 1) (n := 2048) (o := 1) (p := 0) h _ j).trans (congrArg₂ f rfl (Nat.zero_add _))

theorem res_is (t : Fin cfg0.N) :
    Is (k0_pay2 (F := Ideal) (grid0.coords t) (iblk m c 1 t) (iblk m c 0 t) (View.ld (iblk m c 3 t) r0_1) (View.ld (iblk m c 3 t) r0_2) (iblk m c 2 t))
      fun r q => X m c (256 * t.val + r) q + (if t.val = 0 then Gt m c 0 q else Gt m c 1 q) * (Y m c (256 * t.val + r) q * rs (Y m c (256 * t.val + r)) * Pg m c 0 q) :=
  pay2_is (flag t) (blk1 m c t) (blk0 m c t) (row0_is (blk3 m c t)) (row1_is (blk3 m c t)) (blk2 m c t)

/-- The kernel's two arrays. -/
def R7 (r q : ℕ) : EReal := res (X m c) (Y m c) (Pg m c) (Gt m c) r q
def R8 (r q : ℕ) : EReal := inp (X m c) (Y m c) (Pg m c) (Gt m c) (Gn m c) (Sh m c) (Sc m c) r q
def G7 : Buf (Elt Ideal) ((c : Thread nD τ).loc main_v0_0) := fun i : S2304x2048.Idx => R7 m c (i 0).val (i 1).val
def G8 : Buf (Elt Ideal) ((c : Thread nD τ).loc main_v0_1) := fun i : S2304x2048.Idx => R8 m c (i 0).val (i 1).val

theorem G7_at (i : S2304x2048.Idx) {r q : ℕ} (h0 : (i 0).val = r) (h1 : (i 1).val = q) : G7 m c i = R7 m c r q := by
  subst h0 h1
  rfl
theorem G8_at (i : S2304x2048.Idx) {r q : ℕ} (h0 : (i 0).val = r) (h1 : (i 1).val = q) : G8 m c i = R8 m c r q := by
  subst h0 h1
  rfl

/-- A row of block `t` of the residual is the array's. -/
theorem res_row (t r : ℕ) (hr : r < 256) : (fun q => X m c (256 * t + r) q + (if t = 0 then Gt m c 0 q else Gt m c 1 q) * (Y m c (256 * t + r) q * rs (Y m c (256 * t + r)) * Pg m c 0 q))
    = R7 m c (256 * t + r) := by
  funext q
  rw [side_of (f := Gt m c) t r q hr]
  rfl

theorem flushed7_eq (t : Fin cfg0.N) (hf : (cfg0.win 7).flush t = true) : (dats m 0 c).flushed 7 t = ((cfg0.win 7).blk t).view.read (Elt Ideal) (G7 m c) := by
  have hi : win0_7.index t 0 = t.val ∧ win0_7.index t 1 = 0 := (by decide +kernel : ∀ t : Fin grid0.N, win0_7.index t 0 = t.val ∧ win0_7.index t 1 = 0) t
  rw [Value.flushed7]
  funext j
  have h0 : (j 0).val < 256 := (j 0).isLt
  show out0_7 (grid0.coords t) (iblk m c 0 t) (iblk m c 1 t) (iblk m c 2 t) (iblk m c 3 t) (iblk m c 4 t) (iblk m c 5 t) (iblk m c 6 t) j = _
  unfold out0_7
  rw [View.canon_unit_zero (S := S256x2048) hz2]
  simp only [View.ld_unit_zero (S := S256x2048) hz2, View.ld_unit_zero (S := S1x2048) hz2]
  rw [View.read_apply]
  refine (res_is m c t j).trans ((congrFun (res_row m c t.val (j 0).val h0) (j 1).val).trans ?_)
  refine Eq.trans ?_ (cast_eq _ _).symm
  exact (G7_at m c _ (by show win0_7.index t 0 * 256 + 1 * (j 0).val = _; omega) (by show win0_7.index t 1 * 2048 + 1 * (j 1).val = _; omega)).symm

theorem flushed8_eq (t : Fin cfg0.N) (hf : (cfg0.win 8).flush t = true) : (dats m 0 c).flushed 8 t = ((cfg0.win 8).blk t).view.read (Elt Ideal) (G8 m c) := by
  have hi : win0_8.index t 0 = t.val ∧ win0_8.index t 1 = 0 := (by decide +kernel : ∀ t : Fin grid0.N, win0_8.index t 0 = t.val ∧ win0_8.index t 1 = 0) t
  rw [Value.flushed8]
  funext j
  have h0 : (j 0).val < 256 := (j 0).isLt
  show out0_8 (grid0.coords t) (iblk m c 0 t) (iblk m c 1 t) (iblk m c 2 t) (iblk m c 3 t) (iblk m c 4 t) (iblk m c 5 t) (iblk m c 6 t) j = _
  unfold out0_8
  rw [View.canon_unit_zero (S := S256x2048) hz2]
  simp only [View.ld_unit_zero (S := S256x2048) hz2, View.ld_unit_zero (S := S1x2048) hz2]
  rw [View.read_apply]
  refine (pay1_is (flag t) (pay3_is (flag t) (blk1 m c t) (blk0 m c t) (row0_is (blk3 m c t)) (row1_is (blk3 m c t)) (blk2 m c t) (blk4 m c t) (res_is m c t))
    (row0_is (blk6 m c t)) (row1_is (blk6 m c t)) (row0_is (blk5 m c t)) (row1_is (blk5 m c t)) j).trans ?_
  refine Eq.trans ?_ (cast_eq _ _).symm
  refine Eq.trans ?_ (G8_at m c _ (r := 256 * t.val + (j 0).val) (q := (j 1).val) (by show win0_8.index t 0 * 256 + 1 * (j 0).val = _; omega)
    (by show win0_8.index t 1 * 2048 + 1 * (j 1).val = _; omega)).symm
  have e := res_row m c t.val (j 0).val h0
  have eq := congrFun e (j 1).val
  beta_reduce at eq ⊢
  rw [e, eq, side_of (f := Sc m c) t.val _ _ h0, side_of (f := Sh m c) t.val _ _ h0]
  rfl

theorem final7 : (dats m 0 c).arrAt 7 cfg0.N = G7 m c :=
  (dats m 0 c).arrAt_eq_of_cover 7 (G7 m c) (flushed7_eq m c) fun i => by
    have h0 : (i 0).val < 2304 := (i 0).isLt
    have h1 : (i 1).val < 2048 := (i 1).isLt
    have hN : cfg0.N = 9 := by decide +kernel
    let t : Fin cfg0.N := ⟨(i 0).val / 256, by omega⟩
    have ht : t.val = (i 0).val / 256 := rfl
    have hi : win0_7.index t 0 = t.val ∧ win0_7.index t 1 = 0 := (by decide +kernel : ∀ t : Fin grid0.N, win0_7.index t 0 = t.val ∧ win0_7.index t 1 = 0) t
    refine ⟨t, flush0_7 t, ?_⟩
    show i ∈ ((View.whole main_v0_0).slice (win0_7.rect t)).set
    rw [View.set_slice_whole, Rect.mem_set_unit]
    intro a
    match a with
    | ⟨0, _⟩ => show win0_7.index t 0 * 256 ≤ (i 0).val ∧ (i 0).val < win0_7.index t 0 * 256 + 256; omega
    | ⟨1, _⟩ => show win0_7.index t 1 * 2048 ≤ (i 1).val ∧ (i 1).val < win0_7.index t 1 * 2048 + 2048; omega

theorem final8 : (dats m 0 c).arrAt 8 cfg0.N = G8 m c :=
  (dats m 0 c).arrAt_eq_of_cover 8 (G8 m c) (flushed8_eq m c) fun i => by
    have h0 : (i 0).val < 2304 := (i 0).isLt
    have h1 : (i 1).val < 2048 := (i 1).isLt
    have hN : cfg0.N = 9 := by decide +kernel
    let t : Fin cfg0.N := ⟨(i 0).val / 256, by omega⟩
    have ht : t.val = (i 0).val / 256 := rfl
    have hi : win0_8.index t 0 = t.val ∧ win0_8.index t 1 = 0 := (by decide +kernel : ∀ t : Fin grid0.N, win0_8.index t 0 = t.val ∧ win0_8.index t 1 = 0) t
    refine ⟨t, flush0_8 t, ?_⟩
    show i ∈ ((View.whole main_v0_1).slice (win0_8.rect t)).set
    rw [View.set_slice_whole, Rect.mem_set_unit]
    intro a
    match a with
    | ⟨0, _⟩ => show win0_8.index t 0 * 256 ≤ (i 0).val ∧ (i 0).val < win0_8.index t 0 * 256 + 256; omega
    | ⟨1, _⟩ => show win0_8.index t 1 * 2048 ≤ (i 1).val ∧ (i 1).val < win0_8.index t 1 * 2048 + 2048; omega

end Cert.PostIdeal.At

namespace Cert.Proof.Post

open Idealize.ShloMosaic Idealize.SL.Sem Cert.Mix Cert.Norm Cert.Products Cert.PostIdeal.At

section
open Cert.PostRefIdeal Cert.PostRefIdeal.Read

variable (x y : FVec Ideal S2304x2048 .f32) (pg : FVec Ideal S1x2048 .f32) (gt : FVec Ideal S2x2048 .f32) (gn : FVec Ideal S1x2048 .f32) (sh sc : FVec Ideal S2x2048 .f32)

/-- The reciprocal root mean squares of the context rows and of the latent rows. -/
theorem rsc_at (i : S256x1.Idx) : val_main_v10 (F := Ideal) y i = rs (at2 y (i 0).val) := by
  rw [val_main_v10_apply, val_main_v9_apply, val_main_v7_apply, val_main_v5_apply, val_main_v4_apply, val_main_v6_apply, val_main_v8_apply, val_main_cst_apply, val_main_cst_0_apply, val_main_cst_1_apply]
  show Ideal.rsqrt (Ideal.div (Ideal.ofBits .f32 0x00000000#32 + _) width + eps) = _
  rw [Ideal.ofBits_zero_f32, zero_add]
  refine congrArg (fun a : EReal => Ideal.rsqrt (Ideal.div a width + eps)) (Finset.sum_congr rfl fun k _ => ?_)
  rw [val_main_v3_apply, val_main_v1_apply, read2 y _ (r := (i 0).val) (l := k.val) rfl rfl]
  rfl

theorem rsl_at (i : S2048x1.Idx) : val_main_v28 (F := Ideal) y i = rs (at2 y (256 + (i 0).val)) := by
  rw [val_main_v28_apply, val_main_v27_apply, val_main_v25_apply, val_main_v23_apply, val_main_v22_apply, val_main_v24_apply, val_main_v26_apply, val_main_cst_2_apply, val_main_cst_3_apply, val_main_cst_4_apply]
  show Ideal.rsqrt (Ideal.div (Ideal.ofBits .f32 0x00000000#32 + _) width + eps) = _
  rw [Ideal.ofBits_zero_f32, zero_add]
  refine congrArg (fun a : EReal => Ideal.rsqrt (Ideal.div a width + eps)) (Finset.sum_congr rfl fun k _ => ?_)
  rw [val_main_v21_apply, val_main_v19_apply, read2 y _ (r := 256 + (i 0).val) (l := k.val) rfl rfl]
  rfl

/-- The residual, of the context rows and of the latent rows. -/
theorem resc_at (i : S256x2048.Idx) : val_main_v17 (F := Ideal) x y pg gt i = res (at2 x) (at2 y) (at2 pg) (at2 gt) (i 0).val (i 1).val := by
  have h0 : (i 0).val < 256 := (i 0).isLt
  rw [val_main_v17_apply, val_main_v0_apply, val_main_v16_apply, val_main_v15_apply, val_main_v2_apply, val_main_v14_apply, val_main_v12_apply, val_main_v1_apply, val_main_v11_apply, rsc_at, val_main_v13_apply]
  unfold res rowOf
  rw [if_pos h0]
  exact congrArg₂ (fun a b : EReal => a + b) (read2 x _ rfl rfl) (congrArg₂ (fun a b : EReal => a * b) (read2 gt _ rfl rfl)
    (congrArg₂ (fun a b : EReal => a * b) (congrArg₂ (fun a b : EReal => a * b) (read2 y _ rfl rfl) rfl) (read2 pg _ rfl rfl)))

theorem resl_at (i : S2048x2048.Idx) : val_main_v35 (F := Ideal) x y pg gt i = res (at2 x) (at2 y) (at2 pg) (at2 gt) (256 + (i 0).val) (i 1).val := by
  rw [val_main_v35_apply, val_main_v18_apply, val_main_v34_apply, val_main_v33_apply, val_main_v20_apply, val_main_v32_apply, val_main_v30_apply, val_main_v19_apply, val_main_v29_apply, rsl_at, val_main_v31_apply]
  unfold res rowOf
  rw [if_neg (by omega)]
  exact congrArg₂ (fun a b : EReal => a + b) (read2 x _ rfl rfl) (congrArg₂ (fun a b : EReal => a * b) (read2 gt _ rfl rfl)
    (congrArg₂ (fun a b : EReal => a * b) (congrArg₂ (fun a b : EReal => a * b) (read2 y _ rfl rfl) rfl) (read2 pg _ rfl rfl)))

theorem rsc2_at (i : S256x1.Idx) : val_main_v45 (F := Ideal) x y pg gt i = rs (res (at2 x) (at2 y) (at2 pg) (at2 gt) (i 0).val) := by
  rw [val_main_v45_apply, val_main_v44_apply, val_main_v42_apply, val_main_v40_apply, val_main_v39_apply, val_main_v41_apply, val_main_v43_apply, val_main_cst_5_apply, val_main_cst_6_apply, val_main_cst_7_apply]
  show Ideal.rsqrt (Ideal.div (Ideal.ofBits .f32 0x00000000#32 + _) width + eps) = _
  rw [Ideal.ofBits_zero_f32, zero_add]
  refine congrArg (fun a : EReal => Ideal.rsqrt (Ideal.div a width + eps)) (Finset.sum_congr rfl fun k _ => ?_)
  rw [val_main_v38_apply, resc_at]
  rfl

theorem rsl2_at (i : S2048x1.Idx) : val_main_v65 (F := Ideal) x y pg gt i = rs (res (at2 x) (at2 y) (at2 pg) (at2 gt) (256 + (i 0).val)) := by
  rw [val_main_v65_apply, val_main_v64_apply, val_main_v62_apply, val_main_v60_apply, val_main_v59_apply, val_main_v61_apply, val_main_v63_apply, val_main_cst_9_apply, val_main_cst_10_apply, val_main_cst_11_apply]
  show Ideal.rsqrt (Ideal.div (Ideal.ofBits .f32 0x00000000#32 + _) width + eps) = _
  rw [Ideal.ofBits_zero_f32, zero_add]
  refine congrArg (fun a : EReal => Ideal.rsqrt (Ideal.div a width + eps)) (Finset.sum_congr rfl fun k _ => ?_)
  rw [val_main_v58_apply, resl_at]
  rfl

theorem inpc_at (i : S256x2048.Idx) : val_main_v55 (F := Ideal) x y pg gt gn sh sc i = inp (at2 x) (at2 y) (at2 pg) (at2 gt) (at2 gn) (at2 sh) (at2 sc) (i 0).val (i 1).val := by
  have h0 : (i 0).val < 256 := (i 0).isLt
  rw [val_main_v55_apply, val_main_v53_apply, val_main_v49_apply, val_main_v47_apply, resc_at, val_main_v46_apply, rsc2_at, val_main_v48_apply, val_main_v52_apply, val_main_v51_apply, val_main_v50_apply,
    val_main_cst_8_apply, val_main_v37_apply, val_main_v54_apply, val_main_v36_apply]
  unfold inp
  rw [show rowOf (i 0).val = 0 from if_pos h0]
  exact congrArg₂ (fun a b : EReal => a + b) (congrArg₂ (fun a b : EReal => a * b) (congrArg (fun a : EReal => _ * a) (read2 gn _ rfl rfl)) (congrArg (fun a : EReal => _ + a) (read2 sc _ rfl rfl))) (read2 sh _ rfl rfl)

theorem inpl_at (i : S2048x2048.Idx) : val_main_v75 (F := Ideal) x y pg gt gn sh sc i = inp (at2 x) (at2 y) (at2 pg) (at2 gt) (at2 gn) (at2 sh) (at2 sc) (256 + (i 0).val) (i 1).val := by
  rw [val_main_v75_apply, val_main_v73_apply, val_main_v69_apply, val_main_v67_apply, resl_at, val_main_v66_apply, rsl2_at, val_main_v68_apply, val_main_v72_apply, val_main_v71_apply, val_main_v70_apply,
    val_main_cst_12_apply, val_main_v57_apply, val_main_v74_apply, val_main_v56_apply]
  unfold inp
  rw [show rowOf (256 + (i 0).val) = 1 from if_neg (by omega)]
  exact congrArg₂ (fun a b : EReal => a + b) (congrArg₂ (fun a b : EReal => a * b) (congrArg (fun a : EReal => _ * a) (read2 gn _ rfl rfl)) (congrArg (fun a : EReal => _ + a) (read2 sc _ rfl rfl))) (read2 sh _ rfl rfl)

theorem host7 : val_main_v76 (F := Ideal) x y pg gt = fun i : S2304x2048.Idx => res (at2 x) (at2 y) (at2 pg) (at2 gt) (i 0).val (i 1).val := by
  funext i
  unfold val_main_v76
  exact rows_joined _ _ _ (fun j => resc_at x y pg gt j) (fun j => resl_at x y pg gt j) i

theorem host8 : val_main_v78 (F := Ideal) x y pg gt gn sh sc = fun i : S2304x2048.Idx => inp (at2 x) (at2 y) (at2 pg) (at2 gt) (at2 gn) (at2 sh) (at2 sc) (i 0).val (i 1).val := by
  funext i
  rw [val_main_v78_apply]
  unfold val_main_v77
  exact rows_joined _ _ _ (fun j => inpc_at x y pg gt gn sh sc j) (fun j => inpl_at x y pg gt gn sh sc j) i

/-- The two results where the arguments are the kernel's. -/
theorem host_of (V0 : Valuation τ sig (Elt Ideal)) (e0 : V0 (Proc.devRef .tc main_arg0) = x) (e1 : V0 (Proc.devRef .tc main_arg1) = y) (e2 : V0 (Proc.devRef .tc main_arg2) = pg)
    (e3 : V0 (Proc.devRef .tc main_arg3) = gt) (e4 : V0 (Proc.devRef .tc main_arg4) = gn) (e5 : V0 (Proc.devRef .tc main_arg5) = sh) (e6 : V0 (Proc.devRef .tc main_arg6) = sc) :
    (val_main_v76 (F := Ideal) (V0 (Proc.devRef .tc main_arg0)) (V0 (Proc.devRef .tc main_arg1)) (V0 (Proc.devRef .tc main_arg2)) (V0 (Proc.devRef .tc main_arg3))
      = fun i : S2304x2048.Idx => res (at2 x) (at2 y) (at2 pg) (at2 gt) (i 0).val (i 1).val)
    ∧ val_main_v78 (F := Ideal) (V0 (Proc.devRef .tc main_arg0)) (V0 (Proc.devRef .tc main_arg1)) (V0 (Proc.devRef .tc main_arg2)) (V0 (Proc.devRef .tc main_arg3))
      (V0 (Proc.devRef .tc main_arg4)) (V0 (Proc.devRef .tc main_arg5)) (V0 (Proc.devRef .tc main_arg6))
      = fun i : S2304x2048.Idx => inp (at2 x) (at2 y) (at2 pg) (at2 gt) (at2 gn) (at2 sh) (at2 sc) (i 0).val (i 1).val := by
  rw [e0, e1, e2, e3, e4, e5, e6]
  exact ⟨host7 x y pg gt, host8 x y pg gt gn sh sc⟩

end

theorem frame : Cert.quiescent_PostRefIdeal := fun m g _ =>
  (θ_run (PostRefIdeal.defs (F := Ideal)) _ _).mono
    (fun r h => ⟨fun c => (h c).2.2, Idealize.ShloMosaic.sem_eq_zero_of_no_sems (by decide) r.2⟩)
    (PostRefIdeal.Value.run (F := Ideal) m g)

theorem value : Cert.algebraic_PostIdeal_PostRefIdeal := by
  intro m g m' g' _ hag
  refine ⟨PostIdeal.At.G7 m, PostIdeal.At.G8 m,
    (θ_run PostIdeal.defs _ _).mono (fun r h c => ?_) (PostIdeal.Value.run_blocks (F := Ideal) m g),
    (θ_run PostRefIdeal.defs _ _).mono (fun r h c => ?_) (PostRefIdeal.Value.run (F := Ideal) m' g')⟩
  · obtain ⟨h0, h1, h2⟩ := h c
    exact ⟨h0.trans (final7 m c), h1.trans (final8 m c), h2⟩
  · obtain ⟨h0, h1, h2⟩ := h c
    obtain ⟨a0, a1, a2, a3, a4, a5, a6⟩ := hag c
    obtain ⟨k0, k1⟩ := host_of _ _ _ _ _ _ _ (StableHlo.launchContents m' c) a0 a1 a2 a3 a4 a5 a6
    exact ⟨(h0.trans (PostRefIdeal.Read.val_main_v76_eq _ _ _ _).symm).trans k0,
      (h1.trans (PostRefIdeal.Read.val_main_v78_eq _ _).symm).trans k1, h2⟩

end Cert.Proof.Post

end
-- ==== Proof.ConvF.lean ====
/-  The gated three-tap convolution of the forward pass: the kernel writes its columns into the second half of an array it is given, of which it
    keeps the first half. -/
module

public import proofs.«01_k».proof.Defs
public import proofs.«01_k».proof.Proof.KernelValue
public import proofs.«01_k».proof.Proof.HostRead
public import proofs.«01_k».proof.Proof.Norm
public import proofs.«01_k».proof.Proof.Gen.ConvFIdeal.Value
public import proofs.«01_k».proof.Proof.Gen.ConvFRefIdeal.Run
public import proofs.«01_k».proof.Proof.Gen.ConvFRefIdeal.Read
public import Idealize.ShloMosaic.Lib.Claim
public import Idealize.ShloMosaic.Lib.Quiescent

@[expose] public section

noncomputable section

namespace Cert.ConvFIdeal.At

open Cert.ConvFIdeal Cert.ConvFIdeal.Gen Cert.Mix Idealize.ShloMosaic Idealize.ShloMosaic.TcCoe Idealize.SL.Sem
open Cert.Norm (row_is col_is)
open Cert.Products (hz2 hz3 Is Is1 drop_is ld_is)

/-- The gated convolution, and the array with it in the second half. -/
def mixed (z : ℕ → ℕ → ℕ → EReal) (w : ℕ → ℕ → EReal) (b : ℕ → EReal) (r l : ℕ) : EReal := z 3 r l * cv z w b r l * (z 5 r l * sg z r l)
def halves (u : ℕ → ℕ → EReal) (z : ℕ → ℕ → ℕ → EReal) (w : ℕ → ℕ → EReal) (b : ℕ → EReal) (r q : ℕ) : EReal := if q < 1024 then u r q else mixed z w b r (q - 1024)

section Body

variable {z : ℕ → ℕ → ℕ → EReal} {w : ℕ → ℕ → EReal} {b : ℕ → EReal}
variable {x0 x1 x2 x3 : Vec Ideal S1x2304x128 .f32} {v27 v34 v36 : FVec Ideal S2304x128 .f32} {u0 u1 u2 x5 : Vec Ideal S1x128 .f32}

theorem pay2_is (h2 : Is1 x2 (z 4)) (h0 : Is1 x0 (z 2)) : Is (k0_pay2 (F := Ideal) x2 x0) (tt z) := fun j =>
  congrArg₂ (fun a b : EReal => a * b) (drop_is (φ := .f32) h2 _ j) (drop_is (φ := .f32) h0 _ j)

theorem pay3_is (h2 : Is1 x2 (z 4)) (h0 : Is1 x0 (z 2)) : Is (k0_pay3 (F := Ideal) x2 x0) (next z) := fun j => by
  have hl : (j 0).val < 2304 := (j 0).isLt
  unfold k0_pay3
  rw [ValueIdx.mulf_apply, KernelIdeal.At.up_at _ _ (pay2_is h2 h0)]
  refine (congrArg (fun a : EReal => _ * a) (col_is (f := fun r _ => if r = 255 ∨ r = 2303 then (0 : EReal) else 1) (fun i => ?_) (by decide) _ j)).trans ?_
  · refine Eq.trans ?_ (KernelIdeal.At.mask (i 0).val 255 2303 (i 0).isLt (by decide) (by decide))
    show Scalar.select (IntOp.ori (IntOp.cmpi .eq (iota .tc S2304x1 32 [0] _ i) _) (IntOp.cmpi .eq (iota .tc S2304x1 32 [0] _ i) _)) _ _ = _
    rw [iota_single_apply]
    rfl
  · unfold next
    show _ * (if (j 0).val = 255 ∨ (j 0).val = 2303 then (0 : EReal) else 1) = _
    split
    · exact mul_zero _
    · rename_i hn
      rw [mul_one, show ((j 0).val + 1) % 2304 = (j 0).val + 1 by omega]

theorem pay4_is (h2 : Is1 x2 (z 4)) (h0 : Is1 x0 (z 2)) (k0 : Is u0 fun _ => w 0) (k1 : Is u1 fun _ => w 1) :
    Is (k0_pay4 (F := Ideal) x2 x0 u0 u1) fun r l => prev z r l * w 0 l + tt z r l * w 1 l := fun j => by
  have hl : (j 0).val < 2304 := (j 0).isLt
  unfold k0_pay4
  refine congrArg₂ (fun a b : EReal => a + b) (congrArg₂ (fun a b : EReal => a * b) ?_ (row_is k0 (by decide) _ j))
    (congrArg₂ (fun a b : EReal => a * b) (pay2_is h2 h0 j) (row_is k1 (by decide) _ j))
  rw [ValueIdx.mulf_apply, KernelIdeal.At.down_at _ _ (pay2_is h2 h0)]
  refine (congrArg (fun a : EReal => _ * a) (col_is (f := fun r _ => if r = 0 ∨ r = 256 then (0 : EReal) else 1) (fun i => ?_) (by decide) _ j)).trans ?_
  · refine Eq.trans ?_ (KernelIdeal.At.mask (i 0).val 0 256 (i 0).isLt (by decide) (by decide))
    show Scalar.select (IntOp.ori (IntOp.cmpi .eq (iota .tc S2304x1 32 [0] _ i) _) (IntOp.cmpi .eq (iota .tc S2304x1 32 [0] _ i) _)) _ _ = _
    rw [iota_single_apply]
    rfl
  · unfold prev
    show _ * (if (j 0).val = 0 ∨ (j 0).val = 256 then (0 : EReal) else 1) = _
    split
    · exact mul_zero _
    · rename_i hn
      rw [mul_one, show ((j 0).val + 2303) % 2304 = (j 0).val - 1 by omega]

theorem pay5_is (k2 : Is u2 fun _ => w 2) : Is (k0_pay5 (F := Ideal) u2) fun _ l => w 2 l := fun j => by
  unfold k0_pay5
  exact row_is k2 (by decide) _ j

theorem pay1_is (h27 : Is v27 (next z)) (h34 : Is v34 fun r l => prev z r l * w 0 l + tt z r l * w 1 l) (h36 : Is v36 fun _ l => w 2 l) (h5 : Is x5 fun _ => b)
    (h1 : Is1 x1 (z 3)) (h3 : Is1 x3 (z 5)) : Is (k0_pay1 (F := Ideal) v27 v34 v36 x5 x1 x3) (mixed z w b) := fun j => by
  unfold k0_pay1
  refine congrArg₂ (fun a b : EReal => a * b) (congrArg₂ (fun a b : EReal => a * b) (drop_is (φ := .f32) h1 _ j) ?_)
    (congrArg₂ (fun a b : EReal => a * b) (drop_is (φ := .f32) h3 _ j) (congrArg Ideal.logistic (drop_is (φ := .f32) h3 _ j)))
  exact congrArg₂ (fun a b : EReal => a + b) (congrArg₂ (fun a b : EReal => a + b) (h34 j) (congrArg₂ (fun a b : EReal => a * b) (h27 j) (h36 j))) (row_is h5 (by decide) _ j)

variable (c : Dev nD) (i : grid0.Coords) (a1 : Memref sig .tc .vmem S1x2304x128 .f32) (g1 : a1.IsWhole) (a2 : Memref sig .tc .vmem S1x2304x128 .f32) (g2 : a2.IsWhole)
  (a3 : Memref sig .tc .vmem S1x2304x128 .f32) (g3 : a3.IsWhole) (a4 : Memref sig .tc .vmem S1x2304x128 .f32) (g4 : a4.IsWhole) (a5 : Memref sig .tc .vmem S3x128 .f32) (g5 : a5.IsWhole)
  (a6 : Memref sig .tc .vmem S1x128 .f32) (g6 : a6.IsWhole) (a8 : Memref sig .tc .vmem S2304x128 .bf16) (g8 : a8.IsWhole)

theorem outA {x4 : Vec Ideal S3x128 .f32} (h0 : Is1 x0 (z 2)) (h1 : Is1 x1 (z 3)) (h2 : Is1 x2 (z 4)) (h3 : Is1 x3 (z 5)) (h4 : Is x4 w) (h5 : Is x5 fun _ => b) :
    Is (out0_A_6 c i a1 g1 a2 g2 a3 g3 a4 g4 a5 g5 a6 g6 a8 g8 x0 x1 x2 x3 x4 x5) (mixed z w b) := by
  unfold out0_A_6
  rw [View.read_writes_eq_canon _ _ _ (cover0_A_6 c i a1 g1 a2 g2 a3 g3 a4 g4 a5 g5 a6 g6 a8 g8 x0 x1 x2 x3 x4 x5)]
  unfold kernelRun0_A
  dsimp only
  sl_unfold_words
  rw [View.canon_unit_zero (S := S2304x128) hz2]
  simp only [View.readAt_eq_ld, g1.read_unread, g2.read_unread, g3.read_unread, g4.read_unread, g5.read_unread, g6.read_unread, View.ld_unit_zero (S := S1x2304x128) hz3,
    View.ld_unit_zero (S := S1x128) hz2]
  have row : ∀ (o : ℕ) (inb) (j : S1x128.Idx), View.ld (Val := Elt Ideal) x4 (Rect.unit (s := S3x128) ![o, 0] S1x128.size inb) j = w o (j 1).val := fun o inb j =>
    (ld_is (e := .f32) (m := 1) (n := 128) (o := o) (p := 0) h4 inb j).trans (congrArg₂ w (by have h : (j 0).val < 1 := (j 0).isLt; omega) (Nat.zero_add _))
  exact pay1_is (pay3_is h2 h0) (pay4_is h2 h0 (row 0 _) (row 1 _)) (pay5_is (row 2 _)) h5 h1 h3

end Body

variable (m : (ℓ : Loc nD τ sig) → Buf (Elt Ideal) ℓ) (c : Dev nD)

/-- The arguments: the sections, the taps, the bias, the array given. -/
abbrev X0 : S6x2304x1024.Idx → EReal := m ((c : Thread nD τ).loc main_arg0)
abbrev X1 : S3x1024.Idx → EReal := m ((c : Thread nD τ).loc main_arg1)
abbrev X2 : S1x1024.Idx → EReal := m ((c : Thread nD τ).loc main_arg2)
abbrev X3 : S2304x2048.Idx → EReal := m ((c : Thread nD τ).loc main_arg3)

theorem blk0 (t : Fin cfg0.N) : Is1 (iblk m c 0 t) fun r l => Z (X0 m c) 2 r (128 * t.val + l) := fun j => by
  have hi : win0_0.index t 0 = 2 ∧ win0_0.index t 1 = 0 ∧ win0_0.index t 2 = t.val :=
    (by decide +kernel : ∀ t : Fin grid0.N, win0_0.index t 0 = 2 ∧ win0_0.index t 1 = 0 ∧ win0_0.index t 2 = t.val) t
  have hj : (j 0).val < 1 := (j 0).isLt
  unfold iblk
  rw [View.read_apply]
  exact (read3 _ _ (by show win0_0.index t 0 * 1 + 1 * (j 0).val = 2; omega) (by show win0_0.index t 1 * 2304 + 1 * (j 1).val = (j 1).val; omega)
    (by show win0_0.index t 2 * 128 + 1 * (j 2).val = 128 * t.val + (j 2).val; omega)).trans (congrArg (fun x : S6x2304x1024.Idx → EReal => at3 x _ _ _) (V_main_arg0 m c))

theorem blk1 (t : Fin cfg0.N) : Is1 (iblk m c 1 t) fun r l => Z (X0 m c) 3 r (128 * t.val + l) := fun j => by
  have hi : win0_1.index t 0 = 3 ∧ win0_1.index t 1 = 0 ∧ win0_1.index t 2 = t.val :=
    (by decide +kernel : ∀ t : Fin grid0.N, win0_1.index t 0 = 3 ∧ win0_1.index t 1 = 0 ∧ win0_1.index t 2 = t.val) t
  have hj : (j 0).val < 1 := (j 0).isLt
  unfold iblk
  rw [View.read_apply]
  exact (read3 _ _ (by show win0_1.index t 0 * 1 + 1 * (j 0).val = 3; omega) (by show win0_1.index t 1 * 2304 + 1 * (j 1).val = (j 1).val; omega)
    (by show win0_1.index t 2 * 128 + 1 * (j 2).val = 128 * t.val + (j 2).val; omega)).trans (congrArg (fun x : S6x2304x1024.Idx → EReal => at3 x _ _ _) (V_main_arg0 m c))

theorem blk2 (t : Fin cfg0.N) : Is1 (iblk m c 2 t) fun r l => Z (X0 m c) 4 r (128 * t.val + l) := fun j => by
  have hi : win0_2.index t 0 = 4 ∧ win0_2.index t 1 = 0 ∧ win0_2.index t 2 = t.val :=
    (by decide +kernel : ∀ t : Fin grid0.N, win0_2.index t 0 = 4 ∧ win0_2.index t 1 = 0 ∧ win0_2.index t 2 = t.val) t
  have hj : (j 0).val < 1 := (j 0).isLt
  unfold iblk
  rw [View.read_apply]
  exact (read3 _ _ (by show win0_2.index t 0 * 1 + 1 * (j 0).val = 4; omega) (by show win0_2.index t 1 * 2304 + 1 * (j 1).val = (j 1).val; omega)
    (by show win0_2.index t 2 * 128 + 1 * (j 2).val = 128 * t.val + (j 2).val; omega)).trans (congrArg (fun x : S6x2304x1024.Idx → EReal => at3 x _ _ _) (V_main_arg0 m c))

theorem blk3 (t : Fin cfg0.N) : Is1 (iblk m c 3 t) fun r l => Z (X0 m c) 5 r (128 * t.val + l) := fun j => by
  have hi : win0_3.index t 0 = 5 ∧ win0_3.index t 1 = 0 ∧ win0_3.index t 2 = t.val :=
    (by decide +kernel : ∀ t : Fin grid0.N, win0_3.index t 0 = 5 ∧ win0_3.index t 1 = 0 ∧ win0_3.index t 2 = t.val) t
  have hj : (j 0).val < 1 := (j 0).isLt
  unfold iblk
  rw [View.read_apply]
  exact (read3 _ _ (by show win0_3.index t 0 * 1 + 1 * (j 0).val = 5; omega) (by show win0_3.index t 1 * 2304 + 1 * (j 1).val = (j 1).val; omega)
    (by show win0_3.index t 2 * 128 + 1 * (j 2).val = 128 * t.val + (j 2).val; omega)).trans (congrArg (fun x : S6x2304x1024.Idx → EReal => at3 x _ _ _) (V_main_arg0 m c))

theorem blk4 (t : Fin cfg0.N) : Is (iblk m c 4 t) fun r l => W (X1 m c) r (128 * t.val + l) := fun j => by
  have hi : win0_4.index t 0 = 0 ∧ win0_4.index t 1 = t.val := (by decide +kernel : ∀ t : Fin grid0.N, win0_4.index t 0 = 0 ∧ win0_4.index t 1 = t.val) t
  have hj : (j 0).val < 3 := (j 0).isLt
  unfold iblk
  rw [View.read_apply]
  exact (read2 _ _ (by show win0_4.index t 0 * 3 + 1 * (j 0).val = (j 0).val; omega) (by show win0_4.index t 1 * 128 + 1 * (j 1).val = 128 * t.val + (j 1).val; omega)).trans
    (congrArg (fun x : S3x1024.Idx → EReal => at2 x _ _) (V_main_arg1 m c))

theorem blk5 (t : Fin cfg0.N) : Is (iblk m c 5 t) fun _ l => B (X2 m c) (128 * t.val + l) := fun j => by
  have hi : win0_5.index t 0 = 0 ∧ win0_5.index t 1 = t.val := (by decide +kernel : ∀ t : Fin grid0.N, win0_5.index t 0 = 0 ∧ win0_5.index t 1 = t.val) t
  have hj : (j 0).val < 1 := (j 0).isLt
  unfold iblk
  rw [View.read_apply]
  exact (read2 _ _ (by show win0_5.index t 0 * 1 + 1 * (j 0).val = 0; omega) (by show win0_5.index t 1 * 128 + 1 * (j 1).val = 128 * t.val + (j 1).val; omega)).trans
    (congrArg (fun x : S1x1024.Idx → EReal => at2 x _ _) (V_main_arg2 m c))

/-- The result. -/
def G6 : Buf (Elt Ideal) ((c : Thread nD τ).loc main_v0) := fun i : S2304x2048.Idx => halves (at2 (X3 m c)) (Z (X0 m c)) (W (X1 m c)) (B (X2 m c)) (i 0).val (i 1).val

theorem G6_at (i : S2304x2048.Idx) {r q : ℕ} (h0 : (i 0).val = r) (h1 : (i 1).val = 1024 + q) : G6 m c i = mixed (Z (X0 m c)) (W (X1 m c)) (B (X2 m c)) r q := by
  unfold G6 halves
  rw [if_neg (by omega), h0, h1, Nat.add_sub_cancel_left]

theorem flushed6_eq (t : Fin cfg0.N) (hf : (cfg0.win 6).flush t = true) : (dats m 0 c).flushed 6 t = ((cfg0.win 6).blk t).view.read (Elt Ideal) (G6 m c) := by
  have hi : win0_6.index t 0 = 0 ∧ win0_6.index t 1 = t.val + 8 := (by decide +kernel : ∀ t : Fin grid0.N, win0_6.index t 0 = 0 ∧ win0_6.index t 1 = t.val + 8) t
  rw [Value.flushed6_A]
  funext j
  rw [View.read_apply]
  refine (outA (z := fun s r l => Z (X0 m c) s r (128 * t.val + l)) (w := fun r l => W (X1 m c) r (128 * t.val + l)) (b := fun l => B (X2 m c) (128 * t.val + l)) c (grid0.coords t) _ _ _ _ _ _ _ _ _ _ _ _ _ _
    (blk0 m c t) (blk1 m c t) (blk2 m c t) (blk3 m c t) (blk4 m c t) (blk5 m c t) j).trans ?_
  refine Eq.trans ?_ (cast_eq _ _).symm
  refine Eq.trans ?_ (G6_at m c _ (r := (j 0).val) (q := 128 * t.val + (j 1).val) (by show win0_6.index t 0 * 2304 + 1 * (j 0).val = _; omega)
    (by show win0_6.index t 1 * 128 + 1 * (j 1).val = _; omega)).symm
  rfl

/-- What the array holds when the kernel begins: the array given. -/
theorem entry_is : V m c main_v0 = m ((c : Thread nD τ).loc main_arg3) := by
  show StableHlo.after hostOps0 (fun b => m (c, b)) (Proc.devRef .tc main_v0) = _
  unfold hostOps0
  simp only [StableHlo.after_cons, StableHlo.after_nil]
  exact (StableHlo.unary_result ..)

theorem final6 : (dats m 0 c).arrAt 6 cfg0.N = G6 m c := by
  funext i
  have h0 : (i 0).val < 2304 := (i 0).isLt
  have h1 : (i 1).val < 2048 := (i 1).isLt
  have hN : cfg0.N = 8 := by decide +kernel
  rw [(dats m 0 c).arrAt_eq_piecewise 6 (G6 m c) (flushed6_eq m c) i]
  split
  · rfl
  · rename_i hn
    rw [A_eq]
    refine (congrFun (entry_is m c) i).trans ?_
    by_cases h : (i 1).val < 1024
    · unfold G6 halves
      rw [if_pos h]
      exact read2 (X3 m c) i rfl rfl
    · refine absurd ?_ hn
      let t : Fin cfg0.N := ⟨(i 1).val / 128 - 8, by omega⟩
      have ht : t.val = (i 1).val / 128 - 8 := rfl
      have hi : win0_6.index t 0 = 0 ∧ win0_6.index t 1 = t.val + 8 := (by decide +kernel : ∀ t : Fin grid0.N, win0_6.index t 0 = 0 ∧ win0_6.index t 1 = t.val + 8) t
      refine ⟨t, flush0_6 t, ?_⟩
      show i ∈ ((View.whole main_v0).slice (win0_6.rect t)).set
      rw [View.set_slice_whole, Rect.mem_set_unit]
      intro a
      match a with
      | ⟨0, _⟩ => show win0_6.index t 0 * 2304 ≤ (i 0).val ∧ (i 0).val < win0_6.index t 0 * 2304 + 2304; omega
      | ⟨1, _⟩ => show win0_6.index t 1 * 128 ≤ (i 1).val ∧ (i 1).val < win0_6.index t 1 * 128 + 128; omega

end Cert.ConvFIdeal.At

namespace Cert.Proof.ConvF

open Idealize.ShloMosaic Idealize.SL.Sem Cert.Mix Cert.ConvFIdeal.At

section
open Cert.ConvFRefIdeal Cert.ConvFRefIdeal.Read

variable (x0 : FVec Ideal S6x2304x1024 .f32) (x1 : FVec Ideal S3x1024 .f32) (x2 : FVec Ideal S1x1024 .f32) (x3 : FVec Ideal S2304x2048 .bf16)

namespace C

theorem bx_at (i : S1x256x1024.Idx) : val_main_v1 (F := Ideal) x0 i = Z x0 2 (0 + (i 1).val) (i 2).val := by
  have h0 : (i 0).val < 1 := (i 0).isLt
  rw [val_main_v1_apply]
  exact read3 x0 _ (by show 2 + (i 0).val = 2; omega) (by first | rfl | (show (i 1).val = 0 + (i 1).val; omega)) rfl

theorem bb_at (i : S1x256x1024.Idx) : val_main_v2 (F := Ideal) x0 i = Z x0 3 (0 + (i 1).val) (i 2).val := by
  have h0 : (i 0).val < 1 := (i 0).isLt
  rw [val_main_v2_apply]
  exact read3 x0 _ (by show 3 + (i 0).val = 3; omega) (by first | rfl | (show (i 1).val = 0 + (i 1).val; omega)) rfl

theorem bc_at (i : S1x256x1024.Idx) : val_main_v3 (F := Ideal) x0 i = Z x0 4 (0 + (i 1).val) (i 2).val := by
  have h0 : (i 0).val < 1 := (i 0).isLt
  rw [val_main_v3_apply]
  exact read3 x0 _ (by show 4 + (i 0).val = 4; omega) (by first | rfl | (show (i 1).val = 0 + (i 1).val; omega)) rfl

theorem bg_at (i : S1x256x1024.Idx) : val_main_v4 (F := Ideal) x0 i = Z x0 5 (0 + (i 1).val) (i 2).val := by
  have h0 : (i 0).val < 1 := (i 0).isLt
  rw [val_main_v4_apply]
  exact read3 x0 _ (by show 5 + (i 0).val = 5; omega) (by first | rfl | (show (i 1).val = 0 + (i 1).val; omega)) rfl

theorem tt_at (i : S1x256x1024.Idx) : val_main_v6 (F := Ideal) x0 i = tt (Z x0) (0 + (i 1).val) (i 2).val := by
  rw [val_main_v6_apply, bc_at, bx_at]; rfl

theorem zero_at (i : S1x1x1024.Idx) : val_main_v8 (F := Ideal) i = (0 : EReal) := by
  rw [val_main_v8_apply]; exact Ideal.ofBits_zero_f32

theorem cat_at (i : S1x258x1024.Idx) : val_main_v9 (F := Ideal) x0 i = if (i 1).val = 0 ∨ (i 1).val = 256 + 1 then (0 : EReal) else tt (Z x0) (0 + ((i 1).val - 1)) (i 2).val := by
  unfold val_main_v9
  exact cat3 (n := 256) _ _ _ rfl zero_at (f := fun r l => tt (Z x0) (0 + r) l) (tt_at x0) i

theorem prev_at (i : S1x256x1024.Idx) : val_main_v10 (F := Ideal) x0 i = prev (Z x0) (0 + (i 1).val) (i 2).val := by
  have h1 : (i 1).val < 256 := (i 1).isLt
  rw [val_main_v10_apply, cat_at]
  show (if (i 1).val = 0 ∨ (i 1).val = 256 + 1 then (0 : EReal) else tt (Z x0) (0 + ((i 1).val - 1)) (i 2).val) = if 0 + (i 1).val = 0 ∨ 0 + (i 1).val = 256 then 0 else tt (Z x0) (0 + (i 1).val - 1) (i 2).val
  by_cases h : (i 1).val = 0
  · rw [if_pos (by omega), if_pos (by omega)]
  · rw [if_neg (by omega), if_neg (by omega)]; exact congrArg (tt (Z x0) · _) (by omega)

theorem mid_at (i : S1x256x1024.Idx) : val_main_v16 (F := Ideal) x0 i = tt (Z x0) (0 + (i 1).val) (i 2).val := by
  have h1 : (i 1).val < 256 := (i 1).isLt
  rw [val_main_v16_apply, cat_at]
  show (if 1 + (i 1).val = 0 ∨ 1 + (i 1).val = 256 + 1 then (0 : EReal) else tt (Z x0) (0 + (1 + (i 1).val - 1)) (i 2).val) = _
  rw [if_neg (by omega)]; exact congrArg (tt (Z x0) · _) (by omega)

theorem next_at (i : S1x256x1024.Idx) : val_main_v23 (F := Ideal) x0 i = next (Z x0) (0 + (i 1).val) (i 2).val := by
  have h1 : (i 1).val < 256 := (i 1).isLt
  rw [val_main_v23_apply, cat_at]
  show (if 2 + (i 1).val = 0 ∨ 2 + (i 1).val = 256 + 1 then (0 : EReal) else tt (Z x0) (0 + (2 + (i 1).val - 1)) (i 2).val) = if 0 + (i 1).val = 255 ∨ 0 + (i 1).val = 2303 then 0 else tt (Z x0) (0 + (i 1).val + 1) (i 2).val
  by_cases h : (i 1).val = 256 - 1
  · rw [if_pos (by omega), if_pos (by omega)]
  · rw [if_neg (by omega), if_neg (by omega)]; exact congrArg (tt (Z x0) · _) (by omega)

theorem w0_at (i : S1x256x1024.Idx) : val_main_v14 (F := Ideal) x1 i = at2 (a := 3) (b := 1024) x1 0 (i 2).val := by
  rw [val_main_v14_apply, val_main_v13_apply, val_main_v12_apply, val_main_v11_apply]
  exact read2 x1 _ rfl (Nat.mod_eq_of_lt (i 2).isLt)

theorem w1_at (i : S1x256x1024.Idx) : val_main_v20 (F := Ideal) x1 i = at2 (a := 3) (b := 1024) x1 1 (i 2).val := by
  rw [val_main_v20_apply, val_main_v19_apply, val_main_v18_apply, val_main_v17_apply]
  exact read2 x1 _ rfl (Nat.mod_eq_of_lt (i 2).isLt)

theorem w2_at (i : S1x256x1024.Idx) : val_main_v27 (F := Ideal) x1 i = at2 (a := 3) (b := 1024) x1 2 (i 2).val := by
  rw [val_main_v27_apply, val_main_v26_apply, val_main_v25_apply, val_main_v24_apply]
  exact read2 x1 _ rfl (Nat.mod_eq_of_lt (i 2).isLt)

theorem bias_at (i : S1x256x1024.Idx) : val_main_v31 (F := Ideal) x2 i = at2 (a := 1) (b := 1024) x2 0 (i 2).val := by
  rw [val_main_v31_apply, val_main_v30_apply, val_main_v5_apply]
  exact read2 x2 _ rfl (Nat.mod_eq_of_lt (i 2).isLt)

theorem cv_at (i : S1x256x1024.Idx) : val_main_v32 (F := Ideal) x0 x1 x2 i = cv (Z x0) (W x1) (B x2) (0 + (i 1).val) (i 2).val := by
  rw [val_main_v32_apply, val_main_v29_apply, val_main_v22_apply, val_main_v15_apply, val_main_v21_apply, val_main_v28_apply, prev_at, mid_at, next_at, w0_at, w1_at, w2_at, bias_at]; rfl

theorem gated_at (i : S1x256x1024.Idx) : val_main_v34 (F := Ideal) x0 i = Z x0 5 (0 + (i 1).val) (i 2).val * sg (Z x0) (0 + (i 1).val) (i 2).val := by
  rw [val_main_v34_apply, val_main_call0_v5_apply, val_main_call0_v4_apply, val_main_call0_cst_0_apply, val_main_call0_v3_apply, val_main_call0_v2_apply, val_main_call0_cst_apply,
    val_main_call0_v1_apply, val_main_call0_v0_apply, bg_at]
  show Z x0 5 (0 + (i 1).val) (i 2).val * Ideal.div (Ideal.ofBits .f32 0x3F800000#32) (Ideal.ofBits .f32 0x3F800000#32 + Ideal.exp (-Z x0 5 (0 + (i 1).val) (i 2).val)) = _
  rw [Ideal.ofBits_one_f32]; rfl

theorem mixed_at (i : S256x1024.Idx) : val_main_v71 (F := Ideal) x0 x1 x2 i = mixed (Z x0) (W x1) (B x2) (0 + (i 0).val) (i 1).val := by
  have h0 : (i 0).val < 256 := (i 0).isLt
  have h1 : (i 1).val < 1024 := (i 1).isLt
  rw [val_main_v71_apply, val_main_v35_apply, val_main_v33_apply, bb_at, cv_at, gated_at]
  show mixed (Z x0) (W x1) (B x2) (0 + ((i 0).val * 1024 + (i 1).val) / 1024 % 256) (((i 0).val * 1024 + (i 1).val) % 1024) = _
  exact congrArg₂ (mixed (Z x0) (W x1) (B x2)) (by omega) (by omega)

end C

namespace L

theorem bx_at (i : S1x2048x1024.Idx) : val_main_v36 (F := Ideal) x0 i = Z x0 2 (256 + (i 1).val) (i 2).val := by
  have h0 : (i 0).val < 1 := (i 0).isLt
  rw [val_main_v36_apply]
  exact read3 x0 _ (by show 2 + (i 0).val = 2; omega) (by first | rfl | (show (i 1).val = 0 + (i 1).val; omega)) rfl

theorem bb_at (i : S1x2048x1024.Idx) : val_main_v37 (F := Ideal) x0 i = Z x0 3 (256 + (i 1).val) (i 2).val := by
  have h0 : (i 0).val < 1 := (i 0).isLt
  rw [val_main_v37_apply]
  exact read3 x0 _ (by show 3 + (i 0).val = 3; omega) (by first | rfl | (show (i 1).val = 0 + (i 1).val; omega)) rfl

theorem bc_at (i : S1x2048x1024.Idx) : val_main_v38 (F := Ideal) x0 i = Z x0 4 (256 + (i 1).val) (i 2).val := by
  have h0 : (i 0).val < 1 := (i 0).isLt
  rw [val_main_v38_apply]
  exact read3 x0 _ (by show 4 + (i 0).val = 4; omega) (by first | rfl | (show (i 1).val = 0 + (i 1).val; omega)) rfl

theorem bg_at (i : S1x2048x1024.Idx) : val_main_v39 (F := Ideal) x0 i = Z x0 5 (256 + (i 1).val) (i 2).val := by
  have h0 : (i 0).val < 1 := (i 0).isLt
  rw [val_main_v39_apply]
  exact read3 x0 _ (by show 5 + (i 0).val = 5; omega) (by first | rfl | (show (i 1).val = 0 + (i 1).val; omega)) rfl

theorem tt_at (i : S1x2048x1024.Idx) : val_main_v41 (F := Ideal) x0 i = tt (Z x0) (256 + (i 1).val) (i 2).val := by
  rw [val_main_v41_apply, bc_at, bx_at]; rfl

theorem zero_at (i : S1x1x1024.Idx) : val_main_v43 (F := Ideal) i = (0 : EReal) := by
  rw [val_main_v43_apply]; exact Ideal.ofBits_zero_f32

theorem cat_at (i : S1x2050x1024.Idx) : val_main_v44 (F := Ideal) x0 i = if (i 1).val = 0 ∨ (i 1).val = 2048 + 1 then (0 : EReal) else tt (Z x0) (256 + ((i 1).val - 1)) (i 2).val := by
  unfold val_main_v44
  exact cat3 (n := 2048) _ _ _ rfl zero_at (f := fun r l => tt (Z x0) (256 + r) l) (tt_at x0) i

theorem prev_at (i : S1x2048x1024.Idx) : val_main_v45 (F := Ideal) x0 i = prev (Z x0) (256 + (i 1).val) (i 2).val := by
  have h1 : (i 1).val < 2048 := (i 1).isLt
  rw [val_main_v45_apply, cat_at]
  show (if (i 1).val = 0 ∨ (i 1).val = 2048 + 1 then (0 : EReal) else tt (Z x0) (256 + ((i 1).val - 1)) (i 2).val) = if 256 + (i 1).val = 0 ∨ 256 + (i 1).val = 256 then 0 else tt (Z x0) (256 + (i 1).val - 1) (i 2).val
  by_cases h : (i 1).val = 0
  · rw [if_pos (by omega), if_pos (by omega)]
  · rw [if_neg (by omega), if_neg (by omega)]; exact congrArg (tt (Z x0) · _) (by omega)

theorem mid_at (i : S1x2048x1024.Idx) : val_main_v51 (F := Ideal) x0 i = tt (Z x0) (256 + (i 1).val) (i 2).val := by
  have h1 : (i 1).val < 2048 := (i 1).isLt
  rw [val_main_v51_apply, cat_at]
  show (if 1 + (i 1).val = 0 ∨ 1 + (i 1).val = 2048 + 1 then (0 : EReal) else tt (Z x0) (256 + (1 + (i 1).val - 1)) (i 2).val) = _
  rw [if_neg (by omega)]; exact congrArg (tt (Z x0) · _) (by omega)

theorem next_at (i : S1x2048x1024.Idx) : val_main_v58 (F := Ideal) x0 i = next (Z x0) (256 + (i 1).val) (i 2).val := by
  have h1 : (i 1).val < 2048 := (i 1).isLt
  rw [val_main_v58_apply, cat_at]
  show (if 2 + (i 1).val = 0 ∨ 2 + (i 1).val = 2048 + 1 then (0 : EReal) else tt (Z x0) (256 + (2 + (i 1).val - 1)) (i 2).val) = if 256 + (i 1).val = 255 ∨ 256 + (i 1).val = 2303 then 0 else tt (Z x0) (256 + (i 1).val + 1) (i 2).val
  by_cases h : (i 1).val = 2048 - 1
  · rw [if_pos (by omega), if_pos (by omega)]
  · rw [if_neg (by omega), if_neg (by omega)]; exact congrArg (tt (Z x0) · _) (by omega)

theorem w0_at (i : S1x2048x1024.Idx) : val_main_v49 (F := Ideal) x1 i = at2 (a := 3) (b := 1024) x1 0 (i 2).val := by
  rw [val_main_v49_apply, val_main_v48_apply, val_main_v47_apply, val_main_v46_apply]
  exact read2 x1 _ rfl (Nat.mod_eq_of_lt (i 2).isLt)

theorem w1_at (i : S1x2048x1024.Idx) : val_main_v55 (F := Ideal) x1 i = at2 (a := 3) (b := 1024) x1 1 (i 2).val := by
  rw [val_main_v55_apply, val_main_v54_apply, val_main_v53_apply, val_main_v52_apply]
  exact read2 x1 _ rfl (Nat.mod_eq_of_lt (i 2).isLt)

theorem w2_at (i : S1x2048x1024.Idx) : val_main_v62 (F := Ideal) x1 i = at2 (a := 3) (b := 1024) x1 2 (i 2).val := by
  rw [val_main_v62_apply, val_main_v61_apply, val_main_v60_apply, val_main_v59_apply]
  exact read2 x1 _ rfl (Nat.mod_eq_of_lt (i 2).isLt)

theorem bias_at (i : S1x2048x1024.Idx) : val_main_v66 (F := Ideal) x2 i = at2 (a := 1) (b := 1024) x2 0 (i 2).val := by
  rw [val_main_v66_apply, val_main_v65_apply, val_main_v40_apply]
  exact read2 x2 _ rfl (Nat.mod_eq_of_lt (i 2).isLt)

theorem cv_at (i : S1x2048x1024.Idx) : val_main_v67 (F := Ideal) x0 x1 x2 i = cv (Z x0) (W x1) (B x2) (256 + (i 1).val) (i 2).val := by
  rw [val_main_v67_apply, val_main_v64_apply, val_main_v57_apply, val_main_v50_apply, val_main_v56_apply, val_main_v63_apply, prev_at, mid_at, next_at, w0_at, w1_at, w2_at, bias_at]; rfl

theorem gated_at (i : S1x2048x1024.Idx) : val_main_v69 (F := Ideal) x0 i = Z x0 5 (256 + (i 1).val) (i 2).val * sg (Z x0) (256 + (i 1).val) (i 2).val := by
  rw [val_main_v69_apply, val_main_call1_v5_apply, val_main_call1_v4_apply, val_main_call1_cst_0_apply, val_main_call1_v3_apply, val_main_call1_v2_apply, val_main_call1_cst_apply,
    val_main_call1_v1_apply, val_main_call1_v0_apply, bg_at]
  show Z x0 5 (256 + (i 1).val) (i 2).val * Ideal.div (Ideal.ofBits .f32 0x3F800000#32) (Ideal.ofBits .f32 0x3F800000#32 + Ideal.exp (-Z x0 5 (256 + (i 1).val) (i 2).val)) = _
  rw [Ideal.ofBits_one_f32]; rfl

theorem mixed_at (i : S2048x1024.Idx) : val_main_v72 (F := Ideal) x0 x1 x2 i = mixed (Z x0) (W x1) (B x2) (256 + (i 0).val) (i 1).val := by
  have h0 : (i 0).val < 2048 := (i 0).isLt
  have h1 : (i 1).val < 1024 := (i 1).isLt
  rw [val_main_v72_apply, val_main_v70_apply, val_main_v68_apply, bb_at, cv_at, gated_at]
  show mixed (Z x0) (W x1) (B x2) (256 + ((i 0).val * 1024 + (i 1).val) / 1024 % 2048) (((i 0).val * 1024 + (i 1).val) % 1024) = _
  exact congrArg₂ (mixed (Z x0) (W x1) (B x2)) (by omega) (by omega)

end L

theorem whole_at (i : S2304x1024.Idx) : val_main_v74 (F := Ideal) x0 x1 x2 i = mixed (Z x0) (W x1) (B x2) (i 0).val (i 1).val := by
  rw [val_main_v74_apply]
  unfold val_main_v73
  refine Norm.rows_joined _ _ _ (fun j => (C.mixed_at x0 x1 x2 j).trans (congrArg₂ (mixed (Z x0) (W x1) (B x2)) (Nat.zero_add _) rfl)) (fun j => L.mixed_at x0 x1 x2 j) i

theorem host6 : val_main_v75 (F := Ideal) x0 x1 x2 x3 = fun i : S2304x2048.Idx => halves (at2 x3) (Z x0) (W x1) (B x2) (i 0).val (i 1).val := by
  funext i
  have h0 : (i 0).val < 2304 := (i 0).isLt
  have h1 : (i 1).val < 2048 := (i 1).isLt
  unfold val_main_v75 halves
  split
  · rename_i h
    refine (concatenate_pair_apply_left (1 : Fin 2) (val_main_v0 (F := Ideal) x3) (val_main_v74 (F := Ideal) x0 x1 x2) _ i rfl (ValueIdx.ix2 ⟨(i 0).val, h0⟩ ⟨(i 1).val, h⟩) fun e => ?_).trans ?_
    · match e with
      | ⟨0, _⟩ => rfl
      | ⟨1, _⟩ => rfl
    · rw [val_main_v0_apply]
      exact read2 x3 _ rfl rfl
  · rename_i h
    refine (concatenate_pair_apply_right (1 : Fin 2) (val_main_v0 (F := Ideal) x3) (val_main_v74 (F := Ideal) x0 x1 x2) _ i rfl rfl (ValueIdx.ix2 ⟨(i 0).val, h0⟩ ⟨(i 1).val - 1024, by omega⟩) (fun e he => ?_) ?_).trans ?_
    · match e with
      | ⟨0, _⟩ => rfl
      | ⟨1, _⟩ => exact absurd rfl he
    · show (i 1).val - 1024 + 1024 = (i 1).val; omega
    · exact whole_at x0 x1 x2 _

/-- The result where the arguments are the kernel's. -/
theorem host_of (V0 : Valuation τ sig (Elt Ideal)) (e0 : V0 (Proc.devRef .tc main_arg0) = x0) (e1 : V0 (Proc.devRef .tc main_arg1) = x1) (e2 : V0 (Proc.devRef .tc main_arg2) = x2)
    (e3 : V0 (Proc.devRef .tc main_arg3) = x3) :
    val_main_v75 (F := Ideal) (V0 (Proc.devRef .tc main_arg0)) (V0 (Proc.devRef .tc main_arg1)) (V0 (Proc.devRef .tc main_arg2)) (V0 (Proc.devRef .tc main_arg3))
      = fun i : S2304x2048.Idx => halves (at2 x3) (Z x0) (W x1) (B x2) (i 0).val (i 1).val := by
  rw [e0, e1, e2, e3]
  exact host6 x0 x1 x2 x3

end

theorem frame : Cert.quiescent_ConvFRefIdeal := fun m g _ =>
  (θ_run (ConvFRefIdeal.defs (F := Ideal)) _ _).mono
    (fun r h => ⟨fun c => (h c).2, Idealize.ShloMosaic.sem_eq_zero_of_no_sems (by decide) r.2⟩)
    (ConvFRefIdeal.Value.run (F := Ideal) m g)

theorem value : Cert.algebraic_ConvFIdeal_ConvFRefIdeal := by
  intro m g m' g' _ hag
  refine ⟨ConvFIdeal.At.G6 m,
    (θ_run ConvFIdeal.defs _ _).mono (fun r h c => ?_) (ConvFIdeal.Value.run_blocks (F := Ideal) m g),
    (θ_run ConvFRefIdeal.defs _ _).mono (fun r h c => ?_) (ConvFRefIdeal.Value.run (F := Ideal) m' g')⟩
  · obtain ⟨h0, h1⟩ := h c
    exact ⟨h0.trans (final6 m c), h1⟩
  · obtain ⟨h0, h1⟩ := h c
    obtain ⟨a0, a1, a2, a3⟩ := hag c
    exact ⟨(h0.trans (ConvFRefIdeal.Read.val_main_v75_eq _ _)).trans (host_of _ _ _ _ (StableHlo.launchContents m' c) a0 a1 a2 a3), h1⟩

end Cert.Proof.ConvF

end
-- ==== Proof.Small.lean ====
/-  The sum over the devices of the small gradients, with the sums of the two layers' latent rows below it. -/
module

public import proofs.«01_k».proof.Defs
public import proofs.«01_k».proof.Proof.Products
public import proofs.«01_k».proof.Proof.Gen.SmallIdeal.Value
public import proofs.«01_k».proof.Proof.Gen.SmallRefIdeal.Run
public import proofs.«01_k».proof.Proof.Gen.SmallRefIdeal.Read
public import Idealize.ShloMosaic.Lib.Claim
public import Idealize.ShloMosaic.Lib.Quiescent

@[expose] public section

noncomputable section

namespace Cert.SmallIdeal.At

open Cert.SmallIdeal Cert.SmallIdeal.Gen Cert.Mix Idealize.ShloMosaic Idealize.ShloMosaic.TcCoe Idealize.SL.Sem
open Cert.Products (Is Is1 drop_is)

/-- The sum over the devices, and the rows of the result. -/
def tot (x : ℕ → ℕ → ℕ → EReal) (r q : ℕ) : EReal := ∑ k : Fin 8, x k.val r q
def rows (x : ℕ → ℕ → ℕ → EReal) (r q : ℕ) : EReal :=
  if r < 24 then tot x r q else if r < 27 then tot x (r - 14) q + tot x (r - 11) q else if r < 30 then tot x (r - 11) q + tot x (r - 8) q else 0

theorem rows_tot (x : ℕ → ℕ → ℕ → EReal) {r s : ℕ} (q : ℕ) (hs : s = r) (h : r < 24) : rows x s q = tot x r q := by subst hs; exact if_pos h
theorem rows_lo (x : ℕ → ℕ → ℕ → EReal) {r s : ℕ} (q : ℕ) (hs : s = 24 + r) (h : r < 3) : rows x s q = tot x (10 + r) q + tot x (13 + r) q := by
  subst hs
  unfold rows
  rw [if_neg (by omega), if_pos (by omega), show 24 + r - 14 = 10 + r by omega, show 24 + r - 11 = 13 + r by omega]
theorem rows_hi (x : ℕ → ℕ → ℕ → EReal) {r s : ℕ} (q : ℕ) (hs : s = 27 + r) (h : r < 3) : rows x s q = tot x (16 + r) q + tot x (19 + r) q := by
  subst hs
  unfold rows
  rw [if_neg (by omega), if_neg (by omega), if_pos (by omega), show 27 + r - 11 = 16 + r by omega, show 27 + r - 8 = 19 + r by omega]
theorem rows_zero (x : ℕ → ℕ → ℕ → EReal) {r s : ℕ} (q : ℕ) (hs : s = 30 + r) : rows x s q = 0 := by
  subst hs
  unfold rows
  rw [if_neg (by omega), if_neg (by omega), if_neg (by omega)]

section Body

variable {x : ℕ → ℕ → ℕ → EReal} {v0 v1 v2 v3 v4 v5 v6 v7 : Vec Ideal S1x24x2048 .f32}
variable (h0 : Is1 v0 (x 0)) (h1 : Is1 v1 (x 1)) (h2 : Is1 v2 (x 2)) (h3 : Is1 v3 (x 3)) (h4 : Is1 v4 (x 4)) (h5 : Is1 v5 (x 5)) (h6 : Is1 v6 (x 6)) (h7 : Is1 v7 (x 7))
include h0 h1 h2 h3 h4 h5 h6 h7

theorem pay3_is : Is (k0_pay3 (F := Ideal) v0 v1 v2 v3 v4 v5 v6 v7) (tot x) := fun j => by
  have e : ∀ {k : ℕ} {v : Vec Ideal S1x24x2048 .f32} (h : Is1 v (x k)) (a b : EReal) (_ : a = b),
      a + shapeCast S24x2048 v shapeCasts_S1x24x2048_S24x2048 j = b + x k (j 0).val (j 1).val := fun h a b hab =>
    congrArg₂ (fun a b : EReal => a + b) hab (drop_is (φ := .f32) h _ j)
  refine Eq.trans ?_ (Fin.sum_univ_eight fun k : Fin 8 => x k.val (j 0).val (j 1).val).symm
  exact e h7 _ _ (e h6 _ _ (e h5 _ _ (e h4 _ _ (e h3 _ _ (e h2 _ _ (e h1 _ _ (drop_is (φ := .f32) h0 _ j)))))))

/-- Three of its rows. -/
theorem cut_is (o : ℕ) (hs) (j : S3x2048.Idx) :
    extractStridedSlice S3x2048 ![o, 0] (k0_pay3 (F := Ideal) v0 v1 v2 v3 v4 v5 v6 v7) hs j = tot x (o + (j 0).val) (j 1).val := by
  have hr : o + 3 ≤ 24 := hs.2 0
  have hj : (j 0).val < 3 := (j 0).isLt
  exact (extractStridedSlice_apply ![o, 0] _ hs j (ValueIdx.ix2 ⟨o + (j 0).val, by omega⟩ (j 1)) fun a => match a with
    | ⟨0, _⟩ => rfl
    | ⟨1, _⟩ => (Nat.zero_add _).symm).trans (pay3_is h0 h1 h2 h3 h4 h5 h6 h7 _)

theorem pay4_is : Is (k0_pay4 (F := Ideal) v0 v1 v2 v3 v4 v5 v6 v7) fun r q => tot x (10 + r) q + tot x (13 + r) q := fun j =>
  congrArg₂ (fun a b : EReal => a + b) (cut_is h0 h1 h2 h3 h4 h5 h6 h7 10 _ j) (cut_is h0 h1 h2 h3 h4 h5 h6 h7 13 _ j)

theorem pay1_is : Is (k0_pay1 (F := Ideal) (k0_pay5 v0 v1 v2 v3 v4 v5 v6 v7) (k0_pay6 v0 v1 v2 v3 v4 v5 v6 v7)) fun r q => tot x (16 + r) q + tot x (19 + r) q := fun j =>
  congrArg₂ (fun a b : EReal => a + b) (cut_is h0 h1 h2 h3 h4 h5 h6 h7 16 (by decide) j) (cut_is h0 h1 h2 h3 h4 h5 h6 h7 19 (by decide) j)

end Body

theorem outA (c : Dev nD) (a0 : Memref sig .tc .vmem S8x24x2048 .f32) (g0 : a0.IsWhole) (a1 : Memref sig .tc .vmem S32x2048 .f32) (g1 : a1.IsWhole) (X : Vec Ideal S8x24x2048 .f32) :
    Is (out0_A_1 c a0 g0 a1 g1 X) (rows (at3 (a := 8) (b := 24) (c := 2048) X)) := fun y => by
  unfold out0_A_1
  rw [View.read_writes_eq_canon _ _ _ (cover0_A_1 c a0 g0 a1 g1 X)]
  refine View.canon_apply_of_pieces (Val := Elt Ideal) (e := .f32) (fun y : S32x2048.Idx => rows (at3 (a := 8) (b := 24) (c := 2048) X) (y 0).val (y 1).val) _ ?_ y (cover0_A_1 c a0 g0 a1 g1 X y)
  unfold kernelRun0_A
  dsimp only
  sl_unfold_words
  simp only [View.readAt_eq_ld, g0.read_unread]
  have ld : ∀ (k : ℕ) (inb), Is1 (M := 24) (N := 2048) (View.ld (Val := Elt Ideal) X (Rect.unit (s := S8x24x2048) ![k, 0, 0] S1x24x2048.size inb)) (at3 (a := 8) (b := 24) (c := 2048) X k) := fun k inb j => by
    have hk : k + 1 ≤ 8 := inb 0
    have hj : (j 0).val < 1 := (j 0).isLt
    exact (View.ld_unit_apply_of X _ _ inb j (ValueIdx.ix3 ⟨k, by omega⟩ (j 1) (j 2)) fun a => match a with
      | ⟨0, _⟩ => by show k = k + (j 0).val; omega
      | ⟨1, _⟩ => (Nat.zero_add _).symm
      | ⟨2, _⟩ => (Nat.zero_add _).symm).trans (read3 _ _ rfl rfl rfl)
  intro pc hpc i
  rcases List.mem_cons.mp hpc with rfl | hpc
  · refine Eq.trans ?_ (rows_zero _ (r := (i 0).val) _ (by show 30 + 1 * (i 0).val = _; omega)).symm
    exact Ideal.ofBits_zero_f32
  rcases List.mem_cons.mp hpc with rfl | hpc
  · refine (pay1_is (ld 0 _) (ld 1 _) (ld 2 _) (ld 3 _) (ld 4 _) (ld 5 _) (ld 6 _) (ld 7 _) i).trans ?_
    refine (rows_hi _ (r := (i 0).val) _ (by show 27 + 1 * (i 0).val = _; omega) (i 0).isLt).symm.trans (congrArg (rows _ _) (by show (i 1).val = 0 + 1 * (i 1).val; omega))
  rcases List.mem_cons.mp hpc with rfl | hpc
  · refine (pay4_is (ld 0 _) (ld 1 _) (ld 2 _) (ld 3 _) (ld 4 _) (ld 5 _) (ld 6 _) (ld 7 _) i).trans ?_
    refine (rows_lo _ (r := (i 0).val) _ (by show 24 + 1 * (i 0).val = _; omega) (i 0).isLt).symm.trans (congrArg (rows _ _) (by show (i 1).val = 0 + 1 * (i 1).val; omega))
  rcases List.mem_cons.mp hpc with rfl | hpc
  · refine (pay3_is (ld 0 _) (ld 1 _) (ld 2 _) (ld 3 _) (ld 4 _) (ld 5 _) (ld 6 _) (ld 7 _) i).trans ?_
    refine (rows_tot _ (r := (i 0).val) _ (by show 0 + 1 * (i 0).val = _; omega) (i 0).isLt).symm.trans (congrArg (rows _ _) (by show (i 1).val = 0 + 1 * (i 1).val; omega))
  nomatch hpc

variable (m : (ℓ : Loc nD τ sig) → Buf (Elt Ideal) ℓ) (c : Dev nD)

/-- The argument. -/
abbrev X0 : S8x24x2048.Idx → EReal := m ((c : Thread nD τ).loc main_arg0)

theorem blk0 (t : Fin cfg0.N) : iblk m c 0 t = X0 m c := by
  have hi : win0_0.index t 0 = 0 ∧ win0_0.index t 1 = 0 ∧ win0_0.index t 2 = 0 := (by decide +kernel : ∀ t : Fin grid0.N, win0_0.index t 0 = 0 ∧ win0_0.index t 1 = 0 ∧ win0_0.index t 2 = 0) t
  funext j
  unfold iblk
  rw [View.read_apply]
  refine congrArg (X0 m c) (funext fun a => Fin.ext ?_)
  match a with
  | ⟨0, _⟩ => show win0_0.index t 0 * 8 + 1 * (j 0).val = (j 0).val; omega
  | ⟨1, _⟩ => show win0_0.index t 1 * 24 + 1 * (j 1).val = (j 1).val; omega
  | ⟨2, _⟩ => show win0_0.index t 2 * 2048 + 1 * (j 2).val = (j 2).val; omega

/-- The result. -/
def G1 : Buf (Elt Ideal) ((c : Thread nD τ).loc main_v0) := fun i : S32x2048.Idx => rows (at3 (X0 m c)) (i 0).val (i 1).val

theorem G1_at (i : S32x2048.Idx) {r q : ℕ} (h0 : (i 0).val = r) (h1 : (i 1).val = q) : G1 m c i = rows (at3 (X0 m c)) r q := by
  subst h0 h1
  rfl

theorem flushed1_eq (t : Fin cfg0.N) (hf : (cfg0.win 1).flush t = true) : (dats m 0 c).flushed 1 t = ((cfg0.win 1).blk t).view.read (Elt Ideal) (G1 m c) := by
  have hi : win0_1.index t 0 = 0 ∧ win0_1.index t 1 = 0 := (by decide +kernel : ∀ t : Fin grid0.N, win0_1.index t 0 = 0 ∧ win0_1.index t 1 = 0) t
  rw [Value.flushed1_A, blk0]
  funext j
  rw [View.read_apply]
  refine (outA c _ _ _ _ (X0 m c) j).trans ?_
  refine Eq.trans ?_ (cast_eq _ _).symm
  exact (G1_at m c _ (by show win0_1.index t 0 * 32 + 1 * (j 0).val = _; omega) (by show win0_1.index t 1 * 2048 + 1 * (j 1).val = _; omega)).symm

theorem final1 : (dats m 0 c).arrAt 1 cfg0.N = G1 m c := by
  funext i
  have h0 : (i 0).val < 32 := (i 0).isLt
  have h1 : (i 1).val < 2048 := (i 1).isLt
  let t : Fin cfg0.N := ⟨0, by decide +kernel⟩
  have hi : win0_1.index t 0 = 0 ∧ win0_1.index t 1 = 0 := (by decide +kernel : ∀ t : Fin grid0.N, win0_1.index t 0 = 0 ∧ win0_1.index t 1 = 0) t
  refine (dats m 0 c).arrAt_apply_of_mem 1 (G1 m c) (flushed1_eq m c) cfg0.N t i t.isLt (flush0_1 t) ?_
  show i ∈ ((View.whole main_v0).slice (win0_1.rect t)).set
  rw [View.set_slice_whole, Rect.mem_set_unit]
  intro a
  match a with
  | ⟨0, _⟩ => show win0_1.index t 0 * 32 ≤ (i 0).val ∧ (i 0).val < win0_1.index t 0 * 32 + 32; omega
  | ⟨1, _⟩ => show win0_1.index t 1 * 2048 ≤ (i 1).val ∧ (i 1).val < win0_1.index t 1 * 2048 + 2048; omega

end Cert.SmallIdeal.At

namespace Cert.Proof.Small

open Idealize.ShloMosaic Idealize.SL.Sem Cert.Mix Cert.SmallIdeal.At

section
open Cert.SmallRefIdeal Cert.SmallRefIdeal.Read

variable (x0 : FVec Ideal S8x24x2048 .f32)

theorem tot_at (i : S24x2048.Idx) : val_main_v0 (F := Ideal) x0 i = tot (at3 x0) (i 0).val (i 1).val := by
  rw [val_main_v0_apply, val_main_cst_apply]
  refine (congrArg (fun a : EReal => a + _) Ideal.ofBits_zero_f32).trans ((zero_add _).trans ?_)
  exact Finset.sum_congr rfl fun k _ => read3 x0 _ rfl rfl rfl

theorem lo_at (i : S3x2048.Idx) : val_main_v3 (F := Ideal) x0 i = tot (at3 x0) (10 + (i 0).val) (i 1).val + tot (at3 x0) (13 + (i 0).val) (i 1).val := by
  rw [val_main_v3_apply, val_main_v1_apply, val_main_v2_apply, tot_at, tot_at]; rfl

theorem hi_at (i : S3x2048.Idx) : val_main_v6 (F := Ideal) x0 i = tot (at3 x0) (16 + (i 0).val) (i 1).val + tot (at3 x0) (19 + (i 0).val) (i 1).val := by
  rw [val_main_v6_apply, val_main_v4_apply, val_main_v5_apply, tot_at, tot_at]; rfl

theorem zero_at (i : S2x2048.Idx) : val_main_v7 (F := Ideal) i = (0 : EReal) := by
  rw [val_main_v7_apply]; exact Ideal.ofBits_zero_f32

theorem host : val_main_v8 (F := Ideal) x0 = fun i : S32x2048.Idx => rows (at3 x0) (i 0).val (i 1).val := by
  funext i
  have h0 : (i 0).val < 32 := (i 0).isLt
  unfold val_main_v8
  have piece := concatenate_apply_piece (t := S32x2048) 0 [⟨S24x2048, val_main_v0 (F := Ideal) x0⟩, ⟨S3x2048, val_main_v3 (F := Ideal) x0⟩, ⟨S3x2048, val_main_v6 (F := Ideal) x0⟩, ⟨S2x2048, val_main_v7 (F := Ideal)⟩]
    SmallRefIdeal.Gen.facts.concatenates_S24x2048_S3x2048_S3x2048_S2x2048_S32x2048_d0 i
  by_cases c0 : (i 0).val < 24
  · refine (piece 0 (by show 0 < 4; omega) S24x2048 _ rfl rfl 0 rfl (ValueIdx.ix2 ⟨(i 0).val, c0⟩ (i 1)) (fun e he => ?_) (by show 0 + (i 0).val = (i 0).val; omega)).trans ?_
    · match e with
      | ⟨0, _⟩ => exact absurd rfl he
      | ⟨1, _⟩ => rfl
    · exact (tot_at x0 _).trans (rows_tot _ _ rfl c0).symm
  by_cases c1 : (i 0).val < 27
  · refine (piece 1 (by show 1 < 4; omega) S3x2048 _ rfl rfl 24 rfl (ValueIdx.ix2 ⟨(i 0).val - 24, by omega⟩ (i 1)) (fun e he => ?_) (by show 24 + ((i 0).val - 24) = (i 0).val; omega)).trans ?_
    · match e with
      | ⟨0, _⟩ => exact absurd rfl he
      | ⟨1, _⟩ => rfl
    · exact (lo_at x0 _).trans (rows_lo _ (r := (i 0).val - 24) _ (by omega) (by omega)).symm
  by_cases c2 : (i 0).val < 30
  · refine (piece 2 (by show 2 < 4; omega) S3x2048 _ rfl rfl 27 rfl (ValueIdx.ix2 ⟨(i 0).val - 27, by omega⟩ (i 1)) (fun e he => ?_) (by show 27 + ((i 0).val - 27) = (i 0).val; omega)).trans ?_
    · match e with
      | ⟨0, _⟩ => exact absurd rfl he
      | ⟨1, _⟩ => rfl
    · exact (hi_at x0 _).trans (rows_hi _ (r := (i 0).val - 27) _ (by omega) (by omega)).symm
  · refine (piece 3 (by show 3 < 4; omega) S2x2048 _ rfl rfl 30 rfl (ValueIdx.ix2 ⟨(i 0).val - 30, by omega⟩ (i 1)) (fun e he => ?_) (by show 30 + ((i 0).val - 30) = (i 0).val; omega)).trans ?_
    · match e with
      | ⟨0, _⟩ => exact absurd rfl he
      | ⟨1, _⟩ => rfl
    · exact (zero_at _).trans (rows_zero _ (r := (i 0).val - 30) _ (by omega)).symm

end

theorem frame : Cert.quiescent_SmallRefIdeal := fun m g _ =>
  (θ_run (SmallRefIdeal.defs (F := Ideal)) _ _).mono
    (fun r h => ⟨fun c => (h c).2, Idealize.ShloMosaic.sem_eq_zero_of_no_sems (by decide) r.2⟩)
    (SmallRefIdeal.Value.run (F := Ideal) m g)

theorem value : Cert.algebraic_SmallIdeal_SmallRefIdeal := by
  intro m g m' g' _ hag
  refine ⟨SmallIdeal.At.G1 m,
    (θ_run SmallIdeal.defs _ _).mono (fun r h c => ?_) (SmallIdeal.Value.run_blocks (F := Ideal) m g),
    (θ_run SmallRefIdeal.defs _ _).mono (fun r h c => ?_) (SmallRefIdeal.Value.run (F := Ideal) m' g')⟩
  · obtain ⟨h0, h1⟩ := h c
    exact ⟨h0.trans (final1 m c), h1⟩
  · obtain ⟨h0, h1⟩ := h c
    have e := hag c
    refine ⟨(h0.trans (SmallRefIdeal.Read.val_main_v8_eq _)).trans ((congrArg (SmallRefIdeal.Read.val_main_v8 (F := Ideal)) e).trans (host (SmallIdeal.At.X0 m c))), h1⟩

end Cert.Proof.Small

end
-- ==== Proof.NormPOut.lean ====
/-  What each store of the chained normalisation gradient's kernel leaves, as its payloads over the blocks. -/
module

public import proofs.«01_k».proof.Defs
public import proofs.«01_k».proof.Proof.NormBSum
public import proofs.«01_k».proof.Proof.Gen.NormPIdeal.Value
public import Idealize.ShloMosaic.Lib.WritesUnit
public import Idealize.ShloMosaic.Lib.Pipeline.ReadBack

@[expose] public section

noncomputable section

namespace Cert.NormPIdeal.At

open Cert.NormPIdeal Cert.NormPIdeal.Gen Cert.Mix Cert.Norm Idealize.ShloMosaic Idealize.ShloMosaic.TcCoe Idealize.SL.Sem
open Cert.Products (Is hz2)
open Cert.NormBIdeal.At (top bot)

/-- Whether the point is the context's; the scale and the gate of its rows. -/
abbrev first (i : grid0.Coords) : BitVec 1 := Scalar.cmpi .slt (BitVec.ofNat 32 (i 0).val) 1#32
abbrev SC (i : grid0.Coords) (x : Vec Ideal S2x2048 .f32) : Vec Ideal S1x2048 .f32 := k0_pay11 i (top x) (bot x)
abbrev GT (i : grid0.Coords) (x : Vec Ideal S2x2048 .f32) : Vec Ideal S1x2048 .f32 := k0_pay26 (first i) (top x) (bot x)

section
variable (c : Dev nD) (i : grid0.Coords) (a1 : Memref sig .tc .vmem S256x2048 .f32) (g1 : a1.IsWhole) (a2 : Memref sig .tc .vmem S256x2048 .f32) (g2 : a2.IsWhole) (a3 : Memref sig .tc .vmem S1x2048 .f32) (g3 : a3.IsWhole) (a4 : Memref sig .tc .vmem S2x2048 .f32) (g4 : a4.IsWhole) (a5 : Memref sig .tc .vmem S256x2048 .f32) (g5 : a5.IsWhole) (a6 : Memref sig .tc .vmem S256x2048 .f32) (g6 : a6.IsWhole) (a7 : Memref sig .tc .vmem S1x2048 .f32) (g7 : a7.IsWhole) (a8 : Memref sig .tc .vmem S2x2048 .f32) (g8 : a8.IsWhole) (a9 : Memref sig .tc .vmem S256x2048 .f32) (g9 : a9.IsWhole) (a10 : Memref sig .tc .vmem S1x2048 .f32) (g10 : a10.IsWhole) (a11 : Memref sig .tc .vmem S2x2048 .f32) (g11 : a11.IsWhole) (a12 : Memref sig .tc .vmem S2x2048 .f32) (g12 : a12.IsWhole) (a13 : Memref sig .tc .vmem S256x2048 .bf16) (g13 : a13.IsWhole) (a14 : Memref sig .tc .vmem S2x2048 .f32) (g14 : a14.IsWhole) (a15 : Memref sig .tc .vmem S1x2048 .f32) (g15 : a15.IsWhole)
  (x0 x1 x4 x5 : Vec Ideal S256x2048 .f32) (x2 x6 : Vec Ideal S1x2048 .f32) (x3 x7 : Vec Ideal S2x2048 .f32) (o9 o14 : Vec Ideal S1x2048 .f32) (o10 o11 o13 : Vec Ideal S2x2048 .f32)

theorem outA8 (hc : cond0_0 i) : out0_A_8 c i a1 g1 a2 g2 a3 g3 a4 g4 a5 g5 a6 g6 a7 g7 a8 g8 a9 g9 a10 g10 a11 g11 a12 g12 a13 g13 a14 g14 a15 g15 hc x0 x1 x2 x3 x4 x5 x6 x7 = k0_pay23 (first i) (k0_pay9 x0) (k0_pay10 x0) (k0_pay21 x1 x2 (SC i x3)) (k0_pay22 x1 x2 (k0_pay10 x0) (SC i x3)) x4 := by
  unfold out0_A_8
  rw [View.read_writes_eq_canon _ _ _ (cover0_A_8 c i a1 g1 a2 g2 a3 g3 a4 g4 a5 g5 a6 g6 a7 g7 a8 g8 a9 g9 a10 g10 a11 g11 a12 g12 a13 g13 a14 g14 a15 g15 hc x0 x1 x2 x3 x4 x5 x6 x7)]
  unfold kernelRun0_A
  dsimp only
  sl_unfold_words
  rw [View.canon_unit_zero (S := S256x2048) hz2]
  simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

theorem outA9 (hc : cond0_0 i) : out0_A_9 c i a1 g1 a2 g2 a3 g3 a4 g4 a5 g5 a6 g6 a7 g7 a8 g8 a9 g9 a10 g10 a11 g11 a12 g12 a13 g13 a14 g14 a15 g15 hc x0 x1 x2 x3 x4 x5 x6 x7 = k0_pay15 i x0 x1 (top x3) (bot x3) (k0_pay4 (F := Ideal)) := by
  unfold out0_A_9
  rw [View.read_writes_eq_canon _ _ _ (cover0_A_9 c i a1 g1 a2 g2 a3 g3 a4 g4 a5 g5 a6 g6 a7 g7 a8 g8 a9 g9 a10 g10 a11 g11 a12 g12 a13 g13 a14 g14 a15 g15 hc x0 x1 x2 x3 x4 x5 x6 x7)]
  unfold kernelRun0_A
  dsimp only
  sl_unfold_words
  rw [View.canon_cons_unit_zero (S := S1x2048) hz2, View.readCov_unit_zero (S := S1x2048) _ hz2]
  simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

theorem outA10 (hc : cond0_0 i) (y : S2x2048.Idx) :
    out0_A_10 c i a1 g1 a2 g2 a3 g3 a4 g4 a5 g5 a6 g6 a7 g7 a8 g8 a9 g9 a10 g10 a11 g11 a12 g12 a13 g13 a14 g14 a15 g15 hc x0 x1 x2 x3 x4 x5 x6 x7 y = if (y 0).val = 1 then k0_pay18 (first i) (k0_pay12 x1) (bot (k0_pay5 (F := Ideal))) (ix2 0 (y 1)) else k0_pay17 (first i) (k0_pay12 x1) (top (k0_pay5 (F := Ideal))) (ix2 0 (y 1)) := by
  unfold out0_A_10 kernelRun0_A
  dsimp only
  sl_unfold_words
  refine (read_row _ _ 1 rfl _ _ _ y).trans ?_
  refine if_ctx_congr Iff.rfl (fun _ => ?_) fun h => (read_row _ _ 0 rfl _ _ _ y).trans ((if_pos (by have h0 : (y 0).val < 2 := (y 0).isLt; omega)).trans ?_)
  · rw [View.readCov_skip (s := S2x2048) _ _ _ _ _ rfl, View.readCov_fill (s := S2x2048) _ _ _ _ _ (fun a => match a with | ⟨0, _⟩ => rfl | ⟨1, _⟩ => rfl)]
    simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]
  · rw [View.readCov_fill (s := S2x2048) _ _ _ _ _ (fun a => match a with | ⟨0, _⟩ => rfl | ⟨1, _⟩ => rfl)]
    simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

theorem outA11 (hc : cond0_0 i) (y : S2x2048.Idx) :
    out0_A_11 c i a1 g1 a2 g2 a3 g3 a4 g4 a5 g5 a6 g6 a7 g7 a8 g8 a9 g9 a10 g10 a11 g11 a12 g12 a13 g13 a14 g14 a15 g15 hc x0 x1 x2 x3 x4 x5 x6 x7 y = if (y 0).val = 1 then k0_pay20 (first i) (k0_pay14 x0 x1 x2) (bot (k0_pay6 (F := Ideal))) (ix2 0 (y 1)) else k0_pay19 (first i) (k0_pay14 x0 x1 x2) (top (k0_pay6 (F := Ideal))) (ix2 0 (y 1)) := by
  unfold out0_A_11 kernelRun0_A
  dsimp only
  sl_unfold_words
  refine (read_row _ _ 1 rfl _ _ _ y).trans ?_
  refine if_ctx_congr Iff.rfl (fun _ => ?_) fun h => (read_row _ _ 0 rfl _ _ _ y).trans ((if_pos (by have h0 : (y 0).val < 2 := (y 0).isLt; omega)).trans ?_)
  · rw [View.readCov_skip (s := S2x2048) _ _ _ _ _ rfl, View.readCov_fill (s := S2x2048) _ _ _ _ _ (fun a => match a with | ⟨0, _⟩ => rfl | ⟨1, _⟩ => rfl)]
    simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]
  · rw [View.readCov_fill (s := S2x2048) _ _ _ _ _ (fun a => match a with | ⟨0, _⟩ => rfl | ⟨1, _⟩ => rfl)]
    simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

theorem outA12 (hc : cond0_0 i) : out0_A_12 c i a1 g1 a2 g2 a3 g3 a4 g4 a5 g5 a6 g6 a7 g7 a8 g8 a9 g9 a10 g10 a11 g11 a12 g12 a13 g13 a14 g14 a15 g15 hc x0 x1 x2 x3 x4 x5 x6 x7 = k0_pay3 (k0_pay23 (first i) (k0_pay9 x0) (k0_pay10 x0) (k0_pay21 x1 x2 (SC i x3)) (k0_pay22 x1 x2 (k0_pay10 x0) (SC i x3)) x4) x6 (k0_pay24 x5) (k0_pay25 x5) (GT i x7) := by
  unfold out0_A_12
  rw [View.read_writes_eq_canon _ _ _ (cover0_A_12 c i a1 g1 a2 g2 a3 g3 a4 g4 a5 g5 a6 g6 a7 g7 a8 g8 a9 g9 a10 g10 a11 g11 a12 g12 a13 g13 a14 g14 a15 g15 hc x0 x1 x2 x3 x4 x5 x6 x7)]
  unfold kernelRun0_A
  dsimp only
  sl_unfold_words
  rw [View.canon_unit_zero (S := S256x2048) hz2]
  simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

theorem outA13 (hc : cond0_0 i) (y : S2x2048.Idx) :
    out0_A_13 c i a1 g1 a2 g2 a3 g3 a4 g4 a5 g5 a6 g6 a7 g7 a8 g8 a9 g9 a10 g10 a11 g11 a12 g12 a13 g13 a14 g14 a15 g15 hc x0 x1 x2 x3 x4 x5 x6 x7 y = if (y 0).val = 1 then k0_pay1 (first i) (k0_pay16 (F := Ideal)) (k0_pay28 (first i) (k0_pay9 x0) (k0_pay10 x0) (k0_pay21 x1 x2 (SC i x3)) (k0_pay22 x1 x2 (k0_pay10 x0) (SC i x3)) x4 x5 x6) (bot (k0_pay7 (F := Ideal))) (ix2 0 (y 1)) else k0_pay29 (first i) (k0_pay9 x0) (k0_pay10 x0) (k0_pay16 (F := Ideal)) (k0_pay21 x1 x2 (SC i x3)) (k0_pay22 x1 x2 (k0_pay10 x0) (SC i x3)) x4 x5 x6 (top (k0_pay7 (F := Ideal))) (ix2 0 (y 1)) := by
  unfold out0_A_13 kernelRun0_A
  dsimp only
  sl_unfold_words
  refine (read_row _ _ 1 rfl _ _ _ y).trans ?_
  refine if_ctx_congr Iff.rfl (fun _ => ?_) fun h => (read_row _ _ 0 rfl _ _ _ y).trans ((if_pos (by have h0 : (y 0).val < 2 := (y 0).isLt; omega)).trans ?_)
  · rw [View.readCov_skip (s := S2x2048) _ _ _ _ _ rfl, View.readCov_fill (s := S2x2048) _ _ _ _ _ (fun a => match a with | ⟨0, _⟩ => rfl | ⟨1, _⟩ => rfl)]
    simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]
  · rw [View.readCov_fill (s := S2x2048) _ _ _ _ _ (fun a => match a with | ⟨0, _⟩ => rfl | ⟨1, _⟩ => rfl)]
    simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

theorem outA14 (hc : cond0_0 i) : out0_A_14 c i a1 g1 a2 g2 a3 g3 a4 g4 a5 g5 a6 g6 a7 g7 a8 g8 a9 g9 a10 g10 a11 g11 a12 g12 a13 g13 a14 g14 a15 g15 hc x0 x1 x2 x3 x4 x5 x6 x7 = k0_pay2 (GT i x7) (k0_pay27 (first i) (k0_pay9 x0) (k0_pay10 x0) (k0_pay21 x1 x2 (SC i x3)) (k0_pay22 x1 x2 (k0_pay10 x0) (SC i x3)) x4 x5) (k0_pay8 (F := Ideal)) := by
  unfold out0_A_14
  rw [View.read_writes_eq_canon _ _ _ (cover0_A_14 c i a1 g1 a2 g2 a3 g3 a4 g4 a5 g5 a6 g6 a7 g7 a8 g8 a9 g9 a10 g10 a11 g11 a12 g12 a13 g13 a14 g14 a15 g15 hc x0 x1 x2 x3 x4 x5 x6 x7)]
  unfold kernelRun0_A
  dsimp only
  sl_unfold_words
  rw [View.canon_cons_unit_zero (S := S1x2048) hz2, View.readCov_unit_zero (S := S1x2048) _ hz2]
  simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

theorem outB8 (hc : ¬cond0_0 i) : out0_B_8 c i a1 g1 a2 g2 a3 g3 a4 g4 a5 g5 a6 g6 a7 g7 a8 g8 a9 g9 a10 g10 a11 g11 a12 g12 a13 g13 a14 g14 a15 g15 hc x0 x1 x2 x3 x4 x5 x6 x7 o9 o10 o11 o13 o14 = k0_pay23 (first i) (k0_pay9 x0) (k0_pay10 x0) (k0_pay21 x1 x2 (SC i x3)) (k0_pay22 x1 x2 (k0_pay10 x0) (SC i x3)) x4 := by
  unfold out0_B_8
  rw [View.read_writes_eq_canon _ _ _ (cover0_B_8 c i a1 g1 a2 g2 a3 g3 a4 g4 a5 g5 a6 g6 a7 g7 a8 g8 a9 g9 a10 g10 a11 g11 a12 g12 a13 g13 a14 g14 a15 g15 hc x0 x1 x2 x3 x4 x5 x6 x7 o9 o10 o11 o13 o14)]
  unfold kernelRun0_B
  dsimp only
  sl_unfold_words
  rw [View.canon_unit_zero (S := S256x2048) hz2]
  simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

theorem outB9 (hc : ¬cond0_0 i) : out0_B_9 c i a1 g1 a2 g2 a3 g3 a4 g4 a5 g5 a6 g6 a7 g7 a8 g8 a9 g9 a10 g10 a11 g11 a12 g12 a13 g13 a14 g14 a15 g15 hc x0 x1 x2 x3 x4 x5 x6 x7 o9 o10 o11 o13 o14 = k0_pay15 i x0 x1 (top x3) (bot x3) o9 := by
  unfold out0_B_9
  rw [View.read_writes_eq_canon _ _ _ (cover0_B_9 c i a1 g1 a2 g2 a3 g3 a4 g4 a5 g5 a6 g6 a7 g7 a8 g8 a9 g9 a10 g10 a11 g11 a12 g12 a13 g13 a14 g14 a15 g15 hc x0 x1 x2 x3 x4 x5 x6 x7 o9 o10 o11 o13 o14)]
  unfold kernelRun0_B
  dsimp only
  sl_unfold_words
  rw [View.canon_unit_zero (S := S1x2048) hz2]
  simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

theorem outB10 (hc : ¬cond0_0 i) (y : S2x2048.Idx) :
    out0_B_10 c i a1 g1 a2 g2 a3 g3 a4 g4 a5 g5 a6 g6 a7 g7 a8 g8 a9 g9 a10 g10 a11 g11 a12 g12 a13 g13 a14 g14 a15 g15 hc x0 x1 x2 x3 x4 x5 x6 x7 o9 o10 o11 o13 o14 y = if (y 0).val = 1 then k0_pay18 (first i) (k0_pay12 x1) (bot o10) (ix2 0 (y 1)) else k0_pay17 (first i) (k0_pay12 x1) (top o10) (ix2 0 (y 1)) := by
  unfold out0_B_10 kernelRun0_B
  dsimp only
  sl_unfold_words
  refine (read_row _ _ 1 rfl _ _ _ y).trans ?_
  refine if_ctx_congr Iff.rfl (fun _ => ?_) fun h => (read_row _ _ 0 rfl _ _ _ y).trans ((if_pos (by have h0 : (y 0).val < 2 := (y 0).isLt; omega)).trans ?_)
  all_goals simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

theorem outB11 (hc : ¬cond0_0 i) (y : S2x2048.Idx) :
    out0_B_11 c i a1 g1 a2 g2 a3 g3 a4 g4 a5 g5 a6 g6 a7 g7 a8 g8 a9 g9 a10 g10 a11 g11 a12 g12 a13 g13 a14 g14 a15 g15 hc x0 x1 x2 x3 x4 x5 x6 x7 o9 o10 o11 o13 o14 y = if (y 0).val = 1 then k0_pay20 (first i) (k0_pay14 x0 x1 x2) (bot o11) (ix2 0 (y 1)) else k0_pay19 (first i) (k0_pay14 x0 x1 x2) (top o11) (ix2 0 (y 1)) := by
  unfold out0_B_11 kernelRun0_B
  dsimp only
  sl_unfold_words
  refine (read_row _ _ 1 rfl _ _ _ y).trans ?_
  refine if_ctx_congr Iff.rfl (fun _ => ?_) fun h => (read_row _ _ 0 rfl _ _ _ y).trans ((if_pos (by have h0 : (y 0).val < 2 := (y 0).isLt; omega)).trans ?_)
  all_goals simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

theorem outB12 (hc : ¬cond0_0 i) : out0_B_12 c i a1 g1 a2 g2 a3 g3 a4 g4 a5 g5 a6 g6 a7 g7 a8 g8 a9 g9 a10 g10 a11 g11 a12 g12 a13 g13 a14 g14 a15 g15 hc x0 x1 x2 x3 x4 x5 x6 x7 o9 o10 o11 o13 o14 = k0_pay3 (k0_pay23 (first i) (k0_pay9 x0) (k0_pay10 x0) (k0_pay21 x1 x2 (SC i x3)) (k0_pay22 x1 x2 (k0_pay10 x0) (SC i x3)) x4) x6 (k0_pay24 x5) (k0_pay25 x5) (GT i x7) := by
  unfold out0_B_12
  rw [View.read_writes_eq_canon _ _ _ (cover0_B_12 c i a1 g1 a2 g2 a3 g3 a4 g4 a5 g5 a6 g6 a7 g7 a8 g8 a9 g9 a10 g10 a11 g11 a12 g12 a13 g13 a14 g14 a15 g15 hc x0 x1 x2 x3 x4 x5 x6 x7 o9 o10 o11 o13 o14)]
  unfold kernelRun0_B
  dsimp only
  sl_unfold_words
  rw [View.canon_unit_zero (S := S256x2048) hz2]
  simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

theorem outB13 (hc : ¬cond0_0 i) (y : S2x2048.Idx) :
    out0_B_13 c i a1 g1 a2 g2 a3 g3 a4 g4 a5 g5 a6 g6 a7 g7 a8 g8 a9 g9 a10 g10 a11 g11 a12 g12 a13 g13 a14 g14 a15 g15 hc x0 x1 x2 x3 x4 x5 x6 x7 o9 o10 o11 o13 o14 y = if (y 0).val = 1 then k0_pay1 (first i) (k0_pay16 (F := Ideal)) (k0_pay28 (first i) (k0_pay9 x0) (k0_pay10 x0) (k0_pay21 x1 x2 (SC i x3)) (k0_pay22 x1 x2 (k0_pay10 x0) (SC i x3)) x4 x5 x6) (bot o13) (ix2 0 (y 1)) else k0_pay29 (first i) (k0_pay9 x0) (k0_pay10 x0) (k0_pay16 (F := Ideal)) (k0_pay21 x1 x2 (SC i x3)) (k0_pay22 x1 x2 (k0_pay10 x0) (SC i x3)) x4 x5 x6 (top o13) (ix2 0 (y 1)) := by
  unfold out0_B_13 kernelRun0_B
  dsimp only
  sl_unfold_words
  refine (read_row _ _ 1 rfl _ _ _ y).trans ?_
  refine if_ctx_congr Iff.rfl (fun _ => ?_) fun h => (read_row _ _ 0 rfl _ _ _ y).trans ((if_pos (by have h0 : (y 0).val < 2 := (y 0).isLt; omega)).trans ?_)
  all_goals simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

theorem outB14 (hc : ¬cond0_0 i) : out0_B_14 c i a1 g1 a2 g2 a3 g3 a4 g4 a5 g5 a6 g6 a7 g7 a8 g8 a9 g9 a10 g10 a11 g11 a12 g12 a13 g13 a14 g14 a15 g15 hc x0 x1 x2 x3 x4 x5 x6 x7 o9 o10 o11 o13 o14 = k0_pay2 (GT i x7) (k0_pay27 (first i) (k0_pay9 x0) (k0_pay10 x0) (k0_pay21 x1 x2 (SC i x3)) (k0_pay22 x1 x2 (k0_pay10 x0) (SC i x3)) x4 x5) o14 := by
  unfold out0_B_14
  rw [View.read_writes_eq_canon _ _ _ (cover0_B_14 c i a1 g1 a2 g2 a3 g3 a4 g4 a5 g5 a6 g6 a7 g7 a8 g8 a9 g9 a10 g10 a11 g11 a12 g12 a13 g13 a14 g14 a15 g15 hc x0 x1 x2 x3 x4 x5 x6 x7 o9 o10 o11 o13 o14)]
  unfold kernelRun0_B
  dsimp only
  sl_unfold_words
  rw [View.canon_unit_zero (S := S1x2048) hz2]
  simp only [View.readAt_eq_ld, g1.read_unread, g2.read_unread, g3.read_unread, g4.read_unread, g5.read_unread, g6.read_unread, g7.read_unread, g8.read_unread, g10.read_unread, g11.read_unread, g12.read_unread, g14.read_unread, g15.read_unread, View.ld_unit_zero (S := S256x2048) hz2, View.ld_unit_zero (S := S1x2048) hz2]

end

end Cert.NormPIdeal.At

end
-- ==== Proof.NormPSum.lean ====
/-  The chained normalisation gradient's kernel: what its blocks and its five growing arrays hold after each point. -/
module

public import proofs.«01_k».proof.Defs
public import proofs.«01_k».proof.Proof.NormPOut
public import proofs.«01_k».proof.Proof.Gen.NormPIdeal.Value
public import Idealize.ShloMosaic.Lib.WritesUnit
public import Idealize.ShloMosaic.Lib.Pipeline.ReadBack

@[expose] public section

noncomputable section

namespace Cert.NormPIdeal.At

open Cert.NormPIdeal Cert.NormPIdeal.Gen Cert.Mix Cert.Norm Idealize.ShloMosaic Idealize.ShloMosaic.TcCoe Idealize.SL.Sem
open Cert.Products (Is hz2)
open Cert.NormBIdeal.At (top bot top_is bot_is choose_is pay13_is pay14_is seg seg_at dxh dgT dsT one pair)

section Spec
variable (x d : ℕ → ℕ → EReal) (g : ℕ → EReal) (s z y : ℕ → ℕ → EReal) (p : ℕ → EReal) (e : ℕ → ℕ → EReal)

/-- The gradient passed by, which the context's rows do not have; the stream's gradient; and the terms of the earlier layer's gradients. -/
def late (r q : ℕ) : EReal := if r < 256 then 0 else z (r - 256) q
def gxP (r q : ℕ) : EReal := back (x r) (dxh d g s r) q + late z r q
def dyh (r q : ℕ) : EReal := gxP x d g s z r q * (seg e r q * p q)
def geT (r q : ℕ) : EReal := gxP x d g s z r q * (y r q * rs (y r)) * p q
def gpT (r q : ℕ) : EReal := gxP x d g s z r q * (y r q * rs (y r)) * seg e r q
end Spec

section Body

variable {x d y p e : ℕ → ℕ → EReal} {v4 v5 v78 dx : Vec Ideal S256x2048 .f32} {v79 v92 : Vec Ideal S1x2048 .f32}
variable (h76 : Is dx x) (h78 : Is v78 y) (h79 : Is v79 p) (h92 : Is v92 e)

include h78 in
theorem pay24_is : Is (k0_pay24 (F := Ideal) v78) fun r _ => rs (y r) := NormBIdeal.At.pay5_is h78

include h78 in
theorem pay25_is : Is (k0_pay25 (F := Ideal) v78) fun r q => y r q * rs (y r) := NormBIdeal.At.pay6_is h78

include h76 h78 h79 h92 in
theorem pay3_is : Is (k0_pay3 (F := Ideal) dx v79 (k0_pay24 v78) (k0_pay25 v78) v92) fun r q => back (y r) (fun q => x r q * (e 0 q * p 0 q)) q := fun j =>
  back_is (f := y) (g := fun r q => x r q * (e 0 q * p 0 q)) (pay24_is h78) (pay25_is h78)
    (fun j => congrArg₂ (fun a b : EReal => a * b) (h76 j)
      (row_is (x := mulf v92 v79) (f := fun r q => e r q * p r q) (fun j => congrArg₂ (fun a b : EReal => a * b) (h92 j) (h79 j)) (by decide) broadcasts_S1x2048_S256x2048 j))
    (by decide) _ _ _ _ broadcasts_S256x1_S256x2048 broadcasts_S256x1_S256x2048 j

include h76 h78 in
theorem prod_is : Is (mulf (φ := .f32) dx (k0_pay25 (F := Ideal) v78)) fun r q => x r q * (y r q * rs (y r)) := fun j =>
  congrArg₂ (fun a b : EReal => a * b) (h76 j) (pay25_is h78 j)

include h76 h78 h79 in
theorem cols_is {hr} {hf : FKind.Formats .f32} {ha} {hc} : Is (shapeCast S1x2048 (multiReduction .add [0] S2048 (mulf (φ := .f32) (mulf (φ := .f32) dx (k0_pay25 (F := Ideal) v78))
    (broadcastTo S256x2048 v79 broadcasts_S1x2048_S256x2048)) 0x00000000#32 hr hf ha) hc) fun _ q => ∑ r : Fin 256, x r.val q * (y r.val q * rs (y r.val)) * p 0 q :=
  colsum_is (f := fun r q => x r q * (y r q * rs (y r)) * p 0 q) (fun j => congrArg₂ (fun a b : EReal => a * b) (prod_is h76 h78 j) (row_is h79 (by decide) _ j)) _ _ _ _

include h76 h78 h92 in
theorem pay2_is {v108 : Vec Ideal S1x2048 .f32} {o : ℕ → EReal} (h : Is v108 fun _ => o) :
    Is (k0_pay2 (F := Ideal) v92 (mulf (φ := .f32) dx (k0_pay25 (F := Ideal) v78)) v108) fun _ q => o q + ∑ r : Fin 256, x r.val q * (y r.val q * rs (y r.val)) * e 0 q := fun j => by
  unfold k0_pay2
  rw [ValueIdx.addf_apply, shapeCast_self, h j]
  exact congrArg (o _ + ·) (cols_is h76 h78 h92 j)

end Body

theorem first_eq (t : Fin cfg0.N) : first (grid0.coords t) = if t.val = 0 then 1#1 else 0#1 :=
  (by decide +kernel : ∀ t : Fin grid0.N, first (grid0.coords t) = if t.val = 0 then 1#1 else 0#1) t

variable (m : (ℓ : Loc nD τ sig) → Buf (Elt Ideal) ℓ) (c : Dev nD)

/-- The arguments at natural coordinates: those of the normalisation, and the earlier layer's output, gain and gates. -/
abbrev X : ℕ → ℕ → EReal := at2 (a := 2304) (b := 2048) (m ((c : Thread nD τ).loc main_arg0))
abbrev D : ℕ → ℕ → EReal := at2 (a := 2304) (b := 2048) (m ((c : Thread nD τ).loc main_arg1))
abbrev G : ℕ → EReal := at2 (a := 1) (b := 2048) (m ((c : Thread nD τ).loc main_arg2)) 0
abbrev S : ℕ → ℕ → EReal := at2 (a := 2) (b := 2048) (m ((c : Thread nD τ).loc main_arg3))
abbrev Z : ℕ → ℕ → EReal := at2 (a := 2048) (b := 2048) (m ((c : Thread nD τ).loc main_arg4))
abbrev Y : ℕ → ℕ → EReal := at2 (a := 2304) (b := 2048) (m ((c : Thread nD τ).loc main_arg5))
abbrev P : ℕ → EReal := at2 (a := 1) (b := 2048) (m ((c : Thread nD τ).loc main_arg6)) 0
abbrev E : ℕ → ℕ → EReal := at2 (a := 2) (b := 2048) (m ((c : Thread nD τ).loc main_arg7))

theorem blk0 (t : Fin cfg0.N) : Is (iblk m c 0 t) fun r q => X m c (256 * t.val + r) q := fun j => by
  have hi := (by decide +kernel : ∀ t : Fin grid0.N, win0_0.index t 0 = t.val ∧ win0_0.index t 1 = 0) t
  unfold iblk
  rw [View.read_apply]
  exact read2 _ _ (by show win0_0.index t 0 * 256 + 1 * (j 0).val = _; omega) (by show win0_0.index t 1 * 2048 + 1 * (j 1).val = _; omega)

theorem blk1 (t : Fin cfg0.N) : Is (iblk m c 1 t) fun r q => D m c (256 * t.val + r) q := fun j => by
  have hi := (by decide +kernel : ∀ t : Fin grid0.N, win0_1.index t 0 = t.val ∧ win0_1.index t 1 = 0) t
  unfold iblk
  rw [View.read_apply]
  exact read2 _ _ (by show win0_1.index t 0 * 256 + 1 * (j 0).val = _; omega) (by show win0_1.index t 1 * 2048 + 1 * (j 1).val = _; omega)

theorem blk2 (t : Fin cfg0.N) : Is (iblk m c 2 t) fun _ q => G m c q := fun j => by
  have hi := (by decide +kernel : ∀ t : Fin grid0.N, win0_2.index t 0 = 0 ∧ win0_2.index t 1 = 0) t
  have hj : (j 0).val < 1 := (j 0).isLt
  unfold iblk
  rw [View.read_apply]
  exact read2 _ _ (by show win0_2.index t 0 * 1 + 1 * (j 0).val = _; omega) (by show win0_2.index t 1 * 2048 + 1 * (j 1).val = _; omega)

theorem blk3 (t : Fin cfg0.N) : Is (iblk m c 3 t) (S m c) := fun j => by
  have hi := (by decide +kernel : ∀ t : Fin grid0.N, win0_3.index t 0 = 0 ∧ win0_3.index t 1 = 0) t
  unfold iblk
  rw [View.read_apply]
  exact read2 _ _ (by show win0_3.index t 0 * 2 + 1 * (j 0).val = _; omega) (by show win0_3.index t 1 * 2048 + 1 * (j 1).val = _; omega)

theorem blk4 (t : Fin cfg0.N) : Is (iblk m c 4 t) fun r q => Z m c (256 * (t.val - 1) + r) q := fun j => by
  have hi := (by decide +kernel : ∀ t : Fin grid0.N, win0_4.index t 0 = t.val - 1 ∧ win0_4.index t 1 = 0) t
  unfold iblk
  rw [View.read_apply]
  exact read2 _ _ (by show win0_4.index t 0 * 256 + 1 * (j 0).val = _; omega) (by show win0_4.index t 1 * 2048 + 1 * (j 1).val = _; omega)

theorem blk5 (t : Fin cfg0.N) : Is (iblk m c 5 t) fun r q => Y m c (256 * t.val + r) q := fun j => by
  have hi := (by decide +kernel : ∀ t : Fin grid0.N, win0_5.index t 0 = t.val ∧ win0_5.index t 1 = 0) t
  unfold iblk
  rw [View.read_apply]
  exact read2 _ _ (by show win0_5.index t 0 * 256 + 1 * (j 0).val = _; omega) (by show win0_5.index t 1 * 2048 + 1 * (j 1).val = _; omega)

theorem blk6 (t : Fin cfg0.N) : Is (iblk m c 6 t) fun _ q => P m c q := fun j => by
  have hi := (by decide +kernel : ∀ t : Fin grid0.N, win0_6.index t 0 = 0 ∧ win0_6.index t 1 = 0) t
  have hj : (j 0).val < 1 := (j 0).isLt
  unfold iblk
  rw [View.read_apply]
  exact read2 _ _ (by show win0_6.index t 0 * 1 + 1 * (j 0).val = _; omega) (by show win0_6.index t 1 * 2048 + 1 * (j 1).val = _; omega)

theorem blk7 (t : Fin cfg0.N) : Is (iblk m c 7 t) (E m c) := fun j => by
  have hi := (by decide +kernel : ∀ t : Fin grid0.N, win0_7.index t 0 = 0 ∧ win0_7.index t 1 = 0) t
  unfold iblk
  rw [View.read_apply]
  exact read2 _ _ (by show win0_7.index t 0 * 2 + 1 * (j 0).val = _; omega) (by show win0_7.index t 1 * 2048 + 1 * (j 1).val = _; omega)

/-- The gradients and their terms at the arguments. -/
abbrev Dh : ℕ → ℕ → EReal := dxh (D m c) (G m c) (S m c)
abbrev Gx : ℕ → ℕ → EReal := gxP (X m c) (D m c) (G m c) (S m c) (Z m c)
abbrev Gy : ℕ → ℕ → EReal := fun r q => back (Y m c r) (dyh (X m c) (D m c) (G m c) (S m c) (Z m c) (P m c) (E m c) r) q
abbrev Tg : ℕ → ℕ → EReal := dgT (X m c) (D m c) (S m c)
abbrev Ts : ℕ → ℕ → EReal := dsT (X m c) (D m c) (G m c)
abbrev Te : ℕ → ℕ → EReal := geT (X m c) (D m c) (G m c) (S m c) (Z m c) (Y m c) (P m c)
abbrev Tp : ℕ → ℕ → EReal := gpT (X m c) (D m c) (G m c) (S m c) (Z m c) (Y m c) (E m c)

section
variable (t : Fin cfg0.N)

theorem sc : Is (SC (grid0.coords t) (iblk m c 3 t)) fun _ q => if t.val = 0 then S m c 0 q else S m c 1 q :=
  choose_is (first_eq t) (top_is (blk3 m c t)) (bot_is (blk3 m c t))

theorem gt : Is (GT (grid0.coords t) (iblk m c 7 t)) fun _ q => if t.val = 0 then E m c 0 q else E m c 1 q :=
  choose_is (first_eq t) (top_is (blk7 m c t)) (bot_is (blk7 m c t))

/-- The stream's gradient over the point's rows. -/
abbrev dxv : FVec Ideal S256x2048 .f32 := k0_pay23 (F := Ideal) (first (grid0.coords t)) (k0_pay9 (iblk m c 0 t)) (k0_pay10 (iblk m c 0 t))
  (k0_pay21 (iblk m c 1 t) (iblk m c 2 t) (SC (grid0.coords t) (iblk m c 3 t)))
  (k0_pay22 (iblk m c 1 t) (iblk m c 2 t) (k0_pay10 (iblk m c 0 t)) (SC (grid0.coords t) (iblk m c 3 t))) (iblk m c 4 t)

theorem dx_is : Is (dxv m c t) fun r q => Gx m c (256 * t.val + r) q := fun j => by
  have hr : (j 0).val < 256 := (j 0).isLt
  have hz : Is (Scalar.select (first (grid0.coords t)) (broadcast S256x2048 (Scalar.ofBits (F := Ideal) .f32 0x00000000#32)) (iblk m c 4 t)) fun r q => if t.val = 0 then 0 else Z m c (256 * (t.val - 1) + r) q := fun j => by
    by_cases h : t.val = 0
    · rw [(first_eq t).trans (if_pos h)]
      exact Ideal.ofBits_zero_f32.trans (if_pos h).symm
    · rw [(first_eq t).trans (if_neg h)]
      exact (blk4 m c t j).trans (if_neg h).symm
  refine (NormBIdeal.At.pay1_is (g := fun _ => G m c) (blk0 m c t) (blk1 m c t) (blk2 m c t) (sc m c t) hz j).trans ?_
  refine congrArg₂ (fun a b : EReal => a + b) (congrArg (fun f => back (X m c (256 * t.val + (j 0).val)) f (j 1).val) ?_) ?_
  · funext q
    exact congrArg (fun a => D m c (256 * t.val + (j 0).val) q * (G m c q * (one + a))) (seg_at (S m c) t.val (j 0) q)
  · refine if_ctx_congr (by omega) (fun _ => rfl) fun h => ?_
    exact congrArg (fun r => Z m c r (j 1).val) (by omega)

theorem p9 {o : Vec Ideal S1x2048 .f32} {n : ℕ} (hn : t.val = n) (ho : Is o fun _ q => acc (Tg m c) n q) :
    Is (k0_pay15 (F := Ideal) (grid0.coords t) (iblk m c 0 t) (iblk m c 1 t) (top (iblk m c 3 t)) (bot (iblk m c 3 t)) o) fun _ q => acc (Tg m c) (n + 1) q := fun j => by
  subst hn
  refine Eq.trans ?_ (acc_succ (Tg m c) _ _).symm
  unfold k0_pay15
  dsimp only
  rw [ValueIdx.addf_apply, shapeCast_self, ho j]
  refine congrArg (acc (Tg m c) t.val _ + ·) ?_
  refine (colsum_is (f := fun r q => D m c (256 * t.val + r) q * (X m c (256 * t.val + r) q * rs (X m c (256 * t.val + r))) * (one + if t.val = 0 then S m c 0 q else S m c 1 q))
    (fun j => congrArg₂ (fun a b : EReal => a * b) (NormBIdeal.At.pay9_is (blk0 m c t) (blk1 m c t) j)
      (row_is (x := addf (broadcast S1x2048 (Scalar.ofBits .f32 0x3F800000#32)) (SC (grid0.coords t) (iblk m c 3 t))) (f := fun _ q => one + if t.val = 0 then S m c 0 q else S m c 1 q)
        (fun j => congrArg (one + ·) (sc m c t j)) (by decide) broadcasts_S1x2048_S256x2048 j)) _ _ _ _ j).trans ?_
  exact Finset.sum_congr rfl fun r _ => congrArg (fun a => _ * (one + a)) (seg_at (S m c) t.val r _)

theorem p10 : Is (k0_pay12 (F := Ideal) (iblk m c 1 t)) fun _ q => ∑ r : Fin 256, D m c (256 * t.val + r.val) q := NormBIdeal.At.pay8_is (blk1 m c t)

theorem p11 : Is (k0_pay14 (F := Ideal) (iblk m c 0 t) (iblk m c 1 t) (iblk m c 2 t)) fun _ q => ∑ r : Fin 256, Ts m c (256 * t.val + r.val) q :=
  NormBIdeal.At.pay10_is (g := fun _ => G m c) (blk0 m c t) (blk1 m c t) (blk2 m c t)

theorem p12 : Is (k0_pay3 (F := Ideal) (dxv m c t) (iblk m c 6 t) (k0_pay24 (iblk m c 5 t)) (k0_pay25 (iblk m c 5 t)) (GT (grid0.coords t) (iblk m c 7 t)))
    fun r q => Gy m c (256 * t.val + r) q := fun j => by
  refine (pay3_is (p := fun _ => P m c) (dx_is m c t) (blk5 m c t) (blk6 m c t) (gt m c t) j).trans ?_
  refine congrArg (fun f => back (Y m c (256 * t.val + (j 0).val)) f (j 1).val) ?_
  funext q
  exact congrArg (fun a => Gx m c (256 * t.val + (j 0).val) q * (a * P m c q)) (seg_at (E m c) t.val (j 0) q)

theorem p13 : Is (k0_pay28 (F := Ideal) (first (grid0.coords t)) (k0_pay9 (iblk m c 0 t)) (k0_pay10 (iblk m c 0 t))
    (k0_pay21 (iblk m c 1 t) (iblk m c 2 t) (SC (grid0.coords t) (iblk m c 3 t)))
    (k0_pay22 (iblk m c 1 t) (iblk m c 2 t) (k0_pay10 (iblk m c 0 t)) (SC (grid0.coords t) (iblk m c 3 t))) (iblk m c 4 t) (iblk m c 5 t) (iblk m c 6 t))
    fun _ q => ∑ r : Fin 256, Te m c (256 * t.val + r.val) q :=
  cols_is (p := fun _ => P m c) (dx_is m c t) (blk5 m c t) (blk6 m c t)

theorem p14 {o : Vec Ideal S1x2048 .f32} {n : ℕ} (hn : t.val = n) (ho : Is o fun _ q => acc (Tp m c) n q) :
    Is (k0_pay2 (F := Ideal) (GT (grid0.coords t) (iblk m c 7 t)) (mulf (φ := .f32) (dxv m c t) (k0_pay25 (F := Ideal) (iblk m c 5 t))) o) fun _ q => acc (Tp m c) (n + 1) q := fun j => by
  subst hn
  refine (pay2_is (dx_is m c t) (blk5 m c t) (gt m c t) ho j).trans (Eq.trans ?_ (acc_succ (Tp m c) _ _).symm)
  exact congrArg (_ + ·) (Finset.sum_congr rfl fun r _ => congrArg (fun a => _ * a) (seg_at (E m c) t.val r _))

end

theorem at8 (t : Fin cfg0.N) : Is (outsAt0 m c t.val t.isLt).1 fun r q => Gx m c (256 * t.val + r) q := fun j => by
  by_cases h : t.val % 9 = 0
  · rw [outsAt0_A m c t h]
    dsimp only
    rw [outA8]
    exact dx_is m c t j
  · rw [outsAt0_B m c t h]
    dsimp only
    rw [outB8]
    exact dx_is m c t j

theorem at12 (t : Fin cfg0.N) : Is (outsAt0 m c t.val t.isLt).2.2.2.2.1 fun r q => Gy m c (256 * t.val + r) q := fun j => by
  by_cases h : t.val % 9 = 0
  · rw [outsAt0_A m c t h]
    dsimp only
    rw [outA12]
    exact p12 m c t j
  · rw [outsAt0_B m c t h]
    dsimp only
    rw [outB12]
    exact p12 m c t j

/-- What the five growing arrays hold after point `n`. -/
theorem sums : ∀ (n : ℕ) (hn : n < cfg0.N), Is (outsAt0 m c n hn).2.1 (fun _ q => acc (Tg m c) (n + 1) q)
    ∧ Is (outsAt0 m c n hn).2.2.1 (pair (D m c) (n + 1))
    ∧ Is (outsAt0 m c n hn).2.2.2.1 (pair (Ts m c) (n + 1))
    ∧ Is (outsAt0 m c n hn).2.2.2.2.2.1 (pair (Te m c) (n + 1))
    ∧ Is (outsAt0 m c n hn).2.2.2.2.2.2 (fun _ q => acc (Tp m c) (n + 1) q)
  | 0, hn => by
    have hb := first_eq ⟨0, hn⟩
    rw [outsAt0_A m c ⟨0, hn⟩ rfl]
    dsimp only
    refine ⟨fun j => ?_, fun j => ?_, fun j => ?_, fun j => ?_, fun j => ?_⟩
    · rw [outA9]
      exact p9 m c ⟨0, hn⟩ rfl (fun _ => Ideal.ofBits_zero_f32) j
    · rw [outA10]
      exact if_congr Iff.rfl (pay14_is hb (p10 m c ⟨0, hn⟩) (fun _ => Ideal.ofBits_zero_f32) _) (pay13_is hb (p10 m c ⟨0, hn⟩) (fun _ => Ideal.ofBits_zero_f32) _)
    · rw [outA11]
      exact if_congr Iff.rfl (pay14_is hb (p11 m c ⟨0, hn⟩) (fun _ => Ideal.ofBits_zero_f32) _) (pay13_is hb (p11 m c ⟨0, hn⟩) (fun _ => Ideal.ofBits_zero_f32) _)
    · rw [outA13]
      exact if_congr Iff.rfl (pay14_is hb (p13 m c ⟨0, hn⟩) (fun _ => Ideal.ofBits_zero_f32) _) (pay13_is hb (p13 m c ⟨0, hn⟩) (fun _ => Ideal.ofBits_zero_f32) _)
    · rw [outA14]
      exact p14 m c ⟨0, hn⟩ rfl (fun _ => Ideal.ofBits_zero_f32) j
  | n + 1, hn => by
    have hN : n + 1 < 9 := Nat.lt_of_lt_of_eq hn N_0
    have hb := first_eq ⟨n + 1, hn⟩
    obtain ⟨s9, s10, s11, s13, s14⟩ := sums n (Nat.lt_of_succ_lt hn)
    rw [outsAt0_B m c ⟨n + 1, hn⟩ (by show ¬(n + 1) % 9 = 0; omega)]
    dsimp only
    refine ⟨fun j => ?_, fun j => ?_, fun j => ?_, fun j => ?_, fun j => ?_⟩
    · rw [outB9]
      exact p9 m c ⟨n + 1, hn⟩ rfl s9 j
    · rw [outB10]
      exact if_congr Iff.rfl (pay14_is hb (p10 m c ⟨n + 1, hn⟩) (bot_is s10) _) (pay13_is hb (p10 m c ⟨n + 1, hn⟩) (top_is s10) _)
    · rw [outB11]
      exact if_congr Iff.rfl (pay14_is hb (p11 m c ⟨n + 1, hn⟩) (bot_is s11) _) (pay13_is hb (p11 m c ⟨n + 1, hn⟩) (top_is s11) _)
    · rw [outB13]
      exact if_congr Iff.rfl (pay14_is hb (p13 m c ⟨n + 1, hn⟩) (bot_is s13) _) (pay13_is hb (p13 m c ⟨n + 1, hn⟩) (top_is s13) _)
    · rw [outB14]
      exact p14 m c ⟨n + 1, hn⟩ rfl s14 j

end Cert.NormPIdeal.At

end
-- ==== Proof.NormP.lean ====
/-  The chained normalisation gradient: what its seven results hold, and the reference's gradients beside them. -/
module

public import proofs.«01_k».proof.Defs
public import proofs.«01_k».proof.Proof.NormPSum
public import proofs.«01_k».proof.Proof.NormB
public import proofs.«01_k».proof.Proof.Gen.NormPIdeal.Value
public import proofs.«01_k».proof.Proof.Gen.NormPRefIdeal.Run
public import proofs.«01_k».proof.Proof.Gen.NormPRefIdeal.Read
public import Idealize.ShloMosaic.Lib.Claim
public import Idealize.ShloMosaic.Lib.Quiescent
public import Idealize.ShloMosaic.Lib.Pipeline.ReadBack

@[expose] public section

noncomputable section

namespace Cert.NormPIdeal.At

open Cert.NormPIdeal Cert.NormPIdeal.Gen Cert.Mix Cert.Norm Idealize.ShloMosaic Idealize.ShloMosaic.TcCoe Idealize.SL.Sem
open Cert.Products (Is hz2)
open Cert.NormBIdeal.At (pair)

variable (m : (ℓ : Loc nD τ sig) → Buf (Elt Ideal) ℓ) (c : Dev nD)

/-- What each result holds in the end. -/
abbrev G8 : (⟨2, ![2304, 2048]⟩ : Shape).Idx → EReal := cells (Gx m c)

theorem final8 : (dats m 0 c).arrAt 8 cfg0.N = G8 m c := by
  have hi := (by decide +kernel : ∀ t : Fin grid0.N, win0_8.index t 0 = t.val ∧ win0_8.index t 1 = 0)
  funext i
  have h0 : (i 0).val < 2304 := (i 0).isLt
  have h1 : (i 1).val < 2048 := (i 1).isLt
  let t : Fin cfg0.N := ⟨(i 0).val / 256, Nat.lt_of_lt_of_eq (by omega : (i 0).val / 256 < 9) N_0.symm⟩
  have ht := hi t
  have hv : t.val = (i 0).val / 256 := rfl
  refine (dats m 0 c).arrAt_apply_of_mem 8 (G8 m c) (fun t hf => ?_) cfg0.N t i t.isLt (flush0_8 t) ?_
  · have ht := hi t
    rw [Value.flushed8]
    funext j
    rw [View.read_apply]
    refine (at8 m c t j).trans (Eq.trans ?_ (cast_eq _ _).symm)
    exact cells_at (Gx m c) (r := 256 * t.val + (j 0).val) (q := (j 1).val) _ (by show 256 * t.val + (j 0).val = win0_8.index t 0 * 256 + 1 * (j 0).val; omega) (by show (j 1).val = win0_8.index t 1 * 2048 + 1 * (j 1).val; omega)
  · show i ∈ ((View.whole main_v0_0).slice (win0_8.rect t)).set
    rw [View.set_slice_whole, Rect.mem_set_unit]
    intro a
    match a with
    | ⟨0, _⟩ => show win0_8.index t 0 * 256 ≤ (i 0).val ∧ (i 0).val < win0_8.index t 0 * 256 + 256; omega
    | ⟨1, _⟩ => show win0_8.index t 1 * 2048 ≤ (i 1).val ∧ (i 1).val < win0_8.index t 1 * 2048 + 2048; omega

abbrev G9 : (⟨2, ![1, 2048]⟩ : Shape).Idx → EReal := cells (fun _ => acc (Tg m c) 9)

theorem final9 : (dats m 0 c).arrAt 9 cfg0.N = G9 m c := by
  have hi := (by decide +kernel : ∀ t : Fin grid0.N, win0_9.index t 0 = 0 ∧ win0_9.index t 1 = 0)
  funext i
  have h0 : (i 0).val < 1 := (i 0).isLt
  have h1 : (i 1).val < 2048 := (i 1).isLt
  let t : Fin cfg0.N := ⟨8, by decide +kernel⟩
  have ht := hi t
  refine (dats m 0 c).arrAt_apply_of_mem 9 (G9 m c) (fun t hf => ?_) cfg0.N t i t.isLt ((flush0_9 t).mpr rfl) ?_
  · have ht := hi t
    have hl : t.val = 8 := by have h := (flush0_9 t).mp hf; have h8 := Nat.lt_of_lt_of_eq t.isLt N_0; omega
    rw [Value.flushed9]
    funext j
    rw [View.read_apply]
    refine ((sums m c t.val t.isLt).1 j).trans (Eq.trans ?_ (cast_eq _ _).symm)
    rw [hl]
    exact cells_at (fun _ => acc (Tg m c) 9) (r := (j 0).val) (q := (j 1).val) _ (by show (j 0).val = win0_9.index t 0 * 1 + 1 * (j 0).val; omega) (by show (j 1).val = win0_9.index t 1 * 2048 + 1 * (j 1).val; omega)
  · show i ∈ ((View.whole main_v0_1).slice (win0_9.rect t)).set
    rw [View.set_slice_whole, Rect.mem_set_unit]
    intro a
    match a with
    | ⟨0, _⟩ => show win0_9.index t 0 * 1 ≤ (i 0).val ∧ (i 0).val < win0_9.index t 0 * 1 + 1; omega
    | ⟨1, _⟩ => show win0_9.index t 1 * 2048 ≤ (i 1).val ∧ (i 1).val < win0_9.index t 1 * 2048 + 2048; omega

abbrev G10 : (⟨2, ![2, 2048]⟩ : Shape).Idx → EReal := cells (pair (D m c) 9)

theorem final10 : (dats m 0 c).arrAt 10 cfg0.N = G10 m c := by
  have hi := (by decide +kernel : ∀ t : Fin grid0.N, win0_10.index t 0 = 0 ∧ win0_10.index t 1 = 0)
  funext i
  have h0 : (i 0).val < 2 := (i 0).isLt
  have h1 : (i 1).val < 2048 := (i 1).isLt
  let t : Fin cfg0.N := ⟨8, by decide +kernel⟩
  have ht := hi t
  refine (dats m 0 c).arrAt_apply_of_mem 10 (G10 m c) (fun t hf => ?_) cfg0.N t i t.isLt ((flush0_10 t).mpr rfl) ?_
  · have ht := hi t
    have hl : t.val = 8 := by have h := (flush0_10 t).mp hf; have h8 := Nat.lt_of_lt_of_eq t.isLt N_0; omega
    rw [Value.flushed10]
    funext j
    rw [View.read_apply]
    refine ((sums m c t.val t.isLt).2.1 j).trans (Eq.trans ?_ (cast_eq _ _).symm)
    rw [hl]
    exact cells_at (pair (D m c) 9) (r := (j 0).val) (q := (j 1).val) _ (by show (j 0).val = win0_10.index t 0 * 2 + 1 * (j 0).val; omega) (by show (j 1).val = win0_10.index t 1 * 2048 + 1 * (j 1).val; omega)
  · show i ∈ ((View.whole main_v0_2).slice (win0_10.rect t)).set
    rw [View.set_slice_whole, Rect.mem_set_unit]
    intro a
    match a with
    | ⟨0, _⟩ => show win0_10.index t 0 * 2 ≤ (i 0).val ∧ (i 0).val < win0_10.index t 0 * 2 + 2; omega
    | ⟨1, _⟩ => show win0_10.index t 1 * 2048 ≤ (i 1).val ∧ (i 1).val < win0_10.index t 1 * 2048 + 2048; omega

abbrev G11 : (⟨2, ![2, 2048]⟩ : Shape).Idx → EReal := cells (pair (Ts m c) 9)

theorem final11 : (dats m 0 c).arrAt 11 cfg0.N = G11 m c := by
  have hi := (by decide +kernel : ∀ t : Fin grid0.N, win0_11.index t 0 = 0 ∧ win0_11.index t 1 = 0)
  funext i
  have h0 : (i 0).val < 2 := (i 0).isLt
  have h1 : (i 1).val < 2048 := (i 1).isLt
  let t : Fin cfg0.N := ⟨8, by decide +kernel⟩
  have ht := hi t
  refine (dats m 0 c).arrAt_apply_of_mem 11 (G11 m c) (fun t hf => ?_) cfg0.N t i t.isLt ((flush0_11 t).mpr rfl) ?_
  · have ht := hi t
    have hl : t.val = 8 := by have h := (flush0_11 t).mp hf; have h8 := Nat.lt_of_lt_of_eq t.isLt N_0; omega
    rw [Value.flushed11]
    funext j
    rw [View.read_apply]
    refine ((sums m c t.val t.isLt).2.2.1 j).trans (Eq.trans ?_ (cast_eq _ _).symm)
    rw [hl]
    exact cells_at (pair (Ts m c) 9) (r := (j 0).val) (q := (j 1).val) _ (by show (j 0).val = win0_11.index t 0 * 2 + 1 * (j 0).val; omega) (by show (j 1).val = win0_11.index t 1 * 2048 + 1 * (j 1).val; omega)
  · show i ∈ ((View.whole main_v0_3).slice (win0_11.rect t)).set
    rw [View.set_slice_whole, Rect.mem_set_unit]
    intro a
    match a with
    | ⟨0, _⟩ => show win0_11.index t 0 * 2 ≤ (i 0).val ∧ (i 0).val < win0_11.index t 0 * 2 + 2; omega
    | ⟨1, _⟩ => show win0_11.index t 1 * 2048 ≤ (i 1).val ∧ (i 1).val < win0_11.index t 1 * 2048 + 2048; omega

abbrev G12 : (⟨2, ![2304, 2048]⟩ : Shape).Idx → EReal := cells (Gy m c)

theorem final12 : (dats m 0 c).arrAt 12 cfg0.N = G12 m c := by
  have hi := (by decide +kernel : ∀ t : Fin grid0.N, win0_12.index t 0 = t.val ∧ win0_12.index t 1 = 0)
  funext i
  have h0 : (i 0).val < 2304 := (i 0).isLt
  have h1 : (i 1).val < 2048 := (i 1).isLt
  let t : Fin cfg0.N := ⟨(i 0).val / 256, Nat.lt_of_lt_of_eq (by omega : (i 0).val / 256 < 9) N_0.symm⟩
  have ht := hi t
  have hv : t.val = (i 0).val / 256 := rfl
  refine (dats m 0 c).arrAt_apply_of_mem 12 (G12 m c) (fun t hf => ?_) cfg0.N t i t.isLt (flush0_12 t) ?_
  · have ht := hi t
    rw [Value.flushed12]
    funext j
    rw [View.read_apply]
    refine (at12 m c t j).trans (Eq.trans ?_ (cast_eq _ _).symm)
    exact cells_at (Gy m c) (r := 256 * t.val + (j 0).val) (q := (j 1).val) _ (by show 256 * t.val + (j 0).val = win0_12.index t 0 * 256 + 1 * (j 0).val; omega) (by show (j 1).val = win0_12.index t 1 * 2048 + 1 * (j 1).val; omega)
  · show i ∈ ((View.whole main_v0_4).slice (win0_12.rect t)).set
    rw [View.set_slice_whole, Rect.mem_set_unit]
    intro a
    match a with
    | ⟨0, _⟩ => show win0_12.index t 0 * 256 ≤ (i 0).val ∧ (i 0).val < win0_12.index t 0 * 256 + 256; omega
    | ⟨1, _⟩ => show win0_12.index t 1 * 2048 ≤ (i 1).val ∧ (i 1).val < win0_12.index t 1 * 2048 + 2048; omega

abbrev G13 : (⟨2, ![2, 2048]⟩ : Shape).Idx → EReal := cells (pair (Te m c) 9)

theorem final13 : (dats m 0 c).arrAt 13 cfg0.N = G13 m c := by
  have hi := (by decide +kernel : ∀ t : Fin grid0.N, win0_13.index t 0 = 0 ∧ win0_13.index t 1 = 0)
  funext i
  have h0 : (i 0).val < 2 := (i 0).isLt
  have h1 : (i 1).val < 2048 := (i 1).isLt
  let t : Fin cfg0.N := ⟨8, by decide +kernel⟩
  have ht := hi t
  refine (dats m 0 c).arrAt_apply_of_mem 13 (G13 m c) (fun t hf => ?_) cfg0.N t i t.isLt ((flush0_13 t).mpr rfl) ?_
  · have ht := hi t
    have hl : t.val = 8 := by have h := (flush0_13 t).mp hf; have h8 := Nat.lt_of_lt_of_eq t.isLt N_0; omega
    rw [Value.flushed13]
    funext j
    rw [View.read_apply]
    refine ((sums m c t.val t.isLt).2.2.2.1 j).trans (Eq.trans ?_ (cast_eq _ _).symm)
    rw [hl]
    exact cells_at (pair (Te m c) 9) (r := (j 0).val) (q := (j 1).val) _ (by show (j 0).val = win0_13.index t 0 * 2 + 1 * (j 0).val; omega) (by show (j 1).val = win0_13.index t 1 * 2048 + 1 * (j 1).val; omega)
  · show i ∈ ((View.whole main_v0_5).slice (win0_13.rect t)).set
    rw [View.set_slice_whole, Rect.mem_set_unit]
    intro a
    match a with
    | ⟨0, _⟩ => show win0_13.index t 0 * 2 ≤ (i 0).val ∧ (i 0).val < win0_13.index t 0 * 2 + 2; omega
    | ⟨1, _⟩ => show win0_13.index t 1 * 2048 ≤ (i 1).val ∧ (i 1).val < win0_13.index t 1 * 2048 + 2048; omega

abbrev G14 : (⟨2, ![1, 2048]⟩ : Shape).Idx → EReal := cells (fun _ => acc (Tp m c) 9)

theorem final14 : (dats m 0 c).arrAt 14 cfg0.N = G14 m c := by
  have hi := (by decide +kernel : ∀ t : Fin grid0.N, win0_14.index t 0 = 0 ∧ win0_14.index t 1 = 0)
  funext i
  have h0 : (i 0).val < 1 := (i 0).isLt
  have h1 : (i 1).val < 2048 := (i 1).isLt
  let t : Fin cfg0.N := ⟨8, by decide +kernel⟩
  have ht := hi t
  refine (dats m 0 c).arrAt_apply_of_mem 14 (G14 m c) (fun t hf => ?_) cfg0.N t i t.isLt ((flush0_14 t).mpr rfl) ?_
  · have ht := hi t
    have hl : t.val = 8 := by have h := (flush0_14 t).mp hf; have h8 := Nat.lt_of_lt_of_eq t.isLt N_0; omega
    rw [Value.flushed14]
    funext j
    rw [View.read_apply]
    refine ((sums m c t.val t.isLt).2.2.2.2 j).trans (Eq.trans ?_ (cast_eq _ _).symm)
    rw [hl]
    exact cells_at (fun _ => acc (Tp m c) 9) (r := (j 0).val) (q := (j 1).val) _ (by show (j 0).val = win0_14.index t 0 * 1 + 1 * (j 0).val; omega) (by show (j 1).val = win0_14.index t 1 * 2048 + 1 * (j 1).val; omega)
  · show i ∈ ((View.whole main_v0_6).slice (win0_14.rect t)).set
    rw [View.set_slice_whole, Rect.mem_set_unit]
    intro a
    match a with
    | ⟨0, _⟩ => show win0_14.index t 0 * 1 ≤ (i 0).val ∧ (i 0).val < win0_14.index t 0 * 1 + 1; omega
    | ⟨1, _⟩ => show win0_14.index t 1 * 2048 ≤ (i 1).val ∧ (i 1).val < win0_14.index t 1 * 2048 + 2048; omega

end Cert.NormPIdeal.At

namespace Cert.Proof.NormP

open Idealize.ShloMosaic Idealize.SL.Sem Cert.Mix Cert.Norm Cert.NormPIdeal.At
open Cert.NormBIdeal.At (seg pair)

section
open Cert.NormPRefIdeal Cert.NormPRefIdeal.Read

variable (x0 x1 : FVec Ideal S2304x2048 .f32) (x2 : FVec Ideal S1x2048 .f32) (x3 : FVec Ideal S2x2048 .f32) (x4 : FVec Ideal S2048x2048 .f32)
  (x5 : FVec Ideal S2304x2048 .f32) (x6 : FVec Ideal S1x2048 .f32) (x7 : FVec Ideal S2x2048 .f32)

/-- The stream's gradient, the earlier layer's before its own normalisation, and the terms of the gates' and the gain's. -/
abbrev hX : ℕ → ℕ → EReal := gxP (at2 x0) (at2 x1) (at2 x2 0) (at2 x3) (at2 x4)
abbrev hY : ℕ → ℕ → EReal := dyh (at2 x0) (at2 x1) (at2 x2 0) (at2 x3) (at2 x4) (at2 x6 0) (at2 x7)
abbrev hE : ℕ → ℕ → EReal := geT (at2 x0) (at2 x1) (at2 x2 0) (at2 x3) (at2 x4) (at2 x5) (at2 x6 0)
abbrev hP : ℕ → ℕ → EReal := gpT (at2 x0) (at2 x1) (at2 x2 0) (at2 x3) (at2 x4) (at2 x5) (at2 x7)

theorem gxC_at (i : S256x2048.Idx) : val_main_v50 (F := Ideal) x0 x1 x2 x3 i = hX x0 x1 x2 x3 x4 (0 + (i 0).val) (i 1).val := by
  have hi : (i 0).val < 256 := (i 0).isLt
  refine (NormB.dxC_at x0 x1 x2 x3 i).trans ((add_zero _).symm.trans (congrArg₂ (fun a b : EReal => a + b) rfl ?_))
  exact (if_pos (by omega) : late (at2 x4) _ _ = _).symm

theorem gateC_at (i : S256x2048.Idx) : val_main_v123 (F := Ideal) x0 x1 x2 x3 x7 i = hX x0 x1 x2 x3 x4 (0 + (i 0).val) (i 1).val * seg (at2 x7) (0 + (i 0).val) (i 1).val := by
  have hi : (i 0).val < 256 := (i 0).isLt
  rw [val_main_v123_apply, gxC_at x0 x1 x2 x3 x4, val_main_v122_apply, val_main_v104_apply]
  refine (mul_comm _ _).trans (congrArg₂ (fun a b : EReal => a * b) rfl (Eq.trans ?_ (if_pos (by omega) : seg (at2 x7) _ _ = _).symm))
  exact read2 x7 _ rfl (by first | rfl | exact Nat.zero_add _)

theorem hatC_at (i : S256x2048.Idx) : val_main_v117 (F := Ideal) x5 i = at2 x5 (0 + (i 0).val) (i 1).val * rs (at2 x5 (0 + (i 0).val)) := NormB.hatC_at x5 i

theorem drC_at (i : S256x2048.Idx) : val_main_v131 (F := Ideal) x0 x1 x2 x3 x6 x7 i = hY x0 x1 x2 x3 x4 x6 x7 (0 + (i 0).val) (i 1).val := by
  rw [val_main_v131_apply, gateC_at x0 x1 x2 x3 x4, val_main_v130_apply]
  exact (congrArg (_ * ·) (read2 x6 _ rfl rfl)).trans (mul_assoc _ _ _)

theorem dgateC_at (i : S1x2048.Idx) : val_main_v126 (F := Ideal) x0 x1 x2 x3 x5 x6 i = ∑ r : Fin 256, hE x0 x1 x2 x3 x4 x5 x6 (0 + r.val) (i 1).val := by
  have h0 : (i 0).val < 1 := (i 0).isLt
  have hj : (i 0).val * 2048 + (i 1).val = (i 1).val := by omega
  rw [val_main_v126_apply, val_main_v125_apply]
  refine (congrArg (fun a : EReal => a + _) Ideal.ofBits_zero_f32).trans ((zero_add _).trans ?_)
  refine Finset.sum_congr rfl fun r _ => ?_
  rw [val_main_v124_apply, gxC_at x0 x1 x2 x3 x4, val_main_v119_apply, hatC_at, val_main_v118_apply]
  refine Eq.trans ?_ (congrArg (hE x0 x1 x2 x3 x4 x5 x6 (0 + r.val)) hj)
  exact (congrArg (fun a : EReal => _ * (_ * a)) (read2 x6 _ rfl rfl : _ = at2 x6 0 ((i 0).val * 2048 + (i 1).val))).trans (mul_assoc _ _ _).symm

theorem dpgC_at (i : S1x2048.Idx) : val_main_v129 (F := Ideal) x0 x1 x2 x3 x5 x7 i = ∑ r : Fin 256, hP x0 x1 x2 x3 x4 x5 x7 (0 + r.val) (i 1).val := by
  have h0 : (i 0).val < 1 := (i 0).isLt
  have hj : (i 0).val * 2048 + (i 1).val = (i 1).val := by omega
  rw [val_main_v129_apply, val_main_v128_apply]
  refine (congrArg (fun a : EReal => a + _) Ideal.ofBits_zero_f32).trans ((zero_add _).trans ?_)
  refine Finset.sum_congr rfl fun r _ => ?_
  rw [val_main_v127_apply, gateC_at x0 x1 x2 x3 x4, hatC_at]
  refine Eq.trans ?_ (congrArg (hP x0 x1 x2 x3 x4 x5 x7 (0 + r.val)) hj)
  exact (mul_left_comm _ _ _).trans (mul_assoc _ _ _).symm

theorem pullC_at (i : S256x2048.Idx) : val_main_v141 (F := Ideal) x0 x1 x2 x3 x5 x6 x7 i = pull (at2 x5 (0 + (i 0).val)) (hY x0 x1 x2 x3 x4 x6 x7 (0 + (i 0).val)) := by
  rw [val_main_v141_apply, val_main_v140_apply]
  refine (congrArg (fun a : EReal => a + _) Ideal.ofBits_zero_f32).trans ((zero_add _).trans ?_)
  rw [Fin.sum_univ_one, val_main_v139_apply, val_main_v137_apply, val_main_v138_apply, val_main_v134_apply, val_main_v133_apply]
  refine congrArg₂ (fun s w : EReal => Ideal.div (s * w) width) ?_ (NormB.slopeC_at x5 _)
  refine (congrArg (fun a : EReal => a + _) Ideal.ofBits_zero_f32).trans ((zero_add _).trans ?_)
  refine Finset.sum_congr rfl fun k _ => ?_
  rw [val_main_v132_apply, drC_at x0 x1 x2 x3 x4]
  have hi : (i 0).val * 1 + 0 = (i 0).val := by omega
  refine (congrArg (· * _) (NormB.xC_at x5 _)).trans ?_
  exact congrArg (fun r => at2 x5 (0 + r) k.val * hY x0 x1 x2 x3 x4 x6 x7 (0 + r) k.val) hi

theorem dyC_at (i : S256x2048.Idx) : val_main_v145 (F := Ideal) x0 x1 x2 x3 x5 x6 x7 i = back (at2 x5 (0 + (i 0).val)) (hY x0 x1 x2 x3 x4 x6 x7 (0 + (i 0).val)) (i 1).val := by
  refine Eq.trans ?_ (back_eq (at2 x5 (0 + (i 0).val)) (hY x0 x1 x2 x3 x4 x6 x7 (0 + (i 0).val)) (i 1).isLt)
  rw [val_main_v145_apply, val_main_v143_apply, val_main_v144_apply, val_main_v142_apply, val_main_v136_apply, val_main_v135_apply, pullC_at x0 x1 x2 x3 x4, drC_at x0 x1 x2 x3 x4]
  rw [show val_main_v103 (F := Ideal) x5 i = _ from NormB.xC_at x5 i, show val_main_v112 (F := Ideal) x5 _ = _ from NormB.rsC_at x5 _]
  rfl

theorem gxL_at (i : S2048x2048.Idx) : val_main_v102 (F := Ideal) x0 x1 x2 x3 x4 i = hX x0 x1 x2 x3 x4 (256 + (i 0).val) (i 1).val := by
  have hi : (i 0).val < 2048 := (i 0).isLt
  rw [val_main_v102_apply]
  refine congrArg₂ (fun a b : EReal => a + b) (NormB.dxL_at x0 x1 x2 x3 i) (Eq.trans ?_ (if_neg (by omega) : late (at2 x4) _ _ = _).symm)
  exact read2 x4 _ (show (i 0).val = 256 + (i 0).val - 256 by omega) rfl

theorem gateL_at (i : S2048x2048.Idx) : val_main_v166 (F := Ideal) x0 x1 x2 x3 x4 x7 i = hX x0 x1 x2 x3 x4 (256 + (i 0).val) (i 1).val * seg (at2 x7) (256 + (i 0).val) (i 1).val := by
  have hi : (i 0).val < 2048 := (i 0).isLt
  rw [val_main_v166_apply, gxL_at x0 x1 x2 x3 x4, val_main_v165_apply, val_main_v147_apply]
  refine (mul_comm _ _).trans (congrArg₂ (fun a b : EReal => a * b) rfl (Eq.trans ?_ (if_neg (by omega) : seg (at2 x7) _ _ = _).symm))
  exact read2 x7 _ rfl (by first | rfl | exact Nat.zero_add _)

theorem hatL_at (i : S2048x2048.Idx) : val_main_v160 (F := Ideal) x5 i = at2 x5 (256 + (i 0).val) (i 1).val * rs (at2 x5 (256 + (i 0).val)) := NormB.hatL_at x5 i

theorem drL_at (i : S2048x2048.Idx) : val_main_v174 (F := Ideal) x0 x1 x2 x3 x4 x6 x7 i = hY x0 x1 x2 x3 x4 x6 x7 (256 + (i 0).val) (i 1).val := by
  rw [val_main_v174_apply, gateL_at x0 x1 x2 x3 x4, val_main_v173_apply]
  exact (congrArg (_ * ·) (read2 x6 _ rfl rfl)).trans (mul_assoc _ _ _)

theorem dgateL_at (i : S1x2048.Idx) : val_main_v169 (F := Ideal) x0 x1 x2 x3 x4 x5 x6 i = ∑ r : Fin 2048, hE x0 x1 x2 x3 x4 x5 x6 (256 + r.val) (i 1).val := by
  have h0 : (i 0).val < 1 := (i 0).isLt
  have hj : (i 0).val * 2048 + (i 1).val = (i 1).val := by omega
  rw [val_main_v169_apply, val_main_v168_apply]
  refine (congrArg (fun a : EReal => a + _) Ideal.ofBits_zero_f32).trans ((zero_add _).trans ?_)
  refine Finset.sum_congr rfl fun r _ => ?_
  rw [val_main_v167_apply, gxL_at x0 x1 x2 x3 x4, val_main_v162_apply, hatL_at, val_main_v161_apply]
  refine Eq.trans ?_ (congrArg (hE x0 x1 x2 x3 x4 x5 x6 (256 + r.val)) hj)
  exact (congrArg (fun a : EReal => _ * (_ * a)) (read2 x6 _ rfl rfl : _ = at2 x6 0 ((i 0).val * 2048 + (i 1).val))).trans (mul_assoc _ _ _).symm

theorem dpgL_at (i : S1x2048.Idx) : val_main_v172 (F := Ideal) x0 x1 x2 x3 x4 x5 x7 i = ∑ r : Fin 2048, hP x0 x1 x2 x3 x4 x5 x7 (256 + r.val) (i 1).val := by
  have h0 : (i 0).val < 1 := (i 0).isLt
  have hj : (i 0).val * 2048 + (i 1).val = (i 1).val := by omega
  rw [val_main_v172_apply, val_main_v171_apply]
  refine (congrArg (fun a : EReal => a + _) Ideal.ofBits_zero_f32).trans ((zero_add _).trans ?_)
  refine Finset.sum_congr rfl fun r _ => ?_
  rw [val_main_v170_apply, gateL_at x0 x1 x2 x3 x4, hatL_at]
  refine Eq.trans ?_ (congrArg (hP x0 x1 x2 x3 x4 x5 x7 (256 + r.val)) hj)
  exact (mul_left_comm _ _ _).trans (mul_assoc _ _ _).symm

theorem pullL_at (i : S2048x2048.Idx) : val_main_v184 (F := Ideal) x0 x1 x2 x3 x4 x5 x6 x7 i = pull (at2 x5 (256 + (i 0).val)) (hY x0 x1 x2 x3 x4 x6 x7 (256 + (i 0).val)) := by
  rw [val_main_v184_apply, val_main_v183_apply]
  refine (congrArg (fun a : EReal => a + _) Ideal.ofBits_zero_f32).trans ((zero_add _).trans ?_)
  rw [Fin.sum_univ_one, val_main_v182_apply, val_main_v180_apply, val_main_v181_apply, val_main_v177_apply, val_main_v176_apply]
  refine congrArg₂ (fun s w : EReal => Ideal.div (s * w) width) ?_ (NormB.slopeL_at x5 _)
  refine (congrArg (fun a : EReal => a + _) Ideal.ofBits_zero_f32).trans ((zero_add _).trans ?_)
  refine Finset.sum_congr rfl fun k _ => ?_
  rw [val_main_v175_apply, drL_at x0 x1 x2 x3 x4]
  have hi : (i 0).val * 1 + 0 = (i 0).val := by omega
  refine (congrArg (· * _) (NormB.xL_at x5 _)).trans ?_
  exact congrArg (fun r => at2 x5 (256 + r) k.val * hY x0 x1 x2 x3 x4 x6 x7 (256 + r) k.val) hi

theorem dyL_at (i : S2048x2048.Idx) : val_main_v188 (F := Ideal) x0 x1 x2 x3 x4 x5 x6 x7 i = back (at2 x5 (256 + (i 0).val)) (hY x0 x1 x2 x3 x4 x6 x7 (256 + (i 0).val)) (i 1).val := by
  refine Eq.trans ?_ (back_eq (at2 x5 (256 + (i 0).val)) (hY x0 x1 x2 x3 x4 x6 x7 (256 + (i 0).val)) (i 1).isLt)
  rw [val_main_v188_apply, val_main_v186_apply, val_main_v187_apply, val_main_v185_apply, val_main_v179_apply, val_main_v178_apply, pullL_at x0 x1 x2 x3 x4, drL_at x0 x1 x2 x3 x4]
  rw [show val_main_v146 (F := Ideal) x5 i = _ from NormB.xL_at x5 i, show val_main_v155 (F := Ideal) x5 _ = _ from NormB.rsL_at x5 _]
  rfl

theorem dx_at (i : S2304x2048.Idx) : val_main_v189 (F := Ideal) x0 x1 x2 x3 x4 i = hX x0 x1 x2 x3 x4 (i 0).val (i 1).val :=
  rows_joined (A := 256) (B := 2048) (C := 2304) (N := 2048) (f := hX x0 x1 x2 x3 x4) _ _ NormPRefIdeal.Gen.facts.concatenates_S256x2048_S2048x2048_S2304x2048_d0
    (fun j => (gxC_at x0 x1 x2 x3 x4 j).trans (congrArg (fun n => hX x0 x1 x2 x3 x4 n _) (Nat.zero_add _)))
    (gxL_at x0 x1 x2 x3 x4) i

theorem dy_at (i : S2304x2048.Idx) : val_main_v194 (F := Ideal) x0 x1 x2 x3 x4 x5 x6 x7 i = back (at2 x5 (i 0).val) (hY x0 x1 x2 x3 x4 x6 x7 (i 0).val) (i 1).val :=
  rows_joined (A := 256) (B := 2048) (C := 2304) (N := 2048) (f := fun r => back (at2 x5 r) (hY x0 x1 x2 x3 x4 x6 x7 r)) _ _
    NormPRefIdeal.Gen.facts.concatenates_S256x2048_S2048x2048_S2304x2048_d0
    (fun j => (dyC_at x0 x1 x2 x3 x4 x5 x6 x7 j).trans (congrArg (fun n => back (at2 x5 n) (hY x0 x1 x2 x3 x4 x6 x7 n) _) (Nat.zero_add _)))
    (dyL_at x0 x1 x2 x3 x4 x5 x6 x7) i

theorem dgate_at (i : S2x2048.Idx) : val_main_v195 (F := Ideal) x0 x1 x2 x3 x4 x5 x6 i = pair (hE x0 x1 x2 x3 x4 x5 x6) 9 (i 0).val (i 1).val :=
  NormB.pair_joined (dgateC_at x0 x1 x2 x3 x4 x5 x6) (dgateL_at x0 x1 x2 x3 x4 x5 x6) i

theorem dpg_at (i : S1x2048.Idx) : val_main_v196 (F := Ideal) x0 x1 x2 x3 x4 x5 x7 i = acc (hP x0 x1 x2 x3 x4 x5 x7) 9 (i 1).val := by
  rw [val_main_v196_apply, dpgC_at x0 x1 x2 x3 x4, dpgL_at, acc_split]
  exact congrArg (· + _) (Finset.sum_congr rfl fun r _ => congrArg (fun n => hP x0 x1 x2 x3 x4 x5 x7 n _) (Nat.zero_add _))

end

theorem frame : Cert.quiescent_NormPRefIdeal := fun m g _ =>
  (θ_run (NormPRefIdeal.defs (F := Ideal)) _ _).mono
    (fun r h => ⟨fun c => (h c).2.2.2.2.2.2.2, Idealize.ShloMosaic.sem_eq_zero_of_no_sems (by decide) r.2⟩)
    (NormPRefIdeal.Value.run (F := Ideal) m g)

theorem value : Cert.algebraic_NormPIdeal_NormPRefIdeal := by
  intro m g m' g' _ hag
  refine ⟨G8 m, G9 m, G10 m, G11 m, G12 m, G13 m, G14 m,
    (θ_run NormPIdeal.defs _ _).mono (fun r h c => ?_) (NormPIdeal.Value.run_blocks (F := Ideal) m g),
    (θ_run NormPRefIdeal.defs _ _).mono (fun r h c => ?_) (NormPRefIdeal.Value.run (F := Ideal) m' g')⟩
  · obtain ⟨h8, h9, h10, h11, h12, h13, h14, h⟩ := h c
    exact ⟨h8.trans (final8 m c), h9.trans (final9 m c), h10.trans (final10 m c), h11.trans (final11 m c), h12.trans (final12 m c), h13.trans (final13 m c), h14.trans (final14 m c), h⟩
  · obtain ⟨h8, h9, h10, h11, h12, h13, h14, h⟩ := h c
    have hc := hag c
    change StableHlo.launchContents m' c (Proc.tc.devRef NormPRefIdeal.main_arg0) = _
      ∧ StableHlo.launchContents m' c (Proc.tc.devRef NormPRefIdeal.main_arg1) = _
      ∧ StableHlo.launchContents m' c (Proc.tc.devRef NormPRefIdeal.main_arg2) = _
      ∧ StableHlo.launchContents m' c (Proc.tc.devRef NormPRefIdeal.main_arg3) = _
      ∧ StableHlo.launchContents m' c (Proc.tc.devRef NormPRefIdeal.main_arg4) = _
      ∧ StableHlo.launchContents m' c (Proc.tc.devRef NormPRefIdeal.main_arg5) = _
      ∧ StableHlo.launchContents m' c (Proc.tc.devRef NormPRefIdeal.main_arg6) = _
      ∧ StableHlo.launchContents m' c (Proc.tc.devRef NormPRefIdeal.main_arg7) = _ at hc
    obtain ⟨e0, e1, e2, e3, e4, e5, e6, e7⟩ := hc
    refine ⟨(h8.trans (NormPRefIdeal.Read.val_main_v189_eq _)).trans ?_, (h9.trans (NormPRefIdeal.Read.val_main_v190_eq _)).trans ?_,
      (h10.trans (NormPRefIdeal.Read.val_main_v191_eq _)).trans ?_, (h11.trans (NormPRefIdeal.Read.val_main_v192_eq _)).trans ?_,
      (h12.trans (NormPRefIdeal.Read.val_main_v194_eq _)).trans ?_, (h13.trans (NormPRefIdeal.Read.val_main_v195_eq _)).trans ?_,
      (h14.trans (NormPRefIdeal.Read.val_main_v196_eq _)).trans ?_, h⟩ <;> funext i
    · exact (dx_at _ _ _ _ _ i).trans (by rw [e0, e1, e2, e3, e4]; rfl)
    · exact (NormB.gain_at _ _ _ i).trans (by rw [e0, e1, e3]; rfl)
    · exact (NormB.shift_at _ i).trans (by rw [e1]; rfl)
    · exact (NormB.scale_at _ _ _ i).trans (by rw [e0, e1, e2]; rfl)
    · exact (dy_at _ _ _ _ _ _ _ _ i).trans (by rw [e0, e1, e2, e3, e4, e5, e6, e7]; rfl)
    · exact (dgate_at _ _ _ _ _ _ _ i).trans (by rw [e0, e1, e2, e3, e4, e5, e6]; rfl)
    · exact (dpg_at _ _ _ _ _ _ _ i).trans (by rw [e0, e1, e2, e3, e4, e5, e7]; rfl)

end Cert.Proof.NormP

end
-- ==== Proof.LbG.lean ====
/-  The gradient of the lower bounds' logits: the kernel's three rows written out against the derivative of a running sum of a softmax,
    equal where the upstream gradient is real. -/
module

public import proofs.«01_k».proof.Defs
public import proofs.«01_k».proof.Proof.Pre
public import proofs.«01_k».proof.Proof.NormGrad
public import proofs.«01_k».proof.Proof.Gen.Pre_finite_lb
public import proofs.«01_k».proof.Proof.Gen.LbGIdeal.Value
public import proofs.«01_k».proof.Proof.Gen.LbGRefIdeal.Run
public import proofs.«01_k».proof.Proof.Gen.LbGRefIdeal.Read
public import Idealize.ShloMosaic.Lib.Claim
public import Idealize.ShloMosaic.Lib.Quiescent

@[expose] public section

noncomputable section

namespace Cert.Proof.LbG

open Idealize.ShloMosaic Idealize.SL.Sem Cert.Mix
open Cert.Products (Is Is1 drop_is add_is ld_is)

/-- One column: its three exponentials, their sum, the softmax, and the kernel's row `k` of the gradient. -/
def ex (a b c x : EReal) : EReal := Ideal.exp (x - max (max a b) c)
def tot (a b c : EReal) : EReal := ex a b c a + ex a b c b + ex a b c c
def pr (a b c x : EReal) : EReal := ex a b c x * Ideal.div (Ideal.ofBits .f32 0x3F800000#32) (tot a b c)
def row (k : ℕ) (a b c d : EReal) : EReal := match k with
  | 0 => pr a b c a * pr a b c c * d
  | 1 => pr a b c b * pr a b c c * d
  | _ => (Ideal.ofBits .f32 0x00000000#32 - pr a b c c) * (pr a b c a + pr a b c b) * d

/-- The derivative of the running sum at row `k`, and the host's row `k` of the gradient. -/
def ct (d : EReal) (k : ℕ) : EReal := if k = 2 then 0 else d
def grad (k : ℕ) (a b c d x : EReal) : EReal :=
  (Ideal.div (ct d k) (tot a b c) + -(ct d 0 * Ideal.div 1 (tot a b c * tot a b c) * ex a b c a + ct d 1 * Ideal.div 1 (tot a b c * tot a b c) * ex a b c b
    + ct d 2 * Ideal.div 1 (tot a b c * tot a b c) * ex a b c c)) * ex a b c x

/-- The three exponentials are all zero (where the largest logit is infinite), or real with a sum which is not zero. -/
theorem ex_cases (a b c : EReal) : (ex a b c a = 0 ∧ ex a b c b = 0 ∧ ex a b c c = 0) ∨
    ∃ p q r : ℝ, ex a b c a = p ∧ ex a b c b = q ∧ ex a b c c = r ∧ p + q + r ≠ 0 := by
  have ha : a ≤ max (max a b) c := le_max_of_le_left (le_max_left a b)
  have hb : b ≤ max (max a b) c := le_max_of_le_left (le_max_right a b)
  have hc : c ≤ max (max a b) c := le_max_right _ c
  have hm : max (max a b) c = a ∨ max (max a b) c = b ∨ max (max a b) c = c := by
    rcases max_choice (max a b) c with h | h <;> rw [h]
    · rcases max_choice a b with h | h <;> rw [h] <;> simp
    · simp
  unfold ex
  generalize max (max a b) c = m at ha hb hc hm
  induction m with
  | bot => rw [le_bot_iff.1 ha, le_bot_iff.1 hb, le_bot_iff.1 hc]; exact .inl ⟨rfl, rfl, rfl⟩
  | top => exact .inl (by simp [sub_eq_add_neg])
  | coe m =>
    have h : ∀ x : EReal, x ≤ m → ∃ e : ℝ, 0 ≤ e ∧ Ideal.exp (x - m) = e ∧ ((m : EReal) = x → e = 1) := fun x hx => by
      induction x with
      | bot => exact ⟨0, le_rfl, by simp [sub_eq_add_neg], fun h => absurd h (EReal.coe_ne_bot m)⟩
      | top => exact absurd (top_le_iff.1 hx) (EReal.coe_ne_top m)
      | coe x => exact ⟨Real.exp (x - m), (Real.exp_pos _).le, by rw [← EReal.coe_sub, Ideal.exp_coe], fun h => by rw [EReal.coe_eq_coe_iff.1 h, sub_self, Real.exp_zero]⟩
    obtain ⟨p, hp, qp, tp⟩ := h a ha
    obtain ⟨q, hq, qq, tq⟩ := h b hb
    obtain ⟨r, hr, qr, tr⟩ := h c hc
    refine .inr ⟨p, q, r, qp, qq, qr, ?_⟩
    rcases hm with h | h | h
    · have := tp h; linarith
    · have := tq h; linarith
    · have := tr h; linarith

theorem grad_eq {k : ℕ} {a b c d x : EReal} (hd : Real d) (hx : k = 0 ∧ x = a ∨ k = 1 ∧ x = b ∨ k = 2 ∧ x = c) :
    grad k a b c d x = row k a b c d := by
  obtain ⟨q0, q1, q2⟩ | ⟨e0, e1, e2, q0, q1, q2, hs⟩ := ex_cases a b c
  · rcases hx with ⟨rfl, rfl⟩ | ⟨rfl, rfl⟩ | ⟨rfl, rfl⟩ <;> simp [grad, row, pr, q0, q1, q2]
  obtain ⟨d, rfl⟩ := hd
  have qs : tot a b c = ((e0 + e1 + e2 : ℝ) : EReal) := by unfold tot; rw [q0, q1, q2, EReal.coe_add, EReal.coe_add]
  have q3 : Ideal.div 1 (tot a b c * tot a b c) = ((((e0 + e1 + e2) * (e0 + e1 + e2))⁻¹ : ℝ) : EReal) := by
    rw [qs, ← EReal.coe_mul, show (1 : EReal) = ((1 : ℝ) : EReal) from rfl, Cert.Norm.div_coe (mul_ne_zero hs hs), one_mul]
  have q4 : ∀ y : ℝ, Ideal.div (y : EReal) (tot a b c) = ((y * (e0 + e1 + e2)⁻¹ : ℝ) : EReal) := fun y => by rw [qs, Cert.Norm.div_coe hs]
  have q5 : Ideal.div (Ideal.ofBits .f32 0x3F800000#32) (tot a b c) = (((e0 + e1 + e2)⁻¹ : ℝ) : EReal) := by
    rw [Ideal.ofBits_one_f32, show (1 : EReal) = ((1 : ℝ) : EReal) from rfl, q4, one_mul]
  rcases hx with ⟨rfl, rfl⟩ | ⟨rfl, rfl⟩ | ⟨rfl, rfl⟩ <;>
  · simp only [grad, row, pr, ct, q0, q1, q2, q3, q5, Ideal.ofBits_zero_f32, show (0 : EReal) = ((0 : ℝ) : EReal) from rfl, reduceIte, Nat.reduceEqDiff, OfNat.zero_ne_ofNat, OfNat.one_ne_ofNat]
    rw [q4]
    simp only [← EReal.coe_mul, ← EReal.coe_add, ← EReal.coe_sub, ← EReal.coe_neg]
    refine congrArg _ ?_
    field_simp
    ring

section
open Cert.LbGIdeal Cert.LbGIdeal.Gen

section
variable {A B C : Vec Ideal S1x1x512 .f32} {D : Vec Ideal S1x512 .f32} {a b c d : ℕ → EReal}
variable (hA : Is1 A fun _ => a) (hB : Is1 B fun _ => b) (hC : Is1 C fun _ => c) (hD : Is D fun _ => d)
include hA hB hC hD

theorem row_is (k : ℕ) {y : FVec Ideal S1x512 .f32} (hc)
    (hy : ∀ j, y j = row k (k0_pay2 (F := Ideal) A j) (k0_pay3 (F := Ideal) B j) (k0_pay4 (F := Ideal) C j) (D j)) :
    Is1 (shapeCast S1x1x512 y hc) fun _ q => row k (a q) (b q) (c q) (d q) := add_is (φ := .f32) (fun j => by
  have ea : k0_pay2 (F := Ideal) A j = a (j 1).val := drop_is (φ := .f32) hA _ j
  have eb : k0_pay3 (F := Ideal) B j = b (j 1).val := drop_is (φ := .f32) hB _ j
  have ec : k0_pay4 (F := Ideal) C j = c (j 1).val := drop_is (φ := .f32) hC _ j
  rw [hy, ea, eb, ec, hD j]) _

theorem row0_is : Is1 (k0_pay13 (F := Ideal) A B C D) fun _ q => row 0 (a q) (b q) (c q) (d q) := row_is hA hB hC hD 0 _ fun _ => rfl
theorem row1_is : Is1 (k0_pay14 (F := Ideal) A B C D) fun _ q => row 1 (a q) (b q) (c q) (d q) := row_is hA hB hC hD 1 _ fun _ => rfl
theorem row2_is : Is1 (k0_pay16 (F := Ideal) (k0_pay15 A B C D)) fun _ q => row 2 (a q) (b q) (c q) (d q) := row_is hA hB hC hD 2 _ fun _ => rfl

end

/-- The kernel's result. -/
def out (x : (⟨3, ![2, 3, 512]⟩ : Shape).Idx → EReal) (d : (⟨2, ![2, 512]⟩ : Shape).Idx → EReal) (s k q : ℕ) : EReal :=
  row k (at3 x s 0 q) (at3 x s 1 q) (at3 x s 2 q) (at2 d s q)

theorem ld3 (x : Vec Ideal S2x3x512 .f32) (s k : ℕ) (inb) :
    Is1 (M := 1) (N := 512) (View.ld (Val := Elt Ideal) (e' := .f32) x (Rect.unit (s := S2x3x512) ![s, k, 0] S1x1x512.size inb)) fun _ => at3 x s k := fun j => by
  have h0 : s + 1 ≤ 2 := inb 0
  have h1 : k + 1 ≤ 3 := inb 1
  have j0 : (j 0).val < 1 := (j 0).isLt
  have j1 : (j 1).val < 1 := (j 1).isLt
  exact (View.ld_unit_apply_of x _ _ inb j (ValueIdx.ix3 ⟨s, by omega⟩ ⟨k, by omega⟩ (j 2)) fun a => match a with
    | ⟨0, _⟩ => by show s = s + (j 0).val; omega
    | ⟨1, _⟩ => by show k = k + (j 1).val; omega
    | ⟨2, _⟩ => (Nat.zero_add _).symm).trans (read3 x _ rfl rfl rfl)

theorem ld2 (d : Vec Ideal S2x512 .f32) (s : ℕ) (inb) :
    Is (M := 1) (N := 512) (View.ld (Val := Elt Ideal) (e' := .f32) d (Rect.unit (s := S2x512) ![s, 0] S1x512.size inb)) fun _ => at2 d s := fun j => by
  have j0 : (j 0).val < 1 := (j 0).isLt
  exact (ld_is (e := .f32) (f := at2 d) (fun i => read2 d i rfl rfl) inb j).trans (congrArg₂ (at2 d) (by omega) (Nat.zero_add _))

theorem kernel_at (x : FVec Ideal S2x3x512 .f32) (d : FVec Ideal S2x512 .f32) (y : S2x3x512.Idx) :
    LbGIdeal.Value.G2 (F := Ideal) x d y = out x d (y 0).val (y 1).val (y 2).val := by
  refine View.canon_apply_of_pieces (Val := Elt Ideal) (e := .f32) (fun y : S2x3x512.Idx => out x d (y 0).val (y 1).val (y 2).val) _ ?_ y (cover0_2 _ _ _ _ _ _ y)
  have e : ∀ (s k : ℕ) (i : S1x1x512.Idx) (a b c : ℕ), s + 1 * (i 0).val = a → k + 1 * (i 1).val = b → 0 + 1 * (i 2).val = c →
      row k (at3 x s 0 (i 2).val) (at3 x s 1 (i 2).val) (at3 x s 2 (i 2).val) (at2 d s (i 2).val) = out x d a b c := fun s k i a b c ha hb hc => by
    have i0 : (i 0).val < 1 := (i 0).isLt
    have i1 : (i 1).val < 1 := (i 1).isLt
    rw [show a = s by omega, show b = k by omega, show c = (i 2).val by omega]
    rfl
  intro pc hpc i
  rcases List.mem_cons.mp hpc with rfl | hpc
  · exact (row2_is (ld3 x 1 0 _) (ld3 x 1 1 _) (ld3 x 1 2 _) (ld2 d 1 _) i).trans (e 1 2 i _ _ _ rfl rfl rfl)
  rcases List.mem_cons.mp hpc with rfl | hpc
  · exact (row1_is (ld3 x 1 0 _) (ld3 x 1 1 _) (ld3 x 1 2 _) (ld2 d 1 _) i).trans (e 1 1 i _ _ _ rfl rfl rfl)
  rcases List.mem_cons.mp hpc with rfl | hpc
  · exact (row0_is (ld3 x 1 0 _) (ld3 x 1 1 _) (ld3 x 1 2 _) (ld2 d 1 _) i).trans (e 1 0 i _ _ _ rfl rfl rfl)
  rcases List.mem_cons.mp hpc with rfl | hpc
  · exact (row2_is (ld3 x 0 0 _) (ld3 x 0 1 _) (ld3 x 0 2 _) (ld2 d 0 _) i).trans (e 0 2 i _ _ _ rfl rfl rfl)
  rcases List.mem_cons.mp hpc with rfl | hpc
  · exact (row1_is (ld3 x 0 0 _) (ld3 x 0 1 _) (ld3 x 0 2 _) (ld2 d 0 _) i).trans (e 0 1 i _ _ _ rfl rfl rfl)
  rcases List.mem_cons.mp hpc with rfl | hpc
  · exact (row0_is (ld3 x 0 0 _) (ld3 x 0 1 _) (ld3 x 0 2 _) (ld2 d 0 _) i).trans (e 0 0 i _ _ _ rfl rfl rfl)
  nomatch hpc

end

section
open Cert.LbGRefIdeal Cert.LbGRefIdeal.Read

variable (x : FVec Ideal S2x3x512 .f32) (d : FVec Ideal S2x512 .f32)

theorem max_at (i : S2x512.Idx) : val_main_v7 (F := Ideal) x i = max (max (at3 x (i 0).val 0 (i 1).val) (at3 x (i 0).val 1 (i 1).val)) (at3 x (i 0).val 2 (i 1).val) := by
  have hbot : Ideal.ofBits .f32 0xFF800000#32 = ⊥ := by simp [Ideal.ofBits, Ideal.ieee]
  have hr : S2x3x512.Reduces [1] S2x512 := by decide
  rw [val_main_v7_apply, val_main_v6_apply]
  unfold val_main_v0
  rw [Host.reduce_eq_fold_single FloatOps.maximumf x _ _ hr]
  show max (Ideal.ofBits .f32 0xFF800000#32) (max (x (hr.lift i (0 : Fin 3))) (max (x (hr.lift i (1 : Fin 3))) (max (x (hr.lift i (2 : Fin 3))) (Ideal.ofBits .f32 0xFF800000#32)))) = _
  rw [hbot, max_eq_right bot_le, max_eq_left (bot_le : ⊥ ≤ x (hr.lift i (2 : Fin 3))), ← max_assoc]
  exact congrArg₂ max (congrArg₂ max (read3 x _ rfl rfl rfl) (read3 x _ rfl rfl rfl)) (read3 x _ rfl rfl rfl)

abbrev E (s k q : ℕ) : EReal := ex (at3 x s 0 q) (at3 x s 1 q) (at3 x s 2 q) (at3 x s k q)
abbrev S (s q : ℕ) : EReal := tot (at3 x s 0 q) (at3 x s 1 q) (at3 x s 2 q)

theorem exp_at (i : S2x3x512.Idx) {k : ℕ} (hk : (i 1).val = k) : val_main_v20 (F := Ideal) x i = E x (i 0).val k (i 2).val := by
  rw [val_main_v20_apply, val_main_v19_apply, val_main_v18_apply, val_main_v17_apply, max_at]
  exact congrArg (fun y : EReal => Ideal.exp (y - _)) (read3 x i rfl hk rfl)

theorem sum_at (i : S2x1x512.Idx) : val_main_v22 (F := Ideal) x i = S x (i 0).val (i 2).val := by
  rw [val_main_v22_apply, val_main_v21_apply]
  refine (congrArg (fun a : EReal => a + _) Ideal.ofBits_zero_f32).trans ((zero_add _).trans ?_)
  rw [Fin.sum_univ_three, exp_at x _ (k := 0) rfl, exp_at x _ (k := 1) rfl, exp_at x _ (k := 2) rfl]
  rfl

theorem inv_at (i : S2x1x512.Idx) : val_main_v27 (F := Ideal) x i = Ideal.div 1 (S x (i 0).val (i 2).val * S x (i 0).val (i 2).val) := by
  rw [val_main_v27_apply, val_main_v26_apply, val_main_v25_apply, sum_at]
  exact congrArg (fun a : EReal => Ideal.div a _) Ideal.ofBits_one_f32

/-- A window of three rows ahead, zero past the last. -/
theorem window (y : S2x3x512.Idx → EReal) (h hu) (i : S2x3x512.Idx) :
    Host.reduceWindow (u := S_) (· + ·) ![1, 3, 1] ![1, 1, 1] ![0, 0, 0] ![0, 2, 0] y (fun _ => (0 : EReal)) h hu i
      = at3 y (i 0).val (i 1).val (i 2).val + at3 y (i 0).val ((i 1).val + 1) (i 2).val + at3 y (i 0).val ((i 1).val + 2) (i 2).val := by
  have hi := (by decide +kernel : ∀ n : Fin (⟨3, ![1, 3, 1]⟩ : Shape).numel, ((⟨3, ![1, 3, 1]⟩ : Shape).rowMajor.symm n 0).val = 0 ∧
    ((⟨3, ![1, 3, 1]⟩ : Shape).rowMajor.symm n 1).val = n.val ∧ ((⟨3, ![1, 3, 1]⟩ : Shape).rowMajor.symm n 2).val = 0)
  have e : ∀ (p : Fin 3 → ℕ) (k : ℕ) (D : Decidable (∀ a : Fin 3, (![0, 0, 0] : Fin 3 → ℕ) a ≤ p a ∧ p a - (![0, 0, 0] : Fin 3 → ℕ) a < S2x3x512.size a)), p 0 = (i 0).val → p 1 = (i 1).val + k → p 2 = (i 2).val →
      (if hin : ∀ a : Fin 3, (![0, 0, 0] : Fin 3 → ℕ) a ≤ p a ∧ p a - (![0, 0, 0] : Fin 3 → ℕ) a < S2x3x512.size a then y (fun a => ⟨p a - (![0, 0, 0] : Fin 3 → ℕ) a, (hin a).2⟩) else (0 : EReal))
        = at3 y (i 0).val ((i 1).val + k) (i 2).val := fun p k D h0 h1 h2 => by
    split
    · rename_i hin
      exact read3 y _ h0 h1 h2
    · rename_i hin
      unfold at3
      rw [dif_neg]
      rintro ⟨l0, l1, l2⟩
      refine hin fun a => ⟨?_, ?_⟩
      · match a with
        | ⟨0, _⟩ | ⟨1, _⟩ | ⟨2, _⟩ => exact Nat.zero_le _
      · match a with
        | ⟨0, _⟩ => show p 0 < 2; omega
        | ⟨1, _⟩ => show p 1 < 3; omega
        | ⟨2, _⟩ => show p 2 < 512; omega
  have hl : List.finRange (⟨3, ![1, 3, 1]⟩ : Shape).numel = [⟨0, by decide⟩, ⟨1, by decide⟩, ⟨2, by decide⟩] := by decide
  unfold Host.reduceWindow
  dsimp only
  rw [hl, List.foldl_cons, List.foldl_cons, List.foldl_cons, List.foldl_nil, zero_add]
  refine congrArg₂ (fun a b : EReal => a + b) (congrArg₂ (fun a b : EReal => a + b) (e _ 0 _ ?_ ?_ ?_) (e _ 1 _ ?_ ?_ ?_)) (e _ 2 _ ?_ ?_ ?_)
  all_goals first
    | exact congrArg₂ (fun a b : ℕ => a + b) (Nat.mul_one _) (hi _).1
    | exact congrArg₂ (fun a b : ℕ => a + b) (Nat.mul_one _) (hi _).2.1
    | exact congrArg₂ (fun a b : ℕ => a + b) (Nat.mul_one _) (hi _).2.2

theorem pad_at (s k q : ℕ) (hs : s < 2) (hq : q < 512) : at3 (val_main_v32 (F := Ideal) d) s k q = if k = 1 then at2 d s q else 0 := by
  unfold at3
  by_cases hk : k < 3
  · rw [dif_pos ⟨hs, hk, hq⟩]
    unfold val_main_v32
    split
    · subst k
      refine (pad_apply_of_inside _ _ _ _ _ _ _ _ (ValueIdx.ix3 ⟨s, hs⟩ (0 : Fin 1) ⟨q, hq⟩) fun e => ?_).trans ((val_main_v31_apply (F := Ideal) d _).trans (read2 d _ rfl rfl))
      match e with
      | ⟨0, _⟩ => show s = 0 + s * (0 + 1); omega
      | ⟨1, _⟩ => rfl
      | ⟨2, _⟩ => show q = 0 + q * (0 + 1); omega
    · refine (pad_apply_of_not_inside _ _ _ _ _ _ _ _ 1 ?_).trans Ideal.ofBits_zero_f32
      show ¬(1 ≤ k ∧ (k - 1) % (0 + 1) = 0 ∧ (k - 1) / (0 + 1) < 1)
      rw [Nat.zero_add, Nat.div_one]; omega
  · rw [dif_neg fun h => hk h.2.1, if_neg (by omega)]

theorem ct_at (i : S2x3x512.Idx) {k : ℕ} (hk : (i 1).val = k) : val_main_v33 (F := Ideal) d i = ct (at2 d (i 0).val (i 2).val) k := by
  have h1 : (i 1).val < 3 := (i 1).isLt
  unfold val_main_v33
  have hz : val_main_call1_call0_v0 (F := Ideal) (Shape.Idx.first Gen.facts.h_S_) = (0 : EReal) := (val_main_call1_call0_v0_apply _).trans Ideal.ofBits_zero_f32
  refine Eq.trans ?_ ((window (val_main_v32 (F := Ideal) d) Gen.facts.reduceWindows_S2x3x512_S2x3x512_w1s1p0_0_w3s1p0_2_w1s1p0_0 Gen.facts.h_S_ i).trans ?_)
  · unfold Host.reduceWindowAdd
    rw [Ideal.hostReduceWindowAdd_def, hz]
    rfl
  rw [pad_at d _ _ _ (i 0).isLt (i 2).isLt, pad_at d _ _ _ (i 0).isLt (i 2).isLt, pad_at d _ _ _ (i 0).isLt (i 2).isLt]
  unfold ct
  obtain rfl | rfl | rfl : k = 0 ∨ k = 1 ∨ k = 2 := by omega
  all_goals rw [hk]; simp

theorem term_at (i : S2x3x512.Idx) {k : ℕ} (hk : (i 1).val = k) : val_main_v36 (F := Ideal) x d i
    = ct (at2 d (i 0).val (i 2).val) k * Ideal.div 1 (S x (i 0).val (i 2).val * S x (i 0).val (i 2).val) * E x (i 0).val k (i 2).val := by
  rw [val_main_v36_apply, val_main_v35_apply, val_main_v34_apply, inv_at, ct_at d i hk, exp_at x i hk]
  rfl

theorem host_at (hd : ∀ i, Real (d i)) : val_main_v45 (F := Ideal) x d = LbGIdeal.Value.G2 (F := Ideal) x d := by
  funext i
  have h1 : (i 1).val < 3 := (i 1).isLt
  refine Eq.trans ?_ (kernel_at x d i).symm
  refine Eq.trans ?_ (grad_eq (x := at3 x (i 0).val (i 1).val (i 2).val) (Pre_finite.real_at2 hd _ _) (by
    obtain h | h | h : (i 1).val = 0 ∨ (i 1).val = 1 ∨ (i 1).val = 2 := by omega
    all_goals rw [h]; simp))
  have h2 : (i 2).val < 512 := (i 2).isLt
  have hj : idx_main_v38 (idx_main_v42 (idx_main_v43 i) 0) = (ValueIdx.ix2 (⟨(i 0).val, (i 0).isLt⟩ : Fin 2) (⟨(i 2).val, h2⟩ : Fin 512) : S2x512.Idx) := funext fun a => Fin.ext (by
    match a with
    | ⟨0, _⟩ => show (((i 0).val * 1 + 0) * 512 + (i 2).val) / 512 = (i 0).val; omega
    | ⟨1, _⟩ => show (((i 0).val * 1 + 0) * 512 + (i 2).val) % 512 = (i 2).val; omega)
  rw [val_main_v45_apply, val_main_v44_apply, val_main_v43_apply, val_main_v42_apply, val_main_v41_apply, val_main_v40_apply, sum_at, ct_at d i rfl, exp_at x i rfl, Fin.sum_univ_one, val_main_v39_apply,
    val_main_v38_apply, hj, val_main_v37_apply, Fin.sum_univ_three, term_at x d _ (k := 0) rfl, term_at x d _ (k := 1) rfl, term_at x d _ (k := 2) rfl]
  show (Ideal.div _ _ + (Ideal.ofBits .f32 0x00000000#32 + -(Ideal.ofBits .f32 0x00000000#32 + _))) * _ = _
  rw [Ideal.ofBits_zero_f32, zero_add, zero_add]
  rfl

theorem host_of (V0 : Valuation τ sig (Elt Ideal)) (e0 : V0 (Proc.devRef .tc main_arg0) = x) (e1 : V0 (Proc.devRef .tc main_arg1) = d) (hd : ∀ i, Real (d i)) :
    val_main_v45 (F := Ideal) (V0 (Proc.devRef .tc main_arg0)) (V0 (Proc.devRef .tc main_arg1)) = LbGIdeal.Value.G2 (F := Ideal) x d := by
  rw [e0, e1]
  exact host_at x d hd

end

theorem frame : Cert.quiescent_LbGRefIdeal := fun m g _ =>
  (θ_run (LbGRefIdeal.defs (F := Ideal)) _ _).mono
    (fun r h => ⟨fun c => (h c).2, Idealize.ShloMosaic.sem_eq_zero_of_no_sems (by decide) r.2⟩)
    (LbGRefIdeal.Value.run (F := Ideal) m g)

section
open Cert.Pre_finite_lb

/-- The precondition read: every element of the upstream gradient is a real number. -/
theorem reals (x0 : FVec Ideal S2x3x512 .f32) (x1 : FVec Ideal S2x512 .f32) (h : fn (F := Ideal) x0 x1 = fun _ => 1#1) : ∀ i, Real (x1 i) := by
  have h := congrFun h (fun k => k.elim0)
  unfold fn at h
  exact Pre_finite.all_real x1 _ _ _ _ h

end

theorem value : Cert.algebraic_LbGIdeal_LbGRefIdeal_pre_finite_lb := by
  intro m g m' g' hpre hag
  refine ⟨fun c => LbGIdeal.Value.G2 (m ((c.tc : Thread LbGIdeal.nD LbGIdeal.τ).loc LbGIdeal.main_arg0)) (m ((c.tc : Thread LbGIdeal.nD LbGIdeal.τ).loc LbGIdeal.main_arg1)),
    (θ_run LbGIdeal.defs _ _).mono (fun r h c => ?_) (LbGIdeal.Value.run (F := Ideal) m g),
    (θ_run LbGRefIdeal.defs _ _).mono (fun r h c => ?_) (LbGRefIdeal.Value.run (F := Ideal) m' g')⟩
  · exact h c
  · obtain ⟨h0, h1⟩ := h c
    exact ⟨(h0.trans (LbGRefIdeal.Read.val_main_v45_eq _ _).symm).trans (host_of _ _ (StableHlo.launchContents m' c) (hag c).1 (hag c).2 (reals _ _ (hpre c))), h1⟩

end Cert.Proof.LbG

end
-- ==== Proof.lean ====
/-  The certificate: the frames are the generated runs, the value claims are proved in Mix.lean and in a module per further call. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite_ctx
public import proofs.«01_k».proof.Proof.Gen.Pre_finite_lb
public import proofs.«01_k».proof.Proof.Mix
public import proofs.«01_k».proof.Proof.Gen.OdInDx.Frame
public import proofs.«01_k».proof.Proof.OdInDx
public import proofs.«01_k».proof.Proof.Gen.OdInDw.Frame
public import proofs.«01_k».proof.Proof.OdInDw
public import proofs.«01_k».proof.Proof.Gen.EvInDx.Frame
public import proofs.«01_k».proof.Proof.EvInDx
public import proofs.«01_k».proof.Proof.Gen.EvInDw.Frame
public import proofs.«01_k».proof.Proof.EvInDw
public import proofs.«01_k».proof.Proof.Gen.EvOutDx.Frame
public import proofs.«01_k».proof.Proof.EvOutDx
public import proofs.«01_k».proof.Proof.Gen.EvOutDw.Frame
public import proofs.«01_k».proof.Proof.EvOutDw
public import proofs.«01_k».proof.Proof.Gen.OdOutDx.Frame
public import proofs.«01_k».proof.Proof.OdOutDx
public import proofs.«01_k».proof.Proof.Gen.OdOutDw.Frame
public import proofs.«01_k».proof.Proof.OdOutDw
public import proofs.«01_k».proof.Proof.Gen.OdIn.Frame
public import proofs.«01_k».proof.Proof.OdIn
public import proofs.«01_k».proof.Proof.Gen.EvIn.Frame
public import proofs.«01_k».proof.Proof.EvIn
public import proofs.«01_k».proof.Proof.Gen.EvOut.Frame
public import proofs.«01_k».proof.Proof.EvOut
public import proofs.«01_k».proof.Proof.Gen.OdOut.Frame
public import proofs.«01_k».proof.Proof.OdOut
public import proofs.«01_k».proof.Proof.Gen.AdaBwd.Frame
public import proofs.«01_k».proof.Proof.AdaBwd
public import proofs.«01_k».proof.Proof.Gen.Ada.Frame
public import proofs.«01_k».proof.Proof.Ada
public import proofs.«01_k».proof.Proof.Gen.StepIn.Frame
public import proofs.«01_k».proof.Proof.StepIn
public import proofs.«01_k».proof.Proof.Gen.StepOut.Frame
public import proofs.«01_k».proof.Proof.StepOut
public import proofs.«01_k».proof.Proof.Gen.StepOdIn.Frame
public import proofs.«01_k».proof.Proof.StepOdIn
public import proofs.«01_k».proof.Proof.Gen.StepPool.Frame
public import proofs.«01_k».proof.Proof.StepPool
public import proofs.«01_k».proof.Proof.Gen.StepAdaB.Frame
public import proofs.«01_k».proof.Proof.StepAdaB
public import proofs.«01_k».proof.Proof.Gen.StepGain.Frame
public import proofs.«01_k».proof.Proof.StepGain
public import proofs.«01_k».proof.Proof.Gen.StepHalf.Frame
public import proofs.«01_k».proof.Proof.StepHalf
public import proofs.«01_k».proof.Proof.Gen.StepConv.Frame
public import proofs.«01_k».proof.Proof.StepConv
public import proofs.«01_k».proof.Proof.Gen.StepOnorm.Frame
public import proofs.«01_k».proof.Proof.StepOnorm
public import proofs.«01_k».proof.Proof.Gen.StepLb.Frame
public import proofs.«01_k».proof.Proof.StepLb
public import proofs.«01_k».proof.Proof.Gen.StepCtx.Frame
public import proofs.«01_k».proof.Proof.StepCtx
public import proofs.«01_k».proof.Proof.Gen.CCtx.Frame
public import proofs.«01_k».proof.Proof.CCtx
public import proofs.«01_k».proof.Proof.Gen.NormB.Frame
public import proofs.«01_k».proof.Proof.NormB
public import proofs.«01_k».proof.Proof.Gen.Loss.Frame
public import proofs.«01_k».proof.Proof.Loss
public import proofs.«01_k».proof.Proof.Gen.Post.Frame
public import proofs.«01_k».proof.Proof.Post
public import proofs.«01_k».proof.Proof.Gen.ConvF.Frame
public import proofs.«01_k».proof.Proof.ConvF
public import proofs.«01_k».proof.Proof.Gen.Small.Frame
public import proofs.«01_k».proof.Proof.Small
public import proofs.«01_k».proof.Proof.Gen.NormP.Frame
public import proofs.«01_k».proof.Proof.NormP
public import proofs.«01_k».proof.Proof.Gen.LbG.Frame
public import proofs.«01_k».proof.Proof.LbG
public import Idealize.ShloMosaic.Lib.Claim
public import Idealize.ShloMosaic.Adequacy
public import Idealize.ShloMosaic.Init

@[expose] public section

noncomputable section

namespace Cert.Proof

open Idealize.ShloMosaic

theorem claim : Cert.Claim := ⟨Cert.Kernel.Gen.facts, Cert.KernelIdeal.Gen.facts, Cert.ReferenceIdeal.Gen.facts,
  Cert.OdInDx.Gen.facts, Cert.OdInDxIdeal.Gen.facts, Cert.OdInDxRefIdeal.Gen.facts,
  Cert.OdInDw.Gen.facts, Cert.OdInDwIdeal.Gen.facts, Cert.OdInDwRefIdeal.Gen.facts,
  Cert.EvInDx.Gen.facts, Cert.EvInDxIdeal.Gen.facts, Cert.EvInDxRefIdeal.Gen.facts,
  Cert.EvInDw.Gen.facts, Cert.EvInDwIdeal.Gen.facts, Cert.EvInDwRefIdeal.Gen.facts,
  Cert.EvOutDx.Gen.facts, Cert.EvOutDxIdeal.Gen.facts, Cert.EvOutDxRefIdeal.Gen.facts,
  Cert.EvOutDw.Gen.facts, Cert.EvOutDwIdeal.Gen.facts, Cert.EvOutDwRefIdeal.Gen.facts,
  Cert.OdOutDx.Gen.facts, Cert.OdOutDxIdeal.Gen.facts, Cert.OdOutDxRefIdeal.Gen.facts,
  Cert.OdOutDw.Gen.facts, Cert.OdOutDwIdeal.Gen.facts, Cert.OdOutDwRefIdeal.Gen.facts,
  Cert.OdIn.Gen.facts, Cert.OdInIdeal.Gen.facts, Cert.OdInRefIdeal.Gen.facts,
  Cert.EvIn.Gen.facts, Cert.EvInIdeal.Gen.facts, Cert.EvInRefIdeal.Gen.facts,
  Cert.EvOut.Gen.facts, Cert.EvOutIdeal.Gen.facts, Cert.EvOutRefIdeal.Gen.facts,
  Cert.OdOut.Gen.facts, Cert.OdOutIdeal.Gen.facts, Cert.OdOutRefIdeal.Gen.facts,
  Cert.AdaBwd.Gen.facts, Cert.AdaBwdIdeal.Gen.facts, Cert.AdaBwdRefIdeal.Gen.facts,
  Cert.Ada.Gen.facts, Cert.AdaIdeal.Gen.facts, Cert.AdaRefIdeal.Gen.facts,
  Cert.StepIn.Gen.facts, Cert.StepInIdeal.Gen.facts, Cert.StepInRefIdeal.Gen.facts,
  Cert.StepOut.Gen.facts, Cert.StepOutIdeal.Gen.facts, Cert.StepOutRefIdeal.Gen.facts,
  Cert.StepOdIn.Gen.facts, Cert.StepOdInIdeal.Gen.facts, Cert.StepOdInRefIdeal.Gen.facts,
  Cert.StepPool.Gen.facts, Cert.StepPoolIdeal.Gen.facts, Cert.StepPoolRefIdeal.Gen.facts,
  Cert.StepAdaB.Gen.facts, Cert.StepAdaBIdeal.Gen.facts, Cert.StepAdaBRefIdeal.Gen.facts,
  Cert.StepGain.Gen.facts, Cert.StepGainIdeal.Gen.facts, Cert.StepGainRefIdeal.Gen.facts,
  Cert.StepHalf.Gen.facts, Cert.StepHalfIdeal.Gen.facts, Cert.StepHalfRefIdeal.Gen.facts,
  Cert.StepConv.Gen.facts, Cert.StepConvIdeal.Gen.facts, Cert.StepConvRefIdeal.Gen.facts,
  Cert.StepOnorm.Gen.facts, Cert.StepOnormIdeal.Gen.facts, Cert.StepOnormRefIdeal.Gen.facts,
  Cert.StepLb.Gen.facts, Cert.StepLbIdeal.Gen.facts, Cert.StepLbRefIdeal.Gen.facts,
  Cert.StepCtx.Gen.facts, Cert.StepCtxIdeal.Gen.facts, Cert.StepCtxRefIdeal.Gen.facts,
  Cert.CCtx.Gen.facts, Cert.CCtxIdeal.Gen.facts, Cert.CCtxRefIdeal.Gen.facts,
  Cert.NormB.Gen.facts, Cert.NormBIdeal.Gen.facts, Cert.NormBRefIdeal.Gen.facts,
  Cert.Loss.Gen.facts, Cert.LossIdeal.Gen.facts, Cert.LossRefIdeal.Gen.facts,
  Cert.Post.Gen.facts, Cert.PostIdeal.Gen.facts, Cert.PostRefIdeal.Gen.facts,
  Cert.ConvF.Gen.facts, Cert.ConvFIdeal.Gen.facts, Cert.ConvFRefIdeal.Gen.facts,
  Cert.Small.Gen.facts, Cert.SmallIdeal.Gen.facts, Cert.SmallRefIdeal.Gen.facts,
  Cert.NormP.Gen.facts, Cert.NormPIdeal.Gen.facts, Cert.NormPRefIdeal.Gen.facts,
  Cert.LbG.Gen.facts, Cert.LbGIdeal.Gen.facts, Cert.LbGRefIdeal.Gen.facts,
  Cert.Pre_finite.Gen.facts, Cert.Pre_finite_ctx.Gen.facts, Cert.Pre_finite_lb.Gen.facts,
  fun m ρ _ => Cert.Kernel.Gen.frame m ρ, fun m ρ _ => Cert.KernelIdeal.Gen.frame m ρ, fun m ρ _ => Cert.KernelIdeal.Gen.frame m ρ,
  referenceFrame, fun m ρ _ => referenceFrame m ρ trivial,
  fun m ρ _ => Cert.OdInDx.Gen.frame m ρ, fun m ρ _ => Cert.OdInDxIdeal.Gen.frame m ρ, OdInDx.frame,
  fun m ρ _ => Cert.OdInDw.Gen.frame m ρ, fun m ρ _ => Cert.OdInDwIdeal.Gen.frame m ρ, OdInDw.frame,
  fun m ρ _ => Cert.EvInDx.Gen.frame m ρ, fun m ρ _ => Cert.EvInDxIdeal.Gen.frame m ρ, EvInDx.frame,
  fun m ρ _ => Cert.EvInDw.Gen.frame m ρ, fun m ρ _ => Cert.EvInDwIdeal.Gen.frame m ρ, EvInDw.frame,
  fun m ρ _ => Cert.EvOutDx.Gen.frame m ρ, fun m ρ _ => Cert.EvOutDxIdeal.Gen.frame m ρ, EvOutDx.frame,
  fun m ρ _ => Cert.EvOutDw.Gen.frame m ρ, fun m ρ _ => Cert.EvOutDwIdeal.Gen.frame m ρ, EvOutDw.frame,
  fun m ρ _ => Cert.OdOutDx.Gen.frame m ρ, fun m ρ _ => Cert.OdOutDxIdeal.Gen.frame m ρ, OdOutDx.frame,
  fun m ρ _ => Cert.OdOutDw.Gen.frame m ρ, fun m ρ _ => Cert.OdOutDwIdeal.Gen.frame m ρ, OdOutDw.frame,
  fun m ρ _ => Cert.OdIn.Gen.frame m ρ, fun m ρ _ => Cert.OdInIdeal.Gen.frame m ρ, OdIn.frame,
  fun m ρ _ => Cert.EvIn.Gen.frame m ρ, fun m ρ _ => Cert.EvInIdeal.Gen.frame m ρ, EvIn.frame,
  fun m ρ _ => Cert.EvOut.Gen.frame m ρ, fun m ρ _ => Cert.EvOutIdeal.Gen.frame m ρ, EvOut.frame,
  fun m ρ _ => Cert.OdOut.Gen.frame m ρ, fun m ρ _ => Cert.OdOutIdeal.Gen.frame m ρ, OdOut.frame,
  fun m ρ _ => Cert.AdaBwd.Gen.frame m ρ, fun m ρ _ => Cert.AdaBwdIdeal.Gen.frame m ρ, AdaBwd.frame,
  fun m ρ _ => Cert.Ada.Gen.frame m ρ, fun m ρ _ => Cert.AdaIdeal.Gen.frame m ρ, Ada.frame,
  fun m ρ _ => Cert.StepIn.Gen.frame m ρ, fun m ρ _ => Cert.StepInIdeal.Gen.frame m ρ, StepIn.frame,
  fun m ρ _ => Cert.StepOut.Gen.frame m ρ, fun m ρ _ => Cert.StepOutIdeal.Gen.frame m ρ, StepOut.frame,
  fun m ρ _ => Cert.StepOdIn.Gen.frame m ρ, fun m ρ _ => Cert.StepOdInIdeal.Gen.frame m ρ, StepOdIn.frame,
  fun m ρ _ => Cert.StepPool.Gen.frame m ρ, fun m ρ _ => Cert.StepPoolIdeal.Gen.frame m ρ, StepPool.frame,
  fun m ρ _ => Cert.StepAdaB.Gen.frame m ρ, fun m ρ _ => Cert.StepAdaBIdeal.Gen.frame m ρ, StepAdaB.frame,
  fun m ρ _ => Cert.StepGain.Gen.frame m ρ, fun m ρ _ => Cert.StepGainIdeal.Gen.frame m ρ, StepGain.frame,
  fun m ρ _ => Cert.StepHalf.Gen.frame m ρ, fun m ρ _ => Cert.StepHalfIdeal.Gen.frame m ρ, StepHalf.frame,
  fun m ρ _ => Cert.StepConv.Gen.frame m ρ, fun m ρ _ => Cert.StepConvIdeal.Gen.frame m ρ, StepConv.frame,
  fun m ρ _ => Cert.StepOnorm.Gen.frame m ρ, fun m ρ _ => Cert.StepOnormIdeal.Gen.frame m ρ, StepOnorm.frame,
  fun m ρ _ => Cert.StepLb.Gen.frame m ρ, fun m ρ _ => Cert.StepLbIdeal.Gen.frame m ρ, StepLb.frame,
  fun m ρ _ => Cert.StepCtx.Gen.frame m ρ, fun m ρ _ => Cert.StepCtxIdeal.Gen.frame m ρ, StepCtx.frame,
  fun m ρ _ => Cert.CCtx.Gen.frame m ρ, fun m ρ _ => Cert.CCtxIdeal.Gen.frame m ρ, fun m ρ _ => Cert.CCtxIdeal.Gen.frame m ρ, CCtx.frame, fun m ρ _ => CCtx.frame m ρ trivial,
  fun m ρ _ => Cert.NormB.Gen.frame m ρ, fun m ρ _ => Cert.NormBIdeal.Gen.frame m ρ, NormB.frame,
  fun m ρ _ => Cert.Loss.Gen.frame m ρ, fun m ρ _ => Cert.LossIdeal.Gen.frame m ρ, Loss.frame,
  fun m ρ _ => Cert.Post.Gen.frame m ρ, fun m ρ _ => Cert.PostIdeal.Gen.frame m ρ, Post.frame,
  fun m ρ _ => Cert.ConvF.Gen.frame m ρ, fun m ρ _ => Cert.ConvFIdeal.Gen.frame m ρ, ConvF.frame,
  fun m ρ _ => Cert.Small.Gen.frame m ρ, fun m ρ _ => Cert.SmallIdeal.Gen.frame m ρ, Small.frame,
  fun m ρ _ => Cert.NormP.Gen.frame m ρ, fun m ρ _ => Cert.NormPIdeal.Gen.frame m ρ, NormP.frame,
  fun m ρ _ => Cert.LbG.Gen.frame m ρ, fun m ρ _ => Cert.LbGIdeal.Gen.frame m ρ, fun m ρ _ => Cert.LbGIdeal.Gen.frame m ρ, LbG.frame, fun m ρ _ => LbG.frame m ρ trivial,
  trivial, mix,
  trivial, OdInDx.value,
  trivial, OdInDw.value,
  trivial, EvInDx.value,
  trivial, EvInDw.value,
  trivial, EvOutDx.value,
  trivial, EvOutDw.value,
  trivial, OdOutDx.value,
  trivial, OdOutDw.value,
  trivial, OdIn.value,
  trivial, EvIn.value,
  trivial, EvOut.value,
  trivial, OdOut.value,
  trivial, AdaBwd.value,
  trivial, Ada.value,
  trivial, StepIn.value,
  trivial, StepOut.value,
  trivial, StepOdIn.value,
  trivial, StepPool.value,
  trivial, StepAdaB.value,
  trivial, StepGain.value,
  trivial, StepHalf.value,
  trivial, StepConv.value,
  trivial, StepOnorm.value,
  trivial, StepLb.value,
  trivial, StepCtx.value,
  trivial, CCtx.value,
  trivial, NormB.value,
  trivial, Loss.value,
  trivial, Post.value,
  trivial, ConvF.value,
  trivial, Small.value,
  trivial, NormP.value,
  trivial, LbG.value⟩

end Cert.Proof

end
